-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_on_rows_in_use [hKernelIdeal : Cert.KernelIdeal.Facts] [hReferenceIdeal : Cert.ReferenceIdeal.Facts] [hPre_routed : Cert.Pre_routed.Facts] [hOn_rows_in_use : Cert.On_rows_in_use.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![49152, 768]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![49152, 768]⟩ : Shape).Idx, (Cert.On_rows_in_use.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v61) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed : Cert.Pre_routed.Facts) (hOn_rows_in_use : Cert.On_rows_in_use.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_on_rows_in_use (hKernelIdeal := hKernelIdeal) (hReferenceIdeal := hReferenceIdeal) (hPre_routed := hPre_routed) (hOn_rows_in_use := hOn_rows_in_use)
-- ==== On_rows_in_use.lean ====
abbrev S49152 : Shape := ⟨1, ![49152]⟩
abbrev S8x256 : Shape := ⟨2, ![8, 256]⟩
abbrev S32768x128 : Shape := ⟨2, ![32768, 128]⟩
abbrev S64x1024x1536 : Shape := ⟨3, ![64, 1024, 1536]⟩
abbrev S64x16x1536 : Shape := ⟨3, ![64, 16, 1536]⟩
abbrev S49152x768 : Shape := ⟨2, ![49152, 768]⟩
abbrev S1x1 : Shape := ⟨2, ![1, 1]⟩
abbrev S_ : Shape := ⟨0, ![]⟩

class Facts : Prop where
  slices_S8x256_S1x1_1_0 : S8x256.Slices ![1, 0] S1x1
  shapeCasts_S1x1_S_ : S1x1.ShapeCasts S_
  bcast_S_S49152x768 : S_.BroadcastsInDim S49152x768 (![] : Fin 0 → Fin S49152x768.rank)

variable [Facts]

def fn {F : FTy → Type} [FloatOps F] (main_arg0 : IVec S49152 32) (main_arg1 : IVec S8x256 32) (main_arg2 : IVec S32768x128 32) (main_arg3 : IVec S64x1024x1536 8) (main_arg4 : FVec F S64x16x1536 .f32) : IVec S49152x768 1 :=
  let main_v0 : IVec S49152x768 32 := iotaInDim S49152x768 32 0
  let main_v1 : IVec S1x1 32 := (extractStridedSlice S1x1 ![1, 0] · slices_S8x256_S1x1_1_0) main_arg1
  let main_v2 : IVec S_ 32 := shapeCast S_ main_v1 shapeCasts_S1x1_S_
  let main_c : IVec S_ 32 := constantI S_ 32 256#32
  let main_v3 : IVec S_ 32 := muli main_v2 main_c
  let main_v4 : IVec S49152x768 32 := broadcastInDim S49152x768 ![] bcast_S_S49152x768 main_v3
  let main_v5 : IVec S49152x768 1 := cmpi .slt main_v0 main_v4
  main_v5
-- ==== Pre_routed.lean ====
abbrev S49152 : Shape := ⟨1, ![49152]⟩
abbrev S8x256 : Shape := ⟨2, ![8, 256]⟩
abbrev S32768x128 : Shape := ⟨2, ![32768, 128]⟩
abbrev S64x1024x1536 : Shape := ⟨3, ![64, 1024, 1536]⟩
abbrev S64x16x1536 : Shape := ⟨3, ![64, 16, 1536]⟩
abbrev S1x1 : Shape := ⟨2, ![1, 1]⟩
abbrev S_ : Shape := ⟨0, ![]⟩
abbrev S1x192 : Shape := ⟨2, ![1, 192]⟩
abbrev S192 : Shape := ⟨1, ![192]⟩

class Facts : Prop where
  slices_S8x256_S1x1_1_0 : S8x256.Slices ![1, 0] S1x1
  shapeCasts_S1x1_S_ : S1x1.ShapeCasts S_
  slices_S8x256_S1x192_0_0 : S8x256.Slices ![0, 0] S1x192
  shapeCasts_S1x192_S192 : S1x192.ShapeCasts S192
  bcast_S_S192 : S_.BroadcastsInDim S192 (![] : Fin 0 → Fin S192.rank)
  bcast_S_S49152 : S_.BroadcastsInDim S49152 (![] : Fin 0 → Fin S49152.rank)

variable [Facts]

def fn_part1 {F : FTy → Type} [FloatOps F] (main_v7 : IVec S_ 1) (main_v12 : IVec S192 1) (main_v15 : IVec S49152 1) (main_v17 : IVec S49152 1) : IVec S_ 1 × IVec S192 1 × IVec S49152 1 :=
  let main_v18 : IVec S49152 1 := ori main_v15 main_v17
  (main_v7, main_v12, main_v18)

def fn {F : FTy → Type} [FloatOps F] (main_arg0 : IVec S49152 32) (main_arg1 : IVec S8x256 32) (main_arg2 : IVec S32768x128 32) (main_arg3 : IVec S64x1024x1536 8) (main_arg4 : FVec F S64x16x1536 .f32) : IVec S_ 1 × IVec S192 1 × IVec S49152 1 :=
  let main_v0 : IVec S49152 32 := iotaInDim S49152 32 0
  let main_v1 : IVec S1x1 32 := (extractStridedSlice S1x1 ![1, 0] · slices_S8x256_S1x1_1_0) main_arg1
  let main_v2 : IVec S_ 32 := shapeCast S_ main_v1 shapeCasts_S1x1_S_
  let main_v3 : IVec S1x192 32 := (extractStridedSlice S1x192 ![0, 0] · slices_S8x256_S1x192_0_0) main_arg1
  let main_v4 : IVec S192 32 := shapeCast S192 main_v3 shapeCasts_S1x192_S192
  let main_c : IVec S_ 32 := constantI S_ 32 1#32
  let main_v5 : IVec S_ 1 := cmpi .sge main_v2 main_c
  let main_c_0 : IVec S_ 32 := constantI S_ 32 192#32
  let main_v6 : IVec S_ 1 := cmpi .sle main_v2 main_c_0
  let main_v7 : IVec S_ 1 := andi main_v5 main_v6
  let main_c_1 : IVec S_ 32 := constantI S_ 32 0#32
  let main_v8 : IVec S192 32 := broadcastInDim S192 ![] bcast_S_S192 main_c_1
  let main_v9 : IVec S192 1 := cmpi .sge main_v4 main_v8
  let main_c_2 : IVec S_ 32 := constantI S_ 32 64#32
  let main_v10 : IVec S192 32 := broadcastInDim S192 ![] bcast_S_S192 main_c_2
  let main_v11 : IVec S192 1 := cmpi .slt main_v4 main_v10
  let main_v12 : IVec S192 1 := andi main_v9 main_v11
  let main_c_3 : IVec S_ 32 := constantI S_ 32 256#32
  let main_v13 : IVec S_ 32 := muli main_v2 main_c_3
  let main_v14 : IVec S49152 32 := broadcastInDim S49152 ![] bcast_S_S49152 main_v13
  let main_v15 : IVec S49152 1 := cmpi .sge main_v0 main_v14
  let main_c_4 : IVec S_ 32 := constantI S_ 32 0#32
  let main_v16 : IVec S49152 32 := broadcastInDim S49152 ![] bcast_S_S49152 main_c_4
  let main_v17 : IVec S49152 1 := cmpi .sge main_arg0 main_v16
  fn_part1 (F := F) main_v7 main_v12 main_v15 main_v17
-- ==== Kernel.lean ====
abbrev S49152 : Shape := ⟨1, ![49152]⟩
abbrev S8x256 : Shape := ⟨2, ![8, 256]⟩
abbrev S32768x128 : Shape := ⟨2, ![32768, 128]⟩
abbrev S64x1024x1536 : Shape := ⟨3, ![64, 1024, 1536]⟩
abbrev S64x16x1536 : Shape := ⟨3, ![64, 16, 1536]⟩
abbrev S49152x768 : Shape := ⟨2, ![49152, 768]⟩
abbrev S1x1024x1536 : Shape := ⟨3, ![1, 1024, 1536]⟩
abbrev S1x1 : Shape := ⟨2, ![1, 1]⟩
abbrev S1x16x1536 : Shape := ⟨3, ![1, 16, 1536]⟩
abbrev S256x768 : Shape := ⟨2, ![256, 768]⟩
abbrev S2056x128 : Shape := ⟨2, ![2056, 128]⟩
abbrev S256x2048 : Shape := ⟨2, ![256, 2048]⟩
abbrev S1 : Shape := ⟨1, ![1]⟩
abbrev S8x128 : Shape := ⟨2, ![8, 128]⟩
abbrev S256x128 : Shape := ⟨2, ![256, 128]⟩
abbrev S1x1024x256 : Shape := ⟨3, ![1, 1024, 256]⟩
abbrev S1024x256 : Shape := ⟨2, ![1024, 256]⟩
abbrev S1x16x256 : Shape := ⟨3, ![1, 16, 256]⟩
abbrev S16x256 : Shape := ⟨2, ![16, 256]⟩
abbrev S1024x1x256 : Shape := ⟨3, ![1024, 1, 256]⟩
abbrev S1024x2x256 : Shape := ⟨3, ![1024, 2, 256]⟩
abbrev S2048x256 : Shape := ⟨2, ![2048, 256]⟩
abbrev S16x128x256 : Shape := ⟨3, ![16, 128, 256]⟩
abbrev S16x1x256 : Shape := ⟨3, ![16, 1, 256]⟩
abbrev S256x256 : Shape := ⟨2, ![256, 256]⟩

abbrev nBuf : Space → Nat
  | .hbm => 4
  | .vmem => 9
  | .smem => 2
  | _ => 0

abbrev bufTy : (tb : Table) → Fin (tcTables nBuf tb) → BufTy
  | .hbm, ⟨0, _⟩ => ⟨S32768x128, .i32⟩
  | .hbm, ⟨1, _⟩ => ⟨S64x1024x1536, .i8⟩
  | .hbm, ⟨2, _⟩ => ⟨S64x16x1536, .f32⟩
  | .hbm, ⟨3, _⟩ => ⟨S49152x768, .bf16⟩
  | .local _ .vmem, ⟨0, _⟩ => ⟨S32768x128, .i32⟩
  | .local _ .vmem, ⟨1, _⟩ => ⟨S1x1024x1536, .i8⟩
  | .local _ .vmem, ⟨2, _⟩ => ⟨S1x1024x1536, .i8⟩
  | .local _ .vmem, ⟨3, _⟩ => ⟨S1x16x1536, .f32⟩
  | .local _ .vmem, ⟨4, _⟩ => ⟨S1x16x1536, .f32⟩
  | .local _ .vmem, ⟨5, _⟩ => ⟨S256x768, .bf16⟩
  | .local _ .vmem, ⟨6, _⟩ => ⟨S256x768, .bf16⟩
  | .local _ .vmem, ⟨7, _⟩ => ⟨S2056x128, .i32⟩
  | .local _ .vmem, ⟨8, _⟩ => ⟨S256x2048, .bf16⟩
  | .local _ .smem, ⟨0, _⟩ => ⟨S49152, .i32⟩
  | .local _ .smem, ⟨1, _⟩ => ⟨S8x256, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![192], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 (v7 : BitVec 32) : Fin 2 → Nat :=
  let c3_i32 : BitVec 32 := 3#32
  let v8 : BitVec 32 := Scalar.shrsi v7 c3_i32
  let c4095_i32 : BitVec 32 := 4095#32
  let v9 : BitVec 32 := Scalar.minsi v8 c4095_i32
  let c8_i32 : BitVec 32 := 8#32
  let v10 : BitVec 32 := Scalar.muli v9 c8_i32
  let v11 : Index := Scalar.indexCast v10
  let c0_3 : Index := 0#32
  ![v11.toNat, 0]

def k0_chk1 (i : grid0.Coords) (v7 : BitVec 32) : Prop :=
  (∀ (k0_h1 : k0_cond1 i = 1#1), ∀ a, (k0_off2 v7) a + S8x128.size a ≤ S32768x128.size a)
theorem k0_off2_inb : ∀ (i : grid0.Coords) (v7 : BitVec 32) (k0_hw1 : k0_chk1 i v7), ∀ (k0_h1 : k0_cond1 i = 1#1), ∀ a, (k0_off2 v7) a + S8x128.size a ≤ S32768x128.size a := fun i v7 k0_hw1 k0_h1 => k0_hw1 k0_h1

def k0_off3 (v16 : BitVec 32) : Fin 2 → Nat :=
  let c3_i32_7 : BitVec 32 := 3#32
  let v17 : BitVec 32 := Scalar.shrsi v16 c3_i32_7
  let c4095_i32_8 : BitVec 32 := 4095#32
  let v18 : BitVec 32 := Scalar.minsi v17 c4095_i32_8
  let c8_i32_9 : BitVec 32 := 8#32
  let v19 : BitVec 32 := Scalar.muli v18 c8_i32_9
  let v20 : Index := Scalar.indexCast v19
  let c0_10 : Index := 0#32
  ![v20.toNat, 0]

def k0_chk2 (i : grid0.Coords) (v16 : BitVec 32) : Prop :=
  (∀ (k0_h1 : k0_cond1 i = 1#1), ∀ a, (k0_off3 v16) a + S8x128.size a ≤ S32768x128.size a)
theorem k0_off3_inb : ∀ (i : grid0.Coords) (v16 : BitVec 32) (k0_hw2 : k0_chk2 i v16), ∀ (k0_h1 : k0_cond1 i = 1#1), ∀ a, (k0_off3 v16) a + S8x128.size a ≤ S32768x128.size a := fun i v16 k0_hw2 k0_h1 => k0_hw2 k0_h1

def k0_off4 (v25 : BitVec 32) : Fin 2 → Nat :=
  let c3_i32_13 : BitVec 32 := 3#32
  let v26 : BitVec 32 := Scalar.shrsi v25 c3_i32_13
  let c4095_i32_14 : BitVec 32 := 4095#32
  let v27 : BitVec 32 := Scalar.minsi v26 c4095_i32_14
  let c8_i32_15 : BitVec 32 := 8#32
  let v28 : BitVec 32 := Scalar.muli v27 c8_i32_15
  let v29 : Index := Scalar.indexCast v28
  let c0_16 : Index := 0#32
  ![v29.toNat, 0]

def k0_chk3 (i : grid0.Coords) (v25 : BitVec 32) : Prop :=
  (∀ (k0_h1 : k0_cond1 i = 1#1), ∀ a, (k0_off4 v25) a + S8x128.size a ≤ S32768x128.size a)
theorem k0_off4_inb : ∀ (i : grid0.Coords) (v25 : BitVec 32) (k0_hw3 : k0_chk3 i v25), ∀ (k0_h1 : k0_cond1 i = 1#1), ∀ a, (k0_off4 v25) a + S8x128.size a ≤ S32768x128.size a := fun i v25 k0_hw3 k0_h1 => k0_hw3 k0_h1

def k0_off5 (v34 : BitVec 32) : Fin 2 → Nat :=
  let c3_i32_19 : BitVec 32 := 3#32
  let v35 : BitVec 32 := Scalar.shrsi v34 c3_i32_19
  let c4095_i32_20 : BitVec 32 := 4095#32
  let v36 : BitVec 32 := Scalar.minsi v35 c4095_i32_20
  let c8_i32_21 : BitVec 32 := 8#32
  let v37 : BitVec 32 := Scalar.muli v36 c8_i32_21
  let v38 : Index := Scalar.indexCast v37
  let c0_22 : Index := 0#32
  ![v38.toNat, 0]

def k0_chk4 (i : grid0.Coords) (v34 : BitVec 32) : Prop :=
  (∀ (k0_h1 : k0_cond1 i = 1#1), ∀ a, (k0_off5 v34) a + S8x128.size a ≤ S32768x128.size a)
theorem k0_off5_inb : ∀ (i : grid0.Coords) (v34 : BitVec 32) (k0_hw4 : k0_chk4 i v34), ∀ (k0_h1 : k0_cond1 i = 1#1), ∀ a, (k0_off5 v34) a + S8x128.size a ≤ S32768x128.size a := fun i v34 k0_hw4 k0_h1 => k0_hw4 k0_h1

def k0_off6 (v43 : BitVec 32) : Fin 2 → Nat :=
  let c3_i32_25 : BitVec 32 := 3#32
  let v44 : BitVec 32 := Scalar.shrsi v43 c3_i32_25
  let c4095_i32_26 : BitVec 32 := 4095#32
  let v45 : BitVec 32 := Scalar.minsi v44 c4095_i32_26
  let c8_i32_27 : BitVec 32 := 8#32
  let v46 : BitVec 32 := Scalar.muli v45 c8_i32_27
  let v47 : Index := Scalar.indexCast v46
  let c0_28 : Index := 0#32
  ![v47.toNat, 0]

def k0_chk5 (i : grid0.Coords) (v43 : BitVec 32) : Prop :=
  (∀ (k0_h1 : k0_cond1 i = 1#1), ∀ a, (k0_off6 v43) a + S8x128.size a ≤ S32768x128.size a)
theorem k0_off6_inb : ∀ (i : grid0.Coords) (v43 : BitVec 32) (k0_hw5 : k0_chk5 i v43), ∀ (k0_h1 : k0_cond1 i = 1#1), ∀ a, (k0_off6 v43) a + S8x128.size a ≤ S32768x128.size a := fun i v43 k0_hw5 k0_h1 => k0_hw5 k0_h1

def k0_off7 (v52 : BitVec 32) : Fin 2 → Nat :=
  let c3_i32_31 : BitVec 32 := 3#32
  let v53 : BitVec 32 := Scalar.shrsi v52 c3_i32_31
  let c4095_i32_32 : BitVec 32 := 4095#32
  let v54 : BitVec 32 := Scalar.minsi v53 c4095_i32_32
  let c8_i32_33 : BitVec 32 := 8#32
  let v55 : BitVec 32 := Scalar.muli v54 c8_i32_33
  let v56 : Index := Scalar.indexCast v55
  let c0_34 : Index := 0#32
  ![v56.toNat, 0]

def k0_chk6 (i : grid0.Coords) (v52 : BitVec 32) : Prop :=
  (∀ (k0_h1 : k0_cond1 i = 1#1), ∀ a, (k0_off7 v52) a + S8x128.size a ≤ S32768x128.size a)
theorem k0_off7_inb : ∀ (i : grid0.Coords) (v52 : BitVec 32) (k0_hw6 : k0_chk6 i v52), ∀ (k0_h1 : k0_cond1 i = 1#1), ∀ a, (k0_off7 v52) a + S8x128.size a ≤ S32768x128.size a := fun i v52 k0_hw6 k0_h1 => k0_hw6 k0_h1

def k0_off8 (v61 : BitVec 32) : Fin 2 → Nat :=
  let c3_i32_37 : BitVec 32 := 3#32
  let v62 : BitVec 32 := Scalar.shrsi v61 c3_i32_37
  let c4095_i32_38 : BitVec 32 := 4095#32
  let v63 : BitVec 32 := Scalar.minsi v62 c4095_i32_38
  let c8_i32_39 : BitVec 32 := 8#32
  let v64 : BitVec 32 := Scalar.muli v63 c8_i32_39
  let v65 : Index := Scalar.indexCast v64
  let c0_40 : Index := 0#32
  ![v65.toNat, 0]

def k0_chk7 (i : grid0.Coords) (v61 : BitVec 32) : Prop :=
  (∀ (k0_h1 : k0_cond1 i = 1#1), ∀ a, (k0_off8 v61) a + S8x128.size a ≤ S32768x128.size a)
theorem k0_off8_inb : ∀ (i : grid0.Coords) (v61 : BitVec 32) (k0_hw7 : k0_chk7 i v61), ∀ (k0_h1 : k0_cond1 i = 1#1), ∀ a, (k0_off8 v61) a + S8x128.size a ≤ S32768x128.size a := fun i v61 k0_hw7 k0_h1 => k0_hw7 k0_h1

def k0_off9 (v70 : BitVec 32) : Fin 2 → Nat :=
  let c3_i32_43 : BitVec 32 := 3#32
  let v71 : BitVec 32 := Scalar.shrsi v70 c3_i32_43
  let c4095_i32_44 : BitVec 32 := 4095#32
  let v72 : BitVec 32 := Scalar.minsi v71 c4095_i32_44
  let c8_i32_45 : BitVec 32 := 8#32
  let v73 : BitVec 32 := Scalar.muli v72 c8_i32_45
  let v74 : Index := Scalar.indexCast v73
  let c0_46 : Index := 0#32
  ![v74.toNat, 0]

def k0_chk8 (i : grid0.Coords) (v70 : BitVec 32) : Prop :=
  (∀ (k0_h1 : k0_cond1 i = 1#1), ∀ a, (k0_off9 v70) a + S8x128.size a ≤ S32768x128.size a)
theorem k0_off9_inb : ∀ (i : grid0.Coords) (v70 : BitVec 32) (k0_hw8 : k0_chk8 i v70), ∀ (k0_h1 : k0_cond1 i = 1#1), ∀ a, (k0_off9 v70) a + S8x128.size a ≤ S32768x128.size a := fun i v70 k0_hw8 k0_h1 => k0_hw8 k0_h1

def k0_off10 (v79 : BitVec 32) : Fin 2 → Nat :=
  let c3_i32_49 : BitVec 32 := 3#32
  let v80 : BitVec 32 := Scalar.shrsi v79 c3_i32_49
  let c4095_i32_50 : BitVec 32 := 4095#32
  let v81 : BitVec 32 := Scalar.minsi v80 c4095_i32_50
  let c8_i32_51 : BitVec 32 := 8#32
  let v82 : BitVec 32 := Scalar.muli v81 c8_i32_51
  let v83 : Index := Scalar.indexCast v82
  let c0_52 : Index := 0#32
  ![v83.toNat, 0]

def k0_chk9 (i : grid0.Coords) (v79 : BitVec 32) : Prop :=
  (∀ (k0_h1 : k0_cond1 i = 1#1), ∀ a, (k0_off10 v79) a + S8x128.size a ≤ S32768x128.size a)
theorem k0_off10_inb : ∀ (i : grid0.Coords) (v79 : BitVec 32) (k0_hw9 : k0_chk9 i v79), ∀ (k0_h1 : k0_cond1 i = 1#1), ∀ a, (k0_off10 v79) a + S8x128.size a ≤ S32768x128.size a := fun i v79 k0_hw9 k0_h1 => k0_hw9 k0_h1

def k0_off11 (v88 : BitVec 32) : Fin 2 → Nat :=
  let c3_i32_55 : BitVec 32 := 3#32
  let v89 : BitVec 32 := Scalar.shrsi v88 c3_i32_55
  let c4095_i32_56 : BitVec 32 := 4095#32
  let v90 : BitVec 32 := Scalar.minsi v89 c4095_i32_56
  let c8_i32_57 : BitVec 32 := 8#32
  let v91 : BitVec 32 := Scalar.muli v90 c8_i32_57
  let v92 : Index := Scalar.indexCast v91
  let c0_58 : Index := 0#32
  ![v92.toNat, 0]

def k0_chk10 (i : grid0.Coords) (v88 : BitVec 32) : Prop :=
  (∀ (k0_h1 : k0_cond1 i = 1#1), ∀ a, (k0_off11 v88) a + S8x128.size a ≤ S32768x128.size a)
theorem k0_off11_inb : ∀ (i : grid0.Coords) (v88 : BitVec 32) (k0_hw10 : k0_chk10 i v88), ∀ (k0_h1 : k0_cond1 i = 1#1), ∀ a, (k0_off11 v88) a + S8x128.size a ≤ S32768x128.size a := fun i v88 k0_hw10 k0_h1 => k0_hw10 k0_h1

def k0_off12 (v97 : BitVec 32) : Fin 2 → Nat :=
  let c3_i32_61 : BitVec 32 := 3#32
  let v98 : BitVec 32 := Scalar.shrsi v97 c3_i32_61
  let c4095_i32_62 : BitVec 32 := 4095#32
  let v99 : BitVec 32 := Scalar.minsi v98 c4095_i32_62
  let c8_i32_63 : BitVec 32 := 8#32
  let v100 : BitVec 32 := Scalar.muli v99 c8_i32_63
  let v101 : Index := Scalar.indexCast v100
  let c0_64 : Index := 0#32
  ![v101.toNat, 0]

def k0_chk11 (i : grid0.Coords) (v97 : BitVec 32) : Prop :=
  (∀ (k0_h1 : k0_cond1 i = 1#1), ∀ a, (k0_off12 v97) a + S8x128.size a ≤ S32768x128.size a)
theorem k0_off12_inb : ∀ (i : grid0.Coords) (v97 : BitVec 32) (k0_hw11 : k0_chk11 i v97), ∀ (k0_h1 : k0_cond1 i = 1#1), ∀ a, (k0_off12 v97) a + S8x128.size a ≤ S32768x128.size a := fun i v97 k0_hw11 k0_h1 => k0_hw11 k0_h1

def k0_off13 (v106 : BitVec 32) : Fin 2 → Nat :=
  let c3_i32_67 : BitVec 32 := 3#32
  let v107 : BitVec 32 := Scalar.shrsi v106 c3_i32_67
  let c4095_i32_68 : BitVec 32 := 4095#32
  let v108 : BitVec 32 := Scalar.minsi v107 c4095_i32_68
  let c8_i32_69 : BitVec 32 := 8#32
  let v109 : BitVec 32 := Scalar.muli v108 c8_i32_69
  let v110 : Index := Scalar.indexCast v109
  let c0_70 : Index := 0#32
  ![v110.toNat, 0]

def k0_chk12 (i : grid0.Coords) (v106 : BitVec 32) : Prop :=
  (∀ (k0_h1 : k0_cond1 i = 1#1), ∀ a, (k0_off13 v106) a + S8x128.size a ≤ S32768x128.size a)
theorem k0_off13_inb : ∀ (i : grid0.Coords) (v106 : BitVec 32) (k0_hw12 : k0_chk12 i v106), ∀ (k0_h1 : k0_cond1 i = 1#1), ∀ a, (k0_off13 v106) a + S8x128.size a ≤ S32768x128.size a := fun i v106 k0_hw12 k0_h1 => k0_hw12 k0_h1

def k0_off14 (v115 : BitVec 32) : Fin 2 → Nat :=
  let c3_i32_73 : BitVec 32 := 3#32
  let v116 : BitVec 32 := Scalar.shrsi v115 c3_i32_73
  let c4095_i32_74 : BitVec 32 := 4095#32
  let v117 : BitVec 32 := Scalar.minsi v116 c4095_i32_74
  let c8_i32_75 : BitVec 32 := 8#32
  let v118 : BitVec 32 := Scalar.muli v117 c8_i32_75
  let v119 : Index := Scalar.indexCast v118
  let c0_76 : Index := 0#32
  ![v119.toNat, 0]

def k0_chk13 (i : grid0.Coords) (v115 : BitVec 32) : Prop :=
  (∀ (k0_h1 : k0_cond1 i = 1#1), ∀ a, (k0_off14 v115) a + S8x128.size a ≤ S32768x128.size a)
theorem k0_off14_inb : ∀ (i : grid0.Coords) (v115 : BitVec 32) (k0_hw13 : k0_chk13 i v115), ∀ (k0_h1 : k0_cond1 i = 1#1), ∀ a, (k0_off14 v115) a + S8x128.size a ≤ S32768x128.size a := fun i v115 k0_hw13 k0_h1 => k0_hw13 k0_h1

def k0_off15 (v124 : BitVec 32) : Fin 2 → Nat :=
  let c3_i32_79 : BitVec 32 := 3#32
  let v125 : BitVec 32 := Scalar.shrsi v124 c3_i32_79
  let c4095_i32_80 : BitVec 32 := 4095#32
  let v126 : BitVec 32 := Scalar.minsi v125 c4095_i32_80
  let c8_i32_81 : BitVec 32 := 8#32
  let v127 : BitVec 32 := Scalar.muli v126 c8_i32_81
  let v128 : Index := Scalar.indexCast v127
  let c0_82 : Index := 0#32
  ![v128.toNat, 0]

def k0_chk14 (i : grid0.Coords) (v124 : BitVec 32) : Prop :=
  (∀ (k0_h1 : k0_cond1 i = 1#1), ∀ a, (k0_off15 v124) a + S8x128.size a ≤ S32768x128.size a)
theorem k0_off15_inb : ∀ (i : grid0.Coords) (v124 : BitVec 32) (k0_hw14 : k0_chk14 i v124), ∀ (k0_h1 : k0_cond1 i = 1#1), ∀ a, (k0_off15 v124) a + S8x128.size a ≤ S32768x128.size a := fun i v124 k0_hw14 k0_h1 => k0_hw14 k0_h1

def k0_off16 (v133 : BitVec 32) : Fin 2 → Nat :=
  let c3_i32_85 : BitVec 32 := 3#32
  let v134 : BitVec 32 := Scalar.shrsi v133 c3_i32_85
  let c4095_i32_86 : BitVec 32 := 4095#32
  let v135 : BitVec 32 := Scalar.minsi v134 c4095_i32_86
  let c8_i32_87 : BitVec 32 := 8#32
  let v136 : BitVec 32 := Scalar.muli v135 c8_i32_87
  let v137 : Index := Scalar.indexCast v136
  let c0_88 : Index := 0#32
  ![v137.toNat, 0]

def k0_chk15 (i : grid0.Coords) (v133 : BitVec 32) : Prop :=
  (∀ (k0_h1 : k0_cond1 i = 1#1), ∀ a, (k0_off16 v133) a + S8x128.size a ≤ S32768x128.size a)
theorem k0_off16_inb : ∀ (i : grid0.Coords) (v133 : BitVec 32) (k0_hw15 : k0_chk15 i v133), ∀ (k0_h1 : k0_cond1 i = 1#1), ∀ a, (k0_off16 v133) a + S8x128.size a ≤ S32768x128.size a := fun i v133 k0_hw15 k0_h1 => k0_hw15 k0_h1

def k0_off17 (v142 : BitVec 32) : Fin 2 → Nat :=
  let c3_i32_91 : BitVec 32 := 3#32
  let v143 : BitVec 32 := Scalar.shrsi v142 c3_i32_91
  let c4095_i32_92 : BitVec 32 := 4095#32
  let v144 : BitVec 32 := Scalar.minsi v143 c4095_i32_92
  let c8_i32_93 : BitVec 32 := 8#32
  let v145 : BitVec 32 := Scalar.muli v144 c8_i32_93
  let v146 : Index := Scalar.indexCast v145
  let c0_94 : Index := 0#32
  ![v146.toNat, 0]

def k0_chk16 (i : grid0.Coords) (v142 : BitVec 32) : Prop :=
  (∀ (k0_h1 : k0_cond1 i = 1#1), ∀ a, (k0_off17 v142) a + S8x128.size a ≤ S32768x128.size a)
theorem k0_off17_inb : ∀ (i : grid0.Coords) (v142 : BitVec 32) (k0_hw16 : k0_chk16 i v142), ∀ (k0_h1 : k0_cond1 i = 1#1), ∀ a, (k0_off17 v142) a + S8x128.size a ≤ S32768x128.size a := fun i v142 k0_hw16 k0_h1 => k0_hw16 k0_h1

def k0_off18 (v151 : BitVec 32) : Fin 2 → Nat :=
  let c3_i32_97 : BitVec 32 := 3#32
  let v152 : BitVec 32 := Scalar.shrsi v151 c3_i32_97
  let c4095_i32_98 : BitVec 32 := 4095#32
  let v153 : BitVec 32 := Scalar.minsi v152 c4095_i32_98
  let c8_i32_99 : BitVec 32 := 8#32
  let v154 : BitVec 32 := Scalar.muli v153 c8_i32_99
  let v155 : Index := Scalar.indexCast v154
  let c0_100 : Index := 0#32
  ![v155.toNat, 0]

def k0_chk17 (i : grid0.Coords) (v151 : BitVec 32) : Prop :=
  (∀ (k0_h1 : k0_cond1 i = 1#1), ∀ a, (k0_off18 v151) a + S8x128.size a ≤ S32768x128.size a)
theorem k0_off18_inb : ∀ (i : grid0.Coords) (v151 : BitVec 32) (k0_hw17 : k0_chk17 i v151), ∀ (k0_h1 : k0_cond1 i = 1#1), ∀ a, (k0_off18 v151) a + S8x128.size a ≤ S32768x128.size a := fun i v151 k0_hw17 k0_h1 => k0_hw17 k0_h1

def k0_off19 (v160 : BitVec 32) : Fin 2 → Nat :=
  let c3_i32_103 : BitVec 32 := 3#32
  let v161 : BitVec 32 := Scalar.shrsi v160 c3_i32_103
  let c4095_i32_104 : BitVec 32 := 4095#32
  let v162 : BitVec 32 := Scalar.minsi v161 c4095_i32_104
  let c8_i32_105 : BitVec 32 := 8#32
  let v163 : BitVec 32 := Scalar.muli v162 c8_i32_105
  let v164 : Index := Scalar.indexCast v163
  let c0_106 : Index := 0#32
  ![v164.toNat, 0]

def k0_chk18 (i : grid0.Coords) (v160 : BitVec 32) : Prop :=
  (∀ (k0_h1 : k0_cond1 i = 1#1), ∀ a, (k0_off19 v160) a + S8x128.size a ≤ S32768x128.size a)
theorem k0_off19_inb : ∀ (i : grid0.Coords) (v160 : BitVec 32) (k0_hw18 : k0_chk18 i v160), ∀ (k0_h1 : k0_cond1 i = 1#1), ∀ a, (k0_off19 v160) a + S8x128.size a ≤ S32768x128.size a := fun i v160 k0_hw18 k0_h1 => k0_hw18 k0_h1

def k0_off20 (v169 : BitVec 32) : Fin 2 → Nat :=
  let c3_i32_109 : BitVec 32 := 3#32
  let v170 : BitVec 32 := Scalar.shrsi v169 c3_i32_109
  let c4095_i32_110 : BitVec 32 := 4095#32
  let v171 : BitVec 32 := Scalar.minsi v170 c4095_i32_110
  let c8_i32_111 : BitVec 32 := 8#32
  let v172 : BitVec 32 := Scalar.muli v171 c8_i32_111
  let v173 : Index := Scalar.indexCast v172
  let c0_112 : Index := 0#32
  ![v173.toNat, 0]

def k0_chk19 (i : grid0.Coords) (v169 : BitVec 32) : Prop :=
  (∀ (k0_h1 : k0_cond1 i = 1#1), ∀ a, (k0_off20 v169) a + S8x128.size a ≤ S32768x128.size a)
theorem k0_off20_inb : ∀ (i : grid0.Coords) (v169 : BitVec 32) (k0_hw19 : k0_chk19 i v169), ∀ (k0_h1 : k0_cond1 i = 1#1), ∀ a, (k0_off20 v169) a + S8x128.size a ≤ S32768x128.size a := fun i v169 k0_hw19 k0_h1 => k0_hw19 k0_h1

def k0_off21 (v178 : BitVec 32) : Fin 2 → Nat :=
  let c3_i32_115 : BitVec 32 := 3#32
  let v179 : BitVec 32 := Scalar.shrsi v178 c3_i32_115
  let c4095_i32_116 : BitVec 32 := 4095#32
  let v180 : BitVec 32 := Scalar.minsi v179 c4095_i32_116
  let c8_i32_117 : BitVec 32 := 8#32
  let v181 : BitVec 32 := Scalar.muli v180 c8_i32_117
  let v182 : Index := Scalar.indexCast v181
  let c0_118 : Index := 0#32
  ![v182.toNat, 0]

def k0_chk20 (i : grid0.Coords) (v178 : BitVec 32) : Prop :=
  (∀ (k0_h1 : k0_cond1 i = 1#1), ∀ a, (k0_off21 v178) a + S8x128.size a ≤ S32768x128.size a)
theorem k0_off21_inb : ∀ (i : grid0.Coords) (v178 : BitVec 32) (k0_hw20 : k0_chk20 i v178), ∀ (k0_h1 : k0_cond1 i = 1#1), ∀ a, (k0_off21 v178) a + S8x128.size a ≤ S32768x128.size a := fun i v178 k0_hw20 k0_h1 => k0_hw20 k0_h1

def k0_off22 (v187 : BitVec 32) : Fin 2 → Nat :=
  let c3_i32_121 : BitVec 32 := 3#32
  let v188 : BitVec 32 := Scalar.shrsi v187 c3_i32_121
  let c4095_i32_122 : BitVec 32 := 4095#32
  let v189 : BitVec 32 := Scalar.minsi v188 c4095_i32_122
  let c8_i32_123 : BitVec 32 := 8#32
  let v190 : BitVec 32 := Scalar.muli v189 c8_i32_123
  let v191 : Index := Scalar.indexCast v190
  let c0_124 : Index := 0#32
  ![v191.toNat, 0]

def k0_chk21 (i : grid0.Coords) (v187 : BitVec 32) : Prop :=
  (∀ (k0_h1 : k0_cond1 i = 1#1), ∀ a, (k0_off22 v187) a + S8x128.size a ≤ S32768x128.size a)
theorem k0_off22_inb : ∀ (i : grid0.Coords) (v187 : BitVec 32) (k0_hw21 : k0_chk21 i v187), ∀ (k0_h1 : k0_cond1 i = 1#1), ∀ a, (k0_off22 v187) a + S8x128.size a ≤ S32768x128.size a := fun i v187 k0_hw21 k0_h1 => k0_hw21 k0_h1

def k0_off23 (v196 : BitVec 32) : Fin 2 → Nat :=
  let c3_i32_127 : BitVec 32 := 3#32
  let v197 : BitVec 32 := Scalar.shrsi v196 c3_i32_127
  let c4095_i32_128 : BitVec 32 := 4095#32
  let v198 : BitVec 32 := Scalar.minsi v197 c4095_i32_128
  let c8_i32_129 : BitVec 32 := 8#32
  let v199 : BitVec 32 := Scalar.muli v198 c8_i32_129
  let v200 : Index := Scalar.indexCast v199
  let c0_130 : Index := 0#32
  ![v200.toNat, 0]

def k0_chk22 (i : grid0.Coords) (v196 : BitVec 32) : Prop :=
  (∀ (k0_h1 : k0_cond1 i = 1#1), ∀ a, (k0_off23 v196) a + S8x128.size a ≤ S32768x128.size a)
theorem k0_off23_inb : ∀ (i : grid0.Coords) (v196 : BitVec 32) (k0_hw22 : k0_chk22 i v196), ∀ (k0_h1 : k0_cond1 i = 1#1), ∀ a, (k0_off23 v196) a + S8x128.size a ≤ S32768x128.size a := fun i v196 k0_hw22 k0_h1 => k0_hw22 k0_h1

def k0_off24 (v205 : BitVec 32) : Fin 2 → Nat :=
  let c3_i32_133 : BitVec 32 := 3#32
  let v206 : BitVec 32 := Scalar.shrsi v205 c3_i32_133
  let c4095_i32_134 : BitVec 32 := 4095#32
  let v207 : BitVec 32 := Scalar.minsi v206 c4095_i32_134
  let c8_i32_135 : BitVec 32 := 8#32
  let v208 : BitVec 32 := Scalar.muli v207 c8_i32_135
  let v209 : Index := Scalar.indexCast v208
  let c0_136 : Index := 0#32
  ![v209.toNat, 0]

def k0_chk23 (i : grid0.Coords) (v205 : BitVec 32) : Prop :=
  (∀ (k0_h1 : k0_cond1 i = 1#1), ∀ a, (k0_off24 v205) a + S8x128.size a ≤ S32768x128.size a)
theorem k0_off24_inb : ∀ (i : grid0.Coords) (v205 : BitVec 32) (k0_hw23 : k0_chk23 i v205), ∀ (k0_h1 : k0_cond1 i = 1#1), ∀ a, (k0_off24 v205) a + S8x128.size a ≤ S32768x128.size a := fun i v205 k0_hw23 k0_h1 => k0_hw23 k0_h1

def k0_off25 (v214 : BitVec 32) : Fin 2 → Nat :=
  let c3_i32_139 : BitVec 32 := 3#32
  let v215 : BitVec 32 := Scalar.shrsi v214 c3_i32_139
  let c4095_i32_140 : BitVec 32 := 4095#32
  let v216 : BitVec 32 := Scalar.minsi v215 c4095_i32_140
  let c8_i32_141 : BitVec 32 := 8#32
  let v217 : BitVec 32 := Scalar.muli v216 c8_i32_141
  let v218 : Index := Scalar.indexCast v217
  let c0_142 : Index := 0#32
  ![v218.toNat, 0]

def k0_chk24 (i : grid0.Coords) (v214 : BitVec 32) : Prop :=
  (∀ (k0_h1 : k0_cond1 i = 1#1), ∀ a, (k0_off25 v214) a + S8x128.size a ≤ S32768x128.size a)
theorem k0_off25_inb : ∀ (i : grid0.Coords) (v214 : BitVec 32) (k0_hw24 : k0_chk24 i v214), ∀ (k0_h1 : k0_cond1 i = 1#1), ∀ a, (k0_off25 v214) a + S8x128.size a ≤ S32768x128.size a := fun i v214 k0_hw24 k0_h1 => k0_hw24 k0_h1

def k0_off26 (v223 : BitVec 32) : Fin 2 → Nat :=
  let c3_i32_145 : BitVec 32 := 3#32
  let v224 : BitVec 32 := Scalar.shrsi v223 c3_i32_145
  let c4095_i32_146 : BitVec 32 := 4095#32
  let v225 : BitVec 32 := Scalar.minsi v224 c4095_i32_146
  let c8_i32_147 : BitVec 32 := 8#32
  let v226 : BitVec 32 := Scalar.muli v225 c8_i32_147
  let v227 : Index := Scalar.indexCast v226
  let c0_148 : Index := 0#32
  ![v227.toNat, 0]

def k0_chk25 (i : grid0.Coords) (v223 : BitVec 32) : Prop :=
  (∀ (k0_h1 : k0_cond1 i = 1#1), ∀ a, (k0_off26 v223) a + S8x128.size a ≤ S32768x128.size a)
theorem k0_off26_inb : ∀ (i : grid0.Coords) (v223 : BitVec 32) (k0_hw25 : k0_chk25 i v223), ∀ (k0_h1 : k0_cond1 i = 1#1), ∀ a, (k0_off26 v223) a + S8x128.size a ≤ S32768x128.size a := fun i v223 k0_hw25 k0_h1 => k0_hw25 k0_h1

def k0_off27 (v232 : BitVec 32) : Fin 2 → Nat :=
  let c3_i32_151 : BitVec 32 := 3#32
  let v233 : BitVec 32 := Scalar.shrsi v232 c3_i32_151
  let c4095_i32_152 : BitVec 32 := 4095#32
  let v234 : BitVec 32 := Scalar.minsi v233 c4095_i32_152
  let c8_i32_153 : BitVec 32 := 8#32
  let v235 : BitVec 32 := Scalar.muli v234 c8_i32_153
  let v236 : Index := Scalar.indexCast v235
  let c0_154 : Index := 0#32
  ![v236.toNat, 0]

def k0_chk26 (i : grid0.Coords) (v232 : BitVec 32) : Prop :=
  (∀ (k0_h1 : k0_cond1 i = 1#1), ∀ a, (k0_off27 v232) a + S8x128.size a ≤ S32768x128.size a)
theorem k0_off27_inb : ∀ (i : grid0.Coords) (v232 : BitVec 32) (k0_hw26 : k0_chk26 i v232), ∀ (k0_h1 : k0_cond1 i = 1#1), ∀ a, (k0_off27 v232) a + S8x128.size a ≤ S32768x128.size a := fun i v232 k0_hw26 k0_h1 => k0_hw26 k0_h1

def k0_off28 (v241 : BitVec 32) : Fin 2 → Nat :=
  let c3_i32_157 : BitVec 32 := 3#32
  let v242 : BitVec 32 := Scalar.shrsi v241 c3_i32_157
  let c4095_i32_158 : BitVec 32 := 4095#32
  let v243 : BitVec 32 := Scalar.minsi v242 c4095_i32_158
  let c8_i32_159 : BitVec 32 := 8#32
  let v244 : BitVec 32 := Scalar.muli v243 c8_i32_159
  let v245 : Index := Scalar.indexCast v244
  let c0_160 : Index := 0#32
  ![v245.toNat, 0]

def k0_chk27 (i : grid0.Coords) (v241 : BitVec 32) : Prop :=
  (∀ (k0_h1 : k0_cond1 i = 1#1), ∀ a, (k0_off28 v241) a + S8x128.size a ≤ S32768x128.size a)
theorem k0_off28_inb : ∀ (i : grid0.Coords) (v241 : BitVec 32) (k0_hw27 : k0_chk27 i v241), ∀ (k0_h1 : k0_cond1 i = 1#1), ∀ a, (k0_off28 v241) a + S8x128.size a ≤ S32768x128.size a := fun i v241 k0_hw27 k0_h1 => k0_hw27 k0_h1

def k0_off29 (v250 : BitVec 32) : Fin 2 → Nat :=
  let c3_i32_163 : BitVec 32 := 3#32
  let v251 : BitVec 32 := Scalar.shrsi v250 c3_i32_163
  let c4095_i32_164 : BitVec 32 := 4095#32
  let v252 : BitVec 32 := Scalar.minsi v251 c4095_i32_164
  let c8_i32_165 : BitVec 32 := 8#32
  let v253 : BitVec 32 := Scalar.muli v252 c8_i32_165
  let v254 : Index := Scalar.indexCast v253
  let c0_166 : Index := 0#32
  ![v254.toNat, 0]

def k0_chk28 (i : grid0.Coords) (v250 : BitVec 32) : Prop :=
  (∀ (k0_h1 : k0_cond1 i = 1#1), ∀ a, (k0_off29 v250) a + S8x128.size a ≤ S32768x128.size a)
theorem k0_off29_inb : ∀ (i : grid0.Coords) (v250 : BitVec 32) (k0_hw28 : k0_chk28 i v250), ∀ (k0_h1 : k0_cond1 i = 1#1), ∀ a, (k0_off29 v250) a + S8x128.size a ≤ S32768x128.size a := fun i v250 k0_hw28 k0_h1 => k0_hw28 k0_h1

def k0_off30 (v259 : BitVec 32) : Fin 2 → Nat :=
  let c3_i32_169 : BitVec 32 := 3#32
  let v260 : BitVec 32 := Scalar.shrsi v259 c3_i32_169
  let c4095_i32_170 : BitVec 32 := 4095#32
  let v261 : BitVec 32 := Scalar.minsi v260 c4095_i32_170
  let c8_i32_171 : BitVec 32 := 8#32
  let v262 : BitVec 32 := Scalar.muli v261 c8_i32_171
  let v263 : Index := Scalar.indexCast v262
  let c0_172 : Index := 0#32
  ![v263.toNat, 0]

def k0_chk29 (i : grid0.Coords) (v259 : BitVec 32) : Prop :=
  (∀ (k0_h1 : k0_cond1 i = 1#1), ∀ a, (k0_off30 v259) a + S8x128.size a ≤ S32768x128.size a)
theorem k0_off30_inb : ∀ (i : grid0.Coords) (v259 : BitVec 32) (k0_hw29 : k0_chk29 i v259), ∀ (k0_h1 : k0_cond1 i = 1#1), ∀ a, (k0_off30 v259) a + S8x128.size a ≤ S32768x128.size a := fun i v259 k0_hw29 k0_h1 => k0_hw29 k0_h1

def k0_off31 (v268 : BitVec 32) : Fin 2 → Nat :=
  let c3_i32_175 : BitVec 32 := 3#32
  let v269 : BitVec 32 := Scalar.shrsi v268 c3_i32_175
  let c4095_i32_176 : BitVec 32 := 4095#32
  let v270 : BitVec 32 := Scalar.minsi v269 c4095_i32_176
  let c8_i32_177 : BitVec 32 := 8#32
  let v271 : BitVec 32 := Scalar.muli v270 c8_i32_177
  let v272 : Index := Scalar.indexCast v271
  let c0_178 : Index := 0#32
  ![v272.toNat, 0]

def k0_chk30 (i : grid0.Coords) (v268 : BitVec 32) : Prop :=
  (∀ (k0_h1 : k0_cond1 i = 1#1), ∀ a, (k0_off31 v268) a + S8x128.size a ≤ S32768x128.size a)
theorem k0_off31_inb : ∀ (i : grid0.Coords) (v268 : BitVec 32) (k0_hw30 : k0_chk30 i v268), ∀ (k0_h1 : k0_cond1 i = 1#1), ∀ a, (k0_off31 v268) a + S8x128.size a ≤ S32768x128.size a := fun i v268 k0_hw30 k0_h1 => k0_hw30 k0_h1

def k0_off32 (v277 : BitVec 32) : Fin 2 → Nat :=
  let c3_i32_181 : BitVec 32 := 3#32
  let v278 : BitVec 32 := Scalar.shrsi v277 c3_i32_181
  let c4095_i32_182 : BitVec 32 := 4095#32
  let v279 : BitVec 32 := Scalar.minsi v278 c4095_i32_182
  let c8_i32_183 : BitVec 32 := 8#32
  let v280 : BitVec 32 := Scalar.muli v279 c8_i32_183
  let v281 : Index := Scalar.indexCast v280
  let c0_184 : Index := 0#32
  ![v281.toNat, 0]

def k0_chk31 (i : grid0.Coords) (v277 : BitVec 32) : Prop :=
  (∀ (k0_h1 : k0_cond1 i = 1#1), ∀ a, (k0_off32 v277) a + S8x128.size a ≤ S32768x128.size a)
theorem k0_off32_inb : ∀ (i : grid0.Coords) (v277 : BitVec 32) (k0_hw31 : k0_chk31 i v277), ∀ (k0_h1 : k0_cond1 i = 1#1), ∀ a, (k0_off32 v277) a + S8x128.size a ≤ S32768x128.size a := fun i v277 k0_hw31 k0_h1 => k0_hw31 k0_h1

def k0_off33 (v286 : BitVec 32) : Fin 2 → Nat :=
  let c3_i32_187 : BitVec 32 := 3#32
  let v287 : BitVec 32 := Scalar.shrsi v286 c3_i32_187
  let c4095_i32_188 : BitVec 32 := 4095#32
  let v288 : BitVec 32 := Scalar.minsi v287 c4095_i32_188
  let c8_i32_189 : BitVec 32 := 8#32
  let v289 : BitVec 32 := Scalar.muli v288 c8_i32_189
  let v290 : Index := Scalar.indexCast v289
  let c0_190 : Index := 0#32
  ![v290.toNat, 0]

def k0_chk32 (i : grid0.Coords) (v286 : BitVec 32) : Prop :=
  (∀ (k0_h1 : k0_cond1 i = 1#1), ∀ a, (k0_off33 v286) a + S8x128.size a ≤ S32768x128.size a)
theorem k0_off33_inb : ∀ (i : grid0.Coords) (v286 : BitVec 32) (k0_hw32 : k0_chk32 i v286), ∀ (k0_h1 : k0_cond1 i = 1#1), ∀ a, (k0_off33 v286) a + S8x128.size a ≤ S32768x128.size a := fun i v286 k0_hw32 k0_h1 => k0_hw32 k0_h1

def k0_off34 (v295 : BitVec 32) : Fin 2 → Nat :=
  let c3_i32_193 : BitVec 32 := 3#32
  let v296 : BitVec 32 := Scalar.shrsi v295 c3_i32_193
  let c4095_i32_194 : BitVec 32 := 4095#32
  let v297 : BitVec 32 := Scalar.minsi v296 c4095_i32_194
  let c8_i32_195 : BitVec 32 := 8#32
  let v298 : BitVec 32 := Scalar.muli v297 c8_i32_195
  let v299 : Index := Scalar.indexCast v298
  let c0_196 : Index := 0#32
  ![v299.toNat, 0]

def k0_chk33 (i : grid0.Coords) (v295 : BitVec 32) : Prop :=
  (∀ (k0_h1 : k0_cond1 i = 1#1), ∀ a, (k0_off34 v295) a + S8x128.size a ≤ S32768x128.size a)
theorem k0_off34_inb : ∀ (i : grid0.Coords) (v295 : BitVec 32) (k0_hw33 : k0_chk33 i v295), ∀ (k0_h1 : k0_cond1 i = 1#1), ∀ a, (k0_off34 v295) a + S8x128.size a ≤ S32768x128.size a := fun i v295 k0_hw33 k0_h1 => k0_hw33 k0_h1

def k0_off35 (v304 : BitVec 32) : Fin 2 → Nat :=
  let c3_i32_199 : BitVec 32 := 3#32
  let v305 : BitVec 32 := Scalar.shrsi v304 c3_i32_199
  let c4095_i32_200 : BitVec 32 := 4095#32
  let v306 : BitVec 32 := Scalar.minsi v305 c4095_i32_200
  let c8_i32_201 : BitVec 32 := 8#32
  let v307 : BitVec 32 := Scalar.muli v306 c8_i32_201
  let v308 : Index := Scalar.indexCast v307
  let c0_202 : Index := 0#32
  ![v308.toNat, 0]

def k0_chk34 (i : grid0.Coords) (v304 : BitVec 32) : Prop :=
  (∀ (k0_h1 : k0_cond1 i = 1#1), ∀ a, (k0_off35 v304) a + S8x128.size a ≤ S32768x128.size a)
theorem k0_off35_inb : ∀ (i : grid0.Coords) (v304 : BitVec 32) (k0_hw34 : k0_chk34 i v304), ∀ (k0_h1 : k0_cond1 i = 1#1), ∀ a, (k0_off35 v304) a + S8x128.size a ≤ S32768x128.size a := fun i v304 k0_hw34 k0_h1 => k0_hw34 k0_h1

def k0_off36 (v313 : BitVec 32) : Fin 2 → Nat :=
  let c3_i32_205 : BitVec 32 := 3#32
  let v314 : BitVec 32 := Scalar.shrsi v313 c3_i32_205
  let c4095_i32_206 : BitVec 32 := 4095#32
  let v315 : BitVec 32 := Scalar.minsi v314 c4095_i32_206
  let c8_i32_207 : BitVec 32 := 8#32
  let v316 : BitVec 32 := Scalar.muli v315 c8_i32_207
  let v317 : Index := Scalar.indexCast v316
  let c0_208 : Index := 0#32
  ![v317.toNat, 0]

def k0_chk35 (i : grid0.Coords) (v313 : BitVec 32) : Prop :=
  (∀ (k0_h1 : k0_cond1 i = 1#1), ∀ a, (k0_off36 v313) a + S8x128.size a ≤ S32768x128.size a)
theorem k0_off36_inb : ∀ (i : grid0.Coords) (v313 : BitVec 32) (k0_hw35 : k0_chk35 i v313), ∀ (k0_h1 : k0_cond1 i = 1#1), ∀ a, (k0_off36 v313) a + S8x128.size a ≤ S32768x128.size a := fun i v313 k0_hw35 k0_h1 => k0_hw35 k0_h1

def k0_off37 (v322 : BitVec 32) : Fin 2 → Nat :=
  let c3_i32_211 : BitVec 32 := 3#32
  let v323 : BitVec 32 := Scalar.shrsi v322 c3_i32_211
  let c4095_i32_212 : BitVec 32 := 4095#32
  let v324 : BitVec 32 := Scalar.minsi v323 c4095_i32_212
  let c8_i32_213 : BitVec 32 := 8#32
  let v325 : BitVec 32 := Scalar.muli v324 c8_i32_213
  let v326 : Index := Scalar.indexCast v325
  let c0_214 : Index := 0#32
  ![v326.toNat, 0]

def k0_chk36 (i : grid0.Coords) (v322 : BitVec 32) : Prop :=
  (∀ (k0_h1 : k0_cond1 i = 1#1), ∀ a, (k0_off37 v322) a + S8x128.size a ≤ S32768x128.size a)
theorem k0_off37_inb : ∀ (i : grid0.Coords) (v322 : BitVec 32) (k0_hw36 : k0_chk36 i v322), ∀ (k0_h1 : k0_cond1 i = 1#1), ∀ a, (k0_off37 v322) a + S8x128.size a ≤ S32768x128.size a := fun i v322 k0_hw36 k0_h1 => k0_hw36 k0_h1

def k0_off38 (v331 : BitVec 32) : Fin 2 → Nat :=
  let c3_i32_217 : BitVec 32 := 3#32
  let v332 : BitVec 32 := Scalar.shrsi v331 c3_i32_217
  let c4095_i32_218 : BitVec 32 := 4095#32
  let v333 : BitVec 32 := Scalar.minsi v332 c4095_i32_218
  let c8_i32_219 : BitVec 32 := 8#32
  let v334 : BitVec 32 := Scalar.muli v333 c8_i32_219
  let v335 : Index := Scalar.indexCast v334
  let c0_220 : Index := 0#32
  ![v335.toNat, 0]

def k0_chk37 (i : grid0.Coords) (v331 : BitVec 32) : Prop :=
  (∀ (k0_h1 : k0_cond1 i = 1#1), ∀ a, (k0_off38 v331) a + S8x128.size a ≤ S32768x128.size a)
theorem k0_off38_inb : ∀ (i : grid0.Coords) (v331 : BitVec 32) (k0_hw37 : k0_chk37 i v331), ∀ (k0_h1 : k0_cond1 i = 1#1), ∀ a, (k0_off38 v331) a + S8x128.size a ≤ S32768x128.size a := fun i v331 k0_hw37 k0_h1 => k0_hw37 k0_h1

def k0_off39 (v340 : BitVec 32) : Fin 2 → Nat :=
  let c3_i32_223 : BitVec 32 := 3#32
  let v341 : BitVec 32 := Scalar.shrsi v340 c3_i32_223
  let c4095_i32_224 : BitVec 32 := 4095#32
  let v342 : BitVec 32 := Scalar.minsi v341 c4095_i32_224
  let c8_i32_225 : BitVec 32 := 8#32
  let v343 : BitVec 32 := Scalar.muli v342 c8_i32_225
  let v344 : Index := Scalar.indexCast v343
  let c0_226 : Index := 0#32
  ![v344.toNat, 0]

def k0_chk38 (i : grid0.Coords) (v340 : BitVec 32) : Prop :=
  (∀ (k0_h1 : k0_cond1 i = 1#1), ∀ a, (k0_off39 v340) a + S8x128.size a ≤ S32768x128.size a)
theorem k0_off39_inb : ∀ (i : grid0.Coords) (v340 : BitVec 32) (k0_hw38 : k0_chk38 i v340), ∀ (k0_h1 : k0_cond1 i = 1#1), ∀ a, (k0_off39 v340) a + S8x128.size a ≤ S32768x128.size a := fun i v340 k0_hw38 k0_h1 => k0_hw38 k0_h1

def k0_off40 (v349 : BitVec 32) : Fin 2 → Nat :=
  let c3_i32_229 : BitVec 32 := 3#32
  let v350 : BitVec 32 := Scalar.shrsi v349 c3_i32_229
  let c4095_i32_230 : BitVec 32 := 4095#32
  let v351 : BitVec 32 := Scalar.minsi v350 c4095_i32_230
  let c8_i32_231 : BitVec 32 := 8#32
  let v352 : BitVec 32 := Scalar.muli v351 c8_i32_231
  let v353 : Index := Scalar.indexCast v352
  let c0_232 : Index := 0#32
  ![v353.toNat, 0]

def k0_chk39 (i : grid0.Coords) (v349 : BitVec 32) : Prop :=
  (∀ (k0_h1 : k0_cond1 i = 1#1), ∀ a, (k0_off40 v349) a + S8x128.size a ≤ S32768x128.size a)
theorem k0_off40_inb : ∀ (i : grid0.Coords) (v349 : BitVec 32) (k0_hw39 : k0_chk39 i v349), ∀ (k0_h1 : k0_cond1 i = 1#1), ∀ a, (k0_off40 v349) a + S8x128.size a ≤ S32768x128.size a := fun i v349 k0_hw39 k0_h1 => k0_hw39 k0_h1

def k0_off41 (v358 : BitVec 32) : Fin 2 → Nat :=
  let c3_i32_235 : BitVec 32 := 3#32
  let v359 : BitVec 32 := Scalar.shrsi v358 c3_i32_235
  let c4095_i32_236 : BitVec 32 := 4095#32
  let v360 : BitVec 32 := Scalar.minsi v359 c4095_i32_236
  let c8_i32_237 : BitVec 32 := 8#32
  let v361 : BitVec 32 := Scalar.muli v360 c8_i32_237
  let v362 : Index := Scalar.indexCast v361
  let c0_238 : Index := 0#32
  ![v362.toNat, 0]

def k0_chk40 (i : grid0.Coords) (v358 : BitVec 32) : Prop :=
  (∀ (k0_h1 : k0_cond1 i = 1#1), ∀ a, (k0_off41 v358) a + S8x128.size a ≤ S32768x128.size a)
theorem k0_off41_inb : ∀ (i : grid0.Coords) (v358 : BitVec 32) (k0_hw40 : k0_chk40 i v358), ∀ (k0_h1 : k0_cond1 i = 1#1), ∀ a, (k0_off41 v358) a + S8x128.size a ≤ S32768x128.size a := fun i v358 k0_hw40 k0_h1 => k0_hw40 k0_h1

def k0_off42 (v367 : BitVec 32) : Fin 2 → Nat :=
  let c3_i32_241 : BitVec 32 := 3#32
  let v368 : BitVec 32 := Scalar.shrsi v367 c3_i32_241
  let c4095_i32_242 : BitVec 32 := 4095#32
  let v369 : BitVec 32 := Scalar.minsi v368 c4095_i32_242
  let c8_i32_243 : BitVec 32 := 8#32
  let v370 : BitVec 32 := Scalar.muli v369 c8_i32_243
  let v371 : Index := Scalar.indexCast v370
  let c0_244 : Index := 0#32
  ![v371.toNat, 0]

def k0_chk41 (i : grid0.Coords) (v367 : BitVec 32) : Prop :=
  (∀ (k0_h1 : k0_cond1 i = 1#1), ∀ a, (k0_off42 v367) a + S8x128.size a ≤ S32768x128.size a)
theorem k0_off42_inb : ∀ (i : grid0.Coords) (v367 : BitVec 32) (k0_hw41 : k0_chk41 i v367), ∀ (k0_h1 : k0_cond1 i = 1#1), ∀ a, (k0_off42 v367) a + S8x128.size a ≤ S32768x128.size a := fun i v367 k0_hw41 k0_h1 => k0_hw41 k0_h1

def k0_off43 (v376 : BitVec 32) : Fin 2 → Nat :=
  let c3_i32_247 : BitVec 32 := 3#32
  let v377 : BitVec 32 := Scalar.shrsi v376 c3_i32_247
  let c4095_i32_248 : BitVec 32 := 4095#32
  let v378 : BitVec 32 := Scalar.minsi v377 c4095_i32_248
  let c8_i32_249 : BitVec 32 := 8#32
  let v379 : BitVec 32 := Scalar.muli v378 c8_i32_249
  let v380 : Index := Scalar.indexCast v379
  let c0_250 : Index := 0#32
  ![v380.toNat, 0]

def k0_chk42 (i : grid0.Coords) (v376 : BitVec 32) : Prop :=
  (∀ (k0_h1 : k0_cond1 i = 1#1), ∀ a, (k0_off43 v376) a + S8x128.size a ≤ S32768x128.size a)
theorem k0_off43_inb : ∀ (i : grid0.Coords) (v376 : BitVec 32) (k0_hw42 : k0_chk42 i v376), ∀ (k0_h1 : k0_cond1 i = 1#1), ∀ a, (k0_off43 v376) a + S8x128.size a ≤ S32768x128.size a := fun i v376 k0_hw42 k0_h1 => k0_hw42 k0_h1

def k0_off44 (v385 : BitVec 32) : Fin 2 → Nat :=
  let c3_i32_253 : BitVec 32 := 3#32
  let v386 : BitVec 32 := Scalar.shrsi v385 c3_i32_253
  let c4095_i32_254 : BitVec 32 := 4095#32
  let v387 : BitVec 32 := Scalar.minsi v386 c4095_i32_254
  let c8_i32_255 : BitVec 32 := 8#32
  let v388 : BitVec 32 := Scalar.muli v387 c8_i32_255
  let v389 : Index := Scalar.indexCast v388
  let c0_256 : Index := 0#32
  ![v389.toNat, 0]

def k0_chk43 (i : grid0.Coords) (v385 : BitVec 32) : Prop :=
  (∀ (k0_h1 : k0_cond1 i = 1#1), ∀ a, (k0_off44 v385) a + S8x128.size a ≤ S32768x128.size a)
theorem k0_off44_inb : ∀ (i : grid0.Coords) (v385 : BitVec 32) (k0_hw43 : k0_chk43 i v385), ∀ (k0_h1 : k0_cond1 i = 1#1), ∀ a, (k0_off44 v385) a + S8x128.size a ≤ S32768x128.size a := fun i v385 k0_hw43 k0_h1 => k0_hw43 k0_h1

def k0_off45 (v394 : BitVec 32) : Fin 2 → Nat :=
  let c3_i32_259 : BitVec 32 := 3#32
  let v395 : BitVec 32 := Scalar.shrsi v394 c3_i32_259
  let c4095_i32_260 : BitVec 32 := 4095#32
  let v396 : BitVec 32 := Scalar.minsi v395 c4095_i32_260
  let c8_i32_261 : BitVec 32 := 8#32
  let v397 : BitVec 32 := Scalar.muli v396 c8_i32_261
  let v398 : Index := Scalar.indexCast v397
  let c0_262 : Index := 0#32
  ![v398.toNat, 0]

def k0_chk44 (i : grid0.Coords) (v394 : BitVec 32) : Prop :=
  (∀ (k0_h1 : k0_cond1 i = 1#1), ∀ a, (k0_off45 v394) a + S8x128.size a ≤ S32768x128.size a)
theorem k0_off45_inb : ∀ (i : grid0.Coords) (v394 : BitVec 32) (k0_hw44 : k0_chk44 i v394), ∀ (k0_h1 : k0_cond1 i = 1#1), ∀ a, (k0_off45 v394) a + S8x128.size a ≤ S32768x128.size a := fun i v394 k0_hw44 k0_h1 => k0_hw44 k0_h1

def k0_off46 (v403 : BitVec 32) : Fin 2 → Nat :=
  let c3_i32_265 : BitVec 32 := 3#32
  let v404 : BitVec 32 := Scalar.shrsi v403 c3_i32_265
  let c4095_i32_266 : BitVec 32 := 4095#32
  let v405 : BitVec 32 := Scalar.minsi v404 c4095_i32_266
  let c8_i32_267 : BitVec 32 := 8#32
  let v406 : BitVec 32 := Scalar.muli v405 c8_i32_267
  let v407 : Index := Scalar.indexCast v406
  let c0_268 : Index := 0#32
  ![v407.toNat, 0]

def k0_chk45 (i : grid0.Coords) (v403 : BitVec 32) : Prop :=
  (∀ (k0_h1 : k0_cond1 i = 1#1), ∀ a, (k0_off46 v403) a + S8x128.size a ≤ S32768x128.size a)
theorem k0_off46_inb : ∀ (i : grid0.Coords) (v403 : BitVec 32) (k0_hw45 : k0_chk45 i v403), ∀ (k0_h1 : k0_cond1 i = 1#1), ∀ a, (k0_off46 v403) a + S8x128.size a ≤ S32768x128.size a := fun i v403 k0_hw45 k0_h1 => k0_hw45 k0_h1

def k0_off47 (v412 : BitVec 32) : Fin 2 → Nat :=
  let c3_i32_271 : BitVec 32 := 3#32
  let v413 : BitVec 32 := Scalar.shrsi v412 c3_i32_271
  let c4095_i32_272 : BitVec 32 := 4095#32
  let v414 : BitVec 32 := Scalar.minsi v413 c4095_i32_272
  let c8_i32_273 : BitVec 32 := 8#32
  let v415 : BitVec 32 := Scalar.muli v414 c8_i32_273
  let v416 : Index := Scalar.indexCast v415
  let c0_274 : Index := 0#32
  ![v416.toNat, 0]

def k0_chk46 (i : grid0.Coords) (v412 : BitVec 32) : Prop :=
  (∀ (k0_h1 : k0_cond1 i = 1#1), ∀ a, (k0_off47 v412) a + S8x128.size a ≤ S32768x128.size a)
theorem k0_off47_inb : ∀ (i : grid0.Coords) (v412 : BitVec 32) (k0_hw46 : k0_chk46 i v412), ∀ (k0_h1 : k0_cond1 i = 1#1), ∀ a, (k0_off47 v412) a + S8x128.size a ≤ S32768x128.size a := fun i v412 k0_hw46 k0_h1 => k0_hw46 k0_h1

def k0_off48 (v421 : BitVec 32) : Fin 2 → Nat :=
  let c3_i32_277 : BitVec 32 := 3#32
  let v422 : BitVec 32 := Scalar.shrsi v421 c3_i32_277
  let c4095_i32_278 : BitVec 32 := 4095#32
  let v423 : BitVec 32 := Scalar.minsi v422 c4095_i32_278
  let c8_i32_279 : BitVec 32 := 8#32
  let v424 : BitVec 32 := Scalar.muli v423 c8_i32_279
  let v425 : Index := Scalar.indexCast v424
  let c0_280 : Index := 0#32
  ![v425.toNat, 0]

def k0_chk47 (i : grid0.Coords) (v421 : BitVec 32) : Prop :=
  (∀ (k0_h1 : k0_cond1 i = 1#1), ∀ a, (k0_off48 v421) a + S8x128.size a ≤ S32768x128.size a)
theorem k0_off48_inb : ∀ (i : grid0.Coords) (v421 : BitVec 32) (k0_hw47 : k0_chk47 i v421), ∀ (k0_h1 : k0_cond1 i = 1#1), ∀ a, (k0_off48 v421) a + S8x128.size a ≤ S32768x128.size a := fun i v421 k0_hw47 k0_h1 => k0_hw47 k0_h1

def k0_off49 (v430 : BitVec 32) : Fin 2 → Nat :=
  let c3_i32_283 : BitVec 32 := 3#32
  let v431 : BitVec 32 := Scalar.shrsi v430 c3_i32_283
  let c4095_i32_284 : BitVec 32 := 4095#32
  let v432 : BitVec 32 := Scalar.minsi v431 c4095_i32_284
  let c8_i32_285 : BitVec 32 := 8#32
  let v433 : BitVec 32 := Scalar.muli v432 c8_i32_285
  let v434 : Index := Scalar.indexCast v433
  let c0_286 : Index := 0#32
  ![v434.toNat, 0]

def k0_chk48 (i : grid0.Coords) (v430 : BitVec 32) : Prop :=
  (∀ (k0_h1 : k0_cond1 i = 1#1), ∀ a, (k0_off49 v430) a + S8x128.size a ≤ S32768x128.size a)
theorem k0_off49_inb : ∀ (i : grid0.Coords) (v430 : BitVec 32) (k0_hw48 : k0_chk48 i v430), ∀ (k0_h1 : k0_cond1 i = 1#1), ∀ a, (k0_off49 v430) a + S8x128.size a ≤ S32768x128.size a := fun i v430 k0_hw48 k0_h1 => k0_hw48 k0_h1

def k0_off50 (v439 : BitVec 32) : Fin 2 → Nat :=
  let c3_i32_289 : BitVec 32 := 3#32
  let v440 : BitVec 32 := Scalar.shrsi v439 c3_i32_289
  let c4095_i32_290 : BitVec 32 := 4095#32
  let v441 : BitVec 32 := Scalar.minsi v440 c4095_i32_290
  let c8_i32_291 : BitVec 32 := 8#32
  let v442 : BitVec 32 := Scalar.muli v441 c8_i32_291
  let v443 : Index := Scalar.indexCast v442
  let c0_292 : Index := 0#32
  ![v443.toNat, 0]

def k0_chk49 (i : grid0.Coords) (v439 : BitVec 32) : Prop :=
  (∀ (k0_h1 : k0_cond1 i = 1#1), ∀ a, (k0_off50 v439) a + S8x128.size a ≤ S32768x128.size a)
theorem k0_off50_inb : ∀ (i : grid0.Coords) (v439 : BitVec 32) (k0_hw49 : k0_chk49 i v439), ∀ (k0_h1 : k0_cond1 i = 1#1), ∀ a, (k0_off50 v439) a + S8x128.size a ≤ S32768x128.size a := fun i v439 k0_hw49 k0_h1 => k0_hw49 k0_h1

def k0_off51 (v448 : BitVec 32) : Fin 2 → Nat :=
  let c3_i32_295 : BitVec 32 := 3#32
  let v449 : BitVec 32 := Scalar.shrsi v448 c3_i32_295
  let c4095_i32_296 : BitVec 32 := 4095#32
  let v450 : BitVec 32 := Scalar.minsi v449 c4095_i32_296
  let c8_i32_297 : BitVec 32 := 8#32
  let v451 : BitVec 32 := Scalar.muli v450 c8_i32_297
  let v452 : Index := Scalar.indexCast v451
  let c0_298 : Index := 0#32
  ![v452.toNat, 0]

def k0_chk50 (i : grid0.Coords) (v448 : BitVec 32) : Prop :=
  (∀ (k0_h1 : k0_cond1 i = 1#1), ∀ a, (k0_off51 v448) a + S8x128.size a ≤ S32768x128.size a)
theorem k0_off51_inb : ∀ (i : grid0.Coords) (v448 : BitVec 32) (k0_hw50 : k0_chk50 i v448), ∀ (k0_h1 : k0_cond1 i = 1#1), ∀ a, (k0_off51 v448) a + S8x128.size a ≤ S32768x128.size a := fun i v448 k0_hw50 k0_h1 => k0_hw50 k0_h1

def k0_off52 (v457 : BitVec 32) : Fin 2 → Nat :=
  let c3_i32_301 : BitVec 32 := 3#32
  let v458 : BitVec 32 := Scalar.shrsi v457 c3_i32_301
  let c4095_i32_302 : BitVec 32 := 4095#32
  let v459 : BitVec 32 := Scalar.minsi v458 c4095_i32_302
  let c8_i32_303 : BitVec 32 := 8#32
  let v460 : BitVec 32 := Scalar.muli v459 c8_i32_303
  let v461 : Index := Scalar.indexCast v460
  let c0_304 : Index := 0#32
  ![v461.toNat, 0]

def k0_chk51 (i : grid0.Coords) (v457 : BitVec 32) : Prop :=
  (∀ (k0_h1 : k0_cond1 i = 1#1), ∀ a, (k0_off52 v457) a + S8x128.size a ≤ S32768x128.size a)
theorem k0_off52_inb : ∀ (i : grid0.Coords) (v457 : BitVec 32) (k0_hw51 : k0_chk51 i v457), ∀ (k0_h1 : k0_cond1 i = 1#1), ∀ a, (k0_off52 v457) a + S8x128.size a ≤ S32768x128.size a := fun i v457 k0_hw51 k0_h1 => k0_hw51 k0_h1

def k0_off53 (v466 : BitVec 32) : Fin 2 → Nat :=
  let c3_i32_307 : BitVec 32 := 3#32
  let v467 : BitVec 32 := Scalar.shrsi v466 c3_i32_307
  let c4095_i32_308 : BitVec 32 := 4095#32
  let v468 : BitVec 32 := Scalar.minsi v467 c4095_i32_308
  let c8_i32_309 : BitVec 32 := 8#32
  let v469 : BitVec 32 := Scalar.muli v468 c8_i32_309
  let v470 : Index := Scalar.indexCast v469
  let c0_310 : Index := 0#32
  ![v470.toNat, 0]

def k0_chk52 (i : grid0.Coords) (v466 : BitVec 32) : Prop :=
  (∀ (k0_h1 : k0_cond1 i = 1#1), ∀ a, (k0_off53 v466) a + S8x128.size a ≤ S32768x128.size a)
theorem k0_off53_inb : ∀ (i : grid0.Coords) (v466 : BitVec 32) (k0_hw52 : k0_chk52 i v466), ∀ (k0_h1 : k0_cond1 i = 1#1), ∀ a, (k0_off53 v466) a + S8x128.size a ≤ S32768x128.size a := fun i v466 k0_hw52 k0_h1 => k0_hw52 k0_h1

def k0_off54 (v475 : BitVec 32) : Fin 2 → Nat :=
  let c3_i32_313 : BitVec 32 := 3#32
  let v476 : BitVec 32 := Scalar.shrsi v475 c3_i32_313
  let c4095_i32_314 : BitVec 32 := 4095#32
  let v477 : BitVec 32 := Scalar.minsi v476 c4095_i32_314
  let c8_i32_315 : BitVec 32 := 8#32
  let v478 : BitVec 32 := Scalar.muli v477 c8_i32_315
  let v479 : Index := Scalar.indexCast v478
  let c0_316 : Index := 0#32
  ![v479.toNat, 0]

def k0_chk53 (i : grid0.Coords) (v475 : BitVec 32) : Prop :=
  (∀ (k0_h1 : k0_cond1 i = 1#1), ∀ a, (k0_off54 v475) a + S8x128.size a ≤ S32768x128.size a)
theorem k0_off54_inb : ∀ (i : grid0.Coords) (v475 : BitVec 32) (k0_hw53 : k0_chk53 i v475), ∀ (k0_h1 : k0_cond1 i = 1#1), ∀ a, (k0_off54 v475) a + S8x128.size a ≤ S32768x128.size a := fun i v475 k0_hw53 k0_h1 => k0_hw53 k0_h1

def k0_off55 (v484 : BitVec 32) : Fin 2 → Nat :=
  let c3_i32_319 : BitVec 32 := 3#32
  let v485 : BitVec 32 := Scalar.shrsi v484 c3_i32_319
  let c4095_i32_320 : BitVec 32 := 4095#32
  let v486 : BitVec 32 := Scalar.minsi v485 c4095_i32_320
  let c8_i32_321 : BitVec 32 := 8#32
  let v487 : BitVec 32 := Scalar.muli v486 c8_i32_321
  let v488 : Index := Scalar.indexCast v487
  let c0_322 : Index := 0#32
  ![v488.toNat, 0]

def k0_chk54 (i : grid0.Coords) (v484 : BitVec 32) : Prop :=
  (∀ (k0_h1 : k0_cond1 i = 1#1), ∀ a, (k0_off55 v484) a + S8x128.size a ≤ S32768x128.size a)
theorem k0_off55_inb : ∀ (i : grid0.Coords) (v484 : BitVec 32) (k0_hw54 : k0_chk54 i v484), ∀ (k0_h1 : k0_cond1 i = 1#1), ∀ a, (k0_off55 v484) a + S8x128.size a ≤ S32768x128.size a := fun i v484 k0_hw54 k0_h1 => k0_hw54 k0_h1

def k0_off56 (v493 : BitVec 32) : Fin 2 → Nat :=
  let c3_i32_325 : BitVec 32 := 3#32
  let v494 : BitVec 32 := Scalar.shrsi v493 c3_i32_325
  let c4095_i32_326 : BitVec 32 := 4095#32
  let v495 : BitVec 32 := Scalar.minsi v494 c4095_i32_326
  let c8_i32_327 : BitVec 32 := 8#32
  let v496 : BitVec 32 := Scalar.muli v495 c8_i32_327
  let v497 : Index := Scalar.indexCast v496
  let c0_328 : Index := 0#32
  ![v497.toNat, 0]

def k0_chk55 (i : grid0.Coords) (v493 : BitVec 32) : Prop :=
  (∀ (k0_h1 : k0_cond1 i = 1#1), ∀ a, (k0_off56 v493) a + S8x128.size a ≤ S32768x128.size a)
theorem k0_off56_inb : ∀ (i : grid0.Coords) (v493 : BitVec 32) (k0_hw55 : k0_chk55 i v493), ∀ (k0_h1 : k0_cond1 i = 1#1), ∀ a, (k0_off56 v493) a + S8x128.size a ≤ S32768x128.size a := fun i v493 k0_hw55 k0_h1 => k0_hw55 k0_h1

def k0_off57 (v502 : BitVec 32) : Fin 2 → Nat :=
  let c3_i32_331 : BitVec 32 := 3#32
  let v503 : BitVec 32 := Scalar.shrsi v502 c3_i32_331
  let c4095_i32_332 : BitVec 32 := 4095#32
  let v504 : BitVec 32 := Scalar.minsi v503 c4095_i32_332
  let c8_i32_333 : BitVec 32 := 8#32
  let v505 : BitVec 32 := Scalar.muli v504 c8_i32_333
  let v506 : Index := Scalar.indexCast v505
  let c0_334 : Index := 0#32
  ![v506.toNat, 0]

def k0_chk56 (i : grid0.Coords) (v502 : BitVec 32) : Prop :=
  (∀ (k0_h1 : k0_cond1 i = 1#1), ∀ a, (k0_off57 v502) a + S8x128.size a ≤ S32768x128.size a)
theorem k0_off57_inb : ∀ (i : grid0.Coords) (v502 : BitVec 32) (k0_hw56 : k0_chk56 i v502), ∀ (k0_h1 : k0_cond1 i = 1#1), ∀ a, (k0_off57 v502) a + S8x128.size a ≤ S32768x128.size a := fun i v502 k0_hw56 k0_h1 => k0_hw56 k0_h1

def k0_off58 (v511 : BitVec 32) : Fin 2 → Nat :=
  let c3_i32_337 : BitVec 32 := 3#32
  let v512 : BitVec 32 := Scalar.shrsi v511 c3_i32_337
  let c4095_i32_338 : BitVec 32 := 4095#32
  let v513 : BitVec 32 := Scalar.minsi v512 c4095_i32_338
  let c8_i32_339 : BitVec 32 := 8#32
  let v514 : BitVec 32 := Scalar.muli v513 c8_i32_339
  let v515 : Index := Scalar.indexCast v514
  let c0_340 : Index := 0#32
  ![v515.toNat, 0]

def k0_chk57 (i : grid0.Coords) (v511 : BitVec 32) : Prop :=
  (∀ (k0_h1 : k0_cond1 i = 1#1), ∀ a, (k0_off58 v511) a + S8x128.size a ≤ S32768x128.size a)
theorem k0_off58_inb : ∀ (i : grid0.Coords) (v511 : BitVec 32) (k0_hw57 : k0_chk57 i v511), ∀ (k0_h1 : k0_cond1 i = 1#1), ∀ a, (k0_off58 v511) a + S8x128.size a ≤ S32768x128.size a := fun i v511 k0_hw57 k0_h1 => k0_hw57 k0_h1

def k0_off59 (v520 : BitVec 32) : Fin 2 → Nat :=
  let c3_i32_343 : BitVec 32 := 3#32
  let v521 : BitVec 32 := Scalar.shrsi v520 c3_i32_343
  let c4095_i32_344 : BitVec 32 := 4095#32
  let v522 : BitVec 32 := Scalar.minsi v521 c4095_i32_344
  let c8_i32_345 : BitVec 32 := 8#32
  let v523 : BitVec 32 := Scalar.muli v522 c8_i32_345
  let v524 : Index := Scalar.indexCast v523
  let c0_346 : Index := 0#32
  ![v524.toNat, 0]

def k0_chk58 (i : grid0.Coords) (v520 : BitVec 32) : Prop :=
  (∀ (k0_h1 : k0_cond1 i = 1#1), ∀ a, (k0_off59 v520) a + S8x128.size a ≤ S32768x128.size a)
theorem k0_off59_inb : ∀ (i : grid0.Coords) (v520 : BitVec 32) (k0_hw58 : k0_chk58 i v520), ∀ (k0_h1 : k0_cond1 i = 1#1), ∀ a, (k0_off59 v520) a + S8x128.size a ≤ S32768x128.size a := fun i v520 k0_hw58 k0_h1 => k0_hw58 k0_h1

def k0_off60 (v529 : BitVec 32) : Fin 2 → Nat :=
  let c3_i32_349 : BitVec 32 := 3#32
  let v530 : BitVec 32 := Scalar.shrsi v529 c3_i32_349
  let c4095_i32_350 : BitVec 32 := 4095#32
  let v531 : BitVec 32 := Scalar.minsi v530 c4095_i32_350
  let c8_i32_351 : BitVec 32 := 8#32
  let v532 : BitVec 32 := Scalar.muli v531 c8_i32_351
  let v533 : Index := Scalar.indexCast v532
  let c0_352 : Index := 0#32
  ![v533.toNat, 0]

def k0_chk59 (i : grid0.Coords) (v529 : BitVec 32) : Prop :=
  (∀ (k0_h1 : k0_cond1 i = 1#1), ∀ a, (k0_off60 v529) a + S8x128.size a ≤ S32768x128.size a)
theorem k0_off60_inb : ∀ (i : grid0.Coords) (v529 : BitVec 32) (k0_hw59 : k0_chk59 i v529), ∀ (k0_h1 : k0_cond1 i = 1#1), ∀ a, (k0_off60 v529) a + S8x128.size a ≤ S32768x128.size a := fun i v529 k0_hw59 k0_h1 => k0_hw59 k0_h1

def k0_off61 (v538 : BitVec 32) : Fin 2 → Nat :=
  let c3_i32_355 : BitVec 32 := 3#32
  let v539 : BitVec 32 := Scalar.shrsi v538 c3_i32_355
  let c4095_i32_356 : BitVec 32 := 4095#32
  let v540 : BitVec 32 := Scalar.minsi v539 c4095_i32_356
  let c8_i32_357 : BitVec 32 := 8#32
  let v541 : BitVec 32 := Scalar.muli v540 c8_i32_357
  let v542 : Index := Scalar.indexCast v541
  let c0_358 : Index := 0#32
  ![v542.toNat, 0]

def k0_chk60 (i : grid0.Coords) (v538 : BitVec 32) : Prop :=
  (∀ (k0_h1 : k0_cond1 i = 1#1), ∀ a, (k0_off61 v538) a + S8x128.size a ≤ S32768x128.size a)
theorem k0_off61_inb : ∀ (i : grid0.Coords) (v538 : BitVec 32) (k0_hw60 : k0_chk60 i v538), ∀ (k0_h1 : k0_cond1 i = 1#1), ∀ a, (k0_off61 v538) a + S8x128.size a ≤ S32768x128.size a := fun i v538 k0_hw60 k0_h1 => k0_hw60 k0_h1

def k0_off62 (v547 : BitVec 32) : Fin 2 → Nat :=
  let c3_i32_361 : BitVec 32 := 3#32
  let v548 : BitVec 32 := Scalar.shrsi v547 c3_i32_361
  let c4095_i32_362 : BitVec 32 := 4095#32
  let v549 : BitVec 32 := Scalar.minsi v548 c4095_i32_362
  let c8_i32_363 : BitVec 32 := 8#32
  let v550 : BitVec 32 := Scalar.muli v549 c8_i32_363
  let v551 : Index := Scalar.indexCast v550
  let c0_364 : Index := 0#32
  ![v551.toNat, 0]

def k0_chk61 (i : grid0.Coords) (v547 : BitVec 32) : Prop :=
  (∀ (k0_h1 : k0_cond1 i = 1#1), ∀ a, (k0_off62 v547) a + S8x128.size a ≤ S32768x128.size a)
theorem k0_off62_inb : ∀ (i : grid0.Coords) (v547 : BitVec 32) (k0_hw61 : k0_chk61 i v547), ∀ (k0_h1 : k0_cond1 i = 1#1), ∀ a, (k0_off62 v547) a + S8x128.size a ≤ S32768x128.size a := fun i v547 k0_hw61 k0_h1 => k0_hw61 k0_h1

def k0_off63 (v556 : BitVec 32) : Fin 2 → Nat :=
  let c3_i32_367 : BitVec 32 := 3#32
  let v557 : BitVec 32 := Scalar.shrsi v556 c3_i32_367
  let c4095_i32_368 : BitVec 32 := 4095#32
  let v558 : BitVec 32 := Scalar.minsi v557 c4095_i32_368
  let c8_i32_369 : BitVec 32 := 8#32
  let v559 : BitVec 32 := Scalar.muli v558 c8_i32_369
  let v560 : Index := Scalar.indexCast v559
  let c0_370 : Index := 0#32
  ![v560.toNat, 0]

def k0_chk62 (i : grid0.Coords) (v556 : BitVec 32) : Prop :=
  (∀ (k0_h1 : k0_cond1 i = 1#1), ∀ a, (k0_off63 v556) a + S8x128.size a ≤ S32768x128.size a)
theorem k0_off63_inb : ∀ (i : grid0.Coords) (v556 : BitVec 32) (k0_hw62 : k0_chk62 i v556), ∀ (k0_h1 : k0_cond1 i = 1#1), ∀ a, (k0_off63 v556) a + S8x128.size a ≤ S32768x128.size a := fun i v556 k0_hw62 k0_h1 => k0_hw62 k0_h1

def k0_off64 (v565 : BitVec 32) : Fin 2 → Nat :=
  let c3_i32_373 : BitVec 32 := 3#32
  let v566 : BitVec 32 := Scalar.shrsi v565 c3_i32_373
  let c4095_i32_374 : BitVec 32 := 4095#32
  let v567 : BitVec 32 := Scalar.minsi v566 c4095_i32_374
  let c8_i32_375 : BitVec 32 := 8#32
  let v568 : BitVec 32 := Scalar.muli v567 c8_i32_375
  let v569 : Index := Scalar.indexCast v568
  let c0_376 : Index := 0#32
  ![v569.toNat, 0]

def k0_chk63 (i : grid0.Coords) (v565 : BitVec 32) : Prop :=
  (∀ (k0_h1 : k0_cond1 i = 1#1), ∀ a, (k0_off64 v565) a + S8x128.size a ≤ S32768x128.size a)
theorem k0_off64_inb : ∀ (i : grid0.Coords) (v565 : BitVec 32) (k0_hw63 : k0_chk63 i v565), ∀ (k0_h1 : k0_cond1 i = 1#1), ∀ a, (k0_off64 v565) a + S8x128.size a ≤ S32768x128.size a := fun i v565 k0_hw63 k0_h1 => k0_hw63 k0_h1

def k0_off65 (v574 : BitVec 32) : Fin 2 → Nat :=
  let c3_i32_379 : BitVec 32 := 3#32
  let v575 : BitVec 32 := Scalar.shrsi v574 c3_i32_379
  let c4095_i32_380 : BitVec 32 := 4095#32
  let v576 : BitVec 32 := Scalar.minsi v575 c4095_i32_380
  let c8_i32_381 : BitVec 32 := 8#32
  let v577 : BitVec 32 := Scalar.muli v576 c8_i32_381
  let v578 : Index := Scalar.indexCast v577
  let c0_382 : Index := 0#32
  ![v578.toNat, 0]

def k0_chk64 (i : grid0.Coords) (v574 : BitVec 32) : Prop :=
  (∀ (k0_h1 : k0_cond1 i = 1#1), ∀ a, (k0_off65 v574) a + S8x128.size a ≤ S32768x128.size a)
theorem k0_off65_inb : ∀ (i : grid0.Coords) (v574 : BitVec 32) (k0_hw64 : k0_chk64 i v574), ∀ (k0_h1 : k0_cond1 i = 1#1), ∀ a, (k0_off65 v574) a + S8x128.size a ≤ S32768x128.size a := fun i v574 k0_hw64 k0_h1 => k0_hw64 k0_h1

def k0_off66 (v583 : BitVec 32) : Fin 2 → Nat :=
  let c3_i32_385 : BitVec 32 := 3#32
  let v584 : BitVec 32 := Scalar.shrsi v583 c3_i32_385
  let c4095_i32_386 : BitVec 32 := 4095#32
  let v585 : BitVec 32 := Scalar.minsi v584 c4095_i32_386
  let c8_i32_387 : BitVec 32 := 8#32
  let v586 : BitVec 32 := Scalar.muli v585 c8_i32_387
  let v587 : Index := Scalar.indexCast v586
  let c0_388 : Index := 0#32
  ![v587.toNat, 0]

def k0_chk65 (i : grid0.Coords) (v583 : BitVec 32) : Prop :=
  (∀ (k0_h1 : k0_cond1 i = 1#1), ∀ a, (k0_off66 v583) a + S8x128.size a ≤ S32768x128.size a)
theorem k0_off66_inb : ∀ (i : grid0.Coords) (v583 : BitVec 32) (k0_hw65 : k0_chk65 i v583), ∀ (k0_h1 : k0_cond1 i = 1#1), ∀ a, (k0_off66 v583) a + S8x128.size a ≤ S32768x128.size a := fun i v583 k0_hw65 k0_h1 => k0_hw65 k0_h1

def k0_off67 (v592 : BitVec 32) : Fin 2 → Nat :=
  let c3_i32_391 : BitVec 32 := 3#32
  let v593 : BitVec 32 := Scalar.shrsi v592 c3_i32_391
  let c4095_i32_392 : BitVec 32 := 4095#32
  let v594 : BitVec 32 := Scalar.minsi v593 c4095_i32_392
  let c8_i32_393 : BitVec 32 := 8#32
  let v595 : BitVec 32 := Scalar.muli v594 c8_i32_393
  let v596 : Index := Scalar.indexCast v595
  let c0_394 : Index := 0#32
  ![v596.toNat, 0]

def k0_chk66 (i : grid0.Coords) (v592 : BitVec 32) : Prop :=
  (∀ (k0_h1 : k0_cond1 i = 1#1), ∀ a, (k0_off67 v592) a + S8x128.size a ≤ S32768x128.size a)
theorem k0_off67_inb : ∀ (i : grid0.Coords) (v592 : BitVec 32) (k0_hw66 : k0_chk66 i v592), ∀ (k0_h1 : k0_cond1 i = 1#1), ∀ a, (k0_off67 v592) a + S8x128.size a ≤ S32768x128.size a := fun i v592 k0_hw66 k0_h1 => k0_hw66 k0_h1

def k0_off68 (v601 : BitVec 32) : Fin 2 → Nat :=
  let c3_i32_397 : BitVec 32 := 3#32
  let v602 : BitVec 32 := Scalar.shrsi v601 c3_i32_397
  let c4095_i32_398 : BitVec 32 := 4095#32
  let v603 : BitVec 32 := Scalar.minsi v602 c4095_i32_398
  let c8_i32_399 : BitVec 32 := 8#32
  let v604 : BitVec 32 := Scalar.muli v603 c8_i32_399
  let v605 : Index := Scalar.indexCast v604
  let c0_400 : Index := 0#32
  ![v605.toNat, 0]

def k0_chk67 (i : grid0.Coords) (v601 : BitVec 32) : Prop :=
  (∀ (k0_h1 : k0_cond1 i = 1#1), ∀ a, (k0_off68 v601) a + S8x128.size a ≤ S32768x128.size a)
theorem k0_off68_inb : ∀ (i : grid0.Coords) (v601 : BitVec 32) (k0_hw67 : k0_chk67 i v601), ∀ (k0_h1 : k0_cond1 i = 1#1), ∀ a, (k0_off68 v601) a + S8x128.size a ≤ S32768x128.size a := fun i v601 k0_hw67 k0_h1 => k0_hw67 k0_h1

def k0_off69 (v610 : BitVec 32) : Fin 2 → Nat :=
  let c3_i32_403 : BitVec 32 := 3#32
  let v611 : BitVec 32 := Scalar.shrsi v610 c3_i32_403
  let c4095_i32_404 : BitVec 32 := 4095#32
  let v612 : BitVec 32 := Scalar.minsi v611 c4095_i32_404
  let c8_i32_405 : BitVec 32 := 8#32
  let v613 : BitVec 32 := Scalar.muli v612 c8_i32_405
  let v614 : Index := Scalar.indexCast v613
  let c0_406 : Index := 0#32
  ![v614.toNat, 0]

def k0_chk68 (i : grid0.Coords) (v610 : BitVec 32) : Prop :=
  (∀ (k0_h1 : k0_cond1 i = 1#1), ∀ a, (k0_off69 v610) a + S8x128.size a ≤ S32768x128.size a)
theorem k0_off69_inb : ∀ (i : grid0.Coords) (v610 : BitVec 32) (k0_hw68 : k0_chk68 i v610), ∀ (k0_h1 : k0_cond1 i = 1#1), ∀ a, (k0_off69 v610) a + S8x128.size a ≤ S32768x128.size a := fun i v610 k0_hw68 k0_h1 => k0_hw68 k0_h1

def k0_off70 (v619 : BitVec 32) : Fin 2 → Nat :=
  let c3_i32_409 : BitVec 32 := 3#32
  let v620 : BitVec 32 := Scalar.shrsi v619 c3_i32_409
  let c4095_i32_410 : BitVec 32 := 4095#32
  let v621 : BitVec 32 := Scalar.minsi v620 c4095_i32_410
  let c8_i32_411 : BitVec 32 := 8#32
  let v622 : BitVec 32 := Scalar.muli v621 c8_i32_411
  let v623 : Index := Scalar.indexCast v622
  let c0_412 : Index := 0#32
  ![v623.toNat, 0]

def k0_chk69 (i : grid0.Coords) (v619 : BitVec 32) : Prop :=
  (∀ (k0_h1 : k0_cond1 i = 1#1), ∀ a, (k0_off70 v619) a + S8x128.size a ≤ S32768x128.size a)
theorem k0_off70_inb : ∀ (i : grid0.Coords) (v619 : BitVec 32) (k0_hw69 : k0_chk69 i v619), ∀ (k0_h1 : k0_cond1 i = 1#1), ∀ a, (k0_off70 v619) a + S8x128.size a ≤ S32768x128.size a := fun i v619 k0_hw69 k0_h1 => k0_hw69 k0_h1

def k0_off71 (v628 : BitVec 32) : Fin 2 → Nat :=
  let c3_i32_415 : BitVec 32 := 3#32
  let v629 : BitVec 32 := Scalar.shrsi v628 c3_i32_415
  let c4095_i32_416 : BitVec 32 := 4095#32
  let v630 : BitVec 32 := Scalar.minsi v629 c4095_i32_416
  let c8_i32_417 : BitVec 32 := 8#32
  let v631 : BitVec 32 := Scalar.muli v630 c8_i32_417
  let v632 : Index := Scalar.indexCast v631
  let c0_418 : Index := 0#32
  ![v632.toNat, 0]

def k0_chk70 (i : grid0.Coords) (v628 : BitVec 32) : Prop :=
  (∀ (k0_h1 : k0_cond1 i = 1#1), ∀ a, (k0_off71 v628) a + S8x128.size a ≤ S32768x128.size a)
theorem k0_off71_inb : ∀ (i : grid0.Coords) (v628 : BitVec 32) (k0_hw70 : k0_chk70 i v628), ∀ (k0_h1 : k0_cond1 i = 1#1), ∀ a, (k0_off71 v628) a + S8x128.size a ≤ S32768x128.size a := fun i v628 k0_hw70 k0_h1 => k0_hw70 k0_h1

def k0_off72 (v637 : BitVec 32) : Fin 2 → Nat :=
  let c3_i32_421 : BitVec 32 := 3#32
  let v638 : BitVec 32 := Scalar.shrsi v637 c3_i32_421
  let c4095_i32_422 : BitVec 32 := 4095#32
  let v639 : BitVec 32 := Scalar.minsi v638 c4095_i32_422
  let c8_i32_423 : BitVec 32 := 8#32
  let v640 : BitVec 32 := Scalar.muli v639 c8_i32_423
  let v641 : Index := Scalar.indexCast v640
  let c0_424 : Index := 0#32
  ![v641.toNat, 0]

def k0_chk71 (i : grid0.Coords) (v637 : BitVec 32) : Prop :=
  (∀ (k0_h1 : k0_cond1 i = 1#1), ∀ a, (k0_off72 v637) a + S8x128.size a ≤ S32768x128.size a)
theorem k0_off72_inb : ∀ (i : grid0.Coords) (v637 : BitVec 32) (k0_hw71 : k0_chk71 i v637), ∀ (k0_h1 : k0_cond1 i = 1#1), ∀ a, (k0_off72 v637) a + S8x128.size a ≤ S32768x128.size a := fun i v637 k0_hw71 k0_h1 => k0_hw71 k0_h1

def k0_off73 (v646 : BitVec 32) : Fin 2 → Nat :=
  let c3_i32_427 : BitVec 32 := 3#32
  let v647 : BitVec 32 := Scalar.shrsi v646 c3_i32_427
  let c4095_i32_428 : BitVec 32 := 4095#32
  let v648 : BitVec 32 := Scalar.minsi v647 c4095_i32_428
  let c8_i32_429 : BitVec 32 := 8#32
  let v649 : BitVec 32 := Scalar.muli v648 c8_i32_429
  let v650 : Index := Scalar.indexCast v649
  let c0_430 : Index := 0#32
  ![v650.toNat, 0]

def k0_chk72 (i : grid0.Coords) (v646 : BitVec 32) : Prop :=
  (∀ (k0_h1 : k0_cond1 i = 1#1), ∀ a, (k0_off73 v646) a + S8x128.size a ≤ S32768x128.size a)
theorem k0_off73_inb : ∀ (i : grid0.Coords) (v646 : BitVec 32) (k0_hw72 : k0_chk72 i v646), ∀ (k0_h1 : k0_cond1 i = 1#1), ∀ a, (k0_off73 v646) a + S8x128.size a ≤ S32768x128.size a := fun i v646 k0_hw72 k0_h1 => k0_hw72 k0_h1

def k0_off74 (v655 : BitVec 32) : Fin 2 → Nat :=
  let c3_i32_433 : BitVec 32 := 3#32
  let v656 : BitVec 32 := Scalar.shrsi v655 c3_i32_433
  let c4095_i32_434 : BitVec 32 := 4095#32
  let v657 : BitVec 32 := Scalar.minsi v656 c4095_i32_434
  let c8_i32_435 : BitVec 32 := 8#32
  let v658 : BitVec 32 := Scalar.muli v657 c8_i32_435
  let v659 : Index := Scalar.indexCast v658
  let c0_436 : Index := 0#32
  ![v659.toNat, 0]

def k0_chk73 (i : grid0.Coords) (v655 : BitVec 32) : Prop :=
  (∀ (k0_h1 : k0_cond1 i = 1#1), ∀ a, (k0_off74 v655) a + S8x128.size a ≤ S32768x128.size a)
theorem k0_off74_inb : ∀ (i : grid0.Coords) (v655 : BitVec 32) (k0_hw73 : k0_chk73 i v655), ∀ (k0_h1 : k0_cond1 i = 1#1), ∀ a, (k0_off74 v655) a + S8x128.size a ≤ S32768x128.size a := fun i v655 k0_hw73 k0_h1 => k0_hw73 k0_h1

def k0_off75 (v664 : BitVec 32) : Fin 2 → Nat :=
  let c3_i32_439 : BitVec 32 := 3#32
  let v665 : BitVec 32 := Scalar.shrsi v664 c3_i32_439
  let c4095_i32_440 : BitVec 32 := 4095#32
  let v666 : BitVec 32 := Scalar.minsi v665 c4095_i32_440
  let c8_i32_441 : BitVec 32 := 8#32
  let v667 : BitVec 32 := Scalar.muli v666 c8_i32_441
  let v668 : Index := Scalar.indexCast v667
  let c0_442 : Index := 0#32
  ![v668.toNat, 0]

def k0_chk74 (i : grid0.Coords) (v664 : BitVec 32) : Prop :=
  (∀ (k0_h1 : k0_cond1 i = 1#1), ∀ a, (k0_off75 v664) a + S8x128.size a ≤ S32768x128.size a)
theorem k0_off75_inb : ∀ (i : grid0.Coords) (v664 : BitVec 32) (k0_hw74 : k0_chk74 i v664), ∀ (k0_h1 : k0_cond1 i = 1#1), ∀ a, (k0_off75 v664) a + S8x128.size a ≤ S32768x128.size a := fun i v664 k0_hw74 k0_h1 => k0_hw74 k0_h1

def k0_off76 (v673 : BitVec 32) : Fin 2 → Nat :=
  let c3_i32_445 : BitVec 32 := 3#32
  let v674 : BitVec 32 := Scalar.shrsi v673 c3_i32_445
  let c4095_i32_446 : BitVec 32 := 4095#32
  let v675 : BitVec 32 := Scalar.minsi v674 c4095_i32_446
  let c8_i32_447 : BitVec 32 := 8#32
  let v676 : BitVec 32 := Scalar.muli v675 c8_i32_447
  let v677 : Index := Scalar.indexCast v676
  let c0_448 : Index := 0#32
  ![v677.toNat, 0]

def k0_chk75 (i : grid0.Coords) (v673 : BitVec 32) : Prop :=
  (∀ (k0_h1 : k0_cond1 i = 1#1), ∀ a, (k0_off76 v673) a + S8x128.size a ≤ S32768x128.size a)
theorem k0_off76_inb : ∀ (i : grid0.Coords) (v673 : BitVec 32) (k0_hw75 : k0_chk75 i v673), ∀ (k0_h1 : k0_cond1 i = 1#1), ∀ a, (k0_off76 v673) a + S8x128.size a ≤ S32768x128.size a := fun i v673 k0_hw75 k0_h1 => k0_hw75 k0_h1

def k0_off77 (v682 : BitVec 32) : Fin 2 → Nat :=
  let c3_i32_451 : BitVec 32 := 3#32
  let v683 : BitVec 32 := Scalar.shrsi v682 c3_i32_451
  let c4095_i32_452 : BitVec 32 := 4095#32
  let v684 : BitVec 32 := Scalar.minsi v683 c4095_i32_452
  let c8_i32_453 : BitVec 32 := 8#32
  let v685 : BitVec 32 := Scalar.muli v684 c8_i32_453
  let v686 : Index := Scalar.indexCast v685
  let c0_454 : Index := 0#32
  ![v686.toNat, 0]

def k0_chk76 (i : grid0.Coords) (v682 : BitVec 32) : Prop :=
  (∀ (k0_h1 : k0_cond1 i = 1#1), ∀ a, (k0_off77 v682) a + S8x128.size a ≤ S32768x128.size a)
theorem k0_off77_inb : ∀ (i : grid0.Coords) (v682 : BitVec 32) (k0_hw76 : k0_chk76 i v682), ∀ (k0_h1 : k0_cond1 i = 1#1), ∀ a, (k0_off77 v682) a + S8x128.size a ≤ S32768x128.size a := fun i v682 k0_hw76 k0_h1 => k0_hw76 k0_h1

def k0_off78 (v691 : BitVec 32) : Fin 2 → Nat :=
  let c3_i32_457 : BitVec 32 := 3#32
  let v692 : BitVec 32 := Scalar.shrsi v691 c3_i32_457
  let c4095_i32_458 : BitVec 32 := 4095#32
  let v693 : BitVec 32 := Scalar.minsi v692 c4095_i32_458
  let c8_i32_459 : BitVec 32 := 8#32
  let v694 : BitVec 32 := Scalar.muli v693 c8_i32_459
  let v695 : Index := Scalar.indexCast v694
  let c0_460 : Index := 0#32
  ![v695.toNat, 0]

def k0_chk77 (i : grid0.Coords) (v691 : BitVec 32) : Prop :=
  (∀ (k0_h1 : k0_cond1 i = 1#1), ∀ a, (k0_off78 v691) a + S8x128.size a ≤ S32768x128.size a)
theorem k0_off78_inb : ∀ (i : grid0.Coords) (v691 : BitVec 32) (k0_hw77 : k0_chk77 i v691), ∀ (k0_h1 : k0_cond1 i = 1#1), ∀ a, (k0_off78 v691) a + S8x128.size a ≤ S32768x128.size a := fun i v691 k0_hw77 k0_h1 => k0_hw77 k0_h1

def k0_off79 (v700 : BitVec 32) : Fin 2 → Nat :=
  let c3_i32_463 : BitVec 32 := 3#32
  let v701 : BitVec 32 := Scalar.shrsi v700 c3_i32_463
  let c4095_i32_464 : BitVec 32 := 4095#32
  let v702 : BitVec 32 := Scalar.minsi v701 c4095_i32_464
  let c8_i32_465 : BitVec 32 := 8#32
  let v703 : BitVec 32 := Scalar.muli v702 c8_i32_465
  let v704 : Index := Scalar.indexCast v703
  let c0_466 : Index := 0#32
  ![v704.toNat, 0]

def k0_chk78 (i : grid0.Coords) (v700 : BitVec 32) : Prop :=
  (∀ (k0_h1 : k0_cond1 i = 1#1), ∀ a, (k0_off79 v700) a + S8x128.size a ≤ S32768x128.size a)
theorem k0_off79_inb : ∀ (i : grid0.Coords) (v700 : BitVec 32) (k0_hw78 : k0_chk78 i v700), ∀ (k0_h1 : k0_cond1 i = 1#1), ∀ a, (k0_off79 v700) a + S8x128.size a ≤ S32768x128.size a := fun i v700 k0_hw78 k0_h1 => k0_hw78 k0_h1

def k0_off80 (v709 : BitVec 32) : Fin 2 → Nat :=
  let c3_i32_469 : BitVec 32 := 3#32
  let v710 : BitVec 32 := Scalar.shrsi v709 c3_i32_469
  let c4095_i32_470 : BitVec 32 := 4095#32
  let v711 : BitVec 32 := Scalar.minsi v710 c4095_i32_470
  let c8_i32_471 : BitVec 32 := 8#32
  let v712 : BitVec 32 := Scalar.muli v711 c8_i32_471
  let v713 : Index := Scalar.indexCast v712
  let c0_472 : Index := 0#32
  ![v713.toNat, 0]

def k0_chk79 (i : grid0.Coords) (v709 : BitVec 32) : Prop :=
  (∀ (k0_h1 : k0_cond1 i = 1#1), ∀ a, (k0_off80 v709) a + S8x128.size a ≤ S32768x128.size a)
theorem k0_off80_inb : ∀ (i : grid0.Coords) (v709 : BitVec 32) (k0_hw79 : k0_chk79 i v709), ∀ (k0_h1 : k0_cond1 i = 1#1), ∀ a, (k0_off80 v709) a + S8x128.size a ≤ S32768x128.size a := fun i v709 k0_hw79 k0_h1 => k0_hw79 k0_h1

def k0_off81 (v718 : BitVec 32) : Fin 2 → Nat :=
  let c3_i32_475 : BitVec 32 := 3#32
  let v719 : BitVec 32 := Scalar.shrsi v718 c3_i32_475
  let c4095_i32_476 : BitVec 32 := 4095#32
  let v720 : BitVec 32 := Scalar.minsi v719 c4095_i32_476
  let c8_i32_477 : BitVec 32 := 8#32
  let v721 : BitVec 32 := Scalar.muli v720 c8_i32_477
  let v722 : Index := Scalar.indexCast v721
  let c0_478 : Index := 0#32
  ![v722.toNat, 0]

def k0_chk80 (i : grid0.Coords) (v718 : BitVec 32) : Prop :=
  (∀ (k0_h1 : k0_cond1 i = 1#1), ∀ a, (k0_off81 v718) a + S8x128.size a ≤ S32768x128.size a)
theorem k0_off81_inb : ∀ (i : grid0.Coords) (v718 : BitVec 32) (k0_hw80 : k0_chk80 i v718), ∀ (k0_h1 : k0_cond1 i = 1#1), ∀ a, (k0_off81 v718) a + S8x128.size a ≤ S32768x128.size a := fun i v718 k0_hw80 k0_h1 => k0_hw80 k0_h1

def k0_off82 (v727 : BitVec 32) : Fin 2 → Nat :=
  let c3_i32_481 : BitVec 32 := 3#32
  let v728 : BitVec 32 := Scalar.shrsi v727 c3_i32_481
  let c4095_i32_482 : BitVec 32 := 4095#32
  let v729 : BitVec 32 := Scalar.minsi v728 c4095_i32_482
  let c8_i32_483 : BitVec 32 := 8#32
  let v730 : BitVec 32 := Scalar.muli v729 c8_i32_483
  let v731 : Index := Scalar.indexCast v730
  let c0_484 : Index := 0#32
  ![v731.toNat, 0]

def k0_chk81 (i : grid0.Coords) (v727 : BitVec 32) : Prop :=
  (∀ (k0_h1 : k0_cond1 i = 1#1), ∀ a, (k0_off82 v727) a + S8x128.size a ≤ S32768x128.size a)
theorem k0_off82_inb : ∀ (i : grid0.Coords) (v727 : BitVec 32) (k0_hw81 : k0_chk81 i v727), ∀ (k0_h1 : k0_cond1 i = 1#1), ∀ a, (k0_off82 v727) a + S8x128.size a ≤ S32768x128.size a := fun i v727 k0_hw81 k0_h1 => k0_hw81 k0_h1

def k0_off83 (v736 : BitVec 32) : Fin 2 → Nat :=
  let c3_i32_487 : BitVec 32 := 3#32
  let v737 : BitVec 32 := Scalar.shrsi v736 c3_i32_487
  let c4095_i32_488 : BitVec 32 := 4095#32
  let v738 : BitVec 32 := Scalar.minsi v737 c4095_i32_488
  let c8_i32_489 : BitVec 32 := 8#32
  let v739 : BitVec 32 := Scalar.muli v738 c8_i32_489
  let v740 : Index := Scalar.indexCast v739
  let c0_490 : Index := 0#32
  ![v740.toNat, 0]

def k0_chk82 (i : grid0.Coords) (v736 : BitVec 32) : Prop :=
  (∀ (k0_h1 : k0_cond1 i = 1#1), ∀ a, (k0_off83 v736) a + S8x128.size a ≤ S32768x128.size a)
theorem k0_off83_inb : ∀ (i : grid0.Coords) (v736 : BitVec 32) (k0_hw82 : k0_chk82 i v736), ∀ (k0_h1 : k0_cond1 i = 1#1), ∀ a, (k0_off83 v736) a + S8x128.size a ≤ S32768x128.size a := fun i v736 k0_hw82 k0_h1 => k0_hw82 k0_h1

def k0_off84 (v745 : BitVec 32) : Fin 2 → Nat :=
  let c3_i32_493 : BitVec 32 := 3#32
  let v746 : BitVec 32 := Scalar.shrsi v745 c3_i32_493
  let c4095_i32_494 : BitVec 32 := 4095#32
  let v747 : BitVec 32 := Scalar.minsi v746 c4095_i32_494
  let c8_i32_495 : BitVec 32 := 8#32
  let v748 : BitVec 32 := Scalar.muli v747 c8_i32_495
  let v749 : Index := Scalar.indexCast v748
  let c0_496 : Index := 0#32
  ![v749.toNat, 0]

def k0_chk83 (i : grid0.Coords) (v745 : BitVec 32) : Prop :=
  (∀ (k0_h1 : k0_cond1 i = 1#1), ∀ a, (k0_off84 v745) a + S8x128.size a ≤ S32768x128.size a)
theorem k0_off84_inb : ∀ (i : grid0.Coords) (v745 : BitVec 32) (k0_hw83 : k0_chk83 i v745), ∀ (k0_h1 : k0_cond1 i = 1#1), ∀ a, (k0_off84 v745) a + S8x128.size a ≤ S32768x128.size a := fun i v745 k0_hw83 k0_h1 => k0_hw83 k0_h1

def k0_off85 (v754 : BitVec 32) : Fin 2 → Nat :=
  let c3_i32_499 : BitVec 32 := 3#32
  let v755 : BitVec 32 := Scalar.shrsi v754 c3_i32_499
  let c4095_i32_500 : BitVec 32 := 4095#32
  let v756 : BitVec 32 := Scalar.minsi v755 c4095_i32_500
  let c8_i32_501 : BitVec 32 := 8#32
  let v757 : BitVec 32 := Scalar.muli v756 c8_i32_501
  let v758 : Index := Scalar.indexCast v757
  let c0_502 : Index := 0#32
  ![v758.toNat, 0]

def k0_chk84 (i : grid0.Coords) (v754 : BitVec 32) : Prop :=
  (∀ (k0_h1 : k0_cond1 i = 1#1), ∀ a, (k0_off85 v754) a + S8x128.size a ≤ S32768x128.size a)
theorem k0_off85_inb : ∀ (i : grid0.Coords) (v754 : BitVec 32) (k0_hw84 : k0_chk84 i v754), ∀ (k0_h1 : k0_cond1 i = 1#1), ∀ a, (k0_off85 v754) a + S8x128.size a ≤ S32768x128.size a := fun i v754 k0_hw84 k0_h1 => k0_hw84 k0_h1

def k0_off86 (v763 : BitVec 32) : Fin 2 → Nat :=
  let c3_i32_505 : BitVec 32 := 3#32
  let v764 : BitVec 32 := Scalar.shrsi v763 c3_i32_505
  let c4095_i32_506 : BitVec 32 := 4095#32
  let v765 : BitVec 32 := Scalar.minsi v764 c4095_i32_506
  let c8_i32_507 : BitVec 32 := 8#32
  let v766 : BitVec 32 := Scalar.muli v765 c8_i32_507
  let v767 : Index := Scalar.indexCast v766
  let c0_508 : Index := 0#32
  ![v767.toNat, 0]

def k0_chk85 (i : grid0.Coords) (v763 : BitVec 32) : Prop :=
  (∀ (k0_h1 : k0_cond1 i = 1#1), ∀ a, (k0_off86 v763) a + S8x128.size a ≤ S32768x128.size a)
theorem k0_off86_inb : ∀ (i : grid0.Coords) (v763 : BitVec 32) (k0_hw85 : k0_chk85 i v763), ∀ (k0_h1 : k0_cond1 i = 1#1), ∀ a, (k0_off86 v763) a + S8x128.size a ≤ S32768x128.size a := fun i v763 k0_hw85 k0_h1 => k0_hw85 k0_h1

def k0_off87 (v772 : BitVec 32) : Fin 2 → Nat :=
  let c3_i32_511 : BitVec 32 := 3#32
  let v773 : BitVec 32 := Scalar.shrsi v772 c3_i32_511
  let c4095_i32_512 : BitVec 32 := 4095#32
  let v774 : BitVec 32 := Scalar.minsi v773 c4095_i32_512
  let c8_i32_513 : BitVec 32 := 8#32
  let v775 : BitVec 32 := Scalar.muli v774 c8_i32_513
  let v776 : Index := Scalar.indexCast v775
  let c0_514 : Index := 0#32
  ![v776.toNat, 0]

def k0_chk86 (i : grid0.Coords) (v772 : BitVec 32) : Prop :=
  (∀ (k0_h1 : k0_cond1 i = 1#1), ∀ a, (k0_off87 v772) a + S8x128.size a ≤ S32768x128.size a)
theorem k0_off87_inb : ∀ (i : grid0.Coords) (v772 : BitVec 32) (k0_hw86 : k0_chk86 i v772), ∀ (k0_h1 : k0_cond1 i = 1#1), ∀ a, (k0_off87 v772) a + S8x128.size a ≤ S32768x128.size a := fun i v772 k0_hw86 k0_h1 => k0_hw86 k0_h1

def k0_off88 (v781 : BitVec 32) : Fin 2 → Nat :=
  let c3_i32_517 : BitVec 32 := 3#32
  let v782 : BitVec 32 := Scalar.shrsi v781 c3_i32_517
  let c4095_i32_518 : BitVec 32 := 4095#32
  let v783 : BitVec 32 := Scalar.minsi v782 c4095_i32_518
  let c8_i32_519 : BitVec 32 := 8#32
  let v784 : BitVec 32 := Scalar.muli v783 c8_i32_519
  let v785 : Index := Scalar.indexCast v784
  let c0_520 : Index := 0#32
  ![v785.toNat, 0]

def k0_chk87 (i : grid0.Coords) (v781 : BitVec 32) : Prop :=
  (∀ (k0_h1 : k0_cond1 i = 1#1), ∀ a, (k0_off88 v781) a + S8x128.size a ≤ S32768x128.size a)
theorem k0_off88_inb : ∀ (i : grid0.Coords) (v781 : BitVec 32) (k0_hw87 : k0_chk87 i v781), ∀ (k0_h1 : k0_cond1 i = 1#1), ∀ a, (k0_off88 v781) a + S8x128.size a ≤ S32768x128.size a := fun i v781 k0_hw87 k0_h1 => k0_hw87 k0_h1

def k0_off89 (v790 : BitVec 32) : Fin 2 → Nat :=
  let c3_i32_523 : BitVec 32 := 3#32
  let v791 : BitVec 32 := Scalar.shrsi v790 c3_i32_523
  let c4095_i32_524 : BitVec 32 := 4095#32
  let v792 : BitVec 32 := Scalar.minsi v791 c4095_i32_524
  let c8_i32_525 : BitVec 32 := 8#32
  let v793 : BitVec 32 := Scalar.muli v792 c8_i32_525
  let v794 : Index := Scalar.indexCast v793
  let c0_526 : Index := 0#32
  ![v794.toNat, 0]

def k0_chk88 (i : grid0.Coords) (v790 : BitVec 32) : Prop :=
  (∀ (k0_h1 : k0_cond1 i = 1#1), ∀ a, (k0_off89 v790) a + S8x128.size a ≤ S32768x128.size a)
theorem k0_off89_inb : ∀ (i : grid0.Coords) (v790 : BitVec 32) (k0_hw88 : k0_chk88 i v790), ∀ (k0_h1 : k0_cond1 i = 1#1), ∀ a, (k0_off89 v790) a + S8x128.size a ≤ S32768x128.size a := fun i v790 k0_hw88 k0_h1 => k0_hw88 k0_h1

def k0_off90 (v799 : BitVec 32) : Fin 2 → Nat :=
  let c3_i32_529 : BitVec 32 := 3#32
  let v800 : BitVec 32 := Scalar.shrsi v799 c3_i32_529
  let c4095_i32_530 : BitVec 32 := 4095#32
  let v801 : BitVec 32 := Scalar.minsi v800 c4095_i32_530
  let c8_i32_531 : BitVec 32 := 8#32
  let v802 : BitVec 32 := Scalar.muli v801 c8_i32_531
  let v803 : Index := Scalar.indexCast v802
  let c0_532 : Index := 0#32
  ![v803.toNat, 0]

def k0_chk89 (i : grid0.Coords) (v799 : BitVec 32) : Prop :=
  (∀ (k0_h1 : k0_cond1 i = 1#1), ∀ a, (k0_off90 v799) a + S8x128.size a ≤ S32768x128.size a)
theorem k0_off90_inb : ∀ (i : grid0.Coords) (v799 : BitVec 32) (k0_hw89 : k0_chk89 i v799), ∀ (k0_h1 : k0_cond1 i = 1#1), ∀ a, (k0_off90 v799) a + S8x128.size a ≤ S32768x128.size a := fun i v799 k0_hw89 k0_h1 => k0_hw89 k0_h1

def k0_off91 (v808 : BitVec 32) : Fin 2 → Nat :=
  let c3_i32_535 : BitVec 32 := 3#32
  let v809 : BitVec 32 := Scalar.shrsi v808 c3_i32_535
  let c4095_i32_536 : BitVec 32 := 4095#32
  let v810 : BitVec 32 := Scalar.minsi v809 c4095_i32_536
  let c8_i32_537 : BitVec 32 := 8#32
  let v811 : BitVec 32 := Scalar.muli v810 c8_i32_537
  let v812 : Index := Scalar.indexCast v811
  let c0_538 : Index := 0#32
  ![v812.toNat, 0]

def k0_chk90 (i : grid0.Coords) (v808 : BitVec 32) : Prop :=
  (∀ (k0_h1 : k0_cond1 i = 1#1), ∀ a, (k0_off91 v808) a + S8x128.size a ≤ S32768x128.size a)
theorem k0_off91_inb : ∀ (i : grid0.Coords) (v808 : BitVec 32) (k0_hw90 : k0_chk90 i v808), ∀ (k0_h1 : k0_cond1 i = 1#1), ∀ a, (k0_off91 v808) a + S8x128.size a ≤ S32768x128.size a := fun i v808 k0_hw90 k0_h1 => k0_hw90 k0_h1

def k0_off92 (v817 : BitVec 32) : Fin 2 → Nat :=
  let c3_i32_541 : BitVec 32 := 3#32
  let v818 : BitVec 32 := Scalar.shrsi v817 c3_i32_541
  let c4095_i32_542 : BitVec 32 := 4095#32
  let v819 : BitVec 32 := Scalar.minsi v818 c4095_i32_542
  let c8_i32_543 : BitVec 32 := 8#32
  let v820 : BitVec 32 := Scalar.muli v819 c8_i32_543
  let v821 : Index := Scalar.indexCast v820
  let c0_544 : Index := 0#32
  ![v821.toNat, 0]

def k0_chk91 (i : grid0.Coords) (v817 : BitVec 32) : Prop :=
  (∀ (k0_h1 : k0_cond1 i = 1#1), ∀ a, (k0_off92 v817) a + S8x128.size a ≤ S32768x128.size a)
theorem k0_off92_inb : ∀ (i : grid0.Coords) (v817 : BitVec 32) (k0_hw91 : k0_chk91 i v817), ∀ (k0_h1 : k0_cond1 i = 1#1), ∀ a, (k0_off92 v817) a + S8x128.size a ≤ S32768x128.size a := fun i v817 k0_hw91 k0_h1 => k0_hw91 k0_h1

def k0_off93 (v826 : BitVec 32) : Fin 2 → Nat :=
  let c3_i32_547 : BitVec 32 := 3#32
  let v827 : BitVec 32 := Scalar.shrsi v826 c3_i32_547
  let c4095_i32_548 : BitVec 32 := 4095#32
  let v828 : BitVec 32 := Scalar.minsi v827 c4095_i32_548
  let c8_i32_549 : BitVec 32 := 8#32
  let v829 : BitVec 32 := Scalar.muli v828 c8_i32_549
  let v830 : Index := Scalar.indexCast v829
  let c0_550 : Index := 0#32
  ![v830.toNat, 0]

def k0_chk92 (i : grid0.Coords) (v826 : BitVec 32) : Prop :=
  (∀ (k0_h1 : k0_cond1 i = 1#1), ∀ a, (k0_off93 v826) a + S8x128.size a ≤ S32768x128.size a)
theorem k0_off93_inb : ∀ (i : grid0.Coords) (v826 : BitVec 32) (k0_hw92 : k0_chk92 i v826), ∀ (k0_h1 : k0_cond1 i = 1#1), ∀ a, (k0_off93 v826) a + S8x128.size a ≤ S32768x128.size a := fun i v826 k0_hw92 k0_h1 => k0_hw92 k0_h1

def k0_off94 (v835 : BitVec 32) : Fin 2 → Nat :=
  let c3_i32_553 : BitVec 32 := 3#32
  let v836 : BitVec 32 := Scalar.shrsi v835 c3_i32_553
  let c4095_i32_554 : BitVec 32 := 4095#32
  let v837 : BitVec 32 := Scalar.minsi v836 c4095_i32_554
  let c8_i32_555 : BitVec 32 := 8#32
  let v838 : BitVec 32 := Scalar.muli v837 c8_i32_555
  let v839 : Index := Scalar.indexCast v838
  let c0_556 : Index := 0#32
  ![v839.toNat, 0]

def k0_chk93 (i : grid0.Coords) (v835 : BitVec 32) : Prop :=
  (∀ (k0_h1 : k0_cond1 i = 1#1), ∀ a, (k0_off94 v835) a + S8x128.size a ≤ S32768x128.size a)
theorem k0_off94_inb : ∀ (i : grid0.Coords) (v835 : BitVec 32) (k0_hw93 : k0_chk93 i v835), ∀ (k0_h1 : k0_cond1 i = 1#1), ∀ a, (k0_off94 v835) a + S8x128.size a ≤ S32768x128.size a := fun i v835 k0_hw93 k0_h1 => k0_hw93 k0_h1

def k0_off95 (v844 : BitVec 32) : Fin 2 → Nat :=
  let c3_i32_559 : BitVec 32 := 3#32
  let v845 : BitVec 32 := Scalar.shrsi v844 c3_i32_559
  let c4095_i32_560 : BitVec 32 := 4095#32
  let v846 : BitVec 32 := Scalar.minsi v845 c4095_i32_560
  let c8_i32_561 : BitVec 32 := 8#32
  let v847 : BitVec 32 := Scalar.muli v846 c8_i32_561
  let v848 : Index := Scalar.indexCast v847
  let c0_562 : Index := 0#32
  ![v848.toNat, 0]

def k0_chk94 (i : grid0.Coords) (v844 : BitVec 32) : Prop :=
  (∀ (k0_h1 : k0_cond1 i = 1#1), ∀ a, (k0_off95 v844) a + S8x128.size a ≤ S32768x128.size a)
theorem k0_off95_inb : ∀ (i : grid0.Coords) (v844 : BitVec 32) (k0_hw94 : k0_chk94 i v844), ∀ (k0_h1 : k0_cond1 i = 1#1), ∀ a, (k0_off95 v844) a + S8x128.size a ≤ S32768x128.size a := fun i v844 k0_hw94 k0_h1 => k0_hw94 k0_h1

def k0_off96 (v853 : BitVec 32) : Fin 2 → Nat :=
  let c3_i32_565 : BitVec 32 := 3#32
  let v854 : BitVec 32 := Scalar.shrsi v853 c3_i32_565
  let c4095_i32_566 : BitVec 32 := 4095#32
  let v855 : BitVec 32 := Scalar.minsi v854 c4095_i32_566
  let c8_i32_567 : BitVec 32 := 8#32
  let v856 : BitVec 32 := Scalar.muli v855 c8_i32_567
  let v857 : Index := Scalar.indexCast v856
  let c0_568 : Index := 0#32
  ![v857.toNat, 0]

def k0_chk95 (i : grid0.Coords) (v853 : BitVec 32) : Prop :=
  (∀ (k0_h1 : k0_cond1 i = 1#1), ∀ a, (k0_off96 v853) a + S8x128.size a ≤ S32768x128.size a)
theorem k0_off96_inb : ∀ (i : grid0.Coords) (v853 : BitVec 32) (k0_hw95 : k0_chk95 i v853), ∀ (k0_h1 : k0_cond1 i = 1#1), ∀ a, (k0_off96 v853) a + S8x128.size a ≤ S32768x128.size a := fun i v853 k0_hw95 k0_h1 => k0_hw95 k0_h1

def k0_off97 (v862 : BitVec 32) : Fin 2 → Nat :=
  let c3_i32_571 : BitVec 32 := 3#32
  let v863 : BitVec 32 := Scalar.shrsi v862 c3_i32_571
  let c4095_i32_572 : BitVec 32 := 4095#32
  let v864 : BitVec 32 := Scalar.minsi v863 c4095_i32_572
  let c8_i32_573 : BitVec 32 := 8#32
  let v865 : BitVec 32 := Scalar.muli v864 c8_i32_573
  let v866 : Index := Scalar.indexCast v865
  let c0_574 : Index := 0#32
  ![v866.toNat, 0]

def k0_chk96 (i : grid0.Coords) (v862 : BitVec 32) : Prop :=
  (∀ (k0_h1 : k0_cond1 i = 1#1), ∀ a, (k0_off97 v862) a + S8x128.size a ≤ S32768x128.size a)
theorem k0_off97_inb : ∀ (i : grid0.Coords) (v862 : BitVec 32) (k0_hw96 : k0_chk96 i v862), ∀ (k0_h1 : k0_cond1 i = 1#1), ∀ a, (k0_off97 v862) a + S8x128.size a ≤ S32768x128.size a := fun i v862 k0_hw96 k0_h1 => k0_hw96 k0_h1

def k0_off98 (v871 : BitVec 32) : Fin 2 → Nat :=
  let c3_i32_577 : BitVec 32 := 3#32
  let v872 : BitVec 32 := Scalar.shrsi v871 c3_i32_577
  let c4095_i32_578 : BitVec 32 := 4095#32
  let v873 : BitVec 32 := Scalar.minsi v872 c4095_i32_578
  let c8_i32_579 : BitVec 32 := 8#32
  let v874 : BitVec 32 := Scalar.muli v873 c8_i32_579
  let v875 : Index := Scalar.indexCast v874
  let c0_580 : Index := 0#32
  ![v875.toNat, 0]

def k0_chk97 (i : grid0.Coords) (v871 : BitVec 32) : Prop :=
  (∀ (k0_h1 : k0_cond1 i = 1#1), ∀ a, (k0_off98 v871) a + S8x128.size a ≤ S32768x128.size a)
theorem k0_off98_inb : ∀ (i : grid0.Coords) (v871 : BitVec 32) (k0_hw97 : k0_chk97 i v871), ∀ (k0_h1 : k0_cond1 i = 1#1), ∀ a, (k0_off98 v871) a + S8x128.size a ≤ S32768x128.size a := fun i v871 k0_hw97 k0_h1 => k0_hw97 k0_h1

def k0_off99 (v880 : BitVec 32) : Fin 2 → Nat :=
  let c3_i32_583 : BitVec 32 := 3#32
  let v881 : BitVec 32 := Scalar.shrsi v880 c3_i32_583
  let c4095_i32_584 : BitVec 32 := 4095#32
  let v882 : BitVec 32 := Scalar.minsi v881 c4095_i32_584
  let c8_i32_585 : BitVec 32 := 8#32
  let v883 : BitVec 32 := Scalar.muli v882 c8_i32_585
  let v884 : Index := Scalar.indexCast v883
  let c0_586 : Index := 0#32
  ![v884.toNat, 0]

def k0_chk98 (i : grid0.Coords) (v880 : BitVec 32) : Prop :=
  (∀ (k0_h1 : k0_cond1 i = 1#1), ∀ a, (k0_off99 v880) a + S8x128.size a ≤ S32768x128.size a)
theorem k0_off99_inb : ∀ (i : grid0.Coords) (v880 : BitVec 32) (k0_hw98 : k0_chk98 i v880), ∀ (k0_h1 : k0_cond1 i = 1#1), ∀ a, (k0_off99 v880) a + S8x128.size a ≤ S32768x128.size a := fun i v880 k0_hw98 k0_h1 => k0_hw98 k0_h1

def k0_off100 (v889 : BitVec 32) : Fin 2 → Nat :=
  let c3_i32_589 : BitVec 32 := 3#32
  let v890 : BitVec 32 := Scalar.shrsi v889 c3_i32_589
  let c4095_i32_590 : BitVec 32 := 4095#32
  let v891 : BitVec 32 := Scalar.minsi v890 c4095_i32_590
  let c8_i32_591 : BitVec 32 := 8#32
  let v892 : BitVec 32 := Scalar.muli v891 c8_i32_591
  let v893 : Index := Scalar.indexCast v892
  let c0_592 : Index := 0#32
  ![v893.toNat, 0]

def k0_chk99 (i : grid0.Coords) (v889 : BitVec 32) : Prop :=
  (∀ (k0_h1 : k0_cond1 i = 1#1), ∀ a, (k0_off100 v889) a + S8x128.size a ≤ S32768x128.size a)
theorem k0_off100_inb : ∀ (i : grid0.Coords) (v889 : BitVec 32) (k0_hw99 : k0_chk99 i v889), ∀ (k0_h1 : k0_cond1 i = 1#1), ∀ a, (k0_off100 v889) a + S8x128.size a ≤ S32768x128.size a := fun i v889 k0_hw99 k0_h1 => k0_hw99 k0_h1

def k0_off101 (v898 : BitVec 32) : Fin 2 → Nat :=
  let c3_i32_595 : BitVec 32 := 3#32
  let v899 : BitVec 32 := Scalar.shrsi v898 c3_i32_595
  let c4095_i32_596 : BitVec 32 := 4095#32
  let v900 : BitVec 32 := Scalar.minsi v899 c4095_i32_596
  let c8_i32_597 : BitVec 32 := 8#32
  let v901 : BitVec 32 := Scalar.muli v900 c8_i32_597
  let v902 : Index := Scalar.indexCast v901
  let c0_598 : Index := 0#32
  ![v902.toNat, 0]

def k0_chk100 (i : grid0.Coords) (v898 : BitVec 32) : Prop :=
  (∀ (k0_h1 : k0_cond1 i = 1#1), ∀ a, (k0_off101 v898) a + S8x128.size a ≤ S32768x128.size a)
theorem k0_off101_inb : ∀ (i : grid0.Coords) (v898 : BitVec 32) (k0_hw100 : k0_chk100 i v898), ∀ (k0_h1 : k0_cond1 i = 1#1), ∀ a, (k0_off101 v898) a + S8x128.size a ≤ S32768x128.size a := fun i v898 k0_hw100 k0_h1 => k0_hw100 k0_h1

def k0_off102 (v907 : BitVec 32) : Fin 2 → Nat :=
  let c3_i32_601 : BitVec 32 := 3#32
  let v908 : BitVec 32 := Scalar.shrsi v907 c3_i32_601
  let c4095_i32_602 : BitVec 32 := 4095#32
  let v909 : BitVec 32 := Scalar.minsi v908 c4095_i32_602
  let c8_i32_603 : BitVec 32 := 8#32
  let v910 : BitVec 32 := Scalar.muli v909 c8_i32_603
  let v911 : Index := Scalar.indexCast v910
  let c0_604 : Index := 0#32
  ![v911.toNat, 0]

def k0_chk101 (i : grid0.Coords) (v907 : BitVec 32) : Prop :=
  (∀ (k0_h1 : k0_cond1 i = 1#1), ∀ a, (k0_off102 v907) a + S8x128.size a ≤ S32768x128.size a)
theorem k0_off102_inb : ∀ (i : grid0.Coords) (v907 : BitVec 32) (k0_hw101 : k0_chk101 i v907), ∀ (k0_h1 : k0_cond1 i = 1#1), ∀ a, (k0_off102 v907) a + S8x128.size a ≤ S32768x128.size a := fun i v907 k0_hw101 k0_h1 => k0_hw101 k0_h1

def k0_off103 (v916 : BitVec 32) : Fin 2 → Nat :=
  let c3_i32_607 : BitVec 32 := 3#32
  let v917 : BitVec 32 := Scalar.shrsi v916 c3_i32_607
  let c4095_i32_608 : BitVec 32 := 4095#32
  let v918 : BitVec 32 := Scalar.minsi v917 c4095_i32_608
  let c8_i32_609 : BitVec 32 := 8#32
  let v919 : BitVec 32 := Scalar.muli v918 c8_i32_609
  let v920 : Index := Scalar.indexCast v919
  let c0_610 : Index := 0#32
  ![v920.toNat, 0]

def k0_chk102 (i : grid0.Coords) (v916 : BitVec 32) : Prop :=
  (∀ (k0_h1 : k0_cond1 i = 1#1), ∀ a, (k0_off103 v916) a + S8x128.size a ≤ S32768x128.size a)
theorem k0_off103_inb : ∀ (i : grid0.Coords) (v916 : BitVec 32) (k0_hw102 : k0_chk102 i v916), ∀ (k0_h1 : k0_cond1 i = 1#1), ∀ a, (k0_off103 v916) a + S8x128.size a ≤ S32768x128.size a := fun i v916 k0_hw102 k0_h1 => k0_hw102 k0_h1

def k0_off104 (v925 : BitVec 32) : Fin 2 → Nat :=
  let c3_i32_613 : BitVec 32 := 3#32
  let v926 : BitVec 32 := Scalar.shrsi v925 c3_i32_613
  let c4095_i32_614 : BitVec 32 := 4095#32
  let v927 : BitVec 32 := Scalar.minsi v926 c4095_i32_614
  let c8_i32_615 : BitVec 32 := 8#32
  let v928 : BitVec 32 := Scalar.muli v927 c8_i32_615
  let v929 : Index := Scalar.indexCast v928
  let c0_616 : Index := 0#32
  ![v929.toNat, 0]

def k0_chk103 (i : grid0.Coords) (v925 : BitVec 32) : Prop :=
  (∀ (k0_h1 : k0_cond1 i = 1#1), ∀ a, (k0_off104 v925) a + S8x128.size a ≤ S32768x128.size a)
theorem k0_off104_inb : ∀ (i : grid0.Coords) (v925 : BitVec 32) (k0_hw103 : k0_chk103 i v925), ∀ (k0_h1 : k0_cond1 i = 1#1), ∀ a, (k0_off104 v925) a + S8x128.size a ≤ S32768x128.size a := fun i v925 k0_hw103 k0_h1 => k0_hw103 k0_h1

def k0_off105 (v934 : BitVec 32) : Fin 2 → Nat :=
  let c3_i32_619 : BitVec 32 := 3#32
  let v935 : BitVec 32 := Scalar.shrsi v934 c3_i32_619
  let c4095_i32_620 : BitVec 32 := 4095#32
  let v936 : BitVec 32 := Scalar.minsi v935 c4095_i32_620
  let c8_i32_621 : BitVec 32 := 8#32
  let v937 : BitVec 32 := Scalar.muli v936 c8_i32_621
  let v938 : Index := Scalar.indexCast v937
  let c0_622 : Index := 0#32
  ![v938.toNat, 0]

def k0_chk104 (i : grid0.Coords) (v934 : BitVec 32) : Prop :=
  (∀ (k0_h1 : k0_cond1 i = 1#1), ∀ a, (k0_off105 v934) a + S8x128.size a ≤ S32768x128.size a)
theorem k0_off105_inb : ∀ (i : grid0.Coords) (v934 : BitVec 32) (k0_hw104 : k0_chk104 i v934), ∀ (k0_h1 : k0_cond1 i = 1#1), ∀ a, (k0_off105 v934) a + S8x128.size a ≤ S32768x128.size a := fun i v934 k0_hw104 k0_h1 => k0_hw104 k0_h1

def k0_off106 (v943 : BitVec 32) : Fin 2 → Nat :=
  let c3_i32_625 : BitVec 32 := 3#32
  let v944 : BitVec 32 := Scalar.shrsi v943 c3_i32_625
  let c4095_i32_626 : BitVec 32 := 4095#32
  let v945 : BitVec 32 := Scalar.minsi v944 c4095_i32_626
  let c8_i32_627 : BitVec 32 := 8#32
  let v946 : BitVec 32 := Scalar.muli v945 c8_i32_627
  let v947 : Index := Scalar.indexCast v946
  let c0_628 : Index := 0#32
  ![v947.toNat, 0]

def k0_chk105 (i : grid0.Coords) (v943 : BitVec 32) : Prop :=
  (∀ (k0_h1 : k0_cond1 i = 1#1), ∀ a, (k0_off106 v943) a + S8x128.size a ≤ S32768x128.size a)
theorem k0_off106_inb : ∀ (i : grid0.Coords) (v943 : BitVec 32) (k0_hw105 : k0_chk105 i v943), ∀ (k0_h1 : k0_cond1 i = 1#1), ∀ a, (k0_off106 v943) a + S8x128.size a ≤ S32768x128.size a := fun i v943 k0_hw105 k0_h1 => k0_hw105 k0_h1

def k0_off107 (v952 : BitVec 32) : Fin 2 → Nat :=
  let c3_i32_631 : BitVec 32 := 3#32
  let v953 : BitVec 32 := Scalar.shrsi v952 c3_i32_631
  let c4095_i32_632 : BitVec 32 := 4095#32
  let v954 : BitVec 32 := Scalar.minsi v953 c4095_i32_632
  let c8_i32_633 : BitVec 32 := 8#32
  let v955 : BitVec 32 := Scalar.muli v954 c8_i32_633
  let v956 : Index := Scalar.indexCast v955
  let c0_634 : Index := 0#32
  ![v956.toNat, 0]

def k0_chk106 (i : grid0.Coords) (v952 : BitVec 32) : Prop :=
  (∀ (k0_h1 : k0_cond1 i = 1#1), ∀ a, (k0_off107 v952) a + S8x128.size a ≤ S32768x128.size a)
theorem k0_off107_inb : ∀ (i : grid0.Coords) (v952 : BitVec 32) (k0_hw106 : k0_chk106 i v952), ∀ (k0_h1 : k0_cond1 i = 1#1), ∀ a, (k0_off107 v952) a + S8x128.size a ≤ S32768x128.size a := fun i v952 k0_hw106 k0_h1 => k0_hw106 k0_h1

def k0_off108 (v961 : BitVec 32) : Fin 2 → Nat :=
  let c3_i32_637 : BitVec 32 := 3#32
  let v962 : BitVec 32 := Scalar.shrsi v961 c3_i32_637
  let c4095_i32_638 : BitVec 32 := 4095#32
  let v963 : BitVec 32 := Scalar.minsi v962 c4095_i32_638
  let c8_i32_639 : BitVec 32 := 8#32
  let v964 : BitVec 32 := Scalar.muli v963 c8_i32_639
  let v965 : Index := Scalar.indexCast v964
  let c0_640 : Index := 0#32
  ![v965.toNat, 0]

def k0_chk107 (i : grid0.Coords) (v961 : BitVec 32) : Prop :=
  (∀ (k0_h1 : k0_cond1 i = 1#1), ∀ a, (k0_off108 v961) a + S8x128.size a ≤ S32768x128.size a)
theorem k0_off108_inb : ∀ (i : grid0.Coords) (v961 : BitVec 32) (k0_hw107 : k0_chk107 i v961), ∀ (k0_h1 : k0_cond1 i = 1#1), ∀ a, (k0_off108 v961) a + S8x128.size a ≤ S32768x128.size a := fun i v961 k0_hw107 k0_h1 => k0_hw107 k0_h1

def k0_off109 (v970 : BitVec 32) : Fin 2 → Nat :=
  let c3_i32_643 : BitVec 32 := 3#32
  let v971 : BitVec 32 := Scalar.shrsi v970 c3_i32_643
  let c4095_i32_644 : BitVec 32 := 4095#32
  let v972 : BitVec 32 := Scalar.minsi v971 c4095_i32_644
  let c8_i32_645 : BitVec 32 := 8#32
  let v973 : BitVec 32 := Scalar.muli v972 c8_i32_645
  let v974 : Index := Scalar.indexCast v973
  let c0_646 : Index := 0#32
  ![v974.toNat, 0]

def k0_chk108 (i : grid0.Coords) (v970 : BitVec 32) : Prop :=
  (∀ (k0_h1 : k0_cond1 i = 1#1), ∀ a, (k0_off109 v970) a + S8x128.size a ≤ S32768x128.size a)
theorem k0_off109_inb : ∀ (i : grid0.Coords) (v970 : BitVec 32) (k0_hw108 : k0_chk108 i v970), ∀ (k0_h1 : k0_cond1 i = 1#1), ∀ a, (k0_off109 v970) a + S8x128.size a ≤ S32768x128.size a := fun i v970 k0_hw108 k0_h1 => k0_hw108 k0_h1

def k0_off110 (v979 : BitVec 32) : Fin 2 → Nat :=
  let c3_i32_649 : BitVec 32 := 3#32
  let v980 : BitVec 32 := Scalar.shrsi v979 c3_i32_649
  let c4095_i32_650 : BitVec 32 := 4095#32
  let v981 : BitVec 32 := Scalar.minsi v980 c4095_i32_650
  let c8_i32_651 : BitVec 32 := 8#32
  let v982 : BitVec 32 := Scalar.muli v981 c8_i32_651
  let v983 : Index := Scalar.indexCast v982
  let c0_652 : Index := 0#32
  ![v983.toNat, 0]

def k0_chk109 (i : grid0.Coords) (v979 : BitVec 32) : Prop :=
  (∀ (k0_h1 : k0_cond1 i = 1#1), ∀ a, (k0_off110 v979) a + S8x128.size a ≤ S32768x128.size a)
theorem k0_off110_inb : ∀ (i : grid0.Coords) (v979 : BitVec 32) (k0_hw109 : k0_chk109 i v979), ∀ (k0_h1 : k0_cond1 i = 1#1), ∀ a, (k0_off110 v979) a + S8x128.size a ≤ S32768x128.size a := fun i v979 k0_hw109 k0_h1 => k0_hw109 k0_h1

def k0_off111 (v988 : BitVec 32) : Fin 2 → Nat :=
  let c3_i32_655 : BitVec 32 := 3#32
  let v989 : BitVec 32 := Scalar.shrsi v988 c3_i32_655
  let c4095_i32_656 : BitVec 32 := 4095#32
  let v990 : BitVec 32 := Scalar.minsi v989 c4095_i32_656
  let c8_i32_657 : BitVec 32 := 8#32
  let v991 : BitVec 32 := Scalar.muli v990 c8_i32_657
  let v992 : Index := Scalar.indexCast v991
  let c0_658 : Index := 0#32
  ![v992.toNat, 0]

def k0_chk110 (i : grid0.Coords) (v988 : BitVec 32) : Prop :=
  (∀ (k0_h1 : k0_cond1 i = 1#1), ∀ a, (k0_off111 v988) a + S8x128.size a ≤ S32768x128.size a)
theorem k0_off111_inb : ∀ (i : grid0.Coords) (v988 : BitVec 32) (k0_hw110 : k0_chk110 i v988), ∀ (k0_h1 : k0_cond1 i = 1#1), ∀ a, (k0_off111 v988) a + S8x128.size a ≤ S32768x128.size a := fun i v988 k0_hw110 k0_h1 => k0_hw110 k0_h1

def k0_off112 (v997 : BitVec 32) : Fin 2 → Nat :=
  let c3_i32_661 : BitVec 32 := 3#32
  let v998 : BitVec 32 := Scalar.shrsi v997 c3_i32_661
  let c4095_i32_662 : BitVec 32 := 4095#32
  let v999 : BitVec 32 := Scalar.minsi v998 c4095_i32_662
  let c8_i32_663 : BitVec 32 := 8#32
  let v1000 : BitVec 32 := Scalar.muli v999 c8_i32_663
  let v1001 : Index := Scalar.indexCast v1000
  let c0_664 : Index := 0#32
  ![v1001.toNat, 0]

def k0_chk111 (i : grid0.Coords) (v997 : BitVec 32) : Prop :=
  (∀ (k0_h1 : k0_cond1 i = 1#1), ∀ a, (k0_off112 v997) a + S8x128.size a ≤ S32768x128.size a)
theorem k0_off112_inb : ∀ (i : grid0.Coords) (v997 : BitVec 32) (k0_hw111 : k0_chk111 i v997), ∀ (k0_h1 : k0_cond1 i = 1#1), ∀ a, (k0_off112 v997) a + S8x128.size a ≤ S32768x128.size a := fun i v997 k0_hw111 k0_h1 => k0_hw111 k0_h1

def k0_off113 (v1006 : BitVec 32) : Fin 2 → Nat :=
  let c3_i32_667 : BitVec 32 := 3#32
  let v1007 : BitVec 32 := Scalar.shrsi v1006 c3_i32_667
  let c4095_i32_668 : BitVec 32 := 4095#32
  let v1008 : BitVec 32 := Scalar.minsi v1007 c4095_i32_668
  let c8_i32_669 : BitVec 32 := 8#32
  let v1009 : BitVec 32 := Scalar.muli v1008 c8_i32_669
  let v1010 : Index := Scalar.indexCast v1009
  let c0_670 : Index := 0#32
  ![v1010.toNat, 0]

def k0_chk112 (i : grid0.Coords) (v1006 : BitVec 32) : Prop :=
  (∀ (k0_h1 : k0_cond1 i = 1#1), ∀ a, (k0_off113 v1006) a + S8x128.size a ≤ S32768x128.size a)
theorem k0_off113_inb : ∀ (i : grid0.Coords) (v1006 : BitVec 32) (k0_hw112 : k0_chk112 i v1006), ∀ (k0_h1 : k0_cond1 i = 1#1), ∀ a, (k0_off113 v1006) a + S8x128.size a ≤ S32768x128.size a := fun i v1006 k0_hw112 k0_h1 => k0_hw112 k0_h1

def k0_off114 (v1015 : BitVec 32) : Fin 2 → Nat :=
  let c3_i32_673 : BitVec 32 := 3#32
  let v1016 : BitVec 32 := Scalar.shrsi v1015 c3_i32_673
  let c4095_i32_674 : BitVec 32 := 4095#32
  let v1017 : BitVec 32 := Scalar.minsi v1016 c4095_i32_674
  let c8_i32_675 : BitVec 32 := 8#32
  let v1018 : BitVec 32 := Scalar.muli v1017 c8_i32_675
  let v1019 : Index := Scalar.indexCast v1018
  let c0_676 : Index := 0#32
  ![v1019.toNat, 0]

def k0_chk113 (i : grid0.Coords) (v1015 : BitVec 32) : Prop :=
  (∀ (k0_h1 : k0_cond1 i = 1#1), ∀ a, (k0_off114 v1015) a + S8x128.size a ≤ S32768x128.size a)
theorem k0_off114_inb : ∀ (i : grid0.Coords) (v1015 : BitVec 32) (k0_hw113 : k0_chk113 i v1015), ∀ (k0_h1 : k0_cond1 i = 1#1), ∀ a, (k0_off114 v1015) a + S8x128.size a ≤ S32768x128.size a := fun i v1015 k0_hw113 k0_h1 => k0_hw113 k0_h1

def k0_off115 (v1024 : BitVec 32) : Fin 2 → Nat :=
  let c3_i32_679 : BitVec 32 := 3#32
  let v1025 : BitVec 32 := Scalar.shrsi v1024 c3_i32_679
  let c4095_i32_680 : BitVec 32 := 4095#32
  let v1026 : BitVec 32 := Scalar.minsi v1025 c4095_i32_680
  let c8_i32_681 : BitVec 32 := 8#32
  let v1027 : BitVec 32 := Scalar.muli v1026 c8_i32_681
  let v1028 : Index := Scalar.indexCast v1027
  let c0_682 : Index := 0#32
  ![v1028.toNat, 0]

def k0_chk114 (i : grid0.Coords) (v1024 : BitVec 32) : Prop :=
  (∀ (k0_h1 : k0_cond1 i = 1#1), ∀ a, (k0_off115 v1024) a + S8x128.size a ≤ S32768x128.size a)
theorem k0_off115_inb : ∀ (i : grid0.Coords) (v1024 : BitVec 32) (k0_hw114 : k0_chk114 i v1024), ∀ (k0_h1 : k0_cond1 i = 1#1), ∀ a, (k0_off115 v1024) a + S8x128.size a ≤ S32768x128.size a := fun i v1024 k0_hw114 k0_h1 => k0_hw114 k0_h1

def k0_off116 (v1033 : BitVec 32) : Fin 2 → Nat :=
  let c3_i32_685 : BitVec 32 := 3#32
  let v1034 : BitVec 32 := Scalar.shrsi v1033 c3_i32_685
  let c4095_i32_686 : BitVec 32 := 4095#32
  let v1035 : BitVec 32 := Scalar.minsi v1034 c4095_i32_686
  let c8_i32_687 : BitVec 32 := 8#32
  let v1036 : BitVec 32 := Scalar.muli v1035 c8_i32_687
  let v1037 : Index := Scalar.indexCast v1036
  let c0_688 : Index := 0#32
  ![v1037.toNat, 0]

def k0_chk115 (i : grid0.Coords) (v1033 : BitVec 32) : Prop :=
  (∀ (k0_h1 : k0_cond1 i = 1#1), ∀ a, (k0_off116 v1033) a + S8x128.size a ≤ S32768x128.size a)
theorem k0_off116_inb : ∀ (i : grid0.Coords) (v1033 : BitVec 32) (k0_hw115 : k0_chk115 i v1033), ∀ (k0_h1 : k0_cond1 i = 1#1), ∀ a, (k0_off116 v1033) a + S8x128.size a ≤ S32768x128.size a := fun i v1033 k0_hw115 k0_h1 => k0_hw115 k0_h1

def k0_off117 (v1042 : BitVec 32) : Fin 2 → Nat :=
  let c3_i32_691 : BitVec 32 := 3#32
  let v1043 : BitVec 32 := Scalar.shrsi v1042 c3_i32_691
  let c4095_i32_692 : BitVec 32 := 4095#32
  let v1044 : BitVec 32 := Scalar.minsi v1043 c4095_i32_692
  let c8_i32_693 : BitVec 32 := 8#32
  let v1045 : BitVec 32 := Scalar.muli v1044 c8_i32_693
  let v1046 : Index := Scalar.indexCast v1045
  let c0_694 : Index := 0#32
  ![v1046.toNat, 0]

def k0_chk116 (i : grid0.Coords) (v1042 : BitVec 32) : Prop :=
  (∀ (k0_h1 : k0_cond1 i = 1#1), ∀ a, (k0_off117 v1042) a + S8x128.size a ≤ S32768x128.size a)
theorem k0_off117_inb : ∀ (i : grid0.Coords) (v1042 : BitVec 32) (k0_hw116 : k0_chk116 i v1042), ∀ (k0_h1 : k0_cond1 i = 1#1), ∀ a, (k0_off117 v1042) a + S8x128.size a ≤ S32768x128.size a := fun i v1042 k0_hw116 k0_h1 => k0_hw116 k0_h1

def k0_off118 (v1051 : BitVec 32) : Fin 2 → Nat :=
  let c3_i32_697 : BitVec 32 := 3#32
  let v1052 : BitVec 32 := Scalar.shrsi v1051 c3_i32_697
  let c4095_i32_698 : BitVec 32 := 4095#32
  let v1053 : BitVec 32 := Scalar.minsi v1052 c4095_i32_698
  let c8_i32_699 : BitVec 32 := 8#32
  let v1054 : BitVec 32 := Scalar.muli v1053 c8_i32_699
  let v1055 : Index := Scalar.indexCast v1054
  let c0_700 : Index := 0#32
  ![v1055.toNat, 0]

def k0_chk117 (i : grid0.Coords) (v1051 : BitVec 32) : Prop :=
  (∀ (k0_h1 : k0_cond1 i = 1#1), ∀ a, (k0_off118 v1051) a + S8x128.size a ≤ S32768x128.size a)
theorem k0_off118_inb : ∀ (i : grid0.Coords) (v1051 : BitVec 32) (k0_hw117 : k0_chk117 i v1051), ∀ (k0_h1 : k0_cond1 i = 1#1), ∀ a, (k0_off118 v1051) a + S8x128.size a ≤ S32768x128.size a := fun i v1051 k0_hw117 k0_h1 => k0_hw117 k0_h1

def k0_off119 (v1060 : BitVec 32) : Fin 2 → Nat :=
  let c3_i32_703 : BitVec 32 := 3#32
  let v1061 : BitVec 32 := Scalar.shrsi v1060 c3_i32_703
  let c4095_i32_704 : BitVec 32 := 4095#32
  let v1062 : BitVec 32 := Scalar.minsi v1061 c4095_i32_704
  let c8_i32_705 : BitVec 32 := 8#32
  let v1063 : BitVec 32 := Scalar.muli v1062 c8_i32_705
  let v1064 : Index := Scalar.indexCast v1063
  let c0_706 : Index := 0#32
  ![v1064.toNat, 0]

def k0_chk118 (i : grid0.Coords) (v1060 : BitVec 32) : Prop :=
  (∀ (k0_h1 : k0_cond1 i = 1#1), ∀ a, (k0_off119 v1060) a + S8x128.size a ≤ S32768x128.size a)
theorem k0_off119_inb : ∀ (i : grid0.Coords) (v1060 : BitVec 32) (k0_hw118 : k0_chk118 i v1060), ∀ (k0_h1 : k0_cond1 i = 1#1), ∀ a, (k0_off119 v1060) a + S8x128.size a ≤ S32768x128.size a := fun i v1060 k0_hw118 k0_h1 => k0_hw118 k0_h1

def k0_off120 (v1069 : BitVec 32) : Fin 2 → Nat :=
  let c3_i32_709 : BitVec 32 := 3#32
  let v1070 : BitVec 32 := Scalar.shrsi v1069 c3_i32_709
  let c4095_i32_710 : BitVec 32 := 4095#32
  let v1071 : BitVec 32 := Scalar.minsi v1070 c4095_i32_710
  let c8_i32_711 : BitVec 32 := 8#32
  let v1072 : BitVec 32 := Scalar.muli v1071 c8_i32_711
  let v1073 : Index := Scalar.indexCast v1072
  let c0_712 : Index := 0#32
  ![v1073.toNat, 0]

def k0_chk119 (i : grid0.Coords) (v1069 : BitVec 32) : Prop :=
  (∀ (k0_h1 : k0_cond1 i = 1#1), ∀ a, (k0_off120 v1069) a + S8x128.size a ≤ S32768x128.size a)
theorem k0_off120_inb : ∀ (i : grid0.Coords) (v1069 : BitVec 32) (k0_hw119 : k0_chk119 i v1069), ∀ (k0_h1 : k0_cond1 i = 1#1), ∀ a, (k0_off120 v1069) a + S8x128.size a ≤ S32768x128.size a := fun i v1069 k0_hw119 k0_h1 => k0_hw119 k0_h1

def k0_off121 (v1078 : BitVec 32) : Fin 2 → Nat :=
  let c3_i32_715 : BitVec 32 := 3#32
  let v1079 : BitVec 32 := Scalar.shrsi v1078 c3_i32_715
  let c4095_i32_716 : BitVec 32 := 4095#32
  let v1080 : BitVec 32 := Scalar.minsi v1079 c4095_i32_716
  let c8_i32_717 : BitVec 32 := 8#32
  let v1081 : BitVec 32 := Scalar.muli v1080 c8_i32_717
  let v1082 : Index := Scalar.indexCast v1081
  let c0_718 : Index := 0#32
  ![v1082.toNat, 0]

def k0_chk120 (i : grid0.Coords) (v1078 : BitVec 32) : Prop :=
  (∀ (k0_h1 : k0_cond1 i = 1#1), ∀ a, (k0_off121 v1078) a + S8x128.size a ≤ S32768x128.size a)
theorem k0_off121_inb : ∀ (i : grid0.Coords) (v1078 : BitVec 32) (k0_hw120 : k0_chk120 i v1078), ∀ (k0_h1 : k0_cond1 i = 1#1), ∀ a, (k0_off121 v1078) a + S8x128.size a ≤ S32768x128.size a := fun i v1078 k0_hw120 k0_h1 => k0_hw120 k0_h1

def k0_off122 (v1087 : BitVec 32) : Fin 2 → Nat :=
  let c3_i32_721 : BitVec 32 := 3#32
  let v1088 : BitVec 32 := Scalar.shrsi v1087 c3_i32_721
  let c4095_i32_722 : BitVec 32 := 4095#32
  let v1089 : BitVec 32 := Scalar.minsi v1088 c4095_i32_722
  let c8_i32_723 : BitVec 32 := 8#32
  let v1090 : BitVec 32 := Scalar.muli v1089 c8_i32_723
  let v1091 : Index := Scalar.indexCast v1090
  let c0_724 : Index := 0#32
  ![v1091.toNat, 0]

def k0_chk121 (i : grid0.Coords) (v1087 : BitVec 32) : Prop :=
  (∀ (k0_h1 : k0_cond1 i = 1#1), ∀ a, (k0_off122 v1087) a + S8x128.size a ≤ S32768x128.size a)
theorem k0_off122_inb : ∀ (i : grid0.Coords) (v1087 : BitVec 32) (k0_hw121 : k0_chk121 i v1087), ∀ (k0_h1 : k0_cond1 i = 1#1), ∀ a, (k0_off122 v1087) a + S8x128.size a ≤ S32768x128.size a := fun i v1087 k0_hw121 k0_h1 => k0_hw121 k0_h1

def k0_off123 (v1096 : BitVec 32) : Fin 2 → Nat :=
  let c3_i32_727 : BitVec 32 := 3#32
  let v1097 : BitVec 32 := Scalar.shrsi v1096 c3_i32_727
  let c4095_i32_728 : BitVec 32 := 4095#32
  let v1098 : BitVec 32 := Scalar.minsi v1097 c4095_i32_728
  let c8_i32_729 : BitVec 32 := 8#32
  let v1099 : BitVec 32 := Scalar.muli v1098 c8_i32_729
  let v1100 : Index := Scalar.indexCast v1099
  let c0_730 : Index := 0#32
  ![v1100.toNat, 0]

def k0_chk122 (i : grid0.Coords) (v1096 : BitVec 32) : Prop :=
  (∀ (k0_h1 : k0_cond1 i = 1#1), ∀ a, (k0_off123 v1096) a + S8x128.size a ≤ S32768x128.size a)
theorem k0_off123_inb : ∀ (i : grid0.Coords) (v1096 : BitVec 32) (k0_hw122 : k0_chk122 i v1096), ∀ (k0_h1 : k0_cond1 i = 1#1), ∀ a, (k0_off123 v1096) a + S8x128.size a ≤ S32768x128.size a := fun i v1096 k0_hw122 k0_h1 => k0_hw122 k0_h1

def k0_off124 (v1105 : BitVec 32) : Fin 2 → Nat :=
  let c3_i32_733 : BitVec 32 := 3#32
  let v1106 : BitVec 32 := Scalar.shrsi v1105 c3_i32_733
  let c4095_i32_734 : BitVec 32 := 4095#32
  let v1107 : BitVec 32 := Scalar.minsi v1106 c4095_i32_734
  let c8_i32_735 : BitVec 32 := 8#32
  let v1108 : BitVec 32 := Scalar.muli v1107 c8_i32_735
  let v1109 : Index := Scalar.indexCast v1108
  let c0_736 : Index := 0#32
  ![v1109.toNat, 0]

def k0_chk123 (i : grid0.Coords) (v1105 : BitVec 32) : Prop :=
  (∀ (k0_h1 : k0_cond1 i = 1#1), ∀ a, (k0_off124 v1105) a + S8x128.size a ≤ S32768x128.size a)
theorem k0_off124_inb : ∀ (i : grid0.Coords) (v1105 : BitVec 32) (k0_hw123 : k0_chk123 i v1105), ∀ (k0_h1 : k0_cond1 i = 1#1), ∀ a, (k0_off124 v1105) a + S8x128.size a ≤ S32768x128.size a := fun i v1105 k0_hw123 k0_h1 => k0_hw123 k0_h1

def k0_off125 (v1114 : BitVec 32) : Fin 2 → Nat :=
  let c3_i32_739 : BitVec 32 := 3#32
  let v1115 : BitVec 32 := Scalar.shrsi v1114 c3_i32_739
  let c4095_i32_740 : BitVec 32 := 4095#32
  let v1116 : BitVec 32 := Scalar.minsi v1115 c4095_i32_740
  let c8_i32_741 : BitVec 32 := 8#32
  let v1117 : BitVec 32 := Scalar.muli v1116 c8_i32_741
  let v1118 : Index := Scalar.indexCast v1117
  let c0_742 : Index := 0#32
  ![v1118.toNat, 0]

def k0_chk124 (i : grid0.Coords) (v1114 : BitVec 32) : Prop :=
  (∀ (k0_h1 : k0_cond1 i = 1#1), ∀ a, (k0_off125 v1114) a + S8x128.size a ≤ S32768x128.size a)
theorem k0_off125_inb : ∀ (i : grid0.Coords) (v1114 : BitVec 32) (k0_hw124 : k0_chk124 i v1114), ∀ (k0_h1 : k0_cond1 i = 1#1), ∀ a, (k0_off125 v1114) a + S8x128.size a ≤ S32768x128.size a := fun i v1114 k0_hw124 k0_h1 => k0_hw124 k0_h1

def k0_off126 (v1123 : BitVec 32) : Fin 2 → Nat :=
  let c3_i32_745 : BitVec 32 := 3#32
  let v1124 : BitVec 32 := Scalar.shrsi v1123 c3_i32_745
  let c4095_i32_746 : BitVec 32 := 4095#32
  let v1125 : BitVec 32 := Scalar.minsi v1124 c4095_i32_746
  let c8_i32_747 : BitVec 32 := 8#32
  let v1126 : BitVec 32 := Scalar.muli v1125 c8_i32_747
  let v1127 : Index := Scalar.indexCast v1126
  let c0_748 : Index := 0#32
  ![v1127.toNat, 0]

def k0_chk125 (i : grid0.Coords) (v1123 : BitVec 32) : Prop :=
  (∀ (k0_h1 : k0_cond1 i = 1#1), ∀ a, (k0_off126 v1123) a + S8x128.size a ≤ S32768x128.size a)
theorem k0_off126_inb : ∀ (i : grid0.Coords) (v1123 : BitVec 32) (k0_hw125 : k0_chk125 i v1123), ∀ (k0_h1 : k0_cond1 i = 1#1), ∀ a, (k0_off126 v1123) a + S8x128.size a ≤ S32768x128.size a := fun i v1123 k0_hw125 k0_h1 => k0_hw125 k0_h1

def k0_off127 (v1132 : BitVec 32) : Fin 2 → Nat :=
  let c3_i32_751 : BitVec 32 := 3#32
  let v1133 : BitVec 32 := Scalar.shrsi v1132 c3_i32_751
  let c4095_i32_752 : BitVec 32 := 4095#32
  let v1134 : BitVec 32 := Scalar.minsi v1133 c4095_i32_752
  let c8_i32_753 : BitVec 32 := 8#32
  let v1135 : BitVec 32 := Scalar.muli v1134 c8_i32_753
  let v1136 : Index := Scalar.indexCast v1135
  let c0_754 : Index := 0#32
  ![v1136.toNat, 0]

def k0_chk126 (i : grid0.Coords) (v1132 : BitVec 32) : Prop :=
  (∀ (k0_h1 : k0_cond1 i = 1#1), ∀ a, (k0_off127 v1132) a + S8x128.size a ≤ S32768x128.size a)
theorem k0_off127_inb : ∀ (i : grid0.Coords) (v1132 : BitVec 32) (k0_hw126 : k0_chk126 i v1132), ∀ (k0_h1 : k0_cond1 i = 1#1), ∀ a, (k0_off127 v1132) a + S8x128.size a ≤ S32768x128.size a := fun i v1132 k0_hw126 k0_h1 => k0_hw126 k0_h1

def k0_off128 (v1141 : BitVec 32) : Fin 2 → Nat :=
  let c3_i32_757 : BitVec 32 := 3#32
  let v1142 : BitVec 32 := Scalar.shrsi v1141 c3_i32_757
  let c4095_i32_758 : BitVec 32 := 4095#32
  let v1143 : BitVec 32 := Scalar.minsi v1142 c4095_i32_758
  let c8_i32_759 : BitVec 32 := 8#32
  let v1144 : BitVec 32 := Scalar.muli v1143 c8_i32_759
  let v1145 : Index := Scalar.indexCast v1144
  let c0_760 : Index := 0#32
  ![v1145.toNat, 0]

def k0_chk127 (i : grid0.Coords) (v1141 : BitVec 32) : Prop :=
  (∀ (k0_h1 : k0_cond1 i = 1#1), ∀ a, (k0_off128 v1141) a + S8x128.size a ≤ S32768x128.size a)
theorem k0_off128_inb : ∀ (i : grid0.Coords) (v1141 : BitVec 32) (k0_hw127 : k0_chk127 i v1141), ∀ (k0_h1 : k0_cond1 i = 1#1), ∀ a, (k0_off128 v1141) a + S8x128.size a ≤ S32768x128.size a := fun i v1141 k0_hw127 k0_h1 => k0_hw127 k0_h1

def k0_off129 (v1150 : BitVec 32) : Fin 2 → Nat :=
  let c3_i32_763 : BitVec 32 := 3#32
  let v1151 : BitVec 32 := Scalar.shrsi v1150 c3_i32_763
  let c4095_i32_764 : BitVec 32 := 4095#32
  let v1152 : BitVec 32 := Scalar.minsi v1151 c4095_i32_764
  let c8_i32_765 : BitVec 32 := 8#32
  let v1153 : BitVec 32 := Scalar.muli v1152 c8_i32_765
  let v1154 : Index := Scalar.indexCast v1153
  let c0_766 : Index := 0#32
  ![v1154.toNat, 0]

def k0_chk128 (i : grid0.Coords) (v1150 : BitVec 32) : Prop :=
  (∀ (k0_h1 : k0_cond1 i = 1#1), ∀ a, (k0_off129 v1150) a + S8x128.size a ≤ S32768x128.size a)
theorem k0_off129_inb : ∀ (i : grid0.Coords) (v1150 : BitVec 32) (k0_hw128 : k0_chk128 i v1150), ∀ (k0_h1 : k0_cond1 i = 1#1), ∀ a, (k0_off129 v1150) a + S8x128.size a ≤ S32768x128.size a := fun i v1150 k0_hw128 k0_h1 => k0_hw128 k0_h1

def k0_off130 (v1159 : BitVec 32) : Fin 2 → Nat :=
  let c3_i32_769 : BitVec 32 := 3#32
  let v1160 : BitVec 32 := Scalar.shrsi v1159 c3_i32_769
  let c4095_i32_770 : BitVec 32 := 4095#32
  let v1161 : BitVec 32 := Scalar.minsi v1160 c4095_i32_770
  let c8_i32_771 : BitVec 32 := 8#32
  let v1162 : BitVec 32 := Scalar.muli v1161 c8_i32_771
  let v1163 : Index := Scalar.indexCast v1162
  let c0_772 : Index := 0#32
  ![v1163.toNat, 0]

def k0_chk129 (i : grid0.Coords) (v1159 : BitVec 32) : Prop :=
  (∀ (k0_h1 : k0_cond1 i = 1#1), ∀ a, (k0_off130 v1159) a + S8x128.size a ≤ S32768x128.size a)
theorem k0_off130_inb : ∀ (i : grid0.Coords) (v1159 : BitVec 32) (k0_hw129 : k0_chk129 i v1159), ∀ (k0_h1 : k0_cond1 i = 1#1), ∀ a, (k0_off130 v1159) a + S8x128.size a ≤ S32768x128.size a := fun i v1159 k0_hw129 k0_h1 => k0_hw129 k0_h1

def k0_off131 (v1168 : BitVec 32) : Fin 2 → Nat :=
  let c3_i32_775 : BitVec 32 := 3#32
  let v1169 : BitVec 32 := Scalar.shrsi v1168 c3_i32_775
  let c4095_i32_776 : BitVec 32 := 4095#32
  let v1170 : BitVec 32 := Scalar.minsi v1169 c4095_i32_776
  let c8_i32_777 : BitVec 32 := 8#32
  let v1171 : BitVec 32 := Scalar.muli v1170 c8_i32_777
  let v1172 : Index := Scalar.indexCast v1171
  let c0_778 : Index := 0#32
  ![v1172.toNat, 0]

def k0_chk130 (i : grid0.Coords) (v1168 : BitVec 32) : Prop :=
  (∀ (k0_h1 : k0_cond1 i = 1#1), ∀ a, (k0_off131 v1168) a + S8x128.size a ≤ S32768x128.size a)
theorem k0_off131_inb : ∀ (i : grid0.Coords) (v1168 : BitVec 32) (k0_hw130 : k0_chk130 i v1168), ∀ (k0_h1 : k0_cond1 i = 1#1), ∀ a, (k0_off131 v1168) a + S8x128.size a ≤ S32768x128.size a := fun i v1168 k0_hw130 k0_h1 => k0_hw130 k0_h1

def k0_off132 (v1177 : BitVec 32) : Fin 2 → Nat :=
  let c3_i32_781 : BitVec 32 := 3#32
  let v1178 : BitVec 32 := Scalar.shrsi v1177 c3_i32_781
  let c4095_i32_782 : BitVec 32 := 4095#32
  let v1179 : BitVec 32 := Scalar.minsi v1178 c4095_i32_782
  let c8_i32_783 : BitVec 32 := 8#32
  let v1180 : BitVec 32 := Scalar.muli v1179 c8_i32_783
  let v1181 : Index := Scalar.indexCast v1180
  let c0_784 : Index := 0#32
  ![v1181.toNat, 0]

def k0_chk131 (i : grid0.Coords) (v1177 : BitVec 32) : Prop :=
  (∀ (k0_h1 : k0_cond1 i = 1#1), ∀ a, (k0_off132 v1177) a + S8x128.size a ≤ S32768x128.size a)
theorem k0_off132_inb : ∀ (i : grid0.Coords) (v1177 : BitVec 32) (k0_hw131 : k0_chk131 i v1177), ∀ (k0_h1 : k0_cond1 i = 1#1), ∀ a, (k0_off132 v1177) a + S8x128.size a ≤ S32768x128.size a := fun i v1177 k0_hw131 k0_h1 => k0_hw131 k0_h1

def k0_off133 (v1186 : BitVec 32) : Fin 2 → Nat :=
  let c3_i32_787 : BitVec 32 := 3#32
  let v1187 : BitVec 32 := Scalar.shrsi v1186 c3_i32_787
  let c4095_i32_788 : BitVec 32 := 4095#32
  let v1188 : BitVec 32 := Scalar.minsi v1187 c4095_i32_788
  let c8_i32_789 : BitVec 32 := 8#32
  let v1189 : BitVec 32 := Scalar.muli v1188 c8_i32_789
  let v1190 : Index := Scalar.indexCast v1189
  let c0_790 : Index := 0#32
  ![v1190.toNat, 0]

def k0_chk132 (i : grid0.Coords) (v1186 : BitVec 32) : Prop :=
  (∀ (k0_h1 : k0_cond1 i = 1#1), ∀ a, (k0_off133 v1186) a + S8x128.size a ≤ S32768x128.size a)
theorem k0_off133_inb : ∀ (i : grid0.Coords) (v1186 : BitVec 32) (k0_hw132 : k0_chk132 i v1186), ∀ (k0_h1 : k0_cond1 i = 1#1), ∀ a, (k0_off133 v1186) a + S8x128.size a ≤ S32768x128.size a := fun i v1186 k0_hw132 k0_h1 => k0_hw132 k0_h1

def k0_off134 (v1195 : BitVec 32) : Fin 2 → Nat :=
  let c3_i32_793 : BitVec 32 := 3#32
  let v1196 : BitVec 32 := Scalar.shrsi v1195 c3_i32_793
  let c4095_i32_794 : BitVec 32 := 4095#32
  let v1197 : BitVec 32 := Scalar.minsi v1196 c4095_i32_794
  let c8_i32_795 : BitVec 32 := 8#32
  let v1198 : BitVec 32 := Scalar.muli v1197 c8_i32_795
  let v1199 : Index := Scalar.indexCast v1198
  let c0_796 : Index := 0#32
  ![v1199.toNat, 0]

def k0_chk133 (i : grid0.Coords) (v1195 : BitVec 32) : Prop :=
  (∀ (k0_h1 : k0_cond1 i = 1#1), ∀ a, (k0_off134 v1195) a + S8x128.size a ≤ S32768x128.size a)
theorem k0_off134_inb : ∀ (i : grid0.Coords) (v1195 : BitVec 32) (k0_hw133 : k0_chk133 i v1195), ∀ (k0_h1 : k0_cond1 i = 1#1), ∀ a, (k0_off134 v1195) a + S8x128.size a ≤ S32768x128.size a := fun i v1195 k0_hw133 k0_h1 => k0_hw133 k0_h1

def k0_off135 (v1204 : BitVec 32) : Fin 2 → Nat :=
  let c3_i32_799 : BitVec 32 := 3#32
  let v1205 : BitVec 32 := Scalar.shrsi v1204 c3_i32_799
  let c4095_i32_800 : BitVec 32 := 4095#32
  let v1206 : BitVec 32 := Scalar.minsi v1205 c4095_i32_800
  let c8_i32_801 : BitVec 32 := 8#32
  let v1207 : BitVec 32 := Scalar.muli v1206 c8_i32_801
  let v1208 : Index := Scalar.indexCast v1207
  let c0_802 : Index := 0#32
  ![v1208.toNat, 0]

def k0_chk134 (i : grid0.Coords) (v1204 : BitVec 32) : Prop :=
  (∀ (k0_h1 : k0_cond1 i = 1#1), ∀ a, (k0_off135 v1204) a + S8x128.size a ≤ S32768x128.size a)
theorem k0_off135_inb : ∀ (i : grid0.Coords) (v1204 : BitVec 32) (k0_hw134 : k0_chk134 i v1204), ∀ (k0_h1 : k0_cond1 i = 1#1), ∀ a, (k0_off135 v1204) a + S8x128.size a ≤ S32768x128.size a := fun i v1204 k0_hw134 k0_h1 => k0_hw134 k0_h1

def k0_off136 (v1213 : BitVec 32) : Fin 2 → Nat :=
  let c3_i32_805 : BitVec 32 := 3#32
  let v1214 : BitVec 32 := Scalar.shrsi v1213 c3_i32_805
  let c4095_i32_806 : BitVec 32 := 4095#32
  let v1215 : BitVec 32 := Scalar.minsi v1214 c4095_i32_806
  let c8_i32_807 : BitVec 32 := 8#32
  let v1216 : BitVec 32 := Scalar.muli v1215 c8_i32_807
  let v1217 : Index := Scalar.indexCast v1216
  let c0_808 : Index := 0#32
  ![v1217.toNat, 0]

def k0_chk135 (i : grid0.Coords) (v1213 : BitVec 32) : Prop :=
  (∀ (k0_h1 : k0_cond1 i = 1#1), ∀ a, (k0_off136 v1213) a + S8x128.size a ≤ S32768x128.size a)
theorem k0_off136_inb : ∀ (i : grid0.Coords) (v1213 : BitVec 32) (k0_hw135 : k0_chk135 i v1213), ∀ (k0_h1 : k0_cond1 i = 1#1), ∀ a, (k0_off136 v1213) a + S8x128.size a ≤ S32768x128.size a := fun i v1213 k0_hw135 k0_h1 => k0_hw135 k0_h1

def k0_off137 (v1222 : BitVec 32) : Fin 2 → Nat :=
  let c3_i32_811 : BitVec 32 := 3#32
  let v1223 : BitVec 32 := Scalar.shrsi v1222 c3_i32_811
  let c4095_i32_812 : BitVec 32 := 4095#32
  let v1224 : BitVec 32 := Scalar.minsi v1223 c4095_i32_812
  let c8_i32_813 : BitVec 32 := 8#32
  let v1225 : BitVec 32 := Scalar.muli v1224 c8_i32_813
  let v1226 : Index := Scalar.indexCast v1225
  let c0_814 : Index := 0#32
  ![v1226.toNat, 0]

def k0_chk136 (i : grid0.Coords) (v1222 : BitVec 32) : Prop :=
  (∀ (k0_h1 : k0_cond1 i = 1#1), ∀ a, (k0_off137 v1222) a + S8x128.size a ≤ S32768x128.size a)
theorem k0_off137_inb : ∀ (i : grid0.Coords) (v1222 : BitVec 32) (k0_hw136 : k0_chk136 i v1222), ∀ (k0_h1 : k0_cond1 i = 1#1), ∀ a, (k0_off137 v1222) a + S8x128.size a ≤ S32768x128.size a := fun i v1222 k0_hw136 k0_h1 => k0_hw136 k0_h1

def k0_off138 (v1231 : BitVec 32) : Fin 2 → Nat :=
  let c3_i32_817 : BitVec 32 := 3#32
  let v1232 : BitVec 32 := Scalar.shrsi v1231 c3_i32_817
  let c4095_i32_818 : BitVec 32 := 4095#32
  let v1233 : BitVec 32 := Scalar.minsi v1232 c4095_i32_818
  let c8_i32_819 : BitVec 32 := 8#32
  let v1234 : BitVec 32 := Scalar.muli v1233 c8_i32_819
  let v1235 : Index := Scalar.indexCast v1234
  let c0_820 : Index := 0#32
  ![v1235.toNat, 0]

def k0_chk137 (i : grid0.Coords) (v1231 : BitVec 32) : Prop :=
  (∀ (k0_h1 : k0_cond1 i = 1#1), ∀ a, (k0_off138 v1231) a + S8x128.size a ≤ S32768x128.size a)
theorem k0_off138_inb : ∀ (i : grid0.Coords) (v1231 : BitVec 32) (k0_hw137 : k0_chk137 i v1231), ∀ (k0_h1 : k0_cond1 i = 1#1), ∀ a, (k0_off138 v1231) a + S8x128.size a ≤ S32768x128.size a := fun i v1231 k0_hw137 k0_h1 => k0_hw137 k0_h1

def k0_off139 (v1240 : BitVec 32) : Fin 2 → Nat :=
  let c3_i32_823 : BitVec 32 := 3#32
  let v1241 : BitVec 32 := Scalar.shrsi v1240 c3_i32_823
  let c4095_i32_824 : BitVec 32 := 4095#32
  let v1242 : BitVec 32 := Scalar.minsi v1241 c4095_i32_824
  let c8_i32_825 : BitVec 32 := 8#32
  let v1243 : BitVec 32 := Scalar.muli v1242 c8_i32_825
  let v1244 : Index := Scalar.indexCast v1243
  let c0_826 : Index := 0#32
  ![v1244.toNat, 0]

def k0_chk138 (i : grid0.Coords) (v1240 : BitVec 32) : Prop :=
  (∀ (k0_h1 : k0_cond1 i = 1#1), ∀ a, (k0_off139 v1240) a + S8x128.size a ≤ S32768x128.size a)
theorem k0_off139_inb : ∀ (i : grid0.Coords) (v1240 : BitVec 32) (k0_hw138 : k0_chk138 i v1240), ∀ (k0_h1 : k0_cond1 i = 1#1), ∀ a, (k0_off139 v1240) a + S8x128.size a ≤ S32768x128.size a := fun i v1240 k0_hw138 k0_h1 => k0_hw138 k0_h1

def k0_off140 (v1249 : BitVec 32) : Fin 2 → Nat :=
  let c3_i32_829 : BitVec 32 := 3#32
  let v1250 : BitVec 32 := Scalar.shrsi v1249 c3_i32_829
  let c4095_i32_830 : BitVec 32 := 4095#32
  let v1251 : BitVec 32 := Scalar.minsi v1250 c4095_i32_830
  let c8_i32_831 : BitVec 32 := 8#32
  let v1252 : BitVec 32 := Scalar.muli v1251 c8_i32_831
  let v1253 : Index := Scalar.indexCast v1252
  let c0_832 : Index := 0#32
  ![v1253.toNat, 0]

def k0_chk139 (i : grid0.Coords) (v1249 : BitVec 32) : Prop :=
  (∀ (k0_h1 : k0_cond1 i = 1#1), ∀ a, (k0_off140 v1249) a + S8x128.size a ≤ S32768x128.size a)
theorem k0_off140_inb : ∀ (i : grid0.Coords) (v1249 : BitVec 32) (k0_hw139 : k0_chk139 i v1249), ∀ (k0_h1 : k0_cond1 i = 1#1), ∀ a, (k0_off140 v1249) a + S8x128.size a ≤ S32768x128.size a := fun i v1249 k0_hw139 k0_h1 => k0_hw139 k0_h1

def k0_off141 (v1258 : BitVec 32) : Fin 2 → Nat :=
  let c3_i32_835 : BitVec 32 := 3#32
  let v1259 : BitVec 32 := Scalar.shrsi v1258 c3_i32_835
  let c4095_i32_836 : BitVec 32 := 4095#32
  let v1260 : BitVec 32 := Scalar.minsi v1259 c4095_i32_836
  let c8_i32_837 : BitVec 32 := 8#32
  let v1261 : BitVec 32 := Scalar.muli v1260 c8_i32_837
  let v1262 : Index := Scalar.indexCast v1261
  let c0_838 : Index := 0#32
  ![v1262.toNat, 0]

def k0_chk140 (i : grid0.Coords) (v1258 : BitVec 32) : Prop :=
  (∀ (k0_h1 : k0_cond1 i = 1#1), ∀ a, (k0_off141 v1258) a + S8x128.size a ≤ S32768x128.size a)
theorem k0_off141_inb : ∀ (i : grid0.Coords) (v1258 : BitVec 32) (k0_hw140 : k0_chk140 i v1258), ∀ (k0_h1 : k0_cond1 i = 1#1), ∀ a, (k0_off141 v1258) a + S8x128.size a ≤ S32768x128.size a := fun i v1258 k0_hw140 k0_h1 => k0_hw140 k0_h1

def k0_off142 (v1267 : BitVec 32) : Fin 2 → Nat :=
  let c3_i32_841 : BitVec 32 := 3#32
  let v1268 : BitVec 32 := Scalar.shrsi v1267 c3_i32_841
  let c4095_i32_842 : BitVec 32 := 4095#32
  let v1269 : BitVec 32 := Scalar.minsi v1268 c4095_i32_842
  let c8_i32_843 : BitVec 32 := 8#32
  let v1270 : BitVec 32 := Scalar.muli v1269 c8_i32_843
  let v1271 : Index := Scalar.indexCast v1270
  let c0_844 : Index := 0#32
  ![v1271.toNat, 0]

def k0_chk141 (i : grid0.Coords) (v1267 : BitVec 32) : Prop :=
  (∀ (k0_h1 : k0_cond1 i = 1#1), ∀ a, (k0_off142 v1267) a + S8x128.size a ≤ S32768x128.size a)
theorem k0_off142_inb : ∀ (i : grid0.Coords) (v1267 : BitVec 32) (k0_hw141 : k0_chk141 i v1267), ∀ (k0_h1 : k0_cond1 i = 1#1), ∀ a, (k0_off142 v1267) a + S8x128.size a ≤ S32768x128.size a := fun i v1267 k0_hw141 k0_h1 => k0_hw141 k0_h1

def k0_off143 (v1276 : BitVec 32) : Fin 2 → Nat :=
  let c3_i32_847 : BitVec 32 := 3#32
  let v1277 : BitVec 32 := Scalar.shrsi v1276 c3_i32_847
  let c4095_i32_848 : BitVec 32 := 4095#32
  let v1278 : BitVec 32 := Scalar.minsi v1277 c4095_i32_848
  let c8_i32_849 : BitVec 32 := 8#32
  let v1279 : BitVec 32 := Scalar.muli v1278 c8_i32_849
  let v1280 : Index := Scalar.indexCast v1279
  let c0_850 : Index := 0#32
  ![v1280.toNat, 0]

def k0_chk142 (i : grid0.Coords) (v1276 : BitVec 32) : Prop :=
  (∀ (k0_h1 : k0_cond1 i = 1#1), ∀ a, (k0_off143 v1276) a + S8x128.size a ≤ S32768x128.size a)
theorem k0_off143_inb : ∀ (i : grid0.Coords) (v1276 : BitVec 32) (k0_hw142 : k0_chk142 i v1276), ∀ (k0_h1 : k0_cond1 i = 1#1), ∀ a, (k0_off143 v1276) a + S8x128.size a ≤ S32768x128.size a := fun i v1276 k0_hw142 k0_h1 => k0_hw142 k0_h1

def k0_off144 (v1285 : BitVec 32) : Fin 2 → Nat :=
  let c3_i32_853 : BitVec 32 := 3#32
  let v1286 : BitVec 32 := Scalar.shrsi v1285 c3_i32_853
  let c4095_i32_854 : BitVec 32 := 4095#32
  let v1287 : BitVec 32 := Scalar.minsi v1286 c4095_i32_854
  let c8_i32_855 : BitVec 32 := 8#32
  let v1288 : BitVec 32 := Scalar.muli v1287 c8_i32_855
  let v1289 : Index := Scalar.indexCast v1288
  let c0_856 : Index := 0#32
  ![v1289.toNat, 0]

def k0_chk143 (i : grid0.Coords) (v1285 : BitVec 32) : Prop :=
  (∀ (k0_h1 : k0_cond1 i = 1#1), ∀ a, (k0_off144 v1285) a + S8x128.size a ≤ S32768x128.size a)
theorem k0_off144_inb : ∀ (i : grid0.Coords) (v1285 : BitVec 32) (k0_hw143 : k0_chk143 i v1285), ∀ (k0_h1 : k0_cond1 i = 1#1), ∀ a, (k0_off144 v1285) a + S8x128.size a ≤ S32768x128.size a := fun i v1285 k0_hw143 k0_h1 => k0_hw143 k0_h1

def k0_off145 (v1294 : BitVec 32) : Fin 2 → Nat :=
  let c3_i32_859 : BitVec 32 := 3#32
  let v1295 : BitVec 32 := Scalar.shrsi v1294 c3_i32_859
  let c4095_i32_860 : BitVec 32 := 4095#32
  let v1296 : BitVec 32 := Scalar.minsi v1295 c4095_i32_860
  let c8_i32_861 : BitVec 32 := 8#32
  let v1297 : BitVec 32 := Scalar.muli v1296 c8_i32_861
  let v1298 : Index := Scalar.indexCast v1297
  let c0_862 : Index := 0#32
  ![v1298.toNat, 0]

def k0_chk144 (i : grid0.Coords) (v1294 : BitVec 32) : Prop :=
  (∀ (k0_h1 : k0_cond1 i = 1#1), ∀ a, (k0_off145 v1294) a + S8x128.size a ≤ S32768x128.size a)
theorem k0_off145_inb : ∀ (i : grid0.Coords) (v1294 : BitVec 32) (k0_hw144 : k0_chk144 i v1294), ∀ (k0_h1 : k0_cond1 i = 1#1), ∀ a, (k0_off145 v1294) a + S8x128.size a ≤ S32768x128.size a := fun i v1294 k0_hw144 k0_h1 => k0_hw144 k0_h1

def k0_off146 (v1303 : BitVec 32) : Fin 2 → Nat :=
  let c3_i32_865 : BitVec 32 := 3#32
  let v1304 : BitVec 32 := Scalar.shrsi v1303 c3_i32_865
  let c4095_i32_866 : BitVec 32 := 4095#32
  let v1305 : BitVec 32 := Scalar.minsi v1304 c4095_i32_866
  let c8_i32_867 : BitVec 32 := 8#32
  let v1306 : BitVec 32 := Scalar.muli v1305 c8_i32_867
  let v1307 : Index := Scalar.indexCast v1306
  let c0_868 : Index := 0#32
  ![v1307.toNat, 0]

def k0_chk145 (i : grid0.Coords) (v1303 : BitVec 32) : Prop :=
  (∀ (k0_h1 : k0_cond1 i = 1#1), ∀ a, (k0_off146 v1303) a + S8x128.size a ≤ S32768x128.size a)
theorem k0_off146_inb : ∀ (i : grid0.Coords) (v1303 : BitVec 32) (k0_hw145 : k0_chk145 i v1303), ∀ (k0_h1 : k0_cond1 i = 1#1), ∀ a, (k0_off146 v1303) a + S8x128.size a ≤ S32768x128.size a := fun i v1303 k0_hw145 k0_h1 => k0_hw145 k0_h1

def k0_off147 (v1312 : BitVec 32) : Fin 2 → Nat :=
  let c3_i32_871 : BitVec 32 := 3#32
  let v1313 : BitVec 32 := Scalar.shrsi v1312 c3_i32_871
  let c4095_i32_872 : BitVec 32 := 4095#32
  let v1314 : BitVec 32 := Scalar.minsi v1313 c4095_i32_872
  let c8_i32_873 : BitVec 32 := 8#32
  let v1315 : BitVec 32 := Scalar.muli v1314 c8_i32_873
  let v1316 : Index := Scalar.indexCast v1315
  let c0_874 : Index := 0#32
  ![v1316.toNat, 0]

def k0_chk146 (i : grid0.Coords) (v1312 : BitVec 32) : Prop :=
  (∀ (k0_h1 : k0_cond1 i = 1#1), ∀ a, (k0_off147 v1312) a + S8x128.size a ≤ S32768x128.size a)
theorem k0_off147_inb : ∀ (i : grid0.Coords) (v1312 : BitVec 32) (k0_hw146 : k0_chk146 i v1312), ∀ (k0_h1 : k0_cond1 i = 1#1), ∀ a, (k0_off147 v1312) a + S8x128.size a ≤ S32768x128.size a := fun i v1312 k0_hw146 k0_h1 => k0_hw146 k0_h1

def k0_off148 (v1321 : BitVec 32) : Fin 2 → Nat :=
  let c3_i32_877 : BitVec 32 := 3#32
  let v1322 : BitVec 32 := Scalar.shrsi v1321 c3_i32_877
  let c4095_i32_878 : BitVec 32 := 4095#32
  let v1323 : BitVec 32 := Scalar.minsi v1322 c4095_i32_878
  let c8_i32_879 : BitVec 32 := 8#32
  let v1324 : BitVec 32 := Scalar.muli v1323 c8_i32_879
  let v1325 : Index := Scalar.indexCast v1324
  let c0_880 : Index := 0#32
  ![v1325.toNat, 0]

def k0_chk147 (i : grid0.Coords) (v1321 : BitVec 32) : Prop :=
  (∀ (k0_h1 : k0_cond1 i = 1#1), ∀ a, (k0_off148 v1321) a + S8x128.size a ≤ S32768x128.size a)
theorem k0_off148_inb : ∀ (i : grid0.Coords) (v1321 : BitVec 32) (k0_hw147 : k0_chk147 i v1321), ∀ (k0_h1 : k0_cond1 i = 1#1), ∀ a, (k0_off148 v1321) a + S8x128.size a ≤ S32768x128.size a := fun i v1321 k0_hw147 k0_h1 => k0_hw147 k0_h1

def k0_off149 (v1330 : BitVec 32) : Fin 2 → Nat :=
  let c3_i32_883 : BitVec 32 := 3#32
  let v1331 : BitVec 32 := Scalar.shrsi v1330 c3_i32_883
  let c4095_i32_884 : BitVec 32 := 4095#32
  let v1332 : BitVec 32 := Scalar.minsi v1331 c4095_i32_884
  let c8_i32_885 : BitVec 32 := 8#32
  let v1333 : BitVec 32 := Scalar.muli v1332 c8_i32_885
  let v1334 : Index := Scalar.indexCast v1333
  let c0_886 : Index := 0#32
  ![v1334.toNat, 0]

def k0_chk148 (i : grid0.Coords) (v1330 : BitVec 32) : Prop :=
  (∀ (k0_h1 : k0_cond1 i = 1#1), ∀ a, (k0_off149 v1330) a + S8x128.size a ≤ S32768x128.size a)
theorem k0_off149_inb : ∀ (i : grid0.Coords) (v1330 : BitVec 32) (k0_hw148 : k0_chk148 i v1330), ∀ (k0_h1 : k0_cond1 i = 1#1), ∀ a, (k0_off149 v1330) a + S8x128.size a ≤ S32768x128.size a := fun i v1330 k0_hw148 k0_h1 => k0_hw148 k0_h1

def k0_off150 (v1339 : BitVec 32) : Fin 2 → Nat :=
  let c3_i32_889 : BitVec 32 := 3#32
  let v1340 : BitVec 32 := Scalar.shrsi v1339 c3_i32_889
  let c4095_i32_890 : BitVec 32 := 4095#32
  let v1341 : BitVec 32 := Scalar.minsi v1340 c4095_i32_890
  let c8_i32_891 : BitVec 32 := 8#32
  let v1342 : BitVec 32 := Scalar.muli v1341 c8_i32_891
  let v1343 : Index := Scalar.indexCast v1342
  let c0_892 : Index := 0#32
  ![v1343.toNat, 0]

def k0_chk149 (i : grid0.Coords) (v1339 : BitVec 32) : Prop :=
  (∀ (k0_h1 : k0_cond1 i = 1#1), ∀ a, (k0_off150 v1339) a + S8x128.size a ≤ S32768x128.size a)
theorem k0_off150_inb : ∀ (i : grid0.Coords) (v1339 : BitVec 32) (k0_hw149 : k0_chk149 i v1339), ∀ (k0_h1 : k0_cond1 i = 1#1), ∀ a, (k0_off150 v1339) a + S8x128.size a ≤ S32768x128.size a := fun i v1339 k0_hw149 k0_h1 => k0_hw149 k0_h1

def k0_off151 (v1348 : BitVec 32) : Fin 2 → Nat :=
  let c3_i32_895 : BitVec 32 := 3#32
  let v1349 : BitVec 32 := Scalar.shrsi v1348 c3_i32_895
  let c4095_i32_896 : BitVec 32 := 4095#32
  let v1350 : BitVec 32 := Scalar.minsi v1349 c4095_i32_896
  let c8_i32_897 : BitVec 32 := 8#32
  let v1351 : BitVec 32 := Scalar.muli v1350 c8_i32_897
  let v1352 : Index := Scalar.indexCast v1351
  let c0_898 : Index := 0#32
  ![v1352.toNat, 0]

def k0_chk150 (i : grid0.Coords) (v1348 : BitVec 32) : Prop :=
  (∀ (k0_h1 : k0_cond1 i = 1#1), ∀ a, (k0_off151 v1348) a + S8x128.size a ≤ S32768x128.size a)
theorem k0_off151_inb : ∀ (i : grid0.Coords) (v1348 : BitVec 32) (k0_hw150 : k0_chk150 i v1348), ∀ (k0_h1 : k0_cond1 i = 1#1), ∀ a, (k0_off151 v1348) a + S8x128.size a ≤ S32768x128.size a := fun i v1348 k0_hw150 k0_h1 => k0_hw150 k0_h1

def k0_off152 (v1357 : BitVec 32) : Fin 2 → Nat :=
  let c3_i32_901 : BitVec 32 := 3#32
  let v1358 : BitVec 32 := Scalar.shrsi v1357 c3_i32_901
  let c4095_i32_902 : BitVec 32 := 4095#32
  let v1359 : BitVec 32 := Scalar.minsi v1358 c4095_i32_902
  let c8_i32_903 : BitVec 32 := 8#32
  let v1360 : BitVec 32 := Scalar.muli v1359 c8_i32_903
  let v1361 : Index := Scalar.indexCast v1360
  let c0_904 : Index := 0#32
  ![v1361.toNat, 0]

def k0_chk151 (i : grid0.Coords) (v1357 : BitVec 32) : Prop :=
  (∀ (k0_h1 : k0_cond1 i = 1#1), ∀ a, (k0_off152 v1357) a + S8x128.size a ≤ S32768x128.size a)
theorem k0_off152_inb : ∀ (i : grid0.Coords) (v1357 : BitVec 32) (k0_hw151 : k0_chk151 i v1357), ∀ (k0_h1 : k0_cond1 i = 1#1), ∀ a, (k0_off152 v1357) a + S8x128.size a ≤ S32768x128.size a := fun i v1357 k0_hw151 k0_h1 => k0_hw151 k0_h1

def k0_off153 (v1366 : BitVec 32) : Fin 2 → Nat :=
  let c3_i32_907 : BitVec 32 := 3#32
  let v1367 : BitVec 32 := Scalar.shrsi v1366 c3_i32_907
  let c4095_i32_908 : BitVec 32 := 4095#32
  let v1368 : BitVec 32 := Scalar.minsi v1367 c4095_i32_908
  let c8_i32_909 : BitVec 32 := 8#32
  let v1369 : BitVec 32 := Scalar.muli v1368 c8_i32_909
  let v1370 : Index := Scalar.indexCast v1369
  let c0_910 : Index := 0#32
  ![v1370.toNat, 0]

def k0_chk152 (i : grid0.Coords) (v1366 : BitVec 32) : Prop :=
  (∀ (k0_h1 : k0_cond1 i = 1#1), ∀ a, (k0_off153 v1366) a + S8x128.size a ≤ S32768x128.size a)
theorem k0_off153_inb : ∀ (i : grid0.Coords) (v1366 : BitVec 32) (k0_hw152 : k0_chk152 i v1366), ∀ (k0_h1 : k0_cond1 i = 1#1), ∀ a, (k0_off153 v1366) a + S8x128.size a ≤ S32768x128.size a := fun i v1366 k0_hw152 k0_h1 => k0_hw152 k0_h1

def k0_off154 (v1375 : BitVec 32) : Fin 2 → Nat :=
  let c3_i32_913 : BitVec 32 := 3#32
  let v1376 : BitVec 32 := Scalar.shrsi v1375 c3_i32_913
  let c4095_i32_914 : BitVec 32 := 4095#32
  let v1377 : BitVec 32 := Scalar.minsi v1376 c4095_i32_914
  let c8_i32_915 : BitVec 32 := 8#32
  let v1378 : BitVec 32 := Scalar.muli v1377 c8_i32_915
  let v1379 : Index := Scalar.indexCast v1378
  let c0_916 : Index := 0#32
  ![v1379.toNat, 0]

def k0_chk153 (i : grid0.Coords) (v1375 : BitVec 32) : Prop :=
  (∀ (k0_h1 : k0_cond1 i = 1#1), ∀ a, (k0_off154 v1375) a + S8x128.size a ≤ S32768x128.size a)
theorem k0_off154_inb : ∀ (i : grid0.Coords) (v1375 : BitVec 32) (k0_hw153 : k0_chk153 i v1375), ∀ (k0_h1 : k0_cond1 i = 1#1), ∀ a, (k0_off154 v1375) a + S8x128.size a ≤ S32768x128.size a := fun i v1375 k0_hw153 k0_h1 => k0_hw153 k0_h1

def k0_off155 (v1384 : BitVec 32) : Fin 2 → Nat :=
  let c3_i32_919 : BitVec 32 := 3#32
  let v1385 : BitVec 32 := Scalar.shrsi v1384 c3_i32_919
  let c4095_i32_920 : BitVec 32 := 4095#32
  let v1386 : BitVec 32 := Scalar.minsi v1385 c4095_i32_920
  let c8_i32_921 : BitVec 32 := 8#32
  let v1387 : BitVec 32 := Scalar.muli v1386 c8_i32_921
  let v1388 : Index := Scalar.indexCast v1387
  let c0_922 : Index := 0#32
  ![v1388.toNat, 0]

def k0_chk154 (i : grid0.Coords) (v1384 : BitVec 32) : Prop :=
  (∀ (k0_h1 : k0_cond1 i = 1#1), ∀ a, (k0_off155 v1384) a + S8x128.size a ≤ S32768x128.size a)
theorem k0_off155_inb : ∀ (i : grid0.Coords) (v1384 : BitVec 32) (k0_hw154 : k0_chk154 i v1384), ∀ (k0_h1 : k0_cond1 i = 1#1), ∀ a, (k0_off155 v1384) a + S8x128.size a ≤ S32768x128.size a := fun i v1384 k0_hw154 k0_h1 => k0_hw154 k0_h1

def k0_off156 (v1393 : BitVec 32) : Fin 2 → Nat :=
  let c3_i32_925 : BitVec 32 := 3#32
  let v1394 : BitVec 32 := Scalar.shrsi v1393 c3_i32_925
  let c4095_i32_926 : BitVec 32 := 4095#32
  let v1395 : BitVec 32 := Scalar.minsi v1394 c4095_i32_926
  let c8_i32_927 : BitVec 32 := 8#32
  let v1396 : BitVec 32 := Scalar.muli v1395 c8_i32_927
  let v1397 : Index := Scalar.indexCast v1396
  let c0_928 : Index := 0#32
  ![v1397.toNat, 0]

def k0_chk155 (i : grid0.Coords) (v1393 : BitVec 32) : Prop :=
  (∀ (k0_h1 : k0_cond1 i = 1#1), ∀ a, (k0_off156 v1393) a + S8x128.size a ≤ S32768x128.size a)
theorem k0_off156_inb : ∀ (i : grid0.Coords) (v1393 : BitVec 32) (k0_hw155 : k0_chk155 i v1393), ∀ (k0_h1 : k0_cond1 i = 1#1), ∀ a, (k0_off156 v1393) a + S8x128.size a ≤ S32768x128.size a := fun i v1393 k0_hw155 k0_h1 => k0_hw155 k0_h1

def k0_off157 (v1402 : BitVec 32) : Fin 2 → Nat :=
  let c3_i32_931 : BitVec 32 := 3#32
  let v1403 : BitVec 32 := Scalar.shrsi v1402 c3_i32_931
  let c4095_i32_932 : BitVec 32 := 4095#32
  let v1404 : BitVec 32 := Scalar.minsi v1403 c4095_i32_932
  let c8_i32_933 : BitVec 32 := 8#32
  let v1405 : BitVec 32 := Scalar.muli v1404 c8_i32_933
  let v1406 : Index := Scalar.indexCast v1405
  let c0_934 : Index := 0#32
  ![v1406.toNat, 0]

def k0_chk156 (i : grid0.Coords) (v1402 : BitVec 32) : Prop :=
  (∀ (k0_h1 : k0_cond1 i = 1#1), ∀ a, (k0_off157 v1402) a + S8x128.size a ≤ S32768x128.size a)
theorem k0_off157_inb : ∀ (i : grid0.Coords) (v1402 : BitVec 32) (k0_hw156 : k0_chk156 i v1402), ∀ (k0_h1 : k0_cond1 i = 1#1), ∀ a, (k0_off157 v1402) a + S8x128.size a ≤ S32768x128.size a := fun i v1402 k0_hw156 k0_h1 => k0_hw156 k0_h1

def k0_off158 (v1411 : BitVec 32) : Fin 2 → Nat :=
  let c3_i32_937 : BitVec 32 := 3#32
  let v1412 : BitVec 32 := Scalar.shrsi v1411 c3_i32_937
  let c4095_i32_938 : BitVec 32 := 4095#32
  let v1413 : BitVec 32 := Scalar.minsi v1412 c4095_i32_938
  let c8_i32_939 : BitVec 32 := 8#32
  let v1414 : BitVec 32 := Scalar.muli v1413 c8_i32_939
  let v1415 : Index := Scalar.indexCast v1414
  let c0_940 : Index := 0#32
  ![v1415.toNat, 0]

def k0_chk157 (i : grid0.Coords) (v1411 : BitVec 32) : Prop :=
  (∀ (k0_h1 : k0_cond1 i = 1#1), ∀ a, (k0_off158 v1411) a + S8x128.size a ≤ S32768x128.size a)
theorem k0_off158_inb : ∀ (i : grid0.Coords) (v1411 : BitVec 32) (k0_hw157 : k0_chk157 i v1411), ∀ (k0_h1 : k0_cond1 i = 1#1), ∀ a, (k0_off158 v1411) a + S8x128.size a ≤ S32768x128.size a := fun i v1411 k0_hw157 k0_h1 => k0_hw157 k0_h1

def k0_off159 (v1420 : BitVec 32) : Fin 2 → Nat :=
  let c3_i32_943 : BitVec 32 := 3#32
  let v1421 : BitVec 32 := Scalar.shrsi v1420 c3_i32_943
  let c4095_i32_944 : BitVec 32 := 4095#32
  let v1422 : BitVec 32 := Scalar.minsi v1421 c4095_i32_944
  let c8_i32_945 : BitVec 32 := 8#32
  let v1423 : BitVec 32 := Scalar.muli v1422 c8_i32_945
  let v1424 : Index := Scalar.indexCast v1423
  let c0_946 : Index := 0#32
  ![v1424.toNat, 0]

def k0_chk158 (i : grid0.Coords) (v1420 : BitVec 32) : Prop :=
  (∀ (k0_h1 : k0_cond1 i = 1#1), ∀ a, (k0_off159 v1420) a + S8x128.size a ≤ S32768x128.size a)
theorem k0_off159_inb : ∀ (i : grid0.Coords) (v1420 : BitVec 32) (k0_hw158 : k0_chk158 i v1420), ∀ (k0_h1 : k0_cond1 i = 1#1), ∀ a, (k0_off159 v1420) a + S8x128.size a ≤ S32768x128.size a := fun i v1420 k0_hw158 k0_h1 => k0_hw158 k0_h1

def k0_off160 (v1429 : BitVec 32) : Fin 2 → Nat :=
  let c3_i32_949 : BitVec 32 := 3#32
  let v1430 : BitVec 32 := Scalar.shrsi v1429 c3_i32_949
  let c4095_i32_950 : BitVec 32 := 4095#32
  let v1431 : BitVec 32 := Scalar.minsi v1430 c4095_i32_950
  let c8_i32_951 : BitVec 32 := 8#32
  let v1432 : BitVec 32 := Scalar.muli v1431 c8_i32_951
  let v1433 : Index := Scalar.indexCast v1432
  let c0_952 : Index := 0#32
  ![v1433.toNat, 0]

def k0_chk159 (i : grid0.Coords) (v1429 : BitVec 32) : Prop :=
  (∀ (k0_h1 : k0_cond1 i = 1#1), ∀ a, (k0_off160 v1429) a + S8x128.size a ≤ S32768x128.size a)
theorem k0_off160_inb : ∀ (i : grid0.Coords) (v1429 : BitVec 32) (k0_hw159 : k0_chk159 i v1429), ∀ (k0_h1 : k0_cond1 i = 1#1), ∀ a, (k0_off160 v1429) a + S8x128.size a ≤ S32768x128.size a := fun i v1429 k0_hw159 k0_h1 => k0_hw159 k0_h1

def k0_off161 (v1438 : BitVec 32) : Fin 2 → Nat :=
  let c3_i32_955 : BitVec 32 := 3#32
  let v1439 : BitVec 32 := Scalar.shrsi v1438 c3_i32_955
  let c4095_i32_956 : BitVec 32 := 4095#32
  let v1440 : BitVec 32 := Scalar.minsi v1439 c4095_i32_956
  let c8_i32_957 : BitVec 32 := 8#32
  let v1441 : BitVec 32 := Scalar.muli v1440 c8_i32_957
  let v1442 : Index := Scalar.indexCast v1441
  let c0_958 : Index := 0#32
  ![v1442.toNat, 0]

def k0_chk160 (i : grid0.Coords) (v1438 : BitVec 32) : Prop :=
  (∀ (k0_h1 : k0_cond1 i = 1#1), ∀ a, (k0_off161 v1438) a + S8x128.size a ≤ S32768x128.size a)
theorem k0_off161_inb : ∀ (i : grid0.Coords) (v1438 : BitVec 32) (k0_hw160 : k0_chk160 i v1438), ∀ (k0_h1 : k0_cond1 i = 1#1), ∀ a, (k0_off161 v1438) a + S8x128.size a ≤ S32768x128.size a := fun i v1438 k0_hw160 k0_h1 => k0_hw160 k0_h1

def k0_off162 (v1447 : BitVec 32) : Fin 2 → Nat :=
  let c3_i32_961 : BitVec 32 := 3#32
  let v1448 : BitVec 32 := Scalar.shrsi v1447 c3_i32_961
  let c4095_i32_962 : BitVec 32 := 4095#32
  let v1449 : BitVec 32 := Scalar.minsi v1448 c4095_i32_962
  let c8_i32_963 : BitVec 32 := 8#32
  let v1450 : BitVec 32 := Scalar.muli v1449 c8_i32_963
  let v1451 : Index := Scalar.indexCast v1450
  let c0_964 : Index := 0#32
  ![v1451.toNat, 0]

def k0_chk161 (i : grid0.Coords) (v1447 : BitVec 32) : Prop :=
  (∀ (k0_h1 : k0_cond1 i = 1#1), ∀ a, (k0_off162 v1447) a + S8x128.size a ≤ S32768x128.size a)
theorem k0_off162_inb : ∀ (i : grid0.Coords) (v1447 : BitVec 32) (k0_hw161 : k0_chk161 i v1447), ∀ (k0_h1 : k0_cond1 i = 1#1), ∀ a, (k0_off162 v1447) a + S8x128.size a ≤ S32768x128.size a := fun i v1447 k0_hw161 k0_h1 => k0_hw161 k0_h1

def k0_off163 (v1456 : BitVec 32) : Fin 2 → Nat :=
  let c3_i32_967 : BitVec 32 := 3#32
  let v1457 : BitVec 32 := Scalar.shrsi v1456 c3_i32_967
  let c4095_i32_968 : BitVec 32 := 4095#32
  let v1458 : BitVec 32 := Scalar.minsi v1457 c4095_i32_968
  let c8_i32_969 : BitVec 32 := 8#32
  let v1459 : BitVec 32 := Scalar.muli v1458 c8_i32_969
  let v1460 : Index := Scalar.indexCast v1459
  let c0_970 : Index := 0#32
  ![v1460.toNat, 0]

def k0_chk162 (i : grid0.Coords) (v1456 : BitVec 32) : Prop :=
  (∀ (k0_h1 : k0_cond1 i = 1#1), ∀ a, (k0_off163 v1456) a + S8x128.size a ≤ S32768x128.size a)
theorem k0_off163_inb : ∀ (i : grid0.Coords) (v1456 : BitVec 32) (k0_hw162 : k0_chk162 i v1456), ∀ (k0_h1 : k0_cond1 i = 1#1), ∀ a, (k0_off163 v1456) a + S8x128.size a ≤ S32768x128.size a := fun i v1456 k0_hw162 k0_h1 => k0_hw162 k0_h1

def k0_off164 (v1465 : BitVec 32) : Fin 2 → Nat :=
  let c3_i32_973 : BitVec 32 := 3#32
  let v1466 : BitVec 32 := Scalar.shrsi v1465 c3_i32_973
  let c4095_i32_974 : BitVec 32 := 4095#32
  let v1467 : BitVec 32 := Scalar.minsi v1466 c4095_i32_974
  let c8_i32_975 : BitVec 32 := 8#32
  let v1468 : BitVec 32 := Scalar.muli v1467 c8_i32_975
  let v1469 : Index := Scalar.indexCast v1468
  let c0_976 : Index := 0#32
  ![v1469.toNat, 0]

def k0_chk163 (i : grid0.Coords) (v1465 : BitVec 32) : Prop :=
  (∀ (k0_h1 : k0_cond1 i = 1#1), ∀ a, (k0_off164 v1465) a + S8x128.size a ≤ S32768x128.size a)
theorem k0_off164_inb : ∀ (i : grid0.Coords) (v1465 : BitVec 32) (k0_hw163 : k0_chk163 i v1465), ∀ (k0_h1 : k0_cond1 i = 1#1), ∀ a, (k0_off164 v1465) a + S8x128.size a ≤ S32768x128.size a := fun i v1465 k0_hw163 k0_h1 => k0_hw163 k0_h1

def k0_off165 (v1474 : BitVec 32) : Fin 2 → Nat :=
  let c3_i32_979 : BitVec 32 := 3#32
  let v1475 : BitVec 32 := Scalar.shrsi v1474 c3_i32_979
  let c4095_i32_980 : BitVec 32 := 4095#32
  let v1476 : BitVec 32 := Scalar.minsi v1475 c4095_i32_980
  let c8_i32_981 : BitVec 32 := 8#32
  let v1477 : BitVec 32 := Scalar.muli v1476 c8_i32_981
  let v1478 : Index := Scalar.indexCast v1477
  let c0_982 : Index := 0#32
  ![v1478.toNat, 0]

def k0_chk164 (i : grid0.Coords) (v1474 : BitVec 32) : Prop :=
  (∀ (k0_h1 : k0_cond1 i = 1#1), ∀ a, (k0_off165 v1474) a + S8x128.size a ≤ S32768x128.size a)
theorem k0_off165_inb : ∀ (i : grid0.Coords) (v1474 : BitVec 32) (k0_hw164 : k0_chk164 i v1474), ∀ (k0_h1 : k0_cond1 i = 1#1), ∀ a, (k0_off165 v1474) a + S8x128.size a ≤ S32768x128.size a := fun i v1474 k0_hw164 k0_h1 => k0_hw164 k0_h1

def k0_off166 (v1483 : BitVec 32) : Fin 2 → Nat :=
  let c3_i32_985 : BitVec 32 := 3#32
  let v1484 : BitVec 32 := Scalar.shrsi v1483 c3_i32_985
  let c4095_i32_986 : BitVec 32 := 4095#32
  let v1485 : BitVec 32 := Scalar.minsi v1484 c4095_i32_986
  let c8_i32_987 : BitVec 32 := 8#32
  let v1486 : BitVec 32 := Scalar.muli v1485 c8_i32_987
  let v1487 : Index := Scalar.indexCast v1486
  let c0_988 : Index := 0#32
  ![v1487.toNat, 0]

def k0_chk165 (i : grid0.Coords) (v1483 : BitVec 32) : Prop :=
  (∀ (k0_h1 : k0_cond1 i = 1#1), ∀ a, (k0_off166 v1483) a + S8x128.size a ≤ S32768x128.size a)
theorem k0_off166_inb : ∀ (i : grid0.Coords) (v1483 : BitVec 32) (k0_hw165 : k0_chk165 i v1483), ∀ (k0_h1 : k0_cond1 i = 1#1), ∀ a, (k0_off166 v1483) a + S8x128.size a ≤ S32768x128.size a := fun i v1483 k0_hw165 k0_h1 => k0_hw165 k0_h1

def k0_off167 (v1492 : BitVec 32) : Fin 2 → Nat :=
  let c3_i32_991 : BitVec 32 := 3#32
  let v1493 : BitVec 32 := Scalar.shrsi v1492 c3_i32_991
  let c4095_i32_992 : BitVec 32 := 4095#32
  let v1494 : BitVec 32 := Scalar.minsi v1493 c4095_i32_992
  let c8_i32_993 : BitVec 32 := 8#32
  let v1495 : BitVec 32 := Scalar.muli v1494 c8_i32_993
  let v1496 : Index := Scalar.indexCast v1495
  let c0_994 : Index := 0#32
  ![v1496.toNat, 0]

def k0_chk166 (i : grid0.Coords) (v1492 : BitVec 32) : Prop :=
  (∀ (k0_h1 : k0_cond1 i = 1#1), ∀ a, (k0_off167 v1492) a + S8x128.size a ≤ S32768x128.size a)
theorem k0_off167_inb : ∀ (i : grid0.Coords) (v1492 : BitVec 32) (k0_hw166 : k0_chk166 i v1492), ∀ (k0_h1 : k0_cond1 i = 1#1), ∀ a, (k0_off167 v1492) a + S8x128.size a ≤ S32768x128.size a := fun i v1492 k0_hw166 k0_h1 => k0_hw166 k0_h1

def k0_off168 (v1501 : BitVec 32) : Fin 2 → Nat :=
  let c3_i32_997 : BitVec 32 := 3#32
  let v1502 : BitVec 32 := Scalar.shrsi v1501 c3_i32_997
  let c4095_i32_998 : BitVec 32 := 4095#32
  let v1503 : BitVec 32 := Scalar.minsi v1502 c4095_i32_998
  let c8_i32_999 : BitVec 32 := 8#32
  let v1504 : BitVec 32 := Scalar.muli v1503 c8_i32_999
  let v1505 : Index := Scalar.indexCast v1504
  let c0_1000 : Index := 0#32
  ![v1505.toNat, 0]

def k0_chk167 (i : grid0.Coords) (v1501 : BitVec 32) : Prop :=
  (∀ (k0_h1 : k0_cond1 i = 1#1), ∀ a, (k0_off168 v1501) a + S8x128.size a ≤ S32768x128.size a)
theorem k0_off168_inb : ∀ (i : grid0.Coords) (v1501 : BitVec 32) (k0_hw167 : k0_chk167 i v1501), ∀ (k0_h1 : k0_cond1 i = 1#1), ∀ a, (k0_off168 v1501) a + S8x128.size a ≤ S32768x128.size a := fun i v1501 k0_hw167 k0_h1 => k0_hw167 k0_h1

def k0_off169 (v1510 : BitVec 32) : Fin 2 → Nat :=
  let c3_i32_1003 : BitVec 32 := 3#32
  let v1511 : BitVec 32 := Scalar.shrsi v1510 c3_i32_1003
  let c4095_i32_1004 : BitVec 32 := 4095#32
  let v1512 : BitVec 32 := Scalar.minsi v1511 c4095_i32_1004
  let c8_i32_1005 : BitVec 32 := 8#32
  let v1513 : BitVec 32 := Scalar.muli v1512 c8_i32_1005
  let v1514 : Index := Scalar.indexCast v1513
  let c0_1006 : Index := 0#32
  ![v1514.toNat, 0]

def k0_chk168 (i : grid0.Coords) (v1510 : BitVec 32) : Prop :=
  (∀ (k0_h1 : k0_cond1 i = 1#1), ∀ a, (k0_off169 v1510) a + S8x128.size a ≤ S32768x128.size a)
theorem k0_off169_inb : ∀ (i : grid0.Coords) (v1510 : BitVec 32) (k0_hw168 : k0_chk168 i v1510), ∀ (k0_h1 : k0_cond1 i = 1#1), ∀ a, (k0_off169 v1510) a + S8x128.size a ≤ S32768x128.size a := fun i v1510 k0_hw168 k0_h1 => k0_hw168 k0_h1

def k0_off170 (v1519 : BitVec 32) : Fin 2 → Nat :=
  let c3_i32_1009 : BitVec 32 := 3#32
  let v1520 : BitVec 32 := Scalar.shrsi v1519 c3_i32_1009
  let c4095_i32_1010 : BitVec 32 := 4095#32
  let v1521 : BitVec 32 := Scalar.minsi v1520 c4095_i32_1010
  let c8_i32_1011 : BitVec 32 := 8#32
  let v1522 : BitVec 32 := Scalar.muli v1521 c8_i32_1011
  let v1523 : Index := Scalar.indexCast v1522
  let c0_1012 : Index := 0#32
  ![v1523.toNat, 0]

def k0_chk169 (i : grid0.Coords) (v1519 : BitVec 32) : Prop :=
  (∀ (k0_h1 : k0_cond1 i = 1#1), ∀ a, (k0_off170 v1519) a + S8x128.size a ≤ S32768x128.size a)
theorem k0_off170_inb : ∀ (i : grid0.Coords) (v1519 : BitVec 32) (k0_hw169 : k0_chk169 i v1519), ∀ (k0_h1 : k0_cond1 i = 1#1), ∀ a, (k0_off170 v1519) a + S8x128.size a ≤ S32768x128.size a := fun i v1519 k0_hw169 k0_h1 => k0_hw169 k0_h1

def k0_off171 (v1528 : BitVec 32) : Fin 2 → Nat :=
  let c3_i32_1015 : BitVec 32 := 3#32
  let v1529 : BitVec 32 := Scalar.shrsi v1528 c3_i32_1015
  let c4095_i32_1016 : BitVec 32 := 4095#32
  let v1530 : BitVec 32 := Scalar.minsi v1529 c4095_i32_1016
  let c8_i32_1017 : BitVec 32 := 8#32
  let v1531 : BitVec 32 := Scalar.muli v1530 c8_i32_1017
  let v1532 : Index := Scalar.indexCast v1531
  let c0_1018 : Index := 0#32
  ![v1532.toNat, 0]

def k0_chk170 (i : grid0.Coords) (v1528 : BitVec 32) : Prop :=
  (∀ (k0_h1 : k0_cond1 i = 1#1), ∀ a, (k0_off171 v1528) a + S8x128.size a ≤ S32768x128.size a)
theorem k0_off171_inb : ∀ (i : grid0.Coords) (v1528 : BitVec 32) (k0_hw170 : k0_chk170 i v1528), ∀ (k0_h1 : k0_cond1 i = 1#1), ∀ a, (k0_off171 v1528) a + S8x128.size a ≤ S32768x128.size a := fun i v1528 k0_hw170 k0_h1 => k0_hw170 k0_h1

def k0_off172 (v1537 : BitVec 32) : Fin 2 → Nat :=
  let c3_i32_1021 : BitVec 32 := 3#32
  let v1538 : BitVec 32 := Scalar.shrsi v1537 c3_i32_1021
  let c4095_i32_1022 : BitVec 32 := 4095#32
  let v1539 : BitVec 32 := Scalar.minsi v1538 c4095_i32_1022
  let c8_i32_1023 : BitVec 32 := 8#32
  let v1540 : BitVec 32 := Scalar.muli v1539 c8_i32_1023
  let v1541 : Index := Scalar.indexCast v1540
  let c0_1024 : Index := 0#32
  ![v1541.toNat, 0]

def k0_chk171 (i : grid0.Coords) (v1537 : BitVec 32) : Prop :=
  (∀ (k0_h1 : k0_cond1 i = 1#1), ∀ a, (k0_off172 v1537) a + S8x128.size a ≤ S32768x128.size a)
theorem k0_off172_inb : ∀ (i : grid0.Coords) (v1537 : BitVec 32) (k0_hw171 : k0_chk171 i v1537), ∀ (k0_h1 : k0_cond1 i = 1#1), ∀ a, (k0_off172 v1537) a + S8x128.size a ≤ S32768x128.size a := fun i v1537 k0_hw171 k0_h1 => k0_hw171 k0_h1

def k0_off173 (v1546 : BitVec 32) : Fin 2 → Nat :=
  let c3_i32_1027 : BitVec 32 := 3#32
  let v1547 : BitVec 32 := Scalar.shrsi v1546 c3_i32_1027
  let c4095_i32_1028 : BitVec 32 := 4095#32
  let v1548 : BitVec 32 := Scalar.minsi v1547 c4095_i32_1028
  let c8_i32_1029 : BitVec 32 := 8#32
  let v1549 : BitVec 32 := Scalar.muli v1548 c8_i32_1029
  let v1550 : Index := Scalar.indexCast v1549
  let c0_1030 : Index := 0#32
  ![v1550.toNat, 0]

def k0_chk172 (i : grid0.Coords) (v1546 : BitVec 32) : Prop :=
  (∀ (k0_h1 : k0_cond1 i = 1#1), ∀ a, (k0_off173 v1546) a + S8x128.size a ≤ S32768x128.size a)
theorem k0_off173_inb : ∀ (i : grid0.Coords) (v1546 : BitVec 32) (k0_hw172 : k0_chk172 i v1546), ∀ (k0_h1 : k0_cond1 i = 1#1), ∀ a, (k0_off173 v1546) a + S8x128.size a ≤ S32768x128.size a := fun i v1546 k0_hw172 k0_h1 => k0_hw172 k0_h1

def k0_off174 (v1555 : BitVec 32) : Fin 2 → Nat :=
  let c3_i32_1033 : BitVec 32 := 3#32
  let v1556 : BitVec 32 := Scalar.shrsi v1555 c3_i32_1033
  let c4095_i32_1034 : BitVec 32 := 4095#32
  let v1557 : BitVec 32 := Scalar.minsi v1556 c4095_i32_1034
  let c8_i32_1035 : BitVec 32 := 8#32
  let v1558 : BitVec 32 := Scalar.muli v1557 c8_i32_1035
  let v1559 : Index := Scalar.indexCast v1558
  let c0_1036 : Index := 0#32
  ![v1559.toNat, 0]

def k0_chk173 (i : grid0.Coords) (v1555 : BitVec 32) : Prop :=
  (∀ (k0_h1 : k0_cond1 i = 1#1), ∀ a, (k0_off174 v1555) a + S8x128.size a ≤ S32768x128.size a)
theorem k0_off174_inb : ∀ (i : grid0.Coords) (v1555 : BitVec 32) (k0_hw173 : k0_chk173 i v1555), ∀ (k0_h1 : k0_cond1 i = 1#1), ∀ a, (k0_off174 v1555) a + S8x128.size a ≤ S32768x128.size a := fun i v1555 k0_hw173 k0_h1 => k0_hw173 k0_h1

def k0_off175 (v1564 : BitVec 32) : Fin 2 → Nat :=
  let c3_i32_1039 : BitVec 32 := 3#32
  let v1565 : BitVec 32 := Scalar.shrsi v1564 c3_i32_1039
  let c4095_i32_1040 : BitVec 32 := 4095#32
  let v1566 : BitVec 32 := Scalar.minsi v1565 c4095_i32_1040
  let c8_i32_1041 : BitVec 32 := 8#32
  let v1567 : BitVec 32 := Scalar.muli v1566 c8_i32_1041
  let v1568 : Index := Scalar.indexCast v1567
  let c0_1042 : Index := 0#32
  ![v1568.toNat, 0]

def k0_chk174 (i : grid0.Coords) (v1564 : BitVec 32) : Prop :=
  (∀ (k0_h1 : k0_cond1 i = 1#1), ∀ a, (k0_off175 v1564) a + S8x128.size a ≤ S32768x128.size a)
theorem k0_off175_inb : ∀ (i : grid0.Coords) (v1564 : BitVec 32) (k0_hw174 : k0_chk174 i v1564), ∀ (k0_h1 : k0_cond1 i = 1#1), ∀ a, (k0_off175 v1564) a + S8x128.size a ≤ S32768x128.size a := fun i v1564 k0_hw174 k0_h1 => k0_hw174 k0_h1

def k0_off176 (v1573 : BitVec 32) : Fin 2 → Nat :=
  let c3_i32_1045 : BitVec 32 := 3#32
  let v1574 : BitVec 32 := Scalar.shrsi v1573 c3_i32_1045
  let c4095_i32_1046 : BitVec 32 := 4095#32
  let v1575 : BitVec 32 := Scalar.minsi v1574 c4095_i32_1046
  let c8_i32_1047 : BitVec 32 := 8#32
  let v1576 : BitVec 32 := Scalar.muli v1575 c8_i32_1047
  let v1577 : Index := Scalar.indexCast v1576
  let c0_1048 : Index := 0#32
  ![v1577.toNat, 0]

def k0_chk175 (i : grid0.Coords) (v1573 : BitVec 32) : Prop :=
  (∀ (k0_h1 : k0_cond1 i = 1#1), ∀ a, (k0_off176 v1573) a + S8x128.size a ≤ S32768x128.size a)
theorem k0_off176_inb : ∀ (i : grid0.Coords) (v1573 : BitVec 32) (k0_hw175 : k0_chk175 i v1573), ∀ (k0_h1 : k0_cond1 i = 1#1), ∀ a, (k0_off176 v1573) a + S8x128.size a ≤ S32768x128.size a := fun i v1573 k0_hw175 k0_h1 => k0_hw175 k0_h1

def k0_off177 (v1582 : BitVec 32) : Fin 2 → Nat :=
  let c3_i32_1051 : BitVec 32 := 3#32
  let v1583 : BitVec 32 := Scalar.shrsi v1582 c3_i32_1051
  let c4095_i32_1052 : BitVec 32 := 4095#32
  let v1584 : BitVec 32 := Scalar.minsi v1583 c4095_i32_1052
  let c8_i32_1053 : BitVec 32 := 8#32
  let v1585 : BitVec 32 := Scalar.muli v1584 c8_i32_1053
  let v1586 : Index := Scalar.indexCast v1585
  let c0_1054 : Index := 0#32
  ![v1586.toNat, 0]

def k0_chk176 (i : grid0.Coords) (v1582 : BitVec 32) : Prop :=
  (∀ (k0_h1 : k0_cond1 i = 1#1), ∀ a, (k0_off177 v1582) a + S8x128.size a ≤ S32768x128.size a)
theorem k0_off177_inb : ∀ (i : grid0.Coords) (v1582 : BitVec 32) (k0_hw176 : k0_chk176 i v1582), ∀ (k0_h1 : k0_cond1 i = 1#1), ∀ a, (k0_off177 v1582) a + S8x128.size a ≤ S32768x128.size a := fun i v1582 k0_hw176 k0_h1 => k0_hw176 k0_h1

def k0_off178 (v1591 : BitVec 32) : Fin 2 → Nat :=
  let c3_i32_1057 : BitVec 32 := 3#32
  let v1592 : BitVec 32 := Scalar.shrsi v1591 c3_i32_1057
  let c4095_i32_1058 : BitVec 32 := 4095#32
  let v1593 : BitVec 32 := Scalar.minsi v1592 c4095_i32_1058
  let c8_i32_1059 : BitVec 32 := 8#32
  let v1594 : BitVec 32 := Scalar.muli v1593 c8_i32_1059
  let v1595 : Index := Scalar.indexCast v1594
  let c0_1060 : Index := 0#32
  ![v1595.toNat, 0]

def k0_chk177 (i : grid0.Coords) (v1591 : BitVec 32) : Prop :=
  (∀ (k0_h1 : k0_cond1 i = 1#1), ∀ a, (k0_off178 v1591) a + S8x128.size a ≤ S32768x128.size a)
theorem k0_off178_inb : ∀ (i : grid0.Coords) (v1591 : BitVec 32) (k0_hw177 : k0_chk177 i v1591), ∀ (k0_h1 : k0_cond1 i = 1#1), ∀ a, (k0_off178 v1591) a + S8x128.size a ≤ S32768x128.size a := fun i v1591 k0_hw177 k0_h1 => k0_hw177 k0_h1

def k0_off179 (v1600 : BitVec 32) : Fin 2 → Nat :=
  let c3_i32_1063 : BitVec 32 := 3#32
  let v1601 : BitVec 32 := Scalar.shrsi v1600 c3_i32_1063
  let c4095_i32_1064 : BitVec 32 := 4095#32
  let v1602 : BitVec 32 := Scalar.minsi v1601 c4095_i32_1064
  let c8_i32_1065 : BitVec 32 := 8#32
  let v1603 : BitVec 32 := Scalar.muli v1602 c8_i32_1065
  let v1604 : Index := Scalar.indexCast v1603
  let c0_1066 : Index := 0#32
  ![v1604.toNat, 0]

def k0_chk178 (i : grid0.Coords) (v1600 : BitVec 32) : Prop :=
  (∀ (k0_h1 : k0_cond1 i = 1#1), ∀ a, (k0_off179 v1600) a + S8x128.size a ≤ S32768x128.size a)
theorem k0_off179_inb : ∀ (i : grid0.Coords) (v1600 : BitVec 32) (k0_hw178 : k0_chk178 i v1600), ∀ (k0_h1 : k0_cond1 i = 1#1), ∀ a, (k0_off179 v1600) a + S8x128.size a ≤ S32768x128.size a := fun i v1600 k0_hw178 k0_h1 => k0_hw178 k0_h1

def k0_off180 (v1609 : BitVec 32) : Fin 2 → Nat :=
  let c3_i32_1069 : BitVec 32 := 3#32
  let v1610 : BitVec 32 := Scalar.shrsi v1609 c3_i32_1069
  let c4095_i32_1070 : BitVec 32 := 4095#32
  let v1611 : BitVec 32 := Scalar.minsi v1610 c4095_i32_1070
  let c8_i32_1071 : BitVec 32 := 8#32
  let v1612 : BitVec 32 := Scalar.muli v1611 c8_i32_1071
  let v1613 : Index := Scalar.indexCast v1612
  let c0_1072 : Index := 0#32
  ![v1613.toNat, 0]

def k0_chk179 (i : grid0.Coords) (v1609 : BitVec 32) : Prop :=
  (∀ (k0_h1 : k0_cond1 i = 1#1), ∀ a, (k0_off180 v1609) a + S8x128.size a ≤ S32768x128.size a)
theorem k0_off180_inb : ∀ (i : grid0.Coords) (v1609 : BitVec 32) (k0_hw179 : k0_chk179 i v1609), ∀ (k0_h1 : k0_cond1 i = 1#1), ∀ a, (k0_off180 v1609) a + S8x128.size a ≤ S32768x128.size a := fun i v1609 k0_hw179 k0_h1 => k0_hw179 k0_h1

def k0_off181 (v1618 : BitVec 32) : Fin 2 → Nat :=
  let c3_i32_1075 : BitVec 32 := 3#32
  let v1619 : BitVec 32 := Scalar.shrsi v1618 c3_i32_1075
  let c4095_i32_1076 : BitVec 32 := 4095#32
  let v1620 : BitVec 32 := Scalar.minsi v1619 c4095_i32_1076
  let c8_i32_1077 : BitVec 32 := 8#32
  let v1621 : BitVec 32 := Scalar.muli v1620 c8_i32_1077
  let v1622 : Index := Scalar.indexCast v1621
  let c0_1078 : Index := 0#32
  ![v1622.toNat, 0]

def k0_chk180 (i : grid0.Coords) (v1618 : BitVec 32) : Prop :=
  (∀ (k0_h1 : k0_cond1 i = 1#1), ∀ a, (k0_off181 v1618) a + S8x128.size a ≤ S32768x128.size a)
theorem k0_off181_inb : ∀ (i : grid0.Coords) (v1618 : BitVec 32) (k0_hw180 : k0_chk180 i v1618), ∀ (k0_h1 : k0_cond1 i = 1#1), ∀ a, (k0_off181 v1618) a + S8x128.size a ≤ S32768x128.size a := fun i v1618 k0_hw180 k0_h1 => k0_hw180 k0_h1

def k0_off182 (v1627 : BitVec 32) : Fin 2 → Nat :=
  let c3_i32_1081 : BitVec 32 := 3#32
  let v1628 : BitVec 32 := Scalar.shrsi v1627 c3_i32_1081
  let c4095_i32_1082 : BitVec 32 := 4095#32
  let v1629 : BitVec 32 := Scalar.minsi v1628 c4095_i32_1082
  let c8_i32_1083 : BitVec 32 := 8#32
  let v1630 : BitVec 32 := Scalar.muli v1629 c8_i32_1083
  let v1631 : Index := Scalar.indexCast v1630
  let c0_1084 : Index := 0#32
  ![v1631.toNat, 0]

def k0_chk181 (i : grid0.Coords) (v1627 : BitVec 32) : Prop :=
  (∀ (k0_h1 : k0_cond1 i = 1#1), ∀ a, (k0_off182 v1627) a + S8x128.size a ≤ S32768x128.size a)
theorem k0_off182_inb : ∀ (i : grid0.Coords) (v1627 : BitVec 32) (k0_hw181 : k0_chk181 i v1627), ∀ (k0_h1 : k0_cond1 i = 1#1), ∀ a, (k0_off182 v1627) a + S8x128.size a ≤ S32768x128.size a := fun i v1627 k0_hw181 k0_h1 => k0_hw181 k0_h1

def k0_off183 (v1636 : BitVec 32) : Fin 2 → Nat :=
  let c3_i32_1087 : BitVec 32 := 3#32
  let v1637 : BitVec 32 := Scalar.shrsi v1636 c3_i32_1087
  let c4095_i32_1088 : BitVec 32 := 4095#32
  let v1638 : BitVec 32 := Scalar.minsi v1637 c4095_i32_1088
  let c8_i32_1089 : BitVec 32 := 8#32
  let v1639 : BitVec 32 := Scalar.muli v1638 c8_i32_1089
  let v1640 : Index := Scalar.indexCast v1639
  let c0_1090 : Index := 0#32
  ![v1640.toNat, 0]

def k0_chk182 (i : grid0.Coords) (v1636 : BitVec 32) : Prop :=
  (∀ (k0_h1 : k0_cond1 i = 1#1), ∀ a, (k0_off183 v1636) a + S8x128.size a ≤ S32768x128.size a)
theorem k0_off183_inb : ∀ (i : grid0.Coords) (v1636 : BitVec 32) (k0_hw182 : k0_chk182 i v1636), ∀ (k0_h1 : k0_cond1 i = 1#1), ∀ a, (k0_off183 v1636) a + S8x128.size a ≤ S32768x128.size a := fun i v1636 k0_hw182 k0_h1 => k0_hw182 k0_h1

def k0_off184 (v1645 : BitVec 32) : Fin 2 → Nat :=
  let c3_i32_1093 : BitVec 32 := 3#32
  let v1646 : BitVec 32 := Scalar.shrsi v1645 c3_i32_1093
  let c4095_i32_1094 : BitVec 32 := 4095#32
  let v1647 : BitVec 32 := Scalar.minsi v1646 c4095_i32_1094
  let c8_i32_1095 : BitVec 32 := 8#32
  let v1648 : BitVec 32 := Scalar.muli v1647 c8_i32_1095
  let v1649 : Index := Scalar.indexCast v1648
  let c0_1096 : Index := 0#32
  ![v1649.toNat, 0]

def k0_chk183 (i : grid0.Coords) (v1645 : BitVec 32) : Prop :=
  (∀ (k0_h1 : k0_cond1 i = 1#1), ∀ a, (k0_off184 v1645) a + S8x128.size a ≤ S32768x128.size a)
theorem k0_off184_inb : ∀ (i : grid0.Coords) (v1645 : BitVec 32) (k0_hw183 : k0_chk183 i v1645), ∀ (k0_h1 : k0_cond1 i = 1#1), ∀ a, (k0_off184 v1645) a + S8x128.size a ≤ S32768x128.size a := fun i v1645 k0_hw183 k0_h1 => k0_hw183 k0_h1

def k0_off185 (v1654 : BitVec 32) : Fin 2 → Nat :=
  let c3_i32_1099 : BitVec 32 := 3#32
  let v1655 : BitVec 32 := Scalar.shrsi v1654 c3_i32_1099
  let c4095_i32_1100 : BitVec 32 := 4095#32
  let v1656 : BitVec 32 := Scalar.minsi v1655 c4095_i32_1100
  let c8_i32_1101 : BitVec 32 := 8#32
  let v1657 : BitVec 32 := Scalar.muli v1656 c8_i32_1101
  let v1658 : Index := Scalar.indexCast v1657
  let c0_1102 : Index := 0#32
  ![v1658.toNat, 0]

def k0_chk184 (i : grid0.Coords) (v1654 : BitVec 32) : Prop :=
  (∀ (k0_h1 : k0_cond1 i = 1#1), ∀ a, (k0_off185 v1654) a + S8x128.size a ≤ S32768x128.size a)
theorem k0_off185_inb : ∀ (i : grid0.Coords) (v1654 : BitVec 32) (k0_hw184 : k0_chk184 i v1654), ∀ (k0_h1 : k0_cond1 i = 1#1), ∀ a, (k0_off185 v1654) a + S8x128.size a ≤ S32768x128.size a := fun i v1654 k0_hw184 k0_h1 => k0_hw184 k0_h1

def k0_off186 (v1663 : BitVec 32) : Fin 2 → Nat :=
  let c3_i32_1105 : BitVec 32 := 3#32
  let v1664 : BitVec 32 := Scalar.shrsi v1663 c3_i32_1105
  let c4095_i32_1106 : BitVec 32 := 4095#32
  let v1665 : BitVec 32 := Scalar.minsi v1664 c4095_i32_1106
  let c8_i32_1107 : BitVec 32 := 8#32
  let v1666 : BitVec 32 := Scalar.muli v1665 c8_i32_1107
  let v1667 : Index := Scalar.indexCast v1666
  let c0_1108 : Index := 0#32
  ![v1667.toNat, 0]

def k0_chk185 (i : grid0.Coords) (v1663 : BitVec 32) : Prop :=
  (∀ (k0_h1 : k0_cond1 i = 1#1), ∀ a, (k0_off186 v1663) a + S8x128.size a ≤ S32768x128.size a)
theorem k0_off186_inb : ∀ (i : grid0.Coords) (v1663 : BitVec 32) (k0_hw185 : k0_chk185 i v1663), ∀ (k0_h1 : k0_cond1 i = 1#1), ∀ a, (k0_off186 v1663) a + S8x128.size a ≤ S32768x128.size a := fun i v1663 k0_hw185 k0_h1 => k0_hw185 k0_h1

def k0_off187 (v1672 : BitVec 32) : Fin 2 → Nat :=
  let c3_i32_1111 : BitVec 32 := 3#32
  let v1673 : BitVec 32 := Scalar.shrsi v1672 c3_i32_1111
  let c4095_i32_1112 : BitVec 32 := 4095#32
  let v1674 : BitVec 32 := Scalar.minsi v1673 c4095_i32_1112
  let c8_i32_1113 : BitVec 32 := 8#32
  let v1675 : BitVec 32 := Scalar.muli v1674 c8_i32_1113
  let v1676 : Index := Scalar.indexCast v1675
  let c0_1114 : Index := 0#32
  ![v1676.toNat, 0]

def k0_chk186 (i : grid0.Coords) (v1672 : BitVec 32) : Prop :=
  (∀ (k0_h1 : k0_cond1 i = 1#1), ∀ a, (k0_off187 v1672) a + S8x128.size a ≤ S32768x128.size a)
theorem k0_off187_inb : ∀ (i : grid0.Coords) (v1672 : BitVec 32) (k0_hw186 : k0_chk186 i v1672), ∀ (k0_h1 : k0_cond1 i = 1#1), ∀ a, (k0_off187 v1672) a + S8x128.size a ≤ S32768x128.size a := fun i v1672 k0_hw186 k0_h1 => k0_hw186 k0_h1

def k0_off188 (v1681 : BitVec 32) : Fin 2 → Nat :=
  let c3_i32_1117 : BitVec 32 := 3#32
  let v1682 : BitVec 32 := Scalar.shrsi v1681 c3_i32_1117
  let c4095_i32_1118 : BitVec 32 := 4095#32
  let v1683 : BitVec 32 := Scalar.minsi v1682 c4095_i32_1118
  let c8_i32_1119 : BitVec 32 := 8#32
  let v1684 : BitVec 32 := Scalar.muli v1683 c8_i32_1119
  let v1685 : Index := Scalar.indexCast v1684
  let c0_1120 : Index := 0#32
  ![v1685.toNat, 0]

def k0_chk187 (i : grid0.Coords) (v1681 : BitVec 32) : Prop :=
  (∀ (k0_h1 : k0_cond1 i = 1#1), ∀ a, (k0_off188 v1681) a + S8x128.size a ≤ S32768x128.size a)
theorem k0_off188_inb : ∀ (i : grid0.Coords) (v1681 : BitVec 32) (k0_hw187 : k0_chk187 i v1681), ∀ (k0_h1 : k0_cond1 i = 1#1), ∀ a, (k0_off188 v1681) a + S8x128.size a ≤ S32768x128.size a := fun i v1681 k0_hw187 k0_h1 => k0_hw187 k0_h1

def k0_off189 (v1690 : BitVec 32) : Fin 2 → Nat :=
  let c3_i32_1123 : BitVec 32 := 3#32
  let v1691 : BitVec 32 := Scalar.shrsi v1690 c3_i32_1123
  let c4095_i32_1124 : BitVec 32 := 4095#32
  let v1692 : BitVec 32 := Scalar.minsi v1691 c4095_i32_1124
  let c8_i32_1125 : BitVec 32 := 8#32
  let v1693 : BitVec 32 := Scalar.muli v1692 c8_i32_1125
  let v1694 : Index := Scalar.indexCast v1693
  let c0_1126 : Index := 0#32
  ![v1694.toNat, 0]

def k0_chk188 (i : grid0.Coords) (v1690 : BitVec 32) : Prop :=
  (∀ (k0_h1 : k0_cond1 i = 1#1), ∀ a, (k0_off189 v1690) a + S8x128.size a ≤ S32768x128.size a)
theorem k0_off189_inb : ∀ (i : grid0.Coords) (v1690 : BitVec 32) (k0_hw188 : k0_chk188 i v1690), ∀ (k0_h1 : k0_cond1 i = 1#1), ∀ a, (k0_off189 v1690) a + S8x128.size a ≤ S32768x128.size a := fun i v1690 k0_hw188 k0_h1 => k0_hw188 k0_h1

def k0_off190 (v1699 : BitVec 32) : Fin 2 → Nat :=
  let c3_i32_1129 : BitVec 32 := 3#32
  let v1700 : BitVec 32 := Scalar.shrsi v1699 c3_i32_1129
  let c4095_i32_1130 : BitVec 32 := 4095#32
  let v1701 : BitVec 32 := Scalar.minsi v1700 c4095_i32_1130
  let c8_i32_1131 : BitVec 32 := 8#32
  let v1702 : BitVec 32 := Scalar.muli v1701 c8_i32_1131
  let v1703 : Index := Scalar.indexCast v1702
  let c0_1132 : Index := 0#32
  ![v1703.toNat, 0]

def k0_chk189 (i : grid0.Coords) (v1699 : BitVec 32) : Prop :=
  (∀ (k0_h1 : k0_cond1 i = 1#1), ∀ a, (k0_off190 v1699) a + S8x128.size a ≤ S32768x128.size a)
theorem k0_off190_inb : ∀ (i : grid0.Coords) (v1699 : BitVec 32) (k0_hw189 : k0_chk189 i v1699), ∀ (k0_h1 : k0_cond1 i = 1#1), ∀ a, (k0_off190 v1699) a + S8x128.size a ≤ S32768x128.size a := fun i v1699 k0_hw189 k0_h1 => k0_hw189 k0_h1

def k0_off191 (v1708 : BitVec 32) : Fin 2 → Nat :=
  let c3_i32_1135 : BitVec 32 := 3#32
  let v1709 : BitVec 32 := Scalar.shrsi v1708 c3_i32_1135
  let c4095_i32_1136 : BitVec 32 := 4095#32
  let v1710 : BitVec 32 := Scalar.minsi v1709 c4095_i32_1136
  let c8_i32_1137 : BitVec 32 := 8#32
  let v1711 : BitVec 32 := Scalar.muli v1710 c8_i32_1137
  let v1712 : Index := Scalar.indexCast v1711
  let c0_1138 : Index := 0#32
  ![v1712.toNat, 0]

def k0_chk190 (i : grid0.Coords) (v1708 : BitVec 32) : Prop :=
  (∀ (k0_h1 : k0_cond1 i = 1#1), ∀ a, (k0_off191 v1708) a + S8x128.size a ≤ S32768x128.size a)
theorem k0_off191_inb : ∀ (i : grid0.Coords) (v1708 : BitVec 32) (k0_hw190 : k0_chk190 i v1708), ∀ (k0_h1 : k0_cond1 i = 1#1), ∀ a, (k0_off191 v1708) a + S8x128.size a ≤ S32768x128.size a := fun i v1708 k0_hw190 k0_h1 => k0_hw190 k0_h1

def k0_off192 (v1717 : BitVec 32) : Fin 2 → Nat :=
  let c3_i32_1141 : BitVec 32 := 3#32
  let v1718 : BitVec 32 := Scalar.shrsi v1717 c3_i32_1141
  let c4095_i32_1142 : BitVec 32 := 4095#32
  let v1719 : BitVec 32 := Scalar.minsi v1718 c4095_i32_1142
  let c8_i32_1143 : BitVec 32 := 8#32
  let v1720 : BitVec 32 := Scalar.muli v1719 c8_i32_1143
  let v1721 : Index := Scalar.indexCast v1720
  let c0_1144 : Index := 0#32
  ![v1721.toNat, 0]

def k0_chk191 (i : grid0.Coords) (v1717 : BitVec 32) : Prop :=
  (∀ (k0_h1 : k0_cond1 i = 1#1), ∀ a, (k0_off192 v1717) a + S8x128.size a ≤ S32768x128.size a)
theorem k0_off192_inb : ∀ (i : grid0.Coords) (v1717 : BitVec 32) (k0_hw191 : k0_chk191 i v1717), ∀ (k0_h1 : k0_cond1 i = 1#1), ∀ a, (k0_off192 v1717) a + S8x128.size a ≤ S32768x128.size a := fun i v1717 k0_hw191 k0_h1 => k0_hw191 k0_h1

def k0_off193 (v1726 : BitVec 32) : Fin 2 → Nat :=
  let c3_i32_1147 : BitVec 32 := 3#32
  let v1727 : BitVec 32 := Scalar.shrsi v1726 c3_i32_1147
  let c4095_i32_1148 : BitVec 32 := 4095#32
  let v1728 : BitVec 32 := Scalar.minsi v1727 c4095_i32_1148
  let c8_i32_1149 : BitVec 32 := 8#32
  let v1729 : BitVec 32 := Scalar.muli v1728 c8_i32_1149
  let v1730 : Index := Scalar.indexCast v1729
  let c0_1150 : Index := 0#32
  ![v1730.toNat, 0]

def k0_chk192 (i : grid0.Coords) (v1726 : BitVec 32) : Prop :=
  (∀ (k0_h1 : k0_cond1 i = 1#1), ∀ a, (k0_off193 v1726) a + S8x128.size a ≤ S32768x128.size a)
theorem k0_off193_inb : ∀ (i : grid0.Coords) (v1726 : BitVec 32) (k0_hw192 : k0_chk192 i v1726), ∀ (k0_h1 : k0_cond1 i = 1#1), ∀ a, (k0_off193 v1726) a + S8x128.size a ≤ S32768x128.size a := fun i v1726 k0_hw192 k0_h1 => k0_hw192 k0_h1

def k0_off194 (v1735 : BitVec 32) : Fin 2 → Nat :=
  let c3_i32_1153 : BitVec 32 := 3#32
  let v1736 : BitVec 32 := Scalar.shrsi v1735 c3_i32_1153
  let c4095_i32_1154 : BitVec 32 := 4095#32
  let v1737 : BitVec 32 := Scalar.minsi v1736 c4095_i32_1154
  let c8_i32_1155 : BitVec 32 := 8#32
  let v1738 : BitVec 32 := Scalar.muli v1737 c8_i32_1155
  let v1739 : Index := Scalar.indexCast v1738
  let c0_1156 : Index := 0#32
  ![v1739.toNat, 0]

def k0_chk193 (i : grid0.Coords) (v1735 : BitVec 32) : Prop :=
  (∀ (k0_h1 : k0_cond1 i = 1#1), ∀ a, (k0_off194 v1735) a + S8x128.size a ≤ S32768x128.size a)
theorem k0_off194_inb : ∀ (i : grid0.Coords) (v1735 : BitVec 32) (k0_hw193 : k0_chk193 i v1735), ∀ (k0_h1 : k0_cond1 i = 1#1), ∀ a, (k0_off194 v1735) a + S8x128.size a ≤ S32768x128.size a := fun i v1735 k0_hw193 k0_h1 => k0_hw193 k0_h1

def k0_off195 (v1744 : BitVec 32) : Fin 2 → Nat :=
  let c3_i32_1159 : BitVec 32 := 3#32
  let v1745 : BitVec 32 := Scalar.shrsi v1744 c3_i32_1159
  let c4095_i32_1160 : BitVec 32 := 4095#32
  let v1746 : BitVec 32 := Scalar.minsi v1745 c4095_i32_1160
  let c8_i32_1161 : BitVec 32 := 8#32
  let v1747 : BitVec 32 := Scalar.muli v1746 c8_i32_1161
  let v1748 : Index := Scalar.indexCast v1747
  let c0_1162 : Index := 0#32
  ![v1748.toNat, 0]

def k0_chk194 (i : grid0.Coords) (v1744 : BitVec 32) : Prop :=
  (∀ (k0_h1 : k0_cond1 i = 1#1), ∀ a, (k0_off195 v1744) a + S8x128.size a ≤ S32768x128.size a)
theorem k0_off195_inb : ∀ (i : grid0.Coords) (v1744 : BitVec 32) (k0_hw194 : k0_chk194 i v1744), ∀ (k0_h1 : k0_cond1 i = 1#1), ∀ a, (k0_off195 v1744) a + S8x128.size a ≤ S32768x128.size a := fun i v1744 k0_hw194 k0_h1 => k0_hw194 k0_h1

def k0_off196 (v1753 : BitVec 32) : Fin 2 → Nat :=
  let c3_i32_1165 : BitVec 32 := 3#32
  let v1754 : BitVec 32 := Scalar.shrsi v1753 c3_i32_1165
  let c4095_i32_1166 : BitVec 32 := 4095#32
  let v1755 : BitVec 32 := Scalar.minsi v1754 c4095_i32_1166
  let c8_i32_1167 : BitVec 32 := 8#32
  let v1756 : BitVec 32 := Scalar.muli v1755 c8_i32_1167
  let v1757 : Index := Scalar.indexCast v1756
  let c0_1168 : Index := 0#32
  ![v1757.toNat, 0]

def k0_chk195 (i : grid0.Coords) (v1753 : BitVec 32) : Prop :=
  (∀ (k0_h1 : k0_cond1 i = 1#1), ∀ a, (k0_off196 v1753) a + S8x128.size a ≤ S32768x128.size a)
theorem k0_off196_inb : ∀ (i : grid0.Coords) (v1753 : BitVec 32) (k0_hw195 : k0_chk195 i v1753), ∀ (k0_h1 : k0_cond1 i = 1#1), ∀ a, (k0_off196 v1753) a + S8x128.size a ≤ S32768x128.size a := fun i v1753 k0_hw195 k0_h1 => k0_hw195 k0_h1

def k0_off197 (v1762 : BitVec 32) : Fin 2 → Nat :=
  let c3_i32_1171 : BitVec 32 := 3#32
  let v1763 : BitVec 32 := Scalar.shrsi v1762 c3_i32_1171
  let c4095_i32_1172 : BitVec 32 := 4095#32
  let v1764 : BitVec 32 := Scalar.minsi v1763 c4095_i32_1172
  let c8_i32_1173 : BitVec 32 := 8#32
  let v1765 : BitVec 32 := Scalar.muli v1764 c8_i32_1173
  let v1766 : Index := Scalar.indexCast v1765
  let c0_1174 : Index := 0#32
  ![v1766.toNat, 0]

def k0_chk196 (i : grid0.Coords) (v1762 : BitVec 32) : Prop :=
  (∀ (k0_h1 : k0_cond1 i = 1#1), ∀ a, (k0_off197 v1762) a + S8x128.size a ≤ S32768x128.size a)
theorem k0_off197_inb : ∀ (i : grid0.Coords) (v1762 : BitVec 32) (k0_hw196 : k0_chk196 i v1762), ∀ (k0_h1 : k0_cond1 i = 1#1), ∀ a, (k0_off197 v1762) a + S8x128.size a ≤ S32768x128.size a := fun i v1762 k0_hw196 k0_h1 => k0_hw196 k0_h1

def k0_off198 (v1771 : BitVec 32) : Fin 2 → Nat :=
  let c3_i32_1177 : BitVec 32 := 3#32
  let v1772 : BitVec 32 := Scalar.shrsi v1771 c3_i32_1177
  let c4095_i32_1178 : BitVec 32 := 4095#32
  let v1773 : BitVec 32 := Scalar.minsi v1772 c4095_i32_1178
  let c8_i32_1179 : BitVec 32 := 8#32
  let v1774 : BitVec 32 := Scalar.muli v1773 c8_i32_1179
  let v1775 : Index := Scalar.indexCast v1774
  let c0_1180 : Index := 0#32
  ![v1775.toNat, 0]

def k0_chk197 (i : grid0.Coords) (v1771 : BitVec 32) : Prop :=
  (∀ (k0_h1 : k0_cond1 i = 1#1), ∀ a, (k0_off198 v1771) a + S8x128.size a ≤ S32768x128.size a)
theorem k0_off198_inb : ∀ (i : grid0.Coords) (v1771 : BitVec 32) (k0_hw197 : k0_chk197 i v1771), ∀ (k0_h1 : k0_cond1 i = 1#1), ∀ a, (k0_off198 v1771) a + S8x128.size a ≤ S32768x128.size a := fun i v1771 k0_hw197 k0_h1 => k0_hw197 k0_h1

def k0_off199 (v1780 : BitVec 32) : Fin 2 → Nat :=
  let c3_i32_1183 : BitVec 32 := 3#32
  let v1781 : BitVec 32 := Scalar.shrsi v1780 c3_i32_1183
  let c4095_i32_1184 : BitVec 32 := 4095#32
  let v1782 : BitVec 32 := Scalar.minsi v1781 c4095_i32_1184
  let c8_i32_1185 : BitVec 32 := 8#32
  let v1783 : BitVec 32 := Scalar.muli v1782 c8_i32_1185
  let v1784 : Index := Scalar.indexCast v1783
  let c0_1186 : Index := 0#32
  ![v1784.toNat, 0]

def k0_chk198 (i : grid0.Coords) (v1780 : BitVec 32) : Prop :=
  (∀ (k0_h1 : k0_cond1 i = 1#1), ∀ a, (k0_off199 v1780) a + S8x128.size a ≤ S32768x128.size a)
theorem k0_off199_inb : ∀ (i : grid0.Coords) (v1780 : BitVec 32) (k0_hw198 : k0_chk198 i v1780), ∀ (k0_h1 : k0_cond1 i = 1#1), ∀ a, (k0_off199 v1780) a + S8x128.size a ≤ S32768x128.size a := fun i v1780 k0_hw198 k0_h1 => k0_hw198 k0_h1

def k0_off200 (v1789 : BitVec 32) : Fin 2 → Nat :=
  let c3_i32_1189 : BitVec 32 := 3#32
  let v1790 : BitVec 32 := Scalar.shrsi v1789 c3_i32_1189
  let c4095_i32_1190 : BitVec 32 := 4095#32
  let v1791 : BitVec 32 := Scalar.minsi v1790 c4095_i32_1190
  let c8_i32_1191 : BitVec 32 := 8#32
  let v1792 : BitVec 32 := Scalar.muli v1791 c8_i32_1191
  let v1793 : Index := Scalar.indexCast v1792
  let c0_1192 : Index := 0#32
  ![v1793.toNat, 0]

def k0_chk199 (i : grid0.Coords) (v1789 : BitVec 32) : Prop :=
  (∀ (k0_h1 : k0_cond1 i = 1#1), ∀ a, (k0_off200 v1789) a + S8x128.size a ≤ S32768x128.size a)
theorem k0_off200_inb : ∀ (i : grid0.Coords) (v1789 : BitVec 32) (k0_hw199 : k0_chk199 i v1789), ∀ (k0_h1 : k0_cond1 i = 1#1), ∀ a, (k0_off200 v1789) a + S8x128.size a ≤ S32768x128.size a := fun i v1789 k0_hw199 k0_h1 => k0_hw199 k0_h1

def k0_off201 (v1798 : BitVec 32) : Fin 2 → Nat :=
  let c3_i32_1195 : BitVec 32 := 3#32
  let v1799 : BitVec 32 := Scalar.shrsi v1798 c3_i32_1195
  let c4095_i32_1196 : BitVec 32 := 4095#32
  let v1800 : BitVec 32 := Scalar.minsi v1799 c4095_i32_1196
  let c8_i32_1197 : BitVec 32 := 8#32
  let v1801 : BitVec 32 := Scalar.muli v1800 c8_i32_1197
  let v1802 : Index := Scalar.indexCast v1801
  let c0_1198 : Index := 0#32
  ![v1802.toNat, 0]

def k0_chk200 (i : grid0.Coords) (v1798 : BitVec 32) : Prop :=
  (∀ (k0_h1 : k0_cond1 i = 1#1), ∀ a, (k0_off201 v1798) a + S8x128.size a ≤ S32768x128.size a)
theorem k0_off201_inb : ∀ (i : grid0.Coords) (v1798 : BitVec 32) (k0_hw200 : k0_chk200 i v1798), ∀ (k0_h1 : k0_cond1 i = 1#1), ∀ a, (k0_off201 v1798) a + S8x128.size a ≤ S32768x128.size a := fun i v1798 k0_hw200 k0_h1 => k0_hw200 k0_h1

def k0_off202 (v1807 : BitVec 32) : Fin 2 → Nat :=
  let c3_i32_1201 : BitVec 32 := 3#32
  let v1808 : BitVec 32 := Scalar.shrsi v1807 c3_i32_1201
  let c4095_i32_1202 : BitVec 32 := 4095#32
  let v1809 : BitVec 32 := Scalar.minsi v1808 c4095_i32_1202
  let c8_i32_1203 : BitVec 32 := 8#32
  let v1810 : BitVec 32 := Scalar.muli v1809 c8_i32_1203
  let v1811 : Index := Scalar.indexCast v1810
  let c0_1204 : Index := 0#32
  ![v1811.toNat, 0]

def k0_chk201 (i : grid0.Coords) (v1807 : BitVec 32) : Prop :=
  (∀ (k0_h1 : k0_cond1 i = 1#1), ∀ a, (k0_off202 v1807) a + S8x128.size a ≤ S32768x128.size a)
theorem k0_off202_inb : ∀ (i : grid0.Coords) (v1807 : BitVec 32) (k0_hw201 : k0_chk201 i v1807), ∀ (k0_h1 : k0_cond1 i = 1#1), ∀ a, (k0_off202 v1807) a + S8x128.size a ≤ S32768x128.size a := fun i v1807 k0_hw201 k0_h1 => k0_hw201 k0_h1

def k0_off203 (v1816 : BitVec 32) : Fin 2 → Nat :=
  let c3_i32_1207 : BitVec 32 := 3#32
  let v1817 : BitVec 32 := Scalar.shrsi v1816 c3_i32_1207
  let c4095_i32_1208 : BitVec 32 := 4095#32
  let v1818 : BitVec 32 := Scalar.minsi v1817 c4095_i32_1208
  let c8_i32_1209 : BitVec 32 := 8#32
  let v1819 : BitVec 32 := Scalar.muli v1818 c8_i32_1209
  let v1820 : Index := Scalar.indexCast v1819
  let c0_1210 : Index := 0#32
  ![v1820.toNat, 0]

def k0_chk202 (i : grid0.Coords) (v1816 : BitVec 32) : Prop :=
  (∀ (k0_h1 : k0_cond1 i = 1#1), ∀ a, (k0_off203 v1816) a + S8x128.size a ≤ S32768x128.size a)
theorem k0_off203_inb : ∀ (i : grid0.Coords) (v1816 : BitVec 32) (k0_hw202 : k0_chk202 i v1816), ∀ (k0_h1 : k0_cond1 i = 1#1), ∀ a, (k0_off203 v1816) a + S8x128.size a ≤ S32768x128.size a := fun i v1816 k0_hw202 k0_h1 => k0_hw202 k0_h1

def k0_off204 (v1825 : BitVec 32) : Fin 2 → Nat :=
  let c3_i32_1213 : BitVec 32 := 3#32
  let v1826 : BitVec 32 := Scalar.shrsi v1825 c3_i32_1213
  let c4095_i32_1214 : BitVec 32 := 4095#32
  let v1827 : BitVec 32 := Scalar.minsi v1826 c4095_i32_1214
  let c8_i32_1215 : BitVec 32 := 8#32
  let v1828 : BitVec 32 := Scalar.muli v1827 c8_i32_1215
  let v1829 : Index := Scalar.indexCast v1828
  let c0_1216 : Index := 0#32
  ![v1829.toNat, 0]

def k0_chk203 (i : grid0.Coords) (v1825 : BitVec 32) : Prop :=
  (∀ (k0_h1 : k0_cond1 i = 1#1), ∀ a, (k0_off204 v1825) a + S8x128.size a ≤ S32768x128.size a)
theorem k0_off204_inb : ∀ (i : grid0.Coords) (v1825 : BitVec 32) (k0_hw203 : k0_chk203 i v1825), ∀ (k0_h1 : k0_cond1 i = 1#1), ∀ a, (k0_off204 v1825) a + S8x128.size a ≤ S32768x128.size a := fun i v1825 k0_hw203 k0_h1 => k0_hw203 k0_h1

def k0_off205 (v1834 : BitVec 32) : Fin 2 → Nat :=
  let c3_i32_1219 : BitVec 32 := 3#32
  let v1835 : BitVec 32 := Scalar.shrsi v1834 c3_i32_1219
  let c4095_i32_1220 : BitVec 32 := 4095#32
  let v1836 : BitVec 32 := Scalar.minsi v1835 c4095_i32_1220
  let c8_i32_1221 : BitVec 32 := 8#32
  let v1837 : BitVec 32 := Scalar.muli v1836 c8_i32_1221
  let v1838 : Index := Scalar.indexCast v1837
  let c0_1222 : Index := 0#32
  ![v1838.toNat, 0]

def k0_chk204 (i : grid0.Coords) (v1834 : BitVec 32) : Prop :=
  (∀ (k0_h1 : k0_cond1 i = 1#1), ∀ a, (k0_off205 v1834) a + S8x128.size a ≤ S32768x128.size a)
theorem k0_off205_inb : ∀ (i : grid0.Coords) (v1834 : BitVec 32) (k0_hw204 : k0_chk204 i v1834), ∀ (k0_h1 : k0_cond1 i = 1#1), ∀ a, (k0_off205 v1834) a + S8x128.size a ≤ S32768x128.size a := fun i v1834 k0_hw204 k0_h1 => k0_hw204 k0_h1

def k0_off206 (v1843 : BitVec 32) : Fin 2 → Nat :=
  let c3_i32_1225 : BitVec 32 := 3#32
  let v1844 : BitVec 32 := Scalar.shrsi v1843 c3_i32_1225
  let c4095_i32_1226 : BitVec 32 := 4095#32
  let v1845 : BitVec 32 := Scalar.minsi v1844 c4095_i32_1226
  let c8_i32_1227 : BitVec 32 := 8#32
  let v1846 : BitVec 32 := Scalar.muli v1845 c8_i32_1227
  let v1847 : Index := Scalar.indexCast v1846
  let c0_1228 : Index := 0#32
  ![v1847.toNat, 0]

def k0_chk205 (i : grid0.Coords) (v1843 : BitVec 32) : Prop :=
  (∀ (k0_h1 : k0_cond1 i = 1#1), ∀ a, (k0_off206 v1843) a + S8x128.size a ≤ S32768x128.size a)
theorem k0_off206_inb : ∀ (i : grid0.Coords) (v1843 : BitVec 32) (k0_hw205 : k0_chk205 i v1843), ∀ (k0_h1 : k0_cond1 i = 1#1), ∀ a, (k0_off206 v1843) a + S8x128.size a ≤ S32768x128.size a := fun i v1843 k0_hw205 k0_h1 => k0_hw205 k0_h1

def k0_off207 (v1852 : BitVec 32) : Fin 2 → Nat :=
  let c3_i32_1231 : BitVec 32 := 3#32
  let v1853 : BitVec 32 := Scalar.shrsi v1852 c3_i32_1231
  let c4095_i32_1232 : BitVec 32 := 4095#32
  let v1854 : BitVec 32 := Scalar.minsi v1853 c4095_i32_1232
  let c8_i32_1233 : BitVec 32 := 8#32
  let v1855 : BitVec 32 := Scalar.muli v1854 c8_i32_1233
  let v1856 : Index := Scalar.indexCast v1855
  let c0_1234 : Index := 0#32
  ![v1856.toNat, 0]

def k0_chk206 (i : grid0.Coords) (v1852 : BitVec 32) : Prop :=
  (∀ (k0_h1 : k0_cond1 i = 1#1), ∀ a, (k0_off207 v1852) a + S8x128.size a ≤ S32768x128.size a)
theorem k0_off207_inb : ∀ (i : grid0.Coords) (v1852 : BitVec 32) (k0_hw206 : k0_chk206 i v1852), ∀ (k0_h1 : k0_cond1 i = 1#1), ∀ a, (k0_off207 v1852) a + S8x128.size a ≤ S32768x128.size a := fun i v1852 k0_hw206 k0_h1 => k0_hw206 k0_h1

def k0_off208 (v1861 : BitVec 32) : Fin 2 → Nat :=
  let c3_i32_1237 : BitVec 32 := 3#32
  let v1862 : BitVec 32 := Scalar.shrsi v1861 c3_i32_1237
  let c4095_i32_1238 : BitVec 32 := 4095#32
  let v1863 : BitVec 32 := Scalar.minsi v1862 c4095_i32_1238
  let c8_i32_1239 : BitVec 32 := 8#32
  let v1864 : BitVec 32 := Scalar.muli v1863 c8_i32_1239
  let v1865 : Index := Scalar.indexCast v1864
  let c0_1240 : Index := 0#32
  ![v1865.toNat, 0]

def k0_chk207 (i : grid0.Coords) (v1861 : BitVec 32) : Prop :=
  (∀ (k0_h1 : k0_cond1 i = 1#1), ∀ a, (k0_off208 v1861) a + S8x128.size a ≤ S32768x128.size a)
theorem k0_off208_inb : ∀ (i : grid0.Coords) (v1861 : BitVec 32) (k0_hw207 : k0_chk207 i v1861), ∀ (k0_h1 : k0_cond1 i = 1#1), ∀ a, (k0_off208 v1861) a + S8x128.size a ≤ S32768x128.size a := fun i v1861 k0_hw207 k0_h1 => k0_hw207 k0_h1

def k0_off209 (v1870 : BitVec 32) : Fin 2 → Nat :=
  let c3_i32_1243 : BitVec 32 := 3#32
  let v1871 : BitVec 32 := Scalar.shrsi v1870 c3_i32_1243
  let c4095_i32_1244 : BitVec 32 := 4095#32
  let v1872 : BitVec 32 := Scalar.minsi v1871 c4095_i32_1244
  let c8_i32_1245 : BitVec 32 := 8#32
  let v1873 : BitVec 32 := Scalar.muli v1872 c8_i32_1245
  let v1874 : Index := Scalar.indexCast v1873
  let c0_1246 : Index := 0#32
  ![v1874.toNat, 0]

def k0_chk208 (i : grid0.Coords) (v1870 : BitVec 32) : Prop :=
  (∀ (k0_h1 : k0_cond1 i = 1#1), ∀ a, (k0_off209 v1870) a + S8x128.size a ≤ S32768x128.size a)
theorem k0_off209_inb : ∀ (i : grid0.Coords) (v1870 : BitVec 32) (k0_hw208 : k0_chk208 i v1870), ∀ (k0_h1 : k0_cond1 i = 1#1), ∀ a, (k0_off209 v1870) a + S8x128.size a ≤ S32768x128.size a := fun i v1870 k0_hw208 k0_h1 => k0_hw208 k0_h1

def k0_off210 (v1879 : BitVec 32) : Fin 2 → Nat :=
  let c3_i32_1249 : BitVec 32 := 3#32
  let v1880 : BitVec 32 := Scalar.shrsi v1879 c3_i32_1249
  let c4095_i32_1250 : BitVec 32 := 4095#32
  let v1881 : BitVec 32 := Scalar.minsi v1880 c4095_i32_1250
  let c8_i32_1251 : BitVec 32 := 8#32
  let v1882 : BitVec 32 := Scalar.muli v1881 c8_i32_1251
  let v1883 : Index := Scalar.indexCast v1882
  let c0_1252 : Index := 0#32
  ![v1883.toNat, 0]

def k0_chk209 (i : grid0.Coords) (v1879 : BitVec 32) : Prop :=
  (∀ (k0_h1 : k0_cond1 i = 1#1), ∀ a, (k0_off210 v1879) a + S8x128.size a ≤ S32768x128.size a)
theorem k0_off210_inb : ∀ (i : grid0.Coords) (v1879 : BitVec 32) (k0_hw209 : k0_chk209 i v1879), ∀ (k0_h1 : k0_cond1 i = 1#1), ∀ a, (k0_off210 v1879) a + S8x128.size a ≤ S32768x128.size a := fun i v1879 k0_hw209 k0_h1 => k0_hw209 k0_h1

def k0_off211 (v1888 : BitVec 32) : Fin 2 → Nat :=
  let c3_i32_1255 : BitVec 32 := 3#32
  let v1889 : BitVec 32 := Scalar.shrsi v1888 c3_i32_1255
  let c4095_i32_1256 : BitVec 32 := 4095#32
  let v1890 : BitVec 32 := Scalar.minsi v1889 c4095_i32_1256
  let c8_i32_1257 : BitVec 32 := 8#32
  let v1891 : BitVec 32 := Scalar.muli v1890 c8_i32_1257
  let v1892 : Index := Scalar.indexCast v1891
  let c0_1258 : Index := 0#32
  ![v1892.toNat, 0]

def k0_chk210 (i : grid0.Coords) (v1888 : BitVec 32) : Prop :=
  (∀ (k0_h1 : k0_cond1 i = 1#1), ∀ a, (k0_off211 v1888) a + S8x128.size a ≤ S32768x128.size a)
theorem k0_off211_inb : ∀ (i : grid0.Coords) (v1888 : BitVec 32) (k0_hw210 : k0_chk210 i v1888), ∀ (k0_h1 : k0_cond1 i = 1#1), ∀ a, (k0_off211 v1888) a + S8x128.size a ≤ S32768x128.size a := fun i v1888 k0_hw210 k0_h1 => k0_hw210 k0_h1

def k0_off212 (v1897 : BitVec 32) : Fin 2 → Nat :=
  let c3_i32_1261 : BitVec 32 := 3#32
  let v1898 : BitVec 32 := Scalar.shrsi v1897 c3_i32_1261
  let c4095_i32_1262 : BitVec 32 := 4095#32
  let v1899 : BitVec 32 := Scalar.minsi v1898 c4095_i32_1262
  let c8_i32_1263 : BitVec 32 := 8#32
  let v1900 : BitVec 32 := Scalar.muli v1899 c8_i32_1263
  let v1901 : Index := Scalar.indexCast v1900
  let c0_1264 : Index := 0#32
  ![v1901.toNat, 0]

def k0_chk211 (i : grid0.Coords) (v1897 : BitVec 32) : Prop :=
  (∀ (k0_h1 : k0_cond1 i = 1#1), ∀ a, (k0_off212 v1897) a + S8x128.size a ≤ S32768x128.size a)
theorem k0_off212_inb : ∀ (i : grid0.Coords) (v1897 : BitVec 32) (k0_hw211 : k0_chk211 i v1897), ∀ (k0_h1 : k0_cond1 i = 1#1), ∀ a, (k0_off212 v1897) a + S8x128.size a ≤ S32768x128.size a := fun i v1897 k0_hw211 k0_h1 => k0_hw211 k0_h1

def k0_off213 (v1906 : BitVec 32) : Fin 2 → Nat :=
  let c3_i32_1267 : BitVec 32 := 3#32
  let v1907 : BitVec 32 := Scalar.shrsi v1906 c3_i32_1267
  let c4095_i32_1268 : BitVec 32 := 4095#32
  let v1908 : BitVec 32 := Scalar.minsi v1907 c4095_i32_1268
  let c8_i32_1269 : BitVec 32 := 8#32
  let v1909 : BitVec 32 := Scalar.muli v1908 c8_i32_1269
  let v1910 : Index := Scalar.indexCast v1909
  let c0_1270 : Index := 0#32
  ![v1910.toNat, 0]

def k0_chk212 (i : grid0.Coords) (v1906 : BitVec 32) : Prop :=
  (∀ (k0_h1 : k0_cond1 i = 1#1), ∀ a, (k0_off213 v1906) a + S8x128.size a ≤ S32768x128.size a)
theorem k0_off213_inb : ∀ (i : grid0.Coords) (v1906 : BitVec 32) (k0_hw212 : k0_chk212 i v1906), ∀ (k0_h1 : k0_cond1 i = 1#1), ∀ a, (k0_off213 v1906) a + S8x128.size a ≤ S32768x128.size a := fun i v1906 k0_hw212 k0_h1 => k0_hw212 k0_h1

def k0_off214 (v1915 : BitVec 32) : Fin 2 → Nat :=
  let c3_i32_1273 : BitVec 32 := 3#32
  let v1916 : BitVec 32 := Scalar.shrsi v1915 c3_i32_1273
  let c4095_i32_1274 : BitVec 32 := 4095#32
  let v1917 : BitVec 32 := Scalar.minsi v1916 c4095_i32_1274
  let c8_i32_1275 : BitVec 32 := 8#32
  let v1918 : BitVec 32 := Scalar.muli v1917 c8_i32_1275
  let v1919 : Index := Scalar.indexCast v1918
  let c0_1276 : Index := 0#32
  ![v1919.toNat, 0]

def k0_chk213 (i : grid0.Coords) (v1915 : BitVec 32) : Prop :=
  (∀ (k0_h1 : k0_cond1 i = 1#1), ∀ a, (k0_off214 v1915) a + S8x128.size a ≤ S32768x128.size a)
theorem k0_off214_inb : ∀ (i : grid0.Coords) (v1915 : BitVec 32) (k0_hw213 : k0_chk213 i v1915), ∀ (k0_h1 : k0_cond1 i = 1#1), ∀ a, (k0_off214 v1915) a + S8x128.size a ≤ S32768x128.size a := fun i v1915 k0_hw213 k0_h1 => k0_hw213 k0_h1

def k0_off215 (v1924 : BitVec 32) : Fin 2 → Nat :=
  let c3_i32_1279 : BitVec 32 := 3#32
  let v1925 : BitVec 32 := Scalar.shrsi v1924 c3_i32_1279
  let c4095_i32_1280 : BitVec 32 := 4095#32
  let v1926 : BitVec 32 := Scalar.minsi v1925 c4095_i32_1280
  let c8_i32_1281 : BitVec 32 := 8#32
  let v1927 : BitVec 32 := Scalar.muli v1926 c8_i32_1281
  let v1928 : Index := Scalar.indexCast v1927
  let c0_1282 : Index := 0#32
  ![v1928.toNat, 0]

def k0_chk214 (i : grid0.Coords) (v1924 : BitVec 32) : Prop :=
  (∀ (k0_h1 : k0_cond1 i = 1#1), ∀ a, (k0_off215 v1924) a + S8x128.size a ≤ S32768x128.size a)
theorem k0_off215_inb : ∀ (i : grid0.Coords) (v1924 : BitVec 32) (k0_hw214 : k0_chk214 i v1924), ∀ (k0_h1 : k0_cond1 i = 1#1), ∀ a, (k0_off215 v1924) a + S8x128.size a ≤ S32768x128.size a := fun i v1924 k0_hw214 k0_h1 => k0_hw214 k0_h1

def k0_off216 (v1933 : BitVec 32) : Fin 2 → Nat :=
  let c3_i32_1285 : BitVec 32 := 3#32
  let v1934 : BitVec 32 := Scalar.shrsi v1933 c3_i32_1285
  let c4095_i32_1286 : BitVec 32 := 4095#32
  let v1935 : BitVec 32 := Scalar.minsi v1934 c4095_i32_1286
  let c8_i32_1287 : BitVec 32 := 8#32
  let v1936 : BitVec 32 := Scalar.muli v1935 c8_i32_1287
  let v1937 : Index := Scalar.indexCast v1936
  let c0_1288 : Index := 0#32
  ![v1937.toNat, 0]

def k0_chk215 (i : grid0.Coords) (v1933 : BitVec 32) : Prop :=
  (∀ (k0_h1 : k0_cond1 i = 1#1), ∀ a, (k0_off216 v1933) a + S8x128.size a ≤ S32768x128.size a)
theorem k0_off216_inb : ∀ (i : grid0.Coords) (v1933 : BitVec 32) (k0_hw215 : k0_chk215 i v1933), ∀ (k0_h1 : k0_cond1 i = 1#1), ∀ a, (k0_off216 v1933) a + S8x128.size a ≤ S32768x128.size a := fun i v1933 k0_hw215 k0_h1 => k0_hw215 k0_h1

def k0_off217 (v1942 : BitVec 32) : Fin 2 → Nat :=
  let c3_i32_1291 : BitVec 32 := 3#32
  let v1943 : BitVec 32 := Scalar.shrsi v1942 c3_i32_1291
  let c4095_i32_1292 : BitVec 32 := 4095#32
  let v1944 : BitVec 32 := Scalar.minsi v1943 c4095_i32_1292
  let c8_i32_1293 : BitVec 32 := 8#32
  let v1945 : BitVec 32 := Scalar.muli v1944 c8_i32_1293
  let v1946 : Index := Scalar.indexCast v1945
  let c0_1294 : Index := 0#32
  ![v1946.toNat, 0]

def k0_chk216 (i : grid0.Coords) (v1942 : BitVec 32) : Prop :=
  (∀ (k0_h1 : k0_cond1 i = 1#1), ∀ a, (k0_off217 v1942) a + S8x128.size a ≤ S32768x128.size a)
theorem k0_off217_inb : ∀ (i : grid0.Coords) (v1942 : BitVec 32) (k0_hw216 : k0_chk216 i v1942), ∀ (k0_h1 : k0_cond1 i = 1#1), ∀ a, (k0_off217 v1942) a + S8x128.size a ≤ S32768x128.size a := fun i v1942 k0_hw216 k0_h1 => k0_hw216 k0_h1

def k0_off218 (v1951 : BitVec 32) : Fin 2 → Nat :=
  let c3_i32_1297 : BitVec 32 := 3#32
  let v1952 : BitVec 32 := Scalar.shrsi v1951 c3_i32_1297
  let c4095_i32_1298 : BitVec 32 := 4095#32
  let v1953 : BitVec 32 := Scalar.minsi v1952 c4095_i32_1298
  let c8_i32_1299 : BitVec 32 := 8#32
  let v1954 : BitVec 32 := Scalar.muli v1953 c8_i32_1299
  let v1955 : Index := Scalar.indexCast v1954
  let c0_1300 : Index := 0#32
  ![v1955.toNat, 0]

def k0_chk217 (i : grid0.Coords) (v1951 : BitVec 32) : Prop :=
  (∀ (k0_h1 : k0_cond1 i = 1#1), ∀ a, (k0_off218 v1951) a + S8x128.size a ≤ S32768x128.size a)
theorem k0_off218_inb : ∀ (i : grid0.Coords) (v1951 : BitVec 32) (k0_hw217 : k0_chk217 i v1951), ∀ (k0_h1 : k0_cond1 i = 1#1), ∀ a, (k0_off218 v1951) a + S8x128.size a ≤ S32768x128.size a := fun i v1951 k0_hw217 k0_h1 => k0_hw217 k0_h1

def k0_off219 (v1960 : BitVec 32) : Fin 2 → Nat :=
  let c3_i32_1303 : BitVec 32 := 3#32
  let v1961 : BitVec 32 := Scalar.shrsi v1960 c3_i32_1303
  let c4095_i32_1304 : BitVec 32 := 4095#32
  let v1962 : BitVec 32 := Scalar.minsi v1961 c4095_i32_1304
  let c8_i32_1305 : BitVec 32 := 8#32
  let v1963 : BitVec 32 := Scalar.muli v1962 c8_i32_1305
  let v1964 : Index := Scalar.indexCast v1963
  let c0_1306 : Index := 0#32
  ![v1964.toNat, 0]

def k0_chk218 (i : grid0.Coords) (v1960 : BitVec 32) : Prop :=
  (∀ (k0_h1 : k0_cond1 i = 1#1), ∀ a, (k0_off219 v1960) a + S8x128.size a ≤ S32768x128.size a)
theorem k0_off219_inb : ∀ (i : grid0.Coords) (v1960 : BitVec 32) (k0_hw218 : k0_chk218 i v1960), ∀ (k0_h1 : k0_cond1 i = 1#1), ∀ a, (k0_off219 v1960) a + S8x128.size a ≤ S32768x128.size a := fun i v1960 k0_hw218 k0_h1 => k0_hw218 k0_h1

def k0_off220 (v1969 : BitVec 32) : Fin 2 → Nat :=
  let c3_i32_1309 : BitVec 32 := 3#32
  let v1970 : BitVec 32 := Scalar.shrsi v1969 c3_i32_1309
  let c4095_i32_1310 : BitVec 32 := 4095#32
  let v1971 : BitVec 32 := Scalar.minsi v1970 c4095_i32_1310
  let c8_i32_1311 : BitVec 32 := 8#32
  let v1972 : BitVec 32 := Scalar.muli v1971 c8_i32_1311
  let v1973 : Index := Scalar.indexCast v1972
  let c0_1312 : Index := 0#32
  ![v1973.toNat, 0]

def k0_chk219 (i : grid0.Coords) (v1969 : BitVec 32) : Prop :=
  (∀ (k0_h1 : k0_cond1 i = 1#1), ∀ a, (k0_off220 v1969) a + S8x128.size a ≤ S32768x128.size a)
theorem k0_off220_inb : ∀ (i : grid0.Coords) (v1969 : BitVec 32) (k0_hw219 : k0_chk219 i v1969), ∀ (k0_h1 : k0_cond1 i = 1#1), ∀ a, (k0_off220 v1969) a + S8x128.size a ≤ S32768x128.size a := fun i v1969 k0_hw219 k0_h1 => k0_hw219 k0_h1

def k0_off221 (v1978 : BitVec 32) : Fin 2 → Nat :=
  let c3_i32_1315 : BitVec 32 := 3#32
  let v1979 : BitVec 32 := Scalar.shrsi v1978 c3_i32_1315
  let c4095_i32_1316 : BitVec 32 := 4095#32
  let v1980 : BitVec 32 := Scalar.minsi v1979 c4095_i32_1316
  let c8_i32_1317 : BitVec 32 := 8#32
  let v1981 : BitVec 32 := Scalar.muli v1980 c8_i32_1317
  let v1982 : Index := Scalar.indexCast v1981
  let c0_1318 : Index := 0#32
  ![v1982.toNat, 0]

def k0_chk220 (i : grid0.Coords) (v1978 : BitVec 32) : Prop :=
  (∀ (k0_h1 : k0_cond1 i = 1#1), ∀ a, (k0_off221 v1978) a + S8x128.size a ≤ S32768x128.size a)
theorem k0_off221_inb : ∀ (i : grid0.Coords) (v1978 : BitVec 32) (k0_hw220 : k0_chk220 i v1978), ∀ (k0_h1 : k0_cond1 i = 1#1), ∀ a, (k0_off221 v1978) a + S8x128.size a ≤ S32768x128.size a := fun i v1978 k0_hw220 k0_h1 => k0_hw220 k0_h1

def k0_off222 (v1987 : BitVec 32) : Fin 2 → Nat :=
  let c3_i32_1321 : BitVec 32 := 3#32
  let v1988 : BitVec 32 := Scalar.shrsi v1987 c3_i32_1321
  let c4095_i32_1322 : BitVec 32 := 4095#32
  let v1989 : BitVec 32 := Scalar.minsi v1988 c4095_i32_1322
  let c8_i32_1323 : BitVec 32 := 8#32
  let v1990 : BitVec 32 := Scalar.muli v1989 c8_i32_1323
  let v1991 : Index := Scalar.indexCast v1990
  let c0_1324 : Index := 0#32
  ![v1991.toNat, 0]

def k0_chk221 (i : grid0.Coords) (v1987 : BitVec 32) : Prop :=
  (∀ (k0_h1 : k0_cond1 i = 1#1), ∀ a, (k0_off222 v1987) a + S8x128.size a ≤ S32768x128.size a)
theorem k0_off222_inb : ∀ (i : grid0.Coords) (v1987 : BitVec 32) (k0_hw221 : k0_chk221 i v1987), ∀ (k0_h1 : k0_cond1 i = 1#1), ∀ a, (k0_off222 v1987) a + S8x128.size a ≤ S32768x128.size a := fun i v1987 k0_hw221 k0_h1 => k0_hw221 k0_h1

def k0_off223 (v1996 : BitVec 32) : Fin 2 → Nat :=
  let c3_i32_1327 : BitVec 32 := 3#32
  let v1997 : BitVec 32 := Scalar.shrsi v1996 c3_i32_1327
  let c4095_i32_1328 : BitVec 32 := 4095#32
  let v1998 : BitVec 32 := Scalar.minsi v1997 c4095_i32_1328
  let c8_i32_1329 : BitVec 32 := 8#32
  let v1999 : BitVec 32 := Scalar.muli v1998 c8_i32_1329
  let v2000 : Index := Scalar.indexCast v1999
  let c0_1330 : Index := 0#32
  ![v2000.toNat, 0]

def k0_chk222 (i : grid0.Coords) (v1996 : BitVec 32) : Prop :=
  (∀ (k0_h1 : k0_cond1 i = 1#1), ∀ a, (k0_off223 v1996) a + S8x128.size a ≤ S32768x128.size a)
theorem k0_off223_inb : ∀ (i : grid0.Coords) (v1996 : BitVec 32) (k0_hw222 : k0_chk222 i v1996), ∀ (k0_h1 : k0_cond1 i = 1#1), ∀ a, (k0_off223 v1996) a + S8x128.size a ≤ S32768x128.size a := fun i v1996 k0_hw222 k0_h1 => k0_hw222 k0_h1

def k0_off224 (v2005 : BitVec 32) : Fin 2 → Nat :=
  let c3_i32_1333 : BitVec 32 := 3#32
  let v2006 : BitVec 32 := Scalar.shrsi v2005 c3_i32_1333
  let c4095_i32_1334 : BitVec 32 := 4095#32
  let v2007 : BitVec 32 := Scalar.minsi v2006 c4095_i32_1334
  let c8_i32_1335 : BitVec 32 := 8#32
  let v2008 : BitVec 32 := Scalar.muli v2007 c8_i32_1335
  let v2009 : Index := Scalar.indexCast v2008
  let c0_1336 : Index := 0#32
  ![v2009.toNat, 0]

def k0_chk223 (i : grid0.Coords) (v2005 : BitVec 32) : Prop :=
  (∀ (k0_h1 : k0_cond1 i = 1#1), ∀ a, (k0_off224 v2005) a + S8x128.size a ≤ S32768x128.size a)
theorem k0_off224_inb : ∀ (i : grid0.Coords) (v2005 : BitVec 32) (k0_hw223 : k0_chk223 i v2005), ∀ (k0_h1 : k0_cond1 i = 1#1), ∀ a, (k0_off224 v2005) a + S8x128.size a ≤ S32768x128.size a := fun i v2005 k0_hw223 k0_h1 => k0_hw223 k0_h1

def k0_off225 (v2014 : BitVec 32) : Fin 2 → Nat :=
  let c3_i32_1339 : BitVec 32 := 3#32
  let v2015 : BitVec 32 := Scalar.shrsi v2014 c3_i32_1339
  let c4095_i32_1340 : BitVec 32 := 4095#32
  let v2016 : BitVec 32 := Scalar.minsi v2015 c4095_i32_1340
  let c8_i32_1341 : BitVec 32 := 8#32
  let v2017 : BitVec 32 := Scalar.muli v2016 c8_i32_1341
  let v2018 : Index := Scalar.indexCast v2017
  let c0_1342 : Index := 0#32
  ![v2018.toNat, 0]

def k0_chk224 (i : grid0.Coords) (v2014 : BitVec 32) : Prop :=
  (∀ (k0_h1 : k0_cond1 i = 1#1), ∀ a, (k0_off225 v2014) a + S8x128.size a ≤ S32768x128.size a)
theorem k0_off225_inb : ∀ (i : grid0.Coords) (v2014 : BitVec 32) (k0_hw224 : k0_chk224 i v2014), ∀ (k0_h1 : k0_cond1 i = 1#1), ∀ a, (k0_off225 v2014) a + S8x128.size a ≤ S32768x128.size a := fun i v2014 k0_hw224 k0_h1 => k0_hw224 k0_h1

def k0_off226 (v2023 : BitVec 32) : Fin 2 → Nat :=
  let c3_i32_1345 : BitVec 32 := 3#32
  let v2024 : BitVec 32 := Scalar.shrsi v2023 c3_i32_1345
  let c4095_i32_1346 : BitVec 32 := 4095#32
  let v2025 : BitVec 32 := Scalar.minsi v2024 c4095_i32_1346
  let c8_i32_1347 : BitVec 32 := 8#32
  let v2026 : BitVec 32 := Scalar.muli v2025 c8_i32_1347
  let v2027 : Index := Scalar.indexCast v2026
  let c0_1348 : Index := 0#32
  ![v2027.toNat, 0]

def k0_chk225 (i : grid0.Coords) (v2023 : BitVec 32) : Prop :=
  (∀ (k0_h1 : k0_cond1 i = 1#1), ∀ a, (k0_off226 v2023) a + S8x128.size a ≤ S32768x128.size a)
theorem k0_off226_inb : ∀ (i : grid0.Coords) (v2023 : BitVec 32) (k0_hw225 : k0_chk225 i v2023), ∀ (k0_h1 : k0_cond1 i = 1#1), ∀ a, (k0_off226 v2023) a + S8x128.size a ≤ S32768x128.size a := fun i v2023 k0_hw225 k0_h1 => k0_hw225 k0_h1

def k0_off227 (v2032 : BitVec 32) : Fin 2 → Nat :=
  let c3_i32_1351 : BitVec 32 := 3#32
  let v2033 : BitVec 32 := Scalar.shrsi v2032 c3_i32_1351
  let c4095_i32_1352 : BitVec 32 := 4095#32
  let v2034 : BitVec 32 := Scalar.minsi v2033 c4095_i32_1352
  let c8_i32_1353 : BitVec 32 := 8#32
  let v2035 : BitVec 32 := Scalar.muli v2034 c8_i32_1353
  let v2036 : Index := Scalar.indexCast v2035
  let c0_1354 : Index := 0#32
  ![v2036.toNat, 0]

def k0_chk226 (i : grid0.Coords) (v2032 : BitVec 32) : Prop :=
  (∀ (k0_h1 : k0_cond1 i = 1#1), ∀ a, (k0_off227 v2032) a + S8x128.size a ≤ S32768x128.size a)
theorem k0_off227_inb : ∀ (i : grid0.Coords) (v2032 : BitVec 32) (k0_hw226 : k0_chk226 i v2032), ∀ (k0_h1 : k0_cond1 i = 1#1), ∀ a, (k0_off227 v2032) a + S8x128.size a ≤ S32768x128.size a := fun i v2032 k0_hw226 k0_h1 => k0_hw226 k0_h1

def k0_off228 (v2041 : BitVec 32) : Fin 2 → Nat :=
  let c3_i32_1357 : BitVec 32 := 3#32
  let v2042 : BitVec 32 := Scalar.shrsi v2041 c3_i32_1357
  let c4095_i32_1358 : BitVec 32 := 4095#32
  let v2043 : BitVec 32 := Scalar.minsi v2042 c4095_i32_1358
  let c8_i32_1359 : BitVec 32 := 8#32
  let v2044 : BitVec 32 := Scalar.muli v2043 c8_i32_1359
  let v2045 : Index := Scalar.indexCast v2044
  let c0_1360 : Index := 0#32
  ![v2045.toNat, 0]

def k0_chk227 (i : grid0.Coords) (v2041 : BitVec 32) : Prop :=
  (∀ (k0_h1 : k0_cond1 i = 1#1), ∀ a, (k0_off228 v2041) a + S8x128.size a ≤ S32768x128.size a)
theorem k0_off228_inb : ∀ (i : grid0.Coords) (v2041 : BitVec 32) (k0_hw227 : k0_chk227 i v2041), ∀ (k0_h1 : k0_cond1 i = 1#1), ∀ a, (k0_off228 v2041) a + S8x128.size a ≤ S32768x128.size a := fun i v2041 k0_hw227 k0_h1 => k0_hw227 k0_h1

def k0_off229 (v2050 : BitVec 32) : Fin 2 → Nat :=
  let c3_i32_1363 : BitVec 32 := 3#32
  let v2051 : BitVec 32 := Scalar.shrsi v2050 c3_i32_1363
  let c4095_i32_1364 : BitVec 32 := 4095#32
  let v2052 : BitVec 32 := Scalar.minsi v2051 c4095_i32_1364
  let c8_i32_1365 : BitVec 32 := 8#32
  let v2053 : BitVec 32 := Scalar.muli v2052 c8_i32_1365
  let v2054 : Index := Scalar.indexCast v2053
  let c0_1366 : Index := 0#32
  ![v2054.toNat, 0]

def k0_chk228 (i : grid0.Coords) (v2050 : BitVec 32) : Prop :=
  (∀ (k0_h1 : k0_cond1 i = 1#1), ∀ a, (k0_off229 v2050) a + S8x128.size a ≤ S32768x128.size a)
theorem k0_off229_inb : ∀ (i : grid0.Coords) (v2050 : BitVec 32) (k0_hw228 : k0_chk228 i v2050), ∀ (k0_h1 : k0_cond1 i = 1#1), ∀ a, (k0_off229 v2050) a + S8x128.size a ≤ S32768x128.size a := fun i v2050 k0_hw228 k0_h1 => k0_hw228 k0_h1

def k0_off230 (v2059 : BitVec 32) : Fin 2 → Nat :=
  let c3_i32_1369 : BitVec 32 := 3#32
  let v2060 : BitVec 32 := Scalar.shrsi v2059 c3_i32_1369
  let c4095_i32_1370 : BitVec 32 := 4095#32
  let v2061 : BitVec 32 := Scalar.minsi v2060 c4095_i32_1370
  let c8_i32_1371 : BitVec 32 := 8#32
  let v2062 : BitVec 32 := Scalar.muli v2061 c8_i32_1371
  let v2063 : Index := Scalar.indexCast v2062
  let c0_1372 : Index := 0#32
  ![v2063.toNat, 0]

def k0_chk229 (i : grid0.Coords) (v2059 : BitVec 32) : Prop :=
  (∀ (k0_h1 : k0_cond1 i = 1#1), ∀ a, (k0_off230 v2059) a + S8x128.size a ≤ S32768x128.size a)
theorem k0_off230_inb : ∀ (i : grid0.Coords) (v2059 : BitVec 32) (k0_hw229 : k0_chk229 i v2059), ∀ (k0_h1 : k0_cond1 i = 1#1), ∀ a, (k0_off230 v2059) a + S8x128.size a ≤ S32768x128.size a := fun i v2059 k0_hw229 k0_h1 => k0_hw229 k0_h1

def k0_off231 (v2068 : BitVec 32) : Fin 2 → Nat :=
  let c3_i32_1375 : BitVec 32 := 3#32
  let v2069 : BitVec 32 := Scalar.shrsi v2068 c3_i32_1375
  let c4095_i32_1376 : BitVec 32 := 4095#32
  let v2070 : BitVec 32 := Scalar.minsi v2069 c4095_i32_1376
  let c8_i32_1377 : BitVec 32 := 8#32
  let v2071 : BitVec 32 := Scalar.muli v2070 c8_i32_1377
  let v2072 : Index := Scalar.indexCast v2071
  let c0_1378 : Index := 0#32
  ![v2072.toNat, 0]

def k0_chk230 (i : grid0.Coords) (v2068 : BitVec 32) : Prop :=
  (∀ (k0_h1 : k0_cond1 i = 1#1), ∀ a, (k0_off231 v2068) a + S8x128.size a ≤ S32768x128.size a)
theorem k0_off231_inb : ∀ (i : grid0.Coords) (v2068 : BitVec 32) (k0_hw230 : k0_chk230 i v2068), ∀ (k0_h1 : k0_cond1 i = 1#1), ∀ a, (k0_off231 v2068) a + S8x128.size a ≤ S32768x128.size a := fun i v2068 k0_hw230 k0_h1 => k0_hw230 k0_h1

def k0_off232 (v2077 : BitVec 32) : Fin 2 → Nat :=
  let c3_i32_1381 : BitVec 32 := 3#32
  let v2078 : BitVec 32 := Scalar.shrsi v2077 c3_i32_1381
  let c4095_i32_1382 : BitVec 32 := 4095#32
  let v2079 : BitVec 32 := Scalar.minsi v2078 c4095_i32_1382
  let c8_i32_1383 : BitVec 32 := 8#32
  let v2080 : BitVec 32 := Scalar.muli v2079 c8_i32_1383
  let v2081 : Index := Scalar.indexCast v2080
  let c0_1384 : Index := 0#32
  ![v2081.toNat, 0]

def k0_chk231 (i : grid0.Coords) (v2077 : BitVec 32) : Prop :=
  (∀ (k0_h1 : k0_cond1 i = 1#1), ∀ a, (k0_off232 v2077) a + S8x128.size a ≤ S32768x128.size a)
theorem k0_off232_inb : ∀ (i : grid0.Coords) (v2077 : BitVec 32) (k0_hw231 : k0_chk231 i v2077), ∀ (k0_h1 : k0_cond1 i = 1#1), ∀ a, (k0_off232 v2077) a + S8x128.size a ≤ S32768x128.size a := fun i v2077 k0_hw231 k0_h1 => k0_hw231 k0_h1

def k0_off233 (v2086 : BitVec 32) : Fin 2 → Nat :=
  let c3_i32_1387 : BitVec 32 := 3#32
  let v2087 : BitVec 32 := Scalar.shrsi v2086 c3_i32_1387
  let c4095_i32_1388 : BitVec 32 := 4095#32
  let v2088 : BitVec 32 := Scalar.minsi v2087 c4095_i32_1388
  let c8_i32_1389 : BitVec 32 := 8#32
  let v2089 : BitVec 32 := Scalar.muli v2088 c8_i32_1389
  let v2090 : Index := Scalar.indexCast v2089
  let c0_1390 : Index := 0#32
  ![v2090.toNat, 0]

def k0_chk232 (i : grid0.Coords) (v2086 : BitVec 32) : Prop :=
  (∀ (k0_h1 : k0_cond1 i = 1#1), ∀ a, (k0_off233 v2086) a + S8x128.size a ≤ S32768x128.size a)
theorem k0_off233_inb : ∀ (i : grid0.Coords) (v2086 : BitVec 32) (k0_hw232 : k0_chk232 i v2086), ∀ (k0_h1 : k0_cond1 i = 1#1), ∀ a, (k0_off233 v2086) a + S8x128.size a ≤ S32768x128.size a := fun i v2086 k0_hw232 k0_h1 => k0_hw232 k0_h1

def k0_off234 (v2095 : BitVec 32) : Fin 2 → Nat :=
  let c3_i32_1393 : BitVec 32 := 3#32
  let v2096 : BitVec 32 := Scalar.shrsi v2095 c3_i32_1393
  let c4095_i32_1394 : BitVec 32 := 4095#32
  let v2097 : BitVec 32 := Scalar.minsi v2096 c4095_i32_1394
  let c8_i32_1395 : BitVec 32 := 8#32
  let v2098 : BitVec 32 := Scalar.muli v2097 c8_i32_1395
  let v2099 : Index := Scalar.indexCast v2098
  let c0_1396 : Index := 0#32
  ![v2099.toNat, 0]

def k0_chk233 (i : grid0.Coords) (v2095 : BitVec 32) : Prop :=
  (∀ (k0_h1 : k0_cond1 i = 1#1), ∀ a, (k0_off234 v2095) a + S8x128.size a ≤ S32768x128.size a)
theorem k0_off234_inb : ∀ (i : grid0.Coords) (v2095 : BitVec 32) (k0_hw233 : k0_chk233 i v2095), ∀ (k0_h1 : k0_cond1 i = 1#1), ∀ a, (k0_off234 v2095) a + S8x128.size a ≤ S32768x128.size a := fun i v2095 k0_hw233 k0_h1 => k0_hw233 k0_h1

def k0_off235 (v2104 : BitVec 32) : Fin 2 → Nat :=
  let c3_i32_1399 : BitVec 32 := 3#32
  let v2105 : BitVec 32 := Scalar.shrsi v2104 c3_i32_1399
  let c4095_i32_1400 : BitVec 32 := 4095#32
  let v2106 : BitVec 32 := Scalar.minsi v2105 c4095_i32_1400
  let c8_i32_1401 : BitVec 32 := 8#32
  let v2107 : BitVec 32 := Scalar.muli v2106 c8_i32_1401
  let v2108 : Index := Scalar.indexCast v2107
  let c0_1402 : Index := 0#32
  ![v2108.toNat, 0]

def k0_chk234 (i : grid0.Coords) (v2104 : BitVec 32) : Prop :=
  (∀ (k0_h1 : k0_cond1 i = 1#1), ∀ a, (k0_off235 v2104) a + S8x128.size a ≤ S32768x128.size a)
theorem k0_off235_inb : ∀ (i : grid0.Coords) (v2104 : BitVec 32) (k0_hw234 : k0_chk234 i v2104), ∀ (k0_h1 : k0_cond1 i = 1#1), ∀ a, (k0_off235 v2104) a + S8x128.size a ≤ S32768x128.size a := fun i v2104 k0_hw234 k0_h1 => k0_hw234 k0_h1

def k0_off236 (v2113 : BitVec 32) : Fin 2 → Nat :=
  let c3_i32_1405 : BitVec 32 := 3#32
  let v2114 : BitVec 32 := Scalar.shrsi v2113 c3_i32_1405
  let c4095_i32_1406 : BitVec 32 := 4095#32
  let v2115 : BitVec 32 := Scalar.minsi v2114 c4095_i32_1406
  let c8_i32_1407 : BitVec 32 := 8#32
  let v2116 : BitVec 32 := Scalar.muli v2115 c8_i32_1407
  let v2117 : Index := Scalar.indexCast v2116
  let c0_1408 : Index := 0#32
  ![v2117.toNat, 0]

def k0_chk235 (i : grid0.Coords) (v2113 : BitVec 32) : Prop :=
  (∀ (k0_h1 : k0_cond1 i = 1#1), ∀ a, (k0_off236 v2113) a + S8x128.size a ≤ S32768x128.size a)
theorem k0_off236_inb : ∀ (i : grid0.Coords) (v2113 : BitVec 32) (k0_hw235 : k0_chk235 i v2113), ∀ (k0_h1 : k0_cond1 i = 1#1), ∀ a, (k0_off236 v2113) a + S8x128.size a ≤ S32768x128.size a := fun i v2113 k0_hw235 k0_h1 => k0_hw235 k0_h1

def k0_off237 (v2122 : BitVec 32) : Fin 2 → Nat :=
  let c3_i32_1411 : BitVec 32 := 3#32
  let v2123 : BitVec 32 := Scalar.shrsi v2122 c3_i32_1411
  let c4095_i32_1412 : BitVec 32 := 4095#32
  let v2124 : BitVec 32 := Scalar.minsi v2123 c4095_i32_1412
  let c8_i32_1413 : BitVec 32 := 8#32
  let v2125 : BitVec 32 := Scalar.muli v2124 c8_i32_1413
  let v2126 : Index := Scalar.indexCast v2125
  let c0_1414 : Index := 0#32
  ![v2126.toNat, 0]

def k0_chk236 (i : grid0.Coords) (v2122 : BitVec 32) : Prop :=
  (∀ (k0_h1 : k0_cond1 i = 1#1), ∀ a, (k0_off237 v2122) a + S8x128.size a ≤ S32768x128.size a)
theorem k0_off237_inb : ∀ (i : grid0.Coords) (v2122 : BitVec 32) (k0_hw236 : k0_chk236 i v2122), ∀ (k0_h1 : k0_cond1 i = 1#1), ∀ a, (k0_off237 v2122) a + S8x128.size a ≤ S32768x128.size a := fun i v2122 k0_hw236 k0_h1 => k0_hw236 k0_h1

def k0_off238 (v2131 : BitVec 32) : Fin 2 → Nat :=
  let c3_i32_1417 : BitVec 32 := 3#32
  let v2132 : BitVec 32 := Scalar.shrsi v2131 c3_i32_1417
  let c4095_i32_1418 : BitVec 32 := 4095#32
  let v2133 : BitVec 32 := Scalar.minsi v2132 c4095_i32_1418
  let c8_i32_1419 : BitVec 32 := 8#32
  let v2134 : BitVec 32 := Scalar.muli v2133 c8_i32_1419
  let v2135 : Index := Scalar.indexCast v2134
  let c0_1420 : Index := 0#32
  ![v2135.toNat, 0]

def k0_chk237 (i : grid0.Coords) (v2131 : BitVec 32) : Prop :=
  (∀ (k0_h1 : k0_cond1 i = 1#1), ∀ a, (k0_off238 v2131) a + S8x128.size a ≤ S32768x128.size a)
theorem k0_off238_inb : ∀ (i : grid0.Coords) (v2131 : BitVec 32) (k0_hw237 : k0_chk237 i v2131), ∀ (k0_h1 : k0_cond1 i = 1#1), ∀ a, (k0_off238 v2131) a + S8x128.size a ≤ S32768x128.size a := fun i v2131 k0_hw237 k0_h1 => k0_hw237 k0_h1

def k0_off239 (v2140 : BitVec 32) : Fin 2 → Nat :=
  let c3_i32_1423 : BitVec 32 := 3#32
  let v2141 : BitVec 32 := Scalar.shrsi v2140 c3_i32_1423
  let c4095_i32_1424 : BitVec 32 := 4095#32
  let v2142 : BitVec 32 := Scalar.minsi v2141 c4095_i32_1424
  let c8_i32_1425 : BitVec 32 := 8#32
  let v2143 : BitVec 32 := Scalar.muli v2142 c8_i32_1425
  let v2144 : Index := Scalar.indexCast v2143
  let c0_1426 : Index := 0#32
  ![v2144.toNat, 0]

def k0_chk238 (i : grid0.Coords) (v2140 : BitVec 32) : Prop :=
  (∀ (k0_h1 : k0_cond1 i = 1#1), ∀ a, (k0_off239 v2140) a + S8x128.size a ≤ S32768x128.size a)
theorem k0_off239_inb : ∀ (i : grid0.Coords) (v2140 : BitVec 32) (k0_hw238 : k0_chk238 i v2140), ∀ (k0_h1 : k0_cond1 i = 1#1), ∀ a, (k0_off239 v2140) a + S8x128.size a ≤ S32768x128.size a := fun i v2140 k0_hw238 k0_h1 => k0_hw238 k0_h1

def k0_off240 (v2149 : BitVec 32) : Fin 2 → Nat :=
  let c3_i32_1429 : BitVec 32 := 3#32
  let v2150 : BitVec 32 := Scalar.shrsi v2149 c3_i32_1429
  let c4095_i32_1430 : BitVec 32 := 4095#32
  let v2151 : BitVec 32 := Scalar.minsi v2150 c4095_i32_1430
  let c8_i32_1431 : BitVec 32 := 8#32
  let v2152 : BitVec 32 := Scalar.muli v2151 c8_i32_1431
  let v2153 : Index := Scalar.indexCast v2152
  let c0_1432 : Index := 0#32
  ![v2153.toNat, 0]

def k0_chk239 (i : grid0.Coords) (v2149 : BitVec 32) : Prop :=
  (∀ (k0_h1 : k0_cond1 i = 1#1), ∀ a, (k0_off240 v2149) a + S8x128.size a ≤ S32768x128.size a)
theorem k0_off240_inb : ∀ (i : grid0.Coords) (v2149 : BitVec 32) (k0_hw239 : k0_chk239 i v2149), ∀ (k0_h1 : k0_cond1 i = 1#1), ∀ a, (k0_off240 v2149) a + S8x128.size a ≤ S32768x128.size a := fun i v2149 k0_hw239 k0_h1 => k0_hw239 k0_h1

def k0_off241 (v2158 : BitVec 32) : Fin 2 → Nat :=
  let c3_i32_1435 : BitVec 32 := 3#32
  let v2159 : BitVec 32 := Scalar.shrsi v2158 c3_i32_1435
  let c4095_i32_1436 : BitVec 32 := 4095#32
  let v2160 : BitVec 32 := Scalar.minsi v2159 c4095_i32_1436
  let c8_i32_1437 : BitVec 32 := 8#32
  let v2161 : BitVec 32 := Scalar.muli v2160 c8_i32_1437
  let v2162 : Index := Scalar.indexCast v2161
  let c0_1438 : Index := 0#32
  ![v2162.toNat, 0]

def k0_chk240 (i : grid0.Coords) (v2158 : BitVec 32) : Prop :=
  (∀ (k0_h1 : k0_cond1 i = 1#1), ∀ a, (k0_off241 v2158) a + S8x128.size a ≤ S32768x128.size a)
theorem k0_off241_inb : ∀ (i : grid0.Coords) (v2158 : BitVec 32) (k0_hw240 : k0_chk240 i v2158), ∀ (k0_h1 : k0_cond1 i = 1#1), ∀ a, (k0_off241 v2158) a + S8x128.size a ≤ S32768x128.size a := fun i v2158 k0_hw240 k0_h1 => k0_hw240 k0_h1

def k0_off242 (v2167 : BitVec 32) : Fin 2 → Nat :=
  let c3_i32_1441 : BitVec 32 := 3#32
  let v2168 : BitVec 32 := Scalar.shrsi v2167 c3_i32_1441
  let c4095_i32_1442 : BitVec 32 := 4095#32
  let v2169 : BitVec 32 := Scalar.minsi v2168 c4095_i32_1442
  let c8_i32_1443 : BitVec 32 := 8#32
  let v2170 : BitVec 32 := Scalar.muli v2169 c8_i32_1443
  let v2171 : Index := Scalar.indexCast v2170
  let c0_1444 : Index := 0#32
  ![v2171.toNat, 0]

def k0_chk241 (i : grid0.Coords) (v2167 : BitVec 32) : Prop :=
  (∀ (k0_h1 : k0_cond1 i = 1#1), ∀ a, (k0_off242 v2167) a + S8x128.size a ≤ S32768x128.size a)
theorem k0_off242_inb : ∀ (i : grid0.Coords) (v2167 : BitVec 32) (k0_hw241 : k0_chk241 i v2167), ∀ (k0_h1 : k0_cond1 i = 1#1), ∀ a, (k0_off242 v2167) a + S8x128.size a ≤ S32768x128.size a := fun i v2167 k0_hw241 k0_h1 => k0_hw241 k0_h1

def k0_off243 (v2176 : BitVec 32) : Fin 2 → Nat :=
  let c3_i32_1447 : BitVec 32 := 3#32
  let v2177 : BitVec 32 := Scalar.shrsi v2176 c3_i32_1447
  let c4095_i32_1448 : BitVec 32 := 4095#32
  let v2178 : BitVec 32 := Scalar.minsi v2177 c4095_i32_1448
  let c8_i32_1449 : BitVec 32 := 8#32
  let v2179 : BitVec 32 := Scalar.muli v2178 c8_i32_1449
  let v2180 : Index := Scalar.indexCast v2179
  let c0_1450 : Index := 0#32
  ![v2180.toNat, 0]

def k0_chk242 (i : grid0.Coords) (v2176 : BitVec 32) : Prop :=
  (∀ (k0_h1 : k0_cond1 i = 1#1), ∀ a, (k0_off243 v2176) a + S8x128.size a ≤ S32768x128.size a)
theorem k0_off243_inb : ∀ (i : grid0.Coords) (v2176 : BitVec 32) (k0_hw242 : k0_chk242 i v2176), ∀ (k0_h1 : k0_cond1 i = 1#1), ∀ a, (k0_off243 v2176) a + S8x128.size a ≤ S32768x128.size a := fun i v2176 k0_hw242 k0_h1 => k0_hw242 k0_h1

def k0_off244 (v2185 : BitVec 32) : Fin 2 → Nat :=
  let c3_i32_1453 : BitVec 32 := 3#32
  let v2186 : BitVec 32 := Scalar.shrsi v2185 c3_i32_1453
  let c4095_i32_1454 : BitVec 32 := 4095#32
  let v2187 : BitVec 32 := Scalar.minsi v2186 c4095_i32_1454
  let c8_i32_1455 : BitVec 32 := 8#32
  let v2188 : BitVec 32 := Scalar.muli v2187 c8_i32_1455
  let v2189 : Index := Scalar.indexCast v2188
  let c0_1456 : Index := 0#32
  ![v2189.toNat, 0]

def k0_chk243 (i : grid0.Coords) (v2185 : BitVec 32) : Prop :=
  (∀ (k0_h1 : k0_cond1 i = 1#1), ∀ a, (k0_off244 v2185) a + S8x128.size a ≤ S32768x128.size a)
theorem k0_off244_inb : ∀ (i : grid0.Coords) (v2185 : BitVec 32) (k0_hw243 : k0_chk243 i v2185), ∀ (k0_h1 : k0_cond1 i = 1#1), ∀ a, (k0_off244 v2185) a + S8x128.size a ≤ S32768x128.size a := fun i v2185 k0_hw243 k0_h1 => k0_hw243 k0_h1

def k0_off245 (v2194 : BitVec 32) : Fin 2 → Nat :=
  let c3_i32_1459 : BitVec 32 := 3#32
  let v2195 : BitVec 32 := Scalar.shrsi v2194 c3_i32_1459
  let c4095_i32_1460 : BitVec 32 := 4095#32
  let v2196 : BitVec 32 := Scalar.minsi v2195 c4095_i32_1460
  let c8_i32_1461 : BitVec 32 := 8#32
  let v2197 : BitVec 32 := Scalar.muli v2196 c8_i32_1461
  let v2198 : Index := Scalar.indexCast v2197
  let c0_1462 : Index := 0#32
  ![v2198.toNat, 0]

def k0_chk244 (i : grid0.Coords) (v2194 : BitVec 32) : Prop :=
  (∀ (k0_h1 : k0_cond1 i = 1#1), ∀ a, (k0_off245 v2194) a + S8x128.size a ≤ S32768x128.size a)
theorem k0_off245_inb : ∀ (i : grid0.Coords) (v2194 : BitVec 32) (k0_hw244 : k0_chk244 i v2194), ∀ (k0_h1 : k0_cond1 i = 1#1), ∀ a, (k0_off245 v2194) a + S8x128.size a ≤ S32768x128.size a := fun i v2194 k0_hw244 k0_h1 => k0_hw244 k0_h1

def k0_off246 (v2203 : BitVec 32) : Fin 2 → Nat :=
  let c3_i32_1465 : BitVec 32 := 3#32
  let v2204 : BitVec 32 := Scalar.shrsi v2203 c3_i32_1465
  let c4095_i32_1466 : BitVec 32 := 4095#32
  let v2205 : BitVec 32 := Scalar.minsi v2204 c4095_i32_1466
  let c8_i32_1467 : BitVec 32 := 8#32
  let v2206 : BitVec 32 := Scalar.muli v2205 c8_i32_1467
  let v2207 : Index := Scalar.indexCast v2206
  let c0_1468 : Index := 0#32
  ![v2207.toNat, 0]

def k0_chk245 (i : grid0.Coords) (v2203 : BitVec 32) : Prop :=
  (∀ (k0_h1 : k0_cond1 i = 1#1), ∀ a, (k0_off246 v2203) a + S8x128.size a ≤ S32768x128.size a)
theorem k0_off246_inb : ∀ (i : grid0.Coords) (v2203 : BitVec 32) (k0_hw245 : k0_chk245 i v2203), ∀ (k0_h1 : k0_cond1 i = 1#1), ∀ a, (k0_off246 v2203) a + S8x128.size a ≤ S32768x128.size a := fun i v2203 k0_hw245 k0_h1 => k0_hw245 k0_h1

def k0_off247 (v2212 : BitVec 32) : Fin 2 → Nat :=
  let c3_i32_1471 : BitVec 32 := 3#32
  let v2213 : BitVec 32 := Scalar.shrsi v2212 c3_i32_1471
  let c4095_i32_1472 : BitVec 32 := 4095#32
  let v2214 : BitVec 32 := Scalar.minsi v2213 c4095_i32_1472
  let c8_i32_1473 : BitVec 32 := 8#32
  let v2215 : BitVec 32 := Scalar.muli v2214 c8_i32_1473
  let v2216 : Index := Scalar.indexCast v2215
  let c0_1474 : Index := 0#32
  ![v2216.toNat, 0]

def k0_chk246 (i : grid0.Coords) (v2212 : BitVec 32) : Prop :=
  (∀ (k0_h1 : k0_cond1 i = 1#1), ∀ a, (k0_off247 v2212) a + S8x128.size a ≤ S32768x128.size a)
theorem k0_off247_inb : ∀ (i : grid0.Coords) (v2212 : BitVec 32) (k0_hw246 : k0_chk246 i v2212), ∀ (k0_h1 : k0_cond1 i = 1#1), ∀ a, (k0_off247 v2212) a + S8x128.size a ≤ S32768x128.size a := fun i v2212 k0_hw246 k0_h1 => k0_hw246 k0_h1

def k0_off248 (v2221 : BitVec 32) : Fin 2 → Nat :=
  let c3_i32_1477 : BitVec 32 := 3#32
  let v2222 : BitVec 32 := Scalar.shrsi v2221 c3_i32_1477
  let c4095_i32_1478 : BitVec 32 := 4095#32
  let v2223 : BitVec 32 := Scalar.minsi v2222 c4095_i32_1478
  let c8_i32_1479 : BitVec 32 := 8#32
  let v2224 : BitVec 32 := Scalar.muli v2223 c8_i32_1479
  let v2225 : Index := Scalar.indexCast v2224
  let c0_1480 : Index := 0#32
  ![v2225.toNat, 0]

def k0_chk247 (i : grid0.Coords) (v2221 : BitVec 32) : Prop :=
  (∀ (k0_h1 : k0_cond1 i = 1#1), ∀ a, (k0_off248 v2221) a + S8x128.size a ≤ S32768x128.size a)
theorem k0_off248_inb : ∀ (i : grid0.Coords) (v2221 : BitVec 32) (k0_hw247 : k0_chk247 i v2221), ∀ (k0_h1 : k0_cond1 i = 1#1), ∀ a, (k0_off248 v2221) a + S8x128.size a ≤ S32768x128.size a := fun i v2221 k0_hw247 k0_h1 => k0_hw247 k0_h1

def k0_off249 (v2230 : BitVec 32) : Fin 2 → Nat :=
  let c3_i32_1483 : BitVec 32 := 3#32
  let v2231 : BitVec 32 := Scalar.shrsi v2230 c3_i32_1483
  let c4095_i32_1484 : BitVec 32 := 4095#32
  let v2232 : BitVec 32 := Scalar.minsi v2231 c4095_i32_1484
  let c8_i32_1485 : BitVec 32 := 8#32
  let v2233 : BitVec 32 := Scalar.muli v2232 c8_i32_1485
  let v2234 : Index := Scalar.indexCast v2233
  let c0_1486 : Index := 0#32
  ![v2234.toNat, 0]

def k0_chk248 (i : grid0.Coords) (v2230 : BitVec 32) : Prop :=
  (∀ (k0_h1 : k0_cond1 i = 1#1), ∀ a, (k0_off249 v2230) a + S8x128.size a ≤ S32768x128.size a)
theorem k0_off249_inb : ∀ (i : grid0.Coords) (v2230 : BitVec 32) (k0_hw248 : k0_chk248 i v2230), ∀ (k0_h1 : k0_cond1 i = 1#1), ∀ a, (k0_off249 v2230) a + S8x128.size a ≤ S32768x128.size a := fun i v2230 k0_hw248 k0_h1 => k0_hw248 k0_h1

def k0_off250 (v2239 : BitVec 32) : Fin 2 → Nat :=
  let c3_i32_1489 : BitVec 32 := 3#32
  let v2240 : BitVec 32 := Scalar.shrsi v2239 c3_i32_1489
  let c4095_i32_1490 : BitVec 32 := 4095#32
  let v2241 : BitVec 32 := Scalar.minsi v2240 c4095_i32_1490
  let c8_i32_1491 : BitVec 32 := 8#32
  let v2242 : BitVec 32 := Scalar.muli v2241 c8_i32_1491
  let v2243 : Index := Scalar.indexCast v2242
  let c0_1492 : Index := 0#32
  ![v2243.toNat, 0]

def k0_chk249 (i : grid0.Coords) (v2239 : BitVec 32) : Prop :=
  (∀ (k0_h1 : k0_cond1 i = 1#1), ∀ a, (k0_off250 v2239) a + S8x128.size a ≤ S32768x128.size a)
theorem k0_off250_inb : ∀ (i : grid0.Coords) (v2239 : BitVec 32) (k0_hw249 : k0_chk249 i v2239), ∀ (k0_h1 : k0_cond1 i = 1#1), ∀ a, (k0_off250 v2239) a + S8x128.size a ≤ S32768x128.size a := fun i v2239 k0_hw249 k0_h1 => k0_hw249 k0_h1

def k0_off251 (v2248 : BitVec 32) : Fin 2 → Nat :=
  let c3_i32_1495 : BitVec 32 := 3#32
  let v2249 : BitVec 32 := Scalar.shrsi v2248 c3_i32_1495
  let c4095_i32_1496 : BitVec 32 := 4095#32
  let v2250 : BitVec 32 := Scalar.minsi v2249 c4095_i32_1496
  let c8_i32_1497 : BitVec 32 := 8#32
  let v2251 : BitVec 32 := Scalar.muli v2250 c8_i32_1497
  let v2252 : Index := Scalar.indexCast v2251
  let c0_1498 : Index := 0#32
  ![v2252.toNat, 0]

def k0_chk250 (i : grid0.Coords) (v2248 : BitVec 32) : Prop :=
  (∀ (k0_h1 : k0_cond1 i = 1#1), ∀ a, (k0_off251 v2248) a + S8x128.size a ≤ S32768x128.size a)
theorem k0_off251_inb : ∀ (i : grid0.Coords) (v2248 : BitVec 32) (k0_hw250 : k0_chk250 i v2248), ∀ (k0_h1 : k0_cond1 i = 1#1), ∀ a, (k0_off251 v2248) a + S8x128.size a ≤ S32768x128.size a := fun i v2248 k0_hw250 k0_h1 => k0_hw250 k0_h1

def k0_off252 (v2257 : BitVec 32) : Fin 2 → Nat :=
  let c3_i32_1501 : BitVec 32 := 3#32
  let v2258 : BitVec 32 := Scalar.shrsi v2257 c3_i32_1501
  let c4095_i32_1502 : BitVec 32 := 4095#32
  let v2259 : BitVec 32 := Scalar.minsi v2258 c4095_i32_1502
  let c8_i32_1503 : BitVec 32 := 8#32
  let v2260 : BitVec 32 := Scalar.muli v2259 c8_i32_1503
  let v2261 : Index := Scalar.indexCast v2260
  let c0_1504 : Index := 0#32
  ![v2261.toNat, 0]

def k0_chk251 (i : grid0.Coords) (v2257 : BitVec 32) : Prop :=
  (∀ (k0_h1 : k0_cond1 i = 1#1), ∀ a, (k0_off252 v2257) a + S8x128.size a ≤ S32768x128.size a)
theorem k0_off252_inb : ∀ (i : grid0.Coords) (v2257 : BitVec 32) (k0_hw251 : k0_chk251 i v2257), ∀ (k0_h1 : k0_cond1 i = 1#1), ∀ a, (k0_off252 v2257) a + S8x128.size a ≤ S32768x128.size a := fun i v2257 k0_hw251 k0_h1 => k0_hw251 k0_h1

def k0_off253 (v2266 : BitVec 32) : Fin 2 → Nat :=
  let c3_i32_1507 : BitVec 32 := 3#32
  let v2267 : BitVec 32 := Scalar.shrsi v2266 c3_i32_1507
  let c4095_i32_1508 : BitVec 32 := 4095#32
  let v2268 : BitVec 32 := Scalar.minsi v2267 c4095_i32_1508
  let c8_i32_1509 : BitVec 32 := 8#32
  let v2269 : BitVec 32 := Scalar.muli v2268 c8_i32_1509
  let v2270 : Index := Scalar.indexCast v2269
  let c0_1510 : Index := 0#32
  ![v2270.toNat, 0]

def k0_chk252 (i : grid0.Coords) (v2266 : BitVec 32) : Prop :=
  (∀ (k0_h1 : k0_cond1 i = 1#1), ∀ a, (k0_off253 v2266) a + S8x128.size a ≤ S32768x128.size a)
theorem k0_off253_inb : ∀ (i : grid0.Coords) (v2266 : BitVec 32) (k0_hw252 : k0_chk252 i v2266), ∀ (k0_h1 : k0_cond1 i = 1#1), ∀ a, (k0_off253 v2266) a + S8x128.size a ≤ S32768x128.size a := fun i v2266 k0_hw252 k0_h1 => k0_hw252 k0_h1

def k0_off254 (v2275 : BitVec 32) : Fin 2 → Nat :=
  let c3_i32_1513 : BitVec 32 := 3#32
  let v2276 : BitVec 32 := Scalar.shrsi v2275 c3_i32_1513
  let c4095_i32_1514 : BitVec 32 := 4095#32
  let v2277 : BitVec 32 := Scalar.minsi v2276 c4095_i32_1514
  let c8_i32_1515 : BitVec 32 := 8#32
  let v2278 : BitVec 32 := Scalar.muli v2277 c8_i32_1515
  let v2279 : Index := Scalar.indexCast v2278
  let c0_1516 : Index := 0#32
  ![v2279.toNat, 0]

def k0_chk253 (i : grid0.Coords) (v2275 : BitVec 32) : Prop :=
  (∀ (k0_h1 : k0_cond1 i = 1#1), ∀ a, (k0_off254 v2275) a + S8x128.size a ≤ S32768x128.size a)
theorem k0_off254_inb : ∀ (i : grid0.Coords) (v2275 : BitVec 32) (k0_hw253 : k0_chk253 i v2275), ∀ (k0_h1 : k0_cond1 i = 1#1), ∀ a, (k0_off254 v2275) a + S8x128.size a ≤ S32768x128.size a := fun i v2275 k0_hw253 k0_h1 => k0_hw253 k0_h1

def k0_off255 (v2284 : BitVec 32) : Fin 2 → Nat :=
  let c3_i32_1519 : BitVec 32 := 3#32
  let v2285 : BitVec 32 := Scalar.shrsi v2284 c3_i32_1519
  let c4095_i32_1520 : BitVec 32 := 4095#32
  let v2286 : BitVec 32 := Scalar.minsi v2285 c4095_i32_1520
  let c8_i32_1521 : BitVec 32 := 8#32
  let v2287 : BitVec 32 := Scalar.muli v2286 c8_i32_1521
  let v2288 : Index := Scalar.indexCast v2287
  let c0_1522 : Index := 0#32
  ![v2288.toNat, 0]

def k0_chk254 (i : grid0.Coords) (v2284 : BitVec 32) : Prop :=
  (∀ (k0_h1 : k0_cond1 i = 1#1), ∀ a, (k0_off255 v2284) a + S8x128.size a ≤ S32768x128.size a)
theorem k0_off255_inb : ∀ (i : grid0.Coords) (v2284 : BitVec 32) (k0_hw254 : k0_chk254 i v2284), ∀ (k0_h1 : k0_cond1 i = 1#1), ∀ a, (k0_off255 v2284) a + S8x128.size a ≤ S32768x128.size a := fun i v2284 k0_hw254 k0_h1 => k0_hw254 k0_h1

def k0_off256 (v2293 : BitVec 32) : Fin 2 → Nat :=
  let c3_i32_1525 : BitVec 32 := 3#32
  let v2294 : BitVec 32 := Scalar.shrsi v2293 c3_i32_1525
  let c4095_i32_1526 : BitVec 32 := 4095#32
  let v2295 : BitVec 32 := Scalar.minsi v2294 c4095_i32_1526
  let c8_i32_1527 : BitVec 32 := 8#32
  let v2296 : BitVec 32 := Scalar.muli v2295 c8_i32_1527
  let v2297 : Index := Scalar.indexCast v2296
  let c0_1528 : Index := 0#32
  ![v2297.toNat, 0]

def k0_chk255 (i : grid0.Coords) (v2293 : BitVec 32) : Prop :=
  (∀ (k0_h1 : k0_cond1 i = 1#1), ∀ a, (k0_off256 v2293) a + S8x128.size a ≤ S32768x128.size a)
theorem k0_off256_inb : ∀ (i : grid0.Coords) (v2293 : BitVec 32) (k0_hw255 : k0_chk255 i v2293), ∀ (k0_h1 : k0_cond1 i = 1#1), ∀ a, (k0_off256 v2293) a + S8x128.size a ≤ S32768x128.size a := fun i v2293 k0_hw255 k0_h1 => k0_hw255 k0_h1

def k0_off257 (v2302 : BitVec 32) : Fin 2 → Nat :=
  let c3_i32_1531 : BitVec 32 := 3#32
  let v2303 : BitVec 32 := Scalar.shrsi v2302 c3_i32_1531
  let c4095_i32_1532 : BitVec 32 := 4095#32
  let v2304 : BitVec 32 := Scalar.minsi v2303 c4095_i32_1532
  let c8_i32_1533 : BitVec 32 := 8#32
  let v2305 : BitVec 32 := Scalar.muli v2304 c8_i32_1533
  let v2306 : Index := Scalar.indexCast v2305
  let c0_1534 : Index := 0#32
  ![v2306.toNat, 0]

def k0_chk256 (i : grid0.Coords) (v2302 : BitVec 32) : Prop :=
  (∀ (k0_h1 : k0_cond1 i = 1#1), ∀ a, (k0_off257 v2302) a + S8x128.size a ≤ S32768x128.size a)
theorem k0_off257_inb : ∀ (i : grid0.Coords) (v2302 : BitVec 32) (k0_hw256 : k0_chk256 i v2302), ∀ (k0_h1 : k0_cond1 i = 1#1), ∀ a, (k0_off257 v2302) a + S8x128.size a ≤ S32768x128.size a := fun i v2302 k0_hw256 k0_h1 => k0_hw256 k0_h1

def k0_off258 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32 : BitVec 32 := 256#32
  let v130 : BitVec 32 := Scalar.muli v129 c256_i32
  let c0_i32_43 : BitVec 32 := 0#32
  let v131 : BitVec 32 := Scalar.addi v130 c0_i32_43
  let v132 : Index := Scalar.indexCast v131
  ![v132.toNat]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_off259 (v133 : BitVec 32) : Fin 2 → Nat :=
  let c3_i32 : BitVec 32 := 3#32
  let v134 : BitVec 32 := Scalar.shrsi v133 c3_i32
  let c4095_i32 : BitVec 32 := 4095#32
  let v135 : BitVec 32 := Scalar.minsi v134 c4095_i32
  let c8_i32 : BitVec 32 := 8#32
  let v136 : BitVec 32 := Scalar.muli v135 c8_i32
  let v137 : Index := Scalar.indexCast v136
  let c0_44 : Index := 0#32
  ![v137.toNat, 0]

def k0_chk258 (i : grid0.Coords) (v0 : BitVec 32) (v133 : BitVec 32) : Prop :=
  (∀ (k0_h2 : k0_cond2 i v0 = 1#1), ∀ a, (k0_off259 v133) a + S8x128.size a ≤ S32768x128.size a)
theorem k0_off259_inb : ∀ (i : grid0.Coords) (v0 : BitVec 32) (v133 : BitVec 32) (k0_hw258 : k0_chk258 i v0 v133), ∀ (k0_h2 : k0_cond2 i v0 = 1#1), ∀ a, (k0_off259 v133) a + S8x128.size a ≤ S32768x128.size a := fun i v0 v133 k0_hw258 k0_h2 => k0_hw258 k0_h2

def k0_off260 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_47 : BitVec 32 := 256#32
  let v142 : BitVec 32 := Scalar.muli v129 c256_i32_47
  let c1_i32_48 : BitVec 32 := 1#32
  let v143 : BitVec 32 := Scalar.addi v142 c1_i32_48
  let v144 : Index := Scalar.indexCast v143
  ![v144.toNat]
def k0_off261 (v145 : BitVec 32) : Fin 2 → Nat :=
  let c3_i32_49 : BitVec 32 := 3#32
  let v146 : BitVec 32 := Scalar.shrsi v145 c3_i32_49
  let c4095_i32_50 : BitVec 32 := 4095#32
  let v147 : BitVec 32 := Scalar.minsi v146 c4095_i32_50
  let c8_i32_51 : BitVec 32 := 8#32
  let v148 : BitVec 32 := Scalar.muli v147 c8_i32_51
  let v149 : Index := Scalar.indexCast v148
  let c0_52 : Index := 0#32
  ![v149.toNat, 0]

def k0_chk259 (i : grid0.Coords) (v0 : BitVec 32) (v145 : BitVec 32) : Prop :=
  (∀ (k0_h2 : k0_cond2 i v0 = 1#1), ∀ a, (k0_off261 v145) a + S8x128.size a ≤ S32768x128.size a)
theorem k0_off261_inb : ∀ (i : grid0.Coords) (v0 : BitVec 32) (v145 : BitVec 32) (k0_hw259 : k0_chk259 i v0 v145), ∀ (k0_h2 : k0_cond2 i v0 = 1#1), ∀ a, (k0_off261 v145) a + S8x128.size a ≤ S32768x128.size a := fun i v0 v145 k0_hw259 k0_h2 => k0_hw259 k0_h2

def k0_off262 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_55 : BitVec 32 := 256#32
  let v154 : BitVec 32 := Scalar.muli v129 c256_i32_55
  let c2_i32 : BitVec 32 := 2#32
  let v155 : BitVec 32 := Scalar.addi v154 c2_i32
  let v156 : Index := Scalar.indexCast v155
  ![v156.toNat]
def k0_off263 (v157 : BitVec 32) : Fin 2 → Nat :=
  let c3_i32_56 : BitVec 32 := 3#32
  let v158 : BitVec 32 := Scalar.shrsi v157 c3_i32_56
  let c4095_i32_57 : BitVec 32 := 4095#32
  let v159 : BitVec 32 := Scalar.minsi v158 c4095_i32_57
  let c8_i32_58 : BitVec 32 := 8#32
  let v160 : BitVec 32 := Scalar.muli v159 c8_i32_58
  let v161 : Index := Scalar.indexCast v160
  let c0_59 : Index := 0#32
  ![v161.toNat, 0]

def k0_chk260 (i : grid0.Coords) (v0 : BitVec 32) (v157 : BitVec 32) : Prop :=
  (∀ (k0_h2 : k0_cond2 i v0 = 1#1), ∀ a, (k0_off263 v157) a + S8x128.size a ≤ S32768x128.size a)
theorem k0_off263_inb : ∀ (i : grid0.Coords) (v0 : BitVec 32) (v157 : BitVec 32) (k0_hw260 : k0_chk260 i v0 v157), ∀ (k0_h2 : k0_cond2 i v0 = 1#1), ∀ a, (k0_off263 v157) a + S8x128.size a ≤ S32768x128.size a := fun i v0 v157 k0_hw260 k0_h2 => k0_hw260 k0_h2

def k0_off264 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_61 : BitVec 32 := 256#32
  let v166 : BitVec 32 := Scalar.muli v129 c256_i32_61
  let c3_i32_62 : BitVec 32 := 3#32
  let v167 : BitVec 32 := Scalar.addi v166 c3_i32_62
  let v168 : Index := Scalar.indexCast v167
  ![v168.toNat]
def k0_off265 (v169 : BitVec 32) : Fin 2 → Nat :=
  let c3_i32_63 : BitVec 32 := 3#32
  let v170 : BitVec 32 := Scalar.shrsi v169 c3_i32_63
  let c4095_i32_64 : BitVec 32 := 4095#32
  let v171 : BitVec 32 := Scalar.minsi v170 c4095_i32_64
  let c8_i32_65 : BitVec 32 := 8#32
  let v172 : BitVec 32 := Scalar.muli v171 c8_i32_65
  let v173 : Index := Scalar.indexCast v172
  let c0_66 : Index := 0#32
  ![v173.toNat, 0]

def k0_chk261 (i : grid0.Coords) (v0 : BitVec 32) (v169 : BitVec 32) : Prop :=
  (∀ (k0_h2 : k0_cond2 i v0 = 1#1), ∀ a, (k0_off265 v169) a + S8x128.size a ≤ S32768x128.size a)
theorem k0_off265_inb : ∀ (i : grid0.Coords) (v0 : BitVec 32) (v169 : BitVec 32) (k0_hw261 : k0_chk261 i v0 v169), ∀ (k0_h2 : k0_cond2 i v0 = 1#1), ∀ a, (k0_off265 v169) a + S8x128.size a ≤ S32768x128.size a := fun i v0 v169 k0_hw261 k0_h2 => k0_hw261 k0_h2

def k0_off266 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_68 : BitVec 32 := 256#32
  let v178 : BitVec 32 := Scalar.muli v129 c256_i32_68
  let c4_i32 : BitVec 32 := 4#32
  let v179 : BitVec 32 := Scalar.addi v178 c4_i32
  let v180 : Index := Scalar.indexCast v179
  ![v180.toNat]
def k0_off267 (v181 : BitVec 32) : Fin 2 → Nat :=
  let c3_i32_69 : BitVec 32 := 3#32
  let v182 : BitVec 32 := Scalar.shrsi v181 c3_i32_69
  let c4095_i32_70 : BitVec 32 := 4095#32
  let v183 : BitVec 32 := Scalar.minsi v182 c4095_i32_70
  let c8_i32_71 : BitVec 32 := 8#32
  let v184 : BitVec 32 := Scalar.muli v183 c8_i32_71
  let v185 : Index := Scalar.indexCast v184
  let c0_72 : Index := 0#32
  ![v185.toNat, 0]

def k0_chk262 (i : grid0.Coords) (v0 : BitVec 32) (v181 : BitVec 32) : Prop :=
  (∀ (k0_h2 : k0_cond2 i v0 = 1#1), ∀ a, (k0_off267 v181) a + S8x128.size a ≤ S32768x128.size a)
theorem k0_off267_inb : ∀ (i : grid0.Coords) (v0 : BitVec 32) (v181 : BitVec 32) (k0_hw262 : k0_chk262 i v0 v181), ∀ (k0_h2 : k0_cond2 i v0 = 1#1), ∀ a, (k0_off267 v181) a + S8x128.size a ≤ S32768x128.size a := fun i v0 v181 k0_hw262 k0_h2 => k0_hw262 k0_h2

def k0_off268 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_74 : BitVec 32 := 256#32
  let v190 : BitVec 32 := Scalar.muli v129 c256_i32_74
  let c5_i32 : BitVec 32 := 5#32
  let v191 : BitVec 32 := Scalar.addi v190 c5_i32
  let v192 : Index := Scalar.indexCast v191
  ![v192.toNat]
def k0_off269 (v193 : BitVec 32) : Fin 2 → Nat :=
  let c3_i32_75 : BitVec 32 := 3#32
  let v194 : BitVec 32 := Scalar.shrsi v193 c3_i32_75
  let c4095_i32_76 : BitVec 32 := 4095#32
  let v195 : BitVec 32 := Scalar.minsi v194 c4095_i32_76
  let c8_i32_77 : BitVec 32 := 8#32
  let v196 : BitVec 32 := Scalar.muli v195 c8_i32_77
  let v197 : Index := Scalar.indexCast v196
  let c0_78 : Index := 0#32
  ![v197.toNat, 0]

def k0_chk263 (i : grid0.Coords) (v0 : BitVec 32) (v193 : BitVec 32) : Prop :=
  (∀ (k0_h2 : k0_cond2 i v0 = 1#1), ∀ a, (k0_off269 v193) a + S8x128.size a ≤ S32768x128.size a)
theorem k0_off269_inb : ∀ (i : grid0.Coords) (v0 : BitVec 32) (v193 : BitVec 32) (k0_hw263 : k0_chk263 i v0 v193), ∀ (k0_h2 : k0_cond2 i v0 = 1#1), ∀ a, (k0_off269 v193) a + S8x128.size a ≤ S32768x128.size a := fun i v0 v193 k0_hw263 k0_h2 => k0_hw263 k0_h2

def k0_off270 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_80 : BitVec 32 := 256#32
  let v202 : BitVec 32 := Scalar.muli v129 c256_i32_80
  let c6_i32 : BitVec 32 := 6#32
  let v203 : BitVec 32 := Scalar.addi v202 c6_i32
  let v204 : Index := Scalar.indexCast v203
  ![v204.toNat]
def k0_off271 (v205 : BitVec 32) : Fin 2 → Nat :=
  let c3_i32_81 : BitVec 32 := 3#32
  let v206 : BitVec 32 := Scalar.shrsi v205 c3_i32_81
  let c4095_i32_82 : BitVec 32 := 4095#32
  let v207 : BitVec 32 := Scalar.minsi v206 c4095_i32_82
  let c8_i32_83 : BitVec 32 := 8#32
  let v208 : BitVec 32 := Scalar.muli v207 c8_i32_83
  let v209 : Index := Scalar.indexCast v208
  let c0_84 : Index := 0#32
  ![v209.toNat, 0]

def k0_chk264 (i : grid0.Coords) (v0 : BitVec 32) (v205 : BitVec 32) : Prop :=
  (∀ (k0_h2 : k0_cond2 i v0 = 1#1), ∀ a, (k0_off271 v205) a + S8x128.size a ≤ S32768x128.size a)
theorem k0_off271_inb : ∀ (i : grid0.Coords) (v0 : BitVec 32) (v205 : BitVec 32) (k0_hw264 : k0_chk264 i v0 v205), ∀ (k0_h2 : k0_cond2 i v0 = 1#1), ∀ a, (k0_off271 v205) a + S8x128.size a ≤ S32768x128.size a := fun i v0 v205 k0_hw264 k0_h2 => k0_hw264 k0_h2

def k0_off272 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_86 : BitVec 32 := 256#32
  let v214 : BitVec 32 := Scalar.muli v129 c256_i32_86
  let c7_i32 : BitVec 32 := 7#32
  let v215 : BitVec 32 := Scalar.addi v214 c7_i32
  let v216 : Index := Scalar.indexCast v215
  ![v216.toNat]
def k0_off273 (v217 : BitVec 32) : Fin 2 → Nat :=
  let c3_i32_87 : BitVec 32 := 3#32
  let v218 : BitVec 32 := Scalar.shrsi v217 c3_i32_87
  let c4095_i32_88 : BitVec 32 := 4095#32
  let v219 : BitVec 32 := Scalar.minsi v218 c4095_i32_88
  let c8_i32_89 : BitVec 32 := 8#32
  let v220 : BitVec 32 := Scalar.muli v219 c8_i32_89
  let v221 : Index := Scalar.indexCast v220
  let c0_90 : Index := 0#32
  ![v221.toNat, 0]

def k0_chk265 (i : grid0.Coords) (v0 : BitVec 32) (v217 : BitVec 32) : Prop :=
  (∀ (k0_h2 : k0_cond2 i v0 = 1#1), ∀ a, (k0_off273 v217) a + S8x128.size a ≤ S32768x128.size a)
theorem k0_off273_inb : ∀ (i : grid0.Coords) (v0 : BitVec 32) (v217 : BitVec 32) (k0_hw265 : k0_chk265 i v0 v217), ∀ (k0_h2 : k0_cond2 i v0 = 1#1), ∀ a, (k0_off273 v217) a + S8x128.size a ≤ S32768x128.size a := fun i v0 v217 k0_hw265 k0_h2 => k0_hw265 k0_h2

def k0_off274 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_92 : BitVec 32 := 256#32
  let v226 : BitVec 32 := Scalar.muli v129 c256_i32_92
  let c8_i32_93 : BitVec 32 := 8#32
  let v227 : BitVec 32 := Scalar.addi v226 c8_i32_93
  let v228 : Index := Scalar.indexCast v227
  ![v228.toNat]
def k0_off275 (v229 : BitVec 32) : Fin 2 → Nat :=
  let c3_i32_94 : BitVec 32 := 3#32
  let v230 : BitVec 32 := Scalar.shrsi v229 c3_i32_94
  let c4095_i32_95 : BitVec 32 := 4095#32
  let v231 : BitVec 32 := Scalar.minsi v230 c4095_i32_95
  let c8_i32_96 : BitVec 32 := 8#32
  let v232 : BitVec 32 := Scalar.muli v231 c8_i32_96
  let v233 : Index := Scalar.indexCast v232
  let c0_97 : Index := 0#32
  ![v233.toNat, 0]

def k0_chk266 (i : grid0.Coords) (v0 : BitVec 32) (v229 : BitVec 32) : Prop :=
  (∀ (k0_h2 : k0_cond2 i v0 = 1#1), ∀ a, (k0_off275 v229) a + S8x128.size a ≤ S32768x128.size a)
theorem k0_off275_inb : ∀ (i : grid0.Coords) (v0 : BitVec 32) (v229 : BitVec 32) (k0_hw266 : k0_chk266 i v0 v229), ∀ (k0_h2 : k0_cond2 i v0 = 1#1), ∀ a, (k0_off275 v229) a + S8x128.size a ≤ S32768x128.size a := fun i v0 v229 k0_hw266 k0_h2 => k0_hw266 k0_h2

def k0_off276 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_99 : BitVec 32 := 256#32
  let v238 : BitVec 32 := Scalar.muli v129 c256_i32_99
  let c9_i32 : BitVec 32 := 9#32
  let v239 : BitVec 32 := Scalar.addi v238 c9_i32
  let v240 : Index := Scalar.indexCast v239
  ![v240.toNat]
def k0_off277 (v241 : BitVec 32) : Fin 2 → Nat :=
  let c3_i32_100 : BitVec 32 := 3#32
  let v242 : BitVec 32 := Scalar.shrsi v241 c3_i32_100
  let c4095_i32_101 : BitVec 32 := 4095#32
  let v243 : BitVec 32 := Scalar.minsi v242 c4095_i32_101
  let c8_i32_102 : BitVec 32 := 8#32
  let v244 : BitVec 32 := Scalar.muli v243 c8_i32_102
  let v245 : Index := Scalar.indexCast v244
  let c0_103 : Index := 0#32
  ![v245.toNat, 0]

def k0_chk267 (i : grid0.Coords) (v0 : BitVec 32) (v241 : BitVec 32) : Prop :=
  (∀ (k0_h2 : k0_cond2 i v0 = 1#1), ∀ a, (k0_off277 v241) a + S8x128.size a ≤ S32768x128.size a)
theorem k0_off277_inb : ∀ (i : grid0.Coords) (v0 : BitVec 32) (v241 : BitVec 32) (k0_hw267 : k0_chk267 i v0 v241), ∀ (k0_h2 : k0_cond2 i v0 = 1#1), ∀ a, (k0_off277 v241) a + S8x128.size a ≤ S32768x128.size a := fun i v0 v241 k0_hw267 k0_h2 => k0_hw267 k0_h2

def k0_off278 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_105 : BitVec 32 := 256#32
  let v250 : BitVec 32 := Scalar.muli v129 c256_i32_105
  let c10_i32 : BitVec 32 := 10#32
  let v251 : BitVec 32 := Scalar.addi v250 c10_i32
  let v252 : Index := Scalar.indexCast v251
  ![v252.toNat]
def k0_off279 (v253 : BitVec 32) : Fin 2 → Nat :=
  let c3_i32_106 : BitVec 32 := 3#32
  let v254 : BitVec 32 := Scalar.shrsi v253 c3_i32_106
  let c4095_i32_107 : BitVec 32 := 4095#32
  let v255 : BitVec 32 := Scalar.minsi v254 c4095_i32_107
  let c8_i32_108 : BitVec 32 := 8#32
  let v256 : BitVec 32 := Scalar.muli v255 c8_i32_108
  let v257 : Index := Scalar.indexCast v256
  let c0_109 : Index := 0#32
  ![v257.toNat, 0]

def k0_chk268 (i : grid0.Coords) (v0 : BitVec 32) (v253 : BitVec 32) : Prop :=
  (∀ (k0_h2 : k0_cond2 i v0 = 1#1), ∀ a, (k0_off279 v253) a + S8x128.size a ≤ S32768x128.size a)
theorem k0_off279_inb : ∀ (i : grid0.Coords) (v0 : BitVec 32) (v253 : BitVec 32) (k0_hw268 : k0_chk268 i v0 v253), ∀ (k0_h2 : k0_cond2 i v0 = 1#1), ∀ a, (k0_off279 v253) a + S8x128.size a ≤ S32768x128.size a := fun i v0 v253 k0_hw268 k0_h2 => k0_hw268 k0_h2

def k0_off280 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_111 : BitVec 32 := 256#32
  let v262 : BitVec 32 := Scalar.muli v129 c256_i32_111
  let c11_i32 : BitVec 32 := 11#32
  let v263 : BitVec 32 := Scalar.addi v262 c11_i32
  let v264 : Index := Scalar.indexCast v263
  ![v264.toNat]
def k0_off281 (v265 : BitVec 32) : Fin 2 → Nat :=
  let c3_i32_112 : BitVec 32 := 3#32
  let v266 : BitVec 32 := Scalar.shrsi v265 c3_i32_112
  let c4095_i32_113 : BitVec 32 := 4095#32
  let v267 : BitVec 32 := Scalar.minsi v266 c4095_i32_113
  let c8_i32_114 : BitVec 32 := 8#32
  let v268 : BitVec 32 := Scalar.muli v267 c8_i32_114
  let v269 : Index := Scalar.indexCast v268
  let c0_115 : Index := 0#32
  ![v269.toNat, 0]

def k0_chk269 (i : grid0.Coords) (v0 : BitVec 32) (v265 : BitVec 32) : Prop :=
  (∀ (k0_h2 : k0_cond2 i v0 = 1#1), ∀ a, (k0_off281 v265) a + S8x128.size a ≤ S32768x128.size a)
theorem k0_off281_inb : ∀ (i : grid0.Coords) (v0 : BitVec 32) (v265 : BitVec 32) (k0_hw269 : k0_chk269 i v0 v265), ∀ (k0_h2 : k0_cond2 i v0 = 1#1), ∀ a, (k0_off281 v265) a + S8x128.size a ≤ S32768x128.size a := fun i v0 v265 k0_hw269 k0_h2 => k0_hw269 k0_h2

def k0_off282 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_117 : BitVec 32 := 256#32
  let v274 : BitVec 32 := Scalar.muli v129 c256_i32_117
  let c12_i32 : BitVec 32 := 12#32
  let v275 : BitVec 32 := Scalar.addi v274 c12_i32
  let v276 : Index := Scalar.indexCast v275
  ![v276.toNat]
def k0_off283 (v277 : BitVec 32) : Fin 2 → Nat :=
  let c3_i32_118 : BitVec 32 := 3#32
  let v278 : BitVec 32 := Scalar.shrsi v277 c3_i32_118
  let c4095_i32_119 : BitVec 32 := 4095#32
  let v279 : BitVec 32 := Scalar.minsi v278 c4095_i32_119
  let c8_i32_120 : BitVec 32 := 8#32
  let v280 : BitVec 32 := Scalar.muli v279 c8_i32_120
  let v281 : Index := Scalar.indexCast v280
  let c0_121 : Index := 0#32
  ![v281.toNat, 0]

def k0_chk270 (i : grid0.Coords) (v0 : BitVec 32) (v277 : BitVec 32) : Prop :=
  (∀ (k0_h2 : k0_cond2 i v0 = 1#1), ∀ a, (k0_off283 v277) a + S8x128.size a ≤ S32768x128.size a)
theorem k0_off283_inb : ∀ (i : grid0.Coords) (v0 : BitVec 32) (v277 : BitVec 32) (k0_hw270 : k0_chk270 i v0 v277), ∀ (k0_h2 : k0_cond2 i v0 = 1#1), ∀ a, (k0_off283 v277) a + S8x128.size a ≤ S32768x128.size a := fun i v0 v277 k0_hw270 k0_h2 => k0_hw270 k0_h2

def k0_off284 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_123 : BitVec 32 := 256#32
  let v286 : BitVec 32 := Scalar.muli v129 c256_i32_123
  let c13_i32 : BitVec 32 := 13#32
  let v287 : BitVec 32 := Scalar.addi v286 c13_i32
  let v288 : Index := Scalar.indexCast v287
  ![v288.toNat]
def k0_off285 (v289 : BitVec 32) : Fin 2 → Nat :=
  let c3_i32_124 : BitVec 32 := 3#32
  let v290 : BitVec 32 := Scalar.shrsi v289 c3_i32_124
  let c4095_i32_125 : BitVec 32 := 4095#32
  let v291 : BitVec 32 := Scalar.minsi v290 c4095_i32_125
  let c8_i32_126 : BitVec 32 := 8#32
  let v292 : BitVec 32 := Scalar.muli v291 c8_i32_126
  let v293 : Index := Scalar.indexCast v292
  let c0_127 : Index := 0#32
  ![v293.toNat, 0]

def k0_chk271 (i : grid0.Coords) (v0 : BitVec 32) (v289 : BitVec 32) : Prop :=
  (∀ (k0_h2 : k0_cond2 i v0 = 1#1), ∀ a, (k0_off285 v289) a + S8x128.size a ≤ S32768x128.size a)
theorem k0_off285_inb : ∀ (i : grid0.Coords) (v0 : BitVec 32) (v289 : BitVec 32) (k0_hw271 : k0_chk271 i v0 v289), ∀ (k0_h2 : k0_cond2 i v0 = 1#1), ∀ a, (k0_off285 v289) a + S8x128.size a ≤ S32768x128.size a := fun i v0 v289 k0_hw271 k0_h2 => k0_hw271 k0_h2

def k0_off286 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_129 : BitVec 32 := 256#32
  let v298 : BitVec 32 := Scalar.muli v129 c256_i32_129
  let c14_i32 : BitVec 32 := 14#32
  let v299 : BitVec 32 := Scalar.addi v298 c14_i32
  let v300 : Index := Scalar.indexCast v299
  ![v300.toNat]
def k0_off287 (v301 : BitVec 32) : Fin 2 → Nat :=
  let c3_i32_130 : BitVec 32 := 3#32
  let v302 : BitVec 32 := Scalar.shrsi v301 c3_i32_130
  let c4095_i32_131 : BitVec 32 := 4095#32
  let v303 : BitVec 32 := Scalar.minsi v302 c4095_i32_131
  let c8_i32_132 : BitVec 32 := 8#32
  let v304 : BitVec 32 := Scalar.muli v303 c8_i32_132
  let v305 : Index := Scalar.indexCast v304
  let c0_133 : Index := 0#32
  ![v305.toNat, 0]

def k0_chk272 (i : grid0.Coords) (v0 : BitVec 32) (v301 : BitVec 32) : Prop :=
  (∀ (k0_h2 : k0_cond2 i v0 = 1#1), ∀ a, (k0_off287 v301) a + S8x128.size a ≤ S32768x128.size a)
theorem k0_off287_inb : ∀ (i : grid0.Coords) (v0 : BitVec 32) (v301 : BitVec 32) (k0_hw272 : k0_chk272 i v0 v301), ∀ (k0_h2 : k0_cond2 i v0 = 1#1), ∀ a, (k0_off287 v301) a + S8x128.size a ≤ S32768x128.size a := fun i v0 v301 k0_hw272 k0_h2 => k0_hw272 k0_h2

def k0_off288 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_135 : BitVec 32 := 256#32
  let v310 : BitVec 32 := Scalar.muli v129 c256_i32_135
  let c15_i32 : BitVec 32 := 15#32
  let v311 : BitVec 32 := Scalar.addi v310 c15_i32
  let v312 : Index := Scalar.indexCast v311
  ![v312.toNat]
def k0_off289 (v313 : BitVec 32) : Fin 2 → Nat :=
  let c3_i32_136 : BitVec 32 := 3#32
  let v314 : BitVec 32 := Scalar.shrsi v313 c3_i32_136
  let c4095_i32_137 : BitVec 32 := 4095#32
  let v315 : BitVec 32 := Scalar.minsi v314 c4095_i32_137
  let c8_i32_138 : BitVec 32 := 8#32
  let v316 : BitVec 32 := Scalar.muli v315 c8_i32_138
  let v317 : Index := Scalar.indexCast v316
  let c0_139 : Index := 0#32
  ![v317.toNat, 0]

def k0_chk273 (i : grid0.Coords) (v0 : BitVec 32) (v313 : BitVec 32) : Prop :=
  (∀ (k0_h2 : k0_cond2 i v0 = 1#1), ∀ a, (k0_off289 v313) a + S8x128.size a ≤ S32768x128.size a)
theorem k0_off289_inb : ∀ (i : grid0.Coords) (v0 : BitVec 32) (v313 : BitVec 32) (k0_hw273 : k0_chk273 i v0 v313), ∀ (k0_h2 : k0_cond2 i v0 = 1#1), ∀ a, (k0_off289 v313) a + S8x128.size a ≤ S32768x128.size a := fun i v0 v313 k0_hw273 k0_h2 => k0_hw273 k0_h2

def k0_off290 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_141 : BitVec 32 := 256#32
  let v322 : BitVec 32 := Scalar.muli v129 c256_i32_141
  let c16_i32_142 : BitVec 32 := 16#32
  let v323 : BitVec 32 := Scalar.addi v322 c16_i32_142
  let v324 : Index := Scalar.indexCast v323
  ![v324.toNat]
def k0_off291 (v325 : BitVec 32) : Fin 2 → Nat :=
  let c3_i32_143 : BitVec 32 := 3#32
  let v326 : BitVec 32 := Scalar.shrsi v325 c3_i32_143
  let c4095_i32_144 : BitVec 32 := 4095#32
  let v327 : BitVec 32 := Scalar.minsi v326 c4095_i32_144
  let c8_i32_145 : BitVec 32 := 8#32
  let v328 : BitVec 32 := Scalar.muli v327 c8_i32_145
  let v329 : Index := Scalar.indexCast v328
  let c0_146 : Index := 0#32
  ![v329.toNat, 0]

def k0_chk274 (i : grid0.Coords) (v0 : BitVec 32) (v325 : BitVec 32) : Prop :=
  (∀ (k0_h2 : k0_cond2 i v0 = 1#1), ∀ a, (k0_off291 v325) a + S8x128.size a ≤ S32768x128.size a)
theorem k0_off291_inb : ∀ (i : grid0.Coords) (v0 : BitVec 32) (v325 : BitVec 32) (k0_hw274 : k0_chk274 i v0 v325), ∀ (k0_h2 : k0_cond2 i v0 = 1#1), ∀ a, (k0_off291 v325) a + S8x128.size a ≤ S32768x128.size a := fun i v0 v325 k0_hw274 k0_h2 => k0_hw274 k0_h2

def k0_off292 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_148 : BitVec 32 := 256#32
  let v334 : BitVec 32 := Scalar.muli v129 c256_i32_148
  let c17_i32 : BitVec 32 := 17#32
  let v335 : BitVec 32 := Scalar.addi v334 c17_i32
  let v336 : Index := Scalar.indexCast v335
  ![v336.toNat]
def k0_off293 (v337 : BitVec 32) : Fin 2 → Nat :=
  let c3_i32_149 : BitVec 32 := 3#32
  let v338 : BitVec 32 := Scalar.shrsi v337 c3_i32_149
  let c4095_i32_150 : BitVec 32 := 4095#32
  let v339 : BitVec 32 := Scalar.minsi v338 c4095_i32_150
  let c8_i32_151 : BitVec 32 := 8#32
  let v340 : BitVec 32 := Scalar.muli v339 c8_i32_151
  let v341 : Index := Scalar.indexCast v340
  let c0_152 : Index := 0#32
  ![v341.toNat, 0]

def k0_chk275 (i : grid0.Coords) (v0 : BitVec 32) (v337 : BitVec 32) : Prop :=
  (∀ (k0_h2 : k0_cond2 i v0 = 1#1), ∀ a, (k0_off293 v337) a + S8x128.size a ≤ S32768x128.size a)
theorem k0_off293_inb : ∀ (i : grid0.Coords) (v0 : BitVec 32) (v337 : BitVec 32) (k0_hw275 : k0_chk275 i v0 v337), ∀ (k0_h2 : k0_cond2 i v0 = 1#1), ∀ a, (k0_off293 v337) a + S8x128.size a ≤ S32768x128.size a := fun i v0 v337 k0_hw275 k0_h2 => k0_hw275 k0_h2

def k0_off294 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_154 : BitVec 32 := 256#32
  let v346 : BitVec 32 := Scalar.muli v129 c256_i32_154
  let c18_i32 : BitVec 32 := 18#32
  let v347 : BitVec 32 := Scalar.addi v346 c18_i32
  let v348 : Index := Scalar.indexCast v347
  ![v348.toNat]
def k0_off295 (v349 : BitVec 32) : Fin 2 → Nat :=
  let c3_i32_155 : BitVec 32 := 3#32
  let v350 : BitVec 32 := Scalar.shrsi v349 c3_i32_155
  let c4095_i32_156 : BitVec 32 := 4095#32
  let v351 : BitVec 32 := Scalar.minsi v350 c4095_i32_156
  let c8_i32_157 : BitVec 32 := 8#32
  let v352 : BitVec 32 := Scalar.muli v351 c8_i32_157
  let v353 : Index := Scalar.indexCast v352
  let c0_158 : Index := 0#32
  ![v353.toNat, 0]

def k0_chk276 (i : grid0.Coords) (v0 : BitVec 32) (v349 : BitVec 32) : Prop :=
  (∀ (k0_h2 : k0_cond2 i v0 = 1#1), ∀ a, (k0_off295 v349) a + S8x128.size a ≤ S32768x128.size a)
theorem k0_off295_inb : ∀ (i : grid0.Coords) (v0 : BitVec 32) (v349 : BitVec 32) (k0_hw276 : k0_chk276 i v0 v349), ∀ (k0_h2 : k0_cond2 i v0 = 1#1), ∀ a, (k0_off295 v349) a + S8x128.size a ≤ S32768x128.size a := fun i v0 v349 k0_hw276 k0_h2 => k0_hw276 k0_h2

def k0_off296 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_160 : BitVec 32 := 256#32
  let v358 : BitVec 32 := Scalar.muli v129 c256_i32_160
  let c19_i32 : BitVec 32 := 19#32
  let v359 : BitVec 32 := Scalar.addi v358 c19_i32
  let v360 : Index := Scalar.indexCast v359
  ![v360.toNat]
def k0_off297 (v361 : BitVec 32) : Fin 2 → Nat :=
  let c3_i32_161 : BitVec 32 := 3#32
  let v362 : BitVec 32 := Scalar.shrsi v361 c3_i32_161
  let c4095_i32_162 : BitVec 32 := 4095#32
  let v363 : BitVec 32 := Scalar.minsi v362 c4095_i32_162
  let c8_i32_163 : BitVec 32 := 8#32
  let v364 : BitVec 32 := Scalar.muli v363 c8_i32_163
  let v365 : Index := Scalar.indexCast v364
  let c0_164 : Index := 0#32
  ![v365.toNat, 0]

def k0_chk277 (i : grid0.Coords) (v0 : BitVec 32) (v361 : BitVec 32) : Prop :=
  (∀ (k0_h2 : k0_cond2 i v0 = 1#1), ∀ a, (k0_off297 v361) a + S8x128.size a ≤ S32768x128.size a)
theorem k0_off297_inb : ∀ (i : grid0.Coords) (v0 : BitVec 32) (v361 : BitVec 32) (k0_hw277 : k0_chk277 i v0 v361), ∀ (k0_h2 : k0_cond2 i v0 = 1#1), ∀ a, (k0_off297 v361) a + S8x128.size a ≤ S32768x128.size a := fun i v0 v361 k0_hw277 k0_h2 => k0_hw277 k0_h2

def k0_off298 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_166 : BitVec 32 := 256#32
  let v370 : BitVec 32 := Scalar.muli v129 c256_i32_166
  let c20_i32 : BitVec 32 := 20#32
  let v371 : BitVec 32 := Scalar.addi v370 c20_i32
  let v372 : Index := Scalar.indexCast v371
  ![v372.toNat]
def k0_off299 (v373 : BitVec 32) : Fin 2 → Nat :=
  let c3_i32_167 : BitVec 32 := 3#32
  let v374 : BitVec 32 := Scalar.shrsi v373 c3_i32_167
  let c4095_i32_168 : BitVec 32 := 4095#32
  let v375 : BitVec 32 := Scalar.minsi v374 c4095_i32_168
  let c8_i32_169 : BitVec 32 := 8#32
  let v376 : BitVec 32 := Scalar.muli v375 c8_i32_169
  let v377 : Index := Scalar.indexCast v376
  let c0_170 : Index := 0#32
  ![v377.toNat, 0]

def k0_chk278 (i : grid0.Coords) (v0 : BitVec 32) (v373 : BitVec 32) : Prop :=
  (∀ (k0_h2 : k0_cond2 i v0 = 1#1), ∀ a, (k0_off299 v373) a + S8x128.size a ≤ S32768x128.size a)
theorem k0_off299_inb : ∀ (i : grid0.Coords) (v0 : BitVec 32) (v373 : BitVec 32) (k0_hw278 : k0_chk278 i v0 v373), ∀ (k0_h2 : k0_cond2 i v0 = 1#1), ∀ a, (k0_off299 v373) a + S8x128.size a ≤ S32768x128.size a := fun i v0 v373 k0_hw278 k0_h2 => k0_hw278 k0_h2

def k0_off300 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_172 : BitVec 32 := 256#32
  let v382 : BitVec 32 := Scalar.muli v129 c256_i32_172
  let c21_i32 : BitVec 32 := 21#32
  let v383 : BitVec 32 := Scalar.addi v382 c21_i32
  let v384 : Index := Scalar.indexCast v383
  ![v384.toNat]
def k0_off301 (v385 : BitVec 32) : Fin 2 → Nat :=
  let c3_i32_173 : BitVec 32 := 3#32
  let v386 : BitVec 32 := Scalar.shrsi v385 c3_i32_173
  let c4095_i32_174 : BitVec 32 := 4095#32
  let v387 : BitVec 32 := Scalar.minsi v386 c4095_i32_174
  let c8_i32_175 : BitVec 32 := 8#32
  let v388 : BitVec 32 := Scalar.muli v387 c8_i32_175
  let v389 : Index := Scalar.indexCast v388
  let c0_176 : Index := 0#32
  ![v389.toNat, 0]

def k0_chk279 (i : grid0.Coords) (v0 : BitVec 32) (v385 : BitVec 32) : Prop :=
  (∀ (k0_h2 : k0_cond2 i v0 = 1#1), ∀ a, (k0_off301 v385) a + S8x128.size a ≤ S32768x128.size a)
theorem k0_off301_inb : ∀ (i : grid0.Coords) (v0 : BitVec 32) (v385 : BitVec 32) (k0_hw279 : k0_chk279 i v0 v385), ∀ (k0_h2 : k0_cond2 i v0 = 1#1), ∀ a, (k0_off301 v385) a + S8x128.size a ≤ S32768x128.size a := fun i v0 v385 k0_hw279 k0_h2 => k0_hw279 k0_h2

def k0_off302 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_178 : BitVec 32 := 256#32
  let v394 : BitVec 32 := Scalar.muli v129 c256_i32_178
  let c22_i32 : BitVec 32 := 22#32
  let v395 : BitVec 32 := Scalar.addi v394 c22_i32
  let v396 : Index := Scalar.indexCast v395
  ![v396.toNat]
def k0_off303 (v397 : BitVec 32) : Fin 2 → Nat :=
  let c3_i32_179 : BitVec 32 := 3#32
  let v398 : BitVec 32 := Scalar.shrsi v397 c3_i32_179
  let c4095_i32_180 : BitVec 32 := 4095#32
  let v399 : BitVec 32 := Scalar.minsi v398 c4095_i32_180
  let c8_i32_181 : BitVec 32 := 8#32
  let v400 : BitVec 32 := Scalar.muli v399 c8_i32_181
  let v401 : Index := Scalar.indexCast v400
  let c0_182 : Index := 0#32
  ![v401.toNat, 0]

def k0_chk280 (i : grid0.Coords) (v0 : BitVec 32) (v397 : BitVec 32) : Prop :=
  (∀ (k0_h2 : k0_cond2 i v0 = 1#1), ∀ a, (k0_off303 v397) a + S8x128.size a ≤ S32768x128.size a)
theorem k0_off303_inb : ∀ (i : grid0.Coords) (v0 : BitVec 32) (v397 : BitVec 32) (k0_hw280 : k0_chk280 i v0 v397), ∀ (k0_h2 : k0_cond2 i v0 = 1#1), ∀ a, (k0_off303 v397) a + S8x128.size a ≤ S32768x128.size a := fun i v0 v397 k0_hw280 k0_h2 => k0_hw280 k0_h2

def k0_off304 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_184 : BitVec 32 := 256#32
  let v406 : BitVec 32 := Scalar.muli v129 c256_i32_184
  let c23_i32 : BitVec 32 := 23#32
  let v407 : BitVec 32 := Scalar.addi v406 c23_i32
  let v408 : Index := Scalar.indexCast v407
  ![v408.toNat]
def k0_off305 (v409 : BitVec 32) : Fin 2 → Nat :=
  let c3_i32_185 : BitVec 32 := 3#32
  let v410 : BitVec 32 := Scalar.shrsi v409 c3_i32_185
  let c4095_i32_186 : BitVec 32 := 4095#32
  let v411 : BitVec 32 := Scalar.minsi v410 c4095_i32_186
  let c8_i32_187 : BitVec 32 := 8#32
  let v412 : BitVec 32 := Scalar.muli v411 c8_i32_187
  let v413 : Index := Scalar.indexCast v412
  let c0_188 : Index := 0#32
  ![v413.toNat, 0]

def k0_chk281 (i : grid0.Coords) (v0 : BitVec 32) (v409 : BitVec 32) : Prop :=
  (∀ (k0_h2 : k0_cond2 i v0 = 1#1), ∀ a, (k0_off305 v409) a + S8x128.size a ≤ S32768x128.size a)
theorem k0_off305_inb : ∀ (i : grid0.Coords) (v0 : BitVec 32) (v409 : BitVec 32) (k0_hw281 : k0_chk281 i v0 v409), ∀ (k0_h2 : k0_cond2 i v0 = 1#1), ∀ a, (k0_off305 v409) a + S8x128.size a ≤ S32768x128.size a := fun i v0 v409 k0_hw281 k0_h2 => k0_hw281 k0_h2

def k0_off306 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_190 : BitVec 32 := 256#32
  let v418 : BitVec 32 := Scalar.muli v129 c256_i32_190
  let c24_i32 : BitVec 32 := 24#32
  let v419 : BitVec 32 := Scalar.addi v418 c24_i32
  let v420 : Index := Scalar.indexCast v419
  ![v420.toNat]
def k0_off307 (v421 : BitVec 32) : Fin 2 → Nat :=
  let c3_i32_191 : BitVec 32 := 3#32
  let v422 : BitVec 32 := Scalar.shrsi v421 c3_i32_191
  let c4095_i32_192 : BitVec 32 := 4095#32
  let v423 : BitVec 32 := Scalar.minsi v422 c4095_i32_192
  let c8_i32_193 : BitVec 32 := 8#32
  let v424 : BitVec 32 := Scalar.muli v423 c8_i32_193
  let v425 : Index := Scalar.indexCast v424
  let c0_194 : Index := 0#32
  ![v425.toNat, 0]

def k0_chk282 (i : grid0.Coords) (v0 : BitVec 32) (v421 : BitVec 32) : Prop :=
  (∀ (k0_h2 : k0_cond2 i v0 = 1#1), ∀ a, (k0_off307 v421) a + S8x128.size a ≤ S32768x128.size a)
theorem k0_off307_inb : ∀ (i : grid0.Coords) (v0 : BitVec 32) (v421 : BitVec 32) (k0_hw282 : k0_chk282 i v0 v421), ∀ (k0_h2 : k0_cond2 i v0 = 1#1), ∀ a, (k0_off307 v421) a + S8x128.size a ≤ S32768x128.size a := fun i v0 v421 k0_hw282 k0_h2 => k0_hw282 k0_h2

def k0_off308 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_196 : BitVec 32 := 256#32
  let v430 : BitVec 32 := Scalar.muli v129 c256_i32_196
  let c25_i32 : BitVec 32 := 25#32
  let v431 : BitVec 32 := Scalar.addi v430 c25_i32
  let v432 : Index := Scalar.indexCast v431
  ![v432.toNat]
def k0_off309 (v433 : BitVec 32) : Fin 2 → Nat :=
  let c3_i32_197 : BitVec 32 := 3#32
  let v434 : BitVec 32 := Scalar.shrsi v433 c3_i32_197
  let c4095_i32_198 : BitVec 32 := 4095#32
  let v435 : BitVec 32 := Scalar.minsi v434 c4095_i32_198
  let c8_i32_199 : BitVec 32 := 8#32
  let v436 : BitVec 32 := Scalar.muli v435 c8_i32_199
  let v437 : Index := Scalar.indexCast v436
  let c0_200 : Index := 0#32
  ![v437.toNat, 0]

def k0_chk283 (i : grid0.Coords) (v0 : BitVec 32) (v433 : BitVec 32) : Prop :=
  (∀ (k0_h2 : k0_cond2 i v0 = 1#1), ∀ a, (k0_off309 v433) a + S8x128.size a ≤ S32768x128.size a)
theorem k0_off309_inb : ∀ (i : grid0.Coords) (v0 : BitVec 32) (v433 : BitVec 32) (k0_hw283 : k0_chk283 i v0 v433), ∀ (k0_h2 : k0_cond2 i v0 = 1#1), ∀ a, (k0_off309 v433) a + S8x128.size a ≤ S32768x128.size a := fun i v0 v433 k0_hw283 k0_h2 => k0_hw283 k0_h2

def k0_off310 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_202 : BitVec 32 := 256#32
  let v442 : BitVec 32 := Scalar.muli v129 c256_i32_202
  let c26_i32 : BitVec 32 := 26#32
  let v443 : BitVec 32 := Scalar.addi v442 c26_i32
  let v444 : Index := Scalar.indexCast v443
  ![v444.toNat]
def k0_off311 (v445 : BitVec 32) : Fin 2 → Nat :=
  let c3_i32_203 : BitVec 32 := 3#32
  let v446 : BitVec 32 := Scalar.shrsi v445 c3_i32_203
  let c4095_i32_204 : BitVec 32 := 4095#32
  let v447 : BitVec 32 := Scalar.minsi v446 c4095_i32_204
  let c8_i32_205 : BitVec 32 := 8#32
  let v448 : BitVec 32 := Scalar.muli v447 c8_i32_205
  let v449 : Index := Scalar.indexCast v448
  let c0_206 : Index := 0#32
  ![v449.toNat, 0]

def k0_chk284 (i : grid0.Coords) (v0 : BitVec 32) (v445 : BitVec 32) : Prop :=
  (∀ (k0_h2 : k0_cond2 i v0 = 1#1), ∀ a, (k0_off311 v445) a + S8x128.size a ≤ S32768x128.size a)
theorem k0_off311_inb : ∀ (i : grid0.Coords) (v0 : BitVec 32) (v445 : BitVec 32) (k0_hw284 : k0_chk284 i v0 v445), ∀ (k0_h2 : k0_cond2 i v0 = 1#1), ∀ a, (k0_off311 v445) a + S8x128.size a ≤ S32768x128.size a := fun i v0 v445 k0_hw284 k0_h2 => k0_hw284 k0_h2

def k0_off312 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_208 : BitVec 32 := 256#32
  let v454 : BitVec 32 := Scalar.muli v129 c256_i32_208
  let c27_i32 : BitVec 32 := 27#32
  let v455 : BitVec 32 := Scalar.addi v454 c27_i32
  let v456 : Index := Scalar.indexCast v455
  ![v456.toNat]
def k0_off313 (v457 : BitVec 32) : Fin 2 → Nat :=
  let c3_i32_209 : BitVec 32 := 3#32
  let v458 : BitVec 32 := Scalar.shrsi v457 c3_i32_209
  let c4095_i32_210 : BitVec 32 := 4095#32
  let v459 : BitVec 32 := Scalar.minsi v458 c4095_i32_210
  let c8_i32_211 : BitVec 32 := 8#32
  let v460 : BitVec 32 := Scalar.muli v459 c8_i32_211
  let v461 : Index := Scalar.indexCast v460
  let c0_212 : Index := 0#32
  ![v461.toNat, 0]

def k0_chk285 (i : grid0.Coords) (v0 : BitVec 32) (v457 : BitVec 32) : Prop :=
  (∀ (k0_h2 : k0_cond2 i v0 = 1#1), ∀ a, (k0_off313 v457) a + S8x128.size a ≤ S32768x128.size a)
theorem k0_off313_inb : ∀ (i : grid0.Coords) (v0 : BitVec 32) (v457 : BitVec 32) (k0_hw285 : k0_chk285 i v0 v457), ∀ (k0_h2 : k0_cond2 i v0 = 1#1), ∀ a, (k0_off313 v457) a + S8x128.size a ≤ S32768x128.size a := fun i v0 v457 k0_hw285 k0_h2 => k0_hw285 k0_h2

def k0_off314 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_214 : BitVec 32 := 256#32
  let v466 : BitVec 32 := Scalar.muli v129 c256_i32_214
  let c28_i32 : BitVec 32 := 28#32
  let v467 : BitVec 32 := Scalar.addi v466 c28_i32
  let v468 : Index := Scalar.indexCast v467
  ![v468.toNat]
def k0_off315 (v469 : BitVec 32) : Fin 2 → Nat :=
  let c3_i32_215 : BitVec 32 := 3#32
  let v470 : BitVec 32 := Scalar.shrsi v469 c3_i32_215
  let c4095_i32_216 : BitVec 32 := 4095#32
  let v471 : BitVec 32 := Scalar.minsi v470 c4095_i32_216
  let c8_i32_217 : BitVec 32 := 8#32
  let v472 : BitVec 32 := Scalar.muli v471 c8_i32_217
  let v473 : Index := Scalar.indexCast v472
  let c0_218 : Index := 0#32
  ![v473.toNat, 0]

def k0_chk286 (i : grid0.Coords) (v0 : BitVec 32) (v469 : BitVec 32) : Prop :=
  (∀ (k0_h2 : k0_cond2 i v0 = 1#1), ∀ a, (k0_off315 v469) a + S8x128.size a ≤ S32768x128.size a)
theorem k0_off315_inb : ∀ (i : grid0.Coords) (v0 : BitVec 32) (v469 : BitVec 32) (k0_hw286 : k0_chk286 i v0 v469), ∀ (k0_h2 : k0_cond2 i v0 = 1#1), ∀ a, (k0_off315 v469) a + S8x128.size a ≤ S32768x128.size a := fun i v0 v469 k0_hw286 k0_h2 => k0_hw286 k0_h2

def k0_off316 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_220 : BitVec 32 := 256#32
  let v478 : BitVec 32 := Scalar.muli v129 c256_i32_220
  let c29_i32 : BitVec 32 := 29#32
  let v479 : BitVec 32 := Scalar.addi v478 c29_i32
  let v480 : Index := Scalar.indexCast v479
  ![v480.toNat]
def k0_off317 (v481 : BitVec 32) : Fin 2 → Nat :=
  let c3_i32_221 : BitVec 32 := 3#32
  let v482 : BitVec 32 := Scalar.shrsi v481 c3_i32_221
  let c4095_i32_222 : BitVec 32 := 4095#32
  let v483 : BitVec 32 := Scalar.minsi v482 c4095_i32_222
  let c8_i32_223 : BitVec 32 := 8#32
  let v484 : BitVec 32 := Scalar.muli v483 c8_i32_223
  let v485 : Index := Scalar.indexCast v484
  let c0_224 : Index := 0#32
  ![v485.toNat, 0]

def k0_chk287 (i : grid0.Coords) (v0 : BitVec 32) (v481 : BitVec 32) : Prop :=
  (∀ (k0_h2 : k0_cond2 i v0 = 1#1), ∀ a, (k0_off317 v481) a + S8x128.size a ≤ S32768x128.size a)
theorem k0_off317_inb : ∀ (i : grid0.Coords) (v0 : BitVec 32) (v481 : BitVec 32) (k0_hw287 : k0_chk287 i v0 v481), ∀ (k0_h2 : k0_cond2 i v0 = 1#1), ∀ a, (k0_off317 v481) a + S8x128.size a ≤ S32768x128.size a := fun i v0 v481 k0_hw287 k0_h2 => k0_hw287 k0_h2

def k0_off318 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_226 : BitVec 32 := 256#32
  let v490 : BitVec 32 := Scalar.muli v129 c256_i32_226
  let c30_i32 : BitVec 32 := 30#32
  let v491 : BitVec 32 := Scalar.addi v490 c30_i32
  let v492 : Index := Scalar.indexCast v491
  ![v492.toNat]
def k0_off319 (v493 : BitVec 32) : Fin 2 → Nat :=
  let c3_i32_227 : BitVec 32 := 3#32
  let v494 : BitVec 32 := Scalar.shrsi v493 c3_i32_227
  let c4095_i32_228 : BitVec 32 := 4095#32
  let v495 : BitVec 32 := Scalar.minsi v494 c4095_i32_228
  let c8_i32_229 : BitVec 32 := 8#32
  let v496 : BitVec 32 := Scalar.muli v495 c8_i32_229
  let v497 : Index := Scalar.indexCast v496
  let c0_230 : Index := 0#32
  ![v497.toNat, 0]

def k0_chk288 (i : grid0.Coords) (v0 : BitVec 32) (v493 : BitVec 32) : Prop :=
  (∀ (k0_h2 : k0_cond2 i v0 = 1#1), ∀ a, (k0_off319 v493) a + S8x128.size a ≤ S32768x128.size a)
theorem k0_off319_inb : ∀ (i : grid0.Coords) (v0 : BitVec 32) (v493 : BitVec 32) (k0_hw288 : k0_chk288 i v0 v493), ∀ (k0_h2 : k0_cond2 i v0 = 1#1), ∀ a, (k0_off319 v493) a + S8x128.size a ≤ S32768x128.size a := fun i v0 v493 k0_hw288 k0_h2 => k0_hw288 k0_h2

def k0_off320 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_232 : BitVec 32 := 256#32
  let v502 : BitVec 32 := Scalar.muli v129 c256_i32_232
  let c31_i32 : BitVec 32 := 31#32
  let v503 : BitVec 32 := Scalar.addi v502 c31_i32
  let v504 : Index := Scalar.indexCast v503
  ![v504.toNat]
def k0_off321 (v505 : BitVec 32) : Fin 2 → Nat :=
  let c3_i32_233 : BitVec 32 := 3#32
  let v506 : BitVec 32 := Scalar.shrsi v505 c3_i32_233
  let c4095_i32_234 : BitVec 32 := 4095#32
  let v507 : BitVec 32 := Scalar.minsi v506 c4095_i32_234
  let c8_i32_235 : BitVec 32 := 8#32
  let v508 : BitVec 32 := Scalar.muli v507 c8_i32_235
  let v509 : Index := Scalar.indexCast v508
  let c0_236 : Index := 0#32
  ![v509.toNat, 0]

def k0_chk289 (i : grid0.Coords) (v0 : BitVec 32) (v505 : BitVec 32) : Prop :=
  (∀ (k0_h2 : k0_cond2 i v0 = 1#1), ∀ a, (k0_off321 v505) a + S8x128.size a ≤ S32768x128.size a)
theorem k0_off321_inb : ∀ (i : grid0.Coords) (v0 : BitVec 32) (v505 : BitVec 32) (k0_hw289 : k0_chk289 i v0 v505), ∀ (k0_h2 : k0_cond2 i v0 = 1#1), ∀ a, (k0_off321 v505) a + S8x128.size a ≤ S32768x128.size a := fun i v0 v505 k0_hw289 k0_h2 => k0_hw289 k0_h2

def k0_off322 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_238 : BitVec 32 := 256#32
  let v514 : BitVec 32 := Scalar.muli v129 c256_i32_238
  let c32_i32 : BitVec 32 := 32#32
  let v515 : BitVec 32 := Scalar.addi v514 c32_i32
  let v516 : Index := Scalar.indexCast v515
  ![v516.toNat]
def k0_off323 (v517 : BitVec 32) : Fin 2 → Nat :=
  let c3_i32_239 : BitVec 32 := 3#32
  let v518 : BitVec 32 := Scalar.shrsi v517 c3_i32_239
  let c4095_i32_240 : BitVec 32 := 4095#32
  let v519 : BitVec 32 := Scalar.minsi v518 c4095_i32_240
  let c8_i32_241 : BitVec 32 := 8#32
  let v520 : BitVec 32 := Scalar.muli v519 c8_i32_241
  let v521 : Index := Scalar.indexCast v520
  let c0_242 : Index := 0#32
  ![v521.toNat, 0]

def k0_chk290 (i : grid0.Coords) (v0 : BitVec 32) (v517 : BitVec 32) : Prop :=
  (∀ (k0_h2 : k0_cond2 i v0 = 1#1), ∀ a, (k0_off323 v517) a + S8x128.size a ≤ S32768x128.size a)
theorem k0_off323_inb : ∀ (i : grid0.Coords) (v0 : BitVec 32) (v517 : BitVec 32) (k0_hw290 : k0_chk290 i v0 v517), ∀ (k0_h2 : k0_cond2 i v0 = 1#1), ∀ a, (k0_off323 v517) a + S8x128.size a ≤ S32768x128.size a := fun i v0 v517 k0_hw290 k0_h2 => k0_hw290 k0_h2

def k0_off324 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_244 : BitVec 32 := 256#32
  let v526 : BitVec 32 := Scalar.muli v129 c256_i32_244
  let c33_i32 : BitVec 32 := 33#32
  let v527 : BitVec 32 := Scalar.addi v526 c33_i32
  let v528 : Index := Scalar.indexCast v527
  ![v528.toNat]
def k0_off325 (v529 : BitVec 32) : Fin 2 → Nat :=
  let c3_i32_245 : BitVec 32 := 3#32
  let v530 : BitVec 32 := Scalar.shrsi v529 c3_i32_245
  let c4095_i32_246 : BitVec 32 := 4095#32
  let v531 : BitVec 32 := Scalar.minsi v530 c4095_i32_246
  let c8_i32_247 : BitVec 32 := 8#32
  let v532 : BitVec 32 := Scalar.muli v531 c8_i32_247
  let v533 : Index := Scalar.indexCast v532
  let c0_248 : Index := 0#32
  ![v533.toNat, 0]

def k0_chk291 (i : grid0.Coords) (v0 : BitVec 32) (v529 : BitVec 32) : Prop :=
  (∀ (k0_h2 : k0_cond2 i v0 = 1#1), ∀ a, (k0_off325 v529) a + S8x128.size a ≤ S32768x128.size a)
theorem k0_off325_inb : ∀ (i : grid0.Coords) (v0 : BitVec 32) (v529 : BitVec 32) (k0_hw291 : k0_chk291 i v0 v529), ∀ (k0_h2 : k0_cond2 i v0 = 1#1), ∀ a, (k0_off325 v529) a + S8x128.size a ≤ S32768x128.size a := fun i v0 v529 k0_hw291 k0_h2 => k0_hw291 k0_h2

def k0_off326 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_250 : BitVec 32 := 256#32
  let v538 : BitVec 32 := Scalar.muli v129 c256_i32_250
  let c34_i32 : BitVec 32 := 34#32
  let v539 : BitVec 32 := Scalar.addi v538 c34_i32
  let v540 : Index := Scalar.indexCast v539
  ![v540.toNat]
def k0_off327 (v541 : BitVec 32) : Fin 2 → Nat :=
  let c3_i32_251 : BitVec 32 := 3#32
  let v542 : BitVec 32 := Scalar.shrsi v541 c3_i32_251
  let c4095_i32_252 : BitVec 32 := 4095#32
  let v543 : BitVec 32 := Scalar.minsi v542 c4095_i32_252
  let c8_i32_253 : BitVec 32 := 8#32
  let v544 : BitVec 32 := Scalar.muli v543 c8_i32_253
  let v545 : Index := Scalar.indexCast v544
  let c0_254 : Index := 0#32
  ![v545.toNat, 0]

def k0_chk292 (i : grid0.Coords) (v0 : BitVec 32) (v541 : BitVec 32) : Prop :=
  (∀ (k0_h2 : k0_cond2 i v0 = 1#1), ∀ a, (k0_off327 v541) a + S8x128.size a ≤ S32768x128.size a)
theorem k0_off327_inb : ∀ (i : grid0.Coords) (v0 : BitVec 32) (v541 : BitVec 32) (k0_hw292 : k0_chk292 i v0 v541), ∀ (k0_h2 : k0_cond2 i v0 = 1#1), ∀ a, (k0_off327 v541) a + S8x128.size a ≤ S32768x128.size a := fun i v0 v541 k0_hw292 k0_h2 => k0_hw292 k0_h2

def k0_off328 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_256 : BitVec 32 := 256#32
  let v550 : BitVec 32 := Scalar.muli v129 c256_i32_256
  let c35_i32 : BitVec 32 := 35#32
  let v551 : BitVec 32 := Scalar.addi v550 c35_i32
  let v552 : Index := Scalar.indexCast v551
  ![v552.toNat]
def k0_off329 (v553 : BitVec 32) : Fin 2 → Nat :=
  let c3_i32_257 : BitVec 32 := 3#32
  let v554 : BitVec 32 := Scalar.shrsi v553 c3_i32_257
  let c4095_i32_258 : BitVec 32 := 4095#32
  let v555 : BitVec 32 := Scalar.minsi v554 c4095_i32_258
  let c8_i32_259 : BitVec 32 := 8#32
  let v556 : BitVec 32 := Scalar.muli v555 c8_i32_259
  let v557 : Index := Scalar.indexCast v556
  let c0_260 : Index := 0#32
  ![v557.toNat, 0]

def k0_chk293 (i : grid0.Coords) (v0 : BitVec 32) (v553 : BitVec 32) : Prop :=
  (∀ (k0_h2 : k0_cond2 i v0 = 1#1), ∀ a, (k0_off329 v553) a + S8x128.size a ≤ S32768x128.size a)
theorem k0_off329_inb : ∀ (i : grid0.Coords) (v0 : BitVec 32) (v553 : BitVec 32) (k0_hw293 : k0_chk293 i v0 v553), ∀ (k0_h2 : k0_cond2 i v0 = 1#1), ∀ a, (k0_off329 v553) a + S8x128.size a ≤ S32768x128.size a := fun i v0 v553 k0_hw293 k0_h2 => k0_hw293 k0_h2

def k0_off330 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_262 : BitVec 32 := 256#32
  let v562 : BitVec 32 := Scalar.muli v129 c256_i32_262
  let c36_i32 : BitVec 32 := 36#32
  let v563 : BitVec 32 := Scalar.addi v562 c36_i32
  let v564 : Index := Scalar.indexCast v563
  ![v564.toNat]
def k0_off331 (v565 : BitVec 32) : Fin 2 → Nat :=
  let c3_i32_263 : BitVec 32 := 3#32
  let v566 : BitVec 32 := Scalar.shrsi v565 c3_i32_263
  let c4095_i32_264 : BitVec 32 := 4095#32
  let v567 : BitVec 32 := Scalar.minsi v566 c4095_i32_264
  let c8_i32_265 : BitVec 32 := 8#32
  let v568 : BitVec 32 := Scalar.muli v567 c8_i32_265
  let v569 : Index := Scalar.indexCast v568
  let c0_266 : Index := 0#32
  ![v569.toNat, 0]

def k0_chk294 (i : grid0.Coords) (v0 : BitVec 32) (v565 : BitVec 32) : Prop :=
  (∀ (k0_h2 : k0_cond2 i v0 = 1#1), ∀ a, (k0_off331 v565) a + S8x128.size a ≤ S32768x128.size a)
theorem k0_off331_inb : ∀ (i : grid0.Coords) (v0 : BitVec 32) (v565 : BitVec 32) (k0_hw294 : k0_chk294 i v0 v565), ∀ (k0_h2 : k0_cond2 i v0 = 1#1), ∀ a, (k0_off331 v565) a + S8x128.size a ≤ S32768x128.size a := fun i v0 v565 k0_hw294 k0_h2 => k0_hw294 k0_h2

def k0_off332 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_268 : BitVec 32 := 256#32
  let v574 : BitVec 32 := Scalar.muli v129 c256_i32_268
  let c37_i32 : BitVec 32 := 37#32
  let v575 : BitVec 32 := Scalar.addi v574 c37_i32
  let v576 : Index := Scalar.indexCast v575
  ![v576.toNat]
def k0_off333 (v577 : BitVec 32) : Fin 2 → Nat :=
  let c3_i32_269 : BitVec 32 := 3#32
  let v578 : BitVec 32 := Scalar.shrsi v577 c3_i32_269
  let c4095_i32_270 : BitVec 32 := 4095#32
  let v579 : BitVec 32 := Scalar.minsi v578 c4095_i32_270
  let c8_i32_271 : BitVec 32 := 8#32
  let v580 : BitVec 32 := Scalar.muli v579 c8_i32_271
  let v581 : Index := Scalar.indexCast v580
  let c0_272 : Index := 0#32
  ![v581.toNat, 0]

def k0_chk295 (i : grid0.Coords) (v0 : BitVec 32) (v577 : BitVec 32) : Prop :=
  (∀ (k0_h2 : k0_cond2 i v0 = 1#1), ∀ a, (k0_off333 v577) a + S8x128.size a ≤ S32768x128.size a)
theorem k0_off333_inb : ∀ (i : grid0.Coords) (v0 : BitVec 32) (v577 : BitVec 32) (k0_hw295 : k0_chk295 i v0 v577), ∀ (k0_h2 : k0_cond2 i v0 = 1#1), ∀ a, (k0_off333 v577) a + S8x128.size a ≤ S32768x128.size a := fun i v0 v577 k0_hw295 k0_h2 => k0_hw295 k0_h2

def k0_off334 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_274 : BitVec 32 := 256#32
  let v586 : BitVec 32 := Scalar.muli v129 c256_i32_274
  let c38_i32 : BitVec 32 := 38#32
  let v587 : BitVec 32 := Scalar.addi v586 c38_i32
  let v588 : Index := Scalar.indexCast v587
  ![v588.toNat]
def k0_off335 (v589 : BitVec 32) : Fin 2 → Nat :=
  let c3_i32_275 : BitVec 32 := 3#32
  let v590 : BitVec 32 := Scalar.shrsi v589 c3_i32_275
  let c4095_i32_276 : BitVec 32 := 4095#32
  let v591 : BitVec 32 := Scalar.minsi v590 c4095_i32_276
  let c8_i32_277 : BitVec 32 := 8#32
  let v592 : BitVec 32 := Scalar.muli v591 c8_i32_277
  let v593 : Index := Scalar.indexCast v592
  let c0_278 : Index := 0#32
  ![v593.toNat, 0]

def k0_chk296 (i : grid0.Coords) (v0 : BitVec 32) (v589 : BitVec 32) : Prop :=
  (∀ (k0_h2 : k0_cond2 i v0 = 1#1), ∀ a, (k0_off335 v589) a + S8x128.size a ≤ S32768x128.size a)
theorem k0_off335_inb : ∀ (i : grid0.Coords) (v0 : BitVec 32) (v589 : BitVec 32) (k0_hw296 : k0_chk296 i v0 v589), ∀ (k0_h2 : k0_cond2 i v0 = 1#1), ∀ a, (k0_off335 v589) a + S8x128.size a ≤ S32768x128.size a := fun i v0 v589 k0_hw296 k0_h2 => k0_hw296 k0_h2

def k0_off336 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_280 : BitVec 32 := 256#32
  let v598 : BitVec 32 := Scalar.muli v129 c256_i32_280
  let c39_i32 : BitVec 32 := 39#32
  let v599 : BitVec 32 := Scalar.addi v598 c39_i32
  let v600 : Index := Scalar.indexCast v599
  ![v600.toNat]
def k0_off337 (v601 : BitVec 32) : Fin 2 → Nat :=
  let c3_i32_281 : BitVec 32 := 3#32
  let v602 : BitVec 32 := Scalar.shrsi v601 c3_i32_281
  let c4095_i32_282 : BitVec 32 := 4095#32
  let v603 : BitVec 32 := Scalar.minsi v602 c4095_i32_282
  let c8_i32_283 : BitVec 32 := 8#32
  let v604 : BitVec 32 := Scalar.muli v603 c8_i32_283
  let v605 : Index := Scalar.indexCast v604
  let c0_284 : Index := 0#32
  ![v605.toNat, 0]

def k0_chk297 (i : grid0.Coords) (v0 : BitVec 32) (v601 : BitVec 32) : Prop :=
  (∀ (k0_h2 : k0_cond2 i v0 = 1#1), ∀ a, (k0_off337 v601) a + S8x128.size a ≤ S32768x128.size a)
theorem k0_off337_inb : ∀ (i : grid0.Coords) (v0 : BitVec 32) (v601 : BitVec 32) (k0_hw297 : k0_chk297 i v0 v601), ∀ (k0_h2 : k0_cond2 i v0 = 1#1), ∀ a, (k0_off337 v601) a + S8x128.size a ≤ S32768x128.size a := fun i v0 v601 k0_hw297 k0_h2 => k0_hw297 k0_h2

def k0_off338 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_286 : BitVec 32 := 256#32
  let v610 : BitVec 32 := Scalar.muli v129 c256_i32_286
  let c40_i32 : BitVec 32 := 40#32
  let v611 : BitVec 32 := Scalar.addi v610 c40_i32
  let v612 : Index := Scalar.indexCast v611
  ![v612.toNat]
def k0_off339 (v613 : BitVec 32) : Fin 2 → Nat :=
  let c3_i32_287 : BitVec 32 := 3#32
  let v614 : BitVec 32 := Scalar.shrsi v613 c3_i32_287
  let c4095_i32_288 : BitVec 32 := 4095#32
  let v615 : BitVec 32 := Scalar.minsi v614 c4095_i32_288
  let c8_i32_289 : BitVec 32 := 8#32
  let v616 : BitVec 32 := Scalar.muli v615 c8_i32_289
  let v617 : Index := Scalar.indexCast v616
  let c0_290 : Index := 0#32
  ![v617.toNat, 0]

def k0_chk298 (i : grid0.Coords) (v0 : BitVec 32) (v613 : BitVec 32) : Prop :=
  (∀ (k0_h2 : k0_cond2 i v0 = 1#1), ∀ a, (k0_off339 v613) a + S8x128.size a ≤ S32768x128.size a)
theorem k0_off339_inb : ∀ (i : grid0.Coords) (v0 : BitVec 32) (v613 : BitVec 32) (k0_hw298 : k0_chk298 i v0 v613), ∀ (k0_h2 : k0_cond2 i v0 = 1#1), ∀ a, (k0_off339 v613) a + S8x128.size a ≤ S32768x128.size a := fun i v0 v613 k0_hw298 k0_h2 => k0_hw298 k0_h2

def k0_off340 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_292 : BitVec 32 := 256#32
  let v622 : BitVec 32 := Scalar.muli v129 c256_i32_292
  let c41_i32 : BitVec 32 := 41#32
  let v623 : BitVec 32 := Scalar.addi v622 c41_i32
  let v624 : Index := Scalar.indexCast v623
  ![v624.toNat]
def k0_off341 (v625 : BitVec 32) : Fin 2 → Nat :=
  let c3_i32_293 : BitVec 32 := 3#32
  let v626 : BitVec 32 := Scalar.shrsi v625 c3_i32_293
  let c4095_i32_294 : BitVec 32 := 4095#32
  let v627 : BitVec 32 := Scalar.minsi v626 c4095_i32_294
  let c8_i32_295 : BitVec 32 := 8#32
  let v628 : BitVec 32 := Scalar.muli v627 c8_i32_295
  let v629 : Index := Scalar.indexCast v628
  let c0_296 : Index := 0#32
  ![v629.toNat, 0]

def k0_chk299 (i : grid0.Coords) (v0 : BitVec 32) (v625 : BitVec 32) : Prop :=
  (∀ (k0_h2 : k0_cond2 i v0 = 1#1), ∀ a, (k0_off341 v625) a + S8x128.size a ≤ S32768x128.size a)
theorem k0_off341_inb : ∀ (i : grid0.Coords) (v0 : BitVec 32) (v625 : BitVec 32) (k0_hw299 : k0_chk299 i v0 v625), ∀ (k0_h2 : k0_cond2 i v0 = 1#1), ∀ a, (k0_off341 v625) a + S8x128.size a ≤ S32768x128.size a := fun i v0 v625 k0_hw299 k0_h2 => k0_hw299 k0_h2

def k0_off342 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_298 : BitVec 32 := 256#32
  let v634 : BitVec 32 := Scalar.muli v129 c256_i32_298
  let c42_i32 : BitVec 32 := 42#32
  let v635 : BitVec 32 := Scalar.addi v634 c42_i32
  let v636 : Index := Scalar.indexCast v635
  ![v636.toNat]
def k0_off343 (v637 : BitVec 32) : Fin 2 → Nat :=
  let c3_i32_299 : BitVec 32 := 3#32
  let v638 : BitVec 32 := Scalar.shrsi v637 c3_i32_299
  let c4095_i32_300 : BitVec 32 := 4095#32
  let v639 : BitVec 32 := Scalar.minsi v638 c4095_i32_300
  let c8_i32_301 : BitVec 32 := 8#32
  let v640 : BitVec 32 := Scalar.muli v639 c8_i32_301
  let v641 : Index := Scalar.indexCast v640
  let c0_302 : Index := 0#32
  ![v641.toNat, 0]

def k0_chk300 (i : grid0.Coords) (v0 : BitVec 32) (v637 : BitVec 32) : Prop :=
  (∀ (k0_h2 : k0_cond2 i v0 = 1#1), ∀ a, (k0_off343 v637) a + S8x128.size a ≤ S32768x128.size a)
theorem k0_off343_inb : ∀ (i : grid0.Coords) (v0 : BitVec 32) (v637 : BitVec 32) (k0_hw300 : k0_chk300 i v0 v637), ∀ (k0_h2 : k0_cond2 i v0 = 1#1), ∀ a, (k0_off343 v637) a + S8x128.size a ≤ S32768x128.size a := fun i v0 v637 k0_hw300 k0_h2 => k0_hw300 k0_h2

def k0_off344 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_304 : BitVec 32 := 256#32
  let v646 : BitVec 32 := Scalar.muli v129 c256_i32_304
  let c43_i32 : BitVec 32 := 43#32
  let v647 : BitVec 32 := Scalar.addi v646 c43_i32
  let v648 : Index := Scalar.indexCast v647
  ![v648.toNat]
def k0_off345 (v649 : BitVec 32) : Fin 2 → Nat :=
  let c3_i32_305 : BitVec 32 := 3#32
  let v650 : BitVec 32 := Scalar.shrsi v649 c3_i32_305
  let c4095_i32_306 : BitVec 32 := 4095#32
  let v651 : BitVec 32 := Scalar.minsi v650 c4095_i32_306
  let c8_i32_307 : BitVec 32 := 8#32
  let v652 : BitVec 32 := Scalar.muli v651 c8_i32_307
  let v653 : Index := Scalar.indexCast v652
  let c0_308 : Index := 0#32
  ![v653.toNat, 0]

def k0_chk301 (i : grid0.Coords) (v0 : BitVec 32) (v649 : BitVec 32) : Prop :=
  (∀ (k0_h2 : k0_cond2 i v0 = 1#1), ∀ a, (k0_off345 v649) a + S8x128.size a ≤ S32768x128.size a)
theorem k0_off345_inb : ∀ (i : grid0.Coords) (v0 : BitVec 32) (v649 : BitVec 32) (k0_hw301 : k0_chk301 i v0 v649), ∀ (k0_h2 : k0_cond2 i v0 = 1#1), ∀ a, (k0_off345 v649) a + S8x128.size a ≤ S32768x128.size a := fun i v0 v649 k0_hw301 k0_h2 => k0_hw301 k0_h2

def k0_off346 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_310 : BitVec 32 := 256#32
  let v658 : BitVec 32 := Scalar.muli v129 c256_i32_310
  let c44_i32 : BitVec 32 := 44#32
  let v659 : BitVec 32 := Scalar.addi v658 c44_i32
  let v660 : Index := Scalar.indexCast v659
  ![v660.toNat]
def k0_off347 (v661 : BitVec 32) : Fin 2 → Nat :=
  let c3_i32_311 : BitVec 32 := 3#32
  let v662 : BitVec 32 := Scalar.shrsi v661 c3_i32_311
  let c4095_i32_312 : BitVec 32 := 4095#32
  let v663 : BitVec 32 := Scalar.minsi v662 c4095_i32_312
  let c8_i32_313 : BitVec 32 := 8#32
  let v664 : BitVec 32 := Scalar.muli v663 c8_i32_313
  let v665 : Index := Scalar.indexCast v664
  let c0_314 : Index := 0#32
  ![v665.toNat, 0]

def k0_chk302 (i : grid0.Coords) (v0 : BitVec 32) (v661 : BitVec 32) : Prop :=
  (∀ (k0_h2 : k0_cond2 i v0 = 1#1), ∀ a, (k0_off347 v661) a + S8x128.size a ≤ S32768x128.size a)
theorem k0_off347_inb : ∀ (i : grid0.Coords) (v0 : BitVec 32) (v661 : BitVec 32) (k0_hw302 : k0_chk302 i v0 v661), ∀ (k0_h2 : k0_cond2 i v0 = 1#1), ∀ a, (k0_off347 v661) a + S8x128.size a ≤ S32768x128.size a := fun i v0 v661 k0_hw302 k0_h2 => k0_hw302 k0_h2

def k0_off348 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_316 : BitVec 32 := 256#32
  let v670 : BitVec 32 := Scalar.muli v129 c256_i32_316
  let c45_i32 : BitVec 32 := 45#32
  let v671 : BitVec 32 := Scalar.addi v670 c45_i32
  let v672 : Index := Scalar.indexCast v671
  ![v672.toNat]
def k0_off349 (v673 : BitVec 32) : Fin 2 → Nat :=
  let c3_i32_317 : BitVec 32 := 3#32
  let v674 : BitVec 32 := Scalar.shrsi v673 c3_i32_317
  let c4095_i32_318 : BitVec 32 := 4095#32
  let v675 : BitVec 32 := Scalar.minsi v674 c4095_i32_318
  let c8_i32_319 : BitVec 32 := 8#32
  let v676 : BitVec 32 := Scalar.muli v675 c8_i32_319
  let v677 : Index := Scalar.indexCast v676
  let c0_320 : Index := 0#32
  ![v677.toNat, 0]

def k0_chk303 (i : grid0.Coords) (v0 : BitVec 32) (v673 : BitVec 32) : Prop :=
  (∀ (k0_h2 : k0_cond2 i v0 = 1#1), ∀ a, (k0_off349 v673) a + S8x128.size a ≤ S32768x128.size a)
theorem k0_off349_inb : ∀ (i : grid0.Coords) (v0 : BitVec 32) (v673 : BitVec 32) (k0_hw303 : k0_chk303 i v0 v673), ∀ (k0_h2 : k0_cond2 i v0 = 1#1), ∀ a, (k0_off349 v673) a + S8x128.size a ≤ S32768x128.size a := fun i v0 v673 k0_hw303 k0_h2 => k0_hw303 k0_h2

def k0_off350 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_322 : BitVec 32 := 256#32
  let v682 : BitVec 32 := Scalar.muli v129 c256_i32_322
  let c46_i32 : BitVec 32 := 46#32
  let v683 : BitVec 32 := Scalar.addi v682 c46_i32
  let v684 : Index := Scalar.indexCast v683
  ![v684.toNat]
def k0_off351 (v685 : BitVec 32) : Fin 2 → Nat :=
  let c3_i32_323 : BitVec 32 := 3#32
  let v686 : BitVec 32 := Scalar.shrsi v685 c3_i32_323
  let c4095_i32_324 : BitVec 32 := 4095#32
  let v687 : BitVec 32 := Scalar.minsi v686 c4095_i32_324
  let c8_i32_325 : BitVec 32 := 8#32
  let v688 : BitVec 32 := Scalar.muli v687 c8_i32_325
  let v689 : Index := Scalar.indexCast v688
  let c0_326 : Index := 0#32
  ![v689.toNat, 0]

def k0_chk304 (i : grid0.Coords) (v0 : BitVec 32) (v685 : BitVec 32) : Prop :=
  (∀ (k0_h2 : k0_cond2 i v0 = 1#1), ∀ a, (k0_off351 v685) a + S8x128.size a ≤ S32768x128.size a)
theorem k0_off351_inb : ∀ (i : grid0.Coords) (v0 : BitVec 32) (v685 : BitVec 32) (k0_hw304 : k0_chk304 i v0 v685), ∀ (k0_h2 : k0_cond2 i v0 = 1#1), ∀ a, (k0_off351 v685) a + S8x128.size a ≤ S32768x128.size a := fun i v0 v685 k0_hw304 k0_h2 => k0_hw304 k0_h2

def k0_off352 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_328 : BitVec 32 := 256#32
  let v694 : BitVec 32 := Scalar.muli v129 c256_i32_328
  let c47_i32 : BitVec 32 := 47#32
  let v695 : BitVec 32 := Scalar.addi v694 c47_i32
  let v696 : Index := Scalar.indexCast v695
  ![v696.toNat]
def k0_off353 (v697 : BitVec 32) : Fin 2 → Nat :=
  let c3_i32_329 : BitVec 32 := 3#32
  let v698 : BitVec 32 := Scalar.shrsi v697 c3_i32_329
  let c4095_i32_330 : BitVec 32 := 4095#32
  let v699 : BitVec 32 := Scalar.minsi v698 c4095_i32_330
  let c8_i32_331 : BitVec 32 := 8#32
  let v700 : BitVec 32 := Scalar.muli v699 c8_i32_331
  let v701 : Index := Scalar.indexCast v700
  let c0_332 : Index := 0#32
  ![v701.toNat, 0]

def k0_chk305 (i : grid0.Coords) (v0 : BitVec 32) (v697 : BitVec 32) : Prop :=
  (∀ (k0_h2 : k0_cond2 i v0 = 1#1), ∀ a, (k0_off353 v697) a + S8x128.size a ≤ S32768x128.size a)
theorem k0_off353_inb : ∀ (i : grid0.Coords) (v0 : BitVec 32) (v697 : BitVec 32) (k0_hw305 : k0_chk305 i v0 v697), ∀ (k0_h2 : k0_cond2 i v0 = 1#1), ∀ a, (k0_off353 v697) a + S8x128.size a ≤ S32768x128.size a := fun i v0 v697 k0_hw305 k0_h2 => k0_hw305 k0_h2

def k0_off354 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_334 : BitVec 32 := 256#32
  let v706 : BitVec 32 := Scalar.muli v129 c256_i32_334
  let c48_i32 : BitVec 32 := 48#32
  let v707 : BitVec 32 := Scalar.addi v706 c48_i32
  let v708 : Index := Scalar.indexCast v707
  ![v708.toNat]
def k0_off355 (v709 : BitVec 32) : Fin 2 → Nat :=
  let c3_i32_335 : BitVec 32 := 3#32
  let v710 : BitVec 32 := Scalar.shrsi v709 c3_i32_335
  let c4095_i32_336 : BitVec 32 := 4095#32
  let v711 : BitVec 32 := Scalar.minsi v710 c4095_i32_336
  let c8_i32_337 : BitVec 32 := 8#32
  let v712 : BitVec 32 := Scalar.muli v711 c8_i32_337
  let v713 : Index := Scalar.indexCast v712
  let c0_338 : Index := 0#32
  ![v713.toNat, 0]

def k0_chk306 (i : grid0.Coords) (v0 : BitVec 32) (v709 : BitVec 32) : Prop :=
  (∀ (k0_h2 : k0_cond2 i v0 = 1#1), ∀ a, (k0_off355 v709) a + S8x128.size a ≤ S32768x128.size a)
theorem k0_off355_inb : ∀ (i : grid0.Coords) (v0 : BitVec 32) (v709 : BitVec 32) (k0_hw306 : k0_chk306 i v0 v709), ∀ (k0_h2 : k0_cond2 i v0 = 1#1), ∀ a, (k0_off355 v709) a + S8x128.size a ≤ S32768x128.size a := fun i v0 v709 k0_hw306 k0_h2 => k0_hw306 k0_h2

def k0_off356 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_340 : BitVec 32 := 256#32
  let v718 : BitVec 32 := Scalar.muli v129 c256_i32_340
  let c49_i32 : BitVec 32 := 49#32
  let v719 : BitVec 32 := Scalar.addi v718 c49_i32
  let v720 : Index := Scalar.indexCast v719
  ![v720.toNat]
def k0_off357 (v721 : BitVec 32) : Fin 2 → Nat :=
  let c3_i32_341 : BitVec 32 := 3#32
  let v722 : BitVec 32 := Scalar.shrsi v721 c3_i32_341
  let c4095_i32_342 : BitVec 32 := 4095#32
  let v723 : BitVec 32 := Scalar.minsi v722 c4095_i32_342
  let c8_i32_343 : BitVec 32 := 8#32
  let v724 : BitVec 32 := Scalar.muli v723 c8_i32_343
  let v725 : Index := Scalar.indexCast v724
  let c0_344 : Index := 0#32
  ![v725.toNat, 0]

def k0_chk307 (i : grid0.Coords) (v0 : BitVec 32) (v721 : BitVec 32) : Prop :=
  (∀ (k0_h2 : k0_cond2 i v0 = 1#1), ∀ a, (k0_off357 v721) a + S8x128.size a ≤ S32768x128.size a)
theorem k0_off357_inb : ∀ (i : grid0.Coords) (v0 : BitVec 32) (v721 : BitVec 32) (k0_hw307 : k0_chk307 i v0 v721), ∀ (k0_h2 : k0_cond2 i v0 = 1#1), ∀ a, (k0_off357 v721) a + S8x128.size a ≤ S32768x128.size a := fun i v0 v721 k0_hw307 k0_h2 => k0_hw307 k0_h2

def k0_off358 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_346 : BitVec 32 := 256#32
  let v730 : BitVec 32 := Scalar.muli v129 c256_i32_346
  let c50_i32 : BitVec 32 := 50#32
  let v731 : BitVec 32 := Scalar.addi v730 c50_i32
  let v732 : Index := Scalar.indexCast v731
  ![v732.toNat]
def k0_off359 (v733 : BitVec 32) : Fin 2 → Nat :=
  let c3_i32_347 : BitVec 32 := 3#32
  let v734 : BitVec 32 := Scalar.shrsi v733 c3_i32_347
  let c4095_i32_348 : BitVec 32 := 4095#32
  let v735 : BitVec 32 := Scalar.minsi v734 c4095_i32_348
  let c8_i32_349 : BitVec 32 := 8#32
  let v736 : BitVec 32 := Scalar.muli v735 c8_i32_349
  let v737 : Index := Scalar.indexCast v736
  let c0_350 : Index := 0#32
  ![v737.toNat, 0]

def k0_chk308 (i : grid0.Coords) (v0 : BitVec 32) (v733 : BitVec 32) : Prop :=
  (∀ (k0_h2 : k0_cond2 i v0 = 1#1), ∀ a, (k0_off359 v733) a + S8x128.size a ≤ S32768x128.size a)
theorem k0_off359_inb : ∀ (i : grid0.Coords) (v0 : BitVec 32) (v733 : BitVec 32) (k0_hw308 : k0_chk308 i v0 v733), ∀ (k0_h2 : k0_cond2 i v0 = 1#1), ∀ a, (k0_off359 v733) a + S8x128.size a ≤ S32768x128.size a := fun i v0 v733 k0_hw308 k0_h2 => k0_hw308 k0_h2

def k0_off360 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_352 : BitVec 32 := 256#32
  let v742 : BitVec 32 := Scalar.muli v129 c256_i32_352
  let c51_i32 : BitVec 32 := 51#32
  let v743 : BitVec 32 := Scalar.addi v742 c51_i32
  let v744 : Index := Scalar.indexCast v743
  ![v744.toNat]
def k0_off361 (v745 : BitVec 32) : Fin 2 → Nat :=
  let c3_i32_353 : BitVec 32 := 3#32
  let v746 : BitVec 32 := Scalar.shrsi v745 c3_i32_353
  let c4095_i32_354 : BitVec 32 := 4095#32
  let v747 : BitVec 32 := Scalar.minsi v746 c4095_i32_354
  let c8_i32_355 : BitVec 32 := 8#32
  let v748 : BitVec 32 := Scalar.muli v747 c8_i32_355
  let v749 : Index := Scalar.indexCast v748
  let c0_356 : Index := 0#32
  ![v749.toNat, 0]

def k0_chk309 (i : grid0.Coords) (v0 : BitVec 32) (v745 : BitVec 32) : Prop :=
  (∀ (k0_h2 : k0_cond2 i v0 = 1#1), ∀ a, (k0_off361 v745) a + S8x128.size a ≤ S32768x128.size a)
theorem k0_off361_inb : ∀ (i : grid0.Coords) (v0 : BitVec 32) (v745 : BitVec 32) (k0_hw309 : k0_chk309 i v0 v745), ∀ (k0_h2 : k0_cond2 i v0 = 1#1), ∀ a, (k0_off361 v745) a + S8x128.size a ≤ S32768x128.size a := fun i v0 v745 k0_hw309 k0_h2 => k0_hw309 k0_h2

def k0_off362 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_358 : BitVec 32 := 256#32
  let v754 : BitVec 32 := Scalar.muli v129 c256_i32_358
  let c52_i32 : BitVec 32 := 52#32
  let v755 : BitVec 32 := Scalar.addi v754 c52_i32
  let v756 : Index := Scalar.indexCast v755
  ![v756.toNat]
def k0_off363 (v757 : BitVec 32) : Fin 2 → Nat :=
  let c3_i32_359 : BitVec 32 := 3#32
  let v758 : BitVec 32 := Scalar.shrsi v757 c3_i32_359
  let c4095_i32_360 : BitVec 32 := 4095#32
  let v759 : BitVec 32 := Scalar.minsi v758 c4095_i32_360
  let c8_i32_361 : BitVec 32 := 8#32
  let v760 : BitVec 32 := Scalar.muli v759 c8_i32_361
  let v761 : Index := Scalar.indexCast v760
  let c0_362 : Index := 0#32
  ![v761.toNat, 0]

def k0_chk310 (i : grid0.Coords) (v0 : BitVec 32) (v757 : BitVec 32) : Prop :=
  (∀ (k0_h2 : k0_cond2 i v0 = 1#1), ∀ a, (k0_off363 v757) a + S8x128.size a ≤ S32768x128.size a)
theorem k0_off363_inb : ∀ (i : grid0.Coords) (v0 : BitVec 32) (v757 : BitVec 32) (k0_hw310 : k0_chk310 i v0 v757), ∀ (k0_h2 : k0_cond2 i v0 = 1#1), ∀ a, (k0_off363 v757) a + S8x128.size a ≤ S32768x128.size a := fun i v0 v757 k0_hw310 k0_h2 => k0_hw310 k0_h2

def k0_off364 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_364 : BitVec 32 := 256#32
  let v766 : BitVec 32 := Scalar.muli v129 c256_i32_364
  let c53_i32 : BitVec 32 := 53#32
  let v767 : BitVec 32 := Scalar.addi v766 c53_i32
  let v768 : Index := Scalar.indexCast v767
  ![v768.toNat]
def k0_off365 (v769 : BitVec 32) : Fin 2 → Nat :=
  let c3_i32_365 : BitVec 32 := 3#32
  let v770 : BitVec 32 := Scalar.shrsi v769 c3_i32_365
  let c4095_i32_366 : BitVec 32 := 4095#32
  let v771 : BitVec 32 := Scalar.minsi v770 c4095_i32_366
  let c8_i32_367 : BitVec 32 := 8#32
  let v772 : BitVec 32 := Scalar.muli v771 c8_i32_367
  let v773 : Index := Scalar.indexCast v772
  let c0_368 : Index := 0#32
  ![v773.toNat, 0]

def k0_chk311 (i : grid0.Coords) (v0 : BitVec 32) (v769 : BitVec 32) : Prop :=
  (∀ (k0_h2 : k0_cond2 i v0 = 1#1), ∀ a, (k0_off365 v769) a + S8x128.size a ≤ S32768x128.size a)
theorem k0_off365_inb : ∀ (i : grid0.Coords) (v0 : BitVec 32) (v769 : BitVec 32) (k0_hw311 : k0_chk311 i v0 v769), ∀ (k0_h2 : k0_cond2 i v0 = 1#1), ∀ a, (k0_off365 v769) a + S8x128.size a ≤ S32768x128.size a := fun i v0 v769 k0_hw311 k0_h2 => k0_hw311 k0_h2

def k0_off366 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_370 : BitVec 32 := 256#32
  let v778 : BitVec 32 := Scalar.muli v129 c256_i32_370
  let c54_i32 : BitVec 32 := 54#32
  let v779 : BitVec 32 := Scalar.addi v778 c54_i32
  let v780 : Index := Scalar.indexCast v779
  ![v780.toNat]
def k0_off367 (v781 : BitVec 32) : Fin 2 → Nat :=
  let c3_i32_371 : BitVec 32 := 3#32
  let v782 : BitVec 32 := Scalar.shrsi v781 c3_i32_371
  let c4095_i32_372 : BitVec 32 := 4095#32
  let v783 : BitVec 32 := Scalar.minsi v782 c4095_i32_372
  let c8_i32_373 : BitVec 32 := 8#32
  let v784 : BitVec 32 := Scalar.muli v783 c8_i32_373
  let v785 : Index := Scalar.indexCast v784
  let c0_374 : Index := 0#32
  ![v785.toNat, 0]

def k0_chk312 (i : grid0.Coords) (v0 : BitVec 32) (v781 : BitVec 32) : Prop :=
  (∀ (k0_h2 : k0_cond2 i v0 = 1#1), ∀ a, (k0_off367 v781) a + S8x128.size a ≤ S32768x128.size a)
theorem k0_off367_inb : ∀ (i : grid0.Coords) (v0 : BitVec 32) (v781 : BitVec 32) (k0_hw312 : k0_chk312 i v0 v781), ∀ (k0_h2 : k0_cond2 i v0 = 1#1), ∀ a, (k0_off367 v781) a + S8x128.size a ≤ S32768x128.size a := fun i v0 v781 k0_hw312 k0_h2 => k0_hw312 k0_h2

def k0_off368 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_376 : BitVec 32 := 256#32
  let v790 : BitVec 32 := Scalar.muli v129 c256_i32_376
  let c55_i32 : BitVec 32 := 55#32
  let v791 : BitVec 32 := Scalar.addi v790 c55_i32
  let v792 : Index := Scalar.indexCast v791
  ![v792.toNat]
def k0_off369 (v793 : BitVec 32) : Fin 2 → Nat :=
  let c3_i32_377 : BitVec 32 := 3#32
  let v794 : BitVec 32 := Scalar.shrsi v793 c3_i32_377
  let c4095_i32_378 : BitVec 32 := 4095#32
  let v795 : BitVec 32 := Scalar.minsi v794 c4095_i32_378
  let c8_i32_379 : BitVec 32 := 8#32
  let v796 : BitVec 32 := Scalar.muli v795 c8_i32_379
  let v797 : Index := Scalar.indexCast v796
  let c0_380 : Index := 0#32
  ![v797.toNat, 0]

def k0_chk313 (i : grid0.Coords) (v0 : BitVec 32) (v793 : BitVec 32) : Prop :=
  (∀ (k0_h2 : k0_cond2 i v0 = 1#1), ∀ a, (k0_off369 v793) a + S8x128.size a ≤ S32768x128.size a)
theorem k0_off369_inb : ∀ (i : grid0.Coords) (v0 : BitVec 32) (v793 : BitVec 32) (k0_hw313 : k0_chk313 i v0 v793), ∀ (k0_h2 : k0_cond2 i v0 = 1#1), ∀ a, (k0_off369 v793) a + S8x128.size a ≤ S32768x128.size a := fun i v0 v793 k0_hw313 k0_h2 => k0_hw313 k0_h2

def k0_off370 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_382 : BitVec 32 := 256#32
  let v802 : BitVec 32 := Scalar.muli v129 c256_i32_382
  let c56_i32 : BitVec 32 := 56#32
  let v803 : BitVec 32 := Scalar.addi v802 c56_i32
  let v804 : Index := Scalar.indexCast v803
  ![v804.toNat]
def k0_off371 (v805 : BitVec 32) : Fin 2 → Nat :=
  let c3_i32_383 : BitVec 32 := 3#32
  let v806 : BitVec 32 := Scalar.shrsi v805 c3_i32_383
  let c4095_i32_384 : BitVec 32 := 4095#32
  let v807 : BitVec 32 := Scalar.minsi v806 c4095_i32_384
  let c8_i32_385 : BitVec 32 := 8#32
  let v808 : BitVec 32 := Scalar.muli v807 c8_i32_385
  let v809 : Index := Scalar.indexCast v808
  let c0_386 : Index := 0#32
  ![v809.toNat, 0]

def k0_chk314 (i : grid0.Coords) (v0 : BitVec 32) (v805 : BitVec 32) : Prop :=
  (∀ (k0_h2 : k0_cond2 i v0 = 1#1), ∀ a, (k0_off371 v805) a + S8x128.size a ≤ S32768x128.size a)
theorem k0_off371_inb : ∀ (i : grid0.Coords) (v0 : BitVec 32) (v805 : BitVec 32) (k0_hw314 : k0_chk314 i v0 v805), ∀ (k0_h2 : k0_cond2 i v0 = 1#1), ∀ a, (k0_off371 v805) a + S8x128.size a ≤ S32768x128.size a := fun i v0 v805 k0_hw314 k0_h2 => k0_hw314 k0_h2

def k0_off372 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_388 : BitVec 32 := 256#32
  let v814 : BitVec 32 := Scalar.muli v129 c256_i32_388
  let c57_i32 : BitVec 32 := 57#32
  let v815 : BitVec 32 := Scalar.addi v814 c57_i32
  let v816 : Index := Scalar.indexCast v815
  ![v816.toNat]
def k0_off373 (v817 : BitVec 32) : Fin 2 → Nat :=
  let c3_i32_389 : BitVec 32 := 3#32
  let v818 : BitVec 32 := Scalar.shrsi v817 c3_i32_389
  let c4095_i32_390 : BitVec 32 := 4095#32
  let v819 : BitVec 32 := Scalar.minsi v818 c4095_i32_390
  let c8_i32_391 : BitVec 32 := 8#32
  let v820 : BitVec 32 := Scalar.muli v819 c8_i32_391
  let v821 : Index := Scalar.indexCast v820
  let c0_392 : Index := 0#32
  ![v821.toNat, 0]

def k0_chk315 (i : grid0.Coords) (v0 : BitVec 32) (v817 : BitVec 32) : Prop :=
  (∀ (k0_h2 : k0_cond2 i v0 = 1#1), ∀ a, (k0_off373 v817) a + S8x128.size a ≤ S32768x128.size a)
theorem k0_off373_inb : ∀ (i : grid0.Coords) (v0 : BitVec 32) (v817 : BitVec 32) (k0_hw315 : k0_chk315 i v0 v817), ∀ (k0_h2 : k0_cond2 i v0 = 1#1), ∀ a, (k0_off373 v817) a + S8x128.size a ≤ S32768x128.size a := fun i v0 v817 k0_hw315 k0_h2 => k0_hw315 k0_h2

def k0_off374 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_394 : BitVec 32 := 256#32
  let v826 : BitVec 32 := Scalar.muli v129 c256_i32_394
  let c58_i32 : BitVec 32 := 58#32
  let v827 : BitVec 32 := Scalar.addi v826 c58_i32
  let v828 : Index := Scalar.indexCast v827
  ![v828.toNat]
def k0_off375 (v829 : BitVec 32) : Fin 2 → Nat :=
  let c3_i32_395 : BitVec 32 := 3#32
  let v830 : BitVec 32 := Scalar.shrsi v829 c3_i32_395
  let c4095_i32_396 : BitVec 32 := 4095#32
  let v831 : BitVec 32 := Scalar.minsi v830 c4095_i32_396
  let c8_i32_397 : BitVec 32 := 8#32
  let v832 : BitVec 32 := Scalar.muli v831 c8_i32_397
  let v833 : Index := Scalar.indexCast v832
  let c0_398 : Index := 0#32
  ![v833.toNat, 0]

def k0_chk316 (i : grid0.Coords) (v0 : BitVec 32) (v829 : BitVec 32) : Prop :=
  (∀ (k0_h2 : k0_cond2 i v0 = 1#1), ∀ a, (k0_off375 v829) a + S8x128.size a ≤ S32768x128.size a)
theorem k0_off375_inb : ∀ (i : grid0.Coords) (v0 : BitVec 32) (v829 : BitVec 32) (k0_hw316 : k0_chk316 i v0 v829), ∀ (k0_h2 : k0_cond2 i v0 = 1#1), ∀ a, (k0_off375 v829) a + S8x128.size a ≤ S32768x128.size a := fun i v0 v829 k0_hw316 k0_h2 => k0_hw316 k0_h2

def k0_off376 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_400 : BitVec 32 := 256#32
  let v838 : BitVec 32 := Scalar.muli v129 c256_i32_400
  let c59_i32 : BitVec 32 := 59#32
  let v839 : BitVec 32 := Scalar.addi v838 c59_i32
  let v840 : Index := Scalar.indexCast v839
  ![v840.toNat]
def k0_off377 (v841 : BitVec 32) : Fin 2 → Nat :=
  let c3_i32_401 : BitVec 32 := 3#32
  let v842 : BitVec 32 := Scalar.shrsi v841 c3_i32_401
  let c4095_i32_402 : BitVec 32 := 4095#32
  let v843 : BitVec 32 := Scalar.minsi v842 c4095_i32_402
  let c8_i32_403 : BitVec 32 := 8#32
  let v844 : BitVec 32 := Scalar.muli v843 c8_i32_403
  let v845 : Index := Scalar.indexCast v844
  let c0_404 : Index := 0#32
  ![v845.toNat, 0]

def k0_chk317 (i : grid0.Coords) (v0 : BitVec 32) (v841 : BitVec 32) : Prop :=
  (∀ (k0_h2 : k0_cond2 i v0 = 1#1), ∀ a, (k0_off377 v841) a + S8x128.size a ≤ S32768x128.size a)
theorem k0_off377_inb : ∀ (i : grid0.Coords) (v0 : BitVec 32) (v841 : BitVec 32) (k0_hw317 : k0_chk317 i v0 v841), ∀ (k0_h2 : k0_cond2 i v0 = 1#1), ∀ a, (k0_off377 v841) a + S8x128.size a ≤ S32768x128.size a := fun i v0 v841 k0_hw317 k0_h2 => k0_hw317 k0_h2

def k0_off378 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_406 : BitVec 32 := 256#32
  let v850 : BitVec 32 := Scalar.muli v129 c256_i32_406
  let c60_i32 : BitVec 32 := 60#32
  let v851 : BitVec 32 := Scalar.addi v850 c60_i32
  let v852 : Index := Scalar.indexCast v851
  ![v852.toNat]
def k0_off379 (v853 : BitVec 32) : Fin 2 → Nat :=
  let c3_i32_407 : BitVec 32 := 3#32
  let v854 : BitVec 32 := Scalar.shrsi v853 c3_i32_407
  let c4095_i32_408 : BitVec 32 := 4095#32
  let v855 : BitVec 32 := Scalar.minsi v854 c4095_i32_408
  let c8_i32_409 : BitVec 32 := 8#32
  let v856 : BitVec 32 := Scalar.muli v855 c8_i32_409
  let v857 : Index := Scalar.indexCast v856
  let c0_410 : Index := 0#32
  ![v857.toNat, 0]

def k0_chk318 (i : grid0.Coords) (v0 : BitVec 32) (v853 : BitVec 32) : Prop :=
  (∀ (k0_h2 : k0_cond2 i v0 = 1#1), ∀ a, (k0_off379 v853) a + S8x128.size a ≤ S32768x128.size a)
theorem k0_off379_inb : ∀ (i : grid0.Coords) (v0 : BitVec 32) (v853 : BitVec 32) (k0_hw318 : k0_chk318 i v0 v853), ∀ (k0_h2 : k0_cond2 i v0 = 1#1), ∀ a, (k0_off379 v853) a + S8x128.size a ≤ S32768x128.size a := fun i v0 v853 k0_hw318 k0_h2 => k0_hw318 k0_h2

def k0_off380 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_412 : BitVec 32 := 256#32
  let v862 : BitVec 32 := Scalar.muli v129 c256_i32_412
  let c61_i32 : BitVec 32 := 61#32
  let v863 : BitVec 32 := Scalar.addi v862 c61_i32
  let v864 : Index := Scalar.indexCast v863
  ![v864.toNat]
def k0_off381 (v865 : BitVec 32) : Fin 2 → Nat :=
  let c3_i32_413 : BitVec 32 := 3#32
  let v866 : BitVec 32 := Scalar.shrsi v865 c3_i32_413
  let c4095_i32_414 : BitVec 32 := 4095#32
  let v867 : BitVec 32 := Scalar.minsi v866 c4095_i32_414
  let c8_i32_415 : BitVec 32 := 8#32
  let v868 : BitVec 32 := Scalar.muli v867 c8_i32_415
  let v869 : Index := Scalar.indexCast v868
  let c0_416 : Index := 0#32
  ![v869.toNat, 0]

def k0_chk319 (i : grid0.Coords) (v0 : BitVec 32) (v865 : BitVec 32) : Prop :=
  (∀ (k0_h2 : k0_cond2 i v0 = 1#1), ∀ a, (k0_off381 v865) a + S8x128.size a ≤ S32768x128.size a)
theorem k0_off381_inb : ∀ (i : grid0.Coords) (v0 : BitVec 32) (v865 : BitVec 32) (k0_hw319 : k0_chk319 i v0 v865), ∀ (k0_h2 : k0_cond2 i v0 = 1#1), ∀ a, (k0_off381 v865) a + S8x128.size a ≤ S32768x128.size a := fun i v0 v865 k0_hw319 k0_h2 => k0_hw319 k0_h2

def k0_off382 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_418 : BitVec 32 := 256#32
  let v874 : BitVec 32 := Scalar.muli v129 c256_i32_418
  let c62_i32 : BitVec 32 := 62#32
  let v875 : BitVec 32 := Scalar.addi v874 c62_i32
  let v876 : Index := Scalar.indexCast v875
  ![v876.toNat]
def k0_off383 (v877 : BitVec 32) : Fin 2 → Nat :=
  let c3_i32_419 : BitVec 32 := 3#32
  let v878 : BitVec 32 := Scalar.shrsi v877 c3_i32_419
  let c4095_i32_420 : BitVec 32 := 4095#32
  let v879 : BitVec 32 := Scalar.minsi v878 c4095_i32_420
  let c8_i32_421 : BitVec 32 := 8#32
  let v880 : BitVec 32 := Scalar.muli v879 c8_i32_421
  let v881 : Index := Scalar.indexCast v880
  let c0_422 : Index := 0#32
  ![v881.toNat, 0]

def k0_chk320 (i : grid0.Coords) (v0 : BitVec 32) (v877 : BitVec 32) : Prop :=
  (∀ (k0_h2 : k0_cond2 i v0 = 1#1), ∀ a, (k0_off383 v877) a + S8x128.size a ≤ S32768x128.size a)
theorem k0_off383_inb : ∀ (i : grid0.Coords) (v0 : BitVec 32) (v877 : BitVec 32) (k0_hw320 : k0_chk320 i v0 v877), ∀ (k0_h2 : k0_cond2 i v0 = 1#1), ∀ a, (k0_off383 v877) a + S8x128.size a ≤ S32768x128.size a := fun i v0 v877 k0_hw320 k0_h2 => k0_hw320 k0_h2

def k0_off384 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_424 : BitVec 32 := 256#32
  let v886 : BitVec 32 := Scalar.muli v129 c256_i32_424
  let c63_i32 : BitVec 32 := 63#32
  let v887 : BitVec 32 := Scalar.addi v886 c63_i32
  let v888 : Index := Scalar.indexCast v887
  ![v888.toNat]
def k0_off385 (v889 : BitVec 32) : Fin 2 → Nat :=
  let c3_i32_425 : BitVec 32 := 3#32
  let v890 : BitVec 32 := Scalar.shrsi v889 c3_i32_425
  let c4095_i32_426 : BitVec 32 := 4095#32
  let v891 : BitVec 32 := Scalar.minsi v890 c4095_i32_426
  let c8_i32_427 : BitVec 32 := 8#32
  let v892 : BitVec 32 := Scalar.muli v891 c8_i32_427
  let v893 : Index := Scalar.indexCast v892
  let c0_428 : Index := 0#32
  ![v893.toNat, 0]

def k0_chk321 (i : grid0.Coords) (v0 : BitVec 32) (v889 : BitVec 32) : Prop :=
  (∀ (k0_h2 : k0_cond2 i v0 = 1#1), ∀ a, (k0_off385 v889) a + S8x128.size a ≤ S32768x128.size a)
theorem k0_off385_inb : ∀ (i : grid0.Coords) (v0 : BitVec 32) (v889 : BitVec 32) (k0_hw321 : k0_chk321 i v0 v889), ∀ (k0_h2 : k0_cond2 i v0 = 1#1), ∀ a, (k0_off385 v889) a + S8x128.size a ≤ S32768x128.size a := fun i v0 v889 k0_hw321 k0_h2 => k0_hw321 k0_h2

def k0_off386 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_430 : BitVec 32 := 256#32
  let v898 : BitVec 32 := Scalar.muli v129 c256_i32_430
  let c64_i32 : BitVec 32 := 64#32
  let v899 : BitVec 32 := Scalar.addi v898 c64_i32
  let v900 : Index := Scalar.indexCast v899
  ![v900.toNat]
def k0_off387 (v901 : BitVec 32) : Fin 2 → Nat :=
  let c3_i32_431 : BitVec 32 := 3#32
  let v902 : BitVec 32 := Scalar.shrsi v901 c3_i32_431
  let c4095_i32_432 : BitVec 32 := 4095#32
  let v903 : BitVec 32 := Scalar.minsi v902 c4095_i32_432
  let c8_i32_433 : BitVec 32 := 8#32
  let v904 : BitVec 32 := Scalar.muli v903 c8_i32_433
  let v905 : Index := Scalar.indexCast v904
  let c0_434 : Index := 0#32
  ![v905.toNat, 0]

def k0_chk322 (i : grid0.Coords) (v0 : BitVec 32) (v901 : BitVec 32) : Prop :=
  (∀ (k0_h2 : k0_cond2 i v0 = 1#1), ∀ a, (k0_off387 v901) a + S8x128.size a ≤ S32768x128.size a)
theorem k0_off387_inb : ∀ (i : grid0.Coords) (v0 : BitVec 32) (v901 : BitVec 32) (k0_hw322 : k0_chk322 i v0 v901), ∀ (k0_h2 : k0_cond2 i v0 = 1#1), ∀ a, (k0_off387 v901) a + S8x128.size a ≤ S32768x128.size a := fun i v0 v901 k0_hw322 k0_h2 => k0_hw322 k0_h2

def k0_off388 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_436 : BitVec 32 := 256#32
  let v910 : BitVec 32 := Scalar.muli v129 c256_i32_436
  let c65_i32 : BitVec 32 := 65#32
  let v911 : BitVec 32 := Scalar.addi v910 c65_i32
  let v912 : Index := Scalar.indexCast v911
  ![v912.toNat]
def k0_off389 (v913 : BitVec 32) : Fin 2 → Nat :=
  let c3_i32_437 : BitVec 32 := 3#32
  let v914 : BitVec 32 := Scalar.shrsi v913 c3_i32_437
  let c4095_i32_438 : BitVec 32 := 4095#32
  let v915 : BitVec 32 := Scalar.minsi v914 c4095_i32_438
  let c8_i32_439 : BitVec 32 := 8#32
  let v916 : BitVec 32 := Scalar.muli v915 c8_i32_439
  let v917 : Index := Scalar.indexCast v916
  let c0_440 : Index := 0#32
  ![v917.toNat, 0]

def k0_chk323 (i : grid0.Coords) (v0 : BitVec 32) (v913 : BitVec 32) : Prop :=
  (∀ (k0_h2 : k0_cond2 i v0 = 1#1), ∀ a, (k0_off389 v913) a + S8x128.size a ≤ S32768x128.size a)
theorem k0_off389_inb : ∀ (i : grid0.Coords) (v0 : BitVec 32) (v913 : BitVec 32) (k0_hw323 : k0_chk323 i v0 v913), ∀ (k0_h2 : k0_cond2 i v0 = 1#1), ∀ a, (k0_off389 v913) a + S8x128.size a ≤ S32768x128.size a := fun i v0 v913 k0_hw323 k0_h2 => k0_hw323 k0_h2

def k0_off390 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_442 : BitVec 32 := 256#32
  let v922 : BitVec 32 := Scalar.muli v129 c256_i32_442
  let c66_i32 : BitVec 32 := 66#32
  let v923 : BitVec 32 := Scalar.addi v922 c66_i32
  let v924 : Index := Scalar.indexCast v923
  ![v924.toNat]
def k0_off391 (v925 : BitVec 32) : Fin 2 → Nat :=
  let c3_i32_443 : BitVec 32 := 3#32
  let v926 : BitVec 32 := Scalar.shrsi v925 c3_i32_443
  let c4095_i32_444 : BitVec 32 := 4095#32
  let v927 : BitVec 32 := Scalar.minsi v926 c4095_i32_444
  let c8_i32_445 : BitVec 32 := 8#32
  let v928 : BitVec 32 := Scalar.muli v927 c8_i32_445
  let v929 : Index := Scalar.indexCast v928
  let c0_446 : Index := 0#32
  ![v929.toNat, 0]

def k0_chk324 (i : grid0.Coords) (v0 : BitVec 32) (v925 : BitVec 32) : Prop :=
  (∀ (k0_h2 : k0_cond2 i v0 = 1#1), ∀ a, (k0_off391 v925) a + S8x128.size a ≤ S32768x128.size a)
theorem k0_off391_inb : ∀ (i : grid0.Coords) (v0 : BitVec 32) (v925 : BitVec 32) (k0_hw324 : k0_chk324 i v0 v925), ∀ (k0_h2 : k0_cond2 i v0 = 1#1), ∀ a, (k0_off391 v925) a + S8x128.size a ≤ S32768x128.size a := fun i v0 v925 k0_hw324 k0_h2 => k0_hw324 k0_h2

def k0_off392 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_448 : BitVec 32 := 256#32
  let v934 : BitVec 32 := Scalar.muli v129 c256_i32_448
  let c67_i32 : BitVec 32 := 67#32
  let v935 : BitVec 32 := Scalar.addi v934 c67_i32
  let v936 : Index := Scalar.indexCast v935
  ![v936.toNat]
def k0_off393 (v937 : BitVec 32) : Fin 2 → Nat :=
  let c3_i32_449 : BitVec 32 := 3#32
  let v938 : BitVec 32 := Scalar.shrsi v937 c3_i32_449
  let c4095_i32_450 : BitVec 32 := 4095#32
  let v939 : BitVec 32 := Scalar.minsi v938 c4095_i32_450
  let c8_i32_451 : BitVec 32 := 8#32
  let v940 : BitVec 32 := Scalar.muli v939 c8_i32_451
  let v941 : Index := Scalar.indexCast v940
  let c0_452 : Index := 0#32
  ![v941.toNat, 0]

def k0_chk325 (i : grid0.Coords) (v0 : BitVec 32) (v937 : BitVec 32) : Prop :=
  (∀ (k0_h2 : k0_cond2 i v0 = 1#1), ∀ a, (k0_off393 v937) a + S8x128.size a ≤ S32768x128.size a)
theorem k0_off393_inb : ∀ (i : grid0.Coords) (v0 : BitVec 32) (v937 : BitVec 32) (k0_hw325 : k0_chk325 i v0 v937), ∀ (k0_h2 : k0_cond2 i v0 = 1#1), ∀ a, (k0_off393 v937) a + S8x128.size a ≤ S32768x128.size a := fun i v0 v937 k0_hw325 k0_h2 => k0_hw325 k0_h2

def k0_off394 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_454 : BitVec 32 := 256#32
  let v946 : BitVec 32 := Scalar.muli v129 c256_i32_454
  let c68_i32 : BitVec 32 := 68#32
  let v947 : BitVec 32 := Scalar.addi v946 c68_i32
  let v948 : Index := Scalar.indexCast v947
  ![v948.toNat]
def k0_off395 (v949 : BitVec 32) : Fin 2 → Nat :=
  let c3_i32_455 : BitVec 32 := 3#32
  let v950 : BitVec 32 := Scalar.shrsi v949 c3_i32_455
  let c4095_i32_456 : BitVec 32 := 4095#32
  let v951 : BitVec 32 := Scalar.minsi v950 c4095_i32_456
  let c8_i32_457 : BitVec 32 := 8#32
  let v952 : BitVec 32 := Scalar.muli v951 c8_i32_457
  let v953 : Index := Scalar.indexCast v952
  let c0_458 : Index := 0#32
  ![v953.toNat, 0]

def k0_chk326 (i : grid0.Coords) (v0 : BitVec 32) (v949 : BitVec 32) : Prop :=
  (∀ (k0_h2 : k0_cond2 i v0 = 1#1), ∀ a, (k0_off395 v949) a + S8x128.size a ≤ S32768x128.size a)
theorem k0_off395_inb : ∀ (i : grid0.Coords) (v0 : BitVec 32) (v949 : BitVec 32) (k0_hw326 : k0_chk326 i v0 v949), ∀ (k0_h2 : k0_cond2 i v0 = 1#1), ∀ a, (k0_off395 v949) a + S8x128.size a ≤ S32768x128.size a := fun i v0 v949 k0_hw326 k0_h2 => k0_hw326 k0_h2

def k0_off396 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_460 : BitVec 32 := 256#32
  let v958 : BitVec 32 := Scalar.muli v129 c256_i32_460
  let c69_i32 : BitVec 32 := 69#32
  let v959 : BitVec 32 := Scalar.addi v958 c69_i32
  let v960 : Index := Scalar.indexCast v959
  ![v960.toNat]
def k0_off397 (v961 : BitVec 32) : Fin 2 → Nat :=
  let c3_i32_461 : BitVec 32 := 3#32
  let v962 : BitVec 32 := Scalar.shrsi v961 c3_i32_461
  let c4095_i32_462 : BitVec 32 := 4095#32
  let v963 : BitVec 32 := Scalar.minsi v962 c4095_i32_462
  let c8_i32_463 : BitVec 32 := 8#32
  let v964 : BitVec 32 := Scalar.muli v963 c8_i32_463
  let v965 : Index := Scalar.indexCast v964
  let c0_464 : Index := 0#32
  ![v965.toNat, 0]

def k0_chk327 (i : grid0.Coords) (v0 : BitVec 32) (v961 : BitVec 32) : Prop :=
  (∀ (k0_h2 : k0_cond2 i v0 = 1#1), ∀ a, (k0_off397 v961) a + S8x128.size a ≤ S32768x128.size a)
theorem k0_off397_inb : ∀ (i : grid0.Coords) (v0 : BitVec 32) (v961 : BitVec 32) (k0_hw327 : k0_chk327 i v0 v961), ∀ (k0_h2 : k0_cond2 i v0 = 1#1), ∀ a, (k0_off397 v961) a + S8x128.size a ≤ S32768x128.size a := fun i v0 v961 k0_hw327 k0_h2 => k0_hw327 k0_h2

def k0_off398 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_466 : BitVec 32 := 256#32
  let v970 : BitVec 32 := Scalar.muli v129 c256_i32_466
  let c70_i32 : BitVec 32 := 70#32
  let v971 : BitVec 32 := Scalar.addi v970 c70_i32
  let v972 : Index := Scalar.indexCast v971
  ![v972.toNat]
def k0_off399 (v973 : BitVec 32) : Fin 2 → Nat :=
  let c3_i32_467 : BitVec 32 := 3#32
  let v974 : BitVec 32 := Scalar.shrsi v973 c3_i32_467
  let c4095_i32_468 : BitVec 32 := 4095#32
  let v975 : BitVec 32 := Scalar.minsi v974 c4095_i32_468
  let c8_i32_469 : BitVec 32 := 8#32
  let v976 : BitVec 32 := Scalar.muli v975 c8_i32_469
  let v977 : Index := Scalar.indexCast v976
  let c0_470 : Index := 0#32
  ![v977.toNat, 0]

def k0_chk328 (i : grid0.Coords) (v0 : BitVec 32) (v973 : BitVec 32) : Prop :=
  (∀ (k0_h2 : k0_cond2 i v0 = 1#1), ∀ a, (k0_off399 v973) a + S8x128.size a ≤ S32768x128.size a)
theorem k0_off399_inb : ∀ (i : grid0.Coords) (v0 : BitVec 32) (v973 : BitVec 32) (k0_hw328 : k0_chk328 i v0 v973), ∀ (k0_h2 : k0_cond2 i v0 = 1#1), ∀ a, (k0_off399 v973) a + S8x128.size a ≤ S32768x128.size a := fun i v0 v973 k0_hw328 k0_h2 => k0_hw328 k0_h2

def k0_off400 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_472 : BitVec 32 := 256#32
  let v982 : BitVec 32 := Scalar.muli v129 c256_i32_472
  let c71_i32 : BitVec 32 := 71#32
  let v983 : BitVec 32 := Scalar.addi v982 c71_i32
  let v984 : Index := Scalar.indexCast v983
  ![v984.toNat]
def k0_off401 (v985 : BitVec 32) : Fin 2 → Nat :=
  let c3_i32_473 : BitVec 32 := 3#32
  let v986 : BitVec 32 := Scalar.shrsi v985 c3_i32_473
  let c4095_i32_474 : BitVec 32 := 4095#32
  let v987 : BitVec 32 := Scalar.minsi v986 c4095_i32_474
  let c8_i32_475 : BitVec 32 := 8#32
  let v988 : BitVec 32 := Scalar.muli v987 c8_i32_475
  let v989 : Index := Scalar.indexCast v988
  let c0_476 : Index := 0#32
  ![v989.toNat, 0]

def k0_chk329 (i : grid0.Coords) (v0 : BitVec 32) (v985 : BitVec 32) : Prop :=
  (∀ (k0_h2 : k0_cond2 i v0 = 1#1), ∀ a, (k0_off401 v985) a + S8x128.size a ≤ S32768x128.size a)
theorem k0_off401_inb : ∀ (i : grid0.Coords) (v0 : BitVec 32) (v985 : BitVec 32) (k0_hw329 : k0_chk329 i v0 v985), ∀ (k0_h2 : k0_cond2 i v0 = 1#1), ∀ a, (k0_off401 v985) a + S8x128.size a ≤ S32768x128.size a := fun i v0 v985 k0_hw329 k0_h2 => k0_hw329 k0_h2

def k0_off402 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_478 : BitVec 32 := 256#32
  let v994 : BitVec 32 := Scalar.muli v129 c256_i32_478
  let c72_i32 : BitVec 32 := 72#32
  let v995 : BitVec 32 := Scalar.addi v994 c72_i32
  let v996 : Index := Scalar.indexCast v995
  ![v996.toNat]
def k0_off403 (v997 : BitVec 32) : Fin 2 → Nat :=
  let c3_i32_479 : BitVec 32 := 3#32
  let v998 : BitVec 32 := Scalar.shrsi v997 c3_i32_479
  let c4095_i32_480 : BitVec 32 := 4095#32
  let v999 : BitVec 32 := Scalar.minsi v998 c4095_i32_480
  let c8_i32_481 : BitVec 32 := 8#32
  let v1000 : BitVec 32 := Scalar.muli v999 c8_i32_481
  let v1001 : Index := Scalar.indexCast v1000
  let c0_482 : Index := 0#32
  ![v1001.toNat, 0]

def k0_chk330 (i : grid0.Coords) (v0 : BitVec 32) (v997 : BitVec 32) : Prop :=
  (∀ (k0_h2 : k0_cond2 i v0 = 1#1), ∀ a, (k0_off403 v997) a + S8x128.size a ≤ S32768x128.size a)
theorem k0_off403_inb : ∀ (i : grid0.Coords) (v0 : BitVec 32) (v997 : BitVec 32) (k0_hw330 : k0_chk330 i v0 v997), ∀ (k0_h2 : k0_cond2 i v0 = 1#1), ∀ a, (k0_off403 v997) a + S8x128.size a ≤ S32768x128.size a := fun i v0 v997 k0_hw330 k0_h2 => k0_hw330 k0_h2

def k0_off404 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_484 : BitVec 32 := 256#32
  let v1006 : BitVec 32 := Scalar.muli v129 c256_i32_484
  let c73_i32 : BitVec 32 := 73#32
  let v1007 : BitVec 32 := Scalar.addi v1006 c73_i32
  let v1008 : Index := Scalar.indexCast v1007
  ![v1008.toNat]
def k0_off405 (v1009 : BitVec 32) : Fin 2 → Nat :=
  let c3_i32_485 : BitVec 32 := 3#32
  let v1010 : BitVec 32 := Scalar.shrsi v1009 c3_i32_485
  let c4095_i32_486 : BitVec 32 := 4095#32
  let v1011 : BitVec 32 := Scalar.minsi v1010 c4095_i32_486
  let c8_i32_487 : BitVec 32 := 8#32
  let v1012 : BitVec 32 := Scalar.muli v1011 c8_i32_487
  let v1013 : Index := Scalar.indexCast v1012
  let c0_488 : Index := 0#32
  ![v1013.toNat, 0]

def k0_chk331 (i : grid0.Coords) (v0 : BitVec 32) (v1009 : BitVec 32) : Prop :=
  (∀ (k0_h2 : k0_cond2 i v0 = 1#1), ∀ a, (k0_off405 v1009) a + S8x128.size a ≤ S32768x128.size a)
theorem k0_off405_inb : ∀ (i : grid0.Coords) (v0 : BitVec 32) (v1009 : BitVec 32) (k0_hw331 : k0_chk331 i v0 v1009), ∀ (k0_h2 : k0_cond2 i v0 = 1#1), ∀ a, (k0_off405 v1009) a + S8x128.size a ≤ S32768x128.size a := fun i v0 v1009 k0_hw331 k0_h2 => k0_hw331 k0_h2

def k0_off406 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_490 : BitVec 32 := 256#32
  let v1018 : BitVec 32 := Scalar.muli v129 c256_i32_490
  let c74_i32 : BitVec 32 := 74#32
  let v1019 : BitVec 32 := Scalar.addi v1018 c74_i32
  let v1020 : Index := Scalar.indexCast v1019
  ![v1020.toNat]
def k0_off407 (v1021 : BitVec 32) : Fin 2 → Nat :=
  let c3_i32_491 : BitVec 32 := 3#32
  let v1022 : BitVec 32 := Scalar.shrsi v1021 c3_i32_491
  let c4095_i32_492 : BitVec 32 := 4095#32
  let v1023 : BitVec 32 := Scalar.minsi v1022 c4095_i32_492
  let c8_i32_493 : BitVec 32 := 8#32
  let v1024 : BitVec 32 := Scalar.muli v1023 c8_i32_493
  let v1025 : Index := Scalar.indexCast v1024
  let c0_494 : Index := 0#32
  ![v1025.toNat, 0]

def k0_chk332 (i : grid0.Coords) (v0 : BitVec 32) (v1021 : BitVec 32) : Prop :=
  (∀ (k0_h2 : k0_cond2 i v0 = 1#1), ∀ a, (k0_off407 v1021) a + S8x128.size a ≤ S32768x128.size a)
theorem k0_off407_inb : ∀ (i : grid0.Coords) (v0 : BitVec 32) (v1021 : BitVec 32) (k0_hw332 : k0_chk332 i v0 v1021), ∀ (k0_h2 : k0_cond2 i v0 = 1#1), ∀ a, (k0_off407 v1021) a + S8x128.size a ≤ S32768x128.size a := fun i v0 v1021 k0_hw332 k0_h2 => k0_hw332 k0_h2

def k0_off408 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_496 : BitVec 32 := 256#32
  let v1030 : BitVec 32 := Scalar.muli v129 c256_i32_496
  let c75_i32 : BitVec 32 := 75#32
  let v1031 : BitVec 32 := Scalar.addi v1030 c75_i32
  let v1032 : Index := Scalar.indexCast v1031
  ![v1032.toNat]
def k0_off409 (v1033 : BitVec 32) : Fin 2 → Nat :=
  let c3_i32_497 : BitVec 32 := 3#32
  let v1034 : BitVec 32 := Scalar.shrsi v1033 c3_i32_497
  let c4095_i32_498 : BitVec 32 := 4095#32
  let v1035 : BitVec 32 := Scalar.minsi v1034 c4095_i32_498
  let c8_i32_499 : BitVec 32 := 8#32
  let v1036 : BitVec 32 := Scalar.muli v1035 c8_i32_499
  let v1037 : Index := Scalar.indexCast v1036
  let c0_500 : Index := 0#32
  ![v1037.toNat, 0]

def k0_chk333 (i : grid0.Coords) (v0 : BitVec 32) (v1033 : BitVec 32) : Prop :=
  (∀ (k0_h2 : k0_cond2 i v0 = 1#1), ∀ a, (k0_off409 v1033) a + S8x128.size a ≤ S32768x128.size a)
theorem k0_off409_inb : ∀ (i : grid0.Coords) (v0 : BitVec 32) (v1033 : BitVec 32) (k0_hw333 : k0_chk333 i v0 v1033), ∀ (k0_h2 : k0_cond2 i v0 = 1#1), ∀ a, (k0_off409 v1033) a + S8x128.size a ≤ S32768x128.size a := fun i v0 v1033 k0_hw333 k0_h2 => k0_hw333 k0_h2

def k0_off410 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_502 : BitVec 32 := 256#32
  let v1042 : BitVec 32 := Scalar.muli v129 c256_i32_502
  let c76_i32 : BitVec 32 := 76#32
  let v1043 : BitVec 32 := Scalar.addi v1042 c76_i32
  let v1044 : Index := Scalar.indexCast v1043
  ![v1044.toNat]
def k0_off411 (v1045 : BitVec 32) : Fin 2 → Nat :=
  let c3_i32_503 : BitVec 32 := 3#32
  let v1046 : BitVec 32 := Scalar.shrsi v1045 c3_i32_503
  let c4095_i32_504 : BitVec 32 := 4095#32
  let v1047 : BitVec 32 := Scalar.minsi v1046 c4095_i32_504
  let c8_i32_505 : BitVec 32 := 8#32
  let v1048 : BitVec 32 := Scalar.muli v1047 c8_i32_505
  let v1049 : Index := Scalar.indexCast v1048
  let c0_506 : Index := 0#32
  ![v1049.toNat, 0]

def k0_chk334 (i : grid0.Coords) (v0 : BitVec 32) (v1045 : BitVec 32) : Prop :=
  (∀ (k0_h2 : k0_cond2 i v0 = 1#1), ∀ a, (k0_off411 v1045) a + S8x128.size a ≤ S32768x128.size a)
theorem k0_off411_inb : ∀ (i : grid0.Coords) (v0 : BitVec 32) (v1045 : BitVec 32) (k0_hw334 : k0_chk334 i v0 v1045), ∀ (k0_h2 : k0_cond2 i v0 = 1#1), ∀ a, (k0_off411 v1045) a + S8x128.size a ≤ S32768x128.size a := fun i v0 v1045 k0_hw334 k0_h2 => k0_hw334 k0_h2

def k0_off412 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_508 : BitVec 32 := 256#32
  let v1054 : BitVec 32 := Scalar.muli v129 c256_i32_508
  let c77_i32 : BitVec 32 := 77#32
  let v1055 : BitVec 32 := Scalar.addi v1054 c77_i32
  let v1056 : Index := Scalar.indexCast v1055
  ![v1056.toNat]
def k0_off413 (v1057 : BitVec 32) : Fin 2 → Nat :=
  let c3_i32_509 : BitVec 32 := 3#32
  let v1058 : BitVec 32 := Scalar.shrsi v1057 c3_i32_509
  let c4095_i32_510 : BitVec 32 := 4095#32
  let v1059 : BitVec 32 := Scalar.minsi v1058 c4095_i32_510
  let c8_i32_511 : BitVec 32 := 8#32
  let v1060 : BitVec 32 := Scalar.muli v1059 c8_i32_511
  let v1061 : Index := Scalar.indexCast v1060
  let c0_512 : Index := 0#32
  ![v1061.toNat, 0]

def k0_chk335 (i : grid0.Coords) (v0 : BitVec 32) (v1057 : BitVec 32) : Prop :=
  (∀ (k0_h2 : k0_cond2 i v0 = 1#1), ∀ a, (k0_off413 v1057) a + S8x128.size a ≤ S32768x128.size a)
theorem k0_off413_inb : ∀ (i : grid0.Coords) (v0 : BitVec 32) (v1057 : BitVec 32) (k0_hw335 : k0_chk335 i v0 v1057), ∀ (k0_h2 : k0_cond2 i v0 = 1#1), ∀ a, (k0_off413 v1057) a + S8x128.size a ≤ S32768x128.size a := fun i v0 v1057 k0_hw335 k0_h2 => k0_hw335 k0_h2

def k0_off414 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_514 : BitVec 32 := 256#32
  let v1066 : BitVec 32 := Scalar.muli v129 c256_i32_514
  let c78_i32 : BitVec 32 := 78#32
  let v1067 : BitVec 32 := Scalar.addi v1066 c78_i32
  let v1068 : Index := Scalar.indexCast v1067
  ![v1068.toNat]
def k0_off415 (v1069 : BitVec 32) : Fin 2 → Nat :=
  let c3_i32_515 : BitVec 32 := 3#32
  let v1070 : BitVec 32 := Scalar.shrsi v1069 c3_i32_515
  let c4095_i32_516 : BitVec 32 := 4095#32
  let v1071 : BitVec 32 := Scalar.minsi v1070 c4095_i32_516
  let c8_i32_517 : BitVec 32 := 8#32
  let v1072 : BitVec 32 := Scalar.muli v1071 c8_i32_517
  let v1073 : Index := Scalar.indexCast v1072
  let c0_518 : Index := 0#32
  ![v1073.toNat, 0]

def k0_chk336 (i : grid0.Coords) (v0 : BitVec 32) (v1069 : BitVec 32) : Prop :=
  (∀ (k0_h2 : k0_cond2 i v0 = 1#1), ∀ a, (k0_off415 v1069) a + S8x128.size a ≤ S32768x128.size a)
theorem k0_off415_inb : ∀ (i : grid0.Coords) (v0 : BitVec 32) (v1069 : BitVec 32) (k0_hw336 : k0_chk336 i v0 v1069), ∀ (k0_h2 : k0_cond2 i v0 = 1#1), ∀ a, (k0_off415 v1069) a + S8x128.size a ≤ S32768x128.size a := fun i v0 v1069 k0_hw336 k0_h2 => k0_hw336 k0_h2

def k0_off416 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_520 : BitVec 32 := 256#32
  let v1078 : BitVec 32 := Scalar.muli v129 c256_i32_520
  let c79_i32 : BitVec 32 := 79#32
  let v1079 : BitVec 32 := Scalar.addi v1078 c79_i32
  let v1080 : Index := Scalar.indexCast v1079
  ![v1080.toNat]
def k0_off417 (v1081 : BitVec 32) : Fin 2 → Nat :=
  let c3_i32_521 : BitVec 32 := 3#32
  let v1082 : BitVec 32 := Scalar.shrsi v1081 c3_i32_521
  let c4095_i32_522 : BitVec 32 := 4095#32
  let v1083 : BitVec 32 := Scalar.minsi v1082 c4095_i32_522
  let c8_i32_523 : BitVec 32 := 8#32
  let v1084 : BitVec 32 := Scalar.muli v1083 c8_i32_523
  let v1085 : Index := Scalar.indexCast v1084
  let c0_524 : Index := 0#32
  ![v1085.toNat, 0]

def k0_chk337 (i : grid0.Coords) (v0 : BitVec 32) (v1081 : BitVec 32) : Prop :=
  (∀ (k0_h2 : k0_cond2 i v0 = 1#1), ∀ a, (k0_off417 v1081) a + S8x128.size a ≤ S32768x128.size a)
theorem k0_off417_inb : ∀ (i : grid0.Coords) (v0 : BitVec 32) (v1081 : BitVec 32) (k0_hw337 : k0_chk337 i v0 v1081), ∀ (k0_h2 : k0_cond2 i v0 = 1#1), ∀ a, (k0_off417 v1081) a + S8x128.size a ≤ S32768x128.size a := fun i v0 v1081 k0_hw337 k0_h2 => k0_hw337 k0_h2

def k0_off418 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_526 : BitVec 32 := 256#32
  let v1090 : BitVec 32 := Scalar.muli v129 c256_i32_526
  let c80_i32 : BitVec 32 := 80#32
  let v1091 : BitVec 32 := Scalar.addi v1090 c80_i32
  let v1092 : Index := Scalar.indexCast v1091
  ![v1092.toNat]
def k0_off419 (v1093 : BitVec 32) : Fin 2 → Nat :=
  let c3_i32_527 : BitVec 32 := 3#32
  let v1094 : BitVec 32 := Scalar.shrsi v1093 c3_i32_527
  let c4095_i32_528 : BitVec 32 := 4095#32
  let v1095 : BitVec 32 := Scalar.minsi v1094 c4095_i32_528
  let c8_i32_529 : BitVec 32 := 8#32
  let v1096 : BitVec 32 := Scalar.muli v1095 c8_i32_529
  let v1097 : Index := Scalar.indexCast v1096
  let c0_530 : Index := 0#32
  ![v1097.toNat, 0]

def k0_chk338 (i : grid0.Coords) (v0 : BitVec 32) (v1093 : BitVec 32) : Prop :=
  (∀ (k0_h2 : k0_cond2 i v0 = 1#1), ∀ a, (k0_off419 v1093) a + S8x128.size a ≤ S32768x128.size a)
theorem k0_off419_inb : ∀ (i : grid0.Coords) (v0 : BitVec 32) (v1093 : BitVec 32) (k0_hw338 : k0_chk338 i v0 v1093), ∀ (k0_h2 : k0_cond2 i v0 = 1#1), ∀ a, (k0_off419 v1093) a + S8x128.size a ≤ S32768x128.size a := fun i v0 v1093 k0_hw338 k0_h2 => k0_hw338 k0_h2

def k0_off420 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_532 : BitVec 32 := 256#32
  let v1102 : BitVec 32 := Scalar.muli v129 c256_i32_532
  let c81_i32 : BitVec 32 := 81#32
  let v1103 : BitVec 32 := Scalar.addi v1102 c81_i32
  let v1104 : Index := Scalar.indexCast v1103
  ![v1104.toNat]
def k0_off421 (v1105 : BitVec 32) : Fin 2 → Nat :=
  let c3_i32_533 : BitVec 32 := 3#32
  let v1106 : BitVec 32 := Scalar.shrsi v1105 c3_i32_533
  let c4095_i32_534 : BitVec 32 := 4095#32
  let v1107 : BitVec 32 := Scalar.minsi v1106 c4095_i32_534
  let c8_i32_535 : BitVec 32 := 8#32
  let v1108 : BitVec 32 := Scalar.muli v1107 c8_i32_535
  let v1109 : Index := Scalar.indexCast v1108
  let c0_536 : Index := 0#32
  ![v1109.toNat, 0]

def k0_chk339 (i : grid0.Coords) (v0 : BitVec 32) (v1105 : BitVec 32) : Prop :=
  (∀ (k0_h2 : k0_cond2 i v0 = 1#1), ∀ a, (k0_off421 v1105) a + S8x128.size a ≤ S32768x128.size a)
theorem k0_off421_inb : ∀ (i : grid0.Coords) (v0 : BitVec 32) (v1105 : BitVec 32) (k0_hw339 : k0_chk339 i v0 v1105), ∀ (k0_h2 : k0_cond2 i v0 = 1#1), ∀ a, (k0_off421 v1105) a + S8x128.size a ≤ S32768x128.size a := fun i v0 v1105 k0_hw339 k0_h2 => k0_hw339 k0_h2

def k0_off422 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_538 : BitVec 32 := 256#32
  let v1114 : BitVec 32 := Scalar.muli v129 c256_i32_538
  let c82_i32 : BitVec 32 := 82#32
  let v1115 : BitVec 32 := Scalar.addi v1114 c82_i32
  let v1116 : Index := Scalar.indexCast v1115
  ![v1116.toNat]
def k0_off423 (v1117 : BitVec 32) : Fin 2 → Nat :=
  let c3_i32_539 : BitVec 32 := 3#32
  let v1118 : BitVec 32 := Scalar.shrsi v1117 c3_i32_539
  let c4095_i32_540 : BitVec 32 := 4095#32
  let v1119 : BitVec 32 := Scalar.minsi v1118 c4095_i32_540
  let c8_i32_541 : BitVec 32 := 8#32
  let v1120 : BitVec 32 := Scalar.muli v1119 c8_i32_541
  let v1121 : Index := Scalar.indexCast v1120
  let c0_542 : Index := 0#32
  ![v1121.toNat, 0]

def k0_chk340 (i : grid0.Coords) (v0 : BitVec 32) (v1117 : BitVec 32) : Prop :=
  (∀ (k0_h2 : k0_cond2 i v0 = 1#1), ∀ a, (k0_off423 v1117) a + S8x128.size a ≤ S32768x128.size a)
theorem k0_off423_inb : ∀ (i : grid0.Coords) (v0 : BitVec 32) (v1117 : BitVec 32) (k0_hw340 : k0_chk340 i v0 v1117), ∀ (k0_h2 : k0_cond2 i v0 = 1#1), ∀ a, (k0_off423 v1117) a + S8x128.size a ≤ S32768x128.size a := fun i v0 v1117 k0_hw340 k0_h2 => k0_hw340 k0_h2

def k0_off424 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_544 : BitVec 32 := 256#32
  let v1126 : BitVec 32 := Scalar.muli v129 c256_i32_544
  let c83_i32 : BitVec 32 := 83#32
  let v1127 : BitVec 32 := Scalar.addi v1126 c83_i32
  let v1128 : Index := Scalar.indexCast v1127
  ![v1128.toNat]
def k0_off425 (v1129 : BitVec 32) : Fin 2 → Nat :=
  let c3_i32_545 : BitVec 32 := 3#32
  let v1130 : BitVec 32 := Scalar.shrsi v1129 c3_i32_545
  let c4095_i32_546 : BitVec 32 := 4095#32
  let v1131 : BitVec 32 := Scalar.minsi v1130 c4095_i32_546
  let c8_i32_547 : BitVec 32 := 8#32
  let v1132 : BitVec 32 := Scalar.muli v1131 c8_i32_547
  let v1133 : Index := Scalar.indexCast v1132
  let c0_548 : Index := 0#32
  ![v1133.toNat, 0]

def k0_chk341 (i : grid0.Coords) (v0 : BitVec 32) (v1129 : BitVec 32) : Prop :=
  (∀ (k0_h2 : k0_cond2 i v0 = 1#1), ∀ a, (k0_off425 v1129) a + S8x128.size a ≤ S32768x128.size a)
theorem k0_off425_inb : ∀ (i : grid0.Coords) (v0 : BitVec 32) (v1129 : BitVec 32) (k0_hw341 : k0_chk341 i v0 v1129), ∀ (k0_h2 : k0_cond2 i v0 = 1#1), ∀ a, (k0_off425 v1129) a + S8x128.size a ≤ S32768x128.size a := fun i v0 v1129 k0_hw341 k0_h2 => k0_hw341 k0_h2

def k0_off426 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_550 : BitVec 32 := 256#32
  let v1138 : BitVec 32 := Scalar.muli v129 c256_i32_550
  let c84_i32 : BitVec 32 := 84#32
  let v1139 : BitVec 32 := Scalar.addi v1138 c84_i32
  let v1140 : Index := Scalar.indexCast v1139
  ![v1140.toNat]
def k0_off427 (v1141 : BitVec 32) : Fin 2 → Nat :=
  let c3_i32_551 : BitVec 32 := 3#32
  let v1142 : BitVec 32 := Scalar.shrsi v1141 c3_i32_551
  let c4095_i32_552 : BitVec 32 := 4095#32
  let v1143 : BitVec 32 := Scalar.minsi v1142 c4095_i32_552
  let c8_i32_553 : BitVec 32 := 8#32
  let v1144 : BitVec 32 := Scalar.muli v1143 c8_i32_553
  let v1145 : Index := Scalar.indexCast v1144
  let c0_554 : Index := 0#32
  ![v1145.toNat, 0]

def k0_chk342 (i : grid0.Coords) (v0 : BitVec 32) (v1141 : BitVec 32) : Prop :=
  (∀ (k0_h2 : k0_cond2 i v0 = 1#1), ∀ a, (k0_off427 v1141) a + S8x128.size a ≤ S32768x128.size a)
theorem k0_off427_inb : ∀ (i : grid0.Coords) (v0 : BitVec 32) (v1141 : BitVec 32) (k0_hw342 : k0_chk342 i v0 v1141), ∀ (k0_h2 : k0_cond2 i v0 = 1#1), ∀ a, (k0_off427 v1141) a + S8x128.size a ≤ S32768x128.size a := fun i v0 v1141 k0_hw342 k0_h2 => k0_hw342 k0_h2

def k0_off428 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_581 : BitVec 32 := 256#32
  let v1206 : BitVec 32 := Scalar.muli v129 c256_i32_581
  let c85_i32 : BitVec 32 := 85#32
  let v1207 : BitVec 32 := Scalar.addi v1206 c85_i32
  let v1208 : Index := Scalar.indexCast v1207
  ![v1208.toNat]
def k0_off429 (v1209 : BitVec 32) : Fin 2 → Nat :=
  let c3_i32_582 : BitVec 32 := 3#32
  let v1210 : BitVec 32 := Scalar.shrsi v1209 c3_i32_582
  let c4095_i32_583 : BitVec 32 := 4095#32
  let v1211 : BitVec 32 := Scalar.minsi v1210 c4095_i32_583
  let c8_i32_584 : BitVec 32 := 8#32
  let v1212 : BitVec 32 := Scalar.muli v1211 c8_i32_584
  let v1213 : Index := Scalar.indexCast v1212
  let c0_585 : Index := 0#32
  ![v1213.toNat, 0]

def k0_chk343 (i : grid0.Coords) (v0 : BitVec 32) (v1209 : BitVec 32) : Prop :=
  (∀ (k0_h2 : k0_cond2 i v0 = 1#1), ∀ a, (k0_off429 v1209) a + S8x128.size a ≤ S32768x128.size a)
theorem k0_off429_inb : ∀ (i : grid0.Coords) (v0 : BitVec 32) (v1209 : BitVec 32) (k0_hw343 : k0_chk343 i v0 v1209), ∀ (k0_h2 : k0_cond2 i v0 = 1#1), ∀ a, (k0_off429 v1209) a + S8x128.size a ≤ S32768x128.size a := fun i v0 v1209 k0_hw343 k0_h2 => k0_hw343 k0_h2

def k0_off430 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_587 : BitVec 32 := 256#32
  let v1218 : BitVec 32 := Scalar.muli v129 c256_i32_587
  let c86_i32 : BitVec 32 := 86#32
  let v1219 : BitVec 32 := Scalar.addi v1218 c86_i32
  let v1220 : Index := Scalar.indexCast v1219
  ![v1220.toNat]
def k0_off431 (v1221 : BitVec 32) : Fin 2 → Nat :=
  let c3_i32_588 : BitVec 32 := 3#32
  let v1222 : BitVec 32 := Scalar.shrsi v1221 c3_i32_588
  let c4095_i32_589 : BitVec 32 := 4095#32
  let v1223 : BitVec 32 := Scalar.minsi v1222 c4095_i32_589
  let c8_i32_590 : BitVec 32 := 8#32
  let v1224 : BitVec 32 := Scalar.muli v1223 c8_i32_590
  let v1225 : Index := Scalar.indexCast v1224
  let c0_591 : Index := 0#32
  ![v1225.toNat, 0]

def k0_chk344 (i : grid0.Coords) (v0 : BitVec 32) (v1221 : BitVec 32) : Prop :=
  (∀ (k0_h2 : k0_cond2 i v0 = 1#1), ∀ a, (k0_off431 v1221) a + S8x128.size a ≤ S32768x128.size a)
theorem k0_off431_inb : ∀ (i : grid0.Coords) (v0 : BitVec 32) (v1221 : BitVec 32) (k0_hw344 : k0_chk344 i v0 v1221), ∀ (k0_h2 : k0_cond2 i v0 = 1#1), ∀ a, (k0_off431 v1221) a + S8x128.size a ≤ S32768x128.size a := fun i v0 v1221 k0_hw344 k0_h2 => k0_hw344 k0_h2

def k0_off432 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_593 : BitVec 32 := 256#32
  let v1230 : BitVec 32 := Scalar.muli v129 c256_i32_593
  let c87_i32 : BitVec 32 := 87#32
  let v1231 : BitVec 32 := Scalar.addi v1230 c87_i32
  let v1232 : Index := Scalar.indexCast v1231
  ![v1232.toNat]
def k0_off433 (v1233 : BitVec 32) : Fin 2 → Nat :=
  let c3_i32_594 : BitVec 32 := 3#32
  let v1234 : BitVec 32 := Scalar.shrsi v1233 c3_i32_594
  let c4095_i32_595 : BitVec 32 := 4095#32
  let v1235 : BitVec 32 := Scalar.minsi v1234 c4095_i32_595
  let c8_i32_596 : BitVec 32 := 8#32
  let v1236 : BitVec 32 := Scalar.muli v1235 c8_i32_596
  let v1237 : Index := Scalar.indexCast v1236
  let c0_597 : Index := 0#32
  ![v1237.toNat, 0]

def k0_chk345 (i : grid0.Coords) (v0 : BitVec 32) (v1233 : BitVec 32) : Prop :=
  (∀ (k0_h2 : k0_cond2 i v0 = 1#1), ∀ a, (k0_off433 v1233) a + S8x128.size a ≤ S32768x128.size a)
theorem k0_off433_inb : ∀ (i : grid0.Coords) (v0 : BitVec 32) (v1233 : BitVec 32) (k0_hw345 : k0_chk345 i v0 v1233), ∀ (k0_h2 : k0_cond2 i v0 = 1#1), ∀ a, (k0_off433 v1233) a + S8x128.size a ≤ S32768x128.size a := fun i v0 v1233 k0_hw345 k0_h2 => k0_hw345 k0_h2

def k0_off434 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_599 : BitVec 32 := 256#32
  let v1242 : BitVec 32 := Scalar.muli v129 c256_i32_599
  let c88_i32 : BitVec 32 := 88#32
  let v1243 : BitVec 32 := Scalar.addi v1242 c88_i32
  let v1244 : Index := Scalar.indexCast v1243
  ![v1244.toNat]
def k0_off435 (v1245 : BitVec 32) : Fin 2 → Nat :=
  let c3_i32_600 : BitVec 32 := 3#32
  let v1246 : BitVec 32 := Scalar.shrsi v1245 c3_i32_600
  let c4095_i32_601 : BitVec 32 := 4095#32
  let v1247 : BitVec 32 := Scalar.minsi v1246 c4095_i32_601
  let c8_i32_602 : BitVec 32 := 8#32
  let v1248 : BitVec 32 := Scalar.muli v1247 c8_i32_602
  let v1249 : Index := Scalar.indexCast v1248
  let c0_603 : Index := 0#32
  ![v1249.toNat, 0]

def k0_chk346 (i : grid0.Coords) (v0 : BitVec 32) (v1245 : BitVec 32) : Prop :=
  (∀ (k0_h2 : k0_cond2 i v0 = 1#1), ∀ a, (k0_off435 v1245) a + S8x128.size a ≤ S32768x128.size a)
theorem k0_off435_inb : ∀ (i : grid0.Coords) (v0 : BitVec 32) (v1245 : BitVec 32) (k0_hw346 : k0_chk346 i v0 v1245), ∀ (k0_h2 : k0_cond2 i v0 = 1#1), ∀ a, (k0_off435 v1245) a + S8x128.size a ≤ S32768x128.size a := fun i v0 v1245 k0_hw346 k0_h2 => k0_hw346 k0_h2

def k0_off436 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_605 : BitVec 32 := 256#32
  let v1254 : BitVec 32 := Scalar.muli v129 c256_i32_605
  let c89_i32 : BitVec 32 := 89#32
  let v1255 : BitVec 32 := Scalar.addi v1254 c89_i32
  let v1256 : Index := Scalar.indexCast v1255
  ![v1256.toNat]
def k0_off437 (v1257 : BitVec 32) : Fin 2 → Nat :=
  let c3_i32_606 : BitVec 32 := 3#32
  let v1258 : BitVec 32 := Scalar.shrsi v1257 c3_i32_606
  let c4095_i32_607 : BitVec 32 := 4095#32
  let v1259 : BitVec 32 := Scalar.minsi v1258 c4095_i32_607
  let c8_i32_608 : BitVec 32 := 8#32
  let v1260 : BitVec 32 := Scalar.muli v1259 c8_i32_608
  let v1261 : Index := Scalar.indexCast v1260
  let c0_609 : Index := 0#32
  ![v1261.toNat, 0]

def k0_chk347 (i : grid0.Coords) (v0 : BitVec 32) (v1257 : BitVec 32) : Prop :=
  (∀ (k0_h2 : k0_cond2 i v0 = 1#1), ∀ a, (k0_off437 v1257) a + S8x128.size a ≤ S32768x128.size a)
theorem k0_off437_inb : ∀ (i : grid0.Coords) (v0 : BitVec 32) (v1257 : BitVec 32) (k0_hw347 : k0_chk347 i v0 v1257), ∀ (k0_h2 : k0_cond2 i v0 = 1#1), ∀ a, (k0_off437 v1257) a + S8x128.size a ≤ S32768x128.size a := fun i v0 v1257 k0_hw347 k0_h2 => k0_hw347 k0_h2

def k0_off438 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_611 : BitVec 32 := 256#32
  let v1266 : BitVec 32 := Scalar.muli v129 c256_i32_611
  let c90_i32 : BitVec 32 := 90#32
  let v1267 : BitVec 32 := Scalar.addi v1266 c90_i32
  let v1268 : Index := Scalar.indexCast v1267
  ![v1268.toNat]
def k0_off439 (v1269 : BitVec 32) : Fin 2 → Nat :=
  let c3_i32_612 : BitVec 32 := 3#32
  let v1270 : BitVec 32 := Scalar.shrsi v1269 c3_i32_612
  let c4095_i32_613 : BitVec 32 := 4095#32
  let v1271 : BitVec 32 := Scalar.minsi v1270 c4095_i32_613
  let c8_i32_614 : BitVec 32 := 8#32
  let v1272 : BitVec 32 := Scalar.muli v1271 c8_i32_614
  let v1273 : Index := Scalar.indexCast v1272
  let c0_615 : Index := 0#32
  ![v1273.toNat, 0]

def k0_chk348 (i : grid0.Coords) (v0 : BitVec 32) (v1269 : BitVec 32) : Prop :=
  (∀ (k0_h2 : k0_cond2 i v0 = 1#1), ∀ a, (k0_off439 v1269) a + S8x128.size a ≤ S32768x128.size a)
theorem k0_off439_inb : ∀ (i : grid0.Coords) (v0 : BitVec 32) (v1269 : BitVec 32) (k0_hw348 : k0_chk348 i v0 v1269), ∀ (k0_h2 : k0_cond2 i v0 = 1#1), ∀ a, (k0_off439 v1269) a + S8x128.size a ≤ S32768x128.size a := fun i v0 v1269 k0_hw348 k0_h2 => k0_hw348 k0_h2

def k0_off440 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_617 : BitVec 32 := 256#32
  let v1278 : BitVec 32 := Scalar.muli v129 c256_i32_617
  let c91_i32 : BitVec 32 := 91#32
  let v1279 : BitVec 32 := Scalar.addi v1278 c91_i32
  let v1280 : Index := Scalar.indexCast v1279
  ![v1280.toNat]
def k0_off441 (v1281 : BitVec 32) : Fin 2 → Nat :=
  let c3_i32_618 : BitVec 32 := 3#32
  let v1282 : BitVec 32 := Scalar.shrsi v1281 c3_i32_618
  let c4095_i32_619 : BitVec 32 := 4095#32
  let v1283 : BitVec 32 := Scalar.minsi v1282 c4095_i32_619
  let c8_i32_620 : BitVec 32 := 8#32
  let v1284 : BitVec 32 := Scalar.muli v1283 c8_i32_620
  let v1285 : Index := Scalar.indexCast v1284
  let c0_621 : Index := 0#32
  ![v1285.toNat, 0]

def k0_chk349 (i : grid0.Coords) (v0 : BitVec 32) (v1281 : BitVec 32) : Prop :=
  (∀ (k0_h2 : k0_cond2 i v0 = 1#1), ∀ a, (k0_off441 v1281) a + S8x128.size a ≤ S32768x128.size a)
theorem k0_off441_inb : ∀ (i : grid0.Coords) (v0 : BitVec 32) (v1281 : BitVec 32) (k0_hw349 : k0_chk349 i v0 v1281), ∀ (k0_h2 : k0_cond2 i v0 = 1#1), ∀ a, (k0_off441 v1281) a + S8x128.size a ≤ S32768x128.size a := fun i v0 v1281 k0_hw349 k0_h2 => k0_hw349 k0_h2

def k0_off442 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_623 : BitVec 32 := 256#32
  let v1290 : BitVec 32 := Scalar.muli v129 c256_i32_623
  let c92_i32 : BitVec 32 := 92#32
  let v1291 : BitVec 32 := Scalar.addi v1290 c92_i32
  let v1292 : Index := Scalar.indexCast v1291
  ![v1292.toNat]
def k0_off443 (v1293 : BitVec 32) : Fin 2 → Nat :=
  let c3_i32_624 : BitVec 32 := 3#32
  let v1294 : BitVec 32 := Scalar.shrsi v1293 c3_i32_624
  let c4095_i32_625 : BitVec 32 := 4095#32
  let v1295 : BitVec 32 := Scalar.minsi v1294 c4095_i32_625
  let c8_i32_626 : BitVec 32 := 8#32
  let v1296 : BitVec 32 := Scalar.muli v1295 c8_i32_626
  let v1297 : Index := Scalar.indexCast v1296
  let c0_627 : Index := 0#32
  ![v1297.toNat, 0]

def k0_chk350 (i : grid0.Coords) (v0 : BitVec 32) (v1293 : BitVec 32) : Prop :=
  (∀ (k0_h2 : k0_cond2 i v0 = 1#1), ∀ a, (k0_off443 v1293) a + S8x128.size a ≤ S32768x128.size a)
theorem k0_off443_inb : ∀ (i : grid0.Coords) (v0 : BitVec 32) (v1293 : BitVec 32) (k0_hw350 : k0_chk350 i v0 v1293), ∀ (k0_h2 : k0_cond2 i v0 = 1#1), ∀ a, (k0_off443 v1293) a + S8x128.size a ≤ S32768x128.size a := fun i v0 v1293 k0_hw350 k0_h2 => k0_hw350 k0_h2

def k0_off444 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_629 : BitVec 32 := 256#32
  let v1302 : BitVec 32 := Scalar.muli v129 c256_i32_629
  let c93_i32 : BitVec 32 := 93#32
  let v1303 : BitVec 32 := Scalar.addi v1302 c93_i32
  let v1304 : Index := Scalar.indexCast v1303
  ![v1304.toNat]
def k0_off445 (v1305 : BitVec 32) : Fin 2 → Nat :=
  let c3_i32_630 : BitVec 32 := 3#32
  let v1306 : BitVec 32 := Scalar.shrsi v1305 c3_i32_630
  let c4095_i32_631 : BitVec 32 := 4095#32
  let v1307 : BitVec 32 := Scalar.minsi v1306 c4095_i32_631
  let c8_i32_632 : BitVec 32 := 8#32
  let v1308 : BitVec 32 := Scalar.muli v1307 c8_i32_632
  let v1309 : Index := Scalar.indexCast v1308
  let c0_633 : Index := 0#32
  ![v1309.toNat, 0]

def k0_chk351 (i : grid0.Coords) (v0 : BitVec 32) (v1305 : BitVec 32) : Prop :=
  (∀ (k0_h2 : k0_cond2 i v0 = 1#1), ∀ a, (k0_off445 v1305) a + S8x128.size a ≤ S32768x128.size a)
theorem k0_off445_inb : ∀ (i : grid0.Coords) (v0 : BitVec 32) (v1305 : BitVec 32) (k0_hw351 : k0_chk351 i v0 v1305), ∀ (k0_h2 : k0_cond2 i v0 = 1#1), ∀ a, (k0_off445 v1305) a + S8x128.size a ≤ S32768x128.size a := fun i v0 v1305 k0_hw351 k0_h2 => k0_hw351 k0_h2

def k0_off446 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_635 : BitVec 32 := 256#32
  let v1314 : BitVec 32 := Scalar.muli v129 c256_i32_635
  let c94_i32 : BitVec 32 := 94#32
  let v1315 : BitVec 32 := Scalar.addi v1314 c94_i32
  let v1316 : Index := Scalar.indexCast v1315
  ![v1316.toNat]
def k0_off447 (v1317 : BitVec 32) : Fin 2 → Nat :=
  let c3_i32_636 : BitVec 32 := 3#32
  let v1318 : BitVec 32 := Scalar.shrsi v1317 c3_i32_636
  let c4095_i32_637 : BitVec 32 := 4095#32
  let v1319 : BitVec 32 := Scalar.minsi v1318 c4095_i32_637
  let c8_i32_638 : BitVec 32 := 8#32
  let v1320 : BitVec 32 := Scalar.muli v1319 c8_i32_638
  let v1321 : Index := Scalar.indexCast v1320
  let c0_639 : Index := 0#32
  ![v1321.toNat, 0]

def k0_chk352 (i : grid0.Coords) (v0 : BitVec 32) (v1317 : BitVec 32) : Prop :=
  (∀ (k0_h2 : k0_cond2 i v0 = 1#1), ∀ a, (k0_off447 v1317) a + S8x128.size a ≤ S32768x128.size a)
theorem k0_off447_inb : ∀ (i : grid0.Coords) (v0 : BitVec 32) (v1317 : BitVec 32) (k0_hw352 : k0_chk352 i v0 v1317), ∀ (k0_h2 : k0_cond2 i v0 = 1#1), ∀ a, (k0_off447 v1317) a + S8x128.size a ≤ S32768x128.size a := fun i v0 v1317 k0_hw352 k0_h2 => k0_hw352 k0_h2

def k0_off448 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_641 : BitVec 32 := 256#32
  let v1326 : BitVec 32 := Scalar.muli v129 c256_i32_641
  let c95_i32 : BitVec 32 := 95#32
  let v1327 : BitVec 32 := Scalar.addi v1326 c95_i32
  let v1328 : Index := Scalar.indexCast v1327
  ![v1328.toNat]
def k0_off449 (v1329 : BitVec 32) : Fin 2 → Nat :=
  let c3_i32_642 : BitVec 32 := 3#32
  let v1330 : BitVec 32 := Scalar.shrsi v1329 c3_i32_642
  let c4095_i32_643 : BitVec 32 := 4095#32
  let v1331 : BitVec 32 := Scalar.minsi v1330 c4095_i32_643
  let c8_i32_644 : BitVec 32 := 8#32
  let v1332 : BitVec 32 := Scalar.muli v1331 c8_i32_644
  let v1333 : Index := Scalar.indexCast v1332
  let c0_645 : Index := 0#32
  ![v1333.toNat, 0]

def k0_chk353 (i : grid0.Coords) (v0 : BitVec 32) (v1329 : BitVec 32) : Prop :=
  (∀ (k0_h2 : k0_cond2 i v0 = 1#1), ∀ a, (k0_off449 v1329) a + S8x128.size a ≤ S32768x128.size a)
theorem k0_off449_inb : ∀ (i : grid0.Coords) (v0 : BitVec 32) (v1329 : BitVec 32) (k0_hw353 : k0_chk353 i v0 v1329), ∀ (k0_h2 : k0_cond2 i v0 = 1#1), ∀ a, (k0_off449 v1329) a + S8x128.size a ≤ S32768x128.size a := fun i v0 v1329 k0_hw353 k0_h2 => k0_hw353 k0_h2

def k0_off450 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_647 : BitVec 32 := 256#32
  let v1338 : BitVec 32 := Scalar.muli v129 c256_i32_647
  let c96_i32 : BitVec 32 := 96#32
  let v1339 : BitVec 32 := Scalar.addi v1338 c96_i32
  let v1340 : Index := Scalar.indexCast v1339
  ![v1340.toNat]
def k0_off451 (v1341 : BitVec 32) : Fin 2 → Nat :=
  let c3_i32_648 : BitVec 32 := 3#32
  let v1342 : BitVec 32 := Scalar.shrsi v1341 c3_i32_648
  let c4095_i32_649 : BitVec 32 := 4095#32
  let v1343 : BitVec 32 := Scalar.minsi v1342 c4095_i32_649
  let c8_i32_650 : BitVec 32 := 8#32
  let v1344 : BitVec 32 := Scalar.muli v1343 c8_i32_650
  let v1345 : Index := Scalar.indexCast v1344
  let c0_651 : Index := 0#32
  ![v1345.toNat, 0]

def k0_chk354 (i : grid0.Coords) (v0 : BitVec 32) (v1341 : BitVec 32) : Prop :=
  (∀ (k0_h2 : k0_cond2 i v0 = 1#1), ∀ a, (k0_off451 v1341) a + S8x128.size a ≤ S32768x128.size a)
theorem k0_off451_inb : ∀ (i : grid0.Coords) (v0 : BitVec 32) (v1341 : BitVec 32) (k0_hw354 : k0_chk354 i v0 v1341), ∀ (k0_h2 : k0_cond2 i v0 = 1#1), ∀ a, (k0_off451 v1341) a + S8x128.size a ≤ S32768x128.size a := fun i v0 v1341 k0_hw354 k0_h2 => k0_hw354 k0_h2

def k0_off452 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_653 : BitVec 32 := 256#32
  let v1350 : BitVec 32 := Scalar.muli v129 c256_i32_653
  let c97_i32 : BitVec 32 := 97#32
  let v1351 : BitVec 32 := Scalar.addi v1350 c97_i32
  let v1352 : Index := Scalar.indexCast v1351
  ![v1352.toNat]
def k0_off453 (v1353 : BitVec 32) : Fin 2 → Nat :=
  let c3_i32_654 : BitVec 32 := 3#32
  let v1354 : BitVec 32 := Scalar.shrsi v1353 c3_i32_654
  let c4095_i32_655 : BitVec 32 := 4095#32
  let v1355 : BitVec 32 := Scalar.minsi v1354 c4095_i32_655
  let c8_i32_656 : BitVec 32 := 8#32
  let v1356 : BitVec 32 := Scalar.muli v1355 c8_i32_656
  let v1357 : Index := Scalar.indexCast v1356
  let c0_657 : Index := 0#32
  ![v1357.toNat, 0]

def k0_chk355 (i : grid0.Coords) (v0 : BitVec 32) (v1353 : BitVec 32) : Prop :=
  (∀ (k0_h2 : k0_cond2 i v0 = 1#1), ∀ a, (k0_off453 v1353) a + S8x128.size a ≤ S32768x128.size a)
theorem k0_off453_inb : ∀ (i : grid0.Coords) (v0 : BitVec 32) (v1353 : BitVec 32) (k0_hw355 : k0_chk355 i v0 v1353), ∀ (k0_h2 : k0_cond2 i v0 = 1#1), ∀ a, (k0_off453 v1353) a + S8x128.size a ≤ S32768x128.size a := fun i v0 v1353 k0_hw355 k0_h2 => k0_hw355 k0_h2

def k0_off454 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_659 : BitVec 32 := 256#32
  let v1362 : BitVec 32 := Scalar.muli v129 c256_i32_659
  let c98_i32 : BitVec 32 := 98#32
  let v1363 : BitVec 32 := Scalar.addi v1362 c98_i32
  let v1364 : Index := Scalar.indexCast v1363
  ![v1364.toNat]
def k0_off455 (v1365 : BitVec 32) : Fin 2 → Nat :=
  let c3_i32_660 : BitVec 32 := 3#32
  let v1366 : BitVec 32 := Scalar.shrsi v1365 c3_i32_660
  let c4095_i32_661 : BitVec 32 := 4095#32
  let v1367 : BitVec 32 := Scalar.minsi v1366 c4095_i32_661
  let c8_i32_662 : BitVec 32 := 8#32
  let v1368 : BitVec 32 := Scalar.muli v1367 c8_i32_662
  let v1369 : Index := Scalar.indexCast v1368
  let c0_663 : Index := 0#32
  ![v1369.toNat, 0]

def k0_chk356 (i : grid0.Coords) (v0 : BitVec 32) (v1365 : BitVec 32) : Prop :=
  (∀ (k0_h2 : k0_cond2 i v0 = 1#1), ∀ a, (k0_off455 v1365) a + S8x128.size a ≤ S32768x128.size a)
theorem k0_off455_inb : ∀ (i : grid0.Coords) (v0 : BitVec 32) (v1365 : BitVec 32) (k0_hw356 : k0_chk356 i v0 v1365), ∀ (k0_h2 : k0_cond2 i v0 = 1#1), ∀ a, (k0_off455 v1365) a + S8x128.size a ≤ S32768x128.size a := fun i v0 v1365 k0_hw356 k0_h2 => k0_hw356 k0_h2

def k0_off456 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_665 : BitVec 32 := 256#32
  let v1374 : BitVec 32 := Scalar.muli v129 c256_i32_665
  let c99_i32 : BitVec 32 := 99#32
  let v1375 : BitVec 32 := Scalar.addi v1374 c99_i32
  let v1376 : Index := Scalar.indexCast v1375
  ![v1376.toNat]
def k0_off457 (v1377 : BitVec 32) : Fin 2 → Nat :=
  let c3_i32_666 : BitVec 32 := 3#32
  let v1378 : BitVec 32 := Scalar.shrsi v1377 c3_i32_666
  let c4095_i32_667 : BitVec 32 := 4095#32
  let v1379 : BitVec 32 := Scalar.minsi v1378 c4095_i32_667
  let c8_i32_668 : BitVec 32 := 8#32
  let v1380 : BitVec 32 := Scalar.muli v1379 c8_i32_668
  let v1381 : Index := Scalar.indexCast v1380
  let c0_669 : Index := 0#32
  ![v1381.toNat, 0]

def k0_chk357 (i : grid0.Coords) (v0 : BitVec 32) (v1377 : BitVec 32) : Prop :=
  (∀ (k0_h2 : k0_cond2 i v0 = 1#1), ∀ a, (k0_off457 v1377) a + S8x128.size a ≤ S32768x128.size a)
theorem k0_off457_inb : ∀ (i : grid0.Coords) (v0 : BitVec 32) (v1377 : BitVec 32) (k0_hw357 : k0_chk357 i v0 v1377), ∀ (k0_h2 : k0_cond2 i v0 = 1#1), ∀ a, (k0_off457 v1377) a + S8x128.size a ≤ S32768x128.size a := fun i v0 v1377 k0_hw357 k0_h2 => k0_hw357 k0_h2

def k0_off458 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_671 : BitVec 32 := 256#32
  let v1386 : BitVec 32 := Scalar.muli v129 c256_i32_671
  let c100_i32 : BitVec 32 := 100#32
  let v1387 : BitVec 32 := Scalar.addi v1386 c100_i32
  let v1388 : Index := Scalar.indexCast v1387
  ![v1388.toNat]
def k0_off459 (v1389 : BitVec 32) : Fin 2 → Nat :=
  let c3_i32_672 : BitVec 32 := 3#32
  let v1390 : BitVec 32 := Scalar.shrsi v1389 c3_i32_672
  let c4095_i32_673 : BitVec 32 := 4095#32
  let v1391 : BitVec 32 := Scalar.minsi v1390 c4095_i32_673
  let c8_i32_674 : BitVec 32 := 8#32
  let v1392 : BitVec 32 := Scalar.muli v1391 c8_i32_674
  let v1393 : Index := Scalar.indexCast v1392
  let c0_675 : Index := 0#32
  ![v1393.toNat, 0]

def k0_chk358 (i : grid0.Coords) (v0 : BitVec 32) (v1389 : BitVec 32) : Prop :=
  (∀ (k0_h2 : k0_cond2 i v0 = 1#1), ∀ a, (k0_off459 v1389) a + S8x128.size a ≤ S32768x128.size a)
theorem k0_off459_inb : ∀ (i : grid0.Coords) (v0 : BitVec 32) (v1389 : BitVec 32) (k0_hw358 : k0_chk358 i v0 v1389), ∀ (k0_h2 : k0_cond2 i v0 = 1#1), ∀ a, (k0_off459 v1389) a + S8x128.size a ≤ S32768x128.size a := fun i v0 v1389 k0_hw358 k0_h2 => k0_hw358 k0_h2

def k0_off460 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_677 : BitVec 32 := 256#32
  let v1398 : BitVec 32 := Scalar.muli v129 c256_i32_677
  let c101_i32 : BitVec 32 := 101#32
  let v1399 : BitVec 32 := Scalar.addi v1398 c101_i32
  let v1400 : Index := Scalar.indexCast v1399
  ![v1400.toNat]
def k0_off461 (v1401 : BitVec 32) : Fin 2 → Nat :=
  let c3_i32_678 : BitVec 32 := 3#32
  let v1402 : BitVec 32 := Scalar.shrsi v1401 c3_i32_678
  let c4095_i32_679 : BitVec 32 := 4095#32
  let v1403 : BitVec 32 := Scalar.minsi v1402 c4095_i32_679
  let c8_i32_680 : BitVec 32 := 8#32
  let v1404 : BitVec 32 := Scalar.muli v1403 c8_i32_680
  let v1405 : Index := Scalar.indexCast v1404
  let c0_681 : Index := 0#32
  ![v1405.toNat, 0]

def k0_chk359 (i : grid0.Coords) (v0 : BitVec 32) (v1401 : BitVec 32) : Prop :=
  (∀ (k0_h2 : k0_cond2 i v0 = 1#1), ∀ a, (k0_off461 v1401) a + S8x128.size a ≤ S32768x128.size a)
theorem k0_off461_inb : ∀ (i : grid0.Coords) (v0 : BitVec 32) (v1401 : BitVec 32) (k0_hw359 : k0_chk359 i v0 v1401), ∀ (k0_h2 : k0_cond2 i v0 = 1#1), ∀ a, (k0_off461 v1401) a + S8x128.size a ≤ S32768x128.size a := fun i v0 v1401 k0_hw359 k0_h2 => k0_hw359 k0_h2

def k0_off462 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_683 : BitVec 32 := 256#32
  let v1410 : BitVec 32 := Scalar.muli v129 c256_i32_683
  let c102_i32 : BitVec 32 := 102#32
  let v1411 : BitVec 32 := Scalar.addi v1410 c102_i32
  let v1412 : Index := Scalar.indexCast v1411
  ![v1412.toNat]
def k0_off463 (v1413 : BitVec 32) : Fin 2 → Nat :=
  let c3_i32_684 : BitVec 32 := 3#32
  let v1414 : BitVec 32 := Scalar.shrsi v1413 c3_i32_684
  let c4095_i32_685 : BitVec 32 := 4095#32
  let v1415 : BitVec 32 := Scalar.minsi v1414 c4095_i32_685
  let c8_i32_686 : BitVec 32 := 8#32
  let v1416 : BitVec 32 := Scalar.muli v1415 c8_i32_686
  let v1417 : Index := Scalar.indexCast v1416
  let c0_687 : Index := 0#32
  ![v1417.toNat, 0]

def k0_chk360 (i : grid0.Coords) (v0 : BitVec 32) (v1413 : BitVec 32) : Prop :=
  (∀ (k0_h2 : k0_cond2 i v0 = 1#1), ∀ a, (k0_off463 v1413) a + S8x128.size a ≤ S32768x128.size a)
theorem k0_off463_inb : ∀ (i : grid0.Coords) (v0 : BitVec 32) (v1413 : BitVec 32) (k0_hw360 : k0_chk360 i v0 v1413), ∀ (k0_h2 : k0_cond2 i v0 = 1#1), ∀ a, (k0_off463 v1413) a + S8x128.size a ≤ S32768x128.size a := fun i v0 v1413 k0_hw360 k0_h2 => k0_hw360 k0_h2

def k0_off464 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_689 : BitVec 32 := 256#32
  let v1422 : BitVec 32 := Scalar.muli v129 c256_i32_689
  let c103_i32 : BitVec 32 := 103#32
  let v1423 : BitVec 32 := Scalar.addi v1422 c103_i32
  let v1424 : Index := Scalar.indexCast v1423
  ![v1424.toNat]
def k0_off465 (v1425 : BitVec 32) : Fin 2 → Nat :=
  let c3_i32_690 : BitVec 32 := 3#32
  let v1426 : BitVec 32 := Scalar.shrsi v1425 c3_i32_690
  let c4095_i32_691 : BitVec 32 := 4095#32
  let v1427 : BitVec 32 := Scalar.minsi v1426 c4095_i32_691
  let c8_i32_692 : BitVec 32 := 8#32
  let v1428 : BitVec 32 := Scalar.muli v1427 c8_i32_692
  let v1429 : Index := Scalar.indexCast v1428
  let c0_693 : Index := 0#32
  ![v1429.toNat, 0]

def k0_chk361 (i : grid0.Coords) (v0 : BitVec 32) (v1425 : BitVec 32) : Prop :=
  (∀ (k0_h2 : k0_cond2 i v0 = 1#1), ∀ a, (k0_off465 v1425) a + S8x128.size a ≤ S32768x128.size a)
theorem k0_off465_inb : ∀ (i : grid0.Coords) (v0 : BitVec 32) (v1425 : BitVec 32) (k0_hw361 : k0_chk361 i v0 v1425), ∀ (k0_h2 : k0_cond2 i v0 = 1#1), ∀ a, (k0_off465 v1425) a + S8x128.size a ≤ S32768x128.size a := fun i v0 v1425 k0_hw361 k0_h2 => k0_hw361 k0_h2

def k0_off466 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_695 : BitVec 32 := 256#32
  let v1434 : BitVec 32 := Scalar.muli v129 c256_i32_695
  let c104_i32 : BitVec 32 := 104#32
  let v1435 : BitVec 32 := Scalar.addi v1434 c104_i32
  let v1436 : Index := Scalar.indexCast v1435
  ![v1436.toNat]
def k0_off467 (v1437 : BitVec 32) : Fin 2 → Nat :=
  let c3_i32_696 : BitVec 32 := 3#32
  let v1438 : BitVec 32 := Scalar.shrsi v1437 c3_i32_696
  let c4095_i32_697 : BitVec 32 := 4095#32
  let v1439 : BitVec 32 := Scalar.minsi v1438 c4095_i32_697
  let c8_i32_698 : BitVec 32 := 8#32
  let v1440 : BitVec 32 := Scalar.muli v1439 c8_i32_698
  let v1441 : Index := Scalar.indexCast v1440
  let c0_699 : Index := 0#32
  ![v1441.toNat, 0]

def k0_chk362 (i : grid0.Coords) (v0 : BitVec 32) (v1437 : BitVec 32) : Prop :=
  (∀ (k0_h2 : k0_cond2 i v0 = 1#1), ∀ a, (k0_off467 v1437) a + S8x128.size a ≤ S32768x128.size a)
theorem k0_off467_inb : ∀ (i : grid0.Coords) (v0 : BitVec 32) (v1437 : BitVec 32) (k0_hw362 : k0_chk362 i v0 v1437), ∀ (k0_h2 : k0_cond2 i v0 = 1#1), ∀ a, (k0_off467 v1437) a + S8x128.size a ≤ S32768x128.size a := fun i v0 v1437 k0_hw362 k0_h2 => k0_hw362 k0_h2

def k0_off468 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_701 : BitVec 32 := 256#32
  let v1446 : BitVec 32 := Scalar.muli v129 c256_i32_701
  let c105_i32 : BitVec 32 := 105#32
  let v1447 : BitVec 32 := Scalar.addi v1446 c105_i32
  let v1448 : Index := Scalar.indexCast v1447
  ![v1448.toNat]
def k0_off469 (v1449 : BitVec 32) : Fin 2 → Nat :=
  let c3_i32_702 : BitVec 32 := 3#32
  let v1450 : BitVec 32 := Scalar.shrsi v1449 c3_i32_702
  let c4095_i32_703 : BitVec 32 := 4095#32
  let v1451 : BitVec 32 := Scalar.minsi v1450 c4095_i32_703
  let c8_i32_704 : BitVec 32 := 8#32
  let v1452 : BitVec 32 := Scalar.muli v1451 c8_i32_704
  let v1453 : Index := Scalar.indexCast v1452
  let c0_705 : Index := 0#32
  ![v1453.toNat, 0]

def k0_chk363 (i : grid0.Coords) (v0 : BitVec 32) (v1449 : BitVec 32) : Prop :=
  (∀ (k0_h2 : k0_cond2 i v0 = 1#1), ∀ a, (k0_off469 v1449) a + S8x128.size a ≤ S32768x128.size a)
theorem k0_off469_inb : ∀ (i : grid0.Coords) (v0 : BitVec 32) (v1449 : BitVec 32) (k0_hw363 : k0_chk363 i v0 v1449), ∀ (k0_h2 : k0_cond2 i v0 = 1#1), ∀ a, (k0_off469 v1449) a + S8x128.size a ≤ S32768x128.size a := fun i v0 v1449 k0_hw363 k0_h2 => k0_hw363 k0_h2

def k0_off470 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_707 : BitVec 32 := 256#32
  let v1458 : BitVec 32 := Scalar.muli v129 c256_i32_707
  let c106_i32 : BitVec 32 := 106#32
  let v1459 : BitVec 32 := Scalar.addi v1458 c106_i32
  let v1460 : Index := Scalar.indexCast v1459
  ![v1460.toNat]
def k0_off471 (v1461 : BitVec 32) : Fin 2 → Nat :=
  let c3_i32_708 : BitVec 32 := 3#32
  let v1462 : BitVec 32 := Scalar.shrsi v1461 c3_i32_708
  let c4095_i32_709 : BitVec 32 := 4095#32
  let v1463 : BitVec 32 := Scalar.minsi v1462 c4095_i32_709
  let c8_i32_710 : BitVec 32 := 8#32
  let v1464 : BitVec 32 := Scalar.muli v1463 c8_i32_710
  let v1465 : Index := Scalar.indexCast v1464
  let c0_711 : Index := 0#32
  ![v1465.toNat, 0]

def k0_chk364 (i : grid0.Coords) (v0 : BitVec 32) (v1461 : BitVec 32) : Prop :=
  (∀ (k0_h2 : k0_cond2 i v0 = 1#1), ∀ a, (k0_off471 v1461) a + S8x128.size a ≤ S32768x128.size a)
theorem k0_off471_inb : ∀ (i : grid0.Coords) (v0 : BitVec 32) (v1461 : BitVec 32) (k0_hw364 : k0_chk364 i v0 v1461), ∀ (k0_h2 : k0_cond2 i v0 = 1#1), ∀ a, (k0_off471 v1461) a + S8x128.size a ≤ S32768x128.size a := fun i v0 v1461 k0_hw364 k0_h2 => k0_hw364 k0_h2

def k0_off472 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_713 : BitVec 32 := 256#32
  let v1470 : BitVec 32 := Scalar.muli v129 c256_i32_713
  let c107_i32 : BitVec 32 := 107#32
  let v1471 : BitVec 32 := Scalar.addi v1470 c107_i32
  let v1472 : Index := Scalar.indexCast v1471
  ![v1472.toNat]
def k0_off473 (v1473 : BitVec 32) : Fin 2 → Nat :=
  let c3_i32_714 : BitVec 32 := 3#32
  let v1474 : BitVec 32 := Scalar.shrsi v1473 c3_i32_714
  let c4095_i32_715 : BitVec 32 := 4095#32
  let v1475 : BitVec 32 := Scalar.minsi v1474 c4095_i32_715
  let c8_i32_716 : BitVec 32 := 8#32
  let v1476 : BitVec 32 := Scalar.muli v1475 c8_i32_716
  let v1477 : Index := Scalar.indexCast v1476
  let c0_717 : Index := 0#32
  ![v1477.toNat, 0]

def k0_chk365 (i : grid0.Coords) (v0 : BitVec 32) (v1473 : BitVec 32) : Prop :=
  (∀ (k0_h2 : k0_cond2 i v0 = 1#1), ∀ a, (k0_off473 v1473) a + S8x128.size a ≤ S32768x128.size a)
theorem k0_off473_inb : ∀ (i : grid0.Coords) (v0 : BitVec 32) (v1473 : BitVec 32) (k0_hw365 : k0_chk365 i v0 v1473), ∀ (k0_h2 : k0_cond2 i v0 = 1#1), ∀ a, (k0_off473 v1473) a + S8x128.size a ≤ S32768x128.size a := fun i v0 v1473 k0_hw365 k0_h2 => k0_hw365 k0_h2

def k0_off474 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_719 : BitVec 32 := 256#32
  let v1482 : BitVec 32 := Scalar.muli v129 c256_i32_719
  let c108_i32 : BitVec 32 := 108#32
  let v1483 : BitVec 32 := Scalar.addi v1482 c108_i32
  let v1484 : Index := Scalar.indexCast v1483
  ![v1484.toNat]
def k0_off475 (v1485 : BitVec 32) : Fin 2 → Nat :=
  let c3_i32_720 : BitVec 32 := 3#32
  let v1486 : BitVec 32 := Scalar.shrsi v1485 c3_i32_720
  let c4095_i32_721 : BitVec 32 := 4095#32
  let v1487 : BitVec 32 := Scalar.minsi v1486 c4095_i32_721
  let c8_i32_722 : BitVec 32 := 8#32
  let v1488 : BitVec 32 := Scalar.muli v1487 c8_i32_722
  let v1489 : Index := Scalar.indexCast v1488
  let c0_723 : Index := 0#32
  ![v1489.toNat, 0]

def k0_chk366 (i : grid0.Coords) (v0 : BitVec 32) (v1485 : BitVec 32) : Prop :=
  (∀ (k0_h2 : k0_cond2 i v0 = 1#1), ∀ a, (k0_off475 v1485) a + S8x128.size a ≤ S32768x128.size a)
theorem k0_off475_inb : ∀ (i : grid0.Coords) (v0 : BitVec 32) (v1485 : BitVec 32) (k0_hw366 : k0_chk366 i v0 v1485), ∀ (k0_h2 : k0_cond2 i v0 = 1#1), ∀ a, (k0_off475 v1485) a + S8x128.size a ≤ S32768x128.size a := fun i v0 v1485 k0_hw366 k0_h2 => k0_hw366 k0_h2

def k0_off476 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_725 : BitVec 32 := 256#32
  let v1494 : BitVec 32 := Scalar.muli v129 c256_i32_725
  let c109_i32 : BitVec 32 := 109#32
  let v1495 : BitVec 32 := Scalar.addi v1494 c109_i32
  let v1496 : Index := Scalar.indexCast v1495
  ![v1496.toNat]
def k0_off477 (v1497 : BitVec 32) : Fin 2 → Nat :=
  let c3_i32_726 : BitVec 32 := 3#32
  let v1498 : BitVec 32 := Scalar.shrsi v1497 c3_i32_726
  let c4095_i32_727 : BitVec 32 := 4095#32
  let v1499 : BitVec 32 := Scalar.minsi v1498 c4095_i32_727
  let c8_i32_728 : BitVec 32 := 8#32
  let v1500 : BitVec 32 := Scalar.muli v1499 c8_i32_728
  let v1501 : Index := Scalar.indexCast v1500
  let c0_729 : Index := 0#32
  ![v1501.toNat, 0]

def k0_chk367 (i : grid0.Coords) (v0 : BitVec 32) (v1497 : BitVec 32) : Prop :=
  (∀ (k0_h2 : k0_cond2 i v0 = 1#1), ∀ a, (k0_off477 v1497) a + S8x128.size a ≤ S32768x128.size a)
theorem k0_off477_inb : ∀ (i : grid0.Coords) (v0 : BitVec 32) (v1497 : BitVec 32) (k0_hw367 : k0_chk367 i v0 v1497), ∀ (k0_h2 : k0_cond2 i v0 = 1#1), ∀ a, (k0_off477 v1497) a + S8x128.size a ≤ S32768x128.size a := fun i v0 v1497 k0_hw367 k0_h2 => k0_hw367 k0_h2

def k0_off478 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_731 : BitVec 32 := 256#32
  let v1506 : BitVec 32 := Scalar.muli v129 c256_i32_731
  let c110_i32 : BitVec 32 := 110#32
  let v1507 : BitVec 32 := Scalar.addi v1506 c110_i32
  let v1508 : Index := Scalar.indexCast v1507
  ![v1508.toNat]
def k0_off479 (v1509 : BitVec 32) : Fin 2 → Nat :=
  let c3_i32_732 : BitVec 32 := 3#32
  let v1510 : BitVec 32 := Scalar.shrsi v1509 c3_i32_732
  let c4095_i32_733 : BitVec 32 := 4095#32
  let v1511 : BitVec 32 := Scalar.minsi v1510 c4095_i32_733
  let c8_i32_734 : BitVec 32 := 8#32
  let v1512 : BitVec 32 := Scalar.muli v1511 c8_i32_734
  let v1513 : Index := Scalar.indexCast v1512
  let c0_735 : Index := 0#32
  ![v1513.toNat, 0]

def k0_chk368 (i : grid0.Coords) (v0 : BitVec 32) (v1509 : BitVec 32) : Prop :=
  (∀ (k0_h2 : k0_cond2 i v0 = 1#1), ∀ a, (k0_off479 v1509) a + S8x128.size a ≤ S32768x128.size a)
theorem k0_off479_inb : ∀ (i : grid0.Coords) (v0 : BitVec 32) (v1509 : BitVec 32) (k0_hw368 : k0_chk368 i v0 v1509), ∀ (k0_h2 : k0_cond2 i v0 = 1#1), ∀ a, (k0_off479 v1509) a + S8x128.size a ≤ S32768x128.size a := fun i v0 v1509 k0_hw368 k0_h2 => k0_hw368 k0_h2

def k0_off480 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_737 : BitVec 32 := 256#32
  let v1518 : BitVec 32 := Scalar.muli v129 c256_i32_737
  let c111_i32 : BitVec 32 := 111#32
  let v1519 : BitVec 32 := Scalar.addi v1518 c111_i32
  let v1520 : Index := Scalar.indexCast v1519
  ![v1520.toNat]
def k0_off481 (v1521 : BitVec 32) : Fin 2 → Nat :=
  let c3_i32_738 : BitVec 32 := 3#32
  let v1522 : BitVec 32 := Scalar.shrsi v1521 c3_i32_738
  let c4095_i32_739 : BitVec 32 := 4095#32
  let v1523 : BitVec 32 := Scalar.minsi v1522 c4095_i32_739
  let c8_i32_740 : BitVec 32 := 8#32
  let v1524 : BitVec 32 := Scalar.muli v1523 c8_i32_740
  let v1525 : Index := Scalar.indexCast v1524
  let c0_741 : Index := 0#32
  ![v1525.toNat, 0]

def k0_chk369 (i : grid0.Coords) (v0 : BitVec 32) (v1521 : BitVec 32) : Prop :=
  (∀ (k0_h2 : k0_cond2 i v0 = 1#1), ∀ a, (k0_off481 v1521) a + S8x128.size a ≤ S32768x128.size a)
theorem k0_off481_inb : ∀ (i : grid0.Coords) (v0 : BitVec 32) (v1521 : BitVec 32) (k0_hw369 : k0_chk369 i v0 v1521), ∀ (k0_h2 : k0_cond2 i v0 = 1#1), ∀ a, (k0_off481 v1521) a + S8x128.size a ≤ S32768x128.size a := fun i v0 v1521 k0_hw369 k0_h2 => k0_hw369 k0_h2

def k0_off482 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_743 : BitVec 32 := 256#32
  let v1530 : BitVec 32 := Scalar.muli v129 c256_i32_743
  let c112_i32 : BitVec 32 := 112#32
  let v1531 : BitVec 32 := Scalar.addi v1530 c112_i32
  let v1532 : Index := Scalar.indexCast v1531
  ![v1532.toNat]
def k0_off483 (v1533 : BitVec 32) : Fin 2 → Nat :=
  let c3_i32_744 : BitVec 32 := 3#32
  let v1534 : BitVec 32 := Scalar.shrsi v1533 c3_i32_744
  let c4095_i32_745 : BitVec 32 := 4095#32
  let v1535 : BitVec 32 := Scalar.minsi v1534 c4095_i32_745
  let c8_i32_746 : BitVec 32 := 8#32
  let v1536 : BitVec 32 := Scalar.muli v1535 c8_i32_746
  let v1537 : Index := Scalar.indexCast v1536
  let c0_747 : Index := 0#32
  ![v1537.toNat, 0]

def k0_chk370 (i : grid0.Coords) (v0 : BitVec 32) (v1533 : BitVec 32) : Prop :=
  (∀ (k0_h2 : k0_cond2 i v0 = 1#1), ∀ a, (k0_off483 v1533) a + S8x128.size a ≤ S32768x128.size a)
theorem k0_off483_inb : ∀ (i : grid0.Coords) (v0 : BitVec 32) (v1533 : BitVec 32) (k0_hw370 : k0_chk370 i v0 v1533), ∀ (k0_h2 : k0_cond2 i v0 = 1#1), ∀ a, (k0_off483 v1533) a + S8x128.size a ≤ S32768x128.size a := fun i v0 v1533 k0_hw370 k0_h2 => k0_hw370 k0_h2

def k0_off484 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_749 : BitVec 32 := 256#32
  let v1542 : BitVec 32 := Scalar.muli v129 c256_i32_749
  let c113_i32 : BitVec 32 := 113#32
  let v1543 : BitVec 32 := Scalar.addi v1542 c113_i32
  let v1544 : Index := Scalar.indexCast v1543
  ![v1544.toNat]
def k0_off485 (v1545 : BitVec 32) : Fin 2 → Nat :=
  let c3_i32_750 : BitVec 32 := 3#32
  let v1546 : BitVec 32 := Scalar.shrsi v1545 c3_i32_750
  let c4095_i32_751 : BitVec 32 := 4095#32
  let v1547 : BitVec 32 := Scalar.minsi v1546 c4095_i32_751
  let c8_i32_752 : BitVec 32 := 8#32
  let v1548 : BitVec 32 := Scalar.muli v1547 c8_i32_752
  let v1549 : Index := Scalar.indexCast v1548
  let c0_753 : Index := 0#32
  ![v1549.toNat, 0]

def k0_chk371 (i : grid0.Coords) (v0 : BitVec 32) (v1545 : BitVec 32) : Prop :=
  (∀ (k0_h2 : k0_cond2 i v0 = 1#1), ∀ a, (k0_off485 v1545) a + S8x128.size a ≤ S32768x128.size a)
theorem k0_off485_inb : ∀ (i : grid0.Coords) (v0 : BitVec 32) (v1545 : BitVec 32) (k0_hw371 : k0_chk371 i v0 v1545), ∀ (k0_h2 : k0_cond2 i v0 = 1#1), ∀ a, (k0_off485 v1545) a + S8x128.size a ≤ S32768x128.size a := fun i v0 v1545 k0_hw371 k0_h2 => k0_hw371 k0_h2

def k0_off486 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_755 : BitVec 32 := 256#32
  let v1554 : BitVec 32 := Scalar.muli v129 c256_i32_755
  let c114_i32 : BitVec 32 := 114#32
  let v1555 : BitVec 32 := Scalar.addi v1554 c114_i32
  let v1556 : Index := Scalar.indexCast v1555
  ![v1556.toNat]
def k0_off487 (v1557 : BitVec 32) : Fin 2 → Nat :=
  let c3_i32_756 : BitVec 32 := 3#32
  let v1558 : BitVec 32 := Scalar.shrsi v1557 c3_i32_756
  let c4095_i32_757 : BitVec 32 := 4095#32
  let v1559 : BitVec 32 := Scalar.minsi v1558 c4095_i32_757
  let c8_i32_758 : BitVec 32 := 8#32
  let v1560 : BitVec 32 := Scalar.muli v1559 c8_i32_758
  let v1561 : Index := Scalar.indexCast v1560
  let c0_759 : Index := 0#32
  ![v1561.toNat, 0]

def k0_chk372 (i : grid0.Coords) (v0 : BitVec 32) (v1557 : BitVec 32) : Prop :=
  (∀ (k0_h2 : k0_cond2 i v0 = 1#1), ∀ a, (k0_off487 v1557) a + S8x128.size a ≤ S32768x128.size a)
theorem k0_off487_inb : ∀ (i : grid0.Coords) (v0 : BitVec 32) (v1557 : BitVec 32) (k0_hw372 : k0_chk372 i v0 v1557), ∀ (k0_h2 : k0_cond2 i v0 = 1#1), ∀ a, (k0_off487 v1557) a + S8x128.size a ≤ S32768x128.size a := fun i v0 v1557 k0_hw372 k0_h2 => k0_hw372 k0_h2

def k0_off488 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_761 : BitVec 32 := 256#32
  let v1566 : BitVec 32 := Scalar.muli v129 c256_i32_761
  let c115_i32 : BitVec 32 := 115#32
  let v1567 : BitVec 32 := Scalar.addi v1566 c115_i32
  let v1568 : Index := Scalar.indexCast v1567
  ![v1568.toNat]
def k0_off489 (v1569 : BitVec 32) : Fin 2 → Nat :=
  let c3_i32_762 : BitVec 32 := 3#32
  let v1570 : BitVec 32 := Scalar.shrsi v1569 c3_i32_762
  let c4095_i32_763 : BitVec 32 := 4095#32
  let v1571 : BitVec 32 := Scalar.minsi v1570 c4095_i32_763
  let c8_i32_764 : BitVec 32 := 8#32
  let v1572 : BitVec 32 := Scalar.muli v1571 c8_i32_764
  let v1573 : Index := Scalar.indexCast v1572
  let c0_765 : Index := 0#32
  ![v1573.toNat, 0]

def k0_chk373 (i : grid0.Coords) (v0 : BitVec 32) (v1569 : BitVec 32) : Prop :=
  (∀ (k0_h2 : k0_cond2 i v0 = 1#1), ∀ a, (k0_off489 v1569) a + S8x128.size a ≤ S32768x128.size a)
theorem k0_off489_inb : ∀ (i : grid0.Coords) (v0 : BitVec 32) (v1569 : BitVec 32) (k0_hw373 : k0_chk373 i v0 v1569), ∀ (k0_h2 : k0_cond2 i v0 = 1#1), ∀ a, (k0_off489 v1569) a + S8x128.size a ≤ S32768x128.size a := fun i v0 v1569 k0_hw373 k0_h2 => k0_hw373 k0_h2

def k0_off490 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_767 : BitVec 32 := 256#32
  let v1578 : BitVec 32 := Scalar.muli v129 c256_i32_767
  let c116_i32 : BitVec 32 := 116#32
  let v1579 : BitVec 32 := Scalar.addi v1578 c116_i32
  let v1580 : Index := Scalar.indexCast v1579
  ![v1580.toNat]
def k0_off491 (v1581 : BitVec 32) : Fin 2 → Nat :=
  let c3_i32_768 : BitVec 32 := 3#32
  let v1582 : BitVec 32 := Scalar.shrsi v1581 c3_i32_768
  let c4095_i32_769 : BitVec 32 := 4095#32
  let v1583 : BitVec 32 := Scalar.minsi v1582 c4095_i32_769
  let c8_i32_770 : BitVec 32 := 8#32
  let v1584 : BitVec 32 := Scalar.muli v1583 c8_i32_770
  let v1585 : Index := Scalar.indexCast v1584
  let c0_771 : Index := 0#32
  ![v1585.toNat, 0]

def k0_chk374 (i : grid0.Coords) (v0 : BitVec 32) (v1581 : BitVec 32) : Prop :=
  (∀ (k0_h2 : k0_cond2 i v0 = 1#1), ∀ a, (k0_off491 v1581) a + S8x128.size a ≤ S32768x128.size a)
theorem k0_off491_inb : ∀ (i : grid0.Coords) (v0 : BitVec 32) (v1581 : BitVec 32) (k0_hw374 : k0_chk374 i v0 v1581), ∀ (k0_h2 : k0_cond2 i v0 = 1#1), ∀ a, (k0_off491 v1581) a + S8x128.size a ≤ S32768x128.size a := fun i v0 v1581 k0_hw374 k0_h2 => k0_hw374 k0_h2

def k0_off492 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_773 : BitVec 32 := 256#32
  let v1590 : BitVec 32 := Scalar.muli v129 c256_i32_773
  let c117_i32 : BitVec 32 := 117#32
  let v1591 : BitVec 32 := Scalar.addi v1590 c117_i32
  let v1592 : Index := Scalar.indexCast v1591
  ![v1592.toNat]
def k0_off493 (v1593 : BitVec 32) : Fin 2 → Nat :=
  let c3_i32_774 : BitVec 32 := 3#32
  let v1594 : BitVec 32 := Scalar.shrsi v1593 c3_i32_774
  let c4095_i32_775 : BitVec 32 := 4095#32
  let v1595 : BitVec 32 := Scalar.minsi v1594 c4095_i32_775
  let c8_i32_776 : BitVec 32 := 8#32
  let v1596 : BitVec 32 := Scalar.muli v1595 c8_i32_776
  let v1597 : Index := Scalar.indexCast v1596
  let c0_777 : Index := 0#32
  ![v1597.toNat, 0]

def k0_chk375 (i : grid0.Coords) (v0 : BitVec 32) (v1593 : BitVec 32) : Prop :=
  (∀ (k0_h2 : k0_cond2 i v0 = 1#1), ∀ a, (k0_off493 v1593) a + S8x128.size a ≤ S32768x128.size a)
theorem k0_off493_inb : ∀ (i : grid0.Coords) (v0 : BitVec 32) (v1593 : BitVec 32) (k0_hw375 : k0_chk375 i v0 v1593), ∀ (k0_h2 : k0_cond2 i v0 = 1#1), ∀ a, (k0_off493 v1593) a + S8x128.size a ≤ S32768x128.size a := fun i v0 v1593 k0_hw375 k0_h2 => k0_hw375 k0_h2

def k0_off494 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_779 : BitVec 32 := 256#32
  let v1602 : BitVec 32 := Scalar.muli v129 c256_i32_779
  let c118_i32 : BitVec 32 := 118#32
  let v1603 : BitVec 32 := Scalar.addi v1602 c118_i32
  let v1604 : Index := Scalar.indexCast v1603
  ![v1604.toNat]
def k0_off495 (v1605 : BitVec 32) : Fin 2 → Nat :=
  let c3_i32_780 : BitVec 32 := 3#32
  let v1606 : BitVec 32 := Scalar.shrsi v1605 c3_i32_780
  let c4095_i32_781 : BitVec 32 := 4095#32
  let v1607 : BitVec 32 := Scalar.minsi v1606 c4095_i32_781
  let c8_i32_782 : BitVec 32 := 8#32
  let v1608 : BitVec 32 := Scalar.muli v1607 c8_i32_782
  let v1609 : Index := Scalar.indexCast v1608
  let c0_783 : Index := 0#32
  ![v1609.toNat, 0]

def k0_chk376 (i : grid0.Coords) (v0 : BitVec 32) (v1605 : BitVec 32) : Prop :=
  (∀ (k0_h2 : k0_cond2 i v0 = 1#1), ∀ a, (k0_off495 v1605) a + S8x128.size a ≤ S32768x128.size a)
theorem k0_off495_inb : ∀ (i : grid0.Coords) (v0 : BitVec 32) (v1605 : BitVec 32) (k0_hw376 : k0_chk376 i v0 v1605), ∀ (k0_h2 : k0_cond2 i v0 = 1#1), ∀ a, (k0_off495 v1605) a + S8x128.size a ≤ S32768x128.size a := fun i v0 v1605 k0_hw376 k0_h2 => k0_hw376 k0_h2

def k0_off496 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_785 : BitVec 32 := 256#32
  let v1614 : BitVec 32 := Scalar.muli v129 c256_i32_785
  let c119_i32 : BitVec 32 := 119#32
  let v1615 : BitVec 32 := Scalar.addi v1614 c119_i32
  let v1616 : Index := Scalar.indexCast v1615
  ![v1616.toNat]
def k0_off497 (v1617 : BitVec 32) : Fin 2 → Nat :=
  let c3_i32_786 : BitVec 32 := 3#32
  let v1618 : BitVec 32 := Scalar.shrsi v1617 c3_i32_786
  let c4095_i32_787 : BitVec 32 := 4095#32
  let v1619 : BitVec 32 := Scalar.minsi v1618 c4095_i32_787
  let c8_i32_788 : BitVec 32 := 8#32
  let v1620 : BitVec 32 := Scalar.muli v1619 c8_i32_788
  let v1621 : Index := Scalar.indexCast v1620
  let c0_789 : Index := 0#32
  ![v1621.toNat, 0]

def k0_chk377 (i : grid0.Coords) (v0 : BitVec 32) (v1617 : BitVec 32) : Prop :=
  (∀ (k0_h2 : k0_cond2 i v0 = 1#1), ∀ a, (k0_off497 v1617) a + S8x128.size a ≤ S32768x128.size a)
theorem k0_off497_inb : ∀ (i : grid0.Coords) (v0 : BitVec 32) (v1617 : BitVec 32) (k0_hw377 : k0_chk377 i v0 v1617), ∀ (k0_h2 : k0_cond2 i v0 = 1#1), ∀ a, (k0_off497 v1617) a + S8x128.size a ≤ S32768x128.size a := fun i v0 v1617 k0_hw377 k0_h2 => k0_hw377 k0_h2

def k0_off498 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_791 : BitVec 32 := 256#32
  let v1626 : BitVec 32 := Scalar.muli v129 c256_i32_791
  let c120_i32 : BitVec 32 := 120#32
  let v1627 : BitVec 32 := Scalar.addi v1626 c120_i32
  let v1628 : Index := Scalar.indexCast v1627
  ![v1628.toNat]
def k0_off499 (v1629 : BitVec 32) : Fin 2 → Nat :=
  let c3_i32_792 : BitVec 32 := 3#32
  let v1630 : BitVec 32 := Scalar.shrsi v1629 c3_i32_792
  let c4095_i32_793 : BitVec 32 := 4095#32
  let v1631 : BitVec 32 := Scalar.minsi v1630 c4095_i32_793
  let c8_i32_794 : BitVec 32 := 8#32
  let v1632 : BitVec 32 := Scalar.muli v1631 c8_i32_794
  let v1633 : Index := Scalar.indexCast v1632
  let c0_795 : Index := 0#32
  ![v1633.toNat, 0]

def k0_chk378 (i : grid0.Coords) (v0 : BitVec 32) (v1629 : BitVec 32) : Prop :=
  (∀ (k0_h2 : k0_cond2 i v0 = 1#1), ∀ a, (k0_off499 v1629) a + S8x128.size a ≤ S32768x128.size a)
theorem k0_off499_inb : ∀ (i : grid0.Coords) (v0 : BitVec 32) (v1629 : BitVec 32) (k0_hw378 : k0_chk378 i v0 v1629), ∀ (k0_h2 : k0_cond2 i v0 = 1#1), ∀ a, (k0_off499 v1629) a + S8x128.size a ≤ S32768x128.size a := fun i v0 v1629 k0_hw378 k0_h2 => k0_hw378 k0_h2

def k0_off500 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_797 : BitVec 32 := 256#32
  let v1638 : BitVec 32 := Scalar.muli v129 c256_i32_797
  let c121_i32 : BitVec 32 := 121#32
  let v1639 : BitVec 32 := Scalar.addi v1638 c121_i32
  let v1640 : Index := Scalar.indexCast v1639
  ![v1640.toNat]
def k0_off501 (v1641 : BitVec 32) : Fin 2 → Nat :=
  let c3_i32_798 : BitVec 32 := 3#32
  let v1642 : BitVec 32 := Scalar.shrsi v1641 c3_i32_798
  let c4095_i32_799 : BitVec 32 := 4095#32
  let v1643 : BitVec 32 := Scalar.minsi v1642 c4095_i32_799
  let c8_i32_800 : BitVec 32 := 8#32
  let v1644 : BitVec 32 := Scalar.muli v1643 c8_i32_800
  let v1645 : Index := Scalar.indexCast v1644
  let c0_801 : Index := 0#32
  ![v1645.toNat, 0]

def k0_chk379 (i : grid0.Coords) (v0 : BitVec 32) (v1641 : BitVec 32) : Prop :=
  (∀ (k0_h2 : k0_cond2 i v0 = 1#1), ∀ a, (k0_off501 v1641) a + S8x128.size a ≤ S32768x128.size a)
theorem k0_off501_inb : ∀ (i : grid0.Coords) (v0 : BitVec 32) (v1641 : BitVec 32) (k0_hw379 : k0_chk379 i v0 v1641), ∀ (k0_h2 : k0_cond2 i v0 = 1#1), ∀ a, (k0_off501 v1641) a + S8x128.size a ≤ S32768x128.size a := fun i v0 v1641 k0_hw379 k0_h2 => k0_hw379 k0_h2

def k0_off502 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_803 : BitVec 32 := 256#32
  let v1650 : BitVec 32 := Scalar.muli v129 c256_i32_803
  let c122_i32 : BitVec 32 := 122#32
  let v1651 : BitVec 32 := Scalar.addi v1650 c122_i32
  let v1652 : Index := Scalar.indexCast v1651
  ![v1652.toNat]
def k0_off503 (v1653 : BitVec 32) : Fin 2 → Nat :=
  let c3_i32_804 : BitVec 32 := 3#32
  let v1654 : BitVec 32 := Scalar.shrsi v1653 c3_i32_804
  let c4095_i32_805 : BitVec 32 := 4095#32
  let v1655 : BitVec 32 := Scalar.minsi v1654 c4095_i32_805
  let c8_i32_806 : BitVec 32 := 8#32
  let v1656 : BitVec 32 := Scalar.muli v1655 c8_i32_806
  let v1657 : Index := Scalar.indexCast v1656
  let c0_807 : Index := 0#32
  ![v1657.toNat, 0]

def k0_chk380 (i : grid0.Coords) (v0 : BitVec 32) (v1653 : BitVec 32) : Prop :=
  (∀ (k0_h2 : k0_cond2 i v0 = 1#1), ∀ a, (k0_off503 v1653) a + S8x128.size a ≤ S32768x128.size a)
theorem k0_off503_inb : ∀ (i : grid0.Coords) (v0 : BitVec 32) (v1653 : BitVec 32) (k0_hw380 : k0_chk380 i v0 v1653), ∀ (k0_h2 : k0_cond2 i v0 = 1#1), ∀ a, (k0_off503 v1653) a + S8x128.size a ≤ S32768x128.size a := fun i v0 v1653 k0_hw380 k0_h2 => k0_hw380 k0_h2

def k0_off504 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_809 : BitVec 32 := 256#32
  let v1662 : BitVec 32 := Scalar.muli v129 c256_i32_809
  let c123_i32 : BitVec 32 := 123#32
  let v1663 : BitVec 32 := Scalar.addi v1662 c123_i32
  let v1664 : Index := Scalar.indexCast v1663
  ![v1664.toNat]
def k0_off505 (v1665 : BitVec 32) : Fin 2 → Nat :=
  let c3_i32_810 : BitVec 32 := 3#32
  let v1666 : BitVec 32 := Scalar.shrsi v1665 c3_i32_810
  let c4095_i32_811 : BitVec 32 := 4095#32
  let v1667 : BitVec 32 := Scalar.minsi v1666 c4095_i32_811
  let c8_i32_812 : BitVec 32 := 8#32
  let v1668 : BitVec 32 := Scalar.muli v1667 c8_i32_812
  let v1669 : Index := Scalar.indexCast v1668
  let c0_813 : Index := 0#32
  ![v1669.toNat, 0]

def k0_chk381 (i : grid0.Coords) (v0 : BitVec 32) (v1665 : BitVec 32) : Prop :=
  (∀ (k0_h2 : k0_cond2 i v0 = 1#1), ∀ a, (k0_off505 v1665) a + S8x128.size a ≤ S32768x128.size a)
theorem k0_off505_inb : ∀ (i : grid0.Coords) (v0 : BitVec 32) (v1665 : BitVec 32) (k0_hw381 : k0_chk381 i v0 v1665), ∀ (k0_h2 : k0_cond2 i v0 = 1#1), ∀ a, (k0_off505 v1665) a + S8x128.size a ≤ S32768x128.size a := fun i v0 v1665 k0_hw381 k0_h2 => k0_hw381 k0_h2

def k0_off506 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_815 : BitVec 32 := 256#32
  let v1674 : BitVec 32 := Scalar.muli v129 c256_i32_815
  let c124_i32 : BitVec 32 := 124#32
  let v1675 : BitVec 32 := Scalar.addi v1674 c124_i32
  let v1676 : Index := Scalar.indexCast v1675
  ![v1676.toNat]
def k0_off507 (v1677 : BitVec 32) : Fin 2 → Nat :=
  let c3_i32_816 : BitVec 32 := 3#32
  let v1678 : BitVec 32 := Scalar.shrsi v1677 c3_i32_816
  let c4095_i32_817 : BitVec 32 := 4095#32
  let v1679 : BitVec 32 := Scalar.minsi v1678 c4095_i32_817
  let c8_i32_818 : BitVec 32 := 8#32
  let v1680 : BitVec 32 := Scalar.muli v1679 c8_i32_818
  let v1681 : Index := Scalar.indexCast v1680
  let c0_819 : Index := 0#32
  ![v1681.toNat, 0]

def k0_chk382 (i : grid0.Coords) (v0 : BitVec 32) (v1677 : BitVec 32) : Prop :=
  (∀ (k0_h2 : k0_cond2 i v0 = 1#1), ∀ a, (k0_off507 v1677) a + S8x128.size a ≤ S32768x128.size a)
theorem k0_off507_inb : ∀ (i : grid0.Coords) (v0 : BitVec 32) (v1677 : BitVec 32) (k0_hw382 : k0_chk382 i v0 v1677), ∀ (k0_h2 : k0_cond2 i v0 = 1#1), ∀ a, (k0_off507 v1677) a + S8x128.size a ≤ S32768x128.size a := fun i v0 v1677 k0_hw382 k0_h2 => k0_hw382 k0_h2

def k0_off508 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_821 : BitVec 32 := 256#32
  let v1686 : BitVec 32 := Scalar.muli v129 c256_i32_821
  let c125_i32 : BitVec 32 := 125#32
  let v1687 : BitVec 32 := Scalar.addi v1686 c125_i32
  let v1688 : Index := Scalar.indexCast v1687
  ![v1688.toNat]
def k0_off509 (v1689 : BitVec 32) : Fin 2 → Nat :=
  let c3_i32_822 : BitVec 32 := 3#32
  let v1690 : BitVec 32 := Scalar.shrsi v1689 c3_i32_822
  let c4095_i32_823 : BitVec 32 := 4095#32
  let v1691 : BitVec 32 := Scalar.minsi v1690 c4095_i32_823
  let c8_i32_824 : BitVec 32 := 8#32
  let v1692 : BitVec 32 := Scalar.muli v1691 c8_i32_824
  let v1693 : Index := Scalar.indexCast v1692
  let c0_825 : Index := 0#32
  ![v1693.toNat, 0]

def k0_chk383 (i : grid0.Coords) (v0 : BitVec 32) (v1689 : BitVec 32) : Prop :=
  (∀ (k0_h2 : k0_cond2 i v0 = 1#1), ∀ a, (k0_off509 v1689) a + S8x128.size a ≤ S32768x128.size a)
theorem k0_off509_inb : ∀ (i : grid0.Coords) (v0 : BitVec 32) (v1689 : BitVec 32) (k0_hw383 : k0_chk383 i v0 v1689), ∀ (k0_h2 : k0_cond2 i v0 = 1#1), ∀ a, (k0_off509 v1689) a + S8x128.size a ≤ S32768x128.size a := fun i v0 v1689 k0_hw383 k0_h2 => k0_hw383 k0_h2

def k0_off510 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_827 : BitVec 32 := 256#32
  let v1698 : BitVec 32 := Scalar.muli v129 c256_i32_827
  let c126_i32 : BitVec 32 := 126#32
  let v1699 : BitVec 32 := Scalar.addi v1698 c126_i32
  let v1700 : Index := Scalar.indexCast v1699
  ![v1700.toNat]
def k0_off511 (v1701 : BitVec 32) : Fin 2 → Nat :=
  let c3_i32_828 : BitVec 32 := 3#32
  let v1702 : BitVec 32 := Scalar.shrsi v1701 c3_i32_828
  let c4095_i32_829 : BitVec 32 := 4095#32
  let v1703 : BitVec 32 := Scalar.minsi v1702 c4095_i32_829
  let c8_i32_830 : BitVec 32 := 8#32
  let v1704 : BitVec 32 := Scalar.muli v1703 c8_i32_830
  let v1705 : Index := Scalar.indexCast v1704
  let c0_831 : Index := 0#32
  ![v1705.toNat, 0]

def k0_chk384 (i : grid0.Coords) (v0 : BitVec 32) (v1701 : BitVec 32) : Prop :=
  (∀ (k0_h2 : k0_cond2 i v0 = 1#1), ∀ a, (k0_off511 v1701) a + S8x128.size a ≤ S32768x128.size a)
theorem k0_off511_inb : ∀ (i : grid0.Coords) (v0 : BitVec 32) (v1701 : BitVec 32) (k0_hw384 : k0_chk384 i v0 v1701), ∀ (k0_h2 : k0_cond2 i v0 = 1#1), ∀ a, (k0_off511 v1701) a + S8x128.size a ≤ S32768x128.size a := fun i v0 v1701 k0_hw384 k0_h2 => k0_hw384 k0_h2

def k0_off512 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_833 : BitVec 32 := 256#32
  let v1710 : BitVec 32 := Scalar.muli v129 c256_i32_833
  let c127_i32 : BitVec 32 := 127#32
  let v1711 : BitVec 32 := Scalar.addi v1710 c127_i32
  let v1712 : Index := Scalar.indexCast v1711
  ![v1712.toNat]
def k0_off513 (v1713 : BitVec 32) : Fin 2 → Nat :=
  let c3_i32_834 : BitVec 32 := 3#32
  let v1714 : BitVec 32 := Scalar.shrsi v1713 c3_i32_834
  let c4095_i32_835 : BitVec 32 := 4095#32
  let v1715 : BitVec 32 := Scalar.minsi v1714 c4095_i32_835
  let c8_i32_836 : BitVec 32 := 8#32
  let v1716 : BitVec 32 := Scalar.muli v1715 c8_i32_836
  let v1717 : Index := Scalar.indexCast v1716
  let c0_837 : Index := 0#32
  ![v1717.toNat, 0]

def k0_chk385 (i : grid0.Coords) (v0 : BitVec 32) (v1713 : BitVec 32) : Prop :=
  (∀ (k0_h2 : k0_cond2 i v0 = 1#1), ∀ a, (k0_off513 v1713) a + S8x128.size a ≤ S32768x128.size a)
theorem k0_off513_inb : ∀ (i : grid0.Coords) (v0 : BitVec 32) (v1713 : BitVec 32) (k0_hw385 : k0_chk385 i v0 v1713), ∀ (k0_h2 : k0_cond2 i v0 = 1#1), ∀ a, (k0_off513 v1713) a + S8x128.size a ≤ S32768x128.size a := fun i v0 v1713 k0_hw385 k0_h2 => k0_hw385 k0_h2

def k0_off514 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_839 : BitVec 32 := 256#32
  let v1722 : BitVec 32 := Scalar.muli v129 c256_i32_839
  let c128_i32 : BitVec 32 := 128#32
  let v1723 : BitVec 32 := Scalar.addi v1722 c128_i32
  let v1724 : Index := Scalar.indexCast v1723
  ![v1724.toNat]
def k0_off515 (v1725 : BitVec 32) : Fin 2 → Nat :=
  let c3_i32_840 : BitVec 32 := 3#32
  let v1726 : BitVec 32 := Scalar.shrsi v1725 c3_i32_840
  let c4095_i32_841 : BitVec 32 := 4095#32
  let v1727 : BitVec 32 := Scalar.minsi v1726 c4095_i32_841
  let c8_i32_842 : BitVec 32 := 8#32
  let v1728 : BitVec 32 := Scalar.muli v1727 c8_i32_842
  let v1729 : Index := Scalar.indexCast v1728
  let c0_843 : Index := 0#32
  ![v1729.toNat, 0]

def k0_chk386 (i : grid0.Coords) (v0 : BitVec 32) (v1725 : BitVec 32) : Prop :=
  (∀ (k0_h2 : k0_cond2 i v0 = 1#1), ∀ a, (k0_off515 v1725) a + S8x128.size a ≤ S32768x128.size a)
theorem k0_off515_inb : ∀ (i : grid0.Coords) (v0 : BitVec 32) (v1725 : BitVec 32) (k0_hw386 : k0_chk386 i v0 v1725), ∀ (k0_h2 : k0_cond2 i v0 = 1#1), ∀ a, (k0_off515 v1725) a + S8x128.size a ≤ S32768x128.size a := fun i v0 v1725 k0_hw386 k0_h2 => k0_hw386 k0_h2

def k0_off516 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_846 : BitVec 32 := 256#32
  let v1734 : BitVec 32 := Scalar.muli v129 c256_i32_846
  let c129_i32 : BitVec 32 := 129#32
  let v1735 : BitVec 32 := Scalar.addi v1734 c129_i32
  let v1736 : Index := Scalar.indexCast v1735
  ![v1736.toNat]
def k0_off517 (v1737 : BitVec 32) : Fin 2 → Nat :=
  let c3_i32_847 : BitVec 32 := 3#32
  let v1738 : BitVec 32 := Scalar.shrsi v1737 c3_i32_847
  let c4095_i32_848 : BitVec 32 := 4095#32
  let v1739 : BitVec 32 := Scalar.minsi v1738 c4095_i32_848
  let c8_i32_849 : BitVec 32 := 8#32
  let v1740 : BitVec 32 := Scalar.muli v1739 c8_i32_849
  let v1741 : Index := Scalar.indexCast v1740
  let c0_850 : Index := 0#32
  ![v1741.toNat, 0]

def k0_chk387 (i : grid0.Coords) (v0 : BitVec 32) (v1737 : BitVec 32) : Prop :=
  (∀ (k0_h2 : k0_cond2 i v0 = 1#1), ∀ a, (k0_off517 v1737) a + S8x128.size a ≤ S32768x128.size a)
theorem k0_off517_inb : ∀ (i : grid0.Coords) (v0 : BitVec 32) (v1737 : BitVec 32) (k0_hw387 : k0_chk387 i v0 v1737), ∀ (k0_h2 : k0_cond2 i v0 = 1#1), ∀ a, (k0_off517 v1737) a + S8x128.size a ≤ S32768x128.size a := fun i v0 v1737 k0_hw387 k0_h2 => k0_hw387 k0_h2

def k0_off518 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_852 : BitVec 32 := 256#32
  let v1746 : BitVec 32 := Scalar.muli v129 c256_i32_852
  let c130_i32 : BitVec 32 := 130#32
  let v1747 : BitVec 32 := Scalar.addi v1746 c130_i32
  let v1748 : Index := Scalar.indexCast v1747
  ![v1748.toNat]
def k0_off519 (v1749 : BitVec 32) : Fin 2 → Nat :=
  let c3_i32_853 : BitVec 32 := 3#32
  let v1750 : BitVec 32 := Scalar.shrsi v1749 c3_i32_853
  let c4095_i32_854 : BitVec 32 := 4095#32
  let v1751 : BitVec 32 := Scalar.minsi v1750 c4095_i32_854
  let c8_i32_855 : BitVec 32 := 8#32
  let v1752 : BitVec 32 := Scalar.muli v1751 c8_i32_855
  let v1753 : Index := Scalar.indexCast v1752
  let c0_856 : Index := 0#32
  ![v1753.toNat, 0]

def k0_chk388 (i : grid0.Coords) (v0 : BitVec 32) (v1749 : BitVec 32) : Prop :=
  (∀ (k0_h2 : k0_cond2 i v0 = 1#1), ∀ a, (k0_off519 v1749) a + S8x128.size a ≤ S32768x128.size a)
theorem k0_off519_inb : ∀ (i : grid0.Coords) (v0 : BitVec 32) (v1749 : BitVec 32) (k0_hw388 : k0_chk388 i v0 v1749), ∀ (k0_h2 : k0_cond2 i v0 = 1#1), ∀ a, (k0_off519 v1749) a + S8x128.size a ≤ S32768x128.size a := fun i v0 v1749 k0_hw388 k0_h2 => k0_hw388 k0_h2

def k0_off520 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_858 : BitVec 32 := 256#32
  let v1758 : BitVec 32 := Scalar.muli v129 c256_i32_858
  let c131_i32 : BitVec 32 := 131#32
  let v1759 : BitVec 32 := Scalar.addi v1758 c131_i32
  let v1760 : Index := Scalar.indexCast v1759
  ![v1760.toNat]
def k0_off521 (v1761 : BitVec 32) : Fin 2 → Nat :=
  let c3_i32_859 : BitVec 32 := 3#32
  let v1762 : BitVec 32 := Scalar.shrsi v1761 c3_i32_859
  let c4095_i32_860 : BitVec 32 := 4095#32
  let v1763 : BitVec 32 := Scalar.minsi v1762 c4095_i32_860
  let c8_i32_861 : BitVec 32 := 8#32
  let v1764 : BitVec 32 := Scalar.muli v1763 c8_i32_861
  let v1765 : Index := Scalar.indexCast v1764
  let c0_862 : Index := 0#32
  ![v1765.toNat, 0]

def k0_chk389 (i : grid0.Coords) (v0 : BitVec 32) (v1761 : BitVec 32) : Prop :=
  (∀ (k0_h2 : k0_cond2 i v0 = 1#1), ∀ a, (k0_off521 v1761) a + S8x128.size a ≤ S32768x128.size a)
theorem k0_off521_inb : ∀ (i : grid0.Coords) (v0 : BitVec 32) (v1761 : BitVec 32) (k0_hw389 : k0_chk389 i v0 v1761), ∀ (k0_h2 : k0_cond2 i v0 = 1#1), ∀ a, (k0_off521 v1761) a + S8x128.size a ≤ S32768x128.size a := fun i v0 v1761 k0_hw389 k0_h2 => k0_hw389 k0_h2

def k0_off522 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_864 : BitVec 32 := 256#32
  let v1770 : BitVec 32 := Scalar.muli v129 c256_i32_864
  let c132_i32 : BitVec 32 := 132#32
  let v1771 : BitVec 32 := Scalar.addi v1770 c132_i32
  let v1772 : Index := Scalar.indexCast v1771
  ![v1772.toNat]
def k0_off523 (v1773 : BitVec 32) : Fin 2 → Nat :=
  let c3_i32_865 : BitVec 32 := 3#32
  let v1774 : BitVec 32 := Scalar.shrsi v1773 c3_i32_865
  let c4095_i32_866 : BitVec 32 := 4095#32
  let v1775 : BitVec 32 := Scalar.minsi v1774 c4095_i32_866
  let c8_i32_867 : BitVec 32 := 8#32
  let v1776 : BitVec 32 := Scalar.muli v1775 c8_i32_867
  let v1777 : Index := Scalar.indexCast v1776
  let c0_868 : Index := 0#32
  ![v1777.toNat, 0]

def k0_chk390 (i : grid0.Coords) (v0 : BitVec 32) (v1773 : BitVec 32) : Prop :=
  (∀ (k0_h2 : k0_cond2 i v0 = 1#1), ∀ a, (k0_off523 v1773) a + S8x128.size a ≤ S32768x128.size a)
theorem k0_off523_inb : ∀ (i : grid0.Coords) (v0 : BitVec 32) (v1773 : BitVec 32) (k0_hw390 : k0_chk390 i v0 v1773), ∀ (k0_h2 : k0_cond2 i v0 = 1#1), ∀ a, (k0_off523 v1773) a + S8x128.size a ≤ S32768x128.size a := fun i v0 v1773 k0_hw390 k0_h2 => k0_hw390 k0_h2

def k0_off524 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_870 : BitVec 32 := 256#32
  let v1782 : BitVec 32 := Scalar.muli v129 c256_i32_870
  let c133_i32 : BitVec 32 := 133#32
  let v1783 : BitVec 32 := Scalar.addi v1782 c133_i32
  let v1784 : Index := Scalar.indexCast v1783
  ![v1784.toNat]
def k0_off525 (v1785 : BitVec 32) : Fin 2 → Nat :=
  let c3_i32_871 : BitVec 32 := 3#32
  let v1786 : BitVec 32 := Scalar.shrsi v1785 c3_i32_871
  let c4095_i32_872 : BitVec 32 := 4095#32
  let v1787 : BitVec 32 := Scalar.minsi v1786 c4095_i32_872
  let c8_i32_873 : BitVec 32 := 8#32
  let v1788 : BitVec 32 := Scalar.muli v1787 c8_i32_873
  let v1789 : Index := Scalar.indexCast v1788
  let c0_874 : Index := 0#32
  ![v1789.toNat, 0]

def k0_chk391 (i : grid0.Coords) (v0 : BitVec 32) (v1785 : BitVec 32) : Prop :=
  (∀ (k0_h2 : k0_cond2 i v0 = 1#1), ∀ a, (k0_off525 v1785) a + S8x128.size a ≤ S32768x128.size a)
theorem k0_off525_inb : ∀ (i : grid0.Coords) (v0 : BitVec 32) (v1785 : BitVec 32) (k0_hw391 : k0_chk391 i v0 v1785), ∀ (k0_h2 : k0_cond2 i v0 = 1#1), ∀ a, (k0_off525 v1785) a + S8x128.size a ≤ S32768x128.size a := fun i v0 v1785 k0_hw391 k0_h2 => k0_hw391 k0_h2

def k0_off526 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_876 : BitVec 32 := 256#32
  let v1794 : BitVec 32 := Scalar.muli v129 c256_i32_876
  let c134_i32 : BitVec 32 := 134#32
  let v1795 : BitVec 32 := Scalar.addi v1794 c134_i32
  let v1796 : Index := Scalar.indexCast v1795
  ![v1796.toNat]
def k0_off527 (v1797 : BitVec 32) : Fin 2 → Nat :=
  let c3_i32_877 : BitVec 32 := 3#32
  let v1798 : BitVec 32 := Scalar.shrsi v1797 c3_i32_877
  let c4095_i32_878 : BitVec 32 := 4095#32
  let v1799 : BitVec 32 := Scalar.minsi v1798 c4095_i32_878
  let c8_i32_879 : BitVec 32 := 8#32
  let v1800 : BitVec 32 := Scalar.muli v1799 c8_i32_879
  let v1801 : Index := Scalar.indexCast v1800
  let c0_880 : Index := 0#32
  ![v1801.toNat, 0]

def k0_chk392 (i : grid0.Coords) (v0 : BitVec 32) (v1797 : BitVec 32) : Prop :=
  (∀ (k0_h2 : k0_cond2 i v0 = 1#1), ∀ a, (k0_off527 v1797) a + S8x128.size a ≤ S32768x128.size a)
theorem k0_off527_inb : ∀ (i : grid0.Coords) (v0 : BitVec 32) (v1797 : BitVec 32) (k0_hw392 : k0_chk392 i v0 v1797), ∀ (k0_h2 : k0_cond2 i v0 = 1#1), ∀ a, (k0_off527 v1797) a + S8x128.size a ≤ S32768x128.size a := fun i v0 v1797 k0_hw392 k0_h2 => k0_hw392 k0_h2

def k0_off528 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_882 : BitVec 32 := 256#32
  let v1806 : BitVec 32 := Scalar.muli v129 c256_i32_882
  let c135_i32 : BitVec 32 := 135#32
  let v1807 : BitVec 32 := Scalar.addi v1806 c135_i32
  let v1808 : Index := Scalar.indexCast v1807
  ![v1808.toNat]
def k0_off529 (v1809 : BitVec 32) : Fin 2 → Nat :=
  let c3_i32_883 : BitVec 32 := 3#32
  let v1810 : BitVec 32 := Scalar.shrsi v1809 c3_i32_883
  let c4095_i32_884 : BitVec 32 := 4095#32
  let v1811 : BitVec 32 := Scalar.minsi v1810 c4095_i32_884
  let c8_i32_885 : BitVec 32 := 8#32
  let v1812 : BitVec 32 := Scalar.muli v1811 c8_i32_885
  let v1813 : Index := Scalar.indexCast v1812
  let c0_886 : Index := 0#32
  ![v1813.toNat, 0]

def k0_chk393 (i : grid0.Coords) (v0 : BitVec 32) (v1809 : BitVec 32) : Prop :=
  (∀ (k0_h2 : k0_cond2 i v0 = 1#1), ∀ a, (k0_off529 v1809) a + S8x128.size a ≤ S32768x128.size a)
theorem k0_off529_inb : ∀ (i : grid0.Coords) (v0 : BitVec 32) (v1809 : BitVec 32) (k0_hw393 : k0_chk393 i v0 v1809), ∀ (k0_h2 : k0_cond2 i v0 = 1#1), ∀ a, (k0_off529 v1809) a + S8x128.size a ≤ S32768x128.size a := fun i v0 v1809 k0_hw393 k0_h2 => k0_hw393 k0_h2

def k0_off530 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_888 : BitVec 32 := 256#32
  let v1818 : BitVec 32 := Scalar.muli v129 c256_i32_888
  let c136_i32 : BitVec 32 := 136#32
  let v1819 : BitVec 32 := Scalar.addi v1818 c136_i32
  let v1820 : Index := Scalar.indexCast v1819
  ![v1820.toNat]
def k0_off531 (v1821 : BitVec 32) : Fin 2 → Nat :=
  let c3_i32_889 : BitVec 32 := 3#32
  let v1822 : BitVec 32 := Scalar.shrsi v1821 c3_i32_889
  let c4095_i32_890 : BitVec 32 := 4095#32
  let v1823 : BitVec 32 := Scalar.minsi v1822 c4095_i32_890
  let c8_i32_891 : BitVec 32 := 8#32
  let v1824 : BitVec 32 := Scalar.muli v1823 c8_i32_891
  let v1825 : Index := Scalar.indexCast v1824
  let c0_892 : Index := 0#32
  ![v1825.toNat, 0]

def k0_chk394 (i : grid0.Coords) (v0 : BitVec 32) (v1821 : BitVec 32) : Prop :=
  (∀ (k0_h2 : k0_cond2 i v0 = 1#1), ∀ a, (k0_off531 v1821) a + S8x128.size a ≤ S32768x128.size a)
theorem k0_off531_inb : ∀ (i : grid0.Coords) (v0 : BitVec 32) (v1821 : BitVec 32) (k0_hw394 : k0_chk394 i v0 v1821), ∀ (k0_h2 : k0_cond2 i v0 = 1#1), ∀ a, (k0_off531 v1821) a + S8x128.size a ≤ S32768x128.size a := fun i v0 v1821 k0_hw394 k0_h2 => k0_hw394 k0_h2

def k0_off532 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_894 : BitVec 32 := 256#32
  let v1830 : BitVec 32 := Scalar.muli v129 c256_i32_894
  let c137_i32 : BitVec 32 := 137#32
  let v1831 : BitVec 32 := Scalar.addi v1830 c137_i32
  let v1832 : Index := Scalar.indexCast v1831
  ![v1832.toNat]
def k0_off533 (v1833 : BitVec 32) : Fin 2 → Nat :=
  let c3_i32_895 : BitVec 32 := 3#32
  let v1834 : BitVec 32 := Scalar.shrsi v1833 c3_i32_895
  let c4095_i32_896 : BitVec 32 := 4095#32
  let v1835 : BitVec 32 := Scalar.minsi v1834 c4095_i32_896
  let c8_i32_897 : BitVec 32 := 8#32
  let v1836 : BitVec 32 := Scalar.muli v1835 c8_i32_897
  let v1837 : Index := Scalar.indexCast v1836
  let c0_898 : Index := 0#32
  ![v1837.toNat, 0]

def k0_chk395 (i : grid0.Coords) (v0 : BitVec 32) (v1833 : BitVec 32) : Prop :=
  (∀ (k0_h2 : k0_cond2 i v0 = 1#1), ∀ a, (k0_off533 v1833) a + S8x128.size a ≤ S32768x128.size a)
theorem k0_off533_inb : ∀ (i : grid0.Coords) (v0 : BitVec 32) (v1833 : BitVec 32) (k0_hw395 : k0_chk395 i v0 v1833), ∀ (k0_h2 : k0_cond2 i v0 = 1#1), ∀ a, (k0_off533 v1833) a + S8x128.size a ≤ S32768x128.size a := fun i v0 v1833 k0_hw395 k0_h2 => k0_hw395 k0_h2

def k0_off534 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_900 : BitVec 32 := 256#32
  let v1842 : BitVec 32 := Scalar.muli v129 c256_i32_900
  let c138_i32 : BitVec 32 := 138#32
  let v1843 : BitVec 32 := Scalar.addi v1842 c138_i32
  let v1844 : Index := Scalar.indexCast v1843
  ![v1844.toNat]
def k0_off535 (v1845 : BitVec 32) : Fin 2 → Nat :=
  let c3_i32_901 : BitVec 32 := 3#32
  let v1846 : BitVec 32 := Scalar.shrsi v1845 c3_i32_901
  let c4095_i32_902 : BitVec 32 := 4095#32
  let v1847 : BitVec 32 := Scalar.minsi v1846 c4095_i32_902
  let c8_i32_903 : BitVec 32 := 8#32
  let v1848 : BitVec 32 := Scalar.muli v1847 c8_i32_903
  let v1849 : Index := Scalar.indexCast v1848
  let c0_904 : Index := 0#32
  ![v1849.toNat, 0]

def k0_chk396 (i : grid0.Coords) (v0 : BitVec 32) (v1845 : BitVec 32) : Prop :=
  (∀ (k0_h2 : k0_cond2 i v0 = 1#1), ∀ a, (k0_off535 v1845) a + S8x128.size a ≤ S32768x128.size a)
theorem k0_off535_inb : ∀ (i : grid0.Coords) (v0 : BitVec 32) (v1845 : BitVec 32) (k0_hw396 : k0_chk396 i v0 v1845), ∀ (k0_h2 : k0_cond2 i v0 = 1#1), ∀ a, (k0_off535 v1845) a + S8x128.size a ≤ S32768x128.size a := fun i v0 v1845 k0_hw396 k0_h2 => k0_hw396 k0_h2

def k0_off536 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_906 : BitVec 32 := 256#32
  let v1854 : BitVec 32 := Scalar.muli v129 c256_i32_906
  let c139_i32 : BitVec 32 := 139#32
  let v1855 : BitVec 32 := Scalar.addi v1854 c139_i32
  let v1856 : Index := Scalar.indexCast v1855
  ![v1856.toNat]
def k0_off537 (v1857 : BitVec 32) : Fin 2 → Nat :=
  let c3_i32_907 : BitVec 32 := 3#32
  let v1858 : BitVec 32 := Scalar.shrsi v1857 c3_i32_907
  let c4095_i32_908 : BitVec 32 := 4095#32
  let v1859 : BitVec 32 := Scalar.minsi v1858 c4095_i32_908
  let c8_i32_909 : BitVec 32 := 8#32
  let v1860 : BitVec 32 := Scalar.muli v1859 c8_i32_909
  let v1861 : Index := Scalar.indexCast v1860
  let c0_910 : Index := 0#32
  ![v1861.toNat, 0]

def k0_chk397 (i : grid0.Coords) (v0 : BitVec 32) (v1857 : BitVec 32) : Prop :=
  (∀ (k0_h2 : k0_cond2 i v0 = 1#1), ∀ a, (k0_off537 v1857) a + S8x128.size a ≤ S32768x128.size a)
theorem k0_off537_inb : ∀ (i : grid0.Coords) (v0 : BitVec 32) (v1857 : BitVec 32) (k0_hw397 : k0_chk397 i v0 v1857), ∀ (k0_h2 : k0_cond2 i v0 = 1#1), ∀ a, (k0_off537 v1857) a + S8x128.size a ≤ S32768x128.size a := fun i v0 v1857 k0_hw397 k0_h2 => k0_hw397 k0_h2

def k0_off538 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_912 : BitVec 32 := 256#32
  let v1866 : BitVec 32 := Scalar.muli v129 c256_i32_912
  let c140_i32 : BitVec 32 := 140#32
  let v1867 : BitVec 32 := Scalar.addi v1866 c140_i32
  let v1868 : Index := Scalar.indexCast v1867
  ![v1868.toNat]
def k0_off539 (v1869 : BitVec 32) : Fin 2 → Nat :=
  let c3_i32_913 : BitVec 32 := 3#32
  let v1870 : BitVec 32 := Scalar.shrsi v1869 c3_i32_913
  let c4095_i32_914 : BitVec 32 := 4095#32
  let v1871 : BitVec 32 := Scalar.minsi v1870 c4095_i32_914
  let c8_i32_915 : BitVec 32 := 8#32
  let v1872 : BitVec 32 := Scalar.muli v1871 c8_i32_915
  let v1873 : Index := Scalar.indexCast v1872
  let c0_916 : Index := 0#32
  ![v1873.toNat, 0]

def k0_chk398 (i : grid0.Coords) (v0 : BitVec 32) (v1869 : BitVec 32) : Prop :=
  (∀ (k0_h2 : k0_cond2 i v0 = 1#1), ∀ a, (k0_off539 v1869) a + S8x128.size a ≤ S32768x128.size a)
theorem k0_off539_inb : ∀ (i : grid0.Coords) (v0 : BitVec 32) (v1869 : BitVec 32) (k0_hw398 : k0_chk398 i v0 v1869), ∀ (k0_h2 : k0_cond2 i v0 = 1#1), ∀ a, (k0_off539 v1869) a + S8x128.size a ≤ S32768x128.size a := fun i v0 v1869 k0_hw398 k0_h2 => k0_hw398 k0_h2

def k0_off540 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_918 : BitVec 32 := 256#32
  let v1878 : BitVec 32 := Scalar.muli v129 c256_i32_918
  let c141_i32 : BitVec 32 := 141#32
  let v1879 : BitVec 32 := Scalar.addi v1878 c141_i32
  let v1880 : Index := Scalar.indexCast v1879
  ![v1880.toNat]
def k0_off541 (v1881 : BitVec 32) : Fin 2 → Nat :=
  let c3_i32_919 : BitVec 32 := 3#32
  let v1882 : BitVec 32 := Scalar.shrsi v1881 c3_i32_919
  let c4095_i32_920 : BitVec 32 := 4095#32
  let v1883 : BitVec 32 := Scalar.minsi v1882 c4095_i32_920
  let c8_i32_921 : BitVec 32 := 8#32
  let v1884 : BitVec 32 := Scalar.muli v1883 c8_i32_921
  let v1885 : Index := Scalar.indexCast v1884
  let c0_922 : Index := 0#32
  ![v1885.toNat, 0]

def k0_chk399 (i : grid0.Coords) (v0 : BitVec 32) (v1881 : BitVec 32) : Prop :=
  (∀ (k0_h2 : k0_cond2 i v0 = 1#1), ∀ a, (k0_off541 v1881) a + S8x128.size a ≤ S32768x128.size a)
theorem k0_off541_inb : ∀ (i : grid0.Coords) (v0 : BitVec 32) (v1881 : BitVec 32) (k0_hw399 : k0_chk399 i v0 v1881), ∀ (k0_h2 : k0_cond2 i v0 = 1#1), ∀ a, (k0_off541 v1881) a + S8x128.size a ≤ S32768x128.size a := fun i v0 v1881 k0_hw399 k0_h2 => k0_hw399 k0_h2

def k0_off542 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_924 : BitVec 32 := 256#32
  let v1890 : BitVec 32 := Scalar.muli v129 c256_i32_924
  let c142_i32 : BitVec 32 := 142#32
  let v1891 : BitVec 32 := Scalar.addi v1890 c142_i32
  let v1892 : Index := Scalar.indexCast v1891
  ![v1892.toNat]
def k0_off543 (v1893 : BitVec 32) : Fin 2 → Nat :=
  let c3_i32_925 : BitVec 32 := 3#32
  let v1894 : BitVec 32 := Scalar.shrsi v1893 c3_i32_925
  let c4095_i32_926 : BitVec 32 := 4095#32
  let v1895 : BitVec 32 := Scalar.minsi v1894 c4095_i32_926
  let c8_i32_927 : BitVec 32 := 8#32
  let v1896 : BitVec 32 := Scalar.muli v1895 c8_i32_927
  let v1897 : Index := Scalar.indexCast v1896
  let c0_928 : Index := 0#32
  ![v1897.toNat, 0]

def k0_chk400 (i : grid0.Coords) (v0 : BitVec 32) (v1893 : BitVec 32) : Prop :=
  (∀ (k0_h2 : k0_cond2 i v0 = 1#1), ∀ a, (k0_off543 v1893) a + S8x128.size a ≤ S32768x128.size a)
theorem k0_off543_inb : ∀ (i : grid0.Coords) (v0 : BitVec 32) (v1893 : BitVec 32) (k0_hw400 : k0_chk400 i v0 v1893), ∀ (k0_h2 : k0_cond2 i v0 = 1#1), ∀ a, (k0_off543 v1893) a + S8x128.size a ≤ S32768x128.size a := fun i v0 v1893 k0_hw400 k0_h2 => k0_hw400 k0_h2

def k0_off544 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_930 : BitVec 32 := 256#32
  let v1902 : BitVec 32 := Scalar.muli v129 c256_i32_930
  let c143_i32 : BitVec 32 := 143#32
  let v1903 : BitVec 32 := Scalar.addi v1902 c143_i32
  let v1904 : Index := Scalar.indexCast v1903
  ![v1904.toNat]
def k0_off545 (v1905 : BitVec 32) : Fin 2 → Nat :=
  let c3_i32_931 : BitVec 32 := 3#32
  let v1906 : BitVec 32 := Scalar.shrsi v1905 c3_i32_931
  let c4095_i32_932 : BitVec 32 := 4095#32
  let v1907 : BitVec 32 := Scalar.minsi v1906 c4095_i32_932
  let c8_i32_933 : BitVec 32 := 8#32
  let v1908 : BitVec 32 := Scalar.muli v1907 c8_i32_933
  let v1909 : Index := Scalar.indexCast v1908
  let c0_934 : Index := 0#32
  ![v1909.toNat, 0]

def k0_chk401 (i : grid0.Coords) (v0 : BitVec 32) (v1905 : BitVec 32) : Prop :=
  (∀ (k0_h2 : k0_cond2 i v0 = 1#1), ∀ a, (k0_off545 v1905) a + S8x128.size a ≤ S32768x128.size a)
theorem k0_off545_inb : ∀ (i : grid0.Coords) (v0 : BitVec 32) (v1905 : BitVec 32) (k0_hw401 : k0_chk401 i v0 v1905), ∀ (k0_h2 : k0_cond2 i v0 = 1#1), ∀ a, (k0_off545 v1905) a + S8x128.size a ≤ S32768x128.size a := fun i v0 v1905 k0_hw401 k0_h2 => k0_hw401 k0_h2

def k0_off546 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_936 : BitVec 32 := 256#32
  let v1914 : BitVec 32 := Scalar.muli v129 c256_i32_936
  let c144_i32 : BitVec 32 := 144#32
  let v1915 : BitVec 32 := Scalar.addi v1914 c144_i32
  let v1916 : Index := Scalar.indexCast v1915
  ![v1916.toNat]
def k0_off547 (v1917 : BitVec 32) : Fin 2 → Nat :=
  let c3_i32_937 : BitVec 32 := 3#32
  let v1918 : BitVec 32 := Scalar.shrsi v1917 c3_i32_937
  let c4095_i32_938 : BitVec 32 := 4095#32
  let v1919 : BitVec 32 := Scalar.minsi v1918 c4095_i32_938
  let c8_i32_939 : BitVec 32 := 8#32
  let v1920 : BitVec 32 := Scalar.muli v1919 c8_i32_939
  let v1921 : Index := Scalar.indexCast v1920
  let c0_940 : Index := 0#32
  ![v1921.toNat, 0]

def k0_chk402 (i : grid0.Coords) (v0 : BitVec 32) (v1917 : BitVec 32) : Prop :=
  (∀ (k0_h2 : k0_cond2 i v0 = 1#1), ∀ a, (k0_off547 v1917) a + S8x128.size a ≤ S32768x128.size a)
theorem k0_off547_inb : ∀ (i : grid0.Coords) (v0 : BitVec 32) (v1917 : BitVec 32) (k0_hw402 : k0_chk402 i v0 v1917), ∀ (k0_h2 : k0_cond2 i v0 = 1#1), ∀ a, (k0_off547 v1917) a + S8x128.size a ≤ S32768x128.size a := fun i v0 v1917 k0_hw402 k0_h2 => k0_hw402 k0_h2

def k0_off548 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_942 : BitVec 32 := 256#32
  let v1926 : BitVec 32 := Scalar.muli v129 c256_i32_942
  let c145_i32 : BitVec 32 := 145#32
  let v1927 : BitVec 32 := Scalar.addi v1926 c145_i32
  let v1928 : Index := Scalar.indexCast v1927
  ![v1928.toNat]
def k0_off549 (v1929 : BitVec 32) : Fin 2 → Nat :=
  let c3_i32_943 : BitVec 32 := 3#32
  let v1930 : BitVec 32 := Scalar.shrsi v1929 c3_i32_943
  let c4095_i32_944 : BitVec 32 := 4095#32
  let v1931 : BitVec 32 := Scalar.minsi v1930 c4095_i32_944
  let c8_i32_945 : BitVec 32 := 8#32
  let v1932 : BitVec 32 := Scalar.muli v1931 c8_i32_945
  let v1933 : Index := Scalar.indexCast v1932
  let c0_946 : Index := 0#32
  ![v1933.toNat, 0]

def k0_chk403 (i : grid0.Coords) (v0 : BitVec 32) (v1929 : BitVec 32) : Prop :=
  (∀ (k0_h2 : k0_cond2 i v0 = 1#1), ∀ a, (k0_off549 v1929) a + S8x128.size a ≤ S32768x128.size a)
theorem k0_off549_inb : ∀ (i : grid0.Coords) (v0 : BitVec 32) (v1929 : BitVec 32) (k0_hw403 : k0_chk403 i v0 v1929), ∀ (k0_h2 : k0_cond2 i v0 = 1#1), ∀ a, (k0_off549 v1929) a + S8x128.size a ≤ S32768x128.size a := fun i v0 v1929 k0_hw403 k0_h2 => k0_hw403 k0_h2

def k0_off550 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_948 : BitVec 32 := 256#32
  let v1938 : BitVec 32 := Scalar.muli v129 c256_i32_948
  let c146_i32 : BitVec 32 := 146#32
  let v1939 : BitVec 32 := Scalar.addi v1938 c146_i32
  let v1940 : Index := Scalar.indexCast v1939
  ![v1940.toNat]
def k0_off551 (v1941 : BitVec 32) : Fin 2 → Nat :=
  let c3_i32_949 : BitVec 32 := 3#32
  let v1942 : BitVec 32 := Scalar.shrsi v1941 c3_i32_949
  let c4095_i32_950 : BitVec 32 := 4095#32
  let v1943 : BitVec 32 := Scalar.minsi v1942 c4095_i32_950
  let c8_i32_951 : BitVec 32 := 8#32
  let v1944 : BitVec 32 := Scalar.muli v1943 c8_i32_951
  let v1945 : Index := Scalar.indexCast v1944
  let c0_952 : Index := 0#32
  ![v1945.toNat, 0]

def k0_chk404 (i : grid0.Coords) (v0 : BitVec 32) (v1941 : BitVec 32) : Prop :=
  (∀ (k0_h2 : k0_cond2 i v0 = 1#1), ∀ a, (k0_off551 v1941) a + S8x128.size a ≤ S32768x128.size a)
theorem k0_off551_inb : ∀ (i : grid0.Coords) (v0 : BitVec 32) (v1941 : BitVec 32) (k0_hw404 : k0_chk404 i v0 v1941), ∀ (k0_h2 : k0_cond2 i v0 = 1#1), ∀ a, (k0_off551 v1941) a + S8x128.size a ≤ S32768x128.size a := fun i v0 v1941 k0_hw404 k0_h2 => k0_hw404 k0_h2

def k0_off552 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_954 : BitVec 32 := 256#32
  let v1950 : BitVec 32 := Scalar.muli v129 c256_i32_954
  let c147_i32 : BitVec 32 := 147#32
  let v1951 : BitVec 32 := Scalar.addi v1950 c147_i32
  let v1952 : Index := Scalar.indexCast v1951
  ![v1952.toNat]
def k0_off553 (v1953 : BitVec 32) : Fin 2 → Nat :=
  let c3_i32_955 : BitVec 32 := 3#32
  let v1954 : BitVec 32 := Scalar.shrsi v1953 c3_i32_955
  let c4095_i32_956 : BitVec 32 := 4095#32
  let v1955 : BitVec 32 := Scalar.minsi v1954 c4095_i32_956
  let c8_i32_957 : BitVec 32 := 8#32
  let v1956 : BitVec 32 := Scalar.muli v1955 c8_i32_957
  let v1957 : Index := Scalar.indexCast v1956
  let c0_958 : Index := 0#32
  ![v1957.toNat, 0]

def k0_chk405 (i : grid0.Coords) (v0 : BitVec 32) (v1953 : BitVec 32) : Prop :=
  (∀ (k0_h2 : k0_cond2 i v0 = 1#1), ∀ a, (k0_off553 v1953) a + S8x128.size a ≤ S32768x128.size a)
theorem k0_off553_inb : ∀ (i : grid0.Coords) (v0 : BitVec 32) (v1953 : BitVec 32) (k0_hw405 : k0_chk405 i v0 v1953), ∀ (k0_h2 : k0_cond2 i v0 = 1#1), ∀ a, (k0_off553 v1953) a + S8x128.size a ≤ S32768x128.size a := fun i v0 v1953 k0_hw405 k0_h2 => k0_hw405 k0_h2

def k0_off554 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_960 : BitVec 32 := 256#32
  let v1962 : BitVec 32 := Scalar.muli v129 c256_i32_960
  let c148_i32 : BitVec 32 := 148#32
  let v1963 : BitVec 32 := Scalar.addi v1962 c148_i32
  let v1964 : Index := Scalar.indexCast v1963
  ![v1964.toNat]
def k0_off555 (v1965 : BitVec 32) : Fin 2 → Nat :=
  let c3_i32_961 : BitVec 32 := 3#32
  let v1966 : BitVec 32 := Scalar.shrsi v1965 c3_i32_961
  let c4095_i32_962 : BitVec 32 := 4095#32
  let v1967 : BitVec 32 := Scalar.minsi v1966 c4095_i32_962
  let c8_i32_963 : BitVec 32 := 8#32
  let v1968 : BitVec 32 := Scalar.muli v1967 c8_i32_963
  let v1969 : Index := Scalar.indexCast v1968
  let c0_964 : Index := 0#32
  ![v1969.toNat, 0]

def k0_chk406 (i : grid0.Coords) (v0 : BitVec 32) (v1965 : BitVec 32) : Prop :=
  (∀ (k0_h2 : k0_cond2 i v0 = 1#1), ∀ a, (k0_off555 v1965) a + S8x128.size a ≤ S32768x128.size a)
theorem k0_off555_inb : ∀ (i : grid0.Coords) (v0 : BitVec 32) (v1965 : BitVec 32) (k0_hw406 : k0_chk406 i v0 v1965), ∀ (k0_h2 : k0_cond2 i v0 = 1#1), ∀ a, (k0_off555 v1965) a + S8x128.size a ≤ S32768x128.size a := fun i v0 v1965 k0_hw406 k0_h2 => k0_hw406 k0_h2

def k0_off556 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_966 : BitVec 32 := 256#32
  let v1974 : BitVec 32 := Scalar.muli v129 c256_i32_966
  let c149_i32 : BitVec 32 := 149#32
  let v1975 : BitVec 32 := Scalar.addi v1974 c149_i32
  let v1976 : Index := Scalar.indexCast v1975
  ![v1976.toNat]
def k0_off557 (v1977 : BitVec 32) : Fin 2 → Nat :=
  let c3_i32_967 : BitVec 32 := 3#32
  let v1978 : BitVec 32 := Scalar.shrsi v1977 c3_i32_967
  let c4095_i32_968 : BitVec 32 := 4095#32
  let v1979 : BitVec 32 := Scalar.minsi v1978 c4095_i32_968
  let c8_i32_969 : BitVec 32 := 8#32
  let v1980 : BitVec 32 := Scalar.muli v1979 c8_i32_969
  let v1981 : Index := Scalar.indexCast v1980
  let c0_970 : Index := 0#32
  ![v1981.toNat, 0]

def k0_chk407 (i : grid0.Coords) (v0 : BitVec 32) (v1977 : BitVec 32) : Prop :=
  (∀ (k0_h2 : k0_cond2 i v0 = 1#1), ∀ a, (k0_off557 v1977) a + S8x128.size a ≤ S32768x128.size a)
theorem k0_off557_inb : ∀ (i : grid0.Coords) (v0 : BitVec 32) (v1977 : BitVec 32) (k0_hw407 : k0_chk407 i v0 v1977), ∀ (k0_h2 : k0_cond2 i v0 = 1#1), ∀ a, (k0_off557 v1977) a + S8x128.size a ≤ S32768x128.size a := fun i v0 v1977 k0_hw407 k0_h2 => k0_hw407 k0_h2

def k0_off558 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_972 : BitVec 32 := 256#32
  let v1986 : BitVec 32 := Scalar.muli v129 c256_i32_972
  let c150_i32 : BitVec 32 := 150#32
  let v1987 : BitVec 32 := Scalar.addi v1986 c150_i32
  let v1988 : Index := Scalar.indexCast v1987
  ![v1988.toNat]
def k0_off559 (v1989 : BitVec 32) : Fin 2 → Nat :=
  let c3_i32_973 : BitVec 32 := 3#32
  let v1990 : BitVec 32 := Scalar.shrsi v1989 c3_i32_973
  let c4095_i32_974 : BitVec 32 := 4095#32
  let v1991 : BitVec 32 := Scalar.minsi v1990 c4095_i32_974
  let c8_i32_975 : BitVec 32 := 8#32
  let v1992 : BitVec 32 := Scalar.muli v1991 c8_i32_975
  let v1993 : Index := Scalar.indexCast v1992
  let c0_976 : Index := 0#32
  ![v1993.toNat, 0]

def k0_chk408 (i : grid0.Coords) (v0 : BitVec 32) (v1989 : BitVec 32) : Prop :=
  (∀ (k0_h2 : k0_cond2 i v0 = 1#1), ∀ a, (k0_off559 v1989) a + S8x128.size a ≤ S32768x128.size a)
theorem k0_off559_inb : ∀ (i : grid0.Coords) (v0 : BitVec 32) (v1989 : BitVec 32) (k0_hw408 : k0_chk408 i v0 v1989), ∀ (k0_h2 : k0_cond2 i v0 = 1#1), ∀ a, (k0_off559 v1989) a + S8x128.size a ≤ S32768x128.size a := fun i v0 v1989 k0_hw408 k0_h2 => k0_hw408 k0_h2

def k0_off560 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_978 : BitVec 32 := 256#32
  let v1998 : BitVec 32 := Scalar.muli v129 c256_i32_978
  let c151_i32 : BitVec 32 := 151#32
  let v1999 : BitVec 32 := Scalar.addi v1998 c151_i32
  let v2000 : Index := Scalar.indexCast v1999
  ![v2000.toNat]
def k0_off561 (v2001 : BitVec 32) : Fin 2 → Nat :=
  let c3_i32_979 : BitVec 32 := 3#32
  let v2002 : BitVec 32 := Scalar.shrsi v2001 c3_i32_979
  let c4095_i32_980 : BitVec 32 := 4095#32
  let v2003 : BitVec 32 := Scalar.minsi v2002 c4095_i32_980
  let c8_i32_981 : BitVec 32 := 8#32
  let v2004 : BitVec 32 := Scalar.muli v2003 c8_i32_981
  let v2005 : Index := Scalar.indexCast v2004
  let c0_982 : Index := 0#32
  ![v2005.toNat, 0]

def k0_chk409 (i : grid0.Coords) (v0 : BitVec 32) (v2001 : BitVec 32) : Prop :=
  (∀ (k0_h2 : k0_cond2 i v0 = 1#1), ∀ a, (k0_off561 v2001) a + S8x128.size a ≤ S32768x128.size a)
theorem k0_off561_inb : ∀ (i : grid0.Coords) (v0 : BitVec 32) (v2001 : BitVec 32) (k0_hw409 : k0_chk409 i v0 v2001), ∀ (k0_h2 : k0_cond2 i v0 = 1#1), ∀ a, (k0_off561 v2001) a + S8x128.size a ≤ S32768x128.size a := fun i v0 v2001 k0_hw409 k0_h2 => k0_hw409 k0_h2

def k0_off562 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_984 : BitVec 32 := 256#32
  let v2010 : BitVec 32 := Scalar.muli v129 c256_i32_984
  let c152_i32 : BitVec 32 := 152#32
  let v2011 : BitVec 32 := Scalar.addi v2010 c152_i32
  let v2012 : Index := Scalar.indexCast v2011
  ![v2012.toNat]
def k0_off563 (v2013 : BitVec 32) : Fin 2 → Nat :=
  let c3_i32_985 : BitVec 32 := 3#32
  let v2014 : BitVec 32 := Scalar.shrsi v2013 c3_i32_985
  let c4095_i32_986 : BitVec 32 := 4095#32
  let v2015 : BitVec 32 := Scalar.minsi v2014 c4095_i32_986
  let c8_i32_987 : BitVec 32 := 8#32
  let v2016 : BitVec 32 := Scalar.muli v2015 c8_i32_987
  let v2017 : Index := Scalar.indexCast v2016
  let c0_988 : Index := 0#32
  ![v2017.toNat, 0]

def k0_chk410 (i : grid0.Coords) (v0 : BitVec 32) (v2013 : BitVec 32) : Prop :=
  (∀ (k0_h2 : k0_cond2 i v0 = 1#1), ∀ a, (k0_off563 v2013) a + S8x128.size a ≤ S32768x128.size a)
theorem k0_off563_inb : ∀ (i : grid0.Coords) (v0 : BitVec 32) (v2013 : BitVec 32) (k0_hw410 : k0_chk410 i v0 v2013), ∀ (k0_h2 : k0_cond2 i v0 = 1#1), ∀ a, (k0_off563 v2013) a + S8x128.size a ≤ S32768x128.size a := fun i v0 v2013 k0_hw410 k0_h2 => k0_hw410 k0_h2

def k0_off564 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_990 : BitVec 32 := 256#32
  let v2022 : BitVec 32 := Scalar.muli v129 c256_i32_990
  let c153_i32 : BitVec 32 := 153#32
  let v2023 : BitVec 32 := Scalar.addi v2022 c153_i32
  let v2024 : Index := Scalar.indexCast v2023
  ![v2024.toNat]
def k0_off565 (v2025 : BitVec 32) : Fin 2 → Nat :=
  let c3_i32_991 : BitVec 32 := 3#32
  let v2026 : BitVec 32 := Scalar.shrsi v2025 c3_i32_991
  let c4095_i32_992 : BitVec 32 := 4095#32
  let v2027 : BitVec 32 := Scalar.minsi v2026 c4095_i32_992
  let c8_i32_993 : BitVec 32 := 8#32
  let v2028 : BitVec 32 := Scalar.muli v2027 c8_i32_993
  let v2029 : Index := Scalar.indexCast v2028
  let c0_994 : Index := 0#32
  ![v2029.toNat, 0]

def k0_chk411 (i : grid0.Coords) (v0 : BitVec 32) (v2025 : BitVec 32) : Prop :=
  (∀ (k0_h2 : k0_cond2 i v0 = 1#1), ∀ a, (k0_off565 v2025) a + S8x128.size a ≤ S32768x128.size a)
theorem k0_off565_inb : ∀ (i : grid0.Coords) (v0 : BitVec 32) (v2025 : BitVec 32) (k0_hw411 : k0_chk411 i v0 v2025), ∀ (k0_h2 : k0_cond2 i v0 = 1#1), ∀ a, (k0_off565 v2025) a + S8x128.size a ≤ S32768x128.size a := fun i v0 v2025 k0_hw411 k0_h2 => k0_hw411 k0_h2

def k0_off566 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_996 : BitVec 32 := 256#32
  let v2034 : BitVec 32 := Scalar.muli v129 c256_i32_996
  let c154_i32 : BitVec 32 := 154#32
  let v2035 : BitVec 32 := Scalar.addi v2034 c154_i32
  let v2036 : Index := Scalar.indexCast v2035
  ![v2036.toNat]
def k0_off567 (v2037 : BitVec 32) : Fin 2 → Nat :=
  let c3_i32_997 : BitVec 32 := 3#32
  let v2038 : BitVec 32 := Scalar.shrsi v2037 c3_i32_997
  let c4095_i32_998 : BitVec 32 := 4095#32
  let v2039 : BitVec 32 := Scalar.minsi v2038 c4095_i32_998
  let c8_i32_999 : BitVec 32 := 8#32
  let v2040 : BitVec 32 := Scalar.muli v2039 c8_i32_999
  let v2041 : Index := Scalar.indexCast v2040
  let c0_1000 : Index := 0#32
  ![v2041.toNat, 0]

def k0_chk412 (i : grid0.Coords) (v0 : BitVec 32) (v2037 : BitVec 32) : Prop :=
  (∀ (k0_h2 : k0_cond2 i v0 = 1#1), ∀ a, (k0_off567 v2037) a + S8x128.size a ≤ S32768x128.size a)
theorem k0_off567_inb : ∀ (i : grid0.Coords) (v0 : BitVec 32) (v2037 : BitVec 32) (k0_hw412 : k0_chk412 i v0 v2037), ∀ (k0_h2 : k0_cond2 i v0 = 1#1), ∀ a, (k0_off567 v2037) a + S8x128.size a ≤ S32768x128.size a := fun i v0 v2037 k0_hw412 k0_h2 => k0_hw412 k0_h2

def k0_off568 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1002 : BitVec 32 := 256#32
  let v2046 : BitVec 32 := Scalar.muli v129 c256_i32_1002
  let c155_i32 : BitVec 32 := 155#32
  let v2047 : BitVec 32 := Scalar.addi v2046 c155_i32
  let v2048 : Index := Scalar.indexCast v2047
  ![v2048.toNat]
def k0_off569 (v2049 : BitVec 32) : Fin 2 → Nat :=
  let c3_i32_1003 : BitVec 32 := 3#32
  let v2050 : BitVec 32 := Scalar.shrsi v2049 c3_i32_1003
  let c4095_i32_1004 : BitVec 32 := 4095#32
  let v2051 : BitVec 32 := Scalar.minsi v2050 c4095_i32_1004
  let c8_i32_1005 : BitVec 32 := 8#32
  let v2052 : BitVec 32 := Scalar.muli v2051 c8_i32_1005
  let v2053 : Index := Scalar.indexCast v2052
  let c0_1006 : Index := 0#32
  ![v2053.toNat, 0]

def k0_chk413 (i : grid0.Coords) (v0 : BitVec 32) (v2049 : BitVec 32) : Prop :=
  (∀ (k0_h2 : k0_cond2 i v0 = 1#1), ∀ a, (k0_off569 v2049) a + S8x128.size a ≤ S32768x128.size a)
theorem k0_off569_inb : ∀ (i : grid0.Coords) (v0 : BitVec 32) (v2049 : BitVec 32) (k0_hw413 : k0_chk413 i v0 v2049), ∀ (k0_h2 : k0_cond2 i v0 = 1#1), ∀ a, (k0_off569 v2049) a + S8x128.size a ≤ S32768x128.size a := fun i v0 v2049 k0_hw413 k0_h2 => k0_hw413 k0_h2

def k0_off570 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1008 : BitVec 32 := 256#32
  let v2058 : BitVec 32 := Scalar.muli v129 c256_i32_1008
  let c156_i32 : BitVec 32 := 156#32
  let v2059 : BitVec 32 := Scalar.addi v2058 c156_i32
  let v2060 : Index := Scalar.indexCast v2059
  ![v2060.toNat]
def k0_off571 (v2061 : BitVec 32) : Fin 2 → Nat :=
  let c3_i32_1009 : BitVec 32 := 3#32
  let v2062 : BitVec 32 := Scalar.shrsi v2061 c3_i32_1009
  let c4095_i32_1010 : BitVec 32 := 4095#32
  let v2063 : BitVec 32 := Scalar.minsi v2062 c4095_i32_1010
  let c8_i32_1011 : BitVec 32 := 8#32
  let v2064 : BitVec 32 := Scalar.muli v2063 c8_i32_1011
  let v2065 : Index := Scalar.indexCast v2064
  let c0_1012 : Index := 0#32
  ![v2065.toNat, 0]

def k0_chk414 (i : grid0.Coords) (v0 : BitVec 32) (v2061 : BitVec 32) : Prop :=
  (∀ (k0_h2 : k0_cond2 i v0 = 1#1), ∀ a, (k0_off571 v2061) a + S8x128.size a ≤ S32768x128.size a)
theorem k0_off571_inb : ∀ (i : grid0.Coords) (v0 : BitVec 32) (v2061 : BitVec 32) (k0_hw414 : k0_chk414 i v0 v2061), ∀ (k0_h2 : k0_cond2 i v0 = 1#1), ∀ a, (k0_off571 v2061) a + S8x128.size a ≤ S32768x128.size a := fun i v0 v2061 k0_hw414 k0_h2 => k0_hw414 k0_h2

def k0_off572 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1014 : BitVec 32 := 256#32
  let v2070 : BitVec 32 := Scalar.muli v129 c256_i32_1014
  let c157_i32 : BitVec 32 := 157#32
  let v2071 : BitVec 32 := Scalar.addi v2070 c157_i32
  let v2072 : Index := Scalar.indexCast v2071
  ![v2072.toNat]
def k0_off573 (v2073 : BitVec 32) : Fin 2 → Nat :=
  let c3_i32_1015 : BitVec 32 := 3#32
  let v2074 : BitVec 32 := Scalar.shrsi v2073 c3_i32_1015
  let c4095_i32_1016 : BitVec 32 := 4095#32
  let v2075 : BitVec 32 := Scalar.minsi v2074 c4095_i32_1016
  let c8_i32_1017 : BitVec 32 := 8#32
  let v2076 : BitVec 32 := Scalar.muli v2075 c8_i32_1017
  let v2077 : Index := Scalar.indexCast v2076
  let c0_1018 : Index := 0#32
  ![v2077.toNat, 0]

def k0_chk415 (i : grid0.Coords) (v0 : BitVec 32) (v2073 : BitVec 32) : Prop :=
  (∀ (k0_h2 : k0_cond2 i v0 = 1#1), ∀ a, (k0_off573 v2073) a + S8x128.size a ≤ S32768x128.size a)
theorem k0_off573_inb : ∀ (i : grid0.Coords) (v0 : BitVec 32) (v2073 : BitVec 32) (k0_hw415 : k0_chk415 i v0 v2073), ∀ (k0_h2 : k0_cond2 i v0 = 1#1), ∀ a, (k0_off573 v2073) a + S8x128.size a ≤ S32768x128.size a := fun i v0 v2073 k0_hw415 k0_h2 => k0_hw415 k0_h2

def k0_off574 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1020 : BitVec 32 := 256#32
  let v2082 : BitVec 32 := Scalar.muli v129 c256_i32_1020
  let c158_i32 : BitVec 32 := 158#32
  let v2083 : BitVec 32 := Scalar.addi v2082 c158_i32
  let v2084 : Index := Scalar.indexCast v2083
  ![v2084.toNat]
def k0_off575 (v2085 : BitVec 32) : Fin 2 → Nat :=
  let c3_i32_1021 : BitVec 32 := 3#32
  let v2086 : BitVec 32 := Scalar.shrsi v2085 c3_i32_1021
  let c4095_i32_1022 : BitVec 32 := 4095#32
  let v2087 : BitVec 32 := Scalar.minsi v2086 c4095_i32_1022
  let c8_i32_1023 : BitVec 32 := 8#32
  let v2088 : BitVec 32 := Scalar.muli v2087 c8_i32_1023
  let v2089 : Index := Scalar.indexCast v2088
  let c0_1024 : Index := 0#32
  ![v2089.toNat, 0]

def k0_chk416 (i : grid0.Coords) (v0 : BitVec 32) (v2085 : BitVec 32) : Prop :=
  (∀ (k0_h2 : k0_cond2 i v0 = 1#1), ∀ a, (k0_off575 v2085) a + S8x128.size a ≤ S32768x128.size a)
theorem k0_off575_inb : ∀ (i : grid0.Coords) (v0 : BitVec 32) (v2085 : BitVec 32) (k0_hw416 : k0_chk416 i v0 v2085), ∀ (k0_h2 : k0_cond2 i v0 = 1#1), ∀ a, (k0_off575 v2085) a + S8x128.size a ≤ S32768x128.size a := fun i v0 v2085 k0_hw416 k0_h2 => k0_hw416 k0_h2

def k0_off576 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1026 : BitVec 32 := 256#32
  let v2094 : BitVec 32 := Scalar.muli v129 c256_i32_1026
  let c159_i32 : BitVec 32 := 159#32
  let v2095 : BitVec 32 := Scalar.addi v2094 c159_i32
  let v2096 : Index := Scalar.indexCast v2095
  ![v2096.toNat]
def k0_off577 (v2097 : BitVec 32) : Fin 2 → Nat :=
  let c3_i32_1027 : BitVec 32 := 3#32
  let v2098 : BitVec 32 := Scalar.shrsi v2097 c3_i32_1027
  let c4095_i32_1028 : BitVec 32 := 4095#32
  let v2099 : BitVec 32 := Scalar.minsi v2098 c4095_i32_1028
  let c8_i32_1029 : BitVec 32 := 8#32
  let v2100 : BitVec 32 := Scalar.muli v2099 c8_i32_1029
  let v2101 : Index := Scalar.indexCast v2100
  let c0_1030 : Index := 0#32
  ![v2101.toNat, 0]

def k0_chk417 (i : grid0.Coords) (v0 : BitVec 32) (v2097 : BitVec 32) : Prop :=
  (∀ (k0_h2 : k0_cond2 i v0 = 1#1), ∀ a, (k0_off577 v2097) a + S8x128.size a ≤ S32768x128.size a)
theorem k0_off577_inb : ∀ (i : grid0.Coords) (v0 : BitVec 32) (v2097 : BitVec 32) (k0_hw417 : k0_chk417 i v0 v2097), ∀ (k0_h2 : k0_cond2 i v0 = 1#1), ∀ a, (k0_off577 v2097) a + S8x128.size a ≤ S32768x128.size a := fun i v0 v2097 k0_hw417 k0_h2 => k0_hw417 k0_h2

def k0_off578 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1032 : BitVec 32 := 256#32
  let v2106 : BitVec 32 := Scalar.muli v129 c256_i32_1032
  let c160_i32 : BitVec 32 := 160#32
  let v2107 : BitVec 32 := Scalar.addi v2106 c160_i32
  let v2108 : Index := Scalar.indexCast v2107
  ![v2108.toNat]
def k0_off579 (v2109 : BitVec 32) : Fin 2 → Nat :=
  let c3_i32_1033 : BitVec 32 := 3#32
  let v2110 : BitVec 32 := Scalar.shrsi v2109 c3_i32_1033
  let c4095_i32_1034 : BitVec 32 := 4095#32
  let v2111 : BitVec 32 := Scalar.minsi v2110 c4095_i32_1034
  let c8_i32_1035 : BitVec 32 := 8#32
  let v2112 : BitVec 32 := Scalar.muli v2111 c8_i32_1035
  let v2113 : Index := Scalar.indexCast v2112
  let c0_1036 : Index := 0#32
  ![v2113.toNat, 0]

def k0_chk418 (i : grid0.Coords) (v0 : BitVec 32) (v2109 : BitVec 32) : Prop :=
  (∀ (k0_h2 : k0_cond2 i v0 = 1#1), ∀ a, (k0_off579 v2109) a + S8x128.size a ≤ S32768x128.size a)
theorem k0_off579_inb : ∀ (i : grid0.Coords) (v0 : BitVec 32) (v2109 : BitVec 32) (k0_hw418 : k0_chk418 i v0 v2109), ∀ (k0_h2 : k0_cond2 i v0 = 1#1), ∀ a, (k0_off579 v2109) a + S8x128.size a ≤ S32768x128.size a := fun i v0 v2109 k0_hw418 k0_h2 => k0_hw418 k0_h2

def k0_off580 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1038 : BitVec 32 := 256#32
  let v2118 : BitVec 32 := Scalar.muli v129 c256_i32_1038
  let c161_i32 : BitVec 32 := 161#32
  let v2119 : BitVec 32 := Scalar.addi v2118 c161_i32
  let v2120 : Index := Scalar.indexCast v2119
  ![v2120.toNat]
def k0_off581 (v2121 : BitVec 32) : Fin 2 → Nat :=
  let c3_i32_1039 : BitVec 32 := 3#32
  let v2122 : BitVec 32 := Scalar.shrsi v2121 c3_i32_1039
  let c4095_i32_1040 : BitVec 32 := 4095#32
  let v2123 : BitVec 32 := Scalar.minsi v2122 c4095_i32_1040
  let c8_i32_1041 : BitVec 32 := 8#32
  let v2124 : BitVec 32 := Scalar.muli v2123 c8_i32_1041
  let v2125 : Index := Scalar.indexCast v2124
  let c0_1042 : Index := 0#32
  ![v2125.toNat, 0]

def k0_chk419 (i : grid0.Coords) (v0 : BitVec 32) (v2121 : BitVec 32) : Prop :=
  (∀ (k0_h2 : k0_cond2 i v0 = 1#1), ∀ a, (k0_off581 v2121) a + S8x128.size a ≤ S32768x128.size a)
theorem k0_off581_inb : ∀ (i : grid0.Coords) (v0 : BitVec 32) (v2121 : BitVec 32) (k0_hw419 : k0_chk419 i v0 v2121), ∀ (k0_h2 : k0_cond2 i v0 = 1#1), ∀ a, (k0_off581 v2121) a + S8x128.size a ≤ S32768x128.size a := fun i v0 v2121 k0_hw419 k0_h2 => k0_hw419 k0_h2

def k0_off582 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1044 : BitVec 32 := 256#32
  let v2130 : BitVec 32 := Scalar.muli v129 c256_i32_1044
  let c162_i32 : BitVec 32 := 162#32
  let v2131 : BitVec 32 := Scalar.addi v2130 c162_i32
  let v2132 : Index := Scalar.indexCast v2131
  ![v2132.toNat]
def k0_off583 (v2133 : BitVec 32) : Fin 2 → Nat :=
  let c3_i32_1045 : BitVec 32 := 3#32
  let v2134 : BitVec 32 := Scalar.shrsi v2133 c3_i32_1045
  let c4095_i32_1046 : BitVec 32 := 4095#32
  let v2135 : BitVec 32 := Scalar.minsi v2134 c4095_i32_1046
  let c8_i32_1047 : BitVec 32 := 8#32
  let v2136 : BitVec 32 := Scalar.muli v2135 c8_i32_1047
  let v2137 : Index := Scalar.indexCast v2136
  let c0_1048 : Index := 0#32
  ![v2137.toNat, 0]

def k0_chk420 (i : grid0.Coords) (v0 : BitVec 32) (v2133 : BitVec 32) : Prop :=
  (∀ (k0_h2 : k0_cond2 i v0 = 1#1), ∀ a, (k0_off583 v2133) a + S8x128.size a ≤ S32768x128.size a)
theorem k0_off583_inb : ∀ (i : grid0.Coords) (v0 : BitVec 32) (v2133 : BitVec 32) (k0_hw420 : k0_chk420 i v0 v2133), ∀ (k0_h2 : k0_cond2 i v0 = 1#1), ∀ a, (k0_off583 v2133) a + S8x128.size a ≤ S32768x128.size a := fun i v0 v2133 k0_hw420 k0_h2 => k0_hw420 k0_h2

def k0_off584 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1050 : BitVec 32 := 256#32
  let v2142 : BitVec 32 := Scalar.muli v129 c256_i32_1050
  let c163_i32 : BitVec 32 := 163#32
  let v2143 : BitVec 32 := Scalar.addi v2142 c163_i32
  let v2144 : Index := Scalar.indexCast v2143
  ![v2144.toNat]
def k0_off585 (v2145 : BitVec 32) : Fin 2 → Nat :=
  let c3_i32_1051 : BitVec 32 := 3#32
  let v2146 : BitVec 32 := Scalar.shrsi v2145 c3_i32_1051
  let c4095_i32_1052 : BitVec 32 := 4095#32
  let v2147 : BitVec 32 := Scalar.minsi v2146 c4095_i32_1052
  let c8_i32_1053 : BitVec 32 := 8#32
  let v2148 : BitVec 32 := Scalar.muli v2147 c8_i32_1053
  let v2149 : Index := Scalar.indexCast v2148
  let c0_1054 : Index := 0#32
  ![v2149.toNat, 0]

def k0_chk421 (i : grid0.Coords) (v0 : BitVec 32) (v2145 : BitVec 32) : Prop :=
  (∀ (k0_h2 : k0_cond2 i v0 = 1#1), ∀ a, (k0_off585 v2145) a + S8x128.size a ≤ S32768x128.size a)
theorem k0_off585_inb : ∀ (i : grid0.Coords) (v0 : BitVec 32) (v2145 : BitVec 32) (k0_hw421 : k0_chk421 i v0 v2145), ∀ (k0_h2 : k0_cond2 i v0 = 1#1), ∀ a, (k0_off585 v2145) a + S8x128.size a ≤ S32768x128.size a := fun i v0 v2145 k0_hw421 k0_h2 => k0_hw421 k0_h2

def k0_off586 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1056 : BitVec 32 := 256#32
  let v2154 : BitVec 32 := Scalar.muli v129 c256_i32_1056
  let c164_i32 : BitVec 32 := 164#32
  let v2155 : BitVec 32 := Scalar.addi v2154 c164_i32
  let v2156 : Index := Scalar.indexCast v2155
  ![v2156.toNat]
def k0_off587 (v2157 : BitVec 32) : Fin 2 → Nat :=
  let c3_i32_1057 : BitVec 32 := 3#32
  let v2158 : BitVec 32 := Scalar.shrsi v2157 c3_i32_1057
  let c4095_i32_1058 : BitVec 32 := 4095#32
  let v2159 : BitVec 32 := Scalar.minsi v2158 c4095_i32_1058
  let c8_i32_1059 : BitVec 32 := 8#32
  let v2160 : BitVec 32 := Scalar.muli v2159 c8_i32_1059
  let v2161 : Index := Scalar.indexCast v2160
  let c0_1060 : Index := 0#32
  ![v2161.toNat, 0]

def k0_chk422 (i : grid0.Coords) (v0 : BitVec 32) (v2157 : BitVec 32) : Prop :=
  (∀ (k0_h2 : k0_cond2 i v0 = 1#1), ∀ a, (k0_off587 v2157) a + S8x128.size a ≤ S32768x128.size a)
theorem k0_off587_inb : ∀ (i : grid0.Coords) (v0 : BitVec 32) (v2157 : BitVec 32) (k0_hw422 : k0_chk422 i v0 v2157), ∀ (k0_h2 : k0_cond2 i v0 = 1#1), ∀ a, (k0_off587 v2157) a + S8x128.size a ≤ S32768x128.size a := fun i v0 v2157 k0_hw422 k0_h2 => k0_hw422 k0_h2

def k0_off588 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1062 : BitVec 32 := 256#32
  let v2166 : BitVec 32 := Scalar.muli v129 c256_i32_1062
  let c165_i32 : BitVec 32 := 165#32
  let v2167 : BitVec 32 := Scalar.addi v2166 c165_i32
  let v2168 : Index := Scalar.indexCast v2167
  ![v2168.toNat]
def k0_off589 (v2169 : BitVec 32) : Fin 2 → Nat :=
  let c3_i32_1063 : BitVec 32 := 3#32
  let v2170 : BitVec 32 := Scalar.shrsi v2169 c3_i32_1063
  let c4095_i32_1064 : BitVec 32 := 4095#32
  let v2171 : BitVec 32 := Scalar.minsi v2170 c4095_i32_1064
  let c8_i32_1065 : BitVec 32 := 8#32
  let v2172 : BitVec 32 := Scalar.muli v2171 c8_i32_1065
  let v2173 : Index := Scalar.indexCast v2172
  let c0_1066 : Index := 0#32
  ![v2173.toNat, 0]

def k0_chk423 (i : grid0.Coords) (v0 : BitVec 32) (v2169 : BitVec 32) : Prop :=
  (∀ (k0_h2 : k0_cond2 i v0 = 1#1), ∀ a, (k0_off589 v2169) a + S8x128.size a ≤ S32768x128.size a)
theorem k0_off589_inb : ∀ (i : grid0.Coords) (v0 : BitVec 32) (v2169 : BitVec 32) (k0_hw423 : k0_chk423 i v0 v2169), ∀ (k0_h2 : k0_cond2 i v0 = 1#1), ∀ a, (k0_off589 v2169) a + S8x128.size a ≤ S32768x128.size a := fun i v0 v2169 k0_hw423 k0_h2 => k0_hw423 k0_h2

def k0_off590 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1068 : BitVec 32 := 256#32
  let v2178 : BitVec 32 := Scalar.muli v129 c256_i32_1068
  let c166_i32 : BitVec 32 := 166#32
  let v2179 : BitVec 32 := Scalar.addi v2178 c166_i32
  let v2180 : Index := Scalar.indexCast v2179
  ![v2180.toNat]
def k0_off591 (v2181 : BitVec 32) : Fin 2 → Nat :=
  let c3_i32_1069 : BitVec 32 := 3#32
  let v2182 : BitVec 32 := Scalar.shrsi v2181 c3_i32_1069
  let c4095_i32_1070 : BitVec 32 := 4095#32
  let v2183 : BitVec 32 := Scalar.minsi v2182 c4095_i32_1070
  let c8_i32_1071 : BitVec 32 := 8#32
  let v2184 : BitVec 32 := Scalar.muli v2183 c8_i32_1071
  let v2185 : Index := Scalar.indexCast v2184
  let c0_1072 : Index := 0#32
  ![v2185.toNat, 0]

def k0_chk424 (i : grid0.Coords) (v0 : BitVec 32) (v2181 : BitVec 32) : Prop :=
  (∀ (k0_h2 : k0_cond2 i v0 = 1#1), ∀ a, (k0_off591 v2181) a + S8x128.size a ≤ S32768x128.size a)
theorem k0_off591_inb : ∀ (i : grid0.Coords) (v0 : BitVec 32) (v2181 : BitVec 32) (k0_hw424 : k0_chk424 i v0 v2181), ∀ (k0_h2 : k0_cond2 i v0 = 1#1), ∀ a, (k0_off591 v2181) a + S8x128.size a ≤ S32768x128.size a := fun i v0 v2181 k0_hw424 k0_h2 => k0_hw424 k0_h2

def k0_off592 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1074 : BitVec 32 := 256#32
  let v2190 : BitVec 32 := Scalar.muli v129 c256_i32_1074
  let c167_i32 : BitVec 32 := 167#32
  let v2191 : BitVec 32 := Scalar.addi v2190 c167_i32
  let v2192 : Index := Scalar.indexCast v2191
  ![v2192.toNat]
def k0_off593 (v2193 : BitVec 32) : Fin 2 → Nat :=
  let c3_i32_1075 : BitVec 32 := 3#32
  let v2194 : BitVec 32 := Scalar.shrsi v2193 c3_i32_1075
  let c4095_i32_1076 : BitVec 32 := 4095#32
  let v2195 : BitVec 32 := Scalar.minsi v2194 c4095_i32_1076
  let c8_i32_1077 : BitVec 32 := 8#32
  let v2196 : BitVec 32 := Scalar.muli v2195 c8_i32_1077
  let v2197 : Index := Scalar.indexCast v2196
  let c0_1078 : Index := 0#32
  ![v2197.toNat, 0]

def k0_chk425 (i : grid0.Coords) (v0 : BitVec 32) (v2193 : BitVec 32) : Prop :=
  (∀ (k0_h2 : k0_cond2 i v0 = 1#1), ∀ a, (k0_off593 v2193) a + S8x128.size a ≤ S32768x128.size a)
theorem k0_off593_inb : ∀ (i : grid0.Coords) (v0 : BitVec 32) (v2193 : BitVec 32) (k0_hw425 : k0_chk425 i v0 v2193), ∀ (k0_h2 : k0_cond2 i v0 = 1#1), ∀ a, (k0_off593 v2193) a + S8x128.size a ≤ S32768x128.size a := fun i v0 v2193 k0_hw425 k0_h2 => k0_hw425 k0_h2

def k0_off594 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1080 : BitVec 32 := 256#32
  let v2202 : BitVec 32 := Scalar.muli v129 c256_i32_1080
  let c168_i32 : BitVec 32 := 168#32
  let v2203 : BitVec 32 := Scalar.addi v2202 c168_i32
  let v2204 : Index := Scalar.indexCast v2203
  ![v2204.toNat]
def k0_off595 (v2205 : BitVec 32) : Fin 2 → Nat :=
  let c3_i32_1081 : BitVec 32 := 3#32
  let v2206 : BitVec 32 := Scalar.shrsi v2205 c3_i32_1081
  let c4095_i32_1082 : BitVec 32 := 4095#32
  let v2207 : BitVec 32 := Scalar.minsi v2206 c4095_i32_1082
  let c8_i32_1083 : BitVec 32 := 8#32
  let v2208 : BitVec 32 := Scalar.muli v2207 c8_i32_1083
  let v2209 : Index := Scalar.indexCast v2208
  let c0_1084 : Index := 0#32
  ![v2209.toNat, 0]

def k0_chk426 (i : grid0.Coords) (v0 : BitVec 32) (v2205 : BitVec 32) : Prop :=
  (∀ (k0_h2 : k0_cond2 i v0 = 1#1), ∀ a, (k0_off595 v2205) a + S8x128.size a ≤ S32768x128.size a)
theorem k0_off595_inb : ∀ (i : grid0.Coords) (v0 : BitVec 32) (v2205 : BitVec 32) (k0_hw426 : k0_chk426 i v0 v2205), ∀ (k0_h2 : k0_cond2 i v0 = 1#1), ∀ a, (k0_off595 v2205) a + S8x128.size a ≤ S32768x128.size a := fun i v0 v2205 k0_hw426 k0_h2 => k0_hw426 k0_h2

def k0_off596 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1086 : BitVec 32 := 256#32
  let v2214 : BitVec 32 := Scalar.muli v129 c256_i32_1086
  let c169_i32 : BitVec 32 := 169#32
  let v2215 : BitVec 32 := Scalar.addi v2214 c169_i32
  let v2216 : Index := Scalar.indexCast v2215
  ![v2216.toNat]
def k0_off597 (v2217 : BitVec 32) : Fin 2 → Nat :=
  let c3_i32_1087 : BitVec 32 := 3#32
  let v2218 : BitVec 32 := Scalar.shrsi v2217 c3_i32_1087
  let c4095_i32_1088 : BitVec 32 := 4095#32
  let v2219 : BitVec 32 := Scalar.minsi v2218 c4095_i32_1088
  let c8_i32_1089 : BitVec 32 := 8#32
  let v2220 : BitVec 32 := Scalar.muli v2219 c8_i32_1089
  let v2221 : Index := Scalar.indexCast v2220
  let c0_1090 : Index := 0#32
  ![v2221.toNat, 0]

def k0_chk427 (i : grid0.Coords) (v0 : BitVec 32) (v2217 : BitVec 32) : Prop :=
  (∀ (k0_h2 : k0_cond2 i v0 = 1#1), ∀ a, (k0_off597 v2217) a + S8x128.size a ≤ S32768x128.size a)
theorem k0_off597_inb : ∀ (i : grid0.Coords) (v0 : BitVec 32) (v2217 : BitVec 32) (k0_hw427 : k0_chk427 i v0 v2217), ∀ (k0_h2 : k0_cond2 i v0 = 1#1), ∀ a, (k0_off597 v2217) a + S8x128.size a ≤ S32768x128.size a := fun i v0 v2217 k0_hw427 k0_h2 => k0_hw427 k0_h2

def k0_off598 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1118 : BitVec 32 := 256#32
  let v2282 : BitVec 32 := Scalar.muli v129 c256_i32_1118
  let c170_i32 : BitVec 32 := 170#32
  let v2283 : BitVec 32 := Scalar.addi v2282 c170_i32
  let v2284 : Index := Scalar.indexCast v2283
  ![v2284.toNat]
def k0_off599 (v2285 : BitVec 32) : Fin 2 → Nat :=
  let c3_i32_1119 : BitVec 32 := 3#32
  let v2286 : BitVec 32 := Scalar.shrsi v2285 c3_i32_1119
  let c4095_i32_1120 : BitVec 32 := 4095#32
  let v2287 : BitVec 32 := Scalar.minsi v2286 c4095_i32_1120
  let c8_i32_1121 : BitVec 32 := 8#32
  let v2288 : BitVec 32 := Scalar.muli v2287 c8_i32_1121
  let v2289 : Index := Scalar.indexCast v2288
  let c0_1122 : Index := 0#32
  ![v2289.toNat, 0]

def k0_chk428 (i : grid0.Coords) (v0 : BitVec 32) (v2285 : BitVec 32) : Prop :=
  (∀ (k0_h2 : k0_cond2 i v0 = 1#1), ∀ a, (k0_off599 v2285) a + S8x128.size a ≤ S32768x128.size a)
theorem k0_off599_inb : ∀ (i : grid0.Coords) (v0 : BitVec 32) (v2285 : BitVec 32) (k0_hw428 : k0_chk428 i v0 v2285), ∀ (k0_h2 : k0_cond2 i v0 = 1#1), ∀ a, (k0_off599 v2285) a + S8x128.size a ≤ S32768x128.size a := fun i v0 v2285 k0_hw428 k0_h2 => k0_hw428 k0_h2

def k0_off600 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1124 : BitVec 32 := 256#32
  let v2294 : BitVec 32 := Scalar.muli v129 c256_i32_1124
  let c171_i32 : BitVec 32 := 171#32
  let v2295 : BitVec 32 := Scalar.addi v2294 c171_i32
  let v2296 : Index := Scalar.indexCast v2295
  ![v2296.toNat]
def k0_off601 (v2297 : BitVec 32) : Fin 2 → Nat :=
  let c3_i32_1125 : BitVec 32 := 3#32
  let v2298 : BitVec 32 := Scalar.shrsi v2297 c3_i32_1125
  let c4095_i32_1126 : BitVec 32 := 4095#32
  let v2299 : BitVec 32 := Scalar.minsi v2298 c4095_i32_1126
  let c8_i32_1127 : BitVec 32 := 8#32
  let v2300 : BitVec 32 := Scalar.muli v2299 c8_i32_1127
  let v2301 : Index := Scalar.indexCast v2300
  let c0_1128 : Index := 0#32
  ![v2301.toNat, 0]

def k0_chk429 (i : grid0.Coords) (v0 : BitVec 32) (v2297 : BitVec 32) : Prop :=
  (∀ (k0_h2 : k0_cond2 i v0 = 1#1), ∀ a, (k0_off601 v2297) a + S8x128.size a ≤ S32768x128.size a)
theorem k0_off601_inb : ∀ (i : grid0.Coords) (v0 : BitVec 32) (v2297 : BitVec 32) (k0_hw429 : k0_chk429 i v0 v2297), ∀ (k0_h2 : k0_cond2 i v0 = 1#1), ∀ a, (k0_off601 v2297) a + S8x128.size a ≤ S32768x128.size a := fun i v0 v2297 k0_hw429 k0_h2 => k0_hw429 k0_h2

def k0_off602 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1130 : BitVec 32 := 256#32
  let v2306 : BitVec 32 := Scalar.muli v129 c256_i32_1130
  let c172_i32 : BitVec 32 := 172#32
  let v2307 : BitVec 32 := Scalar.addi v2306 c172_i32
  let v2308 : Index := Scalar.indexCast v2307
  ![v2308.toNat]
def k0_off603 (v2309 : BitVec 32) : Fin 2 → Nat :=
  let c3_i32_1131 : BitVec 32 := 3#32
  let v2310 : BitVec 32 := Scalar.shrsi v2309 c3_i32_1131
  let c4095_i32_1132 : BitVec 32 := 4095#32
  let v2311 : BitVec 32 := Scalar.minsi v2310 c4095_i32_1132
  let c8_i32_1133 : BitVec 32 := 8#32
  let v2312 : BitVec 32 := Scalar.muli v2311 c8_i32_1133
  let v2313 : Index := Scalar.indexCast v2312
  let c0_1134 : Index := 0#32
  ![v2313.toNat, 0]

def k0_chk430 (i : grid0.Coords) (v0 : BitVec 32) (v2309 : BitVec 32) : Prop :=
  (∀ (k0_h2 : k0_cond2 i v0 = 1#1), ∀ a, (k0_off603 v2309) a + S8x128.size a ≤ S32768x128.size a)
theorem k0_off603_inb : ∀ (i : grid0.Coords) (v0 : BitVec 32) (v2309 : BitVec 32) (k0_hw430 : k0_chk430 i v0 v2309), ∀ (k0_h2 : k0_cond2 i v0 = 1#1), ∀ a, (k0_off603 v2309) a + S8x128.size a ≤ S32768x128.size a := fun i v0 v2309 k0_hw430 k0_h2 => k0_hw430 k0_h2

def k0_off604 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1136 : BitVec 32 := 256#32
  let v2318 : BitVec 32 := Scalar.muli v129 c256_i32_1136
  let c173_i32 : BitVec 32 := 173#32
  let v2319 : BitVec 32 := Scalar.addi v2318 c173_i32
  let v2320 : Index := Scalar.indexCast v2319
  ![v2320.toNat]
def k0_off605 (v2321 : BitVec 32) : Fin 2 → Nat :=
  let c3_i32_1137 : BitVec 32 := 3#32
  let v2322 : BitVec 32 := Scalar.shrsi v2321 c3_i32_1137
  let c4095_i32_1138 : BitVec 32 := 4095#32
  let v2323 : BitVec 32 := Scalar.minsi v2322 c4095_i32_1138
  let c8_i32_1139 : BitVec 32 := 8#32
  let v2324 : BitVec 32 := Scalar.muli v2323 c8_i32_1139
  let v2325 : Index := Scalar.indexCast v2324
  let c0_1140 : Index := 0#32
  ![v2325.toNat, 0]

def k0_chk431 (i : grid0.Coords) (v0 : BitVec 32) (v2321 : BitVec 32) : Prop :=
  (∀ (k0_h2 : k0_cond2 i v0 = 1#1), ∀ a, (k0_off605 v2321) a + S8x128.size a ≤ S32768x128.size a)
theorem k0_off605_inb : ∀ (i : grid0.Coords) (v0 : BitVec 32) (v2321 : BitVec 32) (k0_hw431 : k0_chk431 i v0 v2321), ∀ (k0_h2 : k0_cond2 i v0 = 1#1), ∀ a, (k0_off605 v2321) a + S8x128.size a ≤ S32768x128.size a := fun i v0 v2321 k0_hw431 k0_h2 => k0_hw431 k0_h2

def k0_off606 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1142 : BitVec 32 := 256#32
  let v2330 : BitVec 32 := Scalar.muli v129 c256_i32_1142
  let c174_i32 : BitVec 32 := 174#32
  let v2331 : BitVec 32 := Scalar.addi v2330 c174_i32
  let v2332 : Index := Scalar.indexCast v2331
  ![v2332.toNat]
def k0_off607 (v2333 : BitVec 32) : Fin 2 → Nat :=
  let c3_i32_1143 : BitVec 32 := 3#32
  let v2334 : BitVec 32 := Scalar.shrsi v2333 c3_i32_1143
  let c4095_i32_1144 : BitVec 32 := 4095#32
  let v2335 : BitVec 32 := Scalar.minsi v2334 c4095_i32_1144
  let c8_i32_1145 : BitVec 32 := 8#32
  let v2336 : BitVec 32 := Scalar.muli v2335 c8_i32_1145
  let v2337 : Index := Scalar.indexCast v2336
  let c0_1146 : Index := 0#32
  ![v2337.toNat, 0]

def k0_chk432 (i : grid0.Coords) (v0 : BitVec 32) (v2333 : BitVec 32) : Prop :=
  (∀ (k0_h2 : k0_cond2 i v0 = 1#1), ∀ a, (k0_off607 v2333) a + S8x128.size a ≤ S32768x128.size a)
theorem k0_off607_inb : ∀ (i : grid0.Coords) (v0 : BitVec 32) (v2333 : BitVec 32) (k0_hw432 : k0_chk432 i v0 v2333), ∀ (k0_h2 : k0_cond2 i v0 = 1#1), ∀ a, (k0_off607 v2333) a + S8x128.size a ≤ S32768x128.size a := fun i v0 v2333 k0_hw432 k0_h2 => k0_hw432 k0_h2

def k0_off608 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1148 : BitVec 32 := 256#32
  let v2342 : BitVec 32 := Scalar.muli v129 c256_i32_1148
  let c175_i32 : BitVec 32 := 175#32
  let v2343 : BitVec 32 := Scalar.addi v2342 c175_i32
  let v2344 : Index := Scalar.indexCast v2343
  ![v2344.toNat]
def k0_off609 (v2345 : BitVec 32) : Fin 2 → Nat :=
  let c3_i32_1149 : BitVec 32 := 3#32
  let v2346 : BitVec 32 := Scalar.shrsi v2345 c3_i32_1149
  let c4095_i32_1150 : BitVec 32 := 4095#32
  let v2347 : BitVec 32 := Scalar.minsi v2346 c4095_i32_1150
  let c8_i32_1151 : BitVec 32 := 8#32
  let v2348 : BitVec 32 := Scalar.muli v2347 c8_i32_1151
  let v2349 : Index := Scalar.indexCast v2348
  let c0_1152 : Index := 0#32
  ![v2349.toNat, 0]

def k0_chk433 (i : grid0.Coords) (v0 : BitVec 32) (v2345 : BitVec 32) : Prop :=
  (∀ (k0_h2 : k0_cond2 i v0 = 1#1), ∀ a, (k0_off609 v2345) a + S8x128.size a ≤ S32768x128.size a)
theorem k0_off609_inb : ∀ (i : grid0.Coords) (v0 : BitVec 32) (v2345 : BitVec 32) (k0_hw433 : k0_chk433 i v0 v2345), ∀ (k0_h2 : k0_cond2 i v0 = 1#1), ∀ a, (k0_off609 v2345) a + S8x128.size a ≤ S32768x128.size a := fun i v0 v2345 k0_hw433 k0_h2 => k0_hw433 k0_h2

def k0_off610 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1154 : BitVec 32 := 256#32
  let v2354 : BitVec 32 := Scalar.muli v129 c256_i32_1154
  let c176_i32 : BitVec 32 := 176#32
  let v2355 : BitVec 32 := Scalar.addi v2354 c176_i32
  let v2356 : Index := Scalar.indexCast v2355
  ![v2356.toNat]
def k0_off611 (v2357 : BitVec 32) : Fin 2 → Nat :=
  let c3_i32_1155 : BitVec 32 := 3#32
  let v2358 : BitVec 32 := Scalar.shrsi v2357 c3_i32_1155
  let c4095_i32_1156 : BitVec 32 := 4095#32
  let v2359 : BitVec 32 := Scalar.minsi v2358 c4095_i32_1156
  let c8_i32_1157 : BitVec 32 := 8#32
  let v2360 : BitVec 32 := Scalar.muli v2359 c8_i32_1157
  let v2361 : Index := Scalar.indexCast v2360
  let c0_1158 : Index := 0#32
  ![v2361.toNat, 0]

def k0_chk434 (i : grid0.Coords) (v0 : BitVec 32) (v2357 : BitVec 32) : Prop :=
  (∀ (k0_h2 : k0_cond2 i v0 = 1#1), ∀ a, (k0_off611 v2357) a + S8x128.size a ≤ S32768x128.size a)
theorem k0_off611_inb : ∀ (i : grid0.Coords) (v0 : BitVec 32) (v2357 : BitVec 32) (k0_hw434 : k0_chk434 i v0 v2357), ∀ (k0_h2 : k0_cond2 i v0 = 1#1), ∀ a, (k0_off611 v2357) a + S8x128.size a ≤ S32768x128.size a := fun i v0 v2357 k0_hw434 k0_h2 => k0_hw434 k0_h2

def k0_off612 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1160 : BitVec 32 := 256#32
  let v2366 : BitVec 32 := Scalar.muli v129 c256_i32_1160
  let c177_i32 : BitVec 32 := 177#32
  let v2367 : BitVec 32 := Scalar.addi v2366 c177_i32
  let v2368 : Index := Scalar.indexCast v2367
  ![v2368.toNat]
def k0_off613 (v2369 : BitVec 32) : Fin 2 → Nat :=
  let c3_i32_1161 : BitVec 32 := 3#32
  let v2370 : BitVec 32 := Scalar.shrsi v2369 c3_i32_1161
  let c4095_i32_1162 : BitVec 32 := 4095#32
  let v2371 : BitVec 32 := Scalar.minsi v2370 c4095_i32_1162
  let c8_i32_1163 : BitVec 32 := 8#32
  let v2372 : BitVec 32 := Scalar.muli v2371 c8_i32_1163
  let v2373 : Index := Scalar.indexCast v2372
  let c0_1164 : Index := 0#32
  ![v2373.toNat, 0]

def k0_chk435 (i : grid0.Coords) (v0 : BitVec 32) (v2369 : BitVec 32) : Prop :=
  (∀ (k0_h2 : k0_cond2 i v0 = 1#1), ∀ a, (k0_off613 v2369) a + S8x128.size a ≤ S32768x128.size a)
theorem k0_off613_inb : ∀ (i : grid0.Coords) (v0 : BitVec 32) (v2369 : BitVec 32) (k0_hw435 : k0_chk435 i v0 v2369), ∀ (k0_h2 : k0_cond2 i v0 = 1#1), ∀ a, (k0_off613 v2369) a + S8x128.size a ≤ S32768x128.size a := fun i v0 v2369 k0_hw435 k0_h2 => k0_hw435 k0_h2

def k0_off614 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1166 : BitVec 32 := 256#32
  let v2378 : BitVec 32 := Scalar.muli v129 c256_i32_1166
  let c178_i32 : BitVec 32 := 178#32
  let v2379 : BitVec 32 := Scalar.addi v2378 c178_i32
  let v2380 : Index := Scalar.indexCast v2379
  ![v2380.toNat]
def k0_off615 (v2381 : BitVec 32) : Fin 2 → Nat :=
  let c3_i32_1167 : BitVec 32 := 3#32
  let v2382 : BitVec 32 := Scalar.shrsi v2381 c3_i32_1167
  let c4095_i32_1168 : BitVec 32 := 4095#32
  let v2383 : BitVec 32 := Scalar.minsi v2382 c4095_i32_1168
  let c8_i32_1169 : BitVec 32 := 8#32
  let v2384 : BitVec 32 := Scalar.muli v2383 c8_i32_1169
  let v2385 : Index := Scalar.indexCast v2384
  let c0_1170 : Index := 0#32
  ![v2385.toNat, 0]

def k0_chk436 (i : grid0.Coords) (v0 : BitVec 32) (v2381 : BitVec 32) : Prop :=
  (∀ (k0_h2 : k0_cond2 i v0 = 1#1), ∀ a, (k0_off615 v2381) a + S8x128.size a ≤ S32768x128.size a)
theorem k0_off615_inb : ∀ (i : grid0.Coords) (v0 : BitVec 32) (v2381 : BitVec 32) (k0_hw436 : k0_chk436 i v0 v2381), ∀ (k0_h2 : k0_cond2 i v0 = 1#1), ∀ a, (k0_off615 v2381) a + S8x128.size a ≤ S32768x128.size a := fun i v0 v2381 k0_hw436 k0_h2 => k0_hw436 k0_h2

def k0_off616 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1172 : BitVec 32 := 256#32
  let v2390 : BitVec 32 := Scalar.muli v129 c256_i32_1172
  let c179_i32 : BitVec 32 := 179#32
  let v2391 : BitVec 32 := Scalar.addi v2390 c179_i32
  let v2392 : Index := Scalar.indexCast v2391
  ![v2392.toNat]
def k0_off617 (v2393 : BitVec 32) : Fin 2 → Nat :=
  let c3_i32_1173 : BitVec 32 := 3#32
  let v2394 : BitVec 32 := Scalar.shrsi v2393 c3_i32_1173
  let c4095_i32_1174 : BitVec 32 := 4095#32
  let v2395 : BitVec 32 := Scalar.minsi v2394 c4095_i32_1174
  let c8_i32_1175 : BitVec 32 := 8#32
  let v2396 : BitVec 32 := Scalar.muli v2395 c8_i32_1175
  let v2397 : Index := Scalar.indexCast v2396
  let c0_1176 : Index := 0#32
  ![v2397.toNat, 0]

def k0_chk437 (i : grid0.Coords) (v0 : BitVec 32) (v2393 : BitVec 32) : Prop :=
  (∀ (k0_h2 : k0_cond2 i v0 = 1#1), ∀ a, (k0_off617 v2393) a + S8x128.size a ≤ S32768x128.size a)
theorem k0_off617_inb : ∀ (i : grid0.Coords) (v0 : BitVec 32) (v2393 : BitVec 32) (k0_hw437 : k0_chk437 i v0 v2393), ∀ (k0_h2 : k0_cond2 i v0 = 1#1), ∀ a, (k0_off617 v2393) a + S8x128.size a ≤ S32768x128.size a := fun i v0 v2393 k0_hw437 k0_h2 => k0_hw437 k0_h2

def k0_off618 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1178 : BitVec 32 := 256#32
  let v2402 : BitVec 32 := Scalar.muli v129 c256_i32_1178
  let c180_i32 : BitVec 32 := 180#32
  let v2403 : BitVec 32 := Scalar.addi v2402 c180_i32
  let v2404 : Index := Scalar.indexCast v2403
  ![v2404.toNat]
def k0_off619 (v2405 : BitVec 32) : Fin 2 → Nat :=
  let c3_i32_1179 : BitVec 32 := 3#32
  let v2406 : BitVec 32 := Scalar.shrsi v2405 c3_i32_1179
  let c4095_i32_1180 : BitVec 32 := 4095#32
  let v2407 : BitVec 32 := Scalar.minsi v2406 c4095_i32_1180
  let c8_i32_1181 : BitVec 32 := 8#32
  let v2408 : BitVec 32 := Scalar.muli v2407 c8_i32_1181
  let v2409 : Index := Scalar.indexCast v2408
  let c0_1182 : Index := 0#32
  ![v2409.toNat, 0]

def k0_chk438 (i : grid0.Coords) (v0 : BitVec 32) (v2405 : BitVec 32) : Prop :=
  (∀ (k0_h2 : k0_cond2 i v0 = 1#1), ∀ a, (k0_off619 v2405) a + S8x128.size a ≤ S32768x128.size a)
theorem k0_off619_inb : ∀ (i : grid0.Coords) (v0 : BitVec 32) (v2405 : BitVec 32) (k0_hw438 : k0_chk438 i v0 v2405), ∀ (k0_h2 : k0_cond2 i v0 = 1#1), ∀ a, (k0_off619 v2405) a + S8x128.size a ≤ S32768x128.size a := fun i v0 v2405 k0_hw438 k0_h2 => k0_hw438 k0_h2

def k0_off620 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1184 : BitVec 32 := 256#32
  let v2414 : BitVec 32 := Scalar.muli v129 c256_i32_1184
  let c181_i32 : BitVec 32 := 181#32
  let v2415 : BitVec 32 := Scalar.addi v2414 c181_i32
  let v2416 : Index := Scalar.indexCast v2415
  ![v2416.toNat]
def k0_off621 (v2417 : BitVec 32) : Fin 2 → Nat :=
  let c3_i32_1185 : BitVec 32 := 3#32
  let v2418 : BitVec 32 := Scalar.shrsi v2417 c3_i32_1185
  let c4095_i32_1186 : BitVec 32 := 4095#32
  let v2419 : BitVec 32 := Scalar.minsi v2418 c4095_i32_1186
  let c8_i32_1187 : BitVec 32 := 8#32
  let v2420 : BitVec 32 := Scalar.muli v2419 c8_i32_1187
  let v2421 : Index := Scalar.indexCast v2420
  let c0_1188 : Index := 0#32
  ![v2421.toNat, 0]

def k0_chk439 (i : grid0.Coords) (v0 : BitVec 32) (v2417 : BitVec 32) : Prop :=
  (∀ (k0_h2 : k0_cond2 i v0 = 1#1), ∀ a, (k0_off621 v2417) a + S8x128.size a ≤ S32768x128.size a)
theorem k0_off621_inb : ∀ (i : grid0.Coords) (v0 : BitVec 32) (v2417 : BitVec 32) (k0_hw439 : k0_chk439 i v0 v2417), ∀ (k0_h2 : k0_cond2 i v0 = 1#1), ∀ a, (k0_off621 v2417) a + S8x128.size a ≤ S32768x128.size a := fun i v0 v2417 k0_hw439 k0_h2 => k0_hw439 k0_h2

def k0_off622 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1190 : BitVec 32 := 256#32
  let v2426 : BitVec 32 := Scalar.muli v129 c256_i32_1190
  let c182_i32 : BitVec 32 := 182#32
  let v2427 : BitVec 32 := Scalar.addi v2426 c182_i32
  let v2428 : Index := Scalar.indexCast v2427
  ![v2428.toNat]
def k0_off623 (v2429 : BitVec 32) : Fin 2 → Nat :=
  let c3_i32_1191 : BitVec 32 := 3#32
  let v2430 : BitVec 32 := Scalar.shrsi v2429 c3_i32_1191
  let c4095_i32_1192 : BitVec 32 := 4095#32
  let v2431 : BitVec 32 := Scalar.minsi v2430 c4095_i32_1192
  let c8_i32_1193 : BitVec 32 := 8#32
  let v2432 : BitVec 32 := Scalar.muli v2431 c8_i32_1193
  let v2433 : Index := Scalar.indexCast v2432
  let c0_1194 : Index := 0#32
  ![v2433.toNat, 0]

def k0_chk440 (i : grid0.Coords) (v0 : BitVec 32) (v2429 : BitVec 32) : Prop :=
  (∀ (k0_h2 : k0_cond2 i v0 = 1#1), ∀ a, (k0_off623 v2429) a + S8x128.size a ≤ S32768x128.size a)
theorem k0_off623_inb : ∀ (i : grid0.Coords) (v0 : BitVec 32) (v2429 : BitVec 32) (k0_hw440 : k0_chk440 i v0 v2429), ∀ (k0_h2 : k0_cond2 i v0 = 1#1), ∀ a, (k0_off623 v2429) a + S8x128.size a ≤ S32768x128.size a := fun i v0 v2429 k0_hw440 k0_h2 => k0_hw440 k0_h2

def k0_off624 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1196 : BitVec 32 := 256#32
  let v2438 : BitVec 32 := Scalar.muli v129 c256_i32_1196
  let c183_i32 : BitVec 32 := 183#32
  let v2439 : BitVec 32 := Scalar.addi v2438 c183_i32
  let v2440 : Index := Scalar.indexCast v2439
  ![v2440.toNat]
def k0_off625 (v2441 : BitVec 32) : Fin 2 → Nat :=
  let c3_i32_1197 : BitVec 32 := 3#32
  let v2442 : BitVec 32 := Scalar.shrsi v2441 c3_i32_1197
  let c4095_i32_1198 : BitVec 32 := 4095#32
  let v2443 : BitVec 32 := Scalar.minsi v2442 c4095_i32_1198
  let c8_i32_1199 : BitVec 32 := 8#32
  let v2444 : BitVec 32 := Scalar.muli v2443 c8_i32_1199
  let v2445 : Index := Scalar.indexCast v2444
  let c0_1200 : Index := 0#32
  ![v2445.toNat, 0]

def k0_chk441 (i : grid0.Coords) (v0 : BitVec 32) (v2441 : BitVec 32) : Prop :=
  (∀ (k0_h2 : k0_cond2 i v0 = 1#1), ∀ a, (k0_off625 v2441) a + S8x128.size a ≤ S32768x128.size a)
theorem k0_off625_inb : ∀ (i : grid0.Coords) (v0 : BitVec 32) (v2441 : BitVec 32) (k0_hw441 : k0_chk441 i v0 v2441), ∀ (k0_h2 : k0_cond2 i v0 = 1#1), ∀ a, (k0_off625 v2441) a + S8x128.size a ≤ S32768x128.size a := fun i v0 v2441 k0_hw441 k0_h2 => k0_hw441 k0_h2

def k0_off626 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1202 : BitVec 32 := 256#32
  let v2450 : BitVec 32 := Scalar.muli v129 c256_i32_1202
  let c184_i32 : BitVec 32 := 184#32
  let v2451 : BitVec 32 := Scalar.addi v2450 c184_i32
  let v2452 : Index := Scalar.indexCast v2451
  ![v2452.toNat]
def k0_off627 (v2453 : BitVec 32) : Fin 2 → Nat :=
  let c3_i32_1203 : BitVec 32 := 3#32
  let v2454 : BitVec 32 := Scalar.shrsi v2453 c3_i32_1203
  let c4095_i32_1204 : BitVec 32 := 4095#32
  let v2455 : BitVec 32 := Scalar.minsi v2454 c4095_i32_1204
  let c8_i32_1205 : BitVec 32 := 8#32
  let v2456 : BitVec 32 := Scalar.muli v2455 c8_i32_1205
  let v2457 : Index := Scalar.indexCast v2456
  let c0_1206 : Index := 0#32
  ![v2457.toNat, 0]

def k0_chk442 (i : grid0.Coords) (v0 : BitVec 32) (v2453 : BitVec 32) : Prop :=
  (∀ (k0_h2 : k0_cond2 i v0 = 1#1), ∀ a, (k0_off627 v2453) a + S8x128.size a ≤ S32768x128.size a)
theorem k0_off627_inb : ∀ (i : grid0.Coords) (v0 : BitVec 32) (v2453 : BitVec 32) (k0_hw442 : k0_chk442 i v0 v2453), ∀ (k0_h2 : k0_cond2 i v0 = 1#1), ∀ a, (k0_off627 v2453) a + S8x128.size a ≤ S32768x128.size a := fun i v0 v2453 k0_hw442 k0_h2 => k0_hw442 k0_h2

def k0_off628 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1208 : BitVec 32 := 256#32
  let v2462 : BitVec 32 := Scalar.muli v129 c256_i32_1208
  let c185_i32 : BitVec 32 := 185#32
  let v2463 : BitVec 32 := Scalar.addi v2462 c185_i32
  let v2464 : Index := Scalar.indexCast v2463
  ![v2464.toNat]
def k0_off629 (v2465 : BitVec 32) : Fin 2 → Nat :=
  let c3_i32_1209 : BitVec 32 := 3#32
  let v2466 : BitVec 32 := Scalar.shrsi v2465 c3_i32_1209
  let c4095_i32_1210 : BitVec 32 := 4095#32
  let v2467 : BitVec 32 := Scalar.minsi v2466 c4095_i32_1210
  let c8_i32_1211 : BitVec 32 := 8#32
  let v2468 : BitVec 32 := Scalar.muli v2467 c8_i32_1211
  let v2469 : Index := Scalar.indexCast v2468
  let c0_1212 : Index := 0#32
  ![v2469.toNat, 0]

def k0_chk443 (i : grid0.Coords) (v0 : BitVec 32) (v2465 : BitVec 32) : Prop :=
  (∀ (k0_h2 : k0_cond2 i v0 = 1#1), ∀ a, (k0_off629 v2465) a + S8x128.size a ≤ S32768x128.size a)
theorem k0_off629_inb : ∀ (i : grid0.Coords) (v0 : BitVec 32) (v2465 : BitVec 32) (k0_hw443 : k0_chk443 i v0 v2465), ∀ (k0_h2 : k0_cond2 i v0 = 1#1), ∀ a, (k0_off629 v2465) a + S8x128.size a ≤ S32768x128.size a := fun i v0 v2465 k0_hw443 k0_h2 => k0_hw443 k0_h2

def k0_off630 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1214 : BitVec 32 := 256#32
  let v2474 : BitVec 32 := Scalar.muli v129 c256_i32_1214
  let c186_i32 : BitVec 32 := 186#32
  let v2475 : BitVec 32 := Scalar.addi v2474 c186_i32
  let v2476 : Index := Scalar.indexCast v2475
  ![v2476.toNat]
def k0_off631 (v2477 : BitVec 32) : Fin 2 → Nat :=
  let c3_i32_1215 : BitVec 32 := 3#32
  let v2478 : BitVec 32 := Scalar.shrsi v2477 c3_i32_1215
  let c4095_i32_1216 : BitVec 32 := 4095#32
  let v2479 : BitVec 32 := Scalar.minsi v2478 c4095_i32_1216
  let c8_i32_1217 : BitVec 32 := 8#32
  let v2480 : BitVec 32 := Scalar.muli v2479 c8_i32_1217
  let v2481 : Index := Scalar.indexCast v2480
  let c0_1218 : Index := 0#32
  ![v2481.toNat, 0]

def k0_chk444 (i : grid0.Coords) (v0 : BitVec 32) (v2477 : BitVec 32) : Prop :=
  (∀ (k0_h2 : k0_cond2 i v0 = 1#1), ∀ a, (k0_off631 v2477) a + S8x128.size a ≤ S32768x128.size a)
theorem k0_off631_inb : ∀ (i : grid0.Coords) (v0 : BitVec 32) (v2477 : BitVec 32) (k0_hw444 : k0_chk444 i v0 v2477), ∀ (k0_h2 : k0_cond2 i v0 = 1#1), ∀ a, (k0_off631 v2477) a + S8x128.size a ≤ S32768x128.size a := fun i v0 v2477 k0_hw444 k0_h2 => k0_hw444 k0_h2

def k0_off632 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1220 : BitVec 32 := 256#32
  let v2486 : BitVec 32 := Scalar.muli v129 c256_i32_1220
  let c187_i32 : BitVec 32 := 187#32
  let v2487 : BitVec 32 := Scalar.addi v2486 c187_i32
  let v2488 : Index := Scalar.indexCast v2487
  ![v2488.toNat]
def k0_off633 (v2489 : BitVec 32) : Fin 2 → Nat :=
  let c3_i32_1221 : BitVec 32 := 3#32
  let v2490 : BitVec 32 := Scalar.shrsi v2489 c3_i32_1221
  let c4095_i32_1222 : BitVec 32 := 4095#32
  let v2491 : BitVec 32 := Scalar.minsi v2490 c4095_i32_1222
  let c8_i32_1223 : BitVec 32 := 8#32
  let v2492 : BitVec 32 := Scalar.muli v2491 c8_i32_1223
  let v2493 : Index := Scalar.indexCast v2492
  let c0_1224 : Index := 0#32
  ![v2493.toNat, 0]

def k0_chk445 (i : grid0.Coords) (v0 : BitVec 32) (v2489 : BitVec 32) : Prop :=
  (∀ (k0_h2 : k0_cond2 i v0 = 1#1), ∀ a, (k0_off633 v2489) a + S8x128.size a ≤ S32768x128.size a)
theorem k0_off633_inb : ∀ (i : grid0.Coords) (v0 : BitVec 32) (v2489 : BitVec 32) (k0_hw445 : k0_chk445 i v0 v2489), ∀ (k0_h2 : k0_cond2 i v0 = 1#1), ∀ a, (k0_off633 v2489) a + S8x128.size a ≤ S32768x128.size a := fun i v0 v2489 k0_hw445 k0_h2 => k0_hw445 k0_h2

def k0_off634 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1226 : BitVec 32 := 256#32
  let v2498 : BitVec 32 := Scalar.muli v129 c256_i32_1226
  let c188_i32 : BitVec 32 := 188#32
  let v2499 : BitVec 32 := Scalar.addi v2498 c188_i32
  let v2500 : Index := Scalar.indexCast v2499
  ![v2500.toNat]
def k0_off635 (v2501 : BitVec 32) : Fin 2 → Nat :=
  let c3_i32_1227 : BitVec 32 := 3#32
  let v2502 : BitVec 32 := Scalar.shrsi v2501 c3_i32_1227
  let c4095_i32_1228 : BitVec 32 := 4095#32
  let v2503 : BitVec 32 := Scalar.minsi v2502 c4095_i32_1228
  let c8_i32_1229 : BitVec 32 := 8#32
  let v2504 : BitVec 32 := Scalar.muli v2503 c8_i32_1229
  let v2505 : Index := Scalar.indexCast v2504
  let c0_1230 : Index := 0#32
  ![v2505.toNat, 0]

def k0_chk446 (i : grid0.Coords) (v0 : BitVec 32) (v2501 : BitVec 32) : Prop :=
  (∀ (k0_h2 : k0_cond2 i v0 = 1#1), ∀ a, (k0_off635 v2501) a + S8x128.size a ≤ S32768x128.size a)
theorem k0_off635_inb : ∀ (i : grid0.Coords) (v0 : BitVec 32) (v2501 : BitVec 32) (k0_hw446 : k0_chk446 i v0 v2501), ∀ (k0_h2 : k0_cond2 i v0 = 1#1), ∀ a, (k0_off635 v2501) a + S8x128.size a ≤ S32768x128.size a := fun i v0 v2501 k0_hw446 k0_h2 => k0_hw446 k0_h2

def k0_off636 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1232 : BitVec 32 := 256#32
  let v2510 : BitVec 32 := Scalar.muli v129 c256_i32_1232
  let c189_i32 : BitVec 32 := 189#32
  let v2511 : BitVec 32 := Scalar.addi v2510 c189_i32
  let v2512 : Index := Scalar.indexCast v2511
  ![v2512.toNat]
def k0_off637 (v2513 : BitVec 32) : Fin 2 → Nat :=
  let c3_i32_1233 : BitVec 32 := 3#32
  let v2514 : BitVec 32 := Scalar.shrsi v2513 c3_i32_1233
  let c4095_i32_1234 : BitVec 32 := 4095#32
  let v2515 : BitVec 32 := Scalar.minsi v2514 c4095_i32_1234
  let c8_i32_1235 : BitVec 32 := 8#32
  let v2516 : BitVec 32 := Scalar.muli v2515 c8_i32_1235
  let v2517 : Index := Scalar.indexCast v2516
  let c0_1236 : Index := 0#32
  ![v2517.toNat, 0]

def k0_chk447 (i : grid0.Coords) (v0 : BitVec 32) (v2513 : BitVec 32) : Prop :=
  (∀ (k0_h2 : k0_cond2 i v0 = 1#1), ∀ a, (k0_off637 v2513) a + S8x128.size a ≤ S32768x128.size a)
theorem k0_off637_inb : ∀ (i : grid0.Coords) (v0 : BitVec 32) (v2513 : BitVec 32) (k0_hw447 : k0_chk447 i v0 v2513), ∀ (k0_h2 : k0_cond2 i v0 = 1#1), ∀ a, (k0_off637 v2513) a + S8x128.size a ≤ S32768x128.size a := fun i v0 v2513 k0_hw447 k0_h2 => k0_hw447 k0_h2

def k0_off638 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1238 : BitVec 32 := 256#32
  let v2522 : BitVec 32 := Scalar.muli v129 c256_i32_1238
  let c190_i32 : BitVec 32 := 190#32
  let v2523 : BitVec 32 := Scalar.addi v2522 c190_i32
  let v2524 : Index := Scalar.indexCast v2523
  ![v2524.toNat]
def k0_off639 (v2525 : BitVec 32) : Fin 2 → Nat :=
  let c3_i32_1239 : BitVec 32 := 3#32
  let v2526 : BitVec 32 := Scalar.shrsi v2525 c3_i32_1239
  let c4095_i32_1240 : BitVec 32 := 4095#32
  let v2527 : BitVec 32 := Scalar.minsi v2526 c4095_i32_1240
  let c8_i32_1241 : BitVec 32 := 8#32
  let v2528 : BitVec 32 := Scalar.muli v2527 c8_i32_1241
  let v2529 : Index := Scalar.indexCast v2528
  let c0_1242 : Index := 0#32
  ![v2529.toNat, 0]

def k0_chk448 (i : grid0.Coords) (v0 : BitVec 32) (v2525 : BitVec 32) : Prop :=
  (∀ (k0_h2 : k0_cond2 i v0 = 1#1), ∀ a, (k0_off639 v2525) a + S8x128.size a ≤ S32768x128.size a)
theorem k0_off639_inb : ∀ (i : grid0.Coords) (v0 : BitVec 32) (v2525 : BitVec 32) (k0_hw448 : k0_chk448 i v0 v2525), ∀ (k0_h2 : k0_cond2 i v0 = 1#1), ∀ a, (k0_off639 v2525) a + S8x128.size a ≤ S32768x128.size a := fun i v0 v2525 k0_hw448 k0_h2 => k0_hw448 k0_h2

def k0_off640 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1244 : BitVec 32 := 256#32
  let v2534 : BitVec 32 := Scalar.muli v129 c256_i32_1244
  let c191_i32 : BitVec 32 := 191#32
  let v2535 : BitVec 32 := Scalar.addi v2534 c191_i32
  let v2536 : Index := Scalar.indexCast v2535
  ![v2536.toNat]
def k0_off641 (v2537 : BitVec 32) : Fin 2 → Nat :=
  let c3_i32_1245 : BitVec 32 := 3#32
  let v2538 : BitVec 32 := Scalar.shrsi v2537 c3_i32_1245
  let c4095_i32_1246 : BitVec 32 := 4095#32
  let v2539 : BitVec 32 := Scalar.minsi v2538 c4095_i32_1246
  let c8_i32_1247 : BitVec 32 := 8#32
  let v2540 : BitVec 32 := Scalar.muli v2539 c8_i32_1247
  let v2541 : Index := Scalar.indexCast v2540
  let c0_1248 : Index := 0#32
  ![v2541.toNat, 0]

def k0_chk449 (i : grid0.Coords) (v0 : BitVec 32) (v2537 : BitVec 32) : Prop :=
  (∀ (k0_h2 : k0_cond2 i v0 = 1#1), ∀ a, (k0_off641 v2537) a + S8x128.size a ≤ S32768x128.size a)
theorem k0_off641_inb : ∀ (i : grid0.Coords) (v0 : BitVec 32) (v2537 : BitVec 32) (k0_hw449 : k0_chk449 i v0 v2537), ∀ (k0_h2 : k0_cond2 i v0 = 1#1), ∀ a, (k0_off641 v2537) a + S8x128.size a ≤ S32768x128.size a := fun i v0 v2537 k0_hw449 k0_h2 => k0_hw449 k0_h2

def k0_off642 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1250 : BitVec 32 := 256#32
  let v2546 : BitVec 32 := Scalar.muli v129 c256_i32_1250
  let c192_i32 : BitVec 32 := 192#32
  let v2547 : BitVec 32 := Scalar.addi v2546 c192_i32
  let v2548 : Index := Scalar.indexCast v2547
  ![v2548.toNat]
def k0_off643 (v2549 : BitVec 32) : Fin 2 → Nat :=
  let c3_i32_1251 : BitVec 32 := 3#32
  let v2550 : BitVec 32 := Scalar.shrsi v2549 c3_i32_1251
  let c4095_i32_1252 : BitVec 32 := 4095#32
  let v2551 : BitVec 32 := Scalar.minsi v2550 c4095_i32_1252
  let c8_i32_1253 : BitVec 32 := 8#32
  let v2552 : BitVec 32 := Scalar.muli v2551 c8_i32_1253
  let v2553 : Index := Scalar.indexCast v2552
  let c0_1254 : Index := 0#32
  ![v2553.toNat, 0]

def k0_chk450 (i : grid0.Coords) (v0 : BitVec 32) (v2549 : BitVec 32) : Prop :=
  (∀ (k0_h2 : k0_cond2 i v0 = 1#1), ∀ a, (k0_off643 v2549) a + S8x128.size a ≤ S32768x128.size a)
theorem k0_off643_inb : ∀ (i : grid0.Coords) (v0 : BitVec 32) (v2549 : BitVec 32) (k0_hw450 : k0_chk450 i v0 v2549), ∀ (k0_h2 : k0_cond2 i v0 = 1#1), ∀ a, (k0_off643 v2549) a + S8x128.size a ≤ S32768x128.size a := fun i v0 v2549 k0_hw450 k0_h2 => k0_hw450 k0_h2

def k0_off644 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1256 : BitVec 32 := 256#32
  let v2558 : BitVec 32 := Scalar.muli v129 c256_i32_1256
  let c193_i32 : BitVec 32 := 193#32
  let v2559 : BitVec 32 := Scalar.addi v2558 c193_i32
  let v2560 : Index := Scalar.indexCast v2559
  ![v2560.toNat]
def k0_off645 (v2561 : BitVec 32) : Fin 2 → Nat :=
  let c3_i32_1257 : BitVec 32 := 3#32
  let v2562 : BitVec 32 := Scalar.shrsi v2561 c3_i32_1257
  let c4095_i32_1258 : BitVec 32 := 4095#32
  let v2563 : BitVec 32 := Scalar.minsi v2562 c4095_i32_1258
  let c8_i32_1259 : BitVec 32 := 8#32
  let v2564 : BitVec 32 := Scalar.muli v2563 c8_i32_1259
  let v2565 : Index := Scalar.indexCast v2564
  let c0_1260 : Index := 0#32
  ![v2565.toNat, 0]

def k0_chk451 (i : grid0.Coords) (v0 : BitVec 32) (v2561 : BitVec 32) : Prop :=
  (∀ (k0_h2 : k0_cond2 i v0 = 1#1), ∀ a, (k0_off645 v2561) a + S8x128.size a ≤ S32768x128.size a)
theorem k0_off645_inb : ∀ (i : grid0.Coords) (v0 : BitVec 32) (v2561 : BitVec 32) (k0_hw451 : k0_chk451 i v0 v2561), ∀ (k0_h2 : k0_cond2 i v0 = 1#1), ∀ a, (k0_off645 v2561) a + S8x128.size a ≤ S32768x128.size a := fun i v0 v2561 k0_hw451 k0_h2 => k0_hw451 k0_h2

def k0_off646 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1262 : BitVec 32 := 256#32
  let v2570 : BitVec 32 := Scalar.muli v129 c256_i32_1262
  let c194_i32 : BitVec 32 := 194#32
  let v2571 : BitVec 32 := Scalar.addi v2570 c194_i32
  let v2572 : Index := Scalar.indexCast v2571
  ![v2572.toNat]
def k0_off647 (v2573 : BitVec 32) : Fin 2 → Nat :=
  let c3_i32_1263 : BitVec 32 := 3#32
  let v2574 : BitVec 32 := Scalar.shrsi v2573 c3_i32_1263
  let c4095_i32_1264 : BitVec 32 := 4095#32
  let v2575 : BitVec 32 := Scalar.minsi v2574 c4095_i32_1264
  let c8_i32_1265 : BitVec 32 := 8#32
  let v2576 : BitVec 32 := Scalar.muli v2575 c8_i32_1265
  let v2577 : Index := Scalar.indexCast v2576
  let c0_1266 : Index := 0#32
  ![v2577.toNat, 0]

def k0_chk452 (i : grid0.Coords) (v0 : BitVec 32) (v2573 : BitVec 32) : Prop :=
  (∀ (k0_h2 : k0_cond2 i v0 = 1#1), ∀ a, (k0_off647 v2573) a + S8x128.size a ≤ S32768x128.size a)
theorem k0_off647_inb : ∀ (i : grid0.Coords) (v0 : BitVec 32) (v2573 : BitVec 32) (k0_hw452 : k0_chk452 i v0 v2573), ∀ (k0_h2 : k0_cond2 i v0 = 1#1), ∀ a, (k0_off647 v2573) a + S8x128.size a ≤ S32768x128.size a := fun i v0 v2573 k0_hw452 k0_h2 => k0_hw452 k0_h2

def k0_off648 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1268 : BitVec 32 := 256#32
  let v2582 : BitVec 32 := Scalar.muli v129 c256_i32_1268
  let c195_i32 : BitVec 32 := 195#32
  let v2583 : BitVec 32 := Scalar.addi v2582 c195_i32
  let v2584 : Index := Scalar.indexCast v2583
  ![v2584.toNat]
def k0_off649 (v2585 : BitVec 32) : Fin 2 → Nat :=
  let c3_i32_1269 : BitVec 32 := 3#32
  let v2586 : BitVec 32 := Scalar.shrsi v2585 c3_i32_1269
  let c4095_i32_1270 : BitVec 32 := 4095#32
  let v2587 : BitVec 32 := Scalar.minsi v2586 c4095_i32_1270
  let c8_i32_1271 : BitVec 32 := 8#32
  let v2588 : BitVec 32 := Scalar.muli v2587 c8_i32_1271
  let v2589 : Index := Scalar.indexCast v2588
  let c0_1272 : Index := 0#32
  ![v2589.toNat, 0]

def k0_chk453 (i : grid0.Coords) (v0 : BitVec 32) (v2585 : BitVec 32) : Prop :=
  (∀ (k0_h2 : k0_cond2 i v0 = 1#1), ∀ a, (k0_off649 v2585) a + S8x128.size a ≤ S32768x128.size a)
theorem k0_off649_inb : ∀ (i : grid0.Coords) (v0 : BitVec 32) (v2585 : BitVec 32) (k0_hw453 : k0_chk453 i v0 v2585), ∀ (k0_h2 : k0_cond2 i v0 = 1#1), ∀ a, (k0_off649 v2585) a + S8x128.size a ≤ S32768x128.size a := fun i v0 v2585 k0_hw453 k0_h2 => k0_hw453 k0_h2

def k0_off650 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1274 : BitVec 32 := 256#32
  let v2594 : BitVec 32 := Scalar.muli v129 c256_i32_1274
  let c196_i32 : BitVec 32 := 196#32
  let v2595 : BitVec 32 := Scalar.addi v2594 c196_i32
  let v2596 : Index := Scalar.indexCast v2595
  ![v2596.toNat]
def k0_off651 (v2597 : BitVec 32) : Fin 2 → Nat :=
  let c3_i32_1275 : BitVec 32 := 3#32
  let v2598 : BitVec 32 := Scalar.shrsi v2597 c3_i32_1275
  let c4095_i32_1276 : BitVec 32 := 4095#32
  let v2599 : BitVec 32 := Scalar.minsi v2598 c4095_i32_1276
  let c8_i32_1277 : BitVec 32 := 8#32
  let v2600 : BitVec 32 := Scalar.muli v2599 c8_i32_1277
  let v2601 : Index := Scalar.indexCast v2600
  let c0_1278 : Index := 0#32
  ![v2601.toNat, 0]

def k0_chk454 (i : grid0.Coords) (v0 : BitVec 32) (v2597 : BitVec 32) : Prop :=
  (∀ (k0_h2 : k0_cond2 i v0 = 1#1), ∀ a, (k0_off651 v2597) a + S8x128.size a ≤ S32768x128.size a)
theorem k0_off651_inb : ∀ (i : grid0.Coords) (v0 : BitVec 32) (v2597 : BitVec 32) (k0_hw454 : k0_chk454 i v0 v2597), ∀ (k0_h2 : k0_cond2 i v0 = 1#1), ∀ a, (k0_off651 v2597) a + S8x128.size a ≤ S32768x128.size a := fun i v0 v2597 k0_hw454 k0_h2 => k0_hw454 k0_h2

def k0_off652 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1280 : BitVec 32 := 256#32
  let v2606 : BitVec 32 := Scalar.muli v129 c256_i32_1280
  let c197_i32 : BitVec 32 := 197#32
  let v2607 : BitVec 32 := Scalar.addi v2606 c197_i32
  let v2608 : Index := Scalar.indexCast v2607
  ![v2608.toNat]
def k0_off653 (v2609 : BitVec 32) : Fin 2 → Nat :=
  let c3_i32_1281 : BitVec 32 := 3#32
  let v2610 : BitVec 32 := Scalar.shrsi v2609 c3_i32_1281
  let c4095_i32_1282 : BitVec 32 := 4095#32
  let v2611 : BitVec 32 := Scalar.minsi v2610 c4095_i32_1282
  let c8_i32_1283 : BitVec 32 := 8#32
  let v2612 : BitVec 32 := Scalar.muli v2611 c8_i32_1283
  let v2613 : Index := Scalar.indexCast v2612
  let c0_1284 : Index := 0#32
  ![v2613.toNat, 0]

def k0_chk455 (i : grid0.Coords) (v0 : BitVec 32) (v2609 : BitVec 32) : Prop :=
  (∀ (k0_h2 : k0_cond2 i v0 = 1#1), ∀ a, (k0_off653 v2609) a + S8x128.size a ≤ S32768x128.size a)
theorem k0_off653_inb : ∀ (i : grid0.Coords) (v0 : BitVec 32) (v2609 : BitVec 32) (k0_hw455 : k0_chk455 i v0 v2609), ∀ (k0_h2 : k0_cond2 i v0 = 1#1), ∀ a, (k0_off653 v2609) a + S8x128.size a ≤ S32768x128.size a := fun i v0 v2609 k0_hw455 k0_h2 => k0_hw455 k0_h2

def k0_off654 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1286 : BitVec 32 := 256#32
  let v2618 : BitVec 32 := Scalar.muli v129 c256_i32_1286
  let c198_i32 : BitVec 32 := 198#32
  let v2619 : BitVec 32 := Scalar.addi v2618 c198_i32
  let v2620 : Index := Scalar.indexCast v2619
  ![v2620.toNat]
def k0_off655 (v2621 : BitVec 32) : Fin 2 → Nat :=
  let c3_i32_1287 : BitVec 32 := 3#32
  let v2622 : BitVec 32 := Scalar.shrsi v2621 c3_i32_1287
  let c4095_i32_1288 : BitVec 32 := 4095#32
  let v2623 : BitVec 32 := Scalar.minsi v2622 c4095_i32_1288
  let c8_i32_1289 : BitVec 32 := 8#32
  let v2624 : BitVec 32 := Scalar.muli v2623 c8_i32_1289
  let v2625 : Index := Scalar.indexCast v2624
  let c0_1290 : Index := 0#32
  ![v2625.toNat, 0]

def k0_chk456 (i : grid0.Coords) (v0 : BitVec 32) (v2621 : BitVec 32) : Prop :=
  (∀ (k0_h2 : k0_cond2 i v0 = 1#1), ∀ a, (k0_off655 v2621) a + S8x128.size a ≤ S32768x128.size a)
theorem k0_off655_inb : ∀ (i : grid0.Coords) (v0 : BitVec 32) (v2621 : BitVec 32) (k0_hw456 : k0_chk456 i v0 v2621), ∀ (k0_h2 : k0_cond2 i v0 = 1#1), ∀ a, (k0_off655 v2621) a + S8x128.size a ≤ S32768x128.size a := fun i v0 v2621 k0_hw456 k0_h2 => k0_hw456 k0_h2

def k0_off656 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1292 : BitVec 32 := 256#32
  let v2630 : BitVec 32 := Scalar.muli v129 c256_i32_1292
  let c199_i32 : BitVec 32 := 199#32
  let v2631 : BitVec 32 := Scalar.addi v2630 c199_i32
  let v2632 : Index := Scalar.indexCast v2631
  ![v2632.toNat]
def k0_off657 (v2633 : BitVec 32) : Fin 2 → Nat :=
  let c3_i32_1293 : BitVec 32 := 3#32
  let v2634 : BitVec 32 := Scalar.shrsi v2633 c3_i32_1293
  let c4095_i32_1294 : BitVec 32 := 4095#32
  let v2635 : BitVec 32 := Scalar.minsi v2634 c4095_i32_1294
  let c8_i32_1295 : BitVec 32 := 8#32
  let v2636 : BitVec 32 := Scalar.muli v2635 c8_i32_1295
  let v2637 : Index := Scalar.indexCast v2636
  let c0_1296 : Index := 0#32
  ![v2637.toNat, 0]

def k0_chk457 (i : grid0.Coords) (v0 : BitVec 32) (v2633 : BitVec 32) : Prop :=
  (∀ (k0_h2 : k0_cond2 i v0 = 1#1), ∀ a, (k0_off657 v2633) a + S8x128.size a ≤ S32768x128.size a)
theorem k0_off657_inb : ∀ (i : grid0.Coords) (v0 : BitVec 32) (v2633 : BitVec 32) (k0_hw457 : k0_chk457 i v0 v2633), ∀ (k0_h2 : k0_cond2 i v0 = 1#1), ∀ a, (k0_off657 v2633) a + S8x128.size a ≤ S32768x128.size a := fun i v0 v2633 k0_hw457 k0_h2 => k0_hw457 k0_h2

def k0_off658 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1298 : BitVec 32 := 256#32
  let v2642 : BitVec 32 := Scalar.muli v129 c256_i32_1298
  let c200_i32 : BitVec 32 := 200#32
  let v2643 : BitVec 32 := Scalar.addi v2642 c200_i32
  let v2644 : Index := Scalar.indexCast v2643
  ![v2644.toNat]
def k0_off659 (v2645 : BitVec 32) : Fin 2 → Nat :=
  let c3_i32_1299 : BitVec 32 := 3#32
  let v2646 : BitVec 32 := Scalar.shrsi v2645 c3_i32_1299
  let c4095_i32_1300 : BitVec 32 := 4095#32
  let v2647 : BitVec 32 := Scalar.minsi v2646 c4095_i32_1300
  let c8_i32_1301 : BitVec 32 := 8#32
  let v2648 : BitVec 32 := Scalar.muli v2647 c8_i32_1301
  let v2649 : Index := Scalar.indexCast v2648
  let c0_1302 : Index := 0#32
  ![v2649.toNat, 0]

def k0_chk458 (i : grid0.Coords) (v0 : BitVec 32) (v2645 : BitVec 32) : Prop :=
  (∀ (k0_h2 : k0_cond2 i v0 = 1#1), ∀ a, (k0_off659 v2645) a + S8x128.size a ≤ S32768x128.size a)
theorem k0_off659_inb : ∀ (i : grid0.Coords) (v0 : BitVec 32) (v2645 : BitVec 32) (k0_hw458 : k0_chk458 i v0 v2645), ∀ (k0_h2 : k0_cond2 i v0 = 1#1), ∀ a, (k0_off659 v2645) a + S8x128.size a ≤ S32768x128.size a := fun i v0 v2645 k0_hw458 k0_h2 => k0_hw458 k0_h2

def k0_off660 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1304 : BitVec 32 := 256#32
  let v2654 : BitVec 32 := Scalar.muli v129 c256_i32_1304
  let c201_i32 : BitVec 32 := 201#32
  let v2655 : BitVec 32 := Scalar.addi v2654 c201_i32
  let v2656 : Index := Scalar.indexCast v2655
  ![v2656.toNat]
def k0_off661 (v2657 : BitVec 32) : Fin 2 → Nat :=
  let c3_i32_1305 : BitVec 32 := 3#32
  let v2658 : BitVec 32 := Scalar.shrsi v2657 c3_i32_1305
  let c4095_i32_1306 : BitVec 32 := 4095#32
  let v2659 : BitVec 32 := Scalar.minsi v2658 c4095_i32_1306
  let c8_i32_1307 : BitVec 32 := 8#32
  let v2660 : BitVec 32 := Scalar.muli v2659 c8_i32_1307
  let v2661 : Index := Scalar.indexCast v2660
  let c0_1308 : Index := 0#32
  ![v2661.toNat, 0]

def k0_chk459 (i : grid0.Coords) (v0 : BitVec 32) (v2657 : BitVec 32) : Prop :=
  (∀ (k0_h2 : k0_cond2 i v0 = 1#1), ∀ a, (k0_off661 v2657) a + S8x128.size a ≤ S32768x128.size a)
theorem k0_off661_inb : ∀ (i : grid0.Coords) (v0 : BitVec 32) (v2657 : BitVec 32) (k0_hw459 : k0_chk459 i v0 v2657), ∀ (k0_h2 : k0_cond2 i v0 = 1#1), ∀ a, (k0_off661 v2657) a + S8x128.size a ≤ S32768x128.size a := fun i v0 v2657 k0_hw459 k0_h2 => k0_hw459 k0_h2

def k0_off662 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1310 : BitVec 32 := 256#32
  let v2666 : BitVec 32 := Scalar.muli v129 c256_i32_1310
  let c202_i32 : BitVec 32 := 202#32
  let v2667 : BitVec 32 := Scalar.addi v2666 c202_i32
  let v2668 : Index := Scalar.indexCast v2667
  ![v2668.toNat]
def k0_off663 (v2669 : BitVec 32) : Fin 2 → Nat :=
  let c3_i32_1311 : BitVec 32 := 3#32
  let v2670 : BitVec 32 := Scalar.shrsi v2669 c3_i32_1311
  let c4095_i32_1312 : BitVec 32 := 4095#32
  let v2671 : BitVec 32 := Scalar.minsi v2670 c4095_i32_1312
  let c8_i32_1313 : BitVec 32 := 8#32
  let v2672 : BitVec 32 := Scalar.muli v2671 c8_i32_1313
  let v2673 : Index := Scalar.indexCast v2672
  let c0_1314 : Index := 0#32
  ![v2673.toNat, 0]

def k0_chk460 (i : grid0.Coords) (v0 : BitVec 32) (v2669 : BitVec 32) : Prop :=
  (∀ (k0_h2 : k0_cond2 i v0 = 1#1), ∀ a, (k0_off663 v2669) a + S8x128.size a ≤ S32768x128.size a)
theorem k0_off663_inb : ∀ (i : grid0.Coords) (v0 : BitVec 32) (v2669 : BitVec 32) (k0_hw460 : k0_chk460 i v0 v2669), ∀ (k0_h2 : k0_cond2 i v0 = 1#1), ∀ a, (k0_off663 v2669) a + S8x128.size a ≤ S32768x128.size a := fun i v0 v2669 k0_hw460 k0_h2 => k0_hw460 k0_h2

def k0_off664 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1316 : BitVec 32 := 256#32
  let v2678 : BitVec 32 := Scalar.muli v129 c256_i32_1316
  let c203_i32 : BitVec 32 := 203#32
  let v2679 : BitVec 32 := Scalar.addi v2678 c203_i32
  let v2680 : Index := Scalar.indexCast v2679
  ![v2680.toNat]
def k0_off665 (v2681 : BitVec 32) : Fin 2 → Nat :=
  let c3_i32_1317 : BitVec 32 := 3#32
  let v2682 : BitVec 32 := Scalar.shrsi v2681 c3_i32_1317
  let c4095_i32_1318 : BitVec 32 := 4095#32
  let v2683 : BitVec 32 := Scalar.minsi v2682 c4095_i32_1318
  let c8_i32_1319 : BitVec 32 := 8#32
  let v2684 : BitVec 32 := Scalar.muli v2683 c8_i32_1319
  let v2685 : Index := Scalar.indexCast v2684
  let c0_1320 : Index := 0#32
  ![v2685.toNat, 0]

def k0_chk461 (i : grid0.Coords) (v0 : BitVec 32) (v2681 : BitVec 32) : Prop :=
  (∀ (k0_h2 : k0_cond2 i v0 = 1#1), ∀ a, (k0_off665 v2681) a + S8x128.size a ≤ S32768x128.size a)
theorem k0_off665_inb : ∀ (i : grid0.Coords) (v0 : BitVec 32) (v2681 : BitVec 32) (k0_hw461 : k0_chk461 i v0 v2681), ∀ (k0_h2 : k0_cond2 i v0 = 1#1), ∀ a, (k0_off665 v2681) a + S8x128.size a ≤ S32768x128.size a := fun i v0 v2681 k0_hw461 k0_h2 => k0_hw461 k0_h2

def k0_off666 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1322 : BitVec 32 := 256#32
  let v2690 : BitVec 32 := Scalar.muli v129 c256_i32_1322
  let c204_i32 : BitVec 32 := 204#32
  let v2691 : BitVec 32 := Scalar.addi v2690 c204_i32
  let v2692 : Index := Scalar.indexCast v2691
  ![v2692.toNat]
def k0_off667 (v2693 : BitVec 32) : Fin 2 → Nat :=
  let c3_i32_1323 : BitVec 32 := 3#32
  let v2694 : BitVec 32 := Scalar.shrsi v2693 c3_i32_1323
  let c4095_i32_1324 : BitVec 32 := 4095#32
  let v2695 : BitVec 32 := Scalar.minsi v2694 c4095_i32_1324
  let c8_i32_1325 : BitVec 32 := 8#32
  let v2696 : BitVec 32 := Scalar.muli v2695 c8_i32_1325
  let v2697 : Index := Scalar.indexCast v2696
  let c0_1326 : Index := 0#32
  ![v2697.toNat, 0]

def k0_chk462 (i : grid0.Coords) (v0 : BitVec 32) (v2693 : BitVec 32) : Prop :=
  (∀ (k0_h2 : k0_cond2 i v0 = 1#1), ∀ a, (k0_off667 v2693) a + S8x128.size a ≤ S32768x128.size a)
theorem k0_off667_inb : ∀ (i : grid0.Coords) (v0 : BitVec 32) (v2693 : BitVec 32) (k0_hw462 : k0_chk462 i v0 v2693), ∀ (k0_h2 : k0_cond2 i v0 = 1#1), ∀ a, (k0_off667 v2693) a + S8x128.size a ≤ S32768x128.size a := fun i v0 v2693 k0_hw462 k0_h2 => k0_hw462 k0_h2

def k0_off668 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1328 : BitVec 32 := 256#32
  let v2702 : BitVec 32 := Scalar.muli v129 c256_i32_1328
  let c205_i32 : BitVec 32 := 205#32
  let v2703 : BitVec 32 := Scalar.addi v2702 c205_i32
  let v2704 : Index := Scalar.indexCast v2703
  ![v2704.toNat]
def k0_off669 (v2705 : BitVec 32) : Fin 2 → Nat :=
  let c3_i32_1329 : BitVec 32 := 3#32
  let v2706 : BitVec 32 := Scalar.shrsi v2705 c3_i32_1329
  let c4095_i32_1330 : BitVec 32 := 4095#32
  let v2707 : BitVec 32 := Scalar.minsi v2706 c4095_i32_1330
  let c8_i32_1331 : BitVec 32 := 8#32
  let v2708 : BitVec 32 := Scalar.muli v2707 c8_i32_1331
  let v2709 : Index := Scalar.indexCast v2708
  let c0_1332 : Index := 0#32
  ![v2709.toNat, 0]

def k0_chk463 (i : grid0.Coords) (v0 : BitVec 32) (v2705 : BitVec 32) : Prop :=
  (∀ (k0_h2 : k0_cond2 i v0 = 1#1), ∀ a, (k0_off669 v2705) a + S8x128.size a ≤ S32768x128.size a)
theorem k0_off669_inb : ∀ (i : grid0.Coords) (v0 : BitVec 32) (v2705 : BitVec 32) (k0_hw463 : k0_chk463 i v0 v2705), ∀ (k0_h2 : k0_cond2 i v0 = 1#1), ∀ a, (k0_off669 v2705) a + S8x128.size a ≤ S32768x128.size a := fun i v0 v2705 k0_hw463 k0_h2 => k0_hw463 k0_h2

def k0_off670 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1334 : BitVec 32 := 256#32
  let v2714 : BitVec 32 := Scalar.muli v129 c256_i32_1334
  let c206_i32 : BitVec 32 := 206#32
  let v2715 : BitVec 32 := Scalar.addi v2714 c206_i32
  let v2716 : Index := Scalar.indexCast v2715
  ![v2716.toNat]
def k0_off671 (v2717 : BitVec 32) : Fin 2 → Nat :=
  let c3_i32_1335 : BitVec 32 := 3#32
  let v2718 : BitVec 32 := Scalar.shrsi v2717 c3_i32_1335
  let c4095_i32_1336 : BitVec 32 := 4095#32
  let v2719 : BitVec 32 := Scalar.minsi v2718 c4095_i32_1336
  let c8_i32_1337 : BitVec 32 := 8#32
  let v2720 : BitVec 32 := Scalar.muli v2719 c8_i32_1337
  let v2721 : Index := Scalar.indexCast v2720
  let c0_1338 : Index := 0#32
  ![v2721.toNat, 0]

def k0_chk464 (i : grid0.Coords) (v0 : BitVec 32) (v2717 : BitVec 32) : Prop :=
  (∀ (k0_h2 : k0_cond2 i v0 = 1#1), ∀ a, (k0_off671 v2717) a + S8x128.size a ≤ S32768x128.size a)
theorem k0_off671_inb : ∀ (i : grid0.Coords) (v0 : BitVec 32) (v2717 : BitVec 32) (k0_hw464 : k0_chk464 i v0 v2717), ∀ (k0_h2 : k0_cond2 i v0 = 1#1), ∀ a, (k0_off671 v2717) a + S8x128.size a ≤ S32768x128.size a := fun i v0 v2717 k0_hw464 k0_h2 => k0_hw464 k0_h2

def k0_off672 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1340 : BitVec 32 := 256#32
  let v2726 : BitVec 32 := Scalar.muli v129 c256_i32_1340
  let c207_i32 : BitVec 32 := 207#32
  let v2727 : BitVec 32 := Scalar.addi v2726 c207_i32
  let v2728 : Index := Scalar.indexCast v2727
  ![v2728.toNat]
def k0_off673 (v2729 : BitVec 32) : Fin 2 → Nat :=
  let c3_i32_1341 : BitVec 32 := 3#32
  let v2730 : BitVec 32 := Scalar.shrsi v2729 c3_i32_1341
  let c4095_i32_1342 : BitVec 32 := 4095#32
  let v2731 : BitVec 32 := Scalar.minsi v2730 c4095_i32_1342
  let c8_i32_1343 : BitVec 32 := 8#32
  let v2732 : BitVec 32 := Scalar.muli v2731 c8_i32_1343
  let v2733 : Index := Scalar.indexCast v2732
  let c0_1344 : Index := 0#32
  ![v2733.toNat, 0]

def k0_chk465 (i : grid0.Coords) (v0 : BitVec 32) (v2729 : BitVec 32) : Prop :=
  (∀ (k0_h2 : k0_cond2 i v0 = 1#1), ∀ a, (k0_off673 v2729) a + S8x128.size a ≤ S32768x128.size a)
theorem k0_off673_inb : ∀ (i : grid0.Coords) (v0 : BitVec 32) (v2729 : BitVec 32) (k0_hw465 : k0_chk465 i v0 v2729), ∀ (k0_h2 : k0_cond2 i v0 = 1#1), ∀ a, (k0_off673 v2729) a + S8x128.size a ≤ S32768x128.size a := fun i v0 v2729 k0_hw465 k0_h2 => k0_hw465 k0_h2

def k0_off674 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1346 : BitVec 32 := 256#32
  let v2738 : BitVec 32 := Scalar.muli v129 c256_i32_1346
  let c208_i32 : BitVec 32 := 208#32
  let v2739 : BitVec 32 := Scalar.addi v2738 c208_i32
  let v2740 : Index := Scalar.indexCast v2739
  ![v2740.toNat]
def k0_off675 (v2741 : BitVec 32) : Fin 2 → Nat :=
  let c3_i32_1347 : BitVec 32 := 3#32
  let v2742 : BitVec 32 := Scalar.shrsi v2741 c3_i32_1347
  let c4095_i32_1348 : BitVec 32 := 4095#32
  let v2743 : BitVec 32 := Scalar.minsi v2742 c4095_i32_1348
  let c8_i32_1349 : BitVec 32 := 8#32
  let v2744 : BitVec 32 := Scalar.muli v2743 c8_i32_1349
  let v2745 : Index := Scalar.indexCast v2744
  let c0_1350 : Index := 0#32
  ![v2745.toNat, 0]

def k0_chk466 (i : grid0.Coords) (v0 : BitVec 32) (v2741 : BitVec 32) : Prop :=
  (∀ (k0_h2 : k0_cond2 i v0 = 1#1), ∀ a, (k0_off675 v2741) a + S8x128.size a ≤ S32768x128.size a)
theorem k0_off675_inb : ∀ (i : grid0.Coords) (v0 : BitVec 32) (v2741 : BitVec 32) (k0_hw466 : k0_chk466 i v0 v2741), ∀ (k0_h2 : k0_cond2 i v0 = 1#1), ∀ a, (k0_off675 v2741) a + S8x128.size a ≤ S32768x128.size a := fun i v0 v2741 k0_hw466 k0_h2 => k0_hw466 k0_h2

def k0_off676 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1352 : BitVec 32 := 256#32
  let v2750 : BitVec 32 := Scalar.muli v129 c256_i32_1352
  let c209_i32 : BitVec 32 := 209#32
  let v2751 : BitVec 32 := Scalar.addi v2750 c209_i32
  let v2752 : Index := Scalar.indexCast v2751
  ![v2752.toNat]
def k0_off677 (v2753 : BitVec 32) : Fin 2 → Nat :=
  let c3_i32_1353 : BitVec 32 := 3#32
  let v2754 : BitVec 32 := Scalar.shrsi v2753 c3_i32_1353
  let c4095_i32_1354 : BitVec 32 := 4095#32
  let v2755 : BitVec 32 := Scalar.minsi v2754 c4095_i32_1354
  let c8_i32_1355 : BitVec 32 := 8#32
  let v2756 : BitVec 32 := Scalar.muli v2755 c8_i32_1355
  let v2757 : Index := Scalar.indexCast v2756
  let c0_1356 : Index := 0#32
  ![v2757.toNat, 0]

def k0_chk467 (i : grid0.Coords) (v0 : BitVec 32) (v2753 : BitVec 32) : Prop :=
  (∀ (k0_h2 : k0_cond2 i v0 = 1#1), ∀ a, (k0_off677 v2753) a + S8x128.size a ≤ S32768x128.size a)
theorem k0_off677_inb : ∀ (i : grid0.Coords) (v0 : BitVec 32) (v2753 : BitVec 32) (k0_hw467 : k0_chk467 i v0 v2753), ∀ (k0_h2 : k0_cond2 i v0 = 1#1), ∀ a, (k0_off677 v2753) a + S8x128.size a ≤ S32768x128.size a := fun i v0 v2753 k0_hw467 k0_h2 => k0_hw467 k0_h2

def k0_off678 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1358 : BitVec 32 := 256#32
  let v2762 : BitVec 32 := Scalar.muli v129 c256_i32_1358
  let c210_i32 : BitVec 32 := 210#32
  let v2763 : BitVec 32 := Scalar.addi v2762 c210_i32
  let v2764 : Index := Scalar.indexCast v2763
  ![v2764.toNat]
def k0_off679 (v2765 : BitVec 32) : Fin 2 → Nat :=
  let c3_i32_1359 : BitVec 32 := 3#32
  let v2766 : BitVec 32 := Scalar.shrsi v2765 c3_i32_1359
  let c4095_i32_1360 : BitVec 32 := 4095#32
  let v2767 : BitVec 32 := Scalar.minsi v2766 c4095_i32_1360
  let c8_i32_1361 : BitVec 32 := 8#32
  let v2768 : BitVec 32 := Scalar.muli v2767 c8_i32_1361
  let v2769 : Index := Scalar.indexCast v2768
  let c0_1362 : Index := 0#32
  ![v2769.toNat, 0]

def k0_chk468 (i : grid0.Coords) (v0 : BitVec 32) (v2765 : BitVec 32) : Prop :=
  (∀ (k0_h2 : k0_cond2 i v0 = 1#1), ∀ a, (k0_off679 v2765) a + S8x128.size a ≤ S32768x128.size a)
theorem k0_off679_inb : ∀ (i : grid0.Coords) (v0 : BitVec 32) (v2765 : BitVec 32) (k0_hw468 : k0_chk468 i v0 v2765), ∀ (k0_h2 : k0_cond2 i v0 = 1#1), ∀ a, (k0_off679 v2765) a + S8x128.size a ≤ S32768x128.size a := fun i v0 v2765 k0_hw468 k0_h2 => k0_hw468 k0_h2

def k0_off680 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1364 : BitVec 32 := 256#32
  let v2774 : BitVec 32 := Scalar.muli v129 c256_i32_1364
  let c211_i32 : BitVec 32 := 211#32
  let v2775 : BitVec 32 := Scalar.addi v2774 c211_i32
  let v2776 : Index := Scalar.indexCast v2775
  ![v2776.toNat]
def k0_off681 (v2777 : BitVec 32) : Fin 2 → Nat :=
  let c3_i32_1365 : BitVec 32 := 3#32
  let v2778 : BitVec 32 := Scalar.shrsi v2777 c3_i32_1365
  let c4095_i32_1366 : BitVec 32 := 4095#32
  let v2779 : BitVec 32 := Scalar.minsi v2778 c4095_i32_1366
  let c8_i32_1367 : BitVec 32 := 8#32
  let v2780 : BitVec 32 := Scalar.muli v2779 c8_i32_1367
  let v2781 : Index := Scalar.indexCast v2780
  let c0_1368 : Index := 0#32
  ![v2781.toNat, 0]

def k0_chk469 (i : grid0.Coords) (v0 : BitVec 32) (v2777 : BitVec 32) : Prop :=
  (∀ (k0_h2 : k0_cond2 i v0 = 1#1), ∀ a, (k0_off681 v2777) a + S8x128.size a ≤ S32768x128.size a)
theorem k0_off681_inb : ∀ (i : grid0.Coords) (v0 : BitVec 32) (v2777 : BitVec 32) (k0_hw469 : k0_chk469 i v0 v2777), ∀ (k0_h2 : k0_cond2 i v0 = 1#1), ∀ a, (k0_off681 v2777) a + S8x128.size a ≤ S32768x128.size a := fun i v0 v2777 k0_hw469 k0_h2 => k0_hw469 k0_h2

def k0_off682 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1370 : BitVec 32 := 256#32
  let v2786 : BitVec 32 := Scalar.muli v129 c256_i32_1370
  let c212_i32 : BitVec 32 := 212#32
  let v2787 : BitVec 32 := Scalar.addi v2786 c212_i32
  let v2788 : Index := Scalar.indexCast v2787
  ![v2788.toNat]
def k0_off683 (v2789 : BitVec 32) : Fin 2 → Nat :=
  let c3_i32_1371 : BitVec 32 := 3#32
  let v2790 : BitVec 32 := Scalar.shrsi v2789 c3_i32_1371
  let c4095_i32_1372 : BitVec 32 := 4095#32
  let v2791 : BitVec 32 := Scalar.minsi v2790 c4095_i32_1372
  let c8_i32_1373 : BitVec 32 := 8#32
  let v2792 : BitVec 32 := Scalar.muli v2791 c8_i32_1373
  let v2793 : Index := Scalar.indexCast v2792
  let c0_1374 : Index := 0#32
  ![v2793.toNat, 0]

def k0_chk470 (i : grid0.Coords) (v0 : BitVec 32) (v2789 : BitVec 32) : Prop :=
  (∀ (k0_h2 : k0_cond2 i v0 = 1#1), ∀ a, (k0_off683 v2789) a + S8x128.size a ≤ S32768x128.size a)
theorem k0_off683_inb : ∀ (i : grid0.Coords) (v0 : BitVec 32) (v2789 : BitVec 32) (k0_hw470 : k0_chk470 i v0 v2789), ∀ (k0_h2 : k0_cond2 i v0 = 1#1), ∀ a, (k0_off683 v2789) a + S8x128.size a ≤ S32768x128.size a := fun i v0 v2789 k0_hw470 k0_h2 => k0_hw470 k0_h2

def k0_off684 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1376 : BitVec 32 := 256#32
  let v2798 : BitVec 32 := Scalar.muli v129 c256_i32_1376
  let c213_i32 : BitVec 32 := 213#32
  let v2799 : BitVec 32 := Scalar.addi v2798 c213_i32
  let v2800 : Index := Scalar.indexCast v2799
  ![v2800.toNat]
def k0_off685 (v2801 : BitVec 32) : Fin 2 → Nat :=
  let c3_i32_1377 : BitVec 32 := 3#32
  let v2802 : BitVec 32 := Scalar.shrsi v2801 c3_i32_1377
  let c4095_i32_1378 : BitVec 32 := 4095#32
  let v2803 : BitVec 32 := Scalar.minsi v2802 c4095_i32_1378
  let c8_i32_1379 : BitVec 32 := 8#32
  let v2804 : BitVec 32 := Scalar.muli v2803 c8_i32_1379
  let v2805 : Index := Scalar.indexCast v2804
  let c0_1380 : Index := 0#32
  ![v2805.toNat, 0]

def k0_chk471 (i : grid0.Coords) (v0 : BitVec 32) (v2801 : BitVec 32) : Prop :=
  (∀ (k0_h2 : k0_cond2 i v0 = 1#1), ∀ a, (k0_off685 v2801) a + S8x128.size a ≤ S32768x128.size a)
theorem k0_off685_inb : ∀ (i : grid0.Coords) (v0 : BitVec 32) (v2801 : BitVec 32) (k0_hw471 : k0_chk471 i v0 v2801), ∀ (k0_h2 : k0_cond2 i v0 = 1#1), ∀ a, (k0_off685 v2801) a + S8x128.size a ≤ S32768x128.size a := fun i v0 v2801 k0_hw471 k0_h2 => k0_hw471 k0_h2

def k0_off686 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1382 : BitVec 32 := 256#32
  let v2810 : BitVec 32 := Scalar.muli v129 c256_i32_1382
  let c214_i32 : BitVec 32 := 214#32
  let v2811 : BitVec 32 := Scalar.addi v2810 c214_i32
  let v2812 : Index := Scalar.indexCast v2811
  ![v2812.toNat]
def k0_off687 (v2813 : BitVec 32) : Fin 2 → Nat :=
  let c3_i32_1383 : BitVec 32 := 3#32
  let v2814 : BitVec 32 := Scalar.shrsi v2813 c3_i32_1383
  let c4095_i32_1384 : BitVec 32 := 4095#32
  let v2815 : BitVec 32 := Scalar.minsi v2814 c4095_i32_1384
  let c8_i32_1385 : BitVec 32 := 8#32
  let v2816 : BitVec 32 := Scalar.muli v2815 c8_i32_1385
  let v2817 : Index := Scalar.indexCast v2816
  let c0_1386 : Index := 0#32
  ![v2817.toNat, 0]

def k0_chk472 (i : grid0.Coords) (v0 : BitVec 32) (v2813 : BitVec 32) : Prop :=
  (∀ (k0_h2 : k0_cond2 i v0 = 1#1), ∀ a, (k0_off687 v2813) a + S8x128.size a ≤ S32768x128.size a)
theorem k0_off687_inb : ∀ (i : grid0.Coords) (v0 : BitVec 32) (v2813 : BitVec 32) (k0_hw472 : k0_chk472 i v0 v2813), ∀ (k0_h2 : k0_cond2 i v0 = 1#1), ∀ a, (k0_off687 v2813) a + S8x128.size a ≤ S32768x128.size a := fun i v0 v2813 k0_hw472 k0_h2 => k0_hw472 k0_h2

def k0_off688 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1388 : BitVec 32 := 256#32
  let v2822 : BitVec 32 := Scalar.muli v129 c256_i32_1388
  let c215_i32 : BitVec 32 := 215#32
  let v2823 : BitVec 32 := Scalar.addi v2822 c215_i32
  let v2824 : Index := Scalar.indexCast v2823
  ![v2824.toNat]
def k0_off689 (v2825 : BitVec 32) : Fin 2 → Nat :=
  let c3_i32_1389 : BitVec 32 := 3#32
  let v2826 : BitVec 32 := Scalar.shrsi v2825 c3_i32_1389
  let c4095_i32_1390 : BitVec 32 := 4095#32
  let v2827 : BitVec 32 := Scalar.minsi v2826 c4095_i32_1390
  let c8_i32_1391 : BitVec 32 := 8#32
  let v2828 : BitVec 32 := Scalar.muli v2827 c8_i32_1391
  let v2829 : Index := Scalar.indexCast v2828
  let c0_1392 : Index := 0#32
  ![v2829.toNat, 0]

def k0_chk473 (i : grid0.Coords) (v0 : BitVec 32) (v2825 : BitVec 32) : Prop :=
  (∀ (k0_h2 : k0_cond2 i v0 = 1#1), ∀ a, (k0_off689 v2825) a + S8x128.size a ≤ S32768x128.size a)
theorem k0_off689_inb : ∀ (i : grid0.Coords) (v0 : BitVec 32) (v2825 : BitVec 32) (k0_hw473 : k0_chk473 i v0 v2825), ∀ (k0_h2 : k0_cond2 i v0 = 1#1), ∀ a, (k0_off689 v2825) a + S8x128.size a ≤ S32768x128.size a := fun i v0 v2825 k0_hw473 k0_h2 => k0_hw473 k0_h2

def k0_off690 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1394 : BitVec 32 := 256#32
  let v2834 : BitVec 32 := Scalar.muli v129 c256_i32_1394
  let c216_i32 : BitVec 32 := 216#32
  let v2835 : BitVec 32 := Scalar.addi v2834 c216_i32
  let v2836 : Index := Scalar.indexCast v2835
  ![v2836.toNat]
def k0_off691 (v2837 : BitVec 32) : Fin 2 → Nat :=
  let c3_i32_1395 : BitVec 32 := 3#32
  let v2838 : BitVec 32 := Scalar.shrsi v2837 c3_i32_1395
  let c4095_i32_1396 : BitVec 32 := 4095#32
  let v2839 : BitVec 32 := Scalar.minsi v2838 c4095_i32_1396
  let c8_i32_1397 : BitVec 32 := 8#32
  let v2840 : BitVec 32 := Scalar.muli v2839 c8_i32_1397
  let v2841 : Index := Scalar.indexCast v2840
  let c0_1398 : Index := 0#32
  ![v2841.toNat, 0]

def k0_chk474 (i : grid0.Coords) (v0 : BitVec 32) (v2837 : BitVec 32) : Prop :=
  (∀ (k0_h2 : k0_cond2 i v0 = 1#1), ∀ a, (k0_off691 v2837) a + S8x128.size a ≤ S32768x128.size a)
theorem k0_off691_inb : ∀ (i : grid0.Coords) (v0 : BitVec 32) (v2837 : BitVec 32) (k0_hw474 : k0_chk474 i v0 v2837), ∀ (k0_h2 : k0_cond2 i v0 = 1#1), ∀ a, (k0_off691 v2837) a + S8x128.size a ≤ S32768x128.size a := fun i v0 v2837 k0_hw474 k0_h2 => k0_hw474 k0_h2

def k0_off692 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1400 : BitVec 32 := 256#32
  let v2846 : BitVec 32 := Scalar.muli v129 c256_i32_1400
  let c217_i32 : BitVec 32 := 217#32
  let v2847 : BitVec 32 := Scalar.addi v2846 c217_i32
  let v2848 : Index := Scalar.indexCast v2847
  ![v2848.toNat]
def k0_off693 (v2849 : BitVec 32) : Fin 2 → Nat :=
  let c3_i32_1401 : BitVec 32 := 3#32
  let v2850 : BitVec 32 := Scalar.shrsi v2849 c3_i32_1401
  let c4095_i32_1402 : BitVec 32 := 4095#32
  let v2851 : BitVec 32 := Scalar.minsi v2850 c4095_i32_1402
  let c8_i32_1403 : BitVec 32 := 8#32
  let v2852 : BitVec 32 := Scalar.muli v2851 c8_i32_1403
  let v2853 : Index := Scalar.indexCast v2852
  let c0_1404 : Index := 0#32
  ![v2853.toNat, 0]

def k0_chk475 (i : grid0.Coords) (v0 : BitVec 32) (v2849 : BitVec 32) : Prop :=
  (∀ (k0_h2 : k0_cond2 i v0 = 1#1), ∀ a, (k0_off693 v2849) a + S8x128.size a ≤ S32768x128.size a)
theorem k0_off693_inb : ∀ (i : grid0.Coords) (v0 : BitVec 32) (v2849 : BitVec 32) (k0_hw475 : k0_chk475 i v0 v2849), ∀ (k0_h2 : k0_cond2 i v0 = 1#1), ∀ a, (k0_off693 v2849) a + S8x128.size a ≤ S32768x128.size a := fun i v0 v2849 k0_hw475 k0_h2 => k0_hw475 k0_h2

def k0_off694 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1406 : BitVec 32 := 256#32
  let v2858 : BitVec 32 := Scalar.muli v129 c256_i32_1406
  let c218_i32 : BitVec 32 := 218#32
  let v2859 : BitVec 32 := Scalar.addi v2858 c218_i32
  let v2860 : Index := Scalar.indexCast v2859
  ![v2860.toNat]
def k0_off695 (v2861 : BitVec 32) : Fin 2 → Nat :=
  let c3_i32_1407 : BitVec 32 := 3#32
  let v2862 : BitVec 32 := Scalar.shrsi v2861 c3_i32_1407
  let c4095_i32_1408 : BitVec 32 := 4095#32
  let v2863 : BitVec 32 := Scalar.minsi v2862 c4095_i32_1408
  let c8_i32_1409 : BitVec 32 := 8#32
  let v2864 : BitVec 32 := Scalar.muli v2863 c8_i32_1409
  let v2865 : Index := Scalar.indexCast v2864
  let c0_1410 : Index := 0#32
  ![v2865.toNat, 0]

def k0_chk476 (i : grid0.Coords) (v0 : BitVec 32) (v2861 : BitVec 32) : Prop :=
  (∀ (k0_h2 : k0_cond2 i v0 = 1#1), ∀ a, (k0_off695 v2861) a + S8x128.size a ≤ S32768x128.size a)
theorem k0_off695_inb : ∀ (i : grid0.Coords) (v0 : BitVec 32) (v2861 : BitVec 32) (k0_hw476 : k0_chk476 i v0 v2861), ∀ (k0_h2 : k0_cond2 i v0 = 1#1), ∀ a, (k0_off695 v2861) a + S8x128.size a ≤ S32768x128.size a := fun i v0 v2861 k0_hw476 k0_h2 => k0_hw476 k0_h2

def k0_off696 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1412 : BitVec 32 := 256#32
  let v2870 : BitVec 32 := Scalar.muli v129 c256_i32_1412
  let c219_i32 : BitVec 32 := 219#32
  let v2871 : BitVec 32 := Scalar.addi v2870 c219_i32
  let v2872 : Index := Scalar.indexCast v2871
  ![v2872.toNat]
def k0_off697 (v2873 : BitVec 32) : Fin 2 → Nat :=
  let c3_i32_1413 : BitVec 32 := 3#32
  let v2874 : BitVec 32 := Scalar.shrsi v2873 c3_i32_1413
  let c4095_i32_1414 : BitVec 32 := 4095#32
  let v2875 : BitVec 32 := Scalar.minsi v2874 c4095_i32_1414
  let c8_i32_1415 : BitVec 32 := 8#32
  let v2876 : BitVec 32 := Scalar.muli v2875 c8_i32_1415
  let v2877 : Index := Scalar.indexCast v2876
  let c0_1416 : Index := 0#32
  ![v2877.toNat, 0]

def k0_chk477 (i : grid0.Coords) (v0 : BitVec 32) (v2873 : BitVec 32) : Prop :=
  (∀ (k0_h2 : k0_cond2 i v0 = 1#1), ∀ a, (k0_off697 v2873) a + S8x128.size a ≤ S32768x128.size a)
theorem k0_off697_inb : ∀ (i : grid0.Coords) (v0 : BitVec 32) (v2873 : BitVec 32) (k0_hw477 : k0_chk477 i v0 v2873), ∀ (k0_h2 : k0_cond2 i v0 = 1#1), ∀ a, (k0_off697 v2873) a + S8x128.size a ≤ S32768x128.size a := fun i v0 v2873 k0_hw477 k0_h2 => k0_hw477 k0_h2

def k0_off698 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1418 : BitVec 32 := 256#32
  let v2882 : BitVec 32 := Scalar.muli v129 c256_i32_1418
  let c220_i32 : BitVec 32 := 220#32
  let v2883 : BitVec 32 := Scalar.addi v2882 c220_i32
  let v2884 : Index := Scalar.indexCast v2883
  ![v2884.toNat]
def k0_off699 (v2885 : BitVec 32) : Fin 2 → Nat :=
  let c3_i32_1419 : BitVec 32 := 3#32
  let v2886 : BitVec 32 := Scalar.shrsi v2885 c3_i32_1419
  let c4095_i32_1420 : BitVec 32 := 4095#32
  let v2887 : BitVec 32 := Scalar.minsi v2886 c4095_i32_1420
  let c8_i32_1421 : BitVec 32 := 8#32
  let v2888 : BitVec 32 := Scalar.muli v2887 c8_i32_1421
  let v2889 : Index := Scalar.indexCast v2888
  let c0_1422 : Index := 0#32
  ![v2889.toNat, 0]

def k0_chk478 (i : grid0.Coords) (v0 : BitVec 32) (v2885 : BitVec 32) : Prop :=
  (∀ (k0_h2 : k0_cond2 i v0 = 1#1), ∀ a, (k0_off699 v2885) a + S8x128.size a ≤ S32768x128.size a)
theorem k0_off699_inb : ∀ (i : grid0.Coords) (v0 : BitVec 32) (v2885 : BitVec 32) (k0_hw478 : k0_chk478 i v0 v2885), ∀ (k0_h2 : k0_cond2 i v0 = 1#1), ∀ a, (k0_off699 v2885) a + S8x128.size a ≤ S32768x128.size a := fun i v0 v2885 k0_hw478 k0_h2 => k0_hw478 k0_h2

def k0_off700 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1424 : BitVec 32 := 256#32
  let v2894 : BitVec 32 := Scalar.muli v129 c256_i32_1424
  let c221_i32 : BitVec 32 := 221#32
  let v2895 : BitVec 32 := Scalar.addi v2894 c221_i32
  let v2896 : Index := Scalar.indexCast v2895
  ![v2896.toNat]
def k0_off701 (v2897 : BitVec 32) : Fin 2 → Nat :=
  let c3_i32_1425 : BitVec 32 := 3#32
  let v2898 : BitVec 32 := Scalar.shrsi v2897 c3_i32_1425
  let c4095_i32_1426 : BitVec 32 := 4095#32
  let v2899 : BitVec 32 := Scalar.minsi v2898 c4095_i32_1426
  let c8_i32_1427 : BitVec 32 := 8#32
  let v2900 : BitVec 32 := Scalar.muli v2899 c8_i32_1427
  let v2901 : Index := Scalar.indexCast v2900
  let c0_1428 : Index := 0#32
  ![v2901.toNat, 0]

def k0_chk479 (i : grid0.Coords) (v0 : BitVec 32) (v2897 : BitVec 32) : Prop :=
  (∀ (k0_h2 : k0_cond2 i v0 = 1#1), ∀ a, (k0_off701 v2897) a + S8x128.size a ≤ S32768x128.size a)
theorem k0_off701_inb : ∀ (i : grid0.Coords) (v0 : BitVec 32) (v2897 : BitVec 32) (k0_hw479 : k0_chk479 i v0 v2897), ∀ (k0_h2 : k0_cond2 i v0 = 1#1), ∀ a, (k0_off701 v2897) a + S8x128.size a ≤ S32768x128.size a := fun i v0 v2897 k0_hw479 k0_h2 => k0_hw479 k0_h2

def k0_off702 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1430 : BitVec 32 := 256#32
  let v2906 : BitVec 32 := Scalar.muli v129 c256_i32_1430
  let c222_i32 : BitVec 32 := 222#32
  let v2907 : BitVec 32 := Scalar.addi v2906 c222_i32
  let v2908 : Index := Scalar.indexCast v2907
  ![v2908.toNat]
def k0_off703 (v2909 : BitVec 32) : Fin 2 → Nat :=
  let c3_i32_1431 : BitVec 32 := 3#32
  let v2910 : BitVec 32 := Scalar.shrsi v2909 c3_i32_1431
  let c4095_i32_1432 : BitVec 32 := 4095#32
  let v2911 : BitVec 32 := Scalar.minsi v2910 c4095_i32_1432
  let c8_i32_1433 : BitVec 32 := 8#32
  let v2912 : BitVec 32 := Scalar.muli v2911 c8_i32_1433
  let v2913 : Index := Scalar.indexCast v2912
  let c0_1434 : Index := 0#32
  ![v2913.toNat, 0]

def k0_chk480 (i : grid0.Coords) (v0 : BitVec 32) (v2909 : BitVec 32) : Prop :=
  (∀ (k0_h2 : k0_cond2 i v0 = 1#1), ∀ a, (k0_off703 v2909) a + S8x128.size a ≤ S32768x128.size a)
theorem k0_off703_inb : ∀ (i : grid0.Coords) (v0 : BitVec 32) (v2909 : BitVec 32) (k0_hw480 : k0_chk480 i v0 v2909), ∀ (k0_h2 : k0_cond2 i v0 = 1#1), ∀ a, (k0_off703 v2909) a + S8x128.size a ≤ S32768x128.size a := fun i v0 v2909 k0_hw480 k0_h2 => k0_hw480 k0_h2

def k0_off704 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1436 : BitVec 32 := 256#32
  let v2918 : BitVec 32 := Scalar.muli v129 c256_i32_1436
  let c223_i32 : BitVec 32 := 223#32
  let v2919 : BitVec 32 := Scalar.addi v2918 c223_i32
  let v2920 : Index := Scalar.indexCast v2919
  ![v2920.toNat]
def k0_off705 (v2921 : BitVec 32) : Fin 2 → Nat :=
  let c3_i32_1437 : BitVec 32 := 3#32
  let v2922 : BitVec 32 := Scalar.shrsi v2921 c3_i32_1437
  let c4095_i32_1438 : BitVec 32 := 4095#32
  let v2923 : BitVec 32 := Scalar.minsi v2922 c4095_i32_1438
  let c8_i32_1439 : BitVec 32 := 8#32
  let v2924 : BitVec 32 := Scalar.muli v2923 c8_i32_1439
  let v2925 : Index := Scalar.indexCast v2924
  let c0_1440 : Index := 0#32
  ![v2925.toNat, 0]

def k0_chk481 (i : grid0.Coords) (v0 : BitVec 32) (v2921 : BitVec 32) : Prop :=
  (∀ (k0_h2 : k0_cond2 i v0 = 1#1), ∀ a, (k0_off705 v2921) a + S8x128.size a ≤ S32768x128.size a)
theorem k0_off705_inb : ∀ (i : grid0.Coords) (v0 : BitVec 32) (v2921 : BitVec 32) (k0_hw481 : k0_chk481 i v0 v2921), ∀ (k0_h2 : k0_cond2 i v0 = 1#1), ∀ a, (k0_off705 v2921) a + S8x128.size a ≤ S32768x128.size a := fun i v0 v2921 k0_hw481 k0_h2 => k0_hw481 k0_h2

def k0_off706 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1442 : BitVec 32 := 256#32
  let v2930 : BitVec 32 := Scalar.muli v129 c256_i32_1442
  let c224_i32 : BitVec 32 := 224#32
  let v2931 : BitVec 32 := Scalar.addi v2930 c224_i32
  let v2932 : Index := Scalar.indexCast v2931
  ![v2932.toNat]
def k0_off707 (v2933 : BitVec 32) : Fin 2 → Nat :=
  let c3_i32_1443 : BitVec 32 := 3#32
  let v2934 : BitVec 32 := Scalar.shrsi v2933 c3_i32_1443
  let c4095_i32_1444 : BitVec 32 := 4095#32
  let v2935 : BitVec 32 := Scalar.minsi v2934 c4095_i32_1444
  let c8_i32_1445 : BitVec 32 := 8#32
  let v2936 : BitVec 32 := Scalar.muli v2935 c8_i32_1445
  let v2937 : Index := Scalar.indexCast v2936
  let c0_1446 : Index := 0#32
  ![v2937.toNat, 0]

def k0_chk482 (i : grid0.Coords) (v0 : BitVec 32) (v2933 : BitVec 32) : Prop :=
  (∀ (k0_h2 : k0_cond2 i v0 = 1#1), ∀ a, (k0_off707 v2933) a + S8x128.size a ≤ S32768x128.size a)
theorem k0_off707_inb : ∀ (i : grid0.Coords) (v0 : BitVec 32) (v2933 : BitVec 32) (k0_hw482 : k0_chk482 i v0 v2933), ∀ (k0_h2 : k0_cond2 i v0 = 1#1), ∀ a, (k0_off707 v2933) a + S8x128.size a ≤ S32768x128.size a := fun i v0 v2933 k0_hw482 k0_h2 => k0_hw482 k0_h2

def k0_off708 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1448 : BitVec 32 := 256#32
  let v2942 : BitVec 32 := Scalar.muli v129 c256_i32_1448
  let c225_i32 : BitVec 32 := 225#32
  let v2943 : BitVec 32 := Scalar.addi v2942 c225_i32
  let v2944 : Index := Scalar.indexCast v2943
  ![v2944.toNat]
def k0_off709 (v2945 : BitVec 32) : Fin 2 → Nat :=
  let c3_i32_1449 : BitVec 32 := 3#32
  let v2946 : BitVec 32 := Scalar.shrsi v2945 c3_i32_1449
  let c4095_i32_1450 : BitVec 32 := 4095#32
  let v2947 : BitVec 32 := Scalar.minsi v2946 c4095_i32_1450
  let c8_i32_1451 : BitVec 32 := 8#32
  let v2948 : BitVec 32 := Scalar.muli v2947 c8_i32_1451
  let v2949 : Index := Scalar.indexCast v2948
  let c0_1452 : Index := 0#32
  ![v2949.toNat, 0]

def k0_chk483 (i : grid0.Coords) (v0 : BitVec 32) (v2945 : BitVec 32) : Prop :=
  (∀ (k0_h2 : k0_cond2 i v0 = 1#1), ∀ a, (k0_off709 v2945) a + S8x128.size a ≤ S32768x128.size a)
theorem k0_off709_inb : ∀ (i : grid0.Coords) (v0 : BitVec 32) (v2945 : BitVec 32) (k0_hw483 : k0_chk483 i v0 v2945), ∀ (k0_h2 : k0_cond2 i v0 = 1#1), ∀ a, (k0_off709 v2945) a + S8x128.size a ≤ S32768x128.size a := fun i v0 v2945 k0_hw483 k0_h2 => k0_hw483 k0_h2

def k0_off710 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1454 : BitVec 32 := 256#32
  let v2954 : BitVec 32 := Scalar.muli v129 c256_i32_1454
  let c226_i32 : BitVec 32 := 226#32
  let v2955 : BitVec 32 := Scalar.addi v2954 c226_i32
  let v2956 : Index := Scalar.indexCast v2955
  ![v2956.toNat]
def k0_off711 (v2957 : BitVec 32) : Fin 2 → Nat :=
  let c3_i32_1455 : BitVec 32 := 3#32
  let v2958 : BitVec 32 := Scalar.shrsi v2957 c3_i32_1455
  let c4095_i32_1456 : BitVec 32 := 4095#32
  let v2959 : BitVec 32 := Scalar.minsi v2958 c4095_i32_1456
  let c8_i32_1457 : BitVec 32 := 8#32
  let v2960 : BitVec 32 := Scalar.muli v2959 c8_i32_1457
  let v2961 : Index := Scalar.indexCast v2960
  let c0_1458 : Index := 0#32
  ![v2961.toNat, 0]

def k0_chk484 (i : grid0.Coords) (v0 : BitVec 32) (v2957 : BitVec 32) : Prop :=
  (∀ (k0_h2 : k0_cond2 i v0 = 1#1), ∀ a, (k0_off711 v2957) a + S8x128.size a ≤ S32768x128.size a)
theorem k0_off711_inb : ∀ (i : grid0.Coords) (v0 : BitVec 32) (v2957 : BitVec 32) (k0_hw484 : k0_chk484 i v0 v2957), ∀ (k0_h2 : k0_cond2 i v0 = 1#1), ∀ a, (k0_off711 v2957) a + S8x128.size a ≤ S32768x128.size a := fun i v0 v2957 k0_hw484 k0_h2 => k0_hw484 k0_h2

def k0_off712 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1460 : BitVec 32 := 256#32
  let v2966 : BitVec 32 := Scalar.muli v129 c256_i32_1460
  let c227_i32 : BitVec 32 := 227#32
  let v2967 : BitVec 32 := Scalar.addi v2966 c227_i32
  let v2968 : Index := Scalar.indexCast v2967
  ![v2968.toNat]
def k0_off713 (v2969 : BitVec 32) : Fin 2 → Nat :=
  let c3_i32_1461 : BitVec 32 := 3#32
  let v2970 : BitVec 32 := Scalar.shrsi v2969 c3_i32_1461
  let c4095_i32_1462 : BitVec 32 := 4095#32
  let v2971 : BitVec 32 := Scalar.minsi v2970 c4095_i32_1462
  let c8_i32_1463 : BitVec 32 := 8#32
  let v2972 : BitVec 32 := Scalar.muli v2971 c8_i32_1463
  let v2973 : Index := Scalar.indexCast v2972
  let c0_1464 : Index := 0#32
  ![v2973.toNat, 0]

def k0_chk485 (i : grid0.Coords) (v0 : BitVec 32) (v2969 : BitVec 32) : Prop :=
  (∀ (k0_h2 : k0_cond2 i v0 = 1#1), ∀ a, (k0_off713 v2969) a + S8x128.size a ≤ S32768x128.size a)
theorem k0_off713_inb : ∀ (i : grid0.Coords) (v0 : BitVec 32) (v2969 : BitVec 32) (k0_hw485 : k0_chk485 i v0 v2969), ∀ (k0_h2 : k0_cond2 i v0 = 1#1), ∀ a, (k0_off713 v2969) a + S8x128.size a ≤ S32768x128.size a := fun i v0 v2969 k0_hw485 k0_h2 => k0_hw485 k0_h2

def k0_off714 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1466 : BitVec 32 := 256#32
  let v2978 : BitVec 32 := Scalar.muli v129 c256_i32_1466
  let c228_i32 : BitVec 32 := 228#32
  let v2979 : BitVec 32 := Scalar.addi v2978 c228_i32
  let v2980 : Index := Scalar.indexCast v2979
  ![v2980.toNat]
def k0_off715 (v2981 : BitVec 32) : Fin 2 → Nat :=
  let c3_i32_1467 : BitVec 32 := 3#32
  let v2982 : BitVec 32 := Scalar.shrsi v2981 c3_i32_1467
  let c4095_i32_1468 : BitVec 32 := 4095#32
  let v2983 : BitVec 32 := Scalar.minsi v2982 c4095_i32_1468
  let c8_i32_1469 : BitVec 32 := 8#32
  let v2984 : BitVec 32 := Scalar.muli v2983 c8_i32_1469
  let v2985 : Index := Scalar.indexCast v2984
  let c0_1470 : Index := 0#32
  ![v2985.toNat, 0]

def k0_chk486 (i : grid0.Coords) (v0 : BitVec 32) (v2981 : BitVec 32) : Prop :=
  (∀ (k0_h2 : k0_cond2 i v0 = 1#1), ∀ a, (k0_off715 v2981) a + S8x128.size a ≤ S32768x128.size a)
theorem k0_off715_inb : ∀ (i : grid0.Coords) (v0 : BitVec 32) (v2981 : BitVec 32) (k0_hw486 : k0_chk486 i v0 v2981), ∀ (k0_h2 : k0_cond2 i v0 = 1#1), ∀ a, (k0_off715 v2981) a + S8x128.size a ≤ S32768x128.size a := fun i v0 v2981 k0_hw486 k0_h2 => k0_hw486 k0_h2

def k0_off716 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1472 : BitVec 32 := 256#32
  let v2990 : BitVec 32 := Scalar.muli v129 c256_i32_1472
  let c229_i32 : BitVec 32 := 229#32
  let v2991 : BitVec 32 := Scalar.addi v2990 c229_i32
  let v2992 : Index := Scalar.indexCast v2991
  ![v2992.toNat]
def k0_off717 (v2993 : BitVec 32) : Fin 2 → Nat :=
  let c3_i32_1473 : BitVec 32 := 3#32
  let v2994 : BitVec 32 := Scalar.shrsi v2993 c3_i32_1473
  let c4095_i32_1474 : BitVec 32 := 4095#32
  let v2995 : BitVec 32 := Scalar.minsi v2994 c4095_i32_1474
  let c8_i32_1475 : BitVec 32 := 8#32
  let v2996 : BitVec 32 := Scalar.muli v2995 c8_i32_1475
  let v2997 : Index := Scalar.indexCast v2996
  let c0_1476 : Index := 0#32
  ![v2997.toNat, 0]

def k0_chk487 (i : grid0.Coords) (v0 : BitVec 32) (v2993 : BitVec 32) : Prop :=
  (∀ (k0_h2 : k0_cond2 i v0 = 1#1), ∀ a, (k0_off717 v2993) a + S8x128.size a ≤ S32768x128.size a)
theorem k0_off717_inb : ∀ (i : grid0.Coords) (v0 : BitVec 32) (v2993 : BitVec 32) (k0_hw487 : k0_chk487 i v0 v2993), ∀ (k0_h2 : k0_cond2 i v0 = 1#1), ∀ a, (k0_off717 v2993) a + S8x128.size a ≤ S32768x128.size a := fun i v0 v2993 k0_hw487 k0_h2 => k0_hw487 k0_h2

def k0_off718 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1478 : BitVec 32 := 256#32
  let v3002 : BitVec 32 := Scalar.muli v129 c256_i32_1478
  let c230_i32 : BitVec 32 := 230#32
  let v3003 : BitVec 32 := Scalar.addi v3002 c230_i32
  let v3004 : Index := Scalar.indexCast v3003
  ![v3004.toNat]
def k0_off719 (v3005 : BitVec 32) : Fin 2 → Nat :=
  let c3_i32_1479 : BitVec 32 := 3#32
  let v3006 : BitVec 32 := Scalar.shrsi v3005 c3_i32_1479
  let c4095_i32_1480 : BitVec 32 := 4095#32
  let v3007 : BitVec 32 := Scalar.minsi v3006 c4095_i32_1480
  let c8_i32_1481 : BitVec 32 := 8#32
  let v3008 : BitVec 32 := Scalar.muli v3007 c8_i32_1481
  let v3009 : Index := Scalar.indexCast v3008
  let c0_1482 : Index := 0#32
  ![v3009.toNat, 0]

def k0_chk488 (i : grid0.Coords) (v0 : BitVec 32) (v3005 : BitVec 32) : Prop :=
  (∀ (k0_h2 : k0_cond2 i v0 = 1#1), ∀ a, (k0_off719 v3005) a + S8x128.size a ≤ S32768x128.size a)
theorem k0_off719_inb : ∀ (i : grid0.Coords) (v0 : BitVec 32) (v3005 : BitVec 32) (k0_hw488 : k0_chk488 i v0 v3005), ∀ (k0_h2 : k0_cond2 i v0 = 1#1), ∀ a, (k0_off719 v3005) a + S8x128.size a ≤ S32768x128.size a := fun i v0 v3005 k0_hw488 k0_h2 => k0_hw488 k0_h2

def k0_off720 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1484 : BitVec 32 := 256#32
  let v3014 : BitVec 32 := Scalar.muli v129 c256_i32_1484
  let c231_i32 : BitVec 32 := 231#32
  let v3015 : BitVec 32 := Scalar.addi v3014 c231_i32
  let v3016 : Index := Scalar.indexCast v3015
  ![v3016.toNat]
def k0_off721 (v3017 : BitVec 32) : Fin 2 → Nat :=
  let c3_i32_1485 : BitVec 32 := 3#32
  let v3018 : BitVec 32 := Scalar.shrsi v3017 c3_i32_1485
  let c4095_i32_1486 : BitVec 32 := 4095#32
  let v3019 : BitVec 32 := Scalar.minsi v3018 c4095_i32_1486
  let c8_i32_1487 : BitVec 32 := 8#32
  let v3020 : BitVec 32 := Scalar.muli v3019 c8_i32_1487
  let v3021 : Index := Scalar.indexCast v3020
  let c0_1488 : Index := 0#32
  ![v3021.toNat, 0]

def k0_chk489 (i : grid0.Coords) (v0 : BitVec 32) (v3017 : BitVec 32) : Prop :=
  (∀ (k0_h2 : k0_cond2 i v0 = 1#1), ∀ a, (k0_off721 v3017) a + S8x128.size a ≤ S32768x128.size a)
theorem k0_off721_inb : ∀ (i : grid0.Coords) (v0 : BitVec 32) (v3017 : BitVec 32) (k0_hw489 : k0_chk489 i v0 v3017), ∀ (k0_h2 : k0_cond2 i v0 = 1#1), ∀ a, (k0_off721 v3017) a + S8x128.size a ≤ S32768x128.size a := fun i v0 v3017 k0_hw489 k0_h2 => k0_hw489 k0_h2

def k0_off722 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1490 : BitVec 32 := 256#32
  let v3026 : BitVec 32 := Scalar.muli v129 c256_i32_1490
  let c232_i32 : BitVec 32 := 232#32
  let v3027 : BitVec 32 := Scalar.addi v3026 c232_i32
  let v3028 : Index := Scalar.indexCast v3027
  ![v3028.toNat]
def k0_off723 (v3029 : BitVec 32) : Fin 2 → Nat :=
  let c3_i32_1491 : BitVec 32 := 3#32
  let v3030 : BitVec 32 := Scalar.shrsi v3029 c3_i32_1491
  let c4095_i32_1492 : BitVec 32 := 4095#32
  let v3031 : BitVec 32 := Scalar.minsi v3030 c4095_i32_1492
  let c8_i32_1493 : BitVec 32 := 8#32
  let v3032 : BitVec 32 := Scalar.muli v3031 c8_i32_1493
  let v3033 : Index := Scalar.indexCast v3032
  let c0_1494 : Index := 0#32
  ![v3033.toNat, 0]

def k0_chk490 (i : grid0.Coords) (v0 : BitVec 32) (v3029 : BitVec 32) : Prop :=
  (∀ (k0_h2 : k0_cond2 i v0 = 1#1), ∀ a, (k0_off723 v3029) a + S8x128.size a ≤ S32768x128.size a)
theorem k0_off723_inb : ∀ (i : grid0.Coords) (v0 : BitVec 32) (v3029 : BitVec 32) (k0_hw490 : k0_chk490 i v0 v3029), ∀ (k0_h2 : k0_cond2 i v0 = 1#1), ∀ a, (k0_off723 v3029) a + S8x128.size a ≤ S32768x128.size a := fun i v0 v3029 k0_hw490 k0_h2 => k0_hw490 k0_h2

def k0_off724 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1496 : BitVec 32 := 256#32
  let v3038 : BitVec 32 := Scalar.muli v129 c256_i32_1496
  let c233_i32 : BitVec 32 := 233#32
  let v3039 : BitVec 32 := Scalar.addi v3038 c233_i32
  let v3040 : Index := Scalar.indexCast v3039
  ![v3040.toNat]
def k0_off725 (v3041 : BitVec 32) : Fin 2 → Nat :=
  let c3_i32_1497 : BitVec 32 := 3#32
  let v3042 : BitVec 32 := Scalar.shrsi v3041 c3_i32_1497
  let c4095_i32_1498 : BitVec 32 := 4095#32
  let v3043 : BitVec 32 := Scalar.minsi v3042 c4095_i32_1498
  let c8_i32_1499 : BitVec 32 := 8#32
  let v3044 : BitVec 32 := Scalar.muli v3043 c8_i32_1499
  let v3045 : Index := Scalar.indexCast v3044
  let c0_1500 : Index := 0#32
  ![v3045.toNat, 0]

def k0_chk491 (i : grid0.Coords) (v0 : BitVec 32) (v3041 : BitVec 32) : Prop :=
  (∀ (k0_h2 : k0_cond2 i v0 = 1#1), ∀ a, (k0_off725 v3041) a + S8x128.size a ≤ S32768x128.size a)
theorem k0_off725_inb : ∀ (i : grid0.Coords) (v0 : BitVec 32) (v3041 : BitVec 32) (k0_hw491 : k0_chk491 i v0 v3041), ∀ (k0_h2 : k0_cond2 i v0 = 1#1), ∀ a, (k0_off725 v3041) a + S8x128.size a ≤ S32768x128.size a := fun i v0 v3041 k0_hw491 k0_h2 => k0_hw491 k0_h2

def k0_off726 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1502 : BitVec 32 := 256#32
  let v3050 : BitVec 32 := Scalar.muli v129 c256_i32_1502
  let c234_i32 : BitVec 32 := 234#32
  let v3051 : BitVec 32 := Scalar.addi v3050 c234_i32
  let v3052 : Index := Scalar.indexCast v3051
  ![v3052.toNat]
def k0_off727 (v3053 : BitVec 32) : Fin 2 → Nat :=
  let c3_i32_1503 : BitVec 32 := 3#32
  let v3054 : BitVec 32 := Scalar.shrsi v3053 c3_i32_1503
  let c4095_i32_1504 : BitVec 32 := 4095#32
  let v3055 : BitVec 32 := Scalar.minsi v3054 c4095_i32_1504
  let c8_i32_1505 : BitVec 32 := 8#32
  let v3056 : BitVec 32 := Scalar.muli v3055 c8_i32_1505
  let v3057 : Index := Scalar.indexCast v3056
  let c0_1506 : Index := 0#32
  ![v3057.toNat, 0]

def k0_chk492 (i : grid0.Coords) (v0 : BitVec 32) (v3053 : BitVec 32) : Prop :=
  (∀ (k0_h2 : k0_cond2 i v0 = 1#1), ∀ a, (k0_off727 v3053) a + S8x128.size a ≤ S32768x128.size a)
theorem k0_off727_inb : ∀ (i : grid0.Coords) (v0 : BitVec 32) (v3053 : BitVec 32) (k0_hw492 : k0_chk492 i v0 v3053), ∀ (k0_h2 : k0_cond2 i v0 = 1#1), ∀ a, (k0_off727 v3053) a + S8x128.size a ≤ S32768x128.size a := fun i v0 v3053 k0_hw492 k0_h2 => k0_hw492 k0_h2

def k0_off728 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1508 : BitVec 32 := 256#32
  let v3062 : BitVec 32 := Scalar.muli v129 c256_i32_1508
  let c235_i32 : BitVec 32 := 235#32
  let v3063 : BitVec 32 := Scalar.addi v3062 c235_i32
  let v3064 : Index := Scalar.indexCast v3063
  ![v3064.toNat]
def k0_off729 (v3065 : BitVec 32) : Fin 2 → Nat :=
  let c3_i32_1509 : BitVec 32 := 3#32
  let v3066 : BitVec 32 := Scalar.shrsi v3065 c3_i32_1509
  let c4095_i32_1510 : BitVec 32 := 4095#32
  let v3067 : BitVec 32 := Scalar.minsi v3066 c4095_i32_1510
  let c8_i32_1511 : BitVec 32 := 8#32
  let v3068 : BitVec 32 := Scalar.muli v3067 c8_i32_1511
  let v3069 : Index := Scalar.indexCast v3068
  let c0_1512 : Index := 0#32
  ![v3069.toNat, 0]

def k0_chk493 (i : grid0.Coords) (v0 : BitVec 32) (v3065 : BitVec 32) : Prop :=
  (∀ (k0_h2 : k0_cond2 i v0 = 1#1), ∀ a, (k0_off729 v3065) a + S8x128.size a ≤ S32768x128.size a)
theorem k0_off729_inb : ∀ (i : grid0.Coords) (v0 : BitVec 32) (v3065 : BitVec 32) (k0_hw493 : k0_chk493 i v0 v3065), ∀ (k0_h2 : k0_cond2 i v0 = 1#1), ∀ a, (k0_off729 v3065) a + S8x128.size a ≤ S32768x128.size a := fun i v0 v3065 k0_hw493 k0_h2 => k0_hw493 k0_h2

def k0_off730 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1514 : BitVec 32 := 256#32
  let v3074 : BitVec 32 := Scalar.muli v129 c256_i32_1514
  let c236_i32 : BitVec 32 := 236#32
  let v3075 : BitVec 32 := Scalar.addi v3074 c236_i32
  let v3076 : Index := Scalar.indexCast v3075
  ![v3076.toNat]
def k0_off731 (v3077 : BitVec 32) : Fin 2 → Nat :=
  let c3_i32_1515 : BitVec 32 := 3#32
  let v3078 : BitVec 32 := Scalar.shrsi v3077 c3_i32_1515
  let c4095_i32_1516 : BitVec 32 := 4095#32
  let v3079 : BitVec 32 := Scalar.minsi v3078 c4095_i32_1516
  let c8_i32_1517 : BitVec 32 := 8#32
  let v3080 : BitVec 32 := Scalar.muli v3079 c8_i32_1517
  let v3081 : Index := Scalar.indexCast v3080
  let c0_1518 : Index := 0#32
  ![v3081.toNat, 0]

def k0_chk494 (i : grid0.Coords) (v0 : BitVec 32) (v3077 : BitVec 32) : Prop :=
  (∀ (k0_h2 : k0_cond2 i v0 = 1#1), ∀ a, (k0_off731 v3077) a + S8x128.size a ≤ S32768x128.size a)
theorem k0_off731_inb : ∀ (i : grid0.Coords) (v0 : BitVec 32) (v3077 : BitVec 32) (k0_hw494 : k0_chk494 i v0 v3077), ∀ (k0_h2 : k0_cond2 i v0 = 1#1), ∀ a, (k0_off731 v3077) a + S8x128.size a ≤ S32768x128.size a := fun i v0 v3077 k0_hw494 k0_h2 => k0_hw494 k0_h2

def k0_off732 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1520 : BitVec 32 := 256#32
  let v3086 : BitVec 32 := Scalar.muli v129 c256_i32_1520
  let c237_i32 : BitVec 32 := 237#32
  let v3087 : BitVec 32 := Scalar.addi v3086 c237_i32
  let v3088 : Index := Scalar.indexCast v3087
  ![v3088.toNat]
def k0_off733 (v3089 : BitVec 32) : Fin 2 → Nat :=
  let c3_i32_1521 : BitVec 32 := 3#32
  let v3090 : BitVec 32 := Scalar.shrsi v3089 c3_i32_1521
  let c4095_i32_1522 : BitVec 32 := 4095#32
  let v3091 : BitVec 32 := Scalar.minsi v3090 c4095_i32_1522
  let c8_i32_1523 : BitVec 32 := 8#32
  let v3092 : BitVec 32 := Scalar.muli v3091 c8_i32_1523
  let v3093 : Index := Scalar.indexCast v3092
  let c0_1524 : Index := 0#32
  ![v3093.toNat, 0]

def k0_chk495 (i : grid0.Coords) (v0 : BitVec 32) (v3089 : BitVec 32) : Prop :=
  (∀ (k0_h2 : k0_cond2 i v0 = 1#1), ∀ a, (k0_off733 v3089) a + S8x128.size a ≤ S32768x128.size a)
theorem k0_off733_inb : ∀ (i : grid0.Coords) (v0 : BitVec 32) (v3089 : BitVec 32) (k0_hw495 : k0_chk495 i v0 v3089), ∀ (k0_h2 : k0_cond2 i v0 = 1#1), ∀ a, (k0_off733 v3089) a + S8x128.size a ≤ S32768x128.size a := fun i v0 v3089 k0_hw495 k0_h2 => k0_hw495 k0_h2

def k0_off734 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1526 : BitVec 32 := 256#32
  let v3098 : BitVec 32 := Scalar.muli v129 c256_i32_1526
  let c238_i32 : BitVec 32 := 238#32
  let v3099 : BitVec 32 := Scalar.addi v3098 c238_i32
  let v3100 : Index := Scalar.indexCast v3099
  ![v3100.toNat]
def k0_off735 (v3101 : BitVec 32) : Fin 2 → Nat :=
  let c3_i32_1527 : BitVec 32 := 3#32
  let v3102 : BitVec 32 := Scalar.shrsi v3101 c3_i32_1527
  let c4095_i32_1528 : BitVec 32 := 4095#32
  let v3103 : BitVec 32 := Scalar.minsi v3102 c4095_i32_1528
  let c8_i32_1529 : BitVec 32 := 8#32
  let v3104 : BitVec 32 := Scalar.muli v3103 c8_i32_1529
  let v3105 : Index := Scalar.indexCast v3104
  let c0_1530 : Index := 0#32
  ![v3105.toNat, 0]

def k0_chk496 (i : grid0.Coords) (v0 : BitVec 32) (v3101 : BitVec 32) : Prop :=
  (∀ (k0_h2 : k0_cond2 i v0 = 1#1), ∀ a, (k0_off735 v3101) a + S8x128.size a ≤ S32768x128.size a)
theorem k0_off735_inb : ∀ (i : grid0.Coords) (v0 : BitVec 32) (v3101 : BitVec 32) (k0_hw496 : k0_chk496 i v0 v3101), ∀ (k0_h2 : k0_cond2 i v0 = 1#1), ∀ a, (k0_off735 v3101) a + S8x128.size a ≤ S32768x128.size a := fun i v0 v3101 k0_hw496 k0_h2 => k0_hw496 k0_h2

def k0_off736 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1532 : BitVec 32 := 256#32
  let v3110 : BitVec 32 := Scalar.muli v129 c256_i32_1532
  let c239_i32 : BitVec 32 := 239#32
  let v3111 : BitVec 32 := Scalar.addi v3110 c239_i32
  let v3112 : Index := Scalar.indexCast v3111
  ![v3112.toNat]
def k0_off737 (v3113 : BitVec 32) : Fin 2 → Nat :=
  let c3_i32_1533 : BitVec 32 := 3#32
  let v3114 : BitVec 32 := Scalar.shrsi v3113 c3_i32_1533
  let c4095_i32_1534 : BitVec 32 := 4095#32
  let v3115 : BitVec 32 := Scalar.minsi v3114 c4095_i32_1534
  let c8_i32_1535 : BitVec 32 := 8#32
  let v3116 : BitVec 32 := Scalar.muli v3115 c8_i32_1535
  let v3117 : Index := Scalar.indexCast v3116
  let c0_1536 : Index := 0#32
  ![v3117.toNat, 0]

def k0_chk497 (i : grid0.Coords) (v0 : BitVec 32) (v3113 : BitVec 32) : Prop :=
  (∀ (k0_h2 : k0_cond2 i v0 = 1#1), ∀ a, (k0_off737 v3113) a + S8x128.size a ≤ S32768x128.size a)
theorem k0_off737_inb : ∀ (i : grid0.Coords) (v0 : BitVec 32) (v3113 : BitVec 32) (k0_hw497 : k0_chk497 i v0 v3113), ∀ (k0_h2 : k0_cond2 i v0 = 1#1), ∀ a, (k0_off737 v3113) a + S8x128.size a ≤ S32768x128.size a := fun i v0 v3113 k0_hw497 k0_h2 => k0_hw497 k0_h2

def k0_off738 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1538 : BitVec 32 := 256#32
  let v3122 : BitVec 32 := Scalar.muli v129 c256_i32_1538
  let c240_i32 : BitVec 32 := 240#32
  let v3123 : BitVec 32 := Scalar.addi v3122 c240_i32
  let v3124 : Index := Scalar.indexCast v3123
  ![v3124.toNat]
def k0_off739 (v3125 : BitVec 32) : Fin 2 → Nat :=
  let c3_i32_1539 : BitVec 32 := 3#32
  let v3126 : BitVec 32 := Scalar.shrsi v3125 c3_i32_1539
  let c4095_i32_1540 : BitVec 32 := 4095#32
  let v3127 : BitVec 32 := Scalar.minsi v3126 c4095_i32_1540
  let c8_i32_1541 : BitVec 32 := 8#32
  let v3128 : BitVec 32 := Scalar.muli v3127 c8_i32_1541
  let v3129 : Index := Scalar.indexCast v3128
  let c0_1542 : Index := 0#32
  ![v3129.toNat, 0]

def k0_chk498 (i : grid0.Coords) (v0 : BitVec 32) (v3125 : BitVec 32) : Prop :=
  (∀ (k0_h2 : k0_cond2 i v0 = 1#1), ∀ a, (k0_off739 v3125) a + S8x128.size a ≤ S32768x128.size a)
theorem k0_off739_inb : ∀ (i : grid0.Coords) (v0 : BitVec 32) (v3125 : BitVec 32) (k0_hw498 : k0_chk498 i v0 v3125), ∀ (k0_h2 : k0_cond2 i v0 = 1#1), ∀ a, (k0_off739 v3125) a + S8x128.size a ≤ S32768x128.size a := fun i v0 v3125 k0_hw498 k0_h2 => k0_hw498 k0_h2

def k0_off740 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1544 : BitVec 32 := 256#32
  let v3134 : BitVec 32 := Scalar.muli v129 c256_i32_1544
  let c241_i32 : BitVec 32 := 241#32
  let v3135 : BitVec 32 := Scalar.addi v3134 c241_i32
  let v3136 : Index := Scalar.indexCast v3135
  ![v3136.toNat]
def k0_off741 (v3137 : BitVec 32) : Fin 2 → Nat :=
  let c3_i32_1545 : BitVec 32 := 3#32
  let v3138 : BitVec 32 := Scalar.shrsi v3137 c3_i32_1545
  let c4095_i32_1546 : BitVec 32 := 4095#32
  let v3139 : BitVec 32 := Scalar.minsi v3138 c4095_i32_1546
  let c8_i32_1547 : BitVec 32 := 8#32
  let v3140 : BitVec 32 := Scalar.muli v3139 c8_i32_1547
  let v3141 : Index := Scalar.indexCast v3140
  let c0_1548 : Index := 0#32
  ![v3141.toNat, 0]

def k0_chk499 (i : grid0.Coords) (v0 : BitVec 32) (v3137 : BitVec 32) : Prop :=
  (∀ (k0_h2 : k0_cond2 i v0 = 1#1), ∀ a, (k0_off741 v3137) a + S8x128.size a ≤ S32768x128.size a)
theorem k0_off741_inb : ∀ (i : grid0.Coords) (v0 : BitVec 32) (v3137 : BitVec 32) (k0_hw499 : k0_chk499 i v0 v3137), ∀ (k0_h2 : k0_cond2 i v0 = 1#1), ∀ a, (k0_off741 v3137) a + S8x128.size a ≤ S32768x128.size a := fun i v0 v3137 k0_hw499 k0_h2 => k0_hw499 k0_h2

def k0_off742 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1550 : BitVec 32 := 256#32
  let v3146 : BitVec 32 := Scalar.muli v129 c256_i32_1550
  let c242_i32 : BitVec 32 := 242#32
  let v3147 : BitVec 32 := Scalar.addi v3146 c242_i32
  let v3148 : Index := Scalar.indexCast v3147
  ![v3148.toNat]
def k0_off743 (v3149 : BitVec 32) : Fin 2 → Nat :=
  let c3_i32_1551 : BitVec 32 := 3#32
  let v3150 : BitVec 32 := Scalar.shrsi v3149 c3_i32_1551
  let c4095_i32_1552 : BitVec 32 := 4095#32
  let v3151 : BitVec 32 := Scalar.minsi v3150 c4095_i32_1552
  let c8_i32_1553 : BitVec 32 := 8#32
  let v3152 : BitVec 32 := Scalar.muli v3151 c8_i32_1553
  let v3153 : Index := Scalar.indexCast v3152
  let c0_1554 : Index := 0#32
  ![v3153.toNat, 0]

def k0_chk500 (i : grid0.Coords) (v0 : BitVec 32) (v3149 : BitVec 32) : Prop :=
  (∀ (k0_h2 : k0_cond2 i v0 = 1#1), ∀ a, (k0_off743 v3149) a + S8x128.size a ≤ S32768x128.size a)
theorem k0_off743_inb : ∀ (i : grid0.Coords) (v0 : BitVec 32) (v3149 : BitVec 32) (k0_hw500 : k0_chk500 i v0 v3149), ∀ (k0_h2 : k0_cond2 i v0 = 1#1), ∀ a, (k0_off743 v3149) a + S8x128.size a ≤ S32768x128.size a := fun i v0 v3149 k0_hw500 k0_h2 => k0_hw500 k0_h2

def k0_off744 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1556 : BitVec 32 := 256#32
  let v3158 : BitVec 32 := Scalar.muli v129 c256_i32_1556
  let c243_i32 : BitVec 32 := 243#32
  let v3159 : BitVec 32 := Scalar.addi v3158 c243_i32
  let v3160 : Index := Scalar.indexCast v3159
  ![v3160.toNat]
def k0_off745 (v3161 : BitVec 32) : Fin 2 → Nat :=
  let c3_i32_1557 : BitVec 32 := 3#32
  let v3162 : BitVec 32 := Scalar.shrsi v3161 c3_i32_1557
  let c4095_i32_1558 : BitVec 32 := 4095#32
  let v3163 : BitVec 32 := Scalar.minsi v3162 c4095_i32_1558
  let c8_i32_1559 : BitVec 32 := 8#32
  let v3164 : BitVec 32 := Scalar.muli v3163 c8_i32_1559
  let v3165 : Index := Scalar.indexCast v3164
  let c0_1560 : Index := 0#32
  ![v3165.toNat, 0]

def k0_chk501 (i : grid0.Coords) (v0 : BitVec 32) (v3161 : BitVec 32) : Prop :=
  (∀ (k0_h2 : k0_cond2 i v0 = 1#1), ∀ a, (k0_off745 v3161) a + S8x128.size a ≤ S32768x128.size a)
theorem k0_off745_inb : ∀ (i : grid0.Coords) (v0 : BitVec 32) (v3161 : BitVec 32) (k0_hw501 : k0_chk501 i v0 v3161), ∀ (k0_h2 : k0_cond2 i v0 = 1#1), ∀ a, (k0_off745 v3161) a + S8x128.size a ≤ S32768x128.size a := fun i v0 v3161 k0_hw501 k0_h2 => k0_hw501 k0_h2

def k0_off746 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1562 : BitVec 32 := 256#32
  let v3170 : BitVec 32 := Scalar.muli v129 c256_i32_1562
  let c244_i32 : BitVec 32 := 244#32
  let v3171 : BitVec 32 := Scalar.addi v3170 c244_i32
  let v3172 : Index := Scalar.indexCast v3171
  ![v3172.toNat]
def k0_off747 (v3173 : BitVec 32) : Fin 2 → Nat :=
  let c3_i32_1563 : BitVec 32 := 3#32
  let v3174 : BitVec 32 := Scalar.shrsi v3173 c3_i32_1563
  let c4095_i32_1564 : BitVec 32 := 4095#32
  let v3175 : BitVec 32 := Scalar.minsi v3174 c4095_i32_1564
  let c8_i32_1565 : BitVec 32 := 8#32
  let v3176 : BitVec 32 := Scalar.muli v3175 c8_i32_1565
  let v3177 : Index := Scalar.indexCast v3176
  let c0_1566 : Index := 0#32
  ![v3177.toNat, 0]

def k0_chk502 (i : grid0.Coords) (v0 : BitVec 32) (v3173 : BitVec 32) : Prop :=
  (∀ (k0_h2 : k0_cond2 i v0 = 1#1), ∀ a, (k0_off747 v3173) a + S8x128.size a ≤ S32768x128.size a)
theorem k0_off747_inb : ∀ (i : grid0.Coords) (v0 : BitVec 32) (v3173 : BitVec 32) (k0_hw502 : k0_chk502 i v0 v3173), ∀ (k0_h2 : k0_cond2 i v0 = 1#1), ∀ a, (k0_off747 v3173) a + S8x128.size a ≤ S32768x128.size a := fun i v0 v3173 k0_hw502 k0_h2 => k0_hw502 k0_h2

def k0_off748 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1568 : BitVec 32 := 256#32
  let v3182 : BitVec 32 := Scalar.muli v129 c256_i32_1568
  let c245_i32 : BitVec 32 := 245#32
  let v3183 : BitVec 32 := Scalar.addi v3182 c245_i32
  let v3184 : Index := Scalar.indexCast v3183
  ![v3184.toNat]
def k0_off749 (v3185 : BitVec 32) : Fin 2 → Nat :=
  let c3_i32_1569 : BitVec 32 := 3#32
  let v3186 : BitVec 32 := Scalar.shrsi v3185 c3_i32_1569
  let c4095_i32_1570 : BitVec 32 := 4095#32
  let v3187 : BitVec 32 := Scalar.minsi v3186 c4095_i32_1570
  let c8_i32_1571 : BitVec 32 := 8#32
  let v3188 : BitVec 32 := Scalar.muli v3187 c8_i32_1571
  let v3189 : Index := Scalar.indexCast v3188
  let c0_1572 : Index := 0#32
  ![v3189.toNat, 0]

def k0_chk503 (i : grid0.Coords) (v0 : BitVec 32) (v3185 : BitVec 32) : Prop :=
  (∀ (k0_h2 : k0_cond2 i v0 = 1#1), ∀ a, (k0_off749 v3185) a + S8x128.size a ≤ S32768x128.size a)
theorem k0_off749_inb : ∀ (i : grid0.Coords) (v0 : BitVec 32) (v3185 : BitVec 32) (k0_hw503 : k0_chk503 i v0 v3185), ∀ (k0_h2 : k0_cond2 i v0 = 1#1), ∀ a, (k0_off749 v3185) a + S8x128.size a ≤ S32768x128.size a := fun i v0 v3185 k0_hw503 k0_h2 => k0_hw503 k0_h2

def k0_off750 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1574 : BitVec 32 := 256#32
  let v3194 : BitVec 32 := Scalar.muli v129 c256_i32_1574
  let c246_i32 : BitVec 32 := 246#32
  let v3195 : BitVec 32 := Scalar.addi v3194 c246_i32
  let v3196 : Index := Scalar.indexCast v3195
  ![v3196.toNat]
def k0_off751 (v3197 : BitVec 32) : Fin 2 → Nat :=
  let c3_i32_1575 : BitVec 32 := 3#32
  let v3198 : BitVec 32 := Scalar.shrsi v3197 c3_i32_1575
  let c4095_i32_1576 : BitVec 32 := 4095#32
  let v3199 : BitVec 32 := Scalar.minsi v3198 c4095_i32_1576
  let c8_i32_1577 : BitVec 32 := 8#32
  let v3200 : BitVec 32 := Scalar.muli v3199 c8_i32_1577
  let v3201 : Index := Scalar.indexCast v3200
  let c0_1578 : Index := 0#32
  ![v3201.toNat, 0]

def k0_chk504 (i : grid0.Coords) (v0 : BitVec 32) (v3197 : BitVec 32) : Prop :=
  (∀ (k0_h2 : k0_cond2 i v0 = 1#1), ∀ a, (k0_off751 v3197) a + S8x128.size a ≤ S32768x128.size a)
theorem k0_off751_inb : ∀ (i : grid0.Coords) (v0 : BitVec 32) (v3197 : BitVec 32) (k0_hw504 : k0_chk504 i v0 v3197), ∀ (k0_h2 : k0_cond2 i v0 = 1#1), ∀ a, (k0_off751 v3197) a + S8x128.size a ≤ S32768x128.size a := fun i v0 v3197 k0_hw504 k0_h2 => k0_hw504 k0_h2

def k0_off752 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1580 : BitVec 32 := 256#32
  let v3206 : BitVec 32 := Scalar.muli v129 c256_i32_1580
  let c247_i32 : BitVec 32 := 247#32
  let v3207 : BitVec 32 := Scalar.addi v3206 c247_i32
  let v3208 : Index := Scalar.indexCast v3207
  ![v3208.toNat]
def k0_off753 (v3209 : BitVec 32) : Fin 2 → Nat :=
  let c3_i32_1581 : BitVec 32 := 3#32
  let v3210 : BitVec 32 := Scalar.shrsi v3209 c3_i32_1581
  let c4095_i32_1582 : BitVec 32 := 4095#32
  let v3211 : BitVec 32 := Scalar.minsi v3210 c4095_i32_1582
  let c8_i32_1583 : BitVec 32 := 8#32
  let v3212 : BitVec 32 := Scalar.muli v3211 c8_i32_1583
  let v3213 : Index := Scalar.indexCast v3212
  let c0_1584 : Index := 0#32
  ![v3213.toNat, 0]

def k0_chk505 (i : grid0.Coords) (v0 : BitVec 32) (v3209 : BitVec 32) : Prop :=
  (∀ (k0_h2 : k0_cond2 i v0 = 1#1), ∀ a, (k0_off753 v3209) a + S8x128.size a ≤ S32768x128.size a)
theorem k0_off753_inb : ∀ (i : grid0.Coords) (v0 : BitVec 32) (v3209 : BitVec 32) (k0_hw505 : k0_chk505 i v0 v3209), ∀ (k0_h2 : k0_cond2 i v0 = 1#1), ∀ a, (k0_off753 v3209) a + S8x128.size a ≤ S32768x128.size a := fun i v0 v3209 k0_hw505 k0_h2 => k0_hw505 k0_h2

def k0_off754 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1586 : BitVec 32 := 256#32
  let v3218 : BitVec 32 := Scalar.muli v129 c256_i32_1586
  let c248_i32 : BitVec 32 := 248#32
  let v3219 : BitVec 32 := Scalar.addi v3218 c248_i32
  let v3220 : Index := Scalar.indexCast v3219
  ![v3220.toNat]
def k0_off755 (v3221 : BitVec 32) : Fin 2 → Nat :=
  let c3_i32_1587 : BitVec 32 := 3#32
  let v3222 : BitVec 32 := Scalar.shrsi v3221 c3_i32_1587
  let c4095_i32_1588 : BitVec 32 := 4095#32
  let v3223 : BitVec 32 := Scalar.minsi v3222 c4095_i32_1588
  let c8_i32_1589 : BitVec 32 := 8#32
  let v3224 : BitVec 32 := Scalar.muli v3223 c8_i32_1589
  let v3225 : Index := Scalar.indexCast v3224
  let c0_1590 : Index := 0#32
  ![v3225.toNat, 0]

def k0_chk506 (i : grid0.Coords) (v0 : BitVec 32) (v3221 : BitVec 32) : Prop :=
  (∀ (k0_h2 : k0_cond2 i v0 = 1#1), ∀ a, (k0_off755 v3221) a + S8x128.size a ≤ S32768x128.size a)
theorem k0_off755_inb : ∀ (i : grid0.Coords) (v0 : BitVec 32) (v3221 : BitVec 32) (k0_hw506 : k0_chk506 i v0 v3221), ∀ (k0_h2 : k0_cond2 i v0 = 1#1), ∀ a, (k0_off755 v3221) a + S8x128.size a ≤ S32768x128.size a := fun i v0 v3221 k0_hw506 k0_h2 => k0_hw506 k0_h2

def k0_off756 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1592 : BitVec 32 := 256#32
  let v3230 : BitVec 32 := Scalar.muli v129 c256_i32_1592
  let c249_i32 : BitVec 32 := 249#32
  let v3231 : BitVec 32 := Scalar.addi v3230 c249_i32
  let v3232 : Index := Scalar.indexCast v3231
  ![v3232.toNat]
def k0_off757 (v3233 : BitVec 32) : Fin 2 → Nat :=
  let c3_i32_1593 : BitVec 32 := 3#32
  let v3234 : BitVec 32 := Scalar.shrsi v3233 c3_i32_1593
  let c4095_i32_1594 : BitVec 32 := 4095#32
  let v3235 : BitVec 32 := Scalar.minsi v3234 c4095_i32_1594
  let c8_i32_1595 : BitVec 32 := 8#32
  let v3236 : BitVec 32 := Scalar.muli v3235 c8_i32_1595
  let v3237 : Index := Scalar.indexCast v3236
  let c0_1596 : Index := 0#32
  ![v3237.toNat, 0]

def k0_chk507 (i : grid0.Coords) (v0 : BitVec 32) (v3233 : BitVec 32) : Prop :=
  (∀ (k0_h2 : k0_cond2 i v0 = 1#1), ∀ a, (k0_off757 v3233) a + S8x128.size a ≤ S32768x128.size a)
theorem k0_off757_inb : ∀ (i : grid0.Coords) (v0 : BitVec 32) (v3233 : BitVec 32) (k0_hw507 : k0_chk507 i v0 v3233), ∀ (k0_h2 : k0_cond2 i v0 = 1#1), ∀ a, (k0_off757 v3233) a + S8x128.size a ≤ S32768x128.size a := fun i v0 v3233 k0_hw507 k0_h2 => k0_hw507 k0_h2

def k0_off758 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1598 : BitVec 32 := 256#32
  let v3242 : BitVec 32 := Scalar.muli v129 c256_i32_1598
  let c250_i32 : BitVec 32 := 250#32
  let v3243 : BitVec 32 := Scalar.addi v3242 c250_i32
  let v3244 : Index := Scalar.indexCast v3243
  ![v3244.toNat]
def k0_off759 (v3245 : BitVec 32) : Fin 2 → Nat :=
  let c3_i32_1599 : BitVec 32 := 3#32
  let v3246 : BitVec 32 := Scalar.shrsi v3245 c3_i32_1599
  let c4095_i32_1600 : BitVec 32 := 4095#32
  let v3247 : BitVec 32 := Scalar.minsi v3246 c4095_i32_1600
  let c8_i32_1601 : BitVec 32 := 8#32
  let v3248 : BitVec 32 := Scalar.muli v3247 c8_i32_1601
  let v3249 : Index := Scalar.indexCast v3248
  let c0_1602 : Index := 0#32
  ![v3249.toNat, 0]

def k0_chk508 (i : grid0.Coords) (v0 : BitVec 32) (v3245 : BitVec 32) : Prop :=
  (∀ (k0_h2 : k0_cond2 i v0 = 1#1), ∀ a, (k0_off759 v3245) a + S8x128.size a ≤ S32768x128.size a)
theorem k0_off759_inb : ∀ (i : grid0.Coords) (v0 : BitVec 32) (v3245 : BitVec 32) (k0_hw508 : k0_chk508 i v0 v3245), ∀ (k0_h2 : k0_cond2 i v0 = 1#1), ∀ a, (k0_off759 v3245) a + S8x128.size a ≤ S32768x128.size a := fun i v0 v3245 k0_hw508 k0_h2 => k0_hw508 k0_h2

def k0_off760 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1604 : BitVec 32 := 256#32
  let v3254 : BitVec 32 := Scalar.muli v129 c256_i32_1604
  let c251_i32 : BitVec 32 := 251#32
  let v3255 : BitVec 32 := Scalar.addi v3254 c251_i32
  let v3256 : Index := Scalar.indexCast v3255
  ![v3256.toNat]
def k0_off761 (v3257 : BitVec 32) : Fin 2 → Nat :=
  let c3_i32_1605 : BitVec 32 := 3#32
  let v3258 : BitVec 32 := Scalar.shrsi v3257 c3_i32_1605
  let c4095_i32_1606 : BitVec 32 := 4095#32
  let v3259 : BitVec 32 := Scalar.minsi v3258 c4095_i32_1606
  let c8_i32_1607 : BitVec 32 := 8#32
  let v3260 : BitVec 32 := Scalar.muli v3259 c8_i32_1607
  let v3261 : Index := Scalar.indexCast v3260
  let c0_1608 : Index := 0#32
  ![v3261.toNat, 0]

def k0_chk509 (i : grid0.Coords) (v0 : BitVec 32) (v3257 : BitVec 32) : Prop :=
  (∀ (k0_h2 : k0_cond2 i v0 = 1#1), ∀ a, (k0_off761 v3257) a + S8x128.size a ≤ S32768x128.size a)
theorem k0_off761_inb : ∀ (i : grid0.Coords) (v0 : BitVec 32) (v3257 : BitVec 32) (k0_hw509 : k0_chk509 i v0 v3257), ∀ (k0_h2 : k0_cond2 i v0 = 1#1), ∀ a, (k0_off761 v3257) a + S8x128.size a ≤ S32768x128.size a := fun i v0 v3257 k0_hw509 k0_h2 => k0_hw509 k0_h2

def k0_off762 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1610 : BitVec 32 := 256#32
  let v3266 : BitVec 32 := Scalar.muli v129 c256_i32_1610
  let c252_i32 : BitVec 32 := 252#32
  let v3267 : BitVec 32 := Scalar.addi v3266 c252_i32
  let v3268 : Index := Scalar.indexCast v3267
  ![v3268.toNat]
def k0_off763 (v3269 : BitVec 32) : Fin 2 → Nat :=
  let c3_i32_1611 : BitVec 32 := 3#32
  let v3270 : BitVec 32 := Scalar.shrsi v3269 c3_i32_1611
  let c4095_i32_1612 : BitVec 32 := 4095#32
  let v3271 : BitVec 32 := Scalar.minsi v3270 c4095_i32_1612
  let c8_i32_1613 : BitVec 32 := 8#32
  let v3272 : BitVec 32 := Scalar.muli v3271 c8_i32_1613
  let v3273 : Index := Scalar.indexCast v3272
  let c0_1614 : Index := 0#32
  ![v3273.toNat, 0]

def k0_chk510 (i : grid0.Coords) (v0 : BitVec 32) (v3269 : BitVec 32) : Prop :=
  (∀ (k0_h2 : k0_cond2 i v0 = 1#1), ∀ a, (k0_off763 v3269) a + S8x128.size a ≤ S32768x128.size a)
theorem k0_off763_inb : ∀ (i : grid0.Coords) (v0 : BitVec 32) (v3269 : BitVec 32) (k0_hw510 : k0_chk510 i v0 v3269), ∀ (k0_h2 : k0_cond2 i v0 = 1#1), ∀ a, (k0_off763 v3269) a + S8x128.size a ≤ S32768x128.size a := fun i v0 v3269 k0_hw510 k0_h2 => k0_hw510 k0_h2

def k0_off764 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1616 : BitVec 32 := 256#32
  let v3278 : BitVec 32 := Scalar.muli v129 c256_i32_1616
  let c253_i32 : BitVec 32 := 253#32
  let v3279 : BitVec 32 := Scalar.addi v3278 c253_i32
  let v3280 : Index := Scalar.indexCast v3279
  ![v3280.toNat]
def k0_off765 (v3281 : BitVec 32) : Fin 2 → Nat :=
  let c3_i32_1617 : BitVec 32 := 3#32
  let v3282 : BitVec 32 := Scalar.shrsi v3281 c3_i32_1617
  let c4095_i32_1618 : BitVec 32 := 4095#32
  let v3283 : BitVec 32 := Scalar.minsi v3282 c4095_i32_1618
  let c8_i32_1619 : BitVec 32 := 8#32
  let v3284 : BitVec 32 := Scalar.muli v3283 c8_i32_1619
  let v3285 : Index := Scalar.indexCast v3284
  let c0_1620 : Index := 0#32
  ![v3285.toNat, 0]

def k0_chk511 (i : grid0.Coords) (v0 : BitVec 32) (v3281 : BitVec 32) : Prop :=
  (∀ (k0_h2 : k0_cond2 i v0 = 1#1), ∀ a, (k0_off765 v3281) a + S8x128.size a ≤ S32768x128.size a)
theorem k0_off765_inb : ∀ (i : grid0.Coords) (v0 : BitVec 32) (v3281 : BitVec 32) (k0_hw511 : k0_chk511 i v0 v3281), ∀ (k0_h2 : k0_cond2 i v0 = 1#1), ∀ a, (k0_off765 v3281) a + S8x128.size a ≤ S32768x128.size a := fun i v0 v3281 k0_hw511 k0_h2 => k0_hw511 k0_h2

def k0_off766 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1622 : BitVec 32 := 256#32
  let v3290 : BitVec 32 := Scalar.muli v129 c256_i32_1622
  let c254_i32 : BitVec 32 := 254#32
  let v3291 : BitVec 32 := Scalar.addi v3290 c254_i32
  let v3292 : Index := Scalar.indexCast v3291
  ![v3292.toNat]
def k0_off767 (v3293 : BitVec 32) : Fin 2 → Nat :=
  let c3_i32_1623 : BitVec 32 := 3#32
  let v3294 : BitVec 32 := Scalar.shrsi v3293 c3_i32_1623
  let c4095_i32_1624 : BitVec 32 := 4095#32
  let v3295 : BitVec 32 := Scalar.minsi v3294 c4095_i32_1624
  let c8_i32_1625 : BitVec 32 := 8#32
  let v3296 : BitVec 32 := Scalar.muli v3295 c8_i32_1625
  let v3297 : Index := Scalar.indexCast v3296
  let c0_1626 : Index := 0#32
  ![v3297.toNat, 0]

def k0_chk512 (i : grid0.Coords) (v0 : BitVec 32) (v3293 : BitVec 32) : Prop :=
  (∀ (k0_h2 : k0_cond2 i v0 = 1#1), ∀ a, (k0_off767 v3293) a + S8x128.size a ≤ S32768x128.size a)
theorem k0_off767_inb : ∀ (i : grid0.Coords) (v0 : BitVec 32) (v3293 : BitVec 32) (k0_hw512 : k0_chk512 i v0 v3293), ∀ (k0_h2 : k0_cond2 i v0 = 1#1), ∀ a, (k0_off767 v3293) a + S8x128.size a ≤ S32768x128.size a := fun i v0 v3293 k0_hw512 k0_h2 => k0_hw512 k0_h2

def k0_off768 (i : grid0.Coords) (v0 : BitVec 32) : Fin 1 → Nat :=
  let arg0 : BitVec 32 := BitVec.ofNat 32 (i 0).val
  let c1_i32 : BitVec 32 := 1#32
  let v127 : BitVec 32 := Scalar.addi arg0 c1_i32
  let c1_i32_42 : BitVec 32 := 1#32
  let v128 : BitVec 32 := Scalar.subi v0 c1_i32_42
  let v129 : BitVec 32 := Scalar.minsi v127 v128
  let c256_i32_1628 : BitVec 32 := 256#32
  let v3302 : BitVec 32 := Scalar.muli v129 c256_i32_1628
  let c255_i32 : BitVec 32 := 255#32
  let v3303 : BitVec 32 := Scalar.addi v3302 c255_i32
  let v3304 : Index := Scalar.indexCast v3303
  ![v3304.toNat]

def k0_chk257_0 (i : grid0.Coords) (v0 : BitVec 32) : Prop :=
  (∀ (k0_h2 : k0_cond2 i v0 = 1#1), ∀ a, (k0_off258 i v0) a + S1.size a ≤ S49152.size a) ∧
  (∀ (k0_h2 : k0_cond2 i v0 = 1#1), ∀ a, (k0_off260 i v0) a + S1.size a ≤ S49152.size a) ∧
  (∀ (k0_h2 : k0_cond2 i v0 = 1#1), ∀ a, (k0_off262 i v0) a + S1.size a ≤ S49152.size a) ∧
  (∀ (k0_h2 : k0_cond2 i v0 = 1#1), ∀ a, (k0_off264 i v0) a + S1.size a ≤ S49152.size a) ∧
  (∀ (k0_h2 : k0_cond2 i v0 = 1#1), ∀ a, (k0_off266 i v0) a + S1.size a ≤ S49152.size a) ∧
  (∀ (k0_h2 : k0_cond2 i v0 = 1#1), ∀ a, (k0_off268 i v0) a + S1.size a ≤ S49152.size a) ∧
  (∀ (k0_h2 : k0_cond2 i v0 = 1#1), ∀ a, (k0_off270 i v0) a + S1.size a ≤ S49152.size a) ∧
  (∀ (k0_h2 : k0_cond2 i v0 = 1#1), ∀ a, (k0_off272 i v0) a + S1.size a ≤ S49152.size a) ∧
  (∀ (k0_h2 : k0_cond2 i v0 = 1#1), ∀ a, (k0_off274 i v0) a + S1.size a ≤ S49152.size a) ∧
  (∀ (k0_h2 : k0_cond2 i v0 = 1#1), ∀ a, (k0_off276 i v0) a + S1.size a ≤ S49152.size a) ∧
  (∀ (k0_h2 : k0_cond2 i v0 = 1#1), ∀ a, (k0_off278 i v0) a + S1.size a ≤ S49152.size a) ∧
  (∀ (k0_h2 : k0_cond2 i v0 = 1#1), ∀ a, (k0_off280 i v0) a + S1.size a ≤ S49152.size a) ∧
  (∀ (k0_h2 : k0_cond2 i v0 = 1#1), ∀ a, (k0_off282 i v0) a + S1.size a ≤ S49152.size a) ∧
  (∀ (k0_h2 : k0_cond2 i v0 = 1#1), ∀ a, (k0_off284 i v0) a + S1.size a ≤ S49152.size a) ∧
  (∀ (k0_h2 : k0_cond2 i v0 = 1#1), ∀ a, (k0_off286 i v0) a + S1.size a ≤ S49152.size a) ∧
  (∀ (k0_h2 : k0_cond2 i v0 = 1#1), ∀ a, (k0_off288 i v0) a + S1.size a ≤ S49152.size a) ∧
  (∀ (k0_h2 : k0_cond2 i v0 = 1#1), ∀ a, (k0_off290 i v0) a + S1.size a ≤ S49152.size a) ∧
  (∀ (k0_h2 : k0_cond2 i v0 = 1#1), ∀ a, (k0_off292 i v0) a + S1.size a ≤ S49152.size a) ∧
  (∀ (k0_h2 : k0_cond2 i v0 = 1#1), ∀ a, (k0_off294 i v0) a + S1.size a ≤ S49152.size a) ∧
  (∀ (k0_h2 : k0_cond2 i v0 = 1#1), ∀ a, (k0_off296 i v0) a + S1.size a ≤ S49152.size a) ∧
  (∀ (k0_h2 : k0_cond2 i v0 = 1#1), ∀ a, (k0_off298 i v0) a + S1.size a ≤ S49152.size a) ∧
  (∀ (k0_h2 : k0_cond2 i v0 = 1#1), ∀ a, (k0_off300 i v0) a + S1.size a ≤ S49152.size a) ∧
  (∀ (k0_h2 : k0_cond2 i v0 = 1#1), ∀ a, (k0_off302 i v0) a + S1.size a ≤ S49152.size a) ∧
  (∀ (k0_h2 : k0_cond2 i v0 = 1#1), ∀ a, (k0_off304 i v0) a + S1.size a ≤ S49152.size a) ∧
  (∀ (k0_h2 : k0_cond2 i v0 = 1#1), ∀ a, (k0_off306 i v0) a + S1.size a ≤ S49152.size a) ∧
  (∀ (k0_h2 : k0_cond2 i v0 = 1#1), ∀ a, (k0_off308 i v0) a + S1.size a ≤ S49152.size a) ∧
  (∀ (k0_h2 : k0_cond2 i v0 = 1#1), ∀ a, (k0_off310 i v0) a + S1.size a ≤ S49152.size a) ∧
  (∀ (k0_h2 : k0_cond2 i v0 = 1#1), ∀ a, (k0_off312 i v0) a + S1.size a ≤ S49152.size a) ∧
  (∀ (k0_h2 : k0_cond2 i v0 = 1#1), ∀ a, (k0_off314 i v0) a + S1.size a ≤ S49152.size a) ∧
  (∀ (k0_h2 : k0_cond2 i v0 = 1#1), ∀ a, (k0_off316 i v0) a + S1.size a ≤ S49152.size a) ∧
  (∀ (k0_h2 : k0_cond2 i v0 = 1#1), ∀ a, (k0_off318 i v0) a + S1.size a ≤ S49152.size a) ∧
  (∀ (k0_h2 : k0_cond2 i v0 = 1#1), ∀ a, (k0_off320 i v0) a + S1.size a ≤ S49152.size a)
def k0_chk257_1 (i : grid0.Coords) (v0 : BitVec 32) : Prop :=
  (∀ (k0_h2 : k0_cond2 i v0 = 1#1), ∀ a, (k0_off322 i v0) a + S1.size a ≤ S49152.size a) ∧
  (∀ (k0_h2 : k0_cond2 i v0 = 1#1), ∀ a, (k0_off324 i v0) a + S1.size a ≤ S49152.size a) ∧
  (∀ (k0_h2 : k0_cond2 i v0 = 1#1), ∀ a, (k0_off326 i v0) a + S1.size a ≤ S49152.size a) ∧
  (∀ (k0_h2 : k0_cond2 i v0 = 1#1), ∀ a, (k0_off328 i v0) a + S1.size a ≤ S49152.size a) ∧
  (∀ (k0_h2 : k0_cond2 i v0 = 1#1), ∀ a, (k0_off330 i v0) a + S1.size a ≤ S49152.size a) ∧
  (∀ (k0_h2 : k0_cond2 i v0 = 1#1), ∀ a, (k0_off332 i v0) a + S1.size a ≤ S49152.size a) ∧
  (∀ (k0_h2 : k0_cond2 i v0 = 1#1), ∀ a, (k0_off334 i v0) a + S1.size a ≤ S49152.size a) ∧
  (∀ (k0_h2 : k0_cond2 i v0 = 1#1), ∀ a, (k0_off336 i v0) a + S1.size a ≤ S49152.size a) ∧
  (∀ (k0_h2 : k0_cond2 i v0 = 1#1), ∀ a, (k0_off338 i v0) a + S1.size a ≤ S49152.size a) ∧
  (∀ (k0_h2 : k0_cond2 i v0 = 1#1), ∀ a, (k0_off340 i v0) a + S1.size a ≤ S49152.size a) ∧
  (∀ (k0_h2 : k0_cond2 i v0 = 1#1), ∀ a, (k0_off342 i v0) a + S1.size a ≤ S49152.size a) ∧
  (∀ (k0_h2 : k0_cond2 i v0 = 1#1), ∀ a, (k0_off344 i v0) a + S1.size a ≤ S49152.size a) ∧
  (∀ (k0_h2 : k0_cond2 i v0 = 1#1), ∀ a, (k0_off346 i v0) a + S1.size a ≤ S49152.size a) ∧
  (∀ (k0_h2 : k0_cond2 i v0 = 1#1), ∀ a, (k0_off348 i v0) a + S1.size a ≤ S49152.size a) ∧
  (∀ (k0_h2 : k0_cond2 i v0 = 1#1), ∀ a, (k0_off350 i v0) a + S1.size a ≤ S49152.size a) ∧
  (∀ (k0_h2 : k0_cond2 i v0 = 1#1), ∀ a, (k0_off352 i v0) a + S1.size a ≤ S49152.size a) ∧
  (∀ (k0_h2 : k0_cond2 i v0 = 1#1), ∀ a, (k0_off354 i v0) a + S1.size a ≤ S49152.size a) ∧
  (∀ (k0_h2 : k0_cond2 i v0 = 1#1), ∀ a, (k0_off356 i v0) a + S1.size a ≤ S49152.size a) ∧
  (∀ (k0_h2 : k0_cond2 i v0 = 1#1), ∀ a, (k0_off358 i v0) a + S1.size a ≤ S49152.size a) ∧
  (∀ (k0_h2 : k0_cond2 i v0 = 1#1), ∀ a, (k0_off360 i v0) a + S1.size a ≤ S49152.size a) ∧
  (∀ (k0_h2 : k0_cond2 i v0 = 1#1), ∀ a, (k0_off362 i v0) a + S1.size a ≤ S49152.size a) ∧
  (∀ (k0_h2 : k0_cond2 i v0 = 1#1), ∀ a, (k0_off364 i v0) a + S1.size a ≤ S49152.size a) ∧
  (∀ (k0_h2 : k0_cond2 i v0 = 1#1), ∀ a, (k0_off366 i v0) a + S1.size a ≤ S49152.size a) ∧
  (∀ (k0_h2 : k0_cond2 i v0 = 1#1), ∀ a, (k0_off368 i v0) a + S1.size a ≤ S49152.size a) ∧
  (∀ (k0_h2 : k0_cond2 i v0 = 1#1), ∀ a, (k0_off370 i v0) a + S1.size a ≤ S49152.size a) ∧
  (∀ (k0_h2 : k0_cond2 i v0 = 1#1), ∀ a, (k0_off372 i v0) a + S1.size a ≤ S49152.size a) ∧
  (∀ (k0_h2 : k0_cond2 i v0 = 1#1), ∀ a, (k0_off374 i v0) a + S1.size a ≤ S49152.size a) ∧
  (∀ (k0_h2 : k0_cond2 i v0 = 1#1), ∀ a, (k0_off376 i v0) a + S1.size a ≤ S49152.size a) ∧
  (∀ (k0_h2 : k0_cond2 i v0 = 1#1), ∀ a, (k0_off378 i v0) a + S1.size a ≤ S49152.size a) ∧
  (∀ (k0_h2 : k0_cond2 i v0 = 1#1), ∀ a, (k0_off380 i v0) a + S1.size a ≤ S49152.size a) ∧
  (∀ (k0_h2 : k0_cond2 i v0 = 1#1), ∀ a, (k0_off382 i v0) a + S1.size a ≤ S49152.size a) ∧
  (∀ (k0_h2 : k0_cond2 i v0 = 1#1), ∀ a, (k0_off384 i v0) a + S1.size a ≤ S49152.size a)
def k0_chk257_2 (i : grid0.Coords) (v0 : BitVec 32) : Prop :=
  (∀ (k0_h2 : k0_cond2 i v0 = 1#1), ∀ a, (k0_off386 i v0) a + S1.size a ≤ S49152.size a) ∧
  (∀ (k0_h2 : k0_cond2 i v0 = 1#1), ∀ a, (k0_off388 i v0) a + S1.size a ≤ S49152.size a) ∧
  (∀ (k0_h2 : k0_cond2 i v0 = 1#1), ∀ a, (k0_off390 i v0) a + S1.size a ≤ S49152.size a) ∧
  (∀ (k0_h2 : k0_cond2 i v0 = 1#1), ∀ a, (k0_off392 i v0) a + S1.size a ≤ S49152.size a) ∧
  (∀ (k0_h2 : k0_cond2 i v0 = 1#1), ∀ a, (k0_off394 i v0) a + S1.size a ≤ S49152.size a) ∧
  (∀ (k0_h2 : k0_cond2 i v0 = 1#1), ∀ a, (k0_off396 i v0) a + S1.size a ≤ S49152.size a) ∧
  (∀ (k0_h2 : k0_cond2 i v0 = 1#1), ∀ a, (k0_off398 i v0) a + S1.size a ≤ S49152.size a) ∧
  (∀ (k0_h2 : k0_cond2 i v0 = 1#1), ∀ a, (k0_off400 i v0) a + S1.size a ≤ S49152.size a) ∧
  (∀ (k0_h2 : k0_cond2 i v0 = 1#1), ∀ a, (k0_off402 i v0) a + S1.size a ≤ S49152.size a) ∧
  (∀ (k0_h2 : k0_cond2 i v0 = 1#1), ∀ a, (k0_off404 i v0) a + S1.size a ≤ S49152.size a) ∧
  (∀ (k0_h2 : k0_cond2 i v0 = 1#1), ∀ a, (k0_off406 i v0) a + S1.size a ≤ S49152.size a) ∧
  (∀ (k0_h2 : k0_cond2 i v0 = 1#1), ∀ a, (k0_off408 i v0) a + S1.size a ≤ S49152.size a) ∧
  (∀ (k0_h2 : k0_cond2 i v0 = 1#1), ∀ a, (k0_off410 i v0) a + S1.size a ≤ S49152.size a) ∧
  (∀ (k0_h2 : k0_cond2 i v0 = 1#1), ∀ a, (k0_off412 i v0) a + S1.size a ≤ S49152.size a) ∧
  (∀ (k0_h2 : k0_cond2 i v0 = 1#1), ∀ a, (k0_off414 i v0) a + S1.size a ≤ S49152.size a) ∧
  (∀ (k0_h2 : k0_cond2 i v0 = 1#1), ∀ a, (k0_off416 i v0) a + S1.size a ≤ S49152.size a) ∧
  (∀ (k0_h2 : k0_cond2 i v0 = 1#1), ∀ a, (k0_off418 i v0) a + S1.size a ≤ S49152.size a) ∧
  (∀ (k0_h2 : k0_cond2 i v0 = 1#1), ∀ a, (k0_off420 i v0) a + S1.size a ≤ S49152.size a) ∧
  (∀ (k0_h2 : k0_cond2 i v0 = 1#1), ∀ a, (k0_off422 i v0) a + S1.size a ≤ S49152.size a) ∧
  (∀ (k0_h2 : k0_cond2 i v0 = 1#1), ∀ a, (k0_off424 i v0) a + S1.size a ≤ S49152.size a) ∧
  (∀ (k0_h2 : k0_cond2 i v0 = 1#1), ∀ a, (k0_off426 i v0) a + S1.size a ≤ S49152.size a) ∧
  (∀ (k0_h2 : k0_cond2 i v0 = 1#1), ∀ a, (k0_off428 i v0) a + S1.size a ≤ S49152.size a) ∧
  (∀ (k0_h2 : k0_cond2 i v0 = 1#1), ∀ a, (k0_off430 i v0) a + S1.size a ≤ S49152.size a) ∧
  (∀ (k0_h2 : k0_cond2 i v0 = 1#1), ∀ a, (k0_off432 i v0) a + S1.size a ≤ S49152.size a) ∧
  (∀ (k0_h2 : k0_cond2 i v0 = 1#1), ∀ a, (k0_off434 i v0) a + S1.size a ≤ S49152.size a) ∧
  (∀ (k0_h2 : k0_cond2 i v0 = 1#1), ∀ a, (k0_off436 i v0) a + S1.size a ≤ S49152.size a) ∧
  (∀ (k0_h2 : k0_cond2 i v0 = 1#1), ∀ a, (k0_off438 i v0) a + S1.size a ≤ S49152.size a) ∧
  (∀ (k0_h2 : k0_cond2 i v0 = 1#1), ∀ a, (k0_off440 i v0) a + S1.size a ≤ S49152.size a) ∧
  (∀ (k0_h2 : k0_cond2 i v0 = 1#1), ∀ a, (k0_off442 i v0) a + S1.size a ≤ S49152.size a) ∧
  (∀ (k0_h2 : k0_cond2 i v0 = 1#1), ∀ a, (k0_off444 i v0) a + S1.size a ≤ S49152.size a) ∧
  (∀ (k0_h2 : k0_cond2 i v0 = 1#1), ∀ a, (k0_off446 i v0) a + S1.size a ≤ S49152.size a) ∧
  (∀ (k0_h2 : k0_cond2 i v0 = 1#1), ∀ a, (k0_off448 i v0) a + S1.size a ≤ S49152.size a)
def k0_chk257_3 (i : grid0.Coords) (v0 : BitVec 32) : Prop :=
  (∀ (k0_h2 : k0_cond2 i v0 = 1#1), ∀ a, (k0_off450 i v0) a + S1.size a ≤ S49152.size a) ∧
  (∀ (k0_h2 : k0_cond2 i v0 = 1#1), ∀ a, (k0_off452 i v0) a + S1.size a ≤ S49152.size a) ∧
  (∀ (k0_h2 : k0_cond2 i v0 = 1#1), ∀ a, (k0_off454 i v0) a + S1.size a ≤ S49152.size a) ∧
  (∀ (k0_h2 : k0_cond2 i v0 = 1#1), ∀ a, (k0_off456 i v0) a + S1.size a ≤ S49152.size a) ∧
  (∀ (k0_h2 : k0_cond2 i v0 = 1#1), ∀ a, (k0_off458 i v0) a + S1.size a ≤ S49152.size a) ∧
  (∀ (k0_h2 : k0_cond2 i v0 = 1#1), ∀ a, (k0_off460 i v0) a + S1.size a ≤ S49152.size a) ∧
  (∀ (k0_h2 : k0_cond2 i v0 = 1#1), ∀ a, (k0_off462 i v0) a + S1.size a ≤ S49152.size a) ∧
  (∀ (k0_h2 : k0_cond2 i v0 = 1#1), ∀ a, (k0_off464 i v0) a + S1.size a ≤ S49152.size a) ∧
  (∀ (k0_h2 : k0_cond2 i v0 = 1#1), ∀ a, (k0_off466 i v0) a + S1.size a ≤ S49152.size a) ∧
  (∀ (k0_h2 : k0_cond2 i v0 = 1#1), ∀ a, (k0_off468 i v0) a + S1.size a ≤ S49152.size a) ∧
  (∀ (k0_h2 : k0_cond2 i v0 = 1#1), ∀ a, (k0_off470 i v0) a + S1.size a ≤ S49152.size a) ∧
  (∀ (k0_h2 : k0_cond2 i v0 = 1#1), ∀ a, (k0_off472 i v0) a + S1.size a ≤ S49152.size a) ∧
  (∀ (k0_h2 : k0_cond2 i v0 = 1#1), ∀ a, (k0_off474 i v0) a + S1.size a ≤ S49152.size a) ∧
  (∀ (k0_h2 : k0_cond2 i v0 = 1#1), ∀ a, (k0_off476 i v0) a + S1.size a ≤ S49152.size a) ∧
  (∀ (k0_h2 : k0_cond2 i v0 = 1#1), ∀ a, (k0_off478 i v0) a + S1.size a ≤ S49152.size a) ∧
  (∀ (k0_h2 : k0_cond2 i v0 = 1#1), ∀ a, (k0_off480 i v0) a + S1.size a ≤ S49152.size a) ∧
  (∀ (k0_h2 : k0_cond2 i v0 = 1#1), ∀ a, (k0_off482 i v0) a + S1.size a ≤ S49152.size a) ∧
  (∀ (k0_h2 : k0_cond2 i v0 = 1#1), ∀ a, (k0_off484 i v0) a + S1.size a ≤ S49152.size a) ∧
  (∀ (k0_h2 : k0_cond2 i v0 = 1#1), ∀ a, (k0_off486 i v0) a + S1.size a ≤ S49152.size a) ∧
  (∀ (k0_h2 : k0_cond2 i v0 = 1#1), ∀ a, (k0_off488 i v0) a + S1.size a ≤ S49152.size a) ∧
  (∀ (k0_h2 : k0_cond2 i v0 = 1#1), ∀ a, (k0_off490 i v0) a + S1.size a ≤ S49152.size a) ∧
  (∀ (k0_h2 : k0_cond2 i v0 = 1#1), ∀ a, (k0_off492 i v0) a + S1.size a ≤ S49152.size a) ∧
  (∀ (k0_h2 : k0_cond2 i v0 = 1#1), ∀ a, (k0_off494 i v0) a + S1.size a ≤ S49152.size a) ∧
  (∀ (k0_h2 : k0_cond2 i v0 = 1#1), ∀ a, (k0_off496 i v0) a + S1.size a ≤ S49152.size a) ∧
  (∀ (k0_h2 : k0_cond2 i v0 = 1#1), ∀ a, (k0_off498 i v0) a + S1.size a ≤ S49152.size a) ∧
  (∀ (k0_h2 : k0_cond2 i v0 = 1#1), ∀ a, (k0_off500 i v0) a + S1.size a ≤ S49152.size a) ∧
  (∀ (k0_h2 : k0_cond2 i v0 = 1#1), ∀ a, (k0_off502 i v0) a + S1.size a ≤ S49152.size a) ∧
  (∀ (k0_h2 : k0_cond2 i v0 = 1#1), ∀ a, (k0_off504 i v0) a + S1.size a ≤ S49152.size a) ∧
  (∀ (k0_h2 : k0_cond2 i v0 = 1#1), ∀ a, (k0_off506 i v0) a + S1.size a ≤ S49152.size a) ∧
  (∀ (k0_h2 : k0_cond2 i v0 = 1#1), ∀ a, (k0_off508 i v0) a + S1.size a ≤ S49152.size a) ∧
  (∀ (k0_h2 : k0_cond2 i v0 = 1#1), ∀ a, (k0_off510 i v0) a + S1.size a ≤ S49152.size a) ∧
  (∀ (k0_h2 : k0_cond2 i v0 = 1#1), ∀ a, (k0_off512 i v0) a + S1.size a ≤ S49152.size a)
def k0_chk257_4 (i : grid0.Coords) (v0 : BitVec 32) : Prop :=
  (∀ (k0_h2 : k0_cond2 i v0 = 1#1), ∀ a, (k0_off514 i v0) a + S1.size a ≤ S49152.size a) ∧
  (∀ (k0_h2 : k0_cond2 i v0 = 1#1), ∀ a, (k0_off516 i v0) a + S1.size a ≤ S49152.size a) ∧
  (∀ (k0_h2 : k0_cond2 i v0 = 1#1), ∀ a, (k0_off518 i v0) a + S1.size a ≤ S49152.size a) ∧
  (∀ (k0_h2 : k0_cond2 i v0 = 1#1), ∀ a, (k0_off520 i v0) a + S1.size a ≤ S49152.size a) ∧
  (∀ (k0_h2 : k0_cond2 i v0 = 1#1), ∀ a, (k0_off522 i v0) a + S1.size a ≤ S49152.size a) ∧
  (∀ (k0_h2 : k0_cond2 i v0 = 1#1), ∀ a, (k0_off524 i v0) a + S1.size a ≤ S49152.size a) ∧
  (∀ (k0_h2 : k0_cond2 i v0 = 1#1), ∀ a, (k0_off526 i v0) a + S1.size a ≤ S49152.size a) ∧
  (∀ (k0_h2 : k0_cond2 i v0 = 1#1), ∀ a, (k0_off528 i v0) a + S1.size a ≤ S49152.size a) ∧
  (∀ (k0_h2 : k0_cond2 i v0 = 1#1), ∀ a, (k0_off530 i v0) a + S1.size a ≤ S49152.size a) ∧
  (∀ (k0_h2 : k0_cond2 i v0 = 1#1), ∀ a, (k0_off532 i v0) a + S1.size a ≤ S49152.size a) ∧
  (∀ (k0_h2 : k0_cond2 i v0 = 1#1), ∀ a, (k0_off534 i v0) a + S1.size a ≤ S49152.size a) ∧
  (∀ (k0_h2 : k0_cond2 i v0 = 1#1), ∀ a, (k0_off536 i v0) a + S1.size a ≤ S49152.size a) ∧
  (∀ (k0_h2 : k0_cond2 i v0 = 1#1), ∀ a, (k0_off538 i v0) a + S1.size a ≤ S49152.size a) ∧
  (∀ (k0_h2 : k0_cond2 i v0 = 1#1), ∀ a, (k0_off540 i v0) a + S1.size a ≤ S49152.size a) ∧
  (∀ (k0_h2 : k0_cond2 i v0 = 1#1), ∀ a, (k0_off542 i v0) a + S1.size a ≤ S49152.size a) ∧
  (∀ (k0_h2 : k0_cond2 i v0 = 1#1), ∀ a, (k0_off544 i v0) a + S1.size a ≤ S49152.size a) ∧
  (∀ (k0_h2 : k0_cond2 i v0 = 1#1), ∀ a, (k0_off546 i v0) a + S1.size a ≤ S49152.size a) ∧
  (∀ (k0_h2 : k0_cond2 i v0 = 1#1), ∀ a, (k0_off548 i v0) a + S1.size a ≤ S49152.size a) ∧
  (∀ (k0_h2 : k0_cond2 i v0 = 1#1), ∀ a, (k0_off550 i v0) a + S1.size a ≤ S49152.size a) ∧
  (∀ (k0_h2 : k0_cond2 i v0 = 1#1), ∀ a, (k0_off552 i v0) a + S1.size a ≤ S49152.size a) ∧
  (∀ (k0_h2 : k0_cond2 i v0 = 1#1), ∀ a, (k0_off554 i v0) a + S1.size a ≤ S49152.size a) ∧
  (∀ (k0_h2 : k0_cond2 i v0 = 1#1), ∀ a, (k0_off556 i v0) a + S1.size a ≤ S49152.size a) ∧
  (∀ (k0_h2 : k0_cond2 i v0 = 1#1), ∀ a, (k0_off558 i v0) a + S1.size a ≤ S49152.size a) ∧
  (∀ (k0_h2 : k0_cond2 i v0 = 1#1), ∀ a, (k0_off560 i v0) a + S1.size a ≤ S49152.size a) ∧
  (∀ (k0_h2 : k0_cond2 i v0 = 1#1), ∀ a, (k0_off562 i v0) a + S1.size a ≤ S49152.size a) ∧
  (∀ (k0_h2 : k0_cond2 i v0 = 1#1), ∀ a, (k0_off564 i v0) a + S1.size a ≤ S49152.size a) ∧
  (∀ (k0_h2 : k0_cond2 i v0 = 1#1), ∀ a, (k0_off566 i v0) a + S1.size a ≤ S49152.size a) ∧
  (∀ (k0_h2 : k0_cond2 i v0 = 1#1), ∀ a, (k0_off568 i v0) a + S1.size a ≤ S49152.size a) ∧
  (∀ (k0_h2 : k0_cond2 i v0 = 1#1), ∀ a, (k0_off570 i v0) a + S1.size a ≤ S49152.size a) ∧
  (∀ (k0_h2 : k0_cond2 i v0 = 1#1), ∀ a, (k0_off572 i v0) a + S1.size a ≤ S49152.size a) ∧
  (∀ (k0_h2 : k0_cond2 i v0 = 1#1), ∀ a, (k0_off574 i v0) a + S1.size a ≤ S49152.size a) ∧
  (∀ (k0_h2 : k0_cond2 i v0 = 1#1), ∀ a, (k0_off576 i v0) a + S1.size a ≤ S49152.size a)
def k0_chk257_5 (i : grid0.Coords) (v0 : BitVec 32) : Prop :=
  (∀ (k0_h2 : k0_cond2 i v0 = 1#1), ∀ a, (k0_off578 i v0) a + S1.size a ≤ S49152.size a) ∧
  (∀ (k0_h2 : k0_cond2 i v0 = 1#1), ∀ a, (k0_off580 i v0) a + S1.size a ≤ S49152.size a) ∧
  (∀ (k0_h2 : k0_cond2 i v0 = 1#1), ∀ a, (k0_off582 i v0) a + S1.size a ≤ S49152.size a) ∧
  (∀ (k0_h2 : k0_cond2 i v0 = 1#1), ∀ a, (k0_off584 i v0) a + S1.size a ≤ S49152.size a) ∧
  (∀ (k0_h2 : k0_cond2 i v0 = 1#1), ∀ a, (k0_off586 i v0) a + S1.size a ≤ S49152.size a) ∧
  (∀ (k0_h2 : k0_cond2 i v0 = 1#1), ∀ a, (k0_off588 i v0) a + S1.size a ≤ S49152.size a) ∧
  (∀ (k0_h2 : k0_cond2 i v0 = 1#1), ∀ a, (k0_off590 i v0) a + S1.size a ≤ S49152.size a) ∧
  (∀ (k0_h2 : k0_cond2 i v0 = 1#1), ∀ a, (k0_off592 i v0) a + S1.size a ≤ S49152.size a) ∧
  (∀ (k0_h2 : k0_cond2 i v0 = 1#1), ∀ a, (k0_off594 i v0) a + S1.size a ≤ S49152.size a) ∧
  (∀ (k0_h2 : k0_cond2 i v0 = 1#1), ∀ a, (k0_off596 i v0) a + S1.size a ≤ S49152.size a) ∧
  (∀ (k0_h2 : k0_cond2 i v0 = 1#1), ∀ a, (k0_off598 i v0) a + S1.size a ≤ S49152.size a) ∧
  (∀ (k0_h2 : k0_cond2 i v0 = 1#1), ∀ a, (k0_off600 i v0) a + S1.size a ≤ S49152.size a) ∧
  (∀ (k0_h2 : k0_cond2 i v0 = 1#1), ∀ a, (k0_off602 i v0) a + S1.size a ≤ S49152.size a) ∧
  (∀ (k0_h2 : k0_cond2 i v0 = 1#1), ∀ a, (k0_off604 i v0) a + S1.size a ≤ S49152.size a) ∧
  (∀ (k0_h2 : k0_cond2 i v0 = 1#1), ∀ a, (k0_off606 i v0) a + S1.size a ≤ S49152.size a) ∧
  (∀ (k0_h2 : k0_cond2 i v0 = 1#1), ∀ a, (k0_off608 i v0) a + S1.size a ≤ S49152.size a) ∧
  (∀ (k0_h2 : k0_cond2 i v0 = 1#1), ∀ a, (k0_off610 i v0) a + S1.size a ≤ S49152.size a) ∧
  (∀ (k0_h2 : k0_cond2 i v0 = 1#1), ∀ a, (k0_off612 i v0) a + S1.size a ≤ S49152.size a) ∧
  (∀ (k0_h2 : k0_cond2 i v0 = 1#1), ∀ a, (k0_off614 i v0) a + S1.size a ≤ S49152.size a) ∧
  (∀ (k0_h2 : k0_cond2 i v0 = 1#1), ∀ a, (k0_off616 i v0) a + S1.size a ≤ S49152.size a) ∧
  (∀ (k0_h2 : k0_cond2 i v0 = 1#1), ∀ a, (k0_off618 i v0) a + S1.size a ≤ S49152.size a) ∧
  (∀ (k0_h2 : k0_cond2 i v0 = 1#1), ∀ a, (k0_off620 i v0) a + S1.size a ≤ S49152.size a) ∧
  (∀ (k0_h2 : k0_cond2 i v0 = 1#1), ∀ a, (k0_off622 i v0) a + S1.size a ≤ S49152.size a) ∧
  (∀ (k0_h2 : k0_cond2 i v0 = 1#1), ∀ a, (k0_off624 i v0) a + S1.size a ≤ S49152.size a) ∧
  (∀ (k0_h2 : k0_cond2 i v0 = 1#1), ∀ a, (k0_off626 i v0) a + S1.size a ≤ S49152.size a) ∧
  (∀ (k0_h2 : k0_cond2 i v0 = 1#1), ∀ a, (k0_off628 i v0) a + S1.size a ≤ S49152.size a) ∧
  (∀ (k0_h2 : k0_cond2 i v0 = 1#1), ∀ a, (k0_off630 i v0) a + S1.size a ≤ S49152.size a) ∧
  (∀ (k0_h2 : k0_cond2 i v0 = 1#1), ∀ a, (k0_off632 i v0) a + S1.size a ≤ S49152.size a) ∧
  (∀ (k0_h2 : k0_cond2 i v0 = 1#1), ∀ a, (k0_off634 i v0) a + S1.size a ≤ S49152.size a) ∧
  (∀ (k0_h2 : k0_cond2 i v0 = 1#1), ∀ a, (k0_off636 i v0) a + S1.size a ≤ S49152.size a) ∧
  (∀ (k0_h2 : k0_cond2 i v0 = 1#1), ∀ a, (k0_off638 i v0) a + S1.size a ≤ S49152.size a) ∧
  (∀ (k0_h2 : k0_cond2 i v0 = 1#1), ∀ a, (k0_off640 i v0) a + S1.size a ≤ S49152.size a)
def k0_chk257_6 (i : grid0.Coords) (v0 : BitVec 32) : Prop :=
  (∀ (k0_h2 : k0_cond2 i v0 = 1#1), ∀ a, (k0_off642 i v0) a + S1.size a ≤ S49152.size a) ∧
  (∀ (k0_h2 : k0_cond2 i v0 = 1#1), ∀ a, (k0_off644 i v0) a + S1.size a ≤ S49152.size a) ∧
  (∀ (k0_h2 : k0_cond2 i v0 = 1#1), ∀ a, (k0_off646 i v0) a + S1.size a ≤ S49152.size a) ∧
  (∀ (k0_h2 : k0_cond2 i v0 = 1#1), ∀ a, (k0_off648 i v0) a + S1.size a ≤ S49152.size a) ∧
  (∀ (k0_h2 : k0_cond2 i v0 = 1#1), ∀ a, (k0_off650 i v0) a + S1.size a ≤ S49152.size a) ∧
  (∀ (k0_h2 : k0_cond2 i v0 = 1#1), ∀ a, (k0_off652 i v0) a + S1.size a ≤ S49152.size a) ∧
  (∀ (k0_h2 : k0_cond2 i v0 = 1#1), ∀ a, (k0_off654 i v0) a + S1.size a ≤ S49152.size a) ∧
  (∀ (k0_h2 : k0_cond2 i v0 = 1#1), ∀ a, (k0_off656 i v0) a + S1.size a ≤ S49152.size a) ∧
  (∀ (k0_h2 : k0_cond2 i v0 = 1#1), ∀ a, (k0_off658 i v0) a + S1.size a ≤ S49152.size a) ∧
  (∀ (k0_h2 : k0_cond2 i v0 = 1#1), ∀ a, (k0_off660 i v0) a + S1.size a ≤ S49152.size a) ∧
  (∀ (k0_h2 : k0_cond2 i v0 = 1#1), ∀ a, (k0_off662 i v0) a + S1.size a ≤ S49152.size a) ∧
  (∀ (k0_h2 : k0_cond2 i v0 = 1#1), ∀ a, (k0_off664 i v0) a + S1.size a ≤ S49152.size a) ∧
  (∀ (k0_h2 : k0_cond2 i v0 = 1#1), ∀ a, (k0_off666 i v0) a + S1.size a ≤ S49152.size a) ∧
  (∀ (k0_h2 : k0_cond2 i v0 = 1#1), ∀ a, (k0_off668 i v0) a + S1.size a ≤ S49152.size a) ∧
  (∀ (k0_h2 : k0_cond2 i v0 = 1#1), ∀ a, (k0_off670 i v0) a + S1.size a ≤ S49152.size a) ∧
  (∀ (k0_h2 : k0_cond2 i v0 = 1#1), ∀ a, (k0_off672 i v0) a + S1.size a ≤ S49152.size a) ∧
  (∀ (k0_h2 : k0_cond2 i v0 = 1#1), ∀ a, (k0_off674 i v0) a + S1.size a ≤ S49152.size a) ∧
  (∀ (k0_h2 : k0_cond2 i v0 = 1#1), ∀ a, (k0_off676 i v0) a + S1.size a ≤ S49152.size a) ∧
  (∀ (k0_h2 : k0_cond2 i v0 = 1#1), ∀ a, (k0_off678 i v0) a + S1.size a ≤ S49152.size a) ∧
  (∀ (k0_h2 : k0_cond2 i v0 = 1#1), ∀ a, (k0_off680 i v0) a + S1.size a ≤ S49152.size a) ∧
  (∀ (k0_h2 : k0_cond2 i v0 = 1#1), ∀ a, (k0_off682 i v0) a + S1.size a ≤ S49152.size a) ∧
  (∀ (k0_h2 : k0_cond2 i v0 = 1#1), ∀ a, (k0_off684 i v0) a + S1.size a ≤ S49152.size a) ∧
  (∀ (k0_h2 : k0_cond2 i v0 = 1#1), ∀ a, (k0_off686 i v0) a + S1.size a ≤ S49152.size a) ∧
  (∀ (k0_h2 : k0_cond2 i v0 = 1#1), ∀ a, (k0_off688 i v0) a + S1.size a ≤ S49152.size a) ∧
  (∀ (k0_h2 : k0_cond2 i v0 = 1#1), ∀ a, (k0_off690 i v0) a + S1.size a ≤ S49152.size a) ∧
  (∀ (k0_h2 : k0_cond2 i v0 = 1#1), ∀ a, (k0_off692 i v0) a + S1.size a ≤ S49152.size a) ∧
  (∀ (k0_h2 : k0_cond2 i v0 = 1#1), ∀ a, (k0_off694 i v0) a + S1.size a ≤ S49152.size a) ∧
  (∀ (k0_h2 : k0_cond2 i v0 = 1#1), ∀ a, (k0_off696 i v0) a + S1.size a ≤ S49152.size a) ∧
  (∀ (k0_h2 : k0_cond2 i v0 = 1#1), ∀ a, (k0_off698 i v0) a + S1.size a ≤ S49152.size a) ∧
  (∀ (k0_h2 : k0_cond2 i v0 = 1#1), ∀ a, (k0_off700 i v0) a + S1.size a ≤ S49152.size a) ∧
  (∀ (k0_h2 : k0_cond2 i v0 = 1#1), ∀ a, (k0_off702 i v0) a + S1.size a ≤ S49152.size a) ∧
  (∀ (k0_h2 : k0_cond2 i v0 = 1#1), ∀ a, (k0_off704 i v0) a + S1.size a ≤ S49152.size a)
def k0_chk257_7 (i : grid0.Coords) (v0 : BitVec 32) : Prop :=
  (∀ (k0_h2 : k0_cond2 i v0 = 1#1), ∀ a, (k0_off706 i v0) a + S1.size a ≤ S49152.size a) ∧
  (∀ (k0_h2 : k0_cond2 i v0 = 1#1), ∀ a, (k0_off708 i v0) a + S1.size a ≤ S49152.size a) ∧
  (∀ (k0_h2 : k0_cond2 i v0 = 1#1), ∀ a, (k0_off710 i v0) a + S1.size a ≤ S49152.size a) ∧
  (∀ (k0_h2 : k0_cond2 i v0 = 1#1), ∀ a, (k0_off712 i v0) a + S1.size a ≤ S49152.size a) ∧
  (∀ (k0_h2 : k0_cond2 i v0 = 1#1), ∀ a, (k0_off714 i v0) a + S1.size a ≤ S49152.size a) ∧
  (∀ (k0_h2 : k0_cond2 i v0 = 1#1), ∀ a, (k0_off716 i v0) a + S1.size a ≤ S49152.size a) ∧
  (∀ (k0_h2 : k0_cond2 i v0 = 1#1), ∀ a, (k0_off718 i v0) a + S1.size a ≤ S49152.size a) ∧
  (∀ (k0_h2 : k0_cond2 i v0 = 1#1), ∀ a, (k0_off720 i v0) a + S1.size a ≤ S49152.size a) ∧
  (∀ (k0_h2 : k0_cond2 i v0 = 1#1), ∀ a, (k0_off722 i v0) a + S1.size a ≤ S49152.size a) ∧
  (∀ (k0_h2 : k0_cond2 i v0 = 1#1), ∀ a, (k0_off724 i v0) a + S1.size a ≤ S49152.size a) ∧
  (∀ (k0_h2 : k0_cond2 i v0 = 1#1), ∀ a, (k0_off726 i v0) a + S1.size a ≤ S49152.size a) ∧
  (∀ (k0_h2 : k0_cond2 i v0 = 1#1), ∀ a, (k0_off728 i v0) a + S1.size a ≤ S49152.size a) ∧
  (∀ (k0_h2 : k0_cond2 i v0 = 1#1), ∀ a, (k0_off730 i v0) a + S1.size a ≤ S49152.size a) ∧
  (∀ (k0_h2 : k0_cond2 i v0 = 1#1), ∀ a, (k0_off732 i v0) a + S1.size a ≤ S49152.size a) ∧
  (∀ (k0_h2 : k0_cond2 i v0 = 1#1), ∀ a, (k0_off734 i v0) a + S1.size a ≤ S49152.size a) ∧
  (∀ (k0_h2 : k0_cond2 i v0 = 1#1), ∀ a, (k0_off736 i v0) a + S1.size a ≤ S49152.size a) ∧
  (∀ (k0_h2 : k0_cond2 i v0 = 1#1), ∀ a, (k0_off738 i v0) a + S1.size a ≤ S49152.size a) ∧
  (∀ (k0_h2 : k0_cond2 i v0 = 1#1), ∀ a, (k0_off740 i v0) a + S1.size a ≤ S49152.size a) ∧
  (∀ (k0_h2 : k0_cond2 i v0 = 1#1), ∀ a, (k0_off742 i v0) a + S1.size a ≤ S49152.size a) ∧
  (∀ (k0_h2 : k0_cond2 i v0 = 1#1), ∀ a, (k0_off744 i v0) a + S1.size a ≤ S49152.size a) ∧
  (∀ (k0_h2 : k0_cond2 i v0 = 1#1), ∀ a, (k0_off746 i v0) a + S1.size a ≤ S49152.size a) ∧
  (∀ (k0_h2 : k0_cond2 i v0 = 1#1), ∀ a, (k0_off748 i v0) a + S1.size a ≤ S49152.size a) ∧
  (∀ (k0_h2 : k0_cond2 i v0 = 1#1), ∀ a, (k0_off750 i v0) a + S1.size a ≤ S49152.size a) ∧
  (∀ (k0_h2 : k0_cond2 i v0 = 1#1), ∀ a, (k0_off752 i v0) a + S1.size a ≤ S49152.size a) ∧
  (∀ (k0_h2 : k0_cond2 i v0 = 1#1), ∀ a, (k0_off754 i v0) a + S1.size a ≤ S49152.size a) ∧
  (∀ (k0_h2 : k0_cond2 i v0 = 1#1), ∀ a, (k0_off756 i v0) a + S1.size a ≤ S49152.size a) ∧
  (∀ (k0_h2 : k0_cond2 i v0 = 1#1), ∀ a, (k0_off758 i v0) a + S1.size a ≤ S49152.size a) ∧
  (∀ (k0_h2 : k0_cond2 i v0 = 1#1), ∀ a, (k0_off760 i v0) a + S1.size a ≤ S49152.size a) ∧
  (∀ (k0_h2 : k0_cond2 i v0 = 1#1), ∀ a, (k0_off762 i v0) a + S1.size a ≤ S49152.size a) ∧
  (∀ (k0_h2 : k0_cond2 i v0 = 1#1), ∀ a, (k0_off764 i v0) a + S1.size a ≤ S49152.size a) ∧
  (∀ (k0_h2 : k0_cond2 i v0 = 1#1), ∀ a, (k0_off766 i v0) a + S1.size a ≤ S49152.size a) ∧
  (∀ (k0_h2 : k0_cond2 i v0 = 1#1), ∀ a, (k0_off768 i v0) a + S1.size a ≤ S49152.size a)
def k0_chk257 (i : grid0.Coords) (v0 : BitVec 32) : Prop :=
  k0_chk257_0 i v0 ∧
  k0_chk257_1 i v0 ∧
  k0_chk257_2 i v0 ∧
  k0_chk257_3 i v0 ∧
  k0_chk257_4 i v0 ∧
  k0_chk257_5 i v0 ∧
  k0_chk257_6 i v0 ∧
  k0_chk257_7 i v0
theorem k0_off258_inb : ∀ (i : grid0.Coords) (v0 : BitVec 32) (k0_hw257 : k0_chk257 i v0), ∀ (k0_h2 : k0_cond2 i v0 = 1#1), ∀ a, (k0_off258 i v0) a + S1.size a ≤ S49152.size a := fun i v0 k0_hw257 k0_h2 => k0_hw257.1.1 k0_h2
theorem k0_off260_inb : ∀ (i : grid0.Coords) (v0 : BitVec 32) (k0_hw257 : k0_chk257 i v0), ∀ (k0_h2 : k0_cond2 i v0 = 1#1), ∀ a, (k0_off260 i v0) a + S1.size a ≤ S49152.size a := fun i v0 k0_hw257 k0_h2 => k0_hw257.1.2.1 k0_h2
theorem k0_off262_inb : ∀ (i : grid0.Coords) (v0 : BitVec 32) (k0_hw257 : k0_chk257 i v0), ∀ (k0_h2 : k0_cond2 i v0 = 1#1), ∀ a, (k0_off262 i v0) a + S1.size a ≤ S49152.size a := fun i v0 k0_hw257 k0_h2 => k0_hw257.1.2.2.1 k0_h2
theorem k0_off264_inb : ∀ (i : grid0.Coords) (v0 : BitVec 32) (k0_hw257 : k0_chk257 i v0), ∀ (k0_h2 : k0_cond2 i v0 = 1#1), ∀ a, (k0_off264 i v0) a + S1.size a ≤ S49152.size a := fun i v0 k0_hw257 k0_h2 => k0_hw257.1.2.2.2.1 k0_h2
theorem k0_off266_inb : ∀ (i : grid0.Coords) (v0 : BitVec 32) (k0_hw257 : k0_chk257 i v0), ∀ (k0_h2 : k0_cond2 i v0 = 1#1), ∀ a, (k0_off266 i v0) a + S1.size a ≤ S49152.size a := fun i v0 k0_hw257 k0_h2 => k0_hw257.1.2.2.2.2.1 k0_h2
theorem k0_off268_inb : ∀ (i : grid0.Coords) (v0 : BitVec 32) (k0_hw257 : k0_chk257 i v0), ∀ (k0_h2 : k0_cond2 i v0 = 1#1), ∀ a, (k0_off268 i v0) a + S1.size a ≤ S49152.size a := fun i v0 k0_hw257 k0_h2 => k0_hw257.1.2.2.2.2.2.1 k0_h2
theorem k0_off270_inb : ∀ (i : grid0.Coords) (v0 : BitVec 32) (k0_hw257 : k0_chk257 i v0), ∀ (k0_h2 : k0_cond2 i v0 = 1#1), ∀ a, (k0_off270 i v0) a + S1.size a ≤ S49152.size a := fun i v0 k0_hw257 k0_h2 => k0_hw257.1.2.2.2.2.2.2.1 k0_h2
theorem k0_off272_inb : ∀ (i : grid0.Coords) (v0 : BitVec 32) (k0_hw257 : k0_chk257 i v0), ∀ (k0_h2 : k0_cond2 i v0 = 1#1), ∀ a, (k0_off272 i v0) a + S1.size a ≤ S49152.size a := fun i v0 k0_hw257 k0_h2 => k0_hw257.1.2.2.2.2.2.2.2.1 k0_h2
theorem k0_off274_inb : ∀ (i : grid0.Coords) (v0 : BitVec 32) (k0_hw257 : k0_chk257 i v0), ∀ (k0_h2 : k0_cond2 i v0 = 1#1), ∀ a, (k0_off274 i v0) a + S1.size a ≤ S49152.size a := fun i v0 k0_hw257 k0_h2 => k0_hw257.1.2.2.2.2.2.2.2.2.1 k0_h2
theorem k0_off276_inb : ∀ (i : grid0.Coords) (v0 : BitVec 32) (k0_hw257 : k0_chk257 i v0), ∀ (k0_h2 : k0_cond2 i v0 = 1#1), ∀ a, (k0_off276 i v0) a + S1.size a ≤ S49152.size a := fun i v0 k0_hw257 k0_h2 => k0_hw257.1.2.2.2.2.2.2.2.2.2.1 k0_h2
theorem k0_off278_inb : ∀ (i : grid0.Coords) (v0 : BitVec 32) (k0_hw257 : k0_chk257 i v0), ∀ (k0_h2 : k0_cond2 i v0 = 1#1), ∀ a, (k0_off278 i v0) a + S1.size a ≤ S49152.size a := fun i v0 k0_hw257 k0_h2 => k0_hw257.1.2.2.2.2.2.2.2.2.2.2.1 k0_h2
theorem k0_off280_inb : ∀ (i : grid0.Coords) (v0 : BitVec 32) (k0_hw257 : k0_chk257 i v0), ∀ (k0_h2 : k0_cond2 i v0 = 1#1), ∀ a, (k0_off280 i v0) a + S1.size a ≤ S49152.size a := fun i v0 k0_hw257 k0_h2 => k0_hw257.1.2.2.2.2.2.2.2.2.2.2.2.1 k0_h2
theorem k0_off282_inb : ∀ (i : grid0.Coords) (v0 : BitVec 32) (k0_hw257 : k0_chk257 i v0), ∀ (k0_h2 : k0_cond2 i v0 = 1#1), ∀ a, (k0_off282 i v0) a + S1.size a ≤ S49152.size a := fun i v0 k0_hw257 k0_h2 => k0_hw257.1.2.2.2.2.2.2.2.2.2.2.2.2.1 k0_h2
theorem k0_off284_inb : ∀ (i : grid0.Coords) (v0 : BitVec 32) (k0_hw257 : k0_chk257 i v0), ∀ (k0_h2 : k0_cond2 i v0 = 1#1), ∀ a, (k0_off284 i v0) a + S1.size a ≤ S49152.size a := fun i v0 k0_hw257 k0_h2 => k0_hw257.1.2.2.2.2.2.2.2.2.2.2.2.2.2.1 k0_h2
theorem k0_off286_inb : ∀ (i : grid0.Coords) (v0 : BitVec 32) (k0_hw257 : k0_chk257 i v0), ∀ (k0_h2 : k0_cond2 i v0 = 1#1), ∀ a, (k0_off286 i v0) a + S1.size a ≤ S49152.size a := fun i v0 k0_hw257 k0_h2 => k0_hw257.1.2.2.2.2.2.2.2.2.2.2.2.2.2.2.1 k0_h2
theorem k0_off288_inb : ∀ (i : grid0.Coords) (v0 : BitVec 32) (k0_hw257 : k0_chk257 i v0), ∀ (k0_h2 : k0_cond2 i v0 = 1#1), ∀ a, (k0_off288 i v0) a + S1.size a ≤ S49152.size a := fun i v0 k0_hw257 k0_h2 => k0_hw257.1.2.2.2.2.2.2.2.2.2.2.2.2.2.2.2.1 k0_h2
theorem k0_off290_inb : ∀ (i : grid0.Coords) (v0 : BitVec 32) (k0_hw257 : k0_chk257 i v0), ∀ (k0_h2 : k0_cond2 i v0 = 1#1), ∀ a, (k0_off290 i v0) a + S1.size a ≤ S49152.size a := fun i v0 k0_hw257 k0_h2 => k0_hw257.1.2.2.2.2.2.2.2.2.2.2.2.2.2.2.2.2.1 k0_h2
theorem k0_off292_inb : ∀ (i : grid0.Coords) (v0 : BitVec 32) (k0_hw257 : k0_chk257 i v0), ∀ (k0_h2 : k0_cond2 i v0 = 1#1), ∀ a, (k0_off292 i v0) a + S1.size a ≤ S49152.size a := fun i v0 k0_hw257 k0_h2 => k0_hw257.1.2.2.2.2.2.2.2.2.2.2.2.2.2.2.2.2.2.1 k0_h2
theorem k0_off294_inb : ∀ (i : grid0.Coords) (v0 : BitVec 32) (k0_hw257 : k0_chk257 i v0), ∀ (k0_h2 : k0_cond2 i v0 = 1#1), ∀ a, (k0_off294 i v0) a + S1.size a ≤ S49152.size a := fun i v0 k0_hw257 k0_h2 => k0_hw257.1.2.2.2.2.2.2.2.2.2.2.2.2.2.2.2.2.2.2.1 k0_h2
theorem k0_off296_inb : ∀ (i : grid0.Coords) (v0 : BitVec 32) (k0_hw257 : k0_chk257 i v0), ∀ (k0_h2 : k0_cond2 i v0 = 1#1), ∀ a, (k0_off296 i v0) a + S1.size a ≤ S49152.size a := fun i v0 k0_hw257 k0_h2 => k0_hw257.1.2.2.2.2.2.2.2.2.2.2.2.2.2.2.2.2.2.2.2.1 k0_h2
theorem k0_off298_inb : ∀ (i : grid0.Coords) (v0 : BitVec 32) (k0_hw257 : k0_chk257 i v0), ∀ (k0_h2 : k0_cond2 i v0 = 1#1), ∀ a, (k0_off298 i v0) a + S1.size a ≤ S49152.size a := fun i v0 k0_hw257 k0_h2 => k0_hw257.1.2.2.2.2.2.2.2.2.2.2.2.2.2.2.2.2.2.2.2.2.1 k0_h2
theorem k0_off300_inb : ∀ (i : grid0.Coords) (v0 : BitVec 32) (k0_hw257 : k0_chk257 i v0), ∀ (k0_h2 : k0_cond2 i v0 = 1#1), ∀ a, (k0_off300 i v0) a + S1.size a ≤ S49152.size a := fun i v0 k0_hw257 k0_h2 => k0_hw257.1.2.2.2.2.2.2.2.2.2.2.2.2.2.2.2.2.2.2.2.2.2.1 k0_h2
theorem k0_off302_inb : ∀ (i : grid0.Coords) (v0 : BitVec 32) (k0_hw257 : k0_chk257 i v0), ∀ (k0_h2 : k0_cond2 i v0 = 1#1), ∀ a, (k0_off302 i v0) a + S1.size a ≤ S49152.size a := fun i v0 k0_hw257 k0_h2 => k0_hw257.1.2.2.2.2.2.2.2.2.2.2.2.2.2.2.2.2.2.2.2.2.2.2.1 k0_h2
theorem k0_off304_inb : ∀ (i : grid0.Coords) (v0 : BitVec 32) (k0_hw257 : k0_chk257 i v0), ∀ (k0_h2 : k0_cond2 i v0 = 1#1), ∀ a, (k0_off304 i v0) a + S1.size a ≤ S49152.size a := fun i v0 k0_hw257 k0_h2 => k0_hw257.1.2.2.2.2.2.2.2.2.2.2.2.2.2.2.2.2.2.2.2.2.2.2.2.1 k0_h2
theorem k0_off306_inb : ∀ (i : grid0.Coords) (v0 : BitVec 32) (k0_hw257 : k0_chk257 i v0), ∀ (k0_h2 : k0_cond2 i v0 = 1#1), ∀ a, (k0_off306 i v0) a + S1.size a ≤ S49152.size a := fun i v0 k0_hw257 k0_h2 => k0_hw257.1.2.2.2.2.2.2.2.2.2.2.2.2.2.2.2.2.2.2.2.2.2.2.2.2.1 k0_h2
theorem k0_off308_inb : ∀ (i : grid0.Coords) (v0 : BitVec 32) (k0_hw257 : k0_chk257 i v0), ∀ (k0_h2 : k0_cond2 i v0 = 1#1), ∀ a, (k0_off308 i v0) a + S1.size a ≤ S49152.size a := fun i v0 k0_hw257 k0_h2 => k0_hw257.1.2.2.2.2.2.2.2.2.2.2.2.2.2.2.2.2.2.2.2.2.2.2.2.2.2.1 k0_h2
theorem k0_off310_inb : ∀ (i : grid0.Coords) (v0 : BitVec 32) (k0_hw257 : k0_chk257 i v0), ∀ (k0_h2 : k0_cond2 i v0 = 1#1), ∀ a, (k0_off310 i v0) a + S1.size a ≤ S49152.size a := fun i v0 k0_hw257 k0_h2 => k0_hw257.1.2.2.2.2.2.2.2.2.2.2.2.2.2.2.2.2.2.2.2.2.2.2.2.2.2.2.1 k0_h2
theorem k0_off312_inb : ∀ (i : grid0.Coords) (v0 : BitVec 32) (k0_hw257 : k0_chk257 i v0), ∀ (k0_h2 : k0_cond2 i v0 = 1#1), ∀ a, (k0_off312 i v0) a + S1.size a ≤ S49152.size a := fun i v0 k0_hw257 k0_h2 => k0_hw257.1.2.2.2.2.2.2.2.2.2.2.2.2.2.2.2.2.2.2.2.2.2.2.2.2.2.2.2.1 k0_h2
theorem k0_off314_inb : ∀ (i : grid0.Coords) (v0 : BitVec 32) (k0_hw257 : k0_chk257 i v0), ∀ (k0_h2 : k0_cond2 i v0 = 1#1), ∀ a, (k0_off314 i v0) a + S1.size a ≤ S49152.size a := fun i v0 k0_hw257 k0_h2 => k0_hw257.1.2.2.2.2.2.2.2.2.2.2.2.2.2.2.2.2.2.2.2.2.2.2.2.2.2.2.2.2.1 k0_h2
theorem k0_off316_inb : ∀ (i : grid0.Coords) (v0 : BitVec 32) (k0_hw257 : k0_chk257 i v0), ∀ (k0_h2 : k0_cond2 i v0 = 1#1), ∀ a, (k0_off316 i v0) a + S1.size a ≤ S49152.size a := fun i v0 k0_hw257 k0_h2 => k0_hw257.1.2.2.2.2.2.2.2.2.2.2.2.2.2.2.2.2.2.2.2.2.2.2.2.2.2.2.2.2.2.1 k0_h2
theorem k0_off318_inb : ∀ (i : grid0.Coords) (v0 : BitVec 32) (k0_hw257 : k0_chk257 i v0), ∀ (k0_h2 : k0_cond2 i v0 = 1#1), ∀ a, (k0_off318 i v0) a + S1.size a ≤ S49152.size a := fun i v0 k0_hw257 k0_h2 => k0_hw257.1.2.2.2.2.2.2.2.2.2.2.2.2.2.2.2.2.2.2.2.2.2.2.2.2.2.2.2.2.2.2.1 k0_h2
theorem k0_off320_inb : ∀ (i : grid0.Coords) (v0 : BitVec 32) (k0_hw257 : k0_chk257 i v0), ∀ (k0_h2 : k0_cond2 i v0 = 1#1), ∀ a, (k0_off320 i v0) a + S1.size a ≤ S49152.size a := fun i v0 k0_hw257 k0_h2 => k0_hw257.1.2.2.2.2.2.2.2.2.2.2.2.2.2.2.2.2.2.2.2.2.2.2.2.2.2.2.2.2.2.2.2 k0_h2
theorem k0_off322_inb : ∀ (i : grid0.Coords) (v0 : BitVec 32) (k0_hw257 : k0_chk257 i v0), ∀ (k0_h2 : k0_cond2 i v0 = 1#1), ∀ a, (k0_off322 i v0) a + S1.size a ≤ S49152.size a := fun i v0 k0_hw257 k0_h2 => k0_hw257.2.1.1 k0_h2
theorem k0_off324_inb : ∀ (i : grid0.Coords) (v0 : BitVec 32) (k0_hw257 : k0_chk257 i v0), ∀ (k0_h2 : k0_cond2 i v0 = 1#1), ∀ a, (k0_off324 i v0) a + S1.size a ≤ S49152.size a := fun i v0 k0_hw257 k0_h2 => k0_hw257.2.1.2.1 k0_h2
theorem k0_off326_inb : ∀ (i : grid0.Coords) (v0 : BitVec 32) (k0_hw257 : k0_chk257 i v0), ∀ (k0_h2 : k0_cond2 i v0 = 1#1), ∀ a, (k0_off326 i v0) a + S1.size a ≤ S49152.size a := fun i v0 k0_hw257 k0_h2 => k0_hw257.2.1.2.2.1 k0_h2
theorem k0_off328_inb : ∀ (i : grid0.Coords) (v0 : BitVec 32) (k0_hw257 : k0_chk257 i v0), ∀ (k0_h2 : k0_cond2 i v0 = 1#1), ∀ a, (k0_off328 i v0) a + S1.size a ≤ S49152.size a := fun i v0 k0_hw257 k0_h2 => k0_hw257.2.1.2.2.2.1 k0_h2
theorem k0_off330_inb : ∀ (i : grid0.Coords) (v0 : BitVec 32) (k0_hw257 : k0_chk257 i v0), ∀ (k0_h2 : k0_cond2 i v0 = 1#1), ∀ a, (k0_off330 i v0) a + S1.size a ≤ S49152.size a := fun i v0 k0_hw257 k0_h2 => k0_hw257.2.1.2.2.2.2.1 k0_h2
theorem k0_off332_inb : ∀ (i : grid0.Coords) (v0 : BitVec 32) (k0_hw257 : k0_chk257 i v0), ∀ (k0_h2 : k0_cond2 i v0 = 1#1), ∀ a, (k0_off332 i v0) a + S1.size a ≤ S49152.size a := fun i v0 k0_hw257 k0_h2 => k0_hw257.2.1.2.2.2.2.2.1 k0_h2
theorem k0_off334_inb : ∀ (i : grid0.Coords) (v0 : BitVec 32) (k0_hw257 : k0_chk257 i v0), ∀ (k0_h2 : k0_cond2 i v0 = 1#1), ∀ a, (k0_off334 i v0) a + S1.size a ≤ S49152.size a := fun i v0 k0_hw257 k0_h2 => k0_hw257.2.1.2.2.2.2.2.2.1 k0_h2
theorem k0_off336_inb : ∀ (i : grid0.Coords) (v0 : BitVec 32) (k0_hw257 : k0_chk257 i v0), ∀ (k0_h2 : k0_cond2 i v0 = 1#1), ∀ a, (k0_off336 i v0) a + S1.size a ≤ S49152.size a := fun i v0 k0_hw257 k0_h2 => k0_hw257.2.1.2.2.2.2.2.2.2.1 k0_h2
theorem k0_off338_inb : ∀ (i : grid0.Coords) (v0 : BitVec 32) (k0_hw257 : k0_chk257 i v0), ∀ (k0_h2 : k0_cond2 i v0 = 1#1), ∀ a, (k0_off338 i v0) a + S1.size a ≤ S49152.size a := fun i v0 k0_hw257 k0_h2 => k0_hw257.2.1.2.2.2.2.2.2.2.2.1 k0_h2
theorem k0_off340_inb : ∀ (i : grid0.Coords) (v0 : BitVec 32) (k0_hw257 : k0_chk257 i v0), ∀ (k0_h2 : k0_cond2 i v0 = 1#1), ∀ a, (k0_off340 i v0) a + S1.size a ≤ S49152.size a := fun i v0 k0_hw257 k0_h2 => k0_hw257.2.1.2.2.2.2.2.2.2.2.2.1 k0_h2
theorem k0_off342_inb : ∀ (i : grid0.Coords) (v0 : BitVec 32) (k0_hw257 : k0_chk257 i v0), ∀ (k0_h2 : k0_cond2 i v0 = 1#1), ∀ a, (k0_off342 i v0) a + S1.size a ≤ S49152.size a := fun i v0 k0_hw257 k0_h2 => k0_hw257.2.1.2.2.2.2.2.2.2.2.2.2.1 k0_h2
theorem k0_off344_inb : ∀ (i : grid0.Coords) (v0 : BitVec 32) (k0_hw257 : k0_chk257 i v0), ∀ (k0_h2 : k0_cond2 i v0 = 1#1), ∀ a, (k0_off344 i v0) a + S1.size a ≤ S49152.size a := fun i v0 k0_hw257 k0_h2 => k0_hw257.2.1.2.2.2.2.2.2.2.2.2.2.2.1 k0_h2
theorem k0_off346_inb : ∀ (i : grid0.Coords) (v0 : BitVec 32) (k0_hw257 : k0_chk257 i v0), ∀ (k0_h2 : k0_cond2 i v0 = 1#1), ∀ a, (k0_off346 i v0) a + S1.size a ≤ S49152.size a := fun i v0 k0_hw257 k0_h2 => k0_hw257.2.1.2.2.2.2.2.2.2.2.2.2.2.2.1 k0_h2
theorem k0_off348_inb : ∀ (i : grid0.Coords) (v0 : BitVec 32) (k0_hw257 : k0_chk257 i v0), ∀ (k0_h2 : k0_cond2 i v0 = 1#1), ∀ a, (k0_off348 i v0) a + S1.size a ≤ S49152.size a := fun i v0 k0_hw257 k0_h2 => k0_hw257.2.1.2.2.2.2.2.2.2.2.2.2.2.2.2.1 k0_h2
theorem k0_off350_inb : ∀ (i : grid0.Coords) (v0 : BitVec 32) (k0_hw257 : k0_chk257 i v0), ∀ (k0_h2 : k0_cond2 i v0 = 1#1), ∀ a, (k0_off350 i v0) a + S1.size a ≤ S49152.size a := fun i v0 k0_hw257 k0_h2 => k0_hw257.2.1.2.2.2.2.2.2.2.2.2.2.2.2.2.2.1 k0_h2
theorem k0_off352_inb : ∀ (i : grid0.Coords) (v0 : BitVec 32) (k0_hw257 : k0_chk257 i v0), ∀ (k0_h2 : k0_cond2 i v0 = 1#1), ∀ a, (k0_off352 i v0) a + S1.size a ≤ S49152.size a := fun i v0 k0_hw257 k0_h2 => k0_hw257.2.1.2.2.2.2.2.2.2.2.2.2.2.2.2.2.2.1 k0_h2
theorem k0_off354_inb : ∀ (i : grid0.Coords) (v0 : BitVec 32) (k0_hw257 : k0_chk257 i v0), ∀ (k0_h2 : k0_cond2 i v0 = 1#1), ∀ a, (k0_off354 i v0) a + S1.size a ≤ S49152.size a := fun i v0 k0_hw257 k0_h2 => k0_hw257.2.1.2.2.2.2.2.2.2.2.2.2.2.2.2.2.2.2.1 k0_h2
theorem k0_off356_inb : ∀ (i : grid0.Coords) (v0 : BitVec 32) (k0_hw257 : k0_chk257 i v0), ∀ (k0_h2 : k0_cond2 i v0 = 1#1), ∀ a, (k0_off356 i v0) a + S1.size a ≤ S49152.size a := fun i v0 k0_hw257 k0_h2 => k0_hw257.2.1.2.2.2.2.2.2.2.2.2.2.2.2.2.2.2.2.2.1 k0_h2
theorem k0_off358_inb : ∀ (i : grid0.Coords) (v0 : BitVec 32) (k0_hw257 : k0_chk257 i v0), ∀ (k0_h2 : k0_cond2 i v0 = 1#1), ∀ a, (k0_off358 i v0) a + S1.size a ≤ S49152.size a := fun i v0 k0_hw257 k0_h2 => k0_hw257.2.1.2.2.2.2.2.2.2.2.2.2.2.2.2.2.2.2.2.2.1 k0_h2
theorem k0_off360_inb : ∀ (i : grid0.Coords) (v0 : BitVec 32) (k0_hw257 : k0_chk257 i v0), ∀ (k0_h2 : k0_cond2 i v0 = 1#1), ∀ a, (k0_off360 i v0) a + S1.size a ≤ S49152.size a := fun i v0 k0_hw257 k0_h2 => k0_hw257.2.1.2.2.2.2.2.2.2.2.2.2.2.2.2.2.2.2.2.2.2.1 k0_h2
theorem k0_off362_inb : ∀ (i : grid0.Coords) (v0 : BitVec 32) (k0_hw257 : k0_chk257 i v0), ∀ (k0_h2 : k0_cond2 i v0 = 1#1), ∀ a, (k0_off362 i v0) a + S1.size a ≤ S49152.size a := fun i v0 k0_hw257 k0_h2 => k0_hw257.2.1.2.2.2.2.2.2.2.2.2.2.2.2.2.2.2.2.2.2.2.2.1 k0_h2
theorem k0_off364_inb : ∀ (i : grid0.Coords) (v0 : BitVec 32) (k0_hw257 : k0_chk257 i v0), ∀ (k0_h2 : k0_cond2 i v0 = 1#1), ∀ a, (k0_off364 i v0) a + S1.size a ≤ S49152.size a := fun i v0 k0_hw257 k0_h2 => k0_hw257.2.1.2.2.2.2.2.2.2.2.2.2.2.2.2.2.2.2.2.2.2.2.2.1 k0_h2
theorem k0_off366_inb : ∀ (i : grid0.Coords) (v0 : BitVec 32) (k0_hw257 : k0_chk257 i v0), ∀ (k0_h2 : k0_cond2 i v0 = 1#1), ∀ a, (k0_off366 i v0) a + S1.size a ≤ S49152.size a := fun i v0 k0_hw257 k0_h2 => k0_hw257.2.1.2.2.2.2.2.2.2.2.2.2.2.2.2.2.2.2.2.2.2.2.2.2.1 k0_h2
theorem k0_off368_inb : ∀ (i : grid0.Coords) (v0 : BitVec 32) (k0_hw257 : k0_chk257 i v0), ∀ (k0_h2 : k0_cond2 i v0 = 1#1), ∀ a, (k0_off368 i v0) a + S1.size a ≤ S49152.size a := fun i v0 k0_hw257 k0_h2 => k0_hw257.2.1.2.2.2.2.2.2.2.2.2.2.2.2.2.2.2.2.2.2.2.2.2.2.2.1 k0_h2
theorem k0_off370_inb : ∀ (i : grid0.Coords) (v0 : BitVec 32) (k0_hw257 : k0_chk257 i v0), ∀ (k0_h2 : k0_cond2 i v0 = 1#1), ∀ a, (k0_off370 i v0) a + S1.size a ≤ S49152.size a := fun i v0 k0_hw257 k0_h2 => k0_hw257.2.1.2.2.2.2.2.2.2.2.2.2.2.2.2.2.2.2.2.2.2.2.2.2.2.2.1 k0_h2
theorem k0_off372_inb : ∀ (i : grid0.Coords) (v0 : BitVec 32) (k0_hw257 : k0_chk257 i v0), ∀ (k0_h2 : k0_cond2 i v0 = 1#1), ∀ a, (k0_off372 i v0) a + S1.size a ≤ S49152.size a := fun i v0 k0_hw257 k0_h2 => k0_hw257.2.1.2.2.2.2.2.2.2.2.2.2.2.2.2.2.2.2.2.2.2.2.2.2.2.2.2.1 k0_h2
theorem k0_off374_inb : ∀ (i : grid0.Coords) (v0 : BitVec 32) (k0_hw257 : k0_chk257 i v0), ∀ (k0_h2 : k0_cond2 i v0 = 1#1), ∀ a, (k0_off374 i v0) a + S1.size a ≤ S49152.size a := fun i v0 k0_hw257 k0_h2 => k0_hw257.2.1.2.2.2.2.2.2.2.2.2.2.2.2.2.2.2.2.2.2.2.2.2.2.2.2.2.2.1 k0_h2
theorem k0_off376_inb : ∀ (i : grid0.Coords) (v0 : BitVec 32) (k0_hw257 : k0_chk257 i v0), ∀ (k0_h2 : k0_cond2 i v0 = 1#1), ∀ a, (k0_off376 i v0) a + S1.size a ≤ S49152.size a := fun i v0 k0_hw257 k0_h2 => k0_hw257.2.1.2.2.2.2.2.2.2.2.2.2.2.2.2.2.2.2.2.2.2.2.2.2.2.2.2.2.2.1 k0_h2
theorem k0_off378_inb : ∀ (i : grid0.Coords) (v0 : BitVec 32) (k0_hw257 : k0_chk257 i v0), ∀ (k0_h2 : k0_cond2 i v0 = 1#1), ∀ a, (k0_off378 i v0) a + S1.size a ≤ S49152.size a := fun i v0 k0_hw257 k0_h2 => k0_hw257.2.1.2.2.2.2.2.2.2.2.2.2.2.2.2.2.2.2.2.2.2.2.2.2.2.2.2.2.2.2.1 k0_h2
theorem k0_off380_inb : ∀ (i : grid0.Coords) (v0 : BitVec 32) (k0_hw257 : k0_chk257 i v0), ∀ (k0_h2 : k0_cond2 i v0 = 1#1), ∀ a, (k0_off380 i v0) a + S1.size a ≤ S49152.size a := fun i v0 k0_hw257 k0_h2 => k0_hw257.2.1.2.2.2.2.2.2.2.2.2.2.2.2.2.2.2.2.2.2.2.2.2.2.2.2.2.2.2.2.2.1 k0_h2
theorem k0_off382_inb : ∀ (i : grid0.Coords) (v0 : BitVec 32) (k0_hw257 : k0_chk257 i v0), ∀ (k0_h2 : k0_cond2 i v0 = 1#1), ∀ a, (k0_off382 i v0) a + S1.size a ≤ S49152.size a := fun i v0 k0_hw257 k0_h2 => k0_hw257.2.1.2.2.2.2.2.2.2.2.2.2.2.2.2.2.2.2.2.2.2.2.2.2.2.2.2.2.2.2.2.2.1 k0_h2
theorem k0_off384_inb : ∀ (i : grid0.Coords) (v0 : BitVec 32) (k0_hw257 : k0_chk257 i v0), ∀ (k0_h2 : k0_cond2 i v0 = 1#1), ∀ a, (k0_off384 i v0) a + S1.size a ≤ S49152.size a := fun i v0 k0_hw257 k0_h2 => k0_hw257.2.1.2.2.2.2.2.2.2.2.2.2.2.2.2.2.2.2.2.2.2.2.2.2.2.2.2.2.2.2.2.2.2 k0_h2
theorem k0_off386_inb : ∀ (i : grid0.Coords) (v0 : BitVec 32) (k0_hw257 : k0_chk257 i v0), ∀ (k0_h2 : k0_cond2 i v0 = 1#1), ∀ a, (k0_off386 i v0) a + S1.size a ≤ S49152.size a := fun i v0 k0_hw257 k0_h2 => k0_hw257.2.2.1.1 k0_h2
theorem k0_off388_inb : ∀ (i : grid0.Coords) (v0 : BitVec 32) (k0_hw257 : k0_chk257 i v0), ∀ (k0_h2 : k0_cond2 i v0 = 1#1), ∀ a, (k0_off388 i v0) a + S1.size a ≤ S49152.size a := fun i v0 k0_hw257 k0_h2 => k0_hw257.2.2.1.2.1 k0_h2
theorem k0_off390_inb : ∀ (i : grid0.Coords) (v0 : BitVec 32) (k0_hw257 : k0_chk257 i v0), ∀ (k0_h2 : k0_cond2 i v0 = 1#1), ∀ a, (k0_off390 i v0) a + S1.size a ≤ S49152.size a := fun i v0 k0_hw257 k0_h2 => k0_hw257.2.2.1.2.2.1 k0_h2
theorem k0_off392_inb : ∀ (i : grid0.Coords) (v0 : BitVec 32) (k0_hw257 : k0_chk257 i v0), ∀ (k0_h2 : k0_cond2 i v0 = 1#1), ∀ a, (k0_off392 i v0) a + S1.size a ≤ S49152.size a := fun i v0 k0_hw257 k0_h2 => k0_hw257.2.2.1.2.2.2.1 k0_h2
theorem k0_off394_inb : ∀ (i : grid0.Coords) (v0 : BitVec 32) (k0_hw257 : k0_chk257 i v0), ∀ (k0_h2 : k0_cond2 i v0 = 1#1), ∀ a, (k0_off394 i v0) a + S1.size a ≤ S49152.size a := fun i v0 k0_hw257 k0_h2 => k0_hw257.2.2.1.2.2.2.2.1 k0_h2
theorem k0_off396_inb : ∀ (i : grid0.Coords) (v0 : BitVec 32) (k0_hw257 : k0_chk257 i v0), ∀ (k0_h2 : k0_cond2 i v0 = 1#1), ∀ a, (k0_off396 i v0) a + S1.size a ≤ S49152.size a := fun i v0 k0_hw257 k0_h2 => k0_hw257.2.2.1.2.2.2.2.2.1 k0_h2
theorem k0_off398_inb : ∀ (i : grid0.Coords) (v0 : BitVec 32) (k0_hw257 : k0_chk257 i v0), ∀ (k0_h2 : k0_cond2 i v0 = 1#1), ∀ a, (k0_off398 i v0) a + S1.size a ≤ S49152.size a := fun i v0 k0_hw257 k0_h2 => k0_hw257.2.2.1.2.2.2.2.2.2.1 k0_h2
theorem k0_off400_inb : ∀ (i : grid0.Coords) (v0 : BitVec 32) (k0_hw257 : k0_chk257 i v0), ∀ (k0_h2 : k0_cond2 i v0 = 1#1), ∀ a, (k0_off400 i v0) a + S1.size a ≤ S49152.size a := fun i v0 k0_hw257 k0_h2 => k0_hw257.2.2.1.2.2.2.2.2.2.2.1 k0_h2
theorem k0_off402_inb : ∀ (i : grid0.Coords) (v0 : BitVec 32) (k0_hw257 : k0_chk257 i v0), ∀ (k0_h2 : k0_cond2 i v0 = 1#1), ∀ a, (k0_off402 i v0) a + S1.size a ≤ S49152.size a := fun i v0 k0_hw257 k0_h2 => k0_hw257.2.2.1.2.2.2.2.2.2.2.2.1 k0_h2
theorem k0_off404_inb : ∀ (i : grid0.Coords) (v0 : BitVec 32) (k0_hw257 : k0_chk257 i v0), ∀ (k0_h2 : k0_cond2 i v0 = 1#1), ∀ a, (k0_off404 i v0) a + S1.size a ≤ S49152.size a := fun i v0 k0_hw257 k0_h2 => k0_hw257.2.2.1.2.2.2.2.2.2.2.2.2.1 k0_h2
theorem k0_off406_inb : ∀ (i : grid0.Coords) (v0 : BitVec 32) (k0_hw257 : k0_chk257 i v0), ∀ (k0_h2 : k0_cond2 i v0 = 1#1), ∀ a, (k0_off406 i v0) a + S1.size a ≤ S49152.size a := fun i v0 k0_hw257 k0_h2 => k0_hw257.2.2.1.2.2.2.2.2.2.2.2.2.2.1 k0_h2
theorem k0_off408_inb : ∀ (i : grid0.Coords) (v0 : BitVec 32) (k0_hw257 : k0_chk257 i v0), ∀ (k0_h2 : k0_cond2 i v0 = 1#1), ∀ a, (k0_off408 i v0) a + S1.size a ≤ S49152.size a := fun i v0 k0_hw257 k0_h2 => k0_hw257.2.2.1.2.2.2.2.2.2.2.2.2.2.2.1 k0_h2
theorem k0_off410_inb : ∀ (i : grid0.Coords) (v0 : BitVec 32) (k0_hw257 : k0_chk257 i v0), ∀ (k0_h2 : k0_cond2 i v0 = 1#1), ∀ a, (k0_off410 i v0) a + S1.size a ≤ S49152.size a := fun i v0 k0_hw257 k0_h2 => k0_hw257.2.2.1.2.2.2.2.2.2.2.2.2.2.2.2.1 k0_h2
theorem k0_off412_inb : ∀ (i : grid0.Coords) (v0 : BitVec 32) (k0_hw257 : k0_chk257 i v0), ∀ (k0_h2 : k0_cond2 i v0 = 1#1), ∀ a, (k0_off412 i v0) a + S1.size a ≤ S49152.size a := fun i v0 k0_hw257 k0_h2 => k0_hw257.2.2.1.2.2.2.2.2.2.2.2.2.2.2.2.2.1 k0_h2
theorem k0_off414_inb : ∀ (i : grid0.Coords) (v0 : BitVec 32) (k0_hw257 : k0_chk257 i v0), ∀ (k0_h2 : k0_cond2 i v0 = 1#1), ∀ a, (k0_off414 i v0) a + S1.size a ≤ S49152.size a := fun i v0 k0_hw257 k0_h2 => k0_hw257.2.2.1.2.2.2.2.2.2.2.2.2.2.2.2.2.2.1 k0_h2
theorem k0_off416_inb : ∀ (i : grid0.Coords) (v0 : BitVec 32) (k0_hw257 : k0_chk257 i v0), ∀ (k0_h2 : k0_cond2 i v0 = 1#1), ∀ a, (k0_off416 i v0) a + S1.size a ≤ S49152.size a := fun i v0 k0_hw257 k0_h2 => k0_hw257.2.2.1.2.2.2.2.2.2.2.2.2.2.2.2.2.2.2.1 k0_h2
theorem k0_off418_inb : ∀ (i : grid0.Coords) (v0 : BitVec 32) (k0_hw257 : k0_chk257 i v0), ∀ (k0_h2 : k0_cond2 i v0 = 1#1), ∀ a, (k0_off418 i v0) a + S1.size a ≤ S49152.size a := fun i v0 k0_hw257 k0_h2 => k0_hw257.2.2.1.2.2.2.2.2.2.2.2.2.2.2.2.2.2.2.2.1 k0_h2
theorem k0_off420_inb : ∀ (i : grid0.Coords) (v0 : BitVec 32) (k0_hw257 : k0_chk257 i v0), ∀ (k0_h2 : k0_cond2 i v0 = 1#1), ∀ a, (k0_off420 i v0) a + S1.size a ≤ S49152.size a := fun i v0 k0_hw257 k0_h2 => k0_hw257.2.2.1.2.2.2.2.2.2.2.2.2.2.2.2.2.2.2.2.2.1 k0_h2
theorem k0_off422_inb : ∀ (i : grid0.Coords) (v0 : BitVec 32) (k0_hw257 : k0_chk257 i v0), ∀ (k0_h2 : k0_cond2 i v0 = 1#1), ∀ a, (k0_off422 i v0) a + S1.size a ≤ S49152.size a := fun i v0 k0_hw257 k0_h2 => k0_hw257.2.2.1.2.2.2.2.2.2.2.2.2.2.2.2.2.2.2.2.2.2.1 k0_h2
theorem k0_off424_inb : ∀ (i : grid0.Coords) (v0 : BitVec 32) (k0_hw257 : k0_chk257 i v0), ∀ (k0_h2 : k0_cond2 i v0 = 1#1), ∀ a, (k0_off424 i v0) a + S1.size a ≤ S49152.size a := fun i v0 k0_hw257 k0_h2 => k0_hw257.2.2.1.2.2.2.2.2.2.2.2.2.2.2.2.2.2.2.2.2.2.2.1 k0_h2
theorem k0_off426_inb : ∀ (i : grid0.Coords) (v0 : BitVec 32) (k0_hw257 : k0_chk257 i v0), ∀ (k0_h2 : k0_cond2 i v0 = 1#1), ∀ a, (k0_off426 i v0) a + S1.size a ≤ S49152.size a := fun i v0 k0_hw257 k0_h2 => k0_hw257.2.2.1.2.2.2.2.2.2.2.2.2.2.2.2.2.2.2.2.2.2.2.2.1 k0_h2
theorem k0_off428_inb : ∀ (i : grid0.Coords) (v0 : BitVec 32) (k0_hw257 : k0_chk257 i v0), ∀ (k0_h2 : k0_cond2 i v0 = 1#1), ∀ a, (k0_off428 i v0) a + S1.size a ≤ S49152.size a := fun i v0 k0_hw257 k0_h2 => k0_hw257.2.2.1.2.2.2.2.2.2.2.2.2.2.2.2.2.2.2.2.2.2.2.2.2.1 k0_h2
theorem k0_off430_inb : ∀ (i : grid0.Coords) (v0 : BitVec 32) (k0_hw257 : k0_chk257 i v0), ∀ (k0_h2 : k0_cond2 i v0 = 1#1), ∀ a, (k0_off430 i v0) a + S1.size a ≤ S49152.size a := fun i v0 k0_hw257 k0_h2 => k0_hw257.2.2.1.2.2.2.2.2.2.2.2.2.2.2.2.2.2.2.2.2.2.2.2.2.2.1 k0_h2
theorem k0_off432_inb : ∀ (i : grid0.Coords) (v0 : BitVec 32) (k0_hw257 : k0_chk257 i v0), ∀ (k0_h2 : k0_cond2 i v0 = 1#1), ∀ a, (k0_off432 i v0) a + S1.size a ≤ S49152.size a := fun i v0 k0_hw257 k0_h2 => k0_hw257.2.2.1.2.2.2.2.2.2.2.2.2.2.2.2.2.2.2.2.2.2.2.2.2.2.2.1 k0_h2
theorem k0_off434_inb : ∀ (i : grid0.Coords) (v0 : BitVec 32) (k0_hw257 : k0_chk257 i v0), ∀ (k0_h2 : k0_cond2 i v0 = 1#1), ∀ a, (k0_off434 i v0) a + S1.size a ≤ S49152.size a := fun i v0 k0_hw257 k0_h2 => k0_hw257.2.2.1.2.2.2.2.2.2.2.2.2.2.2.2.2.2.2.2.2.2.2.2.2.2.2.2.1 k0_h2
theorem k0_off436_inb : ∀ (i : grid0.Coords) (v0 : BitVec 32) (k0_hw257 : k0_chk257 i v0), ∀ (k0_h2 : k0_cond2 i v0 = 1#1), ∀ a, (k0_off436 i v0) a + S1.size a ≤ S49152.size a := fun i v0 k0_hw257 k0_h2 => k0_hw257.2.2.1.2.2.2.2.2.2.2.2.2.2.2.2.2.2.2.2.2.2.2.2.2.2.2.2.2.1 k0_h2
theorem k0_off438_inb : ∀ (i : grid0.Coords) (v0 : BitVec 32) (k0_hw257 : k0_chk257 i v0), ∀ (k0_h2 : k0_cond2 i v0 = 1#1), ∀ a, (k0_off438 i v0) a + S1.size a ≤ S49152.size a := fun i v0 k0_hw257 k0_h2 => k0_hw257.2.2.1.2.2.2.2.2.2.2.2.2.2.2.2.2.2.2.2.2.2.2.2.2.2.2.2.2.2.1 k0_h2
theorem k0_off440_inb : ∀ (i : grid0.Coords) (v0 : BitVec 32) (k0_hw257 : k0_chk257 i v0), ∀ (k0_h2 : k0_cond2 i v0 = 1#1), ∀ a, (k0_off440 i v0) a + S1.size a ≤ S49152.size a := fun i v0 k0_hw257 k0_h2 => k0_hw257.2.2.1.2.2.2.2.2.2.2.2.2.2.2.2.2.2.2.2.2.2.2.2.2.2.2.2.2.2.2.1 k0_h2
theorem k0_off442_inb : ∀ (i : grid0.Coords) (v0 : BitVec 32) (k0_hw257 : k0_chk257 i v0), ∀ (k0_h2 : k0_cond2 i v0 = 1#1), ∀ a, (k0_off442 i v0) a + S1.size a ≤ S49152.size a := fun i v0 k0_hw257 k0_h2 => k0_hw257.2.2.1.2.2.2.2.2.2.2.2.2.2.2.2.2.2.2.2.2.2.2.2.2.2.2.2.2.2.2.2.1 k0_h2
theorem k0_off444_inb : ∀ (i : grid0.Coords) (v0 : BitVec 32) (k0_hw257 : k0_chk257 i v0), ∀ (k0_h2 : k0_cond2 i v0 = 1#1), ∀ a, (k0_off444 i v0) a + S1.size a ≤ S49152.size a := fun i v0 k0_hw257 k0_h2 => k0_hw257.2.2.1.2.2.2.2.2.2.2.2.2.2.2.2.2.2.2.2.2.2.2.2.2.2.2.2.2.2.2.2.2.1 k0_h2
theorem k0_off446_inb : ∀ (i : grid0.Coords) (v0 : BitVec 32) (k0_hw257 : k0_chk257 i v0), ∀ (k0_h2 : k0_cond2 i v0 = 1#1), ∀ a, (k0_off446 i v0) a + S1.size a ≤ S49152.size a := fun i v0 k0_hw257 k0_h2 => k0_hw257.2.2.1.2.2.2.2.2.2.2.2.2.2.2.2.2.2.2.2.2.2.2.2.2.2.2.2.2.2.2.2.2.2.1 k0_h2
theorem k0_off448_inb : ∀ (i : grid0.Coords) (v0 : BitVec 32) (k0_hw257 : k0_chk257 i v0), ∀ (k0_h2 : k0_cond2 i v0 = 1#1), ∀ a, (k0_off448 i v0) a + S1.size a ≤ S49152.size a := fun i v0 k0_hw257 k0_h2 => k0_hw257.2.2.1.2.2.2.2.2.2.2.2.2.2.2.2.2.2.2.2.2.2.2.2.2.2.2.2.2.2.2.2.2.2.2 k0_h2
theorem k0_off450_inb : ∀ (i : grid0.Coords) (v0 : BitVec 32) (k0_hw257 : k0_chk257 i v0), ∀ (k0_h2 : k0_cond2 i v0 = 1#1), ∀ a, (k0_off450 i v0) a + S1.size a ≤ S49152.size a := fun i v0 k0_hw257 k0_h2 => k0_hw257.2.2.2.1.1 k0_h2
theorem k0_off452_inb : ∀ (i : grid0.Coords) (v0 : BitVec 32) (k0_hw257 : k0_chk257 i v0), ∀ (k0_h2 : k0_cond2 i v0 = 1#1), ∀ a, (k0_off452 i v0) a + S1.size a ≤ S49152.size a := fun i v0 k0_hw257 k0_h2 => k0_hw257.2.2.2.1.2.1 k0_h2
theorem k0_off454_inb : ∀ (i : grid0.Coords) (v0 : BitVec 32) (k0_hw257 : k0_chk257 i v0), ∀ (k0_h2 : k0_cond2 i v0 = 1#1), ∀ a, (k0_off454 i v0) a + S1.size a ≤ S49152.size a := fun i v0 k0_hw257 k0_h2 => k0_hw257.2.2.2.1.2.2.1 k0_h2
theorem k0_off456_inb : ∀ (i : grid0.Coords) (v0 : BitVec 32) (k0_hw257 : k0_chk257 i v0), ∀ (k0_h2 : k0_cond2 i v0 = 1#1), ∀ a, (k0_off456 i v0) a + S1.size a ≤ S49152.size a := fun i v0 k0_hw257 k0_h2 => k0_hw257.2.2.2.1.2.2.2.1 k0_h2
theorem k0_off458_inb : ∀ (i : grid0.Coords) (v0 : BitVec 32) (k0_hw257 : k0_chk257 i v0), ∀ (k0_h2 : k0_cond2 i v0 = 1#1), ∀ a, (k0_off458 i v0) a + S1.size a ≤ S49152.size a := fun i v0 k0_hw257 k0_h2 => k0_hw257.2.2.2.1.2.2.2.2.1 k0_h2
theorem k0_off460_inb : ∀ (i : grid0.Coords) (v0 : BitVec 32) (k0_hw257 : k0_chk257 i v0), ∀ (k0_h2 : k0_cond2 i v0 = 1#1), ∀ a, (k0_off460 i v0) a + S1.size a ≤ S49152.size a := fun i v0 k0_hw257 k0_h2 => k0_hw257.2.2.2.1.2.2.2.2.2.1 k0_h2
theorem k0_off462_inb : ∀ (i : grid0.Coords) (v0 : BitVec 32) (k0_hw257 : k0_chk257 i v0), ∀ (k0_h2 : k0_cond2 i v0 = 1#1), ∀ a, (k0_off462 i v0) a + S1.size a ≤ S49152.size a := fun i v0 k0_hw257 k0_h2 => k0_hw257.2.2.2.1.2.2.2.2.2.2.1 k0_h2
theorem k0_off464_inb : ∀ (i : grid0.Coords) (v0 : BitVec 32) (k0_hw257 : k0_chk257 i v0), ∀ (k0_h2 : k0_cond2 i v0 = 1#1), ∀ a, (k0_off464 i v0) a + S1.size a ≤ S49152.size a := fun i v0 k0_hw257 k0_h2 => k0_hw257.2.2.2.1.2.2.2.2.2.2.2.1 k0_h2
theorem k0_off466_inb : ∀ (i : grid0.Coords) (v0 : BitVec 32) (k0_hw257 : k0_chk257 i v0), ∀ (k0_h2 : k0_cond2 i v0 = 1#1), ∀ a, (k0_off466 i v0) a + S1.size a ≤ S49152.size a := fun i v0 k0_hw257 k0_h2 => k0_hw257.2.2.2.1.2.2.2.2.2.2.2.2.1 k0_h2
theorem k0_off468_inb : ∀ (i : grid0.Coords) (v0 : BitVec 32) (k0_hw257 : k0_chk257 i v0), ∀ (k0_h2 : k0_cond2 i v0 = 1#1), ∀ a, (k0_off468 i v0) a + S1.size a ≤ S49152.size a := fun i v0 k0_hw257 k0_h2 => k0_hw257.2.2.2.1.2.2.2.2.2.2.2.2.2.1 k0_h2
theorem k0_off470_inb : ∀ (i : grid0.Coords) (v0 : BitVec 32) (k0_hw257 : k0_chk257 i v0), ∀ (k0_h2 : k0_cond2 i v0 = 1#1), ∀ a, (k0_off470 i v0) a + S1.size a ≤ S49152.size a := fun i v0 k0_hw257 k0_h2 => k0_hw257.2.2.2.1.2.2.2.2.2.2.2.2.2.2.1 k0_h2
theorem k0_off472_inb : ∀ (i : grid0.Coords) (v0 : BitVec 32) (k0_hw257 : k0_chk257 i v0), ∀ (k0_h2 : k0_cond2 i v0 = 1#1), ∀ a, (k0_off472 i v0) a + S1.size a ≤ S49152.size a := fun i v0 k0_hw257 k0_h2 => k0_hw257.2.2.2.1.2.2.2.2.2.2.2.2.2.2.2.1 k0_h2
theorem k0_off474_inb : ∀ (i : grid0.Coords) (v0 : BitVec 32) (k0_hw257 : k0_chk257 i v0), ∀ (k0_h2 : k0_cond2 i v0 = 1#1), ∀ a, (k0_off474 i v0) a + S1.size a ≤ S49152.size a := fun i v0 k0_hw257 k0_h2 => k0_hw257.2.2.2.1.2.2.2.2.2.2.2.2.2.2.2.2.1 k0_h2
theorem k0_off476_inb : ∀ (i : grid0.Coords) (v0 : BitVec 32) (k0_hw257 : k0_chk257 i v0), ∀ (k0_h2 : k0_cond2 i v0 = 1#1), ∀ a, (k0_off476 i v0) a + S1.size a ≤ S49152.size a := fun i v0 k0_hw257 k0_h2 => k0_hw257.2.2.2.1.2.2.2.2.2.2.2.2.2.2.2.2.2.1 k0_h2
theorem k0_off478_inb : ∀ (i : grid0.Coords) (v0 : BitVec 32) (k0_hw257 : k0_chk257 i v0), ∀ (k0_h2 : k0_cond2 i v0 = 1#1), ∀ a, (k0_off478 i v0) a + S1.size a ≤ S49152.size a := fun i v0 k0_hw257 k0_h2 => k0_hw257.2.2.2.1.2.2.2.2.2.2.2.2.2.2.2.2.2.2.1 k0_h2
theorem k0_off480_inb : ∀ (i : grid0.Coords) (v0 : BitVec 32) (k0_hw257 : k0_chk257 i v0), ∀ (k0_h2 : k0_cond2 i v0 = 1#1), ∀ a, (k0_off480 i v0) a + S1.size a ≤ S49152.size a := fun i v0 k0_hw257 k0_h2 => k0_hw257.2.2.2.1.2.2.2.2.2.2.2.2.2.2.2.2.2.2.2.1 k0_h2
theorem k0_off482_inb : ∀ (i : grid0.Coords) (v0 : BitVec 32) (k0_hw257 : k0_chk257 i v0), ∀ (k0_h2 : k0_cond2 i v0 = 1#1), ∀ a, (k0_off482 i v0) a + S1.size a ≤ S49152.size a := fun i v0 k0_hw257 k0_h2 => k0_hw257.2.2.2.1.2.2.2.2.2.2.2.2.2.2.2.2.2.2.2.2.1 k0_h2
theorem k0_off484_inb : ∀ (i : grid0.Coords) (v0 : BitVec 32) (k0_hw257 : k0_chk257 i v0), ∀ (k0_h2 : k0_cond2 i v0 = 1#1), ∀ a, (k0_off484 i v0) a + S1.size a ≤ S49152.size a := fun i v0 k0_hw257 k0_h2 => k0_hw257.2.2.2.1.2.2.2.2.2.2.2.2.2.2.2.2.2.2.2.2.2.1 k0_h2
theorem k0_off486_inb : ∀ (i : grid0.Coords) (v0 : BitVec 32) (k0_hw257 : k0_chk257 i v0), ∀ (k0_h2 : k0_cond2 i v0 = 1#1), ∀ a, (k0_off486 i v0) a + S1.size a ≤ S49152.size a := fun i v0 k0_hw257 k0_h2 => k0_hw257.2.2.2.1.2.2.2.2.2.2.2.2.2.2.2.2.2.2.2.2.2.2.1 k0_h2
theorem k0_off488_inb : ∀ (i : grid0.Coords) (v0 : BitVec 32) (k0_hw257 : k0_chk257 i v0), ∀ (k0_h2 : k0_cond2 i v0 = 1#1), ∀ a, (k0_off488 i v0) a + S1.size a ≤ S49152.size a := fun i v0 k0_hw257 k0_h2 => k0_hw257.2.2.2.1.2.2.2.2.2.2.2.2.2.2.2.2.2.2.2.2.2.2.2.1 k0_h2
theorem k0_off490_inb : ∀ (i : grid0.Coords) (v0 : BitVec 32) (k0_hw257 : k0_chk257 i v0), ∀ (k0_h2 : k0_cond2 i v0 = 1#1), ∀ a, (k0_off490 i v0) a + S1.size a ≤ S49152.size a := fun i v0 k0_hw257 k0_h2 => k0_hw257.2.2.2.1.2.2.2.2.2.2.2.2.2.2.2.2.2.2.2.2.2.2.2.2.1 k0_h2
theorem k0_off492_inb : ∀ (i : grid0.Coords) (v0 : BitVec 32) (k0_hw257 : k0_chk257 i v0), ∀ (k0_h2 : k0_cond2 i v0 = 1#1), ∀ a, (k0_off492 i v0) a + S1.size a ≤ S49152.size a := fun i v0 k0_hw257 k0_h2 => k0_hw257.2.2.2.1.2.2.2.2.2.2.2.2.2.2.2.2.2.2.2.2.2.2.2.2.2.1 k0_h2
theorem k0_off494_inb : ∀ (i : grid0.Coords) (v0 : BitVec 32) (k0_hw257 : k0_chk257 i v0), ∀ (k0_h2 : k0_cond2 i v0 = 1#1), ∀ a, (k0_off494 i v0) a + S1.size a ≤ S49152.size a := fun i v0 k0_hw257 k0_h2 => k0_hw257.2.2.2.1.2.2.2.2.2.2.2.2.2.2.2.2.2.2.2.2.2.2.2.2.2.2.1 k0_h2
theorem k0_off496_inb : ∀ (i : grid0.Coords) (v0 : BitVec 32) (k0_hw257 : k0_chk257 i v0), ∀ (k0_h2 : k0_cond2 i v0 = 1#1), ∀ a, (k0_off496 i v0) a + S1.size a ≤ S49152.size a := fun i v0 k0_hw257 k0_h2 => k0_hw257.2.2.2.1.2.2.2.2.2.2.2.2.2.2.2.2.2.2.2.2.2.2.2.2.2.2.2.1 k0_h2
theorem k0_off498_inb : ∀ (i : grid0.Coords) (v0 : BitVec 32) (k0_hw257 : k0_chk257 i v0), ∀ (k0_h2 : k0_cond2 i v0 = 1#1), ∀ a, (k0_off498 i v0) a + S1.size a ≤ S49152.size a := fun i v0 k0_hw257 k0_h2 => k0_hw257.2.2.2.1.2.2.2.2.2.2.2.2.2.2.2.2.2.2.2.2.2.2.2.2.2.2.2.2.1 k0_h2
theorem k0_off500_inb : ∀ (i : grid0.Coords) (v0 : BitVec 32) (k0_hw257 : k0_chk257 i v0), ∀ (k0_h2 : k0_cond2 i v0 = 1#1), ∀ a, (k0_off500 i v0) a + S1.size a ≤ S49152.size a := fun i v0 k0_hw257 k0_h2 => k0_hw257.2.2.2.1.2.2.2.2.2.2.2.2.2.2.2.2.2.2.2.2.2.2.2.2.2.2.2.2.2.1 k0_h2
theorem k0_off502_inb : ∀ (i : grid0.Coords) (v0 : BitVec 32) (k0_hw257 : k0_chk257 i v0), ∀ (k0_h2 : k0_cond2 i v0 = 1#1), ∀ a, (k0_off502 i v0) a + S1.size a ≤ S49152.size a := fun i v0 k0_hw257 k0_h2 => k0_hw257.2.2.2.1.2.2.2.2.2.2.2.2.2.2.2.2.2.2.2.2.2.2.2.2.2.2.2.2.2.2.1 k0_h2
theorem k0_off504_inb : ∀ (i : grid0.Coords) (v0 : BitVec 32) (k0_hw257 : k0_chk257 i v0), ∀ (k0_h2 : k0_cond2 i v0 = 1#1), ∀ a, (k0_off504 i v0) a + S1.size a ≤ S49152.size a := fun i v0 k0_hw257 k0_h2 => k0_hw257.2.2.2.1.2.2.2.2.2.2.2.2.2.2.2.2.2.2.2.2.2.2.2.2.2.2.2.2.2.2.2.1 k0_h2
theorem k0_off506_inb : ∀ (i : grid0.Coords) (v0 : BitVec 32) (k0_hw257 : k0_chk257 i v0), ∀ (k0_h2 : k0_cond2 i v0 = 1#1), ∀ a, (k0_off506 i v0) a + S1.size a ≤ S49152.size a := fun i v0 k0_hw257 k0_h2 => k0_hw257.2.2.2.1.2.2.2.2.2.2.2.2.2.2.2.2.2.2.2.2.2.2.2.2.2.2.2.2.2.2.2.2.1 k0_h2
theorem k0_off508_inb : ∀ (i : grid0.Coords) (v0 : BitVec 32) (k0_hw257 : k0_chk257 i v0), ∀ (k0_h2 : k0_cond2 i v0 = 1#1), ∀ a, (k0_off508 i v0) a + S1.size a ≤ S49152.size a := fun i v0 k0_hw257 k0_h2 => k0_hw257.2.2.2.1.2.2.2.2.2.2.2.2.2.2.2.2.2.2.2.2.2.2.2.2.2.2.2.2.2.2.2.2.2.1 k0_h2
theorem k0_off510_inb : ∀ (i : grid0.Coords) (v0 : BitVec 32) (k0_hw257 : k0_chk257 i v0), ∀ (k0_h2 : k0_cond2 i v0 = 1#1), ∀ a, (k0_off510 i v0) a + S1.size a ≤ S49152.size a := fun i v0 k0_hw257 k0_h2 => k0_hw257.2.2.2.1.2.2.2.2.2.2.2.2.2.2.2.2.2.2.2.2.2.2.2.2.2.2.2.2.2.2.2.2.2.2.1 k0_h2
theorem k0_off512_inb : ∀ (i : grid0.Coords) (v0 : BitVec 32) (k0_hw257 : k0_chk257 i v0), ∀ (k0_h2 : k0_cond2 i v0 = 1#1), ∀ a, (k0_off512 i v0) a + S1.size a ≤ S49152.size a := fun i v0 k0_hw257 k0_h2 => k0_hw257.2.2.2.1.2.2.2.2.2.2.2.2.2.2.2.2.2.2.2.2.2.2.2.2.2.2.2.2.2.2.2.2.2.2.2 k0_h2
theorem k0_off514_inb : ∀ (i : grid0.Coords) (v0 : BitVec 32) (k0_hw257 : k0_chk257 i v0), ∀ (k0_h2 : k0_cond2 i v0 = 1#1), ∀ a, (k0_off514 i v0) a + S1.size a ≤ S49152.size a := fun i v0 k0_hw257 k0_h2 => k0_hw257.2.2.2.2.1.1 k0_h2
theorem k0_off516_inb : ∀ (i : grid0.Coords) (v0 : BitVec 32) (k0_hw257 : k0_chk257 i v0), ∀ (k0_h2 : k0_cond2 i v0 = 1#1), ∀ a, (k0_off516 i v0) a + S1.size a ≤ S49152.size a := fun i v0 k0_hw257 k0_h2 => k0_hw257.2.2.2.2.1.2.1 k0_h2
theorem k0_off518_inb : ∀ (i : grid0.Coords) (v0 : BitVec 32) (k0_hw257 : k0_chk257 i v0), ∀ (k0_h2 : k0_cond2 i v0 = 1#1), ∀ a, (k0_off518 i v0) a + S1.size a ≤ S49152.size a := fun i v0 k0_hw257 k0_h2 => k0_hw257.2.2.2.2.1.2.2.1 k0_h2
theorem k0_off520_inb : ∀ (i : grid0.Coords) (v0 : BitVec 32) (k0_hw257 : k0_chk257 i v0), ∀ (k0_h2 : k0_cond2 i v0 = 1#1), ∀ a, (k0_off520 i v0) a + S1.size a ≤ S49152.size a := fun i v0 k0_hw257 k0_h2 => k0_hw257.2.2.2.2.1.2.2.2.1 k0_h2
theorem k0_off522_inb : ∀ (i : grid0.Coords) (v0 : BitVec 32) (k0_hw257 : k0_chk257 i v0), ∀ (k0_h2 : k0_cond2 i v0 = 1#1), ∀ a, (k0_off522 i v0) a + S1.size a ≤ S49152.size a := fun i v0 k0_hw257 k0_h2 => k0_hw257.2.2.2.2.1.2.2.2.2.1 k0_h2
theorem k0_off524_inb : ∀ (i : grid0.Coords) (v0 : BitVec 32) (k0_hw257 : k0_chk257 i v0), ∀ (k0_h2 : k0_cond2 i v0 = 1#1), ∀ a, (k0_off524 i v0) a + S1.size a ≤ S49152.size a := fun i v0 k0_hw257 k0_h2 => k0_hw257.2.2.2.2.1.2.2.2.2.2.1 k0_h2
theorem k0_off526_inb : ∀ (i : grid0.Coords) (v0 : BitVec 32) (k0_hw257 : k0_chk257 i v0), ∀ (k0_h2 : k0_cond2 i v0 = 1#1), ∀ a, (k0_off526 i v0) a + S1.size a ≤ S49152.size a := fun i v0 k0_hw257 k0_h2 => k0_hw257.2.2.2.2.1.2.2.2.2.2.2.1 k0_h2
theorem k0_off528_inb : ∀ (i : grid0.Coords) (v0 : BitVec 32) (k0_hw257 : k0_chk257 i v0), ∀ (k0_h2 : k0_cond2 i v0 = 1#1), ∀ a, (k0_off528 i v0) a + S1.size a ≤ S49152.size a := fun i v0 k0_hw257 k0_h2 => k0_hw257.2.2.2.2.1.2.2.2.2.2.2.2.1 k0_h2
theorem k0_off530_inb : ∀ (i : grid0.Coords) (v0 : BitVec 32) (k0_hw257 : k0_chk257 i v0), ∀ (k0_h2 : k0_cond2 i v0 = 1#1), ∀ a, (k0_off530 i v0) a + S1.size a ≤ S49152.size a := fun i v0 k0_hw257 k0_h2 => k0_hw257.2.2.2.2.1.2.2.2.2.2.2.2.2.1 k0_h2
theorem k0_off532_inb : ∀ (i : grid0.Coords) (v0 : BitVec 32) (k0_hw257 : k0_chk257 i v0), ∀ (k0_h2 : k0_cond2 i v0 = 1#1), ∀ a, (k0_off532 i v0) a + S1.size a ≤ S49152.size a := fun i v0 k0_hw257 k0_h2 => k0_hw257.2.2.2.2.1.2.2.2.2.2.2.2.2.2.1 k0_h2
theorem k0_off534_inb : ∀ (i : grid0.Coords) (v0 : BitVec 32) (k0_hw257 : k0_chk257 i v0), ∀ (k0_h2 : k0_cond2 i v0 = 1#1), ∀ a, (k0_off534 i v0) a + S1.size a ≤ S49152.size a := fun i v0 k0_hw257 k0_h2 => k0_hw257.2.2.2.2.1.2.2.2.2.2.2.2.2.2.2.1 k0_h2
theorem k0_off536_inb : ∀ (i : grid0.Coords) (v0 : BitVec 32) (k0_hw257 : k0_chk257 i v0), ∀ (k0_h2 : k0_cond2 i v0 = 1#1), ∀ a, (k0_off536 i v0) a + S1.size a ≤ S49152.size a := fun i v0 k0_hw257 k0_h2 => k0_hw257.2.2.2.2.1.2.2.2.2.2.2.2.2.2.2.2.1 k0_h2
theorem k0_off538_inb : ∀ (i : grid0.Coords) (v0 : BitVec 32) (k0_hw257 : k0_chk257 i v0), ∀ (k0_h2 : k0_cond2 i v0 = 1#1), ∀ a, (k0_off538 i v0) a + S1.size a ≤ S49152.size a := fun i v0 k0_hw257 k0_h2 => k0_hw257.2.2.2.2.1.2.2.2.2.2.2.2.2.2.2.2.2.1 k0_h2
theorem k0_off540_inb : ∀ (i : grid0.Coords) (v0 : BitVec 32) (k0_hw257 : k0_chk257 i v0), ∀ (k0_h2 : k0_cond2 i v0 = 1#1), ∀ a, (k0_off540 i v0) a + S1.size a ≤ S49152.size a := fun i v0 k0_hw257 k0_h2 => k0_hw257.2.2.2.2.1.2.2.2.2.2.2.2.2.2.2.2.2.2.1 k0_h2
theorem k0_off542_inb : ∀ (i : grid0.Coords) (v0 : BitVec 32) (k0_hw257 : k0_chk257 i v0), ∀ (k0_h2 : k0_cond2 i v0 = 1#1), ∀ a, (k0_off542 i v0) a + S1.size a ≤ S49152.size a := fun i v0 k0_hw257 k0_h2 => k0_hw257.2.2.2.2.1.2.2.2.2.2.2.2.2.2.2.2.2.2.2.1 k0_h2
theorem k0_off544_inb : ∀ (i : grid0.Coords) (v0 : BitVec 32) (k0_hw257 : k0_chk257 i v0), ∀ (k0_h2 : k0_cond2 i v0 = 1#1), ∀ a, (k0_off544 i v0) a + S1.size a ≤ S49152.size a := fun i v0 k0_hw257 k0_h2 => k0_hw257.2.2.2.2.1.2.2.2.2.2.2.2.2.2.2.2.2.2.2.2.1 k0_h2
theorem k0_off546_inb : ∀ (i : grid0.Coords) (v0 : BitVec 32) (k0_hw257 : k0_chk257 i v0), ∀ (k0_h2 : k0_cond2 i v0 = 1#1), ∀ a, (k0_off546 i v0) a + S1.size a ≤ S49152.size a := fun i v0 k0_hw257 k0_h2 => k0_hw257.2.2.2.2.1.2.2.2.2.2.2.2.2.2.2.2.2.2.2.2.2.1 k0_h2
theorem k0_off548_inb : ∀ (i : grid0.Coords) (v0 : BitVec 32) (k0_hw257 : k0_chk257 i v0), ∀ (k0_h2 : k0_cond2 i v0 = 1#1), ∀ a, (k0_off548 i v0) a + S1.size a ≤ S49152.size a := fun i v0 k0_hw257 k0_h2 => k0_hw257.2.2.2.2.1.2.2.2.2.2.2.2.2.2.2.2.2.2.2.2.2.2.1 k0_h2
theorem k0_off550_inb : ∀ (i : grid0.Coords) (v0 : BitVec 32) (k0_hw257 : k0_chk257 i v0), ∀ (k0_h2 : k0_cond2 i v0 = 1#1), ∀ a, (k0_off550 i v0) a + S1.size a ≤ S49152.size a := fun i v0 k0_hw257 k0_h2 => k0_hw257.2.2.2.2.1.2.2.2.2.2.2.2.2.2.2.2.2.2.2.2.2.2.2.1 k0_h2
theorem k0_off552_inb : ∀ (i : grid0.Coords) (v0 : BitVec 32) (k0_hw257 : k0_chk257 i v0), ∀ (k0_h2 : k0_cond2 i v0 = 1#1), ∀ a, (k0_off552 i v0) a + S1.size a ≤ S49152.size a := fun i v0 k0_hw257 k0_h2 => k0_hw257.2.2.2.2.1.2.2.2.2.2.2.2.2.2.2.2.2.2.2.2.2.2.2.2.1 k0_h2
theorem k0_off554_inb : ∀ (i : grid0.Coords) (v0 : BitVec 32) (k0_hw257 : k0_chk257 i v0), ∀ (k0_h2 : k0_cond2 i v0 = 1#1), ∀ a, (k0_off554 i v0) a + S1.size a ≤ S49152.size a := fun i v0 k0_hw257 k0_h2 => k0_hw257.2.2.2.2.1.2.2.2.2.2.2.2.2.2.2.2.2.2.2.2.2.2.2.2.2.1 k0_h2
theorem k0_off556_inb : ∀ (i : grid0.Coords) (v0 : BitVec 32) (k0_hw257 : k0_chk257 i v0), ∀ (k0_h2 : k0_cond2 i v0 = 1#1), ∀ a, (k0_off556 i v0) a + S1.size a ≤ S49152.size a := fun i v0 k0_hw257 k0_h2 => k0_hw257.2.2.2.2.1.2.2.2.2.2.2.2.2.2.2.2.2.2.2.2.2.2.2.2.2.2.1 k0_h2
theorem k0_off558_inb : ∀ (i : grid0.Coords) (v0 : BitVec 32) (k0_hw257 : k0_chk257 i v0), ∀ (k0_h2 : k0_cond2 i v0 = 1#1), ∀ a, (k0_off558 i v0) a + S1.size a ≤ S49152.size a := fun i v0 k0_hw257 k0_h2 => k0_hw257.2.2.2.2.1.2.2.2.2.2.2.2.2.2.2.2.2.2.2.2.2.2.2.2.2.2.2.1 k0_h2
theorem k0_off560_inb : ∀ (i : grid0.Coords) (v0 : BitVec 32) (k0_hw257 : k0_chk257 i v0), ∀ (k0_h2 : k0_cond2 i v0 = 1#1), ∀ a, (k0_off560 i v0) a + S1.size a ≤ S49152.size a := fun i v0 k0_hw257 k0_h2 => k0_hw257.2.2.2.2.1.2.2.2.2.2.2.2.2.2.2.2.2.2.2.2.2.2.2.2.2.2.2.2.1 k0_h2
theorem k0_off562_inb : ∀ (i : grid0.Coords) (v0 : BitVec 32) (k0_hw257 : k0_chk257 i v0), ∀ (k0_h2 : k0_cond2 i v0 = 1#1), ∀ a, (k0_off562 i v0) a + S1.size a ≤ S49152.size a := fun i v0 k0_hw257 k0_h2 => k0_hw257.2.2.2.2.1.2.2.2.2.2.2.2.2.2.2.2.2.2.2.2.2.2.2.2.2.2.2.2.2.1 k0_h2
theorem k0_off564_inb : ∀ (i : grid0.Coords) (v0 : BitVec 32) (k0_hw257 : k0_chk257 i v0), ∀ (k0_h2 : k0_cond2 i v0 = 1#1), ∀ a, (k0_off564 i v0) a + S1.size a ≤ S49152.size a := fun i v0 k0_hw257 k0_h2 => k0_hw257.2.2.2.2.1.2.2.2.2.2.2.2.2.2.2.2.2.2.2.2.2.2.2.2.2.2.2.2.2.2.1 k0_h2
theorem k0_off566_inb : ∀ (i : grid0.Coords) (v0 : BitVec 32) (k0_hw257 : k0_chk257 i v0), ∀ (k0_h2 : k0_cond2 i v0 = 1#1), ∀ a, (k0_off566 i v0) a + S1.size a ≤ S49152.size a := fun i v0 k0_hw257 k0_h2 => k0_hw257.2.2.2.2.1.2.2.2.2.2.2.2.2.2.2.2.2.2.2.2.2.2.2.2.2.2.2.2.2.2.2.1 k0_h2
theorem k0_off568_inb : ∀ (i : grid0.Coords) (v0 : BitVec 32) (k0_hw257 : k0_chk257 i v0), ∀ (k0_h2 : k0_cond2 i v0 = 1#1), ∀ a, (k0_off568 i v0) a + S1.size a ≤ S49152.size a := fun i v0 k0_hw257 k0_h2 => k0_hw257.2.2.2.2.1.2.2.2.2.2.2.2.2.2.2.2.2.2.2.2.2.2.2.2.2.2.2.2.2.2.2.2.1 k0_h2
theorem k0_off570_inb : ∀ (i : grid0.Coords) (v0 : BitVec 32) (k0_hw257 : k0_chk257 i v0), ∀ (k0_h2 : k0_cond2 i v0 = 1#1), ∀ a, (k0_off570 i v0) a + S1.size a ≤ S49152.size a := fun i v0 k0_hw257 k0_h2 => k0_hw257.2.2.2.2.1.2.2.2.2.2.2.2.2.2.2.2.2.2.2.2.2.2.2.2.2.2.2.2.2.2.2.2.2.1 k0_h2
theorem k0_off572_inb : ∀ (i : grid0.Coords) (v0 : BitVec 32) (k0_hw257 : k0_chk257 i v0), ∀ (k0_h2 : k0_cond2 i v0 = 1#1), ∀ a, (k0_off572 i v0) a + S1.size a ≤ S49152.size a := fun i v0 k0_hw257 k0_h2 => k0_hw257.2.2.2.2.1.2.2.2.2.2.2.2.2.2.2.2.2.2.2.2.2.2.2.2.2.2.2.2.2.2.2.2.2.2.1 k0_h2
theorem k0_off574_inb : ∀ (i : grid0.Coords) (v0 : BitVec 32) (k0_hw257 : k0_chk257 i v0), ∀ (k0_h2 : k0_cond2 i v0 = 1#1), ∀ a, (k0_off574 i v0) a + S1.size a ≤ S49152.size a := fun i v0 k0_hw257 k0_h2 => k0_hw257.2.2.2.2.1.2.2.2.2.2.2.2.2.2.2.2.2.2.2.2.2.2.2.2.2.2.2.2.2.2.2.2.2.2.2.1 k0_h2
theorem k0_off576_inb : ∀ (i : grid0.Coords) (v0 : BitVec 32) (k0_hw257 : k0_chk257 i v0), ∀ (k0_h2 : k0_cond2 i v0 = 1#1), ∀ a, (k0_off576 i v0) a + S1.size a ≤ S49152.size a := fun i v0 k0_hw257 k0_h2 => k0_hw257.2.2.2.2.1.2.2.2.2.2.2.2.2.2.2.2.2.2.2.2.2.2.2.2.2.2.2.2.2.2.2.2.2.2.2.2 k0_h2
theorem k0_off578_inb : ∀ (i : grid0.Coords) (v0 : BitVec 32) (k0_hw257 : k0_chk257 i v0), ∀ (k0_h2 : k0_cond2 i v0 = 1#1), ∀ a, (k0_off578 i v0) a + S1.size a ≤ S49152.size a := fun i v0 k0_hw257 k0_h2 => k0_hw257.2.2.2.2.2.1.1 k0_h2
theorem k0_off580_inb : ∀ (i : grid0.Coords) (v0 : BitVec 32) (k0_hw257 : k0_chk257 i v0), ∀ (k0_h2 : k0_cond2 i v0 = 1#1), ∀ a, (k0_off580 i v0) a + S1.size a ≤ S49152.size a := fun i v0 k0_hw257 k0_h2 => k0_hw257.2.2.2.2.2.1.2.1 k0_h2
theorem k0_off582_inb : ∀ (i : grid0.Coords) (v0 : BitVec 32) (k0_hw257 : k0_chk257 i v0), ∀ (k0_h2 : k0_cond2 i v0 = 1#1), ∀ a, (k0_off582 i v0) a + S1.size a ≤ S49152.size a := fun i v0 k0_hw257 k0_h2 => k0_hw257.2.2.2.2.2.1.2.2.1 k0_h2
theorem k0_off584_inb : ∀ (i : grid0.Coords) (v0 : BitVec 32) (k0_hw257 : k0_chk257 i v0), ∀ (k0_h2 : k0_cond2 i v0 = 1#1), ∀ a, (k0_off584 i v0) a + S1.size a ≤ S49152.size a := fun i v0 k0_hw257 k0_h2 => k0_hw257.2.2.2.2.2.1.2.2.2.1 k0_h2
theorem k0_off586_inb : ∀ (i : grid0.Coords) (v0 : BitVec 32) (k0_hw257 : k0_chk257 i v0), ∀ (k0_h2 : k0_cond2 i v0 = 1#1), ∀ a, (k0_off586 i v0) a + S1.size a ≤ S49152.size a := fun i v0 k0_hw257 k0_h2 => k0_hw257.2.2.2.2.2.1.2.2.2.2.1 k0_h2
theorem k0_off588_inb : ∀ (i : grid0.Coords) (v0 : BitVec 32) (k0_hw257 : k0_chk257 i v0), ∀ (k0_h2 : k0_cond2 i v0 = 1#1), ∀ a, (k0_off588 i v0) a + S1.size a ≤ S49152.size a := fun i v0 k0_hw257 k0_h2 => k0_hw257.2.2.2.2.2.1.2.2.2.2.2.1 k0_h2
theorem k0_off590_inb : ∀ (i : grid0.Coords) (v0 : BitVec 32) (k0_hw257 : k0_chk257 i v0), ∀ (k0_h2 : k0_cond2 i v0 = 1#1), ∀ a, (k0_off590 i v0) a + S1.size a ≤ S49152.size a := fun i v0 k0_hw257 k0_h2 => k0_hw257.2.2.2.2.2.1.2.2.2.2.2.2.1 k0_h2
theorem k0_off592_inb : ∀ (i : grid0.Coords) (v0 : BitVec 32) (k0_hw257 : k0_chk257 i v0), ∀ (k0_h2 : k0_cond2 i v0 = 1#1), ∀ a, (k0_off592 i v0) a + S1.size a ≤ S49152.size a := fun i v0 k0_hw257 k0_h2 => k0_hw257.2.2.2.2.2.1.2.2.2.2.2.2.2.1 k0_h2
theorem k0_off594_inb : ∀ (i : grid0.Coords) (v0 : BitVec 32) (k0_hw257 : k0_chk257 i v0), ∀ (k0_h2 : k0_cond2 i v0 = 1#1), ∀ a, (k0_off594 i v0) a + S1.size a ≤ S49152.size a := fun i v0 k0_hw257 k0_h2 => k0_hw257.2.2.2.2.2.1.2.2.2.2.2.2.2.2.1 k0_h2
theorem k0_off596_inb : ∀ (i : grid0.Coords) (v0 : BitVec 32) (k0_hw257 : k0_chk257 i v0), ∀ (k0_h2 : k0_cond2 i v0 = 1#1), ∀ a, (k0_off596 i v0) a + S1.size a ≤ S49152.size a := fun i v0 k0_hw257 k0_h2 => k0_hw257.2.2.2.2.2.1.2.2.2.2.2.2.2.2.2.1 k0_h2
theorem k0_off598_inb : ∀ (i : grid0.Coords) (v0 : BitVec 32) (k0_hw257 : k0_chk257 i v0), ∀ (k0_h2 : k0_cond2 i v0 = 1#1), ∀ a, (k0_off598 i v0) a + S1.size a ≤ S49152.size a := fun i v0 k0_hw257 k0_h2 => k0_hw257.2.2.2.2.2.1.2.2.2.2.2.2.2.2.2.2.1 k0_h2
theorem k0_off600_inb : ∀ (i : grid0.Coords) (v0 : BitVec 32) (k0_hw257 : k0_chk257 i v0), ∀ (k0_h2 : k0_cond2 i v0 = 1#1), ∀ a, (k0_off600 i v0) a + S1.size a ≤ S49152.size a := fun i v0 k0_hw257 k0_h2 => k0_hw257.2.2.2.2.2.1.2.2.2.2.2.2.2.2.2.2.2.1 k0_h2
theorem k0_off602_inb : ∀ (i : grid0.Coords) (v0 : BitVec 32) (k0_hw257 : k0_chk257 i v0), ∀ (k0_h2 : k0_cond2 i v0 = 1#1), ∀ a, (k0_off602 i v0) a + S1.size a ≤ S49152.size a := fun i v0 k0_hw257 k0_h2 => k0_hw257.2.2.2.2.2.1.2.2.2.2.2.2.2.2.2.2.2.2.1 k0_h2
theorem k0_off604_inb : ∀ (i : grid0.Coords) (v0 : BitVec 32) (k0_hw257 : k0_chk257 i v0), ∀ (k0_h2 : k0_cond2 i v0 = 1#1), ∀ a, (k0_off604 i v0) a + S1.size a ≤ S49152.size a := fun i v0 k0_hw257 k0_h2 => k0_hw257.2.2.2.2.2.1.2.2.2.2.2.2.2.2.2.2.2.2.2.1 k0_h2
theorem k0_off606_inb : ∀ (i : grid0.Coords) (v0 : BitVec 32) (k0_hw257 : k0_chk257 i v0), ∀ (k0_h2 : k0_cond2 i v0 = 1#1), ∀ a, (k0_off606 i v0) a + S1.size a ≤ S49152.size a := fun i v0 k0_hw257 k0_h2 => k0_hw257.2.2.2.2.2.1.2.2.2.2.2.2.2.2.2.2.2.2.2.2.1 k0_h2
theorem k0_off608_inb : ∀ (i : grid0.Coords) (v0 : BitVec 32) (k0_hw257 : k0_chk257 i v0), ∀ (k0_h2 : k0_cond2 i v0 = 1#1), ∀ a, (k0_off608 i v0) a + S1.size a ≤ S49152.size a := fun i v0 k0_hw257 k0_h2 => k0_hw257.2.2.2.2.2.1.2.2.2.2.2.2.2.2.2.2.2.2.2.2.2.1 k0_h2
theorem k0_off610_inb : ∀ (i : grid0.Coords) (v0 : BitVec 32) (k0_hw257 : k0_chk257 i v0), ∀ (k0_h2 : k0_cond2 i v0 = 1#1), ∀ a, (k0_off610 i v0) a + S1.size a ≤ S49152.size a := fun i v0 k0_hw257 k0_h2 => k0_hw257.2.2.2.2.2.1.2.2.2.2.2.2.2.2.2.2.2.2.2.2.2.2.1 k0_h2
theorem k0_off612_inb : ∀ (i : grid0.Coords) (v0 : BitVec 32) (k0_hw257 : k0_chk257 i v0), ∀ (k0_h2 : k0_cond2 i v0 = 1#1), ∀ a, (k0_off612 i v0) a + S1.size a ≤ S49152.size a := fun i v0 k0_hw257 k0_h2 => k0_hw257.2.2.2.2.2.1.2.2.2.2.2.2.2.2.2.2.2.2.2.2.2.2.2.1 k0_h2
theorem k0_off614_inb : ∀ (i : grid0.Coords) (v0 : BitVec 32) (k0_hw257 : k0_chk257 i v0), ∀ (k0_h2 : k0_cond2 i v0 = 1#1), ∀ a, (k0_off614 i v0) a + S1.size a ≤ S49152.size a := fun i v0 k0_hw257 k0_h2 => k0_hw257.2.2.2.2.2.1.2.2.2.2.2.2.2.2.2.2.2.2.2.2.2.2.2.2.1 k0_h2
theorem k0_off616_inb : ∀ (i : grid0.Coords) (v0 : BitVec 32) (k0_hw257 : k0_chk257 i v0), ∀ (k0_h2 : k0_cond2 i v0 = 1#1), ∀ a, (k0_off616 i v0) a + S1.size a ≤ S49152.size a := fun i v0 k0_hw257 k0_h2 => k0_hw257.2.2.2.2.2.1.2.2.2.2.2.2.2.2.2.2.2.2.2.2.2.2.2.2.2.1 k0_h2
theorem k0_off618_inb : ∀ (i : grid0.Coords) (v0 : BitVec 32) (k0_hw257 : k0_chk257 i v0), ∀ (k0_h2 : k0_cond2 i v0 = 1#1), ∀ a, (k0_off618 i v0) a + S1.size a ≤ S49152.size a := fun i v0 k0_hw257 k0_h2 => k0_hw257.2.2.2.2.2.1.2.2.2.2.2.2.2.2.2.2.2.2.2.2.2.2.2.2.2.2.1 k0_h2
theorem k0_off620_inb : ∀ (i : grid0.Coords) (v0 : BitVec 32) (k0_hw257 : k0_chk257 i v0), ∀ (k0_h2 : k0_cond2 i v0 = 1#1), ∀ a, (k0_off620 i v0) a + S1.size a ≤ S49152.size a := fun i v0 k0_hw257 k0_h2 => k0_hw257.2.2.2.2.2.1.2.2.2.2.2.2.2.2.2.2.2.2.2.2.2.2.2.2.2.2.2.1 k0_h2
theorem k0_off622_inb : ∀ (i : grid0.Coords) (v0 : BitVec 32) (k0_hw257 : k0_chk257 i v0), ∀ (k0_h2 : k0_cond2 i v0 = 1#1), ∀ a, (k0_off622 i v0) a + S1.size a ≤ S49152.size a := fun i v0 k0_hw257 k0_h2 => k0_hw257.2.2.2.2.2.1.2.2.2.2.2.2.2.2.2.2.2.2.2.2.2.2.2.2.2.2.2.2.1 k0_h2
theorem k0_off624_inb : ∀ (i : grid0.Coords) (v0 : BitVec 32) (k0_hw257 : k0_chk257 i v0), ∀ (k0_h2 : k0_cond2 i v0 = 1#1), ∀ a, (k0_off624 i v0) a + S1.size a ≤ S49152.size a := fun i v0 k0_hw257 k0_h2 => k0_hw257.2.2.2.2.2.1.2.2.2.2.2.2.2.2.2.2.2.2.2.2.2.2.2.2.2.2.2.2.2.1 k0_h2
theorem k0_off626_inb : ∀ (i : grid0.Coords) (v0 : BitVec 32) (k0_hw257 : k0_chk257 i v0), ∀ (k0_h2 : k0_cond2 i v0 = 1#1), ∀ a, (k0_off626 i v0) a + S1.size a ≤ S49152.size a := fun i v0 k0_hw257 k0_h2 => k0_hw257.2.2.2.2.2.1.2.2.2.2.2.2.2.2.2.2.2.2.2.2.2.2.2.2.2.2.2.2.2.2.1 k0_h2
theorem k0_off628_inb : ∀ (i : grid0.Coords) (v0 : BitVec 32) (k0_hw257 : k0_chk257 i v0), ∀ (k0_h2 : k0_cond2 i v0 = 1#1), ∀ a, (k0_off628 i v0) a + S1.size a ≤ S49152.size a := fun i v0 k0_hw257 k0_h2 => k0_hw257.2.2.2.2.2.1.2.2.2.2.2.2.2.2.2.2.2.2.2.2.2.2.2.2.2.2.2.2.2.2.2.1 k0_h2
theorem k0_off630_inb : ∀ (i : grid0.Coords) (v0 : BitVec 32) (k0_hw257 : k0_chk257 i v0), ∀ (k0_h2 : k0_cond2 i v0 = 1#1), ∀ a, (k0_off630 i v0) a + S1.size a ≤ S49152.size a := fun i v0 k0_hw257 k0_h2 => k0_hw257.2.2.2.2.2.1.2.2.2.2.2.2.2.2.2.2.2.2.2.2.2.2.2.2.2.2.2.2.2.2.2.2.1 k0_h2
theorem k0_off632_inb : ∀ (i : grid0.Coords) (v0 : BitVec 32) (k0_hw257 : k0_chk257 i v0), ∀ (k0_h2 : k0_cond2 i v0 = 1#1), ∀ a, (k0_off632 i v0) a + S1.size a ≤ S49152.size a := fun i v0 k0_hw257 k0_h2 => k0_hw257.2.2.2.2.2.1.2.2.2.2.2.2.2.2.2.2.2.2.2.2.2.2.2.2.2.2.2.2.2.2.2.2.2.1 k0_h2
theorem k0_off634_inb : ∀ (i : grid0.Coords) (v0 : BitVec 32) (k0_hw257 : k0_chk257 i v0), ∀ (k0_h2 : k0_cond2 i v0 = 1#1), ∀ a, (k0_off634 i v0) a + S1.size a ≤ S49152.size a := fun i v0 k0_hw257 k0_h2 => k0_hw257.2.2.2.2.2.1.2.2.2.2.2.2.2.2.2.2.2.2.2.2.2.2.2.2.2.2.2.2.2.2.2.2.2.2.1 k0_h2
theorem k0_off636_inb : ∀ (i : grid0.Coords) (v0 : BitVec 32) (k0_hw257 : k0_chk257 i v0), ∀ (k0_h2 : k0_cond2 i v0 = 1#1), ∀ a, (k0_off636 i v0) a + S1.size a ≤ S49152.size a := fun i v0 k0_hw257 k0_h2 => k0_hw257.2.2.2.2.2.1.2.2.2.2.2.2.2.2.2.2.2.2.2.2.2.2.2.2.2.2.2.2.2.2.2.2.2.2.2.1 k0_h2
theorem k0_off638_inb : ∀ (i : grid0.Coords) (v0 : BitVec 32) (k0_hw257 : k0_chk257 i v0), ∀ (k0_h2 : k0_cond2 i v0 = 1#1), ∀ a, (k0_off638 i v0) a + S1.size a ≤ S49152.size a := fun i v0 k0_hw257 k0_h2 => k0_hw257.2.2.2.2.2.1.2.2.2.2.2.2.2.2.2.2.2.2.2.2.2.2.2.2.2.2.2.2.2.2.2.2.2.2.2.2.1 k0_h2
theorem k0_off640_inb : ∀ (i : grid0.Coords) (v0 : BitVec 32) (k0_hw257 : k0_chk257 i v0), ∀ (k0_h2 : k0_cond2 i v0 = 1#1), ∀ a, (k0_off640 i v0) a + S1.size a ≤ S49152.size a := fun i v0 k0_hw257 k0_h2 => k0_hw257.2.2.2.2.2.1.2.2.2.2.2.2.2.2.2.2.2.2.2.2.2.2.2.2.2.2.2.2.2.2.2.2.2.2.2.2.2 k0_h2
theorem k0_off642_inb : ∀ (i : grid0.Coords) (v0 : BitVec 32) (k0_hw257 : k0_chk257 i v0), ∀ (k0_h2 : k0_cond2 i v0 = 1#1), ∀ a, (k0_off642 i v0) a + S1.size a ≤ S49152.size a := fun i v0 k0_hw257 k0_h2 => k0_hw257.2.2.2.2.2.2.1.1 k0_h2
theorem k0_off644_inb : ∀ (i : grid0.Coords) (v0 : BitVec 32) (k0_hw257 : k0_chk257 i v0), ∀ (k0_h2 : k0_cond2 i v0 = 1#1), ∀ a, (k0_off644 i v0) a + S1.size a ≤ S49152.size a := fun i v0 k0_hw257 k0_h2 => k0_hw257.2.2.2.2.2.2.1.2.1 k0_h2
theorem k0_off646_inb : ∀ (i : grid0.Coords) (v0 : BitVec 32) (k0_hw257 : k0_chk257 i v0), ∀ (k0_h2 : k0_cond2 i v0 = 1#1), ∀ a, (k0_off646 i v0) a + S1.size a ≤ S49152.size a := fun i v0 k0_hw257 k0_h2 => k0_hw257.2.2.2.2.2.2.1.2.2.1 k0_h2
theorem k0_off648_inb : ∀ (i : grid0.Coords) (v0 : BitVec 32) (k0_hw257 : k0_chk257 i v0), ∀ (k0_h2 : k0_cond2 i v0 = 1#1), ∀ a, (k0_off648 i v0) a + S1.size a ≤ S49152.size a := fun i v0 k0_hw257 k0_h2 => k0_hw257.2.2.2.2.2.2.1.2.2.2.1 k0_h2
theorem k0_off650_inb : ∀ (i : grid0.Coords) (v0 : BitVec 32) (k0_hw257 : k0_chk257 i v0), ∀ (k0_h2 : k0_cond2 i v0 = 1#1), ∀ a, (k0_off650 i v0) a + S1.size a ≤ S49152.size a := fun i v0 k0_hw257 k0_h2 => k0_hw257.2.2.2.2.2.2.1.2.2.2.2.1 k0_h2
theorem k0_off652_inb : ∀ (i : grid0.Coords) (v0 : BitVec 32) (k0_hw257 : k0_chk257 i v0), ∀ (k0_h2 : k0_cond2 i v0 = 1#1), ∀ a, (k0_off652 i v0) a + S1.size a ≤ S49152.size a := fun i v0 k0_hw257 k0_h2 => k0_hw257.2.2.2.2.2.2.1.2.2.2.2.2.1 k0_h2
theorem k0_off654_inb : ∀ (i : grid0.Coords) (v0 : BitVec 32) (k0_hw257 : k0_chk257 i v0), ∀ (k0_h2 : k0_cond2 i v0 = 1#1), ∀ a, (k0_off654 i v0) a + S1.size a ≤ S49152.size a := fun i v0 k0_hw257 k0_h2 => k0_hw257.2.2.2.2.2.2.1.2.2.2.2.2.2.1 k0_h2
theorem k0_off656_inb : ∀ (i : grid0.Coords) (v0 : BitVec 32) (k0_hw257 : k0_chk257 i v0), ∀ (k0_h2 : k0_cond2 i v0 = 1#1), ∀ a, (k0_off656 i v0) a + S1.size a ≤ S49152.size a := fun i v0 k0_hw257 k0_h2 => k0_hw257.2.2.2.2.2.2.1.2.2.2.2.2.2.2.1 k0_h2
theorem k0_off658_inb : ∀ (i : grid0.Coords) (v0 : BitVec 32) (k0_hw257 : k0_chk257 i v0), ∀ (k0_h2 : k0_cond2 i v0 = 1#1), ∀ a, (k0_off658 i v0) a + S1.size a ≤ S49152.size a := fun i v0 k0_hw257 k0_h2 => k0_hw257.2.2.2.2.2.2.1.2.2.2.2.2.2.2.2.1 k0_h2
theorem k0_off660_inb : ∀ (i : grid0.Coords) (v0 : BitVec 32) (k0_hw257 : k0_chk257 i v0), ∀ (k0_h2 : k0_cond2 i v0 = 1#1), ∀ a, (k0_off660 i v0) a + S1.size a ≤ S49152.size a := fun i v0 k0_hw257 k0_h2 => k0_hw257.2.2.2.2.2.2.1.2.2.2.2.2.2.2.2.2.1 k0_h2
theorem k0_off662_inb : ∀ (i : grid0.Coords) (v0 : BitVec 32) (k0_hw257 : k0_chk257 i v0), ∀ (k0_h2 : k0_cond2 i v0 = 1#1), ∀ a, (k0_off662 i v0) a + S1.size a ≤ S49152.size a := fun i v0 k0_hw257 k0_h2 => k0_hw257.2.2.2.2.2.2.1.2.2.2.2.2.2.2.2.2.2.1 k0_h2
theorem k0_off664_inb : ∀ (i : grid0.Coords) (v0 : BitVec 32) (k0_hw257 : k0_chk257 i v0), ∀ (k0_h2 : k0_cond2 i v0 = 1#1), ∀ a, (k0_off664 i v0) a + S1.size a ≤ S49152.size a := fun i v0 k0_hw257 k0_h2 => k0_hw257.2.2.2.2.2.2.1.2.2.2.2.2.2.2.2.2.2.2.1 k0_h2
theorem k0_off666_inb : ∀ (i : grid0.Coords) (v0 : BitVec 32) (k0_hw257 : k0_chk257 i v0), ∀ (k0_h2 : k0_cond2 i v0 = 1#1), ∀ a, (k0_off666 i v0) a + S1.size a ≤ S49152.size a := fun i v0 k0_hw257 k0_h2 => k0_hw257.2.2.2.2.2.2.1.2.2.2.2.2.2.2.2.2.2.2.2.1 k0_h2
theorem k0_off668_inb : ∀ (i : grid0.Coords) (v0 : BitVec 32) (k0_hw257 : k0_chk257 i v0), ∀ (k0_h2 : k0_cond2 i v0 = 1#1), ∀ a, (k0_off668 i v0) a + S1.size a ≤ S49152.size a := fun i v0 k0_hw257 k0_h2 => k0_hw257.2.2.2.2.2.2.1.2.2.2.2.2.2.2.2.2.2.2.2.2.1 k0_h2
theorem k0_off670_inb : ∀ (i : grid0.Coords) (v0 : BitVec 32) (k0_hw257 : k0_chk257 i v0), ∀ (k0_h2 : k0_cond2 i v0 = 1#1), ∀ a, (k0_off670 i v0) a + S1.size a ≤ S49152.size a := fun i v0 k0_hw257 k0_h2 => k0_hw257.2.2.2.2.2.2.1.2.2.2.2.2.2.2.2.2.2.2.2.2.2.1 k0_h2
theorem k0_off672_inb : ∀ (i : grid0.Coords) (v0 : BitVec 32) (k0_hw257 : k0_chk257 i v0), ∀ (k0_h2 : k0_cond2 i v0 = 1#1), ∀ a, (k0_off672 i v0) a + S1.size a ≤ S49152.size a := fun i v0 k0_hw257 k0_h2 => k0_hw257.2.2.2.2.2.2.1.2.2.2.2.2.2.2.2.2.2.2.2.2.2.2.1 k0_h2
theorem k0_off674_inb : ∀ (i : grid0.Coords) (v0 : BitVec 32) (k0_hw257 : k0_chk257 i v0), ∀ (k0_h2 : k0_cond2 i v0 = 1#1), ∀ a, (k0_off674 i v0) a + S1.size a ≤ S49152.size a := fun i v0 k0_hw257 k0_h2 => k0_hw257.2.2.2.2.2.2.1.2.2.2.2.2.2.2.2.2.2.2.2.2.2.2.2.1 k0_h2
theorem k0_off676_inb : ∀ (i : grid0.Coords) (v0 : BitVec 32) (k0_hw257 : k0_chk257 i v0), ∀ (k0_h2 : k0_cond2 i v0 = 1#1), ∀ a, (k0_off676 i v0) a + S1.size a ≤ S49152.size a := fun i v0 k0_hw257 k0_h2 => k0_hw257.2.2.2.2.2.2.1.2.2.2.2.2.2.2.2.2.2.2.2.2.2.2.2.2.1 k0_h2
theorem k0_off678_inb : ∀ (i : grid0.Coords) (v0 : BitVec 32) (k0_hw257 : k0_chk257 i v0), ∀ (k0_h2 : k0_cond2 i v0 = 1#1), ∀ a, (k0_off678 i v0) a + S1.size a ≤ S49152.size a := fun i v0 k0_hw257 k0_h2 => k0_hw257.2.2.2.2.2.2.1.2.2.2.2.2.2.2.2.2.2.2.2.2.2.2.2.2.2.1 k0_h2
theorem k0_off680_inb : ∀ (i : grid0.Coords) (v0 : BitVec 32) (k0_hw257 : k0_chk257 i v0), ∀ (k0_h2 : k0_cond2 i v0 = 1#1), ∀ a, (k0_off680 i v0) a + S1.size a ≤ S49152.size a := fun i v0 k0_hw257 k0_h2 => k0_hw257.2.2.2.2.2.2.1.2.2.2.2.2.2.2.2.2.2.2.2.2.2.2.2.2.2.2.1 k0_h2
theorem k0_off682_inb : ∀ (i : grid0.Coords) (v0 : BitVec 32) (k0_hw257 : k0_chk257 i v0), ∀ (k0_h2 : k0_cond2 i v0 = 1#1), ∀ a, (k0_off682 i v0) a + S1.size a ≤ S49152.size a := fun i v0 k0_hw257 k0_h2 => k0_hw257.2.2.2.2.2.2.1.2.2.2.2.2.2.2.2.2.2.2.2.2.2.2.2.2.2.2.2.1 k0_h2
theorem k0_off684_inb : ∀ (i : grid0.Coords) (v0 : BitVec 32) (k0_hw257 : k0_chk257 i v0), ∀ (k0_h2 : k0_cond2 i v0 = 1#1), ∀ a, (k0_off684 i v0) a + S1.size a ≤ S49152.size a := fun i v0 k0_hw257 k0_h2 => k0_hw257.2.2.2.2.2.2.1.2.2.2.2.2.2.2.2.2.2.2.2.2.2.2.2.2.2.2.2.2.1 k0_h2
theorem k0_off686_inb : ∀ (i : grid0.Coords) (v0 : BitVec 32) (k0_hw257 : k0_chk257 i v0), ∀ (k0_h2 : k0_cond2 i v0 = 1#1), ∀ a, (k0_off686 i v0) a + S1.size a ≤ S49152.size a := fun i v0 k0_hw257 k0_h2 => k0_hw257.2.2.2.2.2.2.1.2.2.2.2.2.2.2.2.2.2.2.2.2.2.2.2.2.2.2.2.2.2.1 k0_h2
theorem k0_off688_inb : ∀ (i : grid0.Coords) (v0 : BitVec 32) (k0_hw257 : k0_chk257 i v0), ∀ (k0_h2 : k0_cond2 i v0 = 1#1), ∀ a, (k0_off688 i v0) a + S1.size a ≤ S49152.size a := fun i v0 k0_hw257 k0_h2 => k0_hw257.2.2.2.2.2.2.1.2.2.2.2.2.2.2.2.2.2.2.2.2.2.2.2.2.2.2.2.2.2.2.1 k0_h2
theorem k0_off690_inb : ∀ (i : grid0.Coords) (v0 : BitVec 32) (k0_hw257 : k0_chk257 i v0), ∀ (k0_h2 : k0_cond2 i v0 = 1#1), ∀ a, (k0_off690 i v0) a + S1.size a ≤ S49152.size a := fun i v0 k0_hw257 k0_h2 => k0_hw257.2.2.2.2.2.2.1.2.2.2.2.2.2.2.2.2.2.2.2.2.2.2.2.2.2.2.2.2.2.2.2.1 k0_h2
theorem k0_off692_inb : ∀ (i : grid0.Coords) (v0 : BitVec 32) (k0_hw257 : k0_chk257 i v0), ∀ (k0_h2 : k0_cond2 i v0 = 1#1), ∀ a, (k0_off692 i v0) a + S1.size a ≤ S49152.size a := fun i v0 k0_hw257 k0_h2 => k0_hw257.2.2.2.2.2.2.1.2.2.2.2.2.2.2.2.2.2.2.2.2.2.2.2.2.2.2.2.2.2.2.2.2.1 k0_h2
theorem k0_off694_inb : ∀ (i : grid0.Coords) (v0 : BitVec 32) (k0_hw257 : k0_chk257 i v0), ∀ (k0_h2 : k0_cond2 i v0 = 1#1), ∀ a, (k0_off694 i v0) a + S1.size a ≤ S49152.size a := fun i v0 k0_hw257 k0_h2 => k0_hw257.2.2.2.2.2.2.1.2.2.2.2.2.2.2.2.2.2.2.2.2.2.2.2.2.2.2.2.2.2.2.2.2.2.1 k0_h2
theorem k0_off696_inb : ∀ (i : grid0.Coords) (v0 : BitVec 32) (k0_hw257 : k0_chk257 i v0), ∀ (k0_h2 : k0_cond2 i v0 = 1#1), ∀ a, (k0_off696 i v0) a + S1.size a ≤ S49152.size a := fun i v0 k0_hw257 k0_h2 => k0_hw257.2.2.2.2.2.2.1.2.2.2.2.2.2.2.2.2.2.2.2.2.2.2.2.2.2.2.2.2.2.2.2.2.2.2.1 k0_h2
theorem k0_off698_inb : ∀ (i : grid0.Coords) (v0 : BitVec 32) (k0_hw257 : k0_chk257 i v0), ∀ (k0_h2 : k0_cond2 i v0 = 1#1), ∀ a, (k0_off698 i v0) a + S1.size a ≤ S49152.size a := fun i v0 k0_hw257 k0_h2 => k0_hw257.2.2.2.2.2.2.1.2.2.2.2.2.2.2.2.2.2.2.2.2.2.2.2.2.2.2.2.2.2.2.2.2.2.2.2.1 k0_h2
theorem k0_off700_inb : ∀ (i : grid0.Coords) (v0 : BitVec 32) (k0_hw257 : k0_chk257 i v0), ∀ (k0_h2 : k0_cond2 i v0 = 1#1), ∀ a, (k0_off700 i v0) a + S1.size a ≤ S49152.size a := fun i v0 k0_hw257 k0_h2 => k0_hw257.2.2.2.2.2.2.1.2.2.2.2.2.2.2.2.2.2.2.2.2.2.2.2.2.2.2.2.2.2.2.2.2.2.2.2.2.1 k0_h2
theorem k0_off702_inb : ∀ (i : grid0.Coords) (v0 : BitVec 32) (k0_hw257 : k0_chk257 i v0), ∀ (k0_h2 : k0_cond2 i v0 = 1#1), ∀ a, (k0_off702 i v0) a + S1.size a ≤ S49152.size a := fun i v0 k0_hw257 k0_h2 => k0_hw257.2.2.2.2.2.2.1.2.2.2.2.2.2.2.2.2.2.2.2.2.2.2.2.2.2.2.2.2.2.2.2.2.2.2.2.2.2.1 k0_h2
theorem k0_off704_inb : ∀ (i : grid0.Coords) (v0 : BitVec 32) (k0_hw257 : k0_chk257 i v0), ∀ (k0_h2 : k0_cond2 i v0 = 1#1), ∀ a, (k0_off704 i v0) a + S1.size a ≤ S49152.size a := fun i v0 k0_hw257 k0_h2 => k0_hw257.2.2.2.2.2.2.1.2.2.2.2.2.2.2.2.2.2.2.2.2.2.2.2.2.2.2.2.2.2.2.2.2.2.2.2.2.2.2 k0_h2
theorem k0_off706_inb : ∀ (i : grid0.Coords) (v0 : BitVec 32) (k0_hw257 : k0_chk257 i v0), ∀ (k0_h2 : k0_cond2 i v0 = 1#1), ∀ a, (k0_off706 i v0) a + S1.size a ≤ S49152.size a := fun i v0 k0_hw257 k0_h2 => k0_hw257.2.2.2.2.2.2.2.1 k0_h2
theorem k0_off708_inb : ∀ (i : grid0.Coords) (v0 : BitVec 32) (k0_hw257 : k0_chk257 i v0), ∀ (k0_h2 : k0_cond2 i v0 = 1#1), ∀ a, (k0_off708 i v0) a + S1.size a ≤ S49152.size a := fun i v0 k0_hw257 k0_h2 => k0_hw257.2.2.2.2.2.2.2.2.1 k0_h2
theorem k0_off710_inb : ∀ (i : grid0.Coords) (v0 : BitVec 32) (k0_hw257 : k0_chk257 i v0), ∀ (k0_h2 : k0_cond2 i v0 = 1#1), ∀ a, (k0_off710 i v0) a + S1.size a ≤ S49152.size a := fun i v0 k0_hw257 k0_h2 => k0_hw257.2.2.2.2.2.2.2.2.2.1 k0_h2
theorem k0_off712_inb : ∀ (i : grid0.Coords) (v0 : BitVec 32) (k0_hw257 : k0_chk257 i v0), ∀ (k0_h2 : k0_cond2 i v0 = 1#1), ∀ a, (k0_off712 i v0) a + S1.size a ≤ S49152.size a := fun i v0 k0_hw257 k0_h2 => k0_hw257.2.2.2.2.2.2.2.2.2.2.1 k0_h2
theorem k0_off714_inb : ∀ (i : grid0.Coords) (v0 : BitVec 32) (k0_hw257 : k0_chk257 i v0), ∀ (k0_h2 : k0_cond2 i v0 = 1#1), ∀ a, (k0_off714 i v0) a + S1.size a ≤ S49152.size a := fun i v0 k0_hw257 k0_h2 => k0_hw257.2.2.2.2.2.2.2.2.2.2.2.1 k0_h2
theorem k0_off716_inb : ∀ (i : grid0.Coords) (v0 : BitVec 32) (k0_hw257 : k0_chk257 i v0), ∀ (k0_h2 : k0_cond2 i v0 = 1#1), ∀ a, (k0_off716 i v0) a + S1.size a ≤ S49152.size a := fun i v0 k0_hw257 k0_h2 => k0_hw257.2.2.2.2.2.2.2.2.2.2.2.2.1 k0_h2
theorem k0_off718_inb : ∀ (i : grid0.Coords) (v0 : BitVec 32) (k0_hw257 : k0_chk257 i v0), ∀ (k0_h2 : k0_cond2 i v0 = 1#1), ∀ a, (k0_off718 i v0) a + S1.size a ≤ S49152.size a := fun i v0 k0_hw257 k0_h2 => k0_hw257.2.2.2.2.2.2.2.2.2.2.2.2.2.1 k0_h2
theorem k0_off720_inb : ∀ (i : grid0.Coords) (v0 : BitVec 32) (k0_hw257 : k0_chk257 i v0), ∀ (k0_h2 : k0_cond2 i v0 = 1#1), ∀ a, (k0_off720 i v0) a + S1.size a ≤ S49152.size a := fun i v0 k0_hw257 k0_h2 => k0_hw257.2.2.2.2.2.2.2.2.2.2.2.2.2.2.1 k0_h2
theorem k0_off722_inb : ∀ (i : grid0.Coords) (v0 : BitVec 32) (k0_hw257 : k0_chk257 i v0), ∀ (k0_h2 : k0_cond2 i v0 = 1#1), ∀ a, (k0_off722 i v0) a + S1.size a ≤ S49152.size a := fun i v0 k0_hw257 k0_h2 => k0_hw257.2.2.2.2.2.2.2.2.2.2.2.2.2.2.2.1 k0_h2
theorem k0_off724_inb : ∀ (i : grid0.Coords) (v0 : BitVec 32) (k0_hw257 : k0_chk257 i v0), ∀ (k0_h2 : k0_cond2 i v0 = 1#1), ∀ a, (k0_off724 i v0) a + S1.size a ≤ S49152.size a := fun i v0 k0_hw257 k0_h2 => k0_hw257.2.2.2.2.2.2.2.2.2.2.2.2.2.2.2.2.1 k0_h2
theorem k0_off726_inb : ∀ (i : grid0.Coords) (v0 : BitVec 32) (k0_hw257 : k0_chk257 i v0), ∀ (k0_h2 : k0_cond2 i v0 = 1#1), ∀ a, (k0_off726 i v0) a + S1.size a ≤ S49152.size a := fun i v0 k0_hw257 k0_h2 => k0_hw257.2.2.2.2.2.2.2.2.2.2.2.2.2.2.2.2.2.1 k0_h2
theorem k0_off728_inb : ∀ (i : grid0.Coords) (v0 : BitVec 32) (k0_hw257 : k0_chk257 i v0), ∀ (k0_h2 : k0_cond2 i v0 = 1#1), ∀ a, (k0_off728 i v0) a + S1.size a ≤ S49152.size a := fun i v0 k0_hw257 k0_h2 => k0_hw257.2.2.2.2.2.2.2.2.2.2.2.2.2.2.2.2.2.2.1 k0_h2
theorem k0_off730_inb : ∀ (i : grid0.Coords) (v0 : BitVec 32) (k0_hw257 : k0_chk257 i v0), ∀ (k0_h2 : k0_cond2 i v0 = 1#1), ∀ a, (k0_off730 i v0) a + S1.size a ≤ S49152.size a := fun i v0 k0_hw257 k0_h2 => k0_hw257.2.2.2.2.2.2.2.2.2.2.2.2.2.2.2.2.2.2.2.1 k0_h2
theorem k0_off732_inb : ∀ (i : grid0.Coords) (v0 : BitVec 32) (k0_hw257 : k0_chk257 i v0), ∀ (k0_h2 : k0_cond2 i v0 = 1#1), ∀ a, (k0_off732 i v0) a + S1.size a ≤ S49152.size a := fun i v0 k0_hw257 k0_h2 => k0_hw257.2.2.2.2.2.2.2.2.2.2.2.2.2.2.2.2.2.2.2.2.1 k0_h2
theorem k0_off734_inb : ∀ (i : grid0.Coords) (v0 : BitVec 32) (k0_hw257 : k0_chk257 i v0), ∀ (k0_h2 : k0_cond2 i v0 = 1#1), ∀ a, (k0_off734 i v0) a + S1.size a ≤ S49152.size a := fun i v0 k0_hw257 k0_h2 => k0_hw257.2.2.2.2.2.2.2.2.2.2.2.2.2.2.2.2.2.2.2.2.2.1 k0_h2
theorem k0_off736_inb : ∀ (i : grid0.Coords) (v0 : BitVec 32) (k0_hw257 : k0_chk257 i v0), ∀ (k0_h2 : k0_cond2 i v0 = 1#1), ∀ a, (k0_off736 i v0) a + S1.size a ≤ S49152.size a := fun i v0 k0_hw257 k0_h2 => k0_hw257.2.2.2.2.2.2.2.2.2.2.2.2.2.2.2.2.2.2.2.2.2.2.1 k0_h2
theorem k0_off738_inb : ∀ (i : grid0.Coords) (v0 : BitVec 32) (k0_hw257 : k0_chk257 i v0), ∀ (k0_h2 : k0_cond2 i v0 = 1#1), ∀ a, (k0_off738 i v0) a + S1.size a ≤ S49152.size a := fun i v0 k0_hw257 k0_h2 => k0_hw257.2.2.2.2.2.2.2.2.2.2.2.2.2.2.2.2.2.2.2.2.2.2.2.1 k0_h2
theorem k0_off740_inb : ∀ (i : grid0.Coords) (v0 : BitVec 32) (k0_hw257 : k0_chk257 i v0), ∀ (k0_h2 : k0_cond2 i v0 = 1#1), ∀ a, (k0_off740 i v0) a + S1.size a ≤ S49152.size a := fun i v0 k0_hw257 k0_h2 => k0_hw257.2.2.2.2.2.2.2.2.2.2.2.2.2.2.2.2.2.2.2.2.2.2.2.2.1 k0_h2
theorem k0_off742_inb : ∀ (i : grid0.Coords) (v0 : BitVec 32) (k0_hw257 : k0_chk257 i v0), ∀ (k0_h2 : k0_cond2 i v0 = 1#1), ∀ a, (k0_off742 i v0) a + S1.size a ≤ S49152.size a := fun i v0 k0_hw257 k0_h2 => k0_hw257.2.2.2.2.2.2.2.2.2.2.2.2.2.2.2.2.2.2.2.2.2.2.2.2.2.1 k0_h2
theorem k0_off744_inb : ∀ (i : grid0.Coords) (v0 : BitVec 32) (k0_hw257 : k0_chk257 i v0), ∀ (k0_h2 : k0_cond2 i v0 = 1#1), ∀ a, (k0_off744 i v0) a + S1.size a ≤ S49152.size a := fun i v0 k0_hw257 k0_h2 => k0_hw257.2.2.2.2.2.2.2.2.2.2.2.2.2.2.2.2.2.2.2.2.2.2.2.2.2.2.1 k0_h2
theorem k0_off746_inb : ∀ (i : grid0.Coords) (v0 : BitVec 32) (k0_hw257 : k0_chk257 i v0), ∀ (k0_h2 : k0_cond2 i v0 = 1#1), ∀ a, (k0_off746 i v0) a + S1.size a ≤ S49152.size a := fun i v0 k0_hw257 k0_h2 => k0_hw257.2.2.2.2.2.2.2.2.2.2.2.2.2.2.2.2.2.2.2.2.2.2.2.2.2.2.2.1 k0_h2
theorem k0_off748_inb : ∀ (i : grid0.Coords) (v0 : BitVec 32) (k0_hw257 : k0_chk257 i v0), ∀ (k0_h2 : k0_cond2 i v0 = 1#1), ∀ a, (k0_off748 i v0) a + S1.size a ≤ S49152.size a := fun i v0 k0_hw257 k0_h2 => k0_hw257.2.2.2.2.2.2.2.2.2.2.2.2.2.2.2.2.2.2.2.2.2.2.2.2.2.2.2.2.1 k0_h2
theorem k0_off750_inb : ∀ (i : grid0.Coords) (v0 : BitVec 32) (k0_hw257 : k0_chk257 i v0), ∀ (k0_h2 : k0_cond2 i v0 = 1#1), ∀ a, (k0_off750 i v0) a + S1.size a ≤ S49152.size a := fun i v0 k0_hw257 k0_h2 => k0_hw257.2.2.2.2.2.2.2.2.2.2.2.2.2.2.2.2.2.2.2.2.2.2.2.2.2.2.2.2.2.1 k0_h2
theorem k0_off752_inb : ∀ (i : grid0.Coords) (v0 : BitVec 32) (k0_hw257 : k0_chk257 i v0), ∀ (k0_h2 : k0_cond2 i v0 = 1#1), ∀ a, (k0_off752 i v0) a + S1.size a ≤ S49152.size a := fun i v0 k0_hw257 k0_h2 => k0_hw257.2.2.2.2.2.2.2.2.2.2.2.2.2.2.2.2.2.2.2.2.2.2.2.2.2.2.2.2.2.2.1 k0_h2
theorem k0_off754_inb : ∀ (i : grid0.Coords) (v0 : BitVec 32) (k0_hw257 : k0_chk257 i v0), ∀ (k0_h2 : k0_cond2 i v0 = 1#1), ∀ a, (k0_off754 i v0) a + S1.size a ≤ S49152.size a := fun i v0 k0_hw257 k0_h2 => k0_hw257.2.2.2.2.2.2.2.2.2.2.2.2.2.2.2.2.2.2.2.2.2.2.2.2.2.2.2.2.2.2.2.1 k0_h2
theorem k0_off756_inb : ∀ (i : grid0.Coords) (v0 : BitVec 32) (k0_hw257 : k0_chk257 i v0), ∀ (k0_h2 : k0_cond2 i v0 = 1#1), ∀ a, (k0_off756 i v0) a + S1.size a ≤ S49152.size a := fun i v0 k0_hw257 k0_h2 => k0_hw257.2.2.2.2.2.2.2.2.2.2.2.2.2.2.2.2.2.2.2.2.2.2.2.2.2.2.2.2.2.2.2.2.1 k0_h2
theorem k0_off758_inb : ∀ (i : grid0.Coords) (v0 : BitVec 32) (k0_hw257 : k0_chk257 i v0), ∀ (k0_h2 : k0_cond2 i v0 = 1#1), ∀ a, (k0_off758 i v0) a + S1.size a ≤ S49152.size a := fun i v0 k0_hw257 k0_h2 => k0_hw257.2.2.2.2.2.2.2.2.2.2.2.2.2.2.2.2.2.2.2.2.2.2.2.2.2.2.2.2.2.2.2.2.2.1 k0_h2
theorem k0_off760_inb : ∀ (i : grid0.Coords) (v0 : BitVec 32) (k0_hw257 : k0_chk257 i v0), ∀ (k0_h2 : k0_cond2 i v0 = 1#1), ∀ a, (k0_off760 i v0) a + S1.size a ≤ S49152.size a := fun i v0 k0_hw257 k0_h2 => k0_hw257.2.2.2.2.2.2.2.2.2.2.2.2.2.2.2.2.2.2.2.2.2.2.2.2.2.2.2.2.2.2.2.2.2.2.1 k0_h2
theorem k0_off762_inb : ∀ (i : grid0.Coords) (v0 : BitVec 32) (k0_hw257 : k0_chk257 i v0), ∀ (k0_h2 : k0_cond2 i v0 = 1#1), ∀ a, (k0_off762 i v0) a + S1.size a ≤ S49152.size a := fun i v0 k0_hw257 k0_h2 => k0_hw257.2.2.2.2.2.2.2.2.2.2.2.2.2.2.2.2.2.2.2.2.2.2.2.2.2.2.2.2.2.2.2.2.2.2.2.1 k0_h2
theorem k0_off764_inb : ∀ (i : grid0.Coords) (v0 : BitVec 32) (k0_hw257 : k0_chk257 i v0), ∀ (k0_h2 : k0_cond2 i v0 = 1#1), ∀ a, (k0_off764 i v0) a + S1.size a ≤ S49152.size a := fun i v0 k0_hw257 k0_h2 => k0_hw257.2.2.2.2.2.2.2.2.2.2.2.2.2.2.2.2.2.2.2.2.2.2.2.2.2.2.2.2.2.2.2.2.2.2.2.2.1 k0_h2
theorem k0_off766_inb : ∀ (i : grid0.Coords) (v0 : BitVec 32) (k0_hw257 : k0_chk257 i v0), ∀ (k0_h2 : k0_cond2 i v0 = 1#1), ∀ a, (k0_off766 i v0) a + S1.size a ≤ S49152.size a := fun i v0 k0_hw257 k0_h2 => k0_hw257.2.2.2.2.2.2.2.2.2.2.2.2.2.2.2.2.2.2.2.2.2.2.2.2.2.2.2.2.2.2.2.2.2.2.2.2.2.1 k0_h2
theorem k0_off768_inb : ∀ (i : grid0.Coords) (v0 : BitVec 32) (k0_hw257 : k0_chk257 i v0), ∀ (k0_h2 : k0_cond2 i v0 = 1#1), ∀ a, (k0_off768 i v0) a + S1.size a ≤ S49152.size a := fun i v0 k0_hw257 k0_h2 => k0_hw257.2.2.2.2.2.2.2.2.2.2.2.2.2.2.2.2.2.2.2.2.2.2.2.2.2.2.2.2.2.2.2.2.2.2.2.2.2.2 k0_h2

def k0_off769 (v3305 : BitVec 32) : Fin 2 → Nat :=
  let c3_i32_1629 : BitVec 32 := 3#32
  let v3306 : BitVec 32 := Scalar.shrsi v3305 c3_i32_1629
  let c4095_i32_1630 : BitVec 32 := 4095#32
  let v3307 : BitVec 32 := Scalar.minsi v3306 c4095_i32_1630
  let c8_i32_1631 : BitVec 32 := 8#32
  let v3308 : BitVec 32 := Scalar.muli v3307 c8_i32_1631
  let v3309 : Index := Scalar.indexCast v3308
  let c0_1632 : Index := 0#32
  ![v3309.toNat, 0]

def k0_chk513 (i : grid0.Coords) (v0 : BitVec 32) (v3305 : BitVec 32) : Prop :=
  (∀ (k0_h2 : k0_cond2 i v0 = 1#1), ∀ a, (k0_off769 v3305) a + S8x128.size a ≤ S32768x128.size a)
theorem k0_off769_inb : ∀ (i : grid0.Coords) (v0 : BitVec 32) (v3305 : BitVec 32) (k0_hw513 : k0_chk513 i v0 v3305), ∀ (k0_h2 : k0_cond2 i v0 = 1#1), ∀ a, (k0_off769 v3305) a + S8x128.size a ≤ S32768x128.size a := fun i v0 v3305 k0_hw513 k0_h2 => k0_hw513 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1x1.size a ≤ S8x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 1 (Rect.unit (s := S8x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1x1.size a ≤ S8x256.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 1 (Rect.unit (s := S8x256) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (inb_S8x256_S1x1_1_0 : ∀ a, (![1, 0] : Fin 2 → Nat) a + S1x1.size a ≤ S8x256.size a) (numel1_S1x1 : S1x1.numel = 1) (pf : pre0.Contents (Elt F)) (i : grid0.Coords) : Fin 2 → Nat :=
  let arg0 : BitVec 32 := BitVec.ofNat 32 (i 0).val
  let c1 : Index := 1#32
  let c0 : Index := 0#32
  let v0 : BitVec 32 := pf.at 1 (Rect.unit (s := S8x256) ![1, 0] S1x1.size inb_S8x256_S1x1_1_0) numel1_S1x1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 1 → Memref sig .tc .vmem S32768x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S49152 : Shape := ⟨1, ![49152]⟩
abbrev S8x256 : Shape := ⟨2, ![8, 256]⟩
abbrev S32768x128 : Shape := ⟨2, ![32768, 128]⟩
abbrev S64x1024x1536 : Shape := ⟨3, ![64, 1024, 1536]⟩
abbrev S64x16x1536 : Shape := ⟨3, ![64, 16, 1536]⟩
abbrev S4096x1024 : Shape := ⟨2, ![4096, 1024]⟩
abbrev S_ : Shape := ⟨0, ![]⟩
abbrev S4096x2048 : Shape := ⟨2, ![4096, 2048]⟩
abbrev S49152x1 : Shape := ⟨2, ![49152, 1]⟩
abbrev S49152x2048 : Shape := ⟨2, ![49152, 2048]⟩
abbrev S192x256x2048 : Shape := ⟨3, ![192, 256, 2048]⟩
abbrev S64x1024x1x1536 : Shape := ⟨4, ![64, 1024, 1, 1536]⟩
abbrev S64x1024x2x1536 : Shape := ⟨4, ![64, 1024, 2, 1536]⟩
abbrev S64x16x128x1536 : Shape := ⟨4, ![64, 16, 128, 1536]⟩
abbrev S64x16x1x1536 : Shape := ⟨4, ![64, 16, 1, 1536]⟩
abbrev S64x2048x1536 : Shape := ⟨3, ![64, 2048, 1536]⟩
abbrev S1x192 : Shape := ⟨2, ![1, 192]⟩
abbrev S192 : Shape := ⟨1, ![192]⟩
abbrev S192x1 : Shape := ⟨2, ![192, 1]⟩
abbrev S192x2048x1536 : Shape := ⟨3, ![192, 2048, 1536]⟩
abbrev S192x256x1536 : Shape := ⟨3, ![192, 256, 1536]⟩
abbrev S192x256x768 : Shape := ⟨3, ![192, 256, 768]⟩
abbrev S49152x768 : Shape := ⟨2, ![49152, 768]⟩

abbrev nBuf : Space → Nat
  | .hbm => 89
  | .vmem => 0
  | .smem => 0
  | _ => 0

abbrev bufTy : (tb : Table) → Fin (tcTables nBuf tb) → BufTy
  | .hbm, ⟨0, _⟩ => ⟨S49152, .i32⟩
  | .hbm, ⟨1, _⟩ => ⟨S8x256, .i32⟩
  | .hbm, ⟨2, _⟩ => ⟨S32768x128, .i32⟩
  | .hbm, ⟨3, _⟩ => ⟨S64x1024x1536, .i8⟩
  | .hbm, ⟨4, _⟩ => ⟨S64x16x1536, .f32⟩
  | .hbm, ⟨5, _⟩ => ⟨S4096x1024, .i32⟩
  | .hbm, ⟨6, _⟩ => ⟨S_, .i32⟩
  | .hbm, ⟨7, _⟩ => ⟨S4096x1024, .i32⟩
  | .hbm, ⟨8, _⟩ => ⟨S4096x1024, .i32⟩
  | .hbm, ⟨9, _⟩ => ⟨S4096x1024, .f32⟩
  | .hbm, ⟨10, _⟩ => ⟨S_, .i32⟩
  | .hbm, ⟨11, _⟩ => ⟨S4096x1024, .i32⟩
  | .hbm, ⟨12, _⟩ => ⟨S4096x1024, .i32⟩
  | .hbm, ⟨13, _⟩ => ⟨S4096x1024, .f32⟩
  | .hbm, ⟨14, _⟩ => ⟨S4096x2048, .f32⟩
  | .hbm, ⟨15, _⟩ => ⟨S4096x2048, .bf16⟩
  | .hbm, ⟨16, _⟩ => ⟨S_, .i32⟩
  | .hbm, ⟨17, _⟩ => ⟨S49152, .i32⟩
  | .hbm, ⟨18, _⟩ => ⟨S49152, .i32⟩
  | .hbm, ⟨19, _⟩ => ⟨S_, .i32⟩
  | .hbm, ⟨20, _⟩ => ⟨S49152, .i32⟩
  | .hbm, ⟨21, _⟩ => ⟨S49152, .i32⟩
  | .hbm, ⟨22, _⟩ => ⟨S_, .i32⟩
  | .hbm, ⟨23, _⟩ => ⟨S49152, .i32⟩
  | .hbm, ⟨24, _⟩ => ⟨S49152, .i1⟩
  | .hbm, ⟨25, _⟩ => ⟨S_, .i32⟩
  | .hbm, ⟨26, _⟩ => ⟨S49152, .i32⟩
  | .hbm, ⟨27, _⟩ => ⟨S49152, .i32⟩
  | .hbm, ⟨28, _⟩ => ⟨S49152, .i32⟩
  | .hbm, ⟨29, _⟩ => ⟨S49152x1, .i32⟩
  | .hbm, ⟨30, _⟩ => ⟨S49152x2048, .bf16⟩
  | .hbm, ⟨31, _⟩ => ⟨S192x256x2048, .bf16⟩
  | .hbm, ⟨32, _⟩ => ⟨S64x1024x1536, .i32⟩
  | .hbm, ⟨33, _⟩ => ⟨S_, .i32⟩
  | .hbm, ⟨34, _⟩ => ⟨S64x1024x1536, .i32⟩
  | .hbm, ⟨35, _⟩ => ⟨S64x1024x1536, .i32⟩
  | .hbm, ⟨36, _⟩ => ⟨S_, .i32⟩
  | .hbm, ⟨37, _⟩ => ⟨S64x1024x1536, .i32⟩
  | .hbm, ⟨38, _⟩ => ⟨S64x1024x1536, .i32⟩
  | .hbm, ⟨39, _⟩ => ⟨S_, .i32⟩
  | .hbm, ⟨40, _⟩ => ⟨S64x1024x1536, .i32⟩
  | .hbm, ⟨41, _⟩ => ⟨S64x1024x1536, .i1⟩
  | .hbm, ⟨42, _⟩ => ⟨S_, .i32⟩
  | .hbm, ⟨43, _⟩ => ⟨S64x1024x1536, .i32⟩
  | .hbm, ⟨44, _⟩ => ⟨S64x1024x1536, .i32⟩
  | .hbm, ⟨45, _⟩ => ⟨S64x1024x1536, .i32⟩
  | .hbm, ⟨46, _⟩ => ⟨S_, .i32⟩
  | .hbm, ⟨47, _⟩ => ⟨S64x1024x1536, .i32⟩
  | .hbm, ⟨48, _⟩ => ⟨S64x1024x1536, .i1⟩
  | .hbm, ⟨49, _⟩ => ⟨S_, .i32⟩
  | .hbm, ⟨50, _⟩ => ⟨S64x1024x1536, .i32⟩
  | .hbm, ⟨51, _⟩ => ⟨S64x1024x1536, .i32⟩
  | .hbm, ⟨52, _⟩ => ⟨S64x1024x1536, .i32⟩
  | .hbm, ⟨53, _⟩ => ⟨S64x1024x1x1536, .i32⟩
  | .hbm, ⟨54, _⟩ => ⟨S64x1024x1x1536, .i32⟩
  | .hbm, ⟨55, _⟩ => ⟨S64x1024x2x1536, .i32⟩
  | .hbm, ⟨56, _⟩ => ⟨S64x16x128x1536, .i32⟩
  | .hbm, ⟨57, _⟩ => ⟨S64x16x128x1536, .bf16⟩
  | .hbm, ⟨58, _⟩ => ⟨S64x16x1536, .bf16⟩
  | .hbm, ⟨59, _⟩ => ⟨S64x16x1x1536, .bf16⟩
  | .hbm, ⟨60, _⟩ => ⟨S64x16x128x1536, .bf16⟩
  | .hbm, ⟨61, _⟩ => ⟨S64x16x128x1536, .bf16⟩
  | .hbm, ⟨62, _⟩ => ⟨S64x2048x1536, .bf16⟩
  | .hbm, ⟨63, _⟩ => ⟨S1x192, .i32⟩
  | .hbm, ⟨64, _⟩ => ⟨S192, .i32⟩
  | .hbm, ⟨65, _⟩ => ⟨S_, .i32⟩
  | .hbm, ⟨66, _⟩ => ⟨S192, .i32⟩
  | .hbm, ⟨67, _⟩ => ⟨S192, .i1⟩
  | .hbm, ⟨68, _⟩ => ⟨S_, .i32⟩
  | .hbm, ⟨69, _⟩ => ⟨S192, .i32⟩
  | .hbm, ⟨70, _⟩ => ⟨S192, .i32⟩
  | .hbm, ⟨71, _⟩ => ⟨S192, .i32⟩
  | .hbm, ⟨72, _⟩ => ⟨S192x1, .i32⟩
  | .hbm, ⟨73, _⟩ => ⟨S192x2048x1536, .bf16⟩
  | .hbm, ⟨74, _⟩ => ⟨S192x256x1536, .f32⟩
  | .hbm, ⟨75, _⟩ => ⟨S192x256x768, .f32⟩
  | .hbm, ⟨76, _⟩ => ⟨S192x256x768, .f32⟩
  | .hbm, ⟨77, _⟩ => ⟨S192x256x768, .f32⟩
  | .hbm, ⟨78, _⟩ => ⟨S_, .f32⟩
  | .hbm, ⟨79, _⟩ => ⟨S192x256x768, .f32⟩
  | .hbm, ⟨80, _⟩ => ⟨S192x256x768, .f32⟩
  | .hbm, ⟨81, _⟩ => ⟨S_, .f32⟩
  | .hbm, ⟨82, _⟩ => ⟨S192x256x768, .f32⟩
  | .hbm, ⟨83, _⟩ => ⟨S192x256x768, .f32⟩
  | .hbm, ⟨84, _⟩ => ⟨S192x256x768, .f32⟩
  | .hbm, ⟨85, _⟩ => ⟨S192x256x768, .f32⟩
  | .hbm, ⟨86, _⟩ => ⟨S192x256x768, .f32⟩
  | .hbm, ⟨87, _⟩ => ⟨S192x256x768, .bf16⟩
  | .hbm, ⟨88, _⟩ => ⟨S49152x768, .bf16⟩
  | _, _ => ⟨S49152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_9 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_11 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== Proof.Ref.lean ====
/-
  The reference runs, leaves its arguments as they were, and ends with every semaphore counter at zero.
-/
module

public import proofs.«01_k».proof.Defs
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.ShloMosaic.TcCoe Idealize.SL.Sem

/-- The reference's frame: it terminates, its arguments end unchanged, and no counter is left above zero. -/
theorem quiescent_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.Rows.lean ====
module

public import proofs.«01_k».proof.Proof.Gen.KernelIdeal
public import proofs.«01_k».proof.Proof.Gen.KernelIdeal.Launch
public import Idealize.ShloMosaic.Lib.Pipeline.Regions

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

/-- A strided rectangle of one gathered row lies in the scratch buffer. -/
theorem row_inb (r : ℕ) (hr : r < 256) : ∀ a, S8x128.size a = 0 ∨ (![r, 0] : Fin 2 → ℕ) a + (![257, 1] : Fin 2 → ℕ) a * (S8x128.size a - 1) < S2056x128.size a := by
  intro a; right
  fin_cases a <;> simp [S8x128, S2056x128] <;> omega

/-- One row of a gather: a word of the list, the eight rows of the table it names, stored at the row's place. -/
def row (m1 : Memref sig .tc .smem S49152 .i32) (m3 : Memref sig .tc .vmem S32768x128 .i32) (m7 : Memref sig .tc .vmem S2056x128 .i32)
    (chk : BitVec 32 → Prop) (dec : ∀ v, Decidable (chk v))
    (inb : ∀ v, chk v → ∀ a, k0_off2 v a + S8x128.size a ≤ S32768x128.size a)
    (o : Fin 1 → ℕ) (ho : ∀ a, o a + S1.size a ≤ S49152.size a) (r : ℕ) (hr : r < 256) :
    Prog (TpuEff nD τ sig (Elt F) Λ₀ .tc) PUnit := do
  let v : Elt F .i32 ← smemLoad m1 (Rect.unit (s := S49152) o S1.size ho) numel1_S1 rfl
  have hw : chk v := (← Prog.lift (TpuEff.assume (chk v) (dec v))).down
  let w : Vec F S8x128 .i32 ← Prog.lift (.load m3 (Rect.unit (s := S32768x128) (k0_off2 v) S8x128.size (inb v hw)).toLoadRect (View.loadsAt_vmem h_S8x128))
  let _d : Vec F S8x128 .i32 ← Prog.lift (.load m7 (⟨![r, 0], S8x128.size, ![257, 1], row_inb r hr⟩ : LoadRect S2056x128) (View.loadsAt_vmem h_S8x128))
  Prog.lift (.store m7 ⟨(⟨![r, 0], S8x128.size, ![257, 1], row_inb r hr⟩ : LoadRect S2056x128), spos_257_1⟩ (shapeCast S8x128 w shapeCasts_S8x128_S8x128) Finset.univ (View.stores_vmem_bits_univ h_S8x128 rfl) (.inl rfl))

/-- Rows `k`, `k + 1`, … , `n` of them, one after the other. -/
def rows (m1 : Memref sig .tc .smem S49152 .i32) (m3 : Memref sig .tc .vmem S32768x128 .i32) (m7 : Memref sig .tc .vmem S2056x128 .i32)
    (chk : BitVec 32 → Prop) (dec : ∀ v, Decidable (chk v))
    (inb : ∀ v, chk v → ∀ a, k0_off2 v a + S8x128.size a ≤ S32768x128.size a)
    (o : ℕ → Fin 1 → ℕ) (ho : ∀ r, r < 256 → ∀ a, o r a + S1.size a ≤ S49152.size a) : (n k : ℕ) → (h : k + n ≤ 256) →
    Prog (TpuEff nD τ sig (Elt F) Λ₀ .tc) PUnit
  | 0, _, _ => pure ⟨⟩
  | n + 1, k, h => do
    row m1 m3 m7 chk dec inb (o k) (ho k (by omega)) k (by omega)
    rows m1 m3 m7 chk dec inb o ho n (k + 1) (by omega)

theorem off0_inb (r : ℕ) (hr : r < 256) : ∀ a, (![r] : Fin 1 → ℕ) a + S1.size a ≤ S49152.size a := by
  intro a; fin_cases a; simp [S1, S49152]; omega

/-- The first gather's rows. -/
abbrev rows0 (i : grid0.Coords) (h1 : k0_cond1 i = 1#1) (m1 : Memref sig .tc .smem S49152 .i32) (m3 : Memref sig .tc .vmem S32768x128 .i32) (m7 : Memref sig .tc .vmem S2056x128 .i32) :
    (n k : ℕ) → (h : k + n ≤ 256) → Prog (TpuEff nD τ sig (Elt F) Λ₀ .tc) PUnit :=
  rows m1 m3 m7 (k0_chk1 i) (k0_chk1.dec i) (fun v hw => hw h1) (fun r => ![r]) off0_inb

/-! ## The addresses of the second gather -/

/-- The tile gathered ahead: the next one, or the last again. -/
def nxt (i : grid0.Coords) (v0 : BitVec 32) : BitVec 32 :=
  Scalar.minsi (Scalar.addi (BitVec.ofNat 32 (i 0).val) 1#32) (Scalar.subi v0 1#32)

/-- The word of the list that names row `r` of that tile. -/
def nxtOff (i : grid0.Coords) (v0 : BitVec 32) (r : ℕ) : Fin 1 → ℕ :=
  ![(Scalar.indexCast (Scalar.addi (Scalar.muli (nxt i v0) 256#32) (BitVec.ofNat 32 r))).toNat]

/-- That word lies in the list, as one of the kernel's checks says it. -/
def NxtIn (i : grid0.Coords) (v0 : BitVec 32) (r : ℕ) : Prop :=
  ∀ (_ : k0_cond2 i v0 = 1#1), ∀ a, (nxtOff i v0 r) a + S1.size a ≤ S49152.size a

/-- The checks of rows `k … k + n`, as one conjunction nested to the right. -/
def conj (P : ℕ → Prop) : ℕ → ℕ → Prop
  | 0, k => P k
  | n + 1, k => P k ∧ conj P n (k + 1)

theorem conj_intro (P : ℕ → Prop) (n : ℕ) : ∀ k, (∀ r, k ≤ r → r ≤ k + n → P r) → conj P n k := by
  induction n with
  | zero => intro k h; exact h k le_rfl (by omega)
  | succ n ih => intro k h; exact ⟨h k le_rfl (by omega), ih (k + 1) fun r h1 h2 => h r (by omega) (by omega)⟩

theorem chk257_eq (i : grid0.Coords) (v0 : BitVec 32) :
    k0_chk257 i v0 = conj (fun b => conj (NxtIn i v0) 31 (32 * b)) 7 0 := by
  chain_rfl

theorem chk257_intro (i : grid0.Coords) (v0 : BitVec 32) (h : ∀ r, r < 256 → NxtIn i v0 r) : k0_chk257 i v0 := by
  rw [chk257_eq]
  refine conj_intro _ _ _ fun b _ hb => conj_intro _ _ _ fun r h1 h2 => h r (by omega)

/-- The first word's check carries the other 255: the tile's first row is a multiple of 256. -/
theorem nxtOff_inb (i : grid0.Coords) (v0 : BitVec 32) (hw : k0_chk257 i v0) (h2 : k0_cond2 i v0 = 1#1) (r : ℕ) (hr : r < 256) :
    ∀ a, (nxtOff i v0 r) a + S1.size a ≤ S49152.size a := by
  rw [chk257_eq] at hw
  have h0 := hw.1.1 h2 0
  intro a
  obtain rfl : a = 0 := Subsingleton.elim _ _
  simp only [nxtOff, Scalar.indexCast, Scalar.addi, Scalar.muli, IntOp.addi, IntOp.muli, S1, S49152, Matrix.cons_val_zero, Matrix.cons_val_fin_one, Nat.mul_zero, BitVec.toNat_add, BitVec.toNat_mul, BitVec.toNat_ofNat] at h0 ⊢
  omega

/-- The second gather's rows. -/
abbrev rows1 (i : grid0.Coords) (v0 : BitVec 32) (hw : k0_chk257 i v0) (h2 : k0_cond2 i v0 = 1#1) (m1 : Memref sig .tc .smem S49152 .i32) (m3 : Memref sig .tc .vmem S32768x128 .i32) (m7 : Memref sig .tc .vmem S2056x128 .i32) :
    (n k : ℕ) → (h : k + n ≤ 256) → Prog (TpuEff nD τ sig (Elt F) Λ₀ .tc) PUnit :=
  rows m1 m3 m7 (k0_chk258 i v0) (k0_chk258.dec i v0) (fun v hw => hw h2) (nxtOff i v0) (nxtOff_inb i v0 hw h2)

/-! ## The bf16 rows, from the gathered words -/

theorem x7_inb (j : ℕ) (hj : j < 8) : ∀ a, (![257 * j, 0] : Fin 2 → ℕ) a + S256x128.size a ≤ S2056x128.size a := by
  intro a; fin_cases a <;> simp [S256x128, S2056x128] <;> omega
theorem x8_inb (o : ℕ) (ho : o ≤ 1920) : ∀ a, (![0, o] : Fin 2 → ℕ) a + S256x128.size a ≤ S256x2048.size a := by
  intro a; fin_cases a <;> simp [S256x128, S256x2048]; omega
theorem x8_packed (o : ℕ) (ho : o ≤ 1920) : (Rect.unit (s := S256x2048) ![0, o] S256x128.size (x8_inb o ho)).PackedRows (EltTy.packing .bf16) :=
  .inr ⟨(show 2 ≤ 2 from le_rfl), rfl, .inl ⟨(show (2 : ℕ) ∣ 0 by decide), (show (2 : ℕ) ∣ 256 by decide)⟩⟩

/-- The bf16 numbers in the low halves of the words. -/
def lowHalf (v : Vec F S256x128 .i32) : FVec F S256x128 .bf16 :=
  shapeCast S256x128 (truncf .bf16 (bitcastToFloat .f32 (shli v (broadcast S256x128 16#32))) bitsLt_bf16_f32) shapeCasts_S256x128_S256x128
/-- The bf16 numbers in the high halves of the words. -/
def highHalf (v : Vec F S256x128 .i32) : FVec F S256x128 .bf16 :=
  shapeCast S256x128 (truncf .bf16 (bitcastToFloat .f32 (andi v (broadcast S256x128 4294901760#32))) bitsLt_bf16_f32) shapeCasts_S256x128_S256x128

/-- A store of 128 columns of the bf16 rows (after a load of what stood there, unread). -/
def put (m8 : Memref sig .tc .vmem S256x2048 .bf16) (h8 : m8.IsWhole) (o : ℕ) (ho : o ≤ 1920) (x : FVec F S256x128 .bf16) :
    Prog (TpuEff nD τ sig (Elt F) Λ₀ .tc) PUnit := do
  let _d : Vec F S256x128 .bf16 ← Prog.lift (.load m8 (Rect.unit (s := S256x2048) ![0, o] S256x128.size (x8_inb o ho)).toLoadRect (View.loadsAt_vmem h_S256x128))
  Prog.lift (.store m8 (Rect.unit (s := S256x2048) ![0, o] S256x128.size (x8_inb o ho)) x Finset.univ (View.stores_vmem h_S256x128 (h8.storeExact_slice rfl _ (x8_packed o ho)) (fun _ => rfl)) (.inl rfl))

/-- Slices `k … k + n` of the rows. -/
def unpack (m7 : Memref sig .tc .vmem S2056x128 .i32) (m8 : Memref sig .tc .vmem S256x2048 .bf16) (h8 : m8.IsWhole) :
    (n k : ℕ) → (h : k + n ≤ 8) → Prog (TpuEff nD τ sig (Elt F) Λ₀ .tc) PUnit
  | 0, _, _ => pure ⟨⟩
  | n + 1, k, h => do
    let v : Vec F S256x128 .i32 ← Prog.lift (.load m7 (Rect.unit (s := S2056x128) ![257 * k, 0] S256x128.size (x7_inb k (by omega))).toLoadRect (View.loadsAt_vmem h_S256x128))
    put m8 h8 (128 * k) (by omega) (lowHalf v)
    put m8 h8 (1024 + 128 * k) (by omega) (highHalf v)
    unpack m7 m8 h8 n (k + 1) (by omega)

/-! ## The products -/

theorem w_inb (o : ℕ) (ho : o ≤ 1280) : ∀ a, (![0, 0, o] : Fin 3 → ℕ) a + S1x1024x256.size a ≤ S1x1024x1536.size a := by
  intro a; fin_cases a <;> simp [S1x1024x256, S1x1024x1536]; omega
theorem s_inb (o : ℕ) (ho : o ≤ 1280) : ∀ a, (![0, 0, o] : Fin 3 → ℕ) a + S1x16x256.size a ≤ S1x16x1536.size a := by
  intro a; fin_cases a <;> simp [S1x16x256, S1x16x1536]; omega
theorem a_inb (o : ℕ) (ho : o ≤ 512) : ∀ a, (![0, o] : Fin 2 → ℕ) a + S256x256.size a ≤ S256x768.size a := by
  intro a; fin_cases a <;> simp [S256x256, S256x768]; omega
theorem a_packed (o : ℕ) (ho : o ≤ 512) : (Rect.unit (s := S256x768) ![0, o] S256x256.size (a_inb o ho)).PackedRows (EltTy.packing .bf16) :=
  .inr ⟨(show 2 ≤ 2 from le_rfl), rfl, .inl ⟨(show (2 : ℕ) ∣ 0 by decide), (show (2 : ℕ) ∣ 256 by decide)⟩⟩

/-- The dequantised weights of 256 columns: each byte's two codes one under the other, times the group's scale. -/
def deq (w : Vec F S1x1024x256 .i8) (s : Vec F S1x16x256 .f32) : FVec F S2048x256 .bf16 :=
  let b : IVec S1024x256 32 := extui 32 (shapeCast S1024x256 w shapeCasts_S1x1024x256_S1024x256) natLt_8_32
  let lo : IVec S1024x256 32 := shrsi (shli b (broadcast S1024x256 28#32)) (broadcast S1024x256 28#32)
  let hi : IVec S1024x256 32 := shrsi (shli b (broadcast S1024x256 24#32)) (broadcast S1024x256 28#32)
  let cat : IVec S1024x2x256 32 := concatenate S1024x2x256 1 [⟨S1024x1x256, shapeCast S1024x1x256 lo shapeCasts_S1024x256_S1024x1x256⟩, ⟨S1024x1x256, shapeCast S1024x1x256 hi shapeCasts_S1024x256_S1024x1x256⟩] concatenates_S1024x1x256_S1024x1x256_S1024x2x256_d1
  let codes : FVec F S2048x256 .bf16 := sitofp .bf16 (shapeCast S2048x256 cat shapeCasts_S1024x2x256_S2048x256)
  let sc : FVec F S16x256 .bf16 := truncf .bf16 (shapeCast S16x256 s shapeCasts_S1x16x256_S16x256) bitsLt_bf16_f32
  let c3 : FVec F S16x128x256 .bf16 := shapeCast S16x128x256 codes shapeCasts_S2048x256_S16x128x256
  let s3 : FVec F S16x128x256 .bf16 := broadcastTo S16x128x256 (shapeCast S16x1x256 sc shapeCasts_S16x256_S16x1x256) broadcasts_S16x1x256_S16x128x256
  shapeCast S2048x256 (mulf c3 s3) shapeCasts_S16x128x256_S2048x256

/-- The rows times 256 columns of weights. -/
def prod (x : Vec F S256x2048 .bf16) (w : Vec F S1x1024x256 .i8) (s : Vec F S1x16x256 .f32) : FVec F S256x256 .f32 :=
  matmul dot_S256x2048_S2048x256_S256x256_1_0_0_1_n_n none x (deq w s) (constant S256x256 .f32 0x00000000#32)

/-- The gated activation. -/
def gate (g u : FVec F S256x256 .f32) : FVec F S256x256 .bf16 :=
  truncf .bf16 (mulf (mulf g (logistic g)) u) bitsLt_bf16_f32

/-- The 256 columns from `o` of the result's block. -/
def chunk (m4 : Memref sig .tc .vmem S1x1024x1536 .i8) (m5 : Memref sig .tc .vmem S1x16x1536 .f32) (m6 : Memref sig .tc .vmem S256x768 .bf16) (h6 : m6.IsWhole) (m8 : Memref sig .tc .vmem S256x2048 .bf16)
    (o : ℕ) (ho : o ≤ 512) : Prog (TpuEff nD τ sig (Elt F) Λ₀ .tc) PUnit := do
  let x : Vec F S256x2048 .bf16 ← Prog.lift (.load m8 (Rect.unit (s := S256x2048) ![0, 0] S256x2048.size inb_S256x2048_S256x2048_0_0).toLoadRect (View.loadsAt_vmem h_S256x2048))
  let wg : Vec F S1x1024x256 .i8 ← Prog.lift (.load m4 (Rect.unit (s := S1x1024x1536) ![0, 0, o] S1x1024x256.size (w_inb o (by omega))).toLoadRect (View.loadsAt_vmem h_S1x1024x256))
  let sg : Vec F S1x16x256 .f32 ← Prog.lift (.load m5 (Rect.unit (s := S1x16x1536) ![0, 0, o] S1x16x256.size (s_inb o (by omega))).toLoadRect (View.loadsAt_vmem h_S1x16x256))
  let wu : Vec F S1x1024x256 .i8 ← Prog.lift (.load m4 (Rect.unit (s := S1x1024x1536) ![0, 0, 768 + o] S1x1024x256.size (w_inb (768 + o) (by omega))).toLoadRect (View.loadsAt_vmem h_S1x1024x256))
  let su : Vec F S1x16x256 .f32 ← Prog.lift (.load m5 (Rect.unit (s := S1x16x1536) ![0, 0, 768 + o] S1x16x256.size (s_inb (768 + o) (by omega))).toLoadRect (View.loadsAt_vmem h_S1x16x256))
  let _d : Vec F S256x256 .bf16 ← Prog.lift (.load m6 (Rect.unit (s := S256x768) ![0, o] S256x256.size (a_inb o ho)).toLoadRect (View.loadsAt_vmem h_S256x256))
  Prog.lift (.store m6 (Rect.unit (s := S256x768) ![0, o] S256x256.size (a_inb o ho)) (gate (prod x wg sg) (prod x wu su)) Finset.univ (View.stores_vmem h_S256x256 (h6.storeExact_slice rfl _ (a_packed o ho)) (fun _ => rfl)) (.inl rfl))

/-! ## The body -/

/-- What a point below the number of tiles does. -/
def compute (i : grid0.Coords) (m1 : Memref sig .tc .smem S49152 .i32) (m3 : Memref sig .tc .vmem S32768x128 .i32) (m4 : Memref sig .tc .vmem S1x1024x1536 .i8) (m5 : Memref sig .tc .vmem S1x16x1536 .f32) (m6 : Memref sig .tc .vmem S256x768 .bf16) (h6 : m6.IsWhole) (m7 : Memref sig .tc .vmem S2056x128 .i32) (m8 : Memref sig .tc .vmem S256x2048 .bf16) (h8 : m8.IsWhole)
    (v0 : BitVec 32) (hw : k0_chk257 i v0) (h2 : k0_cond2 i v0 = 1#1) : Prog (TpuEff nD τ sig (Elt F) Λ₀ .tc) PUnit := do
  unpack m7 m8 h8 8 0 (by omega)
  rows1 i v0 hw h2 m1 m3 m7 85 0 (by omega)
  chunk m4 m5 m6 h6 m8 0 (by omega)
  rows1 i v0 hw h2 m1 m3 m7 85 85 (by omega)
  chunk m4 m5 m6 h6 m8 256 (by omega)
  rows1 i v0 hw h2 m1 m3 m7 86 170 (by omega)
  chunk m4 m5 m6 h6 m8 512 (by omega)

/-- The body after the first gather. -/
def tail (i : grid0.Coords) (m1 : Memref sig .tc .smem S49152 .i32) (m3 : Memref sig .tc .vmem S32768x128 .i32) (m4 : Memref sig .tc .vmem S1x1024x1536 .i8) (m5 : Memref sig .tc .vmem S1x16x1536 .f32) (m6 : Memref sig .tc .vmem S256x768 .bf16) (h6 : m6.IsWhole) (m7 : Memref sig .tc .vmem S2056x128 .i32) (m8 : Memref sig .tc .vmem S256x2048 .bf16) (h8 : m8.IsWhole)
    (v0 : BitVec 32) (hw : k0_chk257 i v0) : Prog (TpuEff nD τ sig (Elt F) Λ₀ .tc) PUnit :=
  if h2 : k0_cond2 i v0 = 1#1 then compute i m1 m3 m4 m5 m6 h6 m7 m8 h8 v0 hw h2 >>= fun _ => pure ⟨⟩ else pure ⟨⟩

/-- The body as rows, slices and chunks. -/
def body (i : grid0.Coords) (m1 : Memref sig .tc .smem S49152 .i32) (m2 : Memref sig .tc .smem S8x256 .i32) (m3 : Memref sig .tc .vmem S32768x128 .i32) (m4 : Memref sig .tc .vmem S1x1024x1536 .i8) (m5 : Memref sig .tc .vmem S1x16x1536 .f32) (m6 : Memref sig .tc .vmem S256x768 .bf16) (h6 : m6.IsWhole) (m7 : Memref sig .tc .vmem S2056x128 .i32) (m8 : Memref sig .tc .vmem S256x2048 .bf16) (h8 : m8.IsWhole) :
    Prog (TpuEff nD τ sig (Elt F) Λ₀ .tc) PUnit :=
  smemLoad m2 (Rect.unit (s := S8x256) ![1, 0] S1x1.size inb_S8x256_S1x1_1_0) numel1_S1x1 rfl >>= fun v0 : Elt F .i32 =>
  Prog.lift (TpuEff.assume (k0_chk257 i v0) (k0_chk257.dec i v0)) >>= fun hw =>
  if h1 : k0_cond1 i = 1#1 then rows0 i h1 m1 m3 m7 256 0 (by omega) >>= fun _ => tail i m1 m3 m4 m5 m6 h6 m7 m8 h8 v0 hw.down
  else tail i m1 m3 m4 m5 m6 h6 m7 m8 h8 v0 hw.down

theorem body_eq (i : grid0.Coords) (arg1 : Memref sig .tc .smem S49152 .i32) (harg1 : arg1.IsWhole) (arg2 : Memref sig .tc .smem S8x256 .i32) (harg2 : arg2.IsWhole) (arg3 : Memref sig .tc .vmem S32768x128 .i32) (harg3 : arg3.IsWhole) (arg4 : Memref sig .tc .vmem S1x1024x1536 .i8) (harg4 : arg4.IsWhole) (arg5 : Memref sig .tc .vmem S1x16x1536 .f32) (harg5 : arg5.IsWhole) (arg6 : Memref sig .tc .vmem S256x768 .bf16) (harg6 : arg6.IsWhole) (arg7 : Memref sig .tc .vmem S2056x128 .i32) (harg7 : arg7.IsWhole) (arg8 : Memref sig .tc .vmem S256x2048 .bf16) (harg8 : arg8.IsWhole) :
    cc0_gate_up (F := F) i arg1 harg1 arg2 harg2 arg3 harg3 arg4 harg4 arg5 harg5 arg6 harg6 arg7 harg7 arg8 harg8
      = body i arg1 arg2 arg3 arg4 arg5 arg6 harg6 arg7 arg8 harg8 := by
  chain_rfl

end Cert.KernelIdeal.Hand

end
-- ==== Proof.Owned.lean ====
module

public import proofs.«01_k».proof.Proof.Rows
public import Idealize.ShloMosaic.Lib.Pointwise
public import Idealize.ShloMosaic.Lib.Pipeline.TableIdle
public import Idealize.ShloMosaic.Lib.Writes
public import Idealize.ShloMosaic.Lib.Tactic
public import Idealize.ShloMosaic.Lib.Exec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Contents with a rectangle overwritten. -/
def upd {V : Type} {s : Shape} (r : Rect s) (w : r.shape.Idx → V) (x : s.Idx → V) : s.Idx → V :=
  open Classical in fun y => if h : ∃ j, r.emb j = y then w h.choose else x y

theorem upd_hit {V : Type} {s : Shape} (r : Rect s) (w : r.shape.Idx → V) (x : s.Idx → V) (j : r.shape.Idx) {y : s.Idx} (h : r.emb j = y) :
    upd r w x y = w j := by
  have h' : ∃ j, r.emb j = y := ⟨j, h⟩
  unfold upd
  rw [dif_pos h', r.emb.injective (h'.choose_spec.trans h.symm)]

theorem upd_miss {V : Type} {s : Shape} (r : Rect s) (w : r.shape.Idx → V) (x : s.Idx → V) {y : s.Idx} (h : ∀ j, r.emb j ≠ y) :
    upd r w x y = x y := by
  unfold upd
  rw [dif_neg (by rintro ⟨j, hj⟩; exact h j hj)]

theorem read_write_upd {κ : Kind} {sp : Space} {s : Shape} {e : EltTy} (m : Memref sig κ sp s e) (r : Rect s) (w : r.shape.Idx → Elt F e) (f : m.view.ty.Contents (Elt F)) :
    m.view.read (Elt F) ((m.access r).write (Elt F) f w Finset.univ) = upd r w (m.view.read (Elt F) f) := by
  funext y
  by_cases h : ∃ j, r.emb j = y
  · obtain ⟨j, hj⟩ := h
    rw [upd_hit r w _ j hj, ← hj]
    exact View.read_slice_write_emb r f w (Finset.mem_univ j)
  · have h' : ∀ j, r.emb j ≠ y := fun j hj => h ⟨j, hj⟩
    rw [upd_miss r w _ h']
    refine View.read_slice_write_of_not_mem r f w _ ?_
    intro hm
    obtain ⟨j, -, hj⟩ := Finset.mem_map.mp hm
    exact h' j hj

section Steps

variable (c : Dev nD) {Q : PUnit → sProp 𝕄}

/-- A load, of a memref owned at some contents. -/
theorem wp_load_owns {cs : CoreSpace} {s : Shape} {e : EltTy} {m : Memref sig .tc cs s e} {r : LoadRect s} {hl : m.view.LoadsAt r} {α : Type} {Q : α → sProp 𝕄}
    {k : (r.shape.Idx → Elt F e) → Prog (TpuEff nD τ sig (Elt F) Λ₀ .tc) α} {q : PosShare TreeShare} {X : s.Idx → Elt F e} :
    iprop(owns (c : Thread nD τ) m q X ∗ (owns (c : Thread nD τ) m q X -∗ wp frame (wpE (defs₀ (F := F)) Variants.none c none) Set.univ (k fun j => X (r.idx j)) Q))
      ⊢ wp frame (wpE (defs₀ (F := F)) Variants.none c none) Set.univ (.op (.load m r hl) k) Q := by
  unfold owns
  iintro ⟨⟨%f, %hf, H⟩, Hk⟩
  iapply (wp_load Variants.none (c : Thread nD τ) none Set.univ (m := m) (r := r) (S := m.view.set) (q := q) (f := f) (m.view.setOn_subset_set r.set)) $$ H
  iintro H
  subst hf
  iapply Hk
  iexists f
  isplitr
  · ipureintro; rfl
  · iexact H

/-- An unmasked store, of a memref owned at some contents. -/
theorem wp_store_owns {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {α : Type} {Q : α → sProp 𝕄}
    {k : PUnit → Prog (TpuEff nD τ sig (Elt F) Λ₀ .tc) α} {X : s.Idx → Elt F e} :
    iprop(owns (c : Thread nD τ) m fullShare X ∗ (owns (c : Thread nD τ) m fullShare (upd r w X) -∗ wp frame (wpE (defs₀ (F := F)) Variants.none c none) Set.univ (k ⟨⟩) Q))
      ⊢ wp frame (wpE (defs₀ (F := F)) Variants.none c none) Set.univ (.op (.store m r w Finset.univ hx hm) k) Q := by
  unfold owns
  iintro ⟨⟨%f, %hf, H⟩, Hk⟩
  iapply (wp_store Variants.none (c : Thread nD τ) none Set.univ (m := m) (r := r) (w := w) (Mk := Finset.univ) (hx := hx) (hm := hm) (S := m.view.set) (f := f) (m.setOn_access_subset r Finset.univ)) $$ H
  iintro H
  iapply Hk
  iexists _
  isplitr
  · ipureintro; exact (read_write_upd m r w f).trans (by rw [hf])
  · iexact H

/-- A load, at a name for what is read. -/
theorem wp_load_at {cs : CoreSpace} {s : Shape} {e : EltTy} {m : Memref sig .tc cs s e} {r : LoadRect s} {hl : m.view.LoadsAt r} {α : Type} {Q : α → sProp 𝕄}
    {k : (r.shape.Idx → Elt F e) → Prog (TpuEff nD τ sig (Elt F) Λ₀ .tc) α} {q : PosShare TreeShare} {X : s.Idx → Elt F e} (v : r.shape.Idx → Elt F e) (hv : ∀ j, X (r.idx j) = v j) :
    iprop(owns (c : Thread nD τ) m q X ∗ (owns (c : Thread nD τ) m q X -∗ wp frame (wpE (defs₀ (F := F)) Variants.none c none) Set.univ (k v) Q))
      ⊢ wp frame (wpE (defs₀ (F := F)) Variants.none c none) Set.univ (.op (.load m r hl) k) Q := by
  obtain rfl : (fun j => X (r.idx j)) = v := funext hv
  exact wp_load_owns c

/-- An unmasked store, at a name for the new contents. -/
theorem wp_store_at {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {α : Type} {Q : α → sProp 𝕄}
    {k : PUnit → Prog (TpuEff nD τ sig (Elt F) Λ₀ .tc) α} {X : s.Idx → Elt F e} (Y : s.Idx → Elt F e) (hY : upd r w X = Y) :
    iprop(owns (c : Thread nD τ) m fullShare X ∗ (owns (c : Thread nD τ) m fullShare Y -∗ wp frame (wpE (defs₀ (F := F)) Variants.none c none) Set.univ (k ⟨⟩) Q))
      ⊢ wp frame (wpE (defs₀ (F := F)) Variants.none c none) Set.univ (.op (.store m r w Finset.univ hx hm) k) Q := by
  subst hY
  exact wp_store_owns c

/-- A load of one word of a table. -/
theorem wp_smem_owns {s : Shape} {e : EltTy} {m : Memref sig .tc .smem s e} {r : Rect s} {h1 : r.shape.numel = 1} {hp : e.packing = 1} {α : Type} {Q : α → sProp 𝕄}
    {k : Elt F e → Prog (TpuEff nD τ sig (Elt F) Λ₀ .tc) α} {q : PosShare TreeShare} {X : s.Idx → Elt F e} :
    iprop(owns (c : Thread nD τ) m q X ∗ (owns (c : Thread nD τ) m q X -∗
        wp frame (wpE (defs₀ (F := F)) Variants.none c none) Set.univ (k (X (r.emb (Shape.Idx.first (h1.symm ▸ Nat.one_pos))))) Q))
      ⊢ wp frame (wpE (defs₀ (F := F)) Variants.none c none) Set.univ (smemLoad m r h1 hp >>= k) Q := by
  have e : smemLoad m r h1 hp >>= k = smemLoadElt m r (View.loads_smem_one hp h1) (Shape.Idx.first (h1.symm ▸ Nat.one_pos)) k := rfl
  rw [e]
  exact wp_load_owns (F := F) c (m := m) (r := r.toLoadRect) (q := q) (X := X) (k := fun f => k (f (Shape.Idx.first (h1.symm ▸ Nat.one_pos))))

end Steps

end Cert.KernelIdeal.Hand

end
-- ==== Proof.Gather.lean ====
module

public import proofs.«01_k».proof.Proof.Owned

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Word `a` of the list. -/
def rdL (L : S49152.Idx → Elt F .i32) (a : ℕ) : Elt F .i32 := L (ix1 ⟨a % 49152, Nat.mod_lt _ (by decide)⟩)
/-- Word `(a, b)` of the table. -/
def rdT (T : S32768x128.Idx → Elt F .i32) (a b : ℕ) : Elt F .i32 :=
  T (ix2 ⟨a % 32768, Nat.mod_lt _ (by decide)⟩ ⟨b % 128, Nat.mod_lt _ (by decide)⟩)

/-- What a gathered tile's buffer holds: at row `257 * j + r` the `j`-th slice of the table's row that the list names for row `r`. -/
def gat (L : S49152.Idx → Elt F .i32) (T : S32768x128.Idx → Elt F .i32) (tile : ℕ) : S2056x128.Idx → Elt F .i32 := fun x =>
  rdT T (k0_off2 (rdL L (tile * 256 + (x 0).val % 257)) 0 + (x 0).val / 257) (x 1).val

/-- `A` at the rows `k … k + n` of the tile, `G` elsewhere. -/
def mix {V : Type} (A : S2056x128.Idx → V) (k n : ℕ) (G : S2056x128.Idx → V) : S2056x128.Idx → V := fun x =>
  if k ≤ (x 0).val % 257 ∧ (x 0).val % 257 < k + n then A x else G x

theorem mix_mix {V : Type} (A : S2056x128.Idx → V) (k n n' : ℕ) (G : S2056x128.Idx → V) : mix A (k + n) n' (mix A k n G) = mix A k (n + n') G := by
  funext x
  unfold mix
  split_ifs <;> first | rfl | omega

theorem mix_zero {V : Type} (A : S2056x128.Idx → V) (k : ℕ) (G : S2056x128.Idx → V) : mix A k 0 G = G := by
  funext x
  unfold mix
  rw [if_neg (by omega)]

/-- The rectangle of one gathered row. -/
abbrev rowRect (r : ℕ) (hr : r < 256) : Rect S2056x128 :=
  ⟨(⟨![r, 0], S8x128.size, ![257, 1], row_inb r hr⟩ : LoadRect S2056x128), spos_257_1⟩

theorem rowRect_emb (r : ℕ) (hr : r < 256) (j : S8x128.Idx) :
    ((rowRect r hr).emb j 0).val = r + 257 * (j 0).val ∧ ((rowRect r hr).emb j 1).val = (j 1).val := by
  constructor
  · rw [Rect.emb_apply]; rfl
  · rw [Rect.emb_apply]; show 0 + 1 * (j 1).val = _; omega

theorem upd_row (r : ℕ) (hr : r < 256) (A G : S2056x128.Idx → Elt F .i32) (w : S8x128.Idx → Elt F .i32)
    (hw : ∀ j, w j = A ((rowRect r hr).emb j)) : upd (rowRect r hr) w G = mix A r 1 G := by
  funext x
  unfold mix
  by_cases h : r ≤ (x 0).val % 257 ∧ (x 0).val % 257 < r + 1
  · rw [if_pos h]
    have h8 : (x 0).val / 257 < 8 := by
      have : (x 0).val < 2056 := (x 0).isLt
      omega
    have hj : (rowRect r hr).emb (ix2 (n0 := 8) (n1 := 128) ⟨(x 0).val / 257, h8⟩ ⟨(x 1).val, (x 1).isLt⟩) = x := by
      have e := rowRect_emb r hr (ix2 (n0 := 8) (n1 := 128) ⟨(x 0).val / 257, h8⟩ ⟨(x 1).val, (x 1).isLt⟩)
      funext a
      match a with
      | ⟨0, _⟩ => refine Fin.ext (e.1.trans ?_); show r + 257 * ((x 0).val / 257) = (x 0).val; omega
      | ⟨1, _⟩ => exact Fin.ext e.2
    rw [upd_hit _ _ _ _ hj, hw, hj]
  · rw [if_neg h]
    refine upd_miss _ _ _ fun j hj => h ?_
    have e := (rowRect_emb r hr j).1
    rw [hj] at e
    have : (j 0).val < 8 := (j 0).isLt
    omega

section Rows

variable (c : Dev nD) (m1 : Memref sig .tc .smem S49152 .i32) (m3 : Memref sig .tc .vmem S32768x128 .i32) (m7 : Memref sig .tc .vmem S2056x128 .i32)
    (chk : BitVec 32 → Prop) (dec : ∀ v, Decidable (chk v))
    (inb : ∀ v, chk v → ∀ a, k0_off2 v a + S8x128.size a ≤ S32768x128.size a)
    (q1 q3 : PosShare TreeShare) (L : S49152.Idx → Elt F .i32) (T : S32768x128.Idx → Elt F .i32)

theorem wp_row (o : Fin 1 → ℕ) (ho : ∀ a, o a + S1.size a ≤ S49152.size a) (tile r : ℕ) (hr : r < 256) (hto : o 0 = tile * 256 + r)
    (hc : chk (rdL L (tile * 256 + r))) (G : S2056x128.Idx → Elt F .i32) {Q : PUnit → sProp 𝕄} :
    iprop(owns (c : Thread nD τ) m1 q1 L ∗ owns (c : Thread nD τ) m3 q3 T ∗ owns (c : Thread nD τ) m7 fullShare G
        ∗ (owns (c : Thread nD τ) m1 q1 L ∗ owns (c : Thread nD τ) m3 q3 T ∗ owns (c : Thread nD τ) m7 fullShare (mix (gat L T tile) r 1 G) -∗ Q ⟨⟩))
      ⊢ wp frame (wpE (defs₀ (F := F)) Variants.none c none) Set.univ (row m1 m3 m7 chk dec inb o ho r hr) Q := by
  have hlt : o 0 + 1 ≤ 49152 := ho 0
  have hword : L ((Rect.unit (s := S49152) o S1.size ho).emb (Shape.Idx.first (numel1_S1.symm ▸ Nat.one_pos))) = rdL L (tile * 256 + r) := by
    unfold rdL
    congr 1
    funext a
    match a with
    | ⟨0, _⟩ =>
      refine Fin.ext ?_
      rw [Rect.emb_apply]
      show o 0 + 1 * 0 = (tile * 256 + r) % 49152
      rw [hto] at hlt ⊢
      omega
  unfold row
  iintro ⟨H1, H3, H7, Hk⟩
  iapply (wp_smem_owns (F := F) c (m := m1) (q := q1) (X := L))
  isplitl [H1]; · iexact H1
  iintro H1
  rw [hword]
  generalize hv : rdL L (tile * 256 + r) = v at hc
  simp only [Prog.bind_lift]
  iapply (wp_assume Variants.none (c : Thread nD τ) none Set.univ hc)
  simp only [Prog.bind_lift]
  iapply (wp_load_owns (F := F) c (m := m3) (q := q3) (X := T))
  isplitl [H3]; · iexact H3
  iintro H3
  iapply (wp_load_owns (F := F) c (m := m7) (q := fullShare) (X := G))
  isplitl [H7]; · iexact H7
  iintro H7
  iapply (wp_store_owns (F := F) c (m := m7) (r := rowRect r hr) (X := G))
  isplitl [H7]; · iexact H7
  iintro H7
  rw [upd_row r hr (gat L T tile) G _ ?hw]
  case hw =>
    intro j
    have e := rowRect_emb r hr j
    have hj0 : (j 0).val < 8 := (j 0).isLt
    have hj1 : (j 1).val < 128 := (j 1).isLt
    have h0 : k0_off2 v 0 + 8 ≤ 32768 := inb v hc 0
    have hd : (r + 257 * (j 0).val) / 257 = (j 0).val := by omega
    have hm : (r + 257 * (j 0).val) % 257 = r := by omega
    unfold gat
    rw [e.1, e.2, hm, hd, hv]
    unfold rdT
    rw [show shapeCast S8x128 (fun j => T ((Rect.unit (s := S32768x128) (k0_off2 v) S8x128.size (inb v hc)).toLoadRect.idx j)) shapeCasts_S8x128_S8x128 j
      = T ((Rect.unit (s := S32768x128) (k0_off2 v) S8x128.size (inb v hc)).toLoadRect.idx j) from by pointwise]
    congr 1
    funext a
    match a with
    | ⟨0, _⟩ =>
      refine Fin.ext ?_
      rw [LoadRect.idx_apply]
      show k0_off2 v 0 + 1 * (j 0).val = (k0_off2 v 0 + (j 0).val) % 32768
      omega
    | ⟨1, _⟩ =>
      refine Fin.ext ?_
      rw [LoadRect.idx_apply]
      show 0 + 1 * (j 1).val = (j 1).val % 128
      omega
  iapply (le_wp_ret _ _ _ _ Q)
  iapply Hk
  isplitl [H1]; · iexact H1
  isplitl [H3]; · iexact H3
  iexact H7

theorem wp_rows (o : ℕ → Fin 1 → ℕ) (ho : ∀ r, r < 256 → ∀ a, o r a + S1.size a ≤ S49152.size a) (tile : ℕ) (hto : ∀ r, r < 256 → o r 0 = tile * 256 + r)
    (hc : ∀ r, r < 256 → chk (rdL L (tile * 256 + r))) {Q : PUnit → sProp 𝕄} : ∀ (n k : ℕ) (h : k + n ≤ 256) (G : S2056x128.Idx → Elt F .i32),
    iprop(owns (c : Thread nD τ) m1 q1 L ∗ owns (c : Thread nD τ) m3 q3 T ∗ owns (c : Thread nD τ) m7 fullShare G
        ∗ (owns (c : Thread nD τ) m1 q1 L ∗ owns (c : Thread nD τ) m3 q3 T ∗ owns (c : Thread nD τ) m7 fullShare (mix (gat L T tile) k n G) -∗ Q ⟨⟩))
      ⊢ wp frame (wpE (defs₀ (F := F)) Variants.none c none) Set.univ (rows m1 m3 m7 chk dec inb o ho n k h) Q
  | 0, k, h, G => by
    unfold rows
    rw [mix_zero]
    iintro ⟨H1, H3, H7, Hk⟩
    iapply (le_wp_ret _ _ _ _ Q)
    iapply Hk
    isplitl [H1]; · iexact H1
    isplitl [H3]; · iexact H3
    iexact H7
  | n + 1, k, h, G => by
    unfold rows
    rw [wp_bind]
    iintro ⟨H1, H3, H7, Hk⟩
    iapply (wp_row c m1 m3 m7 chk dec inb q1 q3 L T (o k) _ tile k _ (hto k (by omega)) (hc k (by omega)) G)
    isplitl [H1]; · iexact H1
    isplitl [H3]; · iexact H3
    isplitl [H7]; · iexact H7
    iintro ⟨H1, H3, H7⟩
    iapply (wp_rows o ho tile hto hc n (k + 1) _ (mix (gat L T tile) k 1 G))
    isplitl [H1]; · iexact H1
    isplitl [H3]; · iexact H3
    isplitl [H7]; · iexact H7
    rw [mix_mix, Nat.add_comm 1 n]
    iexact Hk

end Rows

end Cert.KernelIdeal.Hand

end
-- ==== Proof.Words.lean ====
module

public import proofs.«01_k».proof.Proof.Gather
public import Idealize.ShloMosaic.Lib.WordCmp
public import Idealize.ShloMosaic.Lib.WordArith

@[expose] public section

set_option maxRecDepth 16384

noncomputable section

namespace Cert.KernelIdeal.Hand

open Cert.KernelIdeal Cert.KernelIdeal.Gen
open Idealize.ShloMosaic Idealize.ShloMosaic.TcCoe

/-- A condition word is the comparison's own bit. -/
theorem cond_iff (b : BitVec 1) : Scalar.cmpi .ne (Scalar.extui b : BitVec 32) 0#32 = 1#1 ↔ b = 1#1 := by
  revert b; decide

theorem slt_iff (a b : ℕ) (ha : a < 2 ^ 31) (hb : b < 2 ^ 31) : Scalar.cmpi .slt (BitVec.ofNat 32 a) (BitVec.ofNat 32 b) = 1#1 ↔ a < b := by
  word_cmp

theorem cond1_iff (i : grid0.Coords) : k0_cond1 i = 1#1 ↔ (i 0).val = 0 := by
  have hi : (i 0).val < 192 := (i 0).isLt
  refine (cond_iff _).trans ?_
  generalize (i 0).val = a at hi
  word_cmp

theorem cond2_iff (i : grid0.Coords) (n : ℕ) (hn : n ≤ 192) : k0_cond2 i (BitVec.ofNat 32 n) = 1#1 ↔ (i 0).val < n := by
  have hi : (i 0).val < 192 := (i 0).isLt
  exact (cond_iff _).trans (slt_iff _ _ (by omega) (by omega))

/-- The tile gathered ahead, as a number. -/
theorem nxt_toNat (i : grid0.Coords) (n : ℕ) (h1 : 1 ≤ n) (hn : n ≤ 192) : (nxt i (BitVec.ofNat 32 n)).toNat = min ((i 0).val + 1) (n - 1) := by
  have hi : (i 0).val < 192 := (i 0).isLt
  have ha : (Scalar.addi (BitVec.ofNat 32 (i 0).val) 1#32).toNat = (i 0).val + 1 := by
    simp only [Scalar.addi, IntOp.addi, BitVec.toNat_add, BitVec.toNat_ofNat]; omega
  have hb : (Scalar.subi (BitVec.ofNat 32 n) 1#32).toNat = n - 1 := by
    simp only [Scalar.subi, IntOp.subi, BitVec.toNat_sub, BitVec.toNat_ofNat]; omega
  unfold nxt
  refine (WordArith.toNat_minsi_of_lt _ _ ?_ ?_).trans (by rw [ha, hb])
  · rw [ha]; omega
  · rw [hb]; omega

theorem nxtOff_zero (i : grid0.Coords) (n : ℕ) (h1 : 1 ≤ n) (hn : n ≤ 192) (r : ℕ) (hr : r < 256) :
    nxtOff i (BitVec.ofNat 32 n) r 0 = min ((i 0).val + 1) (n - 1) * 256 + r := by
  have h := nxt_toNat i n h1 hn
  unfold nxtOff
  simp only [Scalar.indexCast, Scalar.addi, Scalar.muli, IntOp.addi, IntOp.muli, Matrix.cons_val_zero, Matrix.cons_val_fin_one, BitVec.toNat_add, BitVec.toNat_mul, BitVec.toNat_ofNat, h]
  omega

theorem chk257 (i : grid0.Coords) (n : ℕ) (h1 : 1 ≤ n) (hn : n ≤ 192) : k0_chk257 i (BitVec.ofNat 32 n) := by
  refine chk257_intro _ _ fun r hr _ a => ?_
  obtain rfl : a = 0 := Subsingleton.elim _ _
  rw [nxtOff_zero i n h1 hn r hr]
  show min ((i 0).val + 1) (n - 1) * 256 + r + 1 ≤ 49152
  omega

/-- The first of the eight table rows that a word of the list names, where the word is not negative. -/
theorem off2_zero (v : BitVec 32) (hv : v.toNat < 2 ^ 31) : k0_off2 v 0 = min (v.toNat / 8) 4095 * 8 := by
  have hs : (Scalar.shrsi v 3#32).toNat = v.toNat / 8 := by
    have hm : v.msb = false := by
      rw [BitVec.msb_eq_false_iff_two_mul_lt]; omega
    unfold Scalar.shrsi IntOp.shrsi
    rw [if_pos (by decide), BitVec.sshiftRight_eq', BitVec.sshiftRight_eq_of_msb_false hm, BitVec.toNat_ushiftRight, Nat.shiftRight_eq_div_pow]
    rfl
  have hmin : (Scalar.minsi (Scalar.shrsi v 3#32) 4095#32).toNat = min (v.toNat / 8) 4095 :=
    (WordArith.toNat_minsi_of_lt _ _ (by rw [hs]; omega) (by decide)).trans (by rw [hs]; rfl)
  show (Scalar.muli (Scalar.minsi (Scalar.shrsi v 3#32) 4095#32) 8#32).toNat = _
  simp only [Scalar.muli, IntOp.muli, BitVec.toNat_mul, hmin, BitVec.toNat_ofNat]
  omega

theorem off2_inb (v : BitVec 32) (hv : v.toNat < 2 ^ 31) : ∀ a, k0_off2 v a + S8x128.size a ≤ S32768x128.size a := by
  intro a
  match a with
  | ⟨0, _⟩ =>
    have h := off2_zero v hv
    show k0_off2 v 0 + 8 ≤ 32768
    omega
  | ⟨1, _⟩ => exact (show 0 + 128 ≤ 128 from le_rfl)

end Cert.KernelIdeal.Hand

end
-- ==== Proof.Tile.lean ====
module

public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `A` where `p` holds, `G` elsewhere. -/
def blend {V : Type} {s : Shape} (p : s.Idx → Prop) (A G : s.Idx → V) : s.Idx → V := open Classical in fun x => if p x then A x else G x

theorem blend_blend {V : Type} {s : Shape} (p p' : s.Idx → Prop) (A G : s.Idx → V) : blend p' A (blend p A G) = blend (fun x => p x ∨ p' x) A G := by
  funext x
  unfold blend
  by_cases h : p x <;> by_cases h' : p' x <;> simp [h, h']

theorem blend_all {V : Type} {s : Shape} (p : s.Idx → Prop) (A G : s.Idx → V) (h : ∀ x, p x) : blend p A G = A := by
  funext x
  unfold blend
  rw [if_pos (h x)]

theorem upd_blend {V : Type} {s : Shape} (r : Rect s) (p : s.Idx → Prop) (A G : s.Idx → V) (w : r.shape.Idx → V)
    (hp : ∀ x, p x → ∃ j, r.emb j = x) (hr : ∀ j, p (r.emb j)) (hw : ∀ j, w j = A (r.emb j)) : upd r w G = blend p A G := by
  funext x
  unfold blend
  by_cases h : p x
  · obtain ⟨j, hj⟩ := hp x h
    rw [if_pos h, upd_hit r w G j hj, hw, hj]
  · rw [if_neg h]
    exact upd_miss r w G fun j hj => h (hj ▸ hr j)

/-! ## The bf16 rows -/

/-- Slice `j` of the gathered rows. -/
def slc (G : S2056x128.Idx → Elt F .i32) (j : ℕ) : S256x128.Idx → Elt F .i32 := fun y =>
  G (ix2 (n0 := 2056) (n1 := 128) ⟨(257 * j + (y 0).val) % 2056, Nat.mod_lt _ (by decide)⟩ ⟨(y 1).val % 128, Nat.mod_lt _ (by decide)⟩)

/-- The bf16 rows: the low halves in the first 1024 columns, the high halves in the others. -/
def xb (G : S2056x128.Idx → Elt F .i32) : S256x2048.Idx → Elt F .bf16 := fun y =>
  if (y 1).val < 1024 then lowHalf (F := F) (slc G ((y 1).val / 128)) (ix2 (n0 := 256) (n1 := 128) ⟨(y 0).val, (y 0).isLt⟩ ⟨(y 1).val % 128, Nat.mod_lt _ (by decide)⟩)
  else highHalf (F := F) (slc G (((y 1).val - 1024) / 128)) (ix2 (n0 := 256) (n1 := 128) ⟨(y 0).val, (y 0).isLt⟩ ⟨(y 1).val % 128, Nat.mod_lt _ (by decide)⟩)

theorem unit_emb2 {a b p q o : ℕ} (inb : ∀ x, (![0, o] : Fin 2 → ℕ) x + (![p, q] : Fin 2 → ℕ) x ≤ (⟨2, ![a, b]⟩ : Shape).size x) (j : (⟨2, ![p, q]⟩ : Shape).Idx) :
    ((Rect.unit (s := ⟨2, ![a, b]⟩) ![0, o] ![p, q] inb).emb j 0).val = (j 0).val ∧ ((Rect.unit (s := ⟨2, ![a, b]⟩) ![0, o] ![p, q] inb).emb j 1).val = o + (j 1).val := by
  constructor
  · rw [Rect.emb_apply]; show 0 + 1 * (j 0).val = _; omega
  · rw [Rect.emb_apply]; show o + 1 * (j 1).val = _; omega

/-- A block of columns overwritten by the columns of `A`. -/
theorem upd_cols {V : Type} {a b q o : ℕ} (inb : ∀ x, (![0, o] : Fin 2 → ℕ) x + (![a, q] : Fin 2 → ℕ) x ≤ (⟨2, ![a, b]⟩ : Shape).size x)
    (A G : (⟨2, ![a, b]⟩ : Shape).Idx → V) (w : (⟨2, ![a, q]⟩ : Shape).Idx → V)
    (hw : ∀ j, w j = A ((Rect.unit (s := ⟨2, ![a, b]⟩) ![0, o] ![a, q] inb).emb j)) :
    upd (Rect.unit (s := ⟨2, ![a, b]⟩) ![0, o] ![a, q] inb) w G = blend (fun x => o ≤ (x 1).val ∧ (x 1).val < o + q) A G := by
  refine upd_blend _ _ _ _ _ (fun x hx => ?_) (fun j => ?_) hw
  · refine ⟨ix2 (n0 := a) (n1 := q) ⟨(x 0).val, (x 0).isLt⟩ ⟨(x 1).val - o, by omega⟩, ?_⟩
    have e := unit_emb2 inb (ix2 (n0 := a) (n1 := q) ⟨(x 0).val, (x 0).isLt⟩ ⟨(x 1).val - o, by omega⟩)
    funext d
    match d with
    | ⟨0, _⟩ => exact Fin.ext e.1
    | ⟨1, _⟩ => refine Fin.ext (e.2.trans ?_); show o + ((x 1).val - o) = (x 1).val; omega
  · have e := unit_emb2 inb j
    have : (j 1).val < q := (j 1).isLt
    dsimp only
    rw [e.2]; omega

section Steps

variable (c : Dev nD)

theorem wp_put (m8 : Memref sig .tc .vmem S256x2048 .bf16) (h8 : m8.IsWhole) (o : ℕ) (ho : o ≤ 1920) (x : FVec F S256x128 .bf16) (A X : S256x2048.Idx → Elt F .bf16)
    (hx : ∀ j, x j = A ((Rect.unit (s := S256x2048) ![0, o] S256x128.size (x8_inb o ho)).emb j)) {Q : PUnit → sProp 𝕄} :
    iprop(owns (c : Thread nD τ) m8 fullShare X ∗ (owns (c : Thread nD τ) m8 fullShare (blend (fun y => o ≤ (y 1).val ∧ (y 1).val < o + 128) A X) -∗ Q ⟨⟩))
      ⊢ wp frame (wpE (defs₀ (F := F)) Variants.none c none) Set.univ (put m8 h8 o ho x) Q := by
  unfold put
  simp only [Prog.bind_lift]
  iintro ⟨H8, Hk⟩
  iapply (wp_load_owns (F := F) c (m := m8) (q := fullShare) (X := X))
  isplitl [H8]; · iexact H8
  iintro H8
  iapply (wp_store_owns (F := F) c (m := m8) (X := X))
  isplitl [H8]; · iexact H8
  iintro H8
  rw [show upd (Rect.unit (s := S256x2048) ![0, o] S256x128.size (x8_inb o ho)) x X = _ from upd_cols (x8_inb o ho) A X x hx]
  iapply (le_wp_ret _ _ _ _ Q)
  iapply Hk
  iexact H8

/-- The slices `k … k + n` of the bf16 rows, of both halves. -/
abbrev inSl (k n : ℕ) (y : S256x2048.Idx) : Prop := 128 * k ≤ (y 1).val % 1024 ∧ (y 1).val % 1024 < 128 * (k + n)

theorem wp_unpack (m7 : Memref sig .tc .vmem S2056x128 .i32) (m8 : Memref sig .tc .vmem S256x2048 .bf16) (h8 : m8.IsWhole) (G : S2056x128.Idx → Elt F .i32) {Q : PUnit → sProp 𝕄} :
    ∀ (n k : ℕ) (h : k + n ≤ 8) (X : S256x2048.Idx → Elt F .bf16),
    iprop(owns (c : Thread nD τ) m7 fullShare G ∗ owns (c : Thread nD τ) m8 fullShare X
        ∗ (owns (c : Thread nD τ) m7 fullShare G ∗ owns (c : Thread nD τ) m8 fullShare (blend (inSl k n) (xb G) X) -∗ Q ⟨⟩))
      ⊢ wp frame (wpE (defs₀ (F := F)) Variants.none c none) Set.univ (unpack m7 m8 h8 n k h) Q
  | 0, k, h, X => by
    unfold unpack
    rw [show blend (inSl k 0) (xb G) X = X from by
      funext y; unfold blend; rw [if_neg]; rintro ⟨h1, h2⟩; omega]
    iintro ⟨H7, H8, Hk⟩
    iapply (le_wp_ret _ _ _ _ Q)
    iapply Hk
    isplitl [H7]; · iexact H7
    iexact H8
  | n + 1, k, h, X => by
    unfold unpack
    simp only [Prog.bind_lift]
    iintro ⟨H7, H8, Hk⟩
    have hs : ∀ j, G ((Rect.unit (s := S2056x128) ![257 * k, 0] S256x128.size (x7_inb k (by omega))).toLoadRect.idx j) = slc G k j := by
      intro j
      have h0 : (j 0).val < 256 := (j 0).isLt
      have h1 : (j 1).val < 128 := (j 1).isLt
      unfold slc
      congr 1
      funext d
      match d with
      | ⟨0, _⟩ =>
        refine Fin.ext ?_
        rw [LoadRect.idx_apply]
        show 257 * k + 1 * (j 0).val = (257 * k + (j 0).val) % 2056
        omega
      | ⟨1, _⟩ =>
        refine Fin.ext ?_
        rw [LoadRect.idx_apply]
        show 0 + 1 * (j 1).val = (j 1).val % 128
        omega
    iapply (wp_load_at (F := F) c (m := m7) (q := fullShare) (X := G) (slc G k) hs)
    isplitl [H7]; · iexact H7
    iintro H7
    rw [wp_bind]
    iapply (wp_put c m8 h8 (128 * k) _ (lowHalf (slc G k)) (xb G) X ?lo)
    case lo =>
      intro j
      have e := unit_emb2 (x8_inb (128 * k) (by omega)) j
      have h1 : (j 1).val < 128 := (j 1).isLt
      unfold xb
      rw [if_pos (show _ < 1024 by rw [e.2]; omega)]
      rw [show ((Rect.unit (s := S256x2048) ![0, 128 * k] S256x128.size (x8_inb (128 * k) (by omega))).emb j 1).val / 128 = k from by rw [e.2]; omega]
      congr 1
      funext d
      match d with
      | ⟨0, _⟩ => exact Fin.ext e.1.symm
      | ⟨1, _⟩ => refine Fin.ext ?_; show (j 1).val = _ % 128; rw [e.2]; omega
    isplitl [H8]; · iexact H8
    iintro H8
    rw [wp_bind]
    iapply (wp_put c m8 h8 (1024 + 128 * k) _ (highHalf (slc G k)) (xb G) _ ?hi)
    case hi =>
      intro j
      have e := unit_emb2 (x8_inb (1024 + 128 * k) (by omega)) j
      have h1 : (j 1).val < 128 := (j 1).isLt
      unfold xb
      rw [if_neg (show ¬ _ < 1024 by rw [e.2]; omega)]
      rw [show (((Rect.unit (s := S256x2048) ![0, 1024 + 128 * k] S256x128.size (x8_inb (1024 + 128 * k) (by omega))).emb j 1).val - 1024) / 128 = k from by rw [e.2]; omega]
      congr 1
      funext d
      match d with
      | ⟨0, _⟩ => exact Fin.ext e.1.symm
      | ⟨1, _⟩ => refine Fin.ext ?_; show (j 1).val = _ % 128; rw [e.2]; omega
    isplitl [H8]; · iexact H8
    iintro H8
    rw [blend_blend]
    iapply (wp_unpack m7 m8 h8 G n (k + 1) _ _)
    isplitl [H7]; · iexact H7
    isplitl [H8]; · iexact H8
    rw [blend_blend]
    rw [show blend (fun x => ((128 * k ≤ (x 1).val ∧ (x 1).val < 128 * k + 128) ∨ (1024 + 128 * k ≤ (x 1).val ∧ (x 1).val < 1024 + 128 * k + 128)) ∨ inSl (k + 1) n x) (xb G) X = blend (inSl k (n + 1)) (xb G) X from by
      congr 1
      funext y
      have hy : (y 1).val < 2048 := (y 1).isLt
      refine propext ?_
      unfold inSl
      omega]
    iexact Hk

/-! ## The products -/

/-- 256 columns of a block of weights. -/
def wsl (W : S1x1024x1536.Idx → Elt F .i8) (o : ℕ) : S1x1024x256.Idx → Elt F .i8 := fun j =>
  W (ix3 (n0 := 1) (n1 := 1024) (n2 := 1536) ⟨0, Nat.one_pos⟩ ⟨(j 1).val, (j 1).isLt⟩ ⟨(o + (j 2).val) % 1536, Nat.mod_lt _ (by decide)⟩)
/-- 256 columns of a block of scales. -/
def ssl (S : S1x16x1536.Idx → Elt F .f32) (o : ℕ) : S1x16x256.Idx → Elt F .f32 := fun j =>
  S (ix3 (n0 := 1) (n1 := 16) (n2 := 1536) ⟨0, Nat.one_pos⟩ ⟨(j 1).val, (j 1).isLt⟩ ⟨(o + (j 2).val) % 1536, Nat.mod_lt _ (by decide)⟩)

/-- The result's block. -/
def aof (X : S256x2048.Idx → Elt F .bf16) (W : S1x1024x1536.Idx → Elt F .i8) (S : S1x16x1536.Idx → Elt F .f32) : S256x768.Idx → Elt F .bf16 := fun y =>
  let o := 256 * ((y 1).val / 256)
  gate (F := F) (prod X (wsl W o) (ssl S o)) (prod X (wsl W (768 + o)) (ssl S (768 + o))) (ix2 (n0 := 256) (n1 := 256) ⟨(y 0).val, (y 0).isLt⟩ ⟨(y 1).val % 256, Nat.mod_lt _ (by decide)⟩)

theorem load_w (W : S1x1024x1536.Idx → Elt F .i8) (o : ℕ) (ho : o ≤ 1280) :
    ∀ j, W ((Rect.unit (s := S1x1024x1536) ![0, 0, o] S1x1024x256.size (w_inb o ho)).toLoadRect.idx j) = wsl W o j := by
  intro j
  have h2 : (j 2).val < 256 := (j 2).isLt
  unfold wsl
  congr 1
  funext d
  match d with
  | ⟨0, _⟩ => exact Subsingleton.elim (α := Fin 1) _ _
  | ⟨1, _⟩ =>
    refine Fin.ext ?_
    rw [LoadRect.idx_apply]
    show 0 + 1 * (j 1).val = (j 1).val
    omega
  | ⟨2, _⟩ =>
    refine Fin.ext ?_
    rw [LoadRect.idx_apply]
    show o + 1 * (j 2).val = (o + (j 2).val) % 1536
    omega

theorem load_s (S : S1x16x1536.Idx → Elt F .f32) (o : ℕ) (ho : o ≤ 1280) :
    ∀ j, S ((Rect.unit (s := S1x16x1536) ![0, 0, o] S1x16x256.size (s_inb o ho)).toLoadRect.idx j) = ssl S o j := by
  intro j
  have h2 : (j 2).val < 256 := (j 2).isLt
  unfold ssl
  congr 1
  funext d
  match d with
  | ⟨0, _⟩ => exact Subsingleton.elim (α := Fin 1) _ _
  | ⟨1, _⟩ =>
    refine Fin.ext ?_
    rw [LoadRect.idx_apply]
    show 0 + 1 * (j 1).val = (j 1).val
    omega
  | ⟨2, _⟩ =>
    refine Fin.ext ?_
    rw [LoadRect.idx_apply]
    show o + 1 * (j 2).val = (o + (j 2).val) % 1536
    omega

theorem load_x (X : S256x2048.Idx → Elt F .bf16) :
    ∀ j, X ((Rect.unit (s := S256x2048) ![0, 0] S256x2048.size inb_S256x2048_S256x2048_0_0).toLoadRect.idx j) = X j := by
  intro j
  congr 1
  funext d
  match d with
  | ⟨0, _⟩ =>
    refine Fin.ext ?_
    rw [LoadRect.idx_apply]
    show 0 + 1 * (j 0).val = (j 0).val
    omega
  | ⟨1, _⟩ =>
    refine Fin.ext ?_
    rw [LoadRect.idx_apply]
    show 0 + 1 * (j 1).val = (j 1).val
    omega

theorem wp_chunk (m4 : Memref sig .tc .vmem S1x1024x1536 .i8) (m5 : Memref sig .tc .vmem S1x16x1536 .f32) (m6 : Memref sig .tc .vmem S256x768 .bf16) (h6 : m6.IsWhole) (m8 : Memref sig .tc .vmem S256x2048 .bf16)
    (k : ℕ) (ho : 256 * k ≤ 512) (X : S256x2048.Idx → Elt F .bf16) (W : S1x1024x1536.Idx → Elt F .i8) (S : S1x16x1536.Idx → Elt F .f32) (B : S256x768.Idx → Elt F .bf16) {Q : PUnit → sProp 𝕄} :
    iprop(owns (c : Thread nD τ) m4 fullShare W ∗ owns (c : Thread nD τ) m5 fullShare S ∗ owns (c : Thread nD τ) m6 fullShare B ∗ owns (c : Thread nD τ) m8 fullShare X
        ∗ (owns (c : Thread nD τ) m4 fullShare W ∗ owns (c : Thread nD τ) m5 fullShare S ∗ owns (c : Thread nD τ) m6 fullShare (blend (fun y => 256 * k ≤ (y 1).val ∧ (y 1).val < 256 * k + 256) (aof X W S) B)
            ∗ owns (c : Thread nD τ) m8 fullShare X -∗ Q ⟨⟩))
      ⊢ wp frame (wpE (defs₀ (F := F)) Variants.none c none) Set.univ (chunk m4 m5 m6 h6 m8 (256 * k) ho) Q := by
  unfold chunk
  simp only [Prog.bind_lift]
  iintro ⟨H4, H5, H6, H8, Hk⟩
  iapply (wp_load_at (F := F) c (m := m8) (q := fullShare) (X := X) X (load_x X))
  isplitl [H8]; · iexact H8
  iintro H8
  iapply (wp_load_at (F := F) c (m := m4) (q := fullShare) (X := W) (wsl W (256 * k)) (load_w W (256 * k) (by omega)))
  isplitl [H4]; · iexact H4
  iintro H4
  iapply (wp_load_at (F := F) c (m := m5) (q := fullShare) (X := S) (ssl S (256 * k)) (load_s S (256 * k) (by omega)))
  isplitl [H5]; · iexact H5
  iintro H5
  iapply (wp_load_at (F := F) c (m := m4) (q := fullShare) (X := W) (wsl W (768 + 256 * k)) (load_w W (768 + 256 * k) (by omega)))
  isplitl [H4]; · iexact H4
  iintro H4
  iapply (wp_load_at (F := F) c (m := m5) (q := fullShare) (X := S) (ssl S (768 + 256 * k)) (load_s S (768 + 256 * k) (by omega)))
  isplitl [H5]; · iexact H5
  iintro H5
  iapply (wp_load_owns (F := F) c (m := m6) (q := fullShare) (X := B))
  isplitl [H6]; · iexact H6
  iintro H6
  iapply (wp_store_at (F := F) c (m := m6) (X := B) _ (upd_cols (a_inb (256 * k) ho) (aof X W S) B
    (gate (prod X (wsl W (256 * k)) (ssl S (256 * k))) (prod X (wsl W (768 + 256 * k)) (ssl S (768 + 256 * k)))) ?h))
  case h =>
    intro j
    have e := unit_emb2 (a_inb (256 * k) ho) j
    have h1 : (j 1).val < 256 := (j 1).isLt
    unfold aof
    dsimp only
    rw [show 256 * (((Rect.unit (s := S256x768) ![0, 256 * k] S256x256.size (a_inb (256 * k) ho)).emb j 1).val / 256) = 256 * k from by rw [e.2]; omega]
    congr 1
    funext d
    match d with
    | ⟨0, _⟩ => exact Fin.ext e.1.symm
    | ⟨1, _⟩ => refine Fin.ext ?_; show (j 1).val = _ % 256; rw [e.2]; omega
  isplitl [H6]; · iexact H6
  iintro H6
  iapply (le_wp_ret _ _ _ _ Q)
  iapply Hk
  isplitl [H4]; · iexact H4
  isplitl [H5]; · iexact H5
  isplitl [H6]; · iexact H6
  iexact H8

end Steps

end Cert.KernelIdeal.Hand

end
-- ==== Proof.Body.lean ====
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body

variable (c : Dev nD) (i : grid0.Coords)
    (m1 : Memref sig .tc .smem S49152 .i32) (m2 : Memref sig .tc .smem S8x256 .i32) (m3 : Memref sig .tc .vmem S32768x128 .i32) (m4 : Memref sig .tc .vmem S1x1024x1536 .i8) (m5 : Memref sig .tc .vmem S1x16x1536 .f32)
    (m6 : Memref sig .tc .vmem S256x768 .bf16) (h6 : m6.IsWhole) (m7 : Memref sig .tc .vmem S2056x128 .i32) (m8 : Memref sig .tc .vmem S256x2048 .bf16) (h8 : m8.IsWhole)
    (q1 q2 : PosShare TreeShare) (L : S49152.Idx → Elt F .i32) (M : S8x256.Idx → Elt F .i32) (T : S32768x128.Idx → Elt F .i32)
    (W : S1x1024x1536.Idx → Elt F .i8) (S : S1x16x1536.Idx → Elt F .f32) (B : S256x768.Idx → Elt F .bf16) (G : S2056x128.Idx → Elt F .i32) (X : S256x2048.Idx → Elt F .bf16)
    (n : ℕ)

/-- The bf16 rows read the gathered rows only, never the padding rows between the slices. -/
theorem xb_congr (G G' : S2056x128.Idx → Elt F .i32) (h : ∀ x, (x 0).val % 257 < 256 → G x = G' x) : xb G = xb G' := by
  have hs : ∀ j, j < 8 → slc G j = slc G' j := fun j hj => by
    funext y
    have hy : (y 0).val < 256 := (y 0).isLt
    refine h _ ?_
    show (257 * j + (y 0).val) % 2056 % 257 < 256
    omega
  funext y
  have hy : (y 1).val < 2048 := (y 1).isLt
  unfold xb
  split
  · rw [hs _ (by omega)]
  · rw [hs _ (by omega)]

theorem wp_compute (h1 : 1 ≤ n) (hn : n ≤ 192) (hL : ∀ p, p < n * 256 → (rdL L p : BitVec 32).toNat < 2 ^ 31)
    (hw : k0_chk257 i (BitVec.ofNat 32 n)) (h2 : k0_cond2 i (BitVec.ofNat 32 n) = 1#1) {Q : PUnit → sProp 𝕄} :
    iprop(owns (c : Thread nD τ) m1 q1 L ∗ owns (c : Thread nD τ) m3 fullShare T ∗ owns (c : Thread nD τ) m4 fullShare W ∗ owns (c : Thread nD τ) m5 fullShare S ∗ owns (c : Thread nD τ) m6 fullShare B
        ∗ owns (c : Thread nD τ) m7 fullShare G ∗ owns (c : Thread nD τ) m8 fullShare X
        ∗ (owns (c : Thread nD τ) m1 q1 L ∗ owns (c : Thread nD τ) m3 fullShare T ∗ owns (c : Thread nD τ) m4 fullShare W ∗ owns (c : Thread nD τ) m5 fullShare S ∗ owns (c : Thread nD τ) m6 fullShare (aof (xb G) W S)
            ∗ owns (c : Thread nD τ) m7 fullShare (mix (gat L T (min ((i 0).val + 1) (n - 1))) 0 256 G) ∗ owns (c : Thread nD τ) m8 fullShare (xb G) -∗ Q ⟨⟩))
      ⊢ wp frame (wpE (defs₀ (F := F)) Variants.none c none) Set.univ (compute i m1 m3 m4 m5 m6 h6 m7 m8 h8 (BitVec.ofNat 32 n) hw h2) Q := by
  have hto : ∀ r, r < 256 → nxtOff i (BitVec.ofNat 32 n) r 0 = min ((i 0).val + 1) (n - 1) * 256 + r := nxtOff_zero i n h1 hn
  have hc : ∀ r, r < 256 → k0_chk258 i (BitVec.ofNat 32 n) (rdL L (min ((i 0).val + 1) (n - 1) * 256 + r)) := fun r hr _ =>
    off2_inb _ (hL _ (by omega))
  generalize min ((i 0).val + 1) (n - 1) = tile at hto hc ⊢
  unfold compute
  iintro ⟨H1, H3, H4, H5, H6, H7, H8, Hk⟩
  rw [wp_bind]
  iapply (wp_unpack c m7 m8 h8 G 8 0 _ X)
  isplitl [H7]; · iexact H7
  isplitl [H8]; · iexact H8
  rw [blend_all (inSl 0 8) (xb G) X (fun x => by
    have hx : (x 1).val < 2048 := (x 1).isLt
    unfold inSl; omega)]
  iintro ⟨H7, H8⟩
  rw [wp_bind]
  iapply (wp_rows c m1 m3 m7 _ _ _ q1 fullShare L T _ _ tile hto hc 85 0 _ G)
  isplitl [H1]; · iexact H1
  isplitl [H3]; · iexact H3
  isplitl [H7]; · iexact H7
  iintro ⟨H1, H3, H7⟩
  rw [wp_bind]
  iapply (wp_chunk c m4 m5 m6 h6 m8 0 _ (xb G) W S B)
  isplitl [H4]; · iexact H4
  isplitl [H5]; · iexact H5
  isplitl [H6]; · iexact H6
  isplitl [H8]; · iexact H8
  iintro ⟨H4, H5, H6, H8⟩
  rw [wp_bind]
  iapply (wp_rows c m1 m3 m7 _ _ _ q1 fullShare L T _ _ tile hto hc 85 (0 + 85) _ _)
  isplitl [H1]; · iexact H1
  isplitl [H3]; · iexact H3
  isplitl [H7]; · iexact H7
  rw [mix_mix]
  iintro ⟨H1, H3, H7⟩
  rw [wp_bind]
  iapply (wp_chunk c m4 m5 m6 h6 m8 1 _ (xb G) W S _)
  isplitl [H4]; · iexact H4
  isplitl [H5]; · iexact H5
  isplitl [H6]; · iexact H6
  isplitl [H8]; · iexact H8
  rw [blend_blend]
  iintro ⟨H4, H5, H6, H8⟩
  rw [wp_bind]
  iapply (wp_rows c m1 m3 m7 _ _ _ q1 fullShare L T _ _ tile hto hc 86 (0 + (85 + 85)) _ _)
  isplitl [H1]; · iexact H1
  isplitl [H3]; · iexact H3
  isplitl [H7]; · iexact H7
  rw [mix_mix]
  iintro ⟨H1, H3, H7⟩
  iapply (wp_chunk c m4 m5 m6 h6 m8 2 _ (xb G) W S _)
  isplitl [H4]; · iexact H4
  isplitl [H5]; · iexact H5
  isplitl [H6]; · iexact H6
  isplitl [H8]; · iexact H8
  rw [blend_blend, blend_all _ (aof (xb G) W S) B (fun x => by
    have hx : (x 1).val < 768 := (x 1).isLt
    omega)]
  iintro ⟨H4, H5, H6, H8⟩
  iapply Hk
  isplitl [H1]; · iexact H1
  isplitl [H3]; · iexact H3
  isplitl [H4]; · iexact H4
  isplitl [H5]; · iexact H5
  isplitl [H6]; · iexact H6
  isplitl [H7]; · iexact H7
  iexact H8

/-- What the gathered rows are when the point's products are taken: at the first point the point gathers them itself. -/
def gnow : S2056x128.Idx → Elt F .i32 := if (i 0).val = 0 then mix (gat L T 0) 0 256 G else G

theorem wp_tail_live (h1 : 1 ≤ n) (hn : n ≤ 192) (hL : ∀ p, p < n * 256 → (rdL L p : BitVec 32).toNat < 2 ^ 31) (hi : (i 0).val < n)
    (hw : k0_chk257 i (BitVec.ofNat 32 n)) {Q : PUnit → sProp 𝕄} :
    iprop(owns (c : Thread nD τ) m1 q1 L ∗ owns (c : Thread nD τ) m3 fullShare T ∗ owns (c : Thread nD τ) m4 fullShare W ∗ owns (c : Thread nD τ) m5 fullShare S ∗ owns (c : Thread nD τ) m6 fullShare B
        ∗ owns (c : Thread nD τ) m7 fullShare G ∗ owns (c : Thread nD τ) m8 fullShare X
        ∗ (owns (c : Thread nD τ) m1 q1 L ∗ owns (c : Thread nD τ) m3 fullShare T ∗ owns (c : Thread nD τ) m4 fullShare W ∗ owns (c : Thread nD τ) m5 fullShare S ∗ owns (c : Thread nD τ) m6 fullShare (aof (xb G) W S)
            ∗ owns (c : Thread nD τ) m7 fullShare (mix (gat L T (min ((i 0).val + 1) (n - 1))) 0 256 G) ∗ owns (c : Thread nD τ) m8 fullShare (xb G) -∗ Q ⟨⟩))
      ⊢ wp frame (wpE (defs₀ (F := F)) Variants.none c none) Set.univ (tail i m1 m3 m4 m5 m6 h6 m7 m8 h8 (BitVec.ofNat 32 n) hw) Q := by
  have h2 := (cond2_iff i n hn).mpr hi
  unfold tail
  rw [dif_pos h2, wp_bind]
  iintro ⟨H1, H3, H4, H5, H6, H7, H8, Hk⟩
  iapply (wp_compute c i m1 m3 m4 m5 m6 h6 m7 m8 h8 q1 L T W S B G X n h1 hn hL hw h2)
  isplitl [H1]; · iexact H1
  isplitl [H3]; · iexact H3
  isplitl [H4]; · iexact H4
  isplitl [H5]; · iexact H5
  isplitl [H6]; · iexact H6
  isplitl [H7]; · iexact H7
  isplitl [H8]; · iexact H8
  iintro H
  iapply (le_wp_ret _ _ _ _ Q)
  iapply Hk
  iexact H

/-- The word that holds the number of tiles. -/
theorem ntot_word : M ((Rect.unit (s := S8x256) ![1, 0] S1x1.size inb_S8x256_S1x1_1_0).emb (Shape.Idx.first (numel1_S1x1.symm ▸ Nat.one_pos)))
    = M (ix2 (n0 := 8) (n1 := 256) 1 0) := by
  congr 1
  funext a
  match a with
  | ⟨0, _⟩ => rfl
  | ⟨1, _⟩ => rfl

/-- The body at a point below the number of tiles. -/
theorem wp_body_live (hM : M (ix2 (n0 := 8) (n1 := 256) 1 0) = BitVec.ofNat 32 n) (h1 : 1 ≤ n) (hn : n ≤ 192)
    (hL : ∀ p, p < n * 256 → (rdL L p : BitVec 32).toNat < 2 ^ 31) (hi : (i 0).val < n) {Q : PUnit → sProp 𝕄} :
    iprop(owns (c : Thread nD τ) m1 q1 L ∗ owns (c : Thread nD τ) m2 q2 M ∗ owns (c : Thread nD τ) m3 fullShare T ∗ owns (c : Thread nD τ) m4 fullShare W ∗ owns (c : Thread nD τ) m5 fullShare S ∗ owns (c : Thread nD τ) m6 fullShare B
        ∗ owns (c : Thread nD τ) m7 fullShare G ∗ owns (c : Thread nD τ) m8 fullShare X
        ∗ (owns (c : Thread nD τ) m1 q1 L ∗ owns (c : Thread nD τ) m2 q2 M ∗ owns (c : Thread nD τ) m3 fullShare T ∗ owns (c : Thread nD τ) m4 fullShare W ∗ owns (c : Thread nD τ) m5 fullShare S
            ∗ owns (c : Thread nD τ) m6 fullShare (aof (xb (gnow i L T G)) W S)
            ∗ owns (c : Thread nD τ) m7 fullShare (mix (gat L T (min ((i 0).val + 1) (n - 1))) 0 256 (gnow i L T G)) ∗ owns (c : Thread nD τ) m8 fullShare (xb (gnow i L T G)) -∗ Q ⟨⟩))
      ⊢ wp frame (wpE (defs₀ (F := F)) Variants.none c none) Set.univ (body i m1 m2 m3 m4 m5 m6 h6 m7 m8 h8) Q := by
  unfold body
  iintro ⟨H1, H2, H3, H4, H5, H6, H7, H8, Hk⟩
  iapply (wp_smem_owns (F := F) c (m := m2) (q := q2) (X := M))
  isplitl [H2]; · iexact H2
  iintro H2
  rw [ntot_word M, hM]
  iapply (wp_assume Variants.none (c : Thread nD τ) none Set.univ (chk257 i n h1 hn))
  by_cases h0 : (i 0).val = 0
  · have c1 := (cond1_iff i).mpr h0
    have hgn : gnow i L T G = mix (gat L T 0) 0 256 G := if_pos h0
    rw [hgn]
    iapply (Entails.of_eq (congrArg (fun p => wp frame (wpE (defs₀ (F := F)) Variants.none c none) Set.univ p Q) (dif_pos c1).symm))
    rw [wp_bind]
    iapply (wp_rows c m1 m3 m7 (k0_chk1 i) (k0_chk1.dec i) (fun v hw => hw c1) q1 fullShare L T (fun r => ![r]) off0_inb 0
      (fun r _ => by show r = 0 * 256 + r; omega) (fun r hr _ => off2_inb _ (hL _ (by omega))) 256 0 _ G)
    isplitl [H1]; · iexact H1
    isplitl [H3]; · iexact H3
    isplitl [H7]; · iexact H7
    iintro ⟨H1, H3, H7⟩
    iapply (wp_tail_live c i m1 m3 m4 m5 m6 h6 m7 m8 h8 q1 L T W S B (mix (gat L T 0) 0 256 G) X n h1 hn hL hi _)
    isplitl [H1]; · iexact H1
    isplitl [H3]; · iexact H3
    isplitl [H4]; · iexact H4
    isplitl [H5]; · iexact H5
    isplitl [H6]; · iexact H6
    isplitl [H7]; · iexact H7
    isplitl [H8]; · iexact H8
    iintro ⟨H1, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have c1 : ¬ k0_cond1 i = 1#1 := fun h => h0 ((cond1_iff i).mp h)
    have hgn : gnow i L T G = G := if_neg h0
    rw [hgn]
    iapply (Entails.of_eq (congrArg (fun p => wp frame (wpE (defs₀ (F := F)) Variants.none c none) Set.univ p Q) (dif_neg c1).symm))
    iapply (wp_tail_live c i m1 m3 m4 m5 m6 h6 m7 m8 h8 q1 L T W S B G X n h1 hn hL hi _)
    isplitl [H1]; · iexact H1
    isplitl [H3]; · iexact H3
    isplitl [H4]; · iexact H4
    isplitl [H5]; · iexact H5
    isplitl [H6]; · iexact H6
    isplitl [H7]; · iexact H7
    isplitl [H8]; · iexact H8
    iintro ⟨H1, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body at a point past the number of tiles: it reads that number, and stores nothing. -/
theorem wp_body_idle (hM : M (ix2 (n0 := 8) (n1 := 256) 1 0) = BitVec.ofNat 32 n) (h1 : 1 ≤ n) (hn : n ≤ 192) (hi : ¬ (i 0).val < n) {Q : PUnit → sProp 𝕄} :
    iprop(owns (c : Thread nD τ) m2 q2 M ∗ (owns (c : Thread nD τ) m2 q2 M -∗ Q ⟨⟩))
      ⊢ wp frame (wpE (defs₀ (F := F)) Variants.none c none) Set.univ (body i m1 m2 m3 m4 m5 m6 h6 m7 m8 h8) Q := by
  unfold body
  iintro ⟨H2, Hk⟩
  iapply (wp_smem_owns (F := F) c (m := m2) (q := q2) (X := M))
  isplitl [H2]; · iexact H2
  iintro H2
  rw [ntot_word M, hM]
  iapply (wp_assume Variants.none (c : Thread nD τ) none Set.univ (chk257 i n h1 hn))
  have c1 : ¬ k0_cond1 i = 1#1 := fun h => by have := (cond1_iff i).mp h; omega
  have c2 : ¬ k0_cond2 i (BitVec.ofNat 32 n) = 1#1 := fun h => hi ((cond2_iff i n hn).mp h)
  iapply (Entails.of_eq (congrArg (fun p => wp frame (wpE (defs₀ (F := F)) Variants.none c none) Set.univ p Q) (dif_neg c1).symm))
  unfold tail
  rw [dif_neg c2]
  iapply (le_wp_ret _ _ _ _ Q)
  iapply Hk
  iexact H2

end Body

end Cert.KernelIdeal.Hand

end
-- ==== Proof.Same.lean ====
module

public import proofs.«01_k».proof.Defs
public import proofs.«01_k».proof.Proof.Gen.Kernel
public import proofs.«01_k».proof.Proof.Gen.KernelIdeal
public import proofs.«01_k».proof.Proof.Gen.Pre_routed
public import Idealize.ShloMosaic.Lib.Pipeline.Regions

@[expose] public section

set_option maxRecDepth 16384

noncomputable section

namespace Cert.Proof

open Idealize.ShloMosaic Idealize.ShloMosaic.TcCoe Idealize.SL Idealize.SL.Sem

/-- The launch contents satisfy the precondition, on every device, the floats read at `F`. -/
def PreAt (F : FTy → Type) [FloatOps F] (m : (ℓ : Loc Cert.KernelIdeal.nD Cert.KernelIdeal.τ Cert.KernelIdeal.sig) → Buf (Elt F) ℓ) : Prop :=
  ∀ c : Dev Cert.KernelIdeal.nD,
    let p := Cert.Pre_routed.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    p.1 = (fun _ => 1#1) ∧ p.2.1 = (fun _ => 1#1) ∧ p.2.2 = (fun _ => 1#1)

/-- The frame claim of the one program text, the floats read at `F`. -/
def quiescentAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), PreAt F m →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem quiescent_ideal : quiescentAt Ideal = Cert.quiescent_KernelIdeal := by
  chain_rfl

theorem quiescent_bits : quiescentAt Bits = Cert.quiescent_Kernel := by
  chain_rfl

end Cert.Proof

end
-- ==== Proof.Pre.lean ====
module

public import proofs.«01_k».proof.Proof.Words
public import proofs.«01_k».proof.Proof.Same

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide

theorem ofBool_one (p : Prop) [Decidable p] : BitVec.ofBool (decide p) = 1#1 ↔ p := by
  by_cases h : p <;> simp [h]

theorem sge_one (a b : BitVec 32) : IntOp.cmpi .sge a b = 1#1 ↔ b.toInt ≤ a.toInt := ofBool_one _
theorem sle_one (a b : BitVec 32) : IntOp.cmpi .sle a b = 1#1 ↔ a.toInt ≤ b.toInt := ofBool_one _
theorem slt_one (a b : BitVec 32) : IntOp.cmpi .slt a b = 1#1 ↔ a.toInt < b.toInt := ofBool_one _

/-- What the precondition says of the two tables: between 1 and 192 tiles are in use, every tile's expert is one of the
    64, and no word of the list is negative at the rows in use. -/
structure Routed (L : S49152.Idx → Elt F .i32) (M : S8x256.Idx → Elt F .i32) (n : ℕ) : Prop where
  pos : 1 ≤ n
  le : n ≤ 192
  word : M (ix2 (n0 := 8) (n1 := 256) 1 0) = BitVec.ofNat 32 n
  expert : ∀ j (hj : j < 192), (M (ix2 (n0 := 8) (n1 := 256) 0 ⟨j, by omega⟩) : BitVec 32).toNat < 64
  token : ∀ p, p < n * 256 → (rdL L p : BitVec 32).toNat < 2 ^ 31

theorem routed_of (L : S49152.Idx → Elt F .i32) (M : S8x256.Idx → Elt F .i32) (T : S32768x128.Idx → Elt F .i32) (W : S64x1024x1536.Idx → Elt F .i8) (S : S64x16x1536.Idx → Elt F .f32)
    (h1 : (Cert.Pre_routed.fn (F := F) L M T W S).1 = fun _ => 1#1) (h2 : (Cert.Pre_routed.fn (F := F) L M T W S).2.1 = fun _ => 1#1)
    (h3 : (Cert.Pre_routed.fn (F := F) L M T W S).2.2 = fun _ => 1#1) : ∃ n, Routed (F := F) L M n := by
  have e0 : ∀ x : Cert.Pre_routed.S_.Idx, shapeCast Cert.Pre_routed.S_ (extractStridedSlice Cert.Pre_routed.S1x1 ![1, 0] M Cert.Pre_routed.Gen.slices_S8x256_S1x1_1_0) Cert.Pre_routed.Gen.shapeCasts_S1x1_S_ x
      = M (ix2 (n0 := 8) (n1 := 256) 1 0) := fun x => by
    unfold shapeCast extractStridedSlice
    congr 1
    funext a
    match a with
    | ⟨0, _⟩ => exact Fin.ext (by simp [ix2]; first | rfl | omega)
    | ⟨1, _⟩ => exact Fin.ext (by simp [ix2]; first | rfl | omega)
  have e1 : ∀ j (hj : j < 192), shapeCast Cert.Pre_routed.S192 (extractStridedSlice Cert.Pre_routed.S1x192 ![0, 0] M Cert.Pre_routed.Gen.slices_S8x256_S1x192_0_0) Cert.Pre_routed.Gen.shapeCasts_S1x192_S192 (ix1 ⟨j, hj⟩)
      = M (ix2 (n0 := 8) (n1 := 256) 0 ⟨j, by omega⟩) := fun j hj => by
    simp only [pointwise]
    congr 1
    funext a
    match a with
    | ⟨0, _⟩ => exact Fin.ext (by simp [ix2])
    | ⟨1, _⟩ => exact Fin.ext (by simp [ix2])
  have c1 := congrFun h1 (fun a => a.elim0)
  change IntOp.andi (IntOp.cmpi .sge (shapeCast _ _ _ _) 1#32) (IntOp.cmpi .sle (shapeCast _ _ _ _) 192#32) = 1#1 at c1
  rw [e0, and_one, sge_one, sle_one] at c1
  have c2 : ∀ j (hj : j < 192), 0 ≤ (M (ix2 (n0 := 8) (n1 := 256) 0 ⟨j, by omega⟩) : BitVec 32).toInt ∧ (M (ix2 (n0 := 8) (n1 := 256) 0 ⟨j, by omega⟩) : BitVec 32).toInt < 64 := fun j hj => by
    have c := congrFun h2 (ix1 ⟨j, hj⟩)
    change IntOp.andi (IntOp.cmpi .sge (shapeCast _ _ _ _) 0#32) (IntOp.cmpi .slt (shapeCast _ _ _ _) 64#32) = 1#1 at c
    rw [e1, and_one, sge_one, slt_one] at c
    exact c
  have c3 : ∀ p (hp : p < 49152), (IntOp.muli (M (ix2 (n0 := 8) (n1 := 256) 1 0)) 256#32 : BitVec 32).toInt ≤ (BitVec.ofNat 32 p).toInt ∨ 0 ≤ (L (ix1 ⟨p, hp⟩) : BitVec 32).toInt := fun p hp => by
    have c := congrFun h3 (ix1 ⟨p, hp⟩)
    change IntOp.ori (IntOp.cmpi .sge (BitVec.ofNat 32 p) (IntOp.muli (shapeCast _ _ _ _) 256#32)) (IntOp.cmpi .sge (L (ix1 ⟨p, hp⟩)) 0#32) = 1#1 at c
    rw [e0, or_one, sge_one, sge_one] at c
    exact c
  generalize hv : (M (ix2 (n0 := 8) (n1 := 256) 1 0) : BitVec 32) = v at c1 c3
  have t1 : (1#32 : BitVec 32).toInt = 1 := by decide
  have t192 : (192#32 : BitVec 32).toInt = 192 := by decide
  have hvn : v.toInt = v.toNat := by
    have hc := BitVec.toInt_eq_toNat_cond v
    have hl := v.isLt
    rw [t1, t192] at c1
    split at hc <;> omega
  rw [t1, t192, hvn] at c1
  refine ⟨v.toNat, by omega, by omega, by rw [hv, BitVec.ofNat_toNat, BitVec.setWidth_eq], fun j hj => ?_, fun p hp => ?_⟩
  · have h := c2 j hj
    generalize (M (ix2 (n0 := 8) (n1 := 256) 0 ⟨j, by omega⟩) : BitVec 32) = w at h
    have hc := BitVec.toInt_eq_toNat_cond w
    have hl := w.isLt
    show w.toNat < 64
    split at hc <;> omega
  · have h := c3 (p % 49152) (Nat.mod_lt _ (by decide))
    have hm : (IntOp.muli v 256#32).toNat = v.toNat * 256 := by
      simp only [IntOp.muli, BitVec.toNat_mul, BitVec.toNat_ofNat]; omega
    have hm' := BitVec.toInt_eq_toNat_cond (IntOp.muli v 256#32)
    have hq := BitVec.toInt_eq_toNat_cond (BitVec.ofNat 32 (p % 49152))
    rw [BitVec.toNat_ofNat] at hq
    rw [hm] at hm'
    unfold rdL
    generalize (L (ix1 ⟨p % 49152, Nat.mod_lt _ (by decide)⟩) : BitVec 32) = w at h ⊢
    have hw := BitVec.toInt_eq_toNat_cond w
    have hl := w.isLt
    split at hm' <;> split at hq <;> split at hw <;> omega

/-! ## The windows' blocks at such tables -/

/-- The word at a one-element rectangle of the second table. -/
theorem at_eq (pf : pre0.Contents (Elt F)) (off : Fin 2 → Nat) (h : ∀ a, off a + S1x1.size a ≤ S8x256.size a) (a b : ℕ) (ha : a < 8) (hb : b < 256) (h0 : off 0 = a) (h1 : off 1 = b) :
    pf.at 1 (Rect.unit (s := S8x256) off S1x1.size h) numel1_S1x1 = (pf 1 : S8x256.Idx → Elt F .i32) (ix2 ⟨a, ha⟩ ⟨b, hb⟩) := by
  subst h0; subst h1
  show (pf 1 : S8x256.Idx → Elt F .i32) _ = _
  congr 1
  funext a
  match a with
  | ⟨0, _⟩ => rfl
  | ⟨1, _⟩ => rfl

/-- The expert of tile `t`. -/
def expertOf (M : S8x256.Idx → Elt F .i32) (t : ℕ) : ℕ := (M (ix2 (n0 := 8) (n1 := 256) 0 ⟨t % 256, Nat.mod_lt _ (by decide)⟩) : BitVec 32).toNat

variable (pf : pre0.Contents (Elt F)) (n : ℕ)

theorem ix_1 (i : grid0.Coords) : cc0_transform_1 k0_off1_inb numel1_S1x1 pf i = ![expertOf (F := F) (pf 1) (i 0).val, 0, 0] := by
  have hi : (i 0).val < 192 := (i 0).isLt
  have hb : (i 0).val % 256 = (i 0).val := by omega
  refine Eq.trans (b := ![BitVec.toNat (pf.at 1 (Rect.unit (s := S8x256) (k0_off1 i) S1x1.size (k0_off1_inb i)) numel1_S1x1), 0, 0]) rfl ?_
  rw [at_eq pf _ _ 0 ((i 0).val % 256) (by omega) (by omega) rfl (by
    show (Scalar.indexCast (BitVec.ofNat 32 (i 0).val) : BitVec 32).toNat = _
    simp only [Scalar.indexCast, BitVec.toNat_ofNat]; omega)]
  rfl

theorem ix_2 (i : grid0.Coords) : cc0_transform_2 k0_off1_inb numel1_S1x1 pf i = ![expertOf (F := F) (pf 1) (i 0).val, 0, 0] := ix_1 pf i

variable {pf n}

theorem ix_3 (hr : Routed (F := F) (pf 0) (pf 1) n) (i : grid0.Coords) : cc0_transform_3 inb_S8x256_S1x1_1_0 numel1_S1x1 pf i = ![min (i 0).val (n - 1), 0] := by
  have hi : (i 0).val < 192 := (i 0).isLt
  have h1 := hr.pos
  have h2 := hr.le
  have hb : (Scalar.subi (BitVec.ofNat 32 n) 1#32).toNat = n - 1 := by
    simp only [Scalar.subi, IntOp.subi, BitVec.toNat_sub, BitVec.toNat_ofNat]; omega
  refine Eq.trans (b := ![(Scalar.minsi (BitVec.ofNat 32 (i 0).val) (Scalar.subi (pf.at 1 (Rect.unit (s := S8x256) ![1, 0] S1x1.size inb_S8x256_S1x1_1_0) numel1_S1x1) 1#32)).toNat, 0]) rfl ?_
  rw [at_eq pf _ _ 1 0 (by omega) (by omega) rfl rfl]
  have hm : (Scalar.minsi (BitVec.ofNat 32 (i 0).val) (Scalar.subi (BitVec.ofNat 32 n) 1#32)).toNat = min (i 0).val (n - 1) := by
    have ha : (BitVec.ofNat 32 (i 0).val).toNat = (i 0).val := by rw [BitVec.toNat_ofNat]; omega
    exact (WordArith.toNat_minsi_of_lt _ _ (by rw [ha]; omega) (by rw [hb]; omega)).trans (by rw [ha, hb])
  have hw : (pf 1 : S8x256.Idx → Elt F .i32) (ix2 ⟨1, by omega⟩ ⟨0, by omega⟩) = BitVec.ofNat 32 n := hr.word
  rw [hw]
  rw [hm]

theorem expertOf_lt (hr : Routed (F := F) (pf 0) (pf 1) n) (i : grid0.Coords) : expertOf (F := F) (pf 1) (i 0).val < 64 := by
  have hi : (i 0).val < 192 := (i 0).isLt
  have h := hr.expert (i 0).val hi
  unfold expertOf
  have e : (⟨(i 0).val % 256, Nat.mod_lt _ (by decide)⟩ : Fin 256) = ⟨(i 0).val, by omega⟩ := Fin.ext (Nat.mod_eq_of_lt (by omega))
  rw [e]
  exact h

/-- The condition the region checks of the tables. -/
theorem ok_of (hr : Routed (F := F) (pf 0) (pf 1) n) : ok0 (F := F) pf := by
  refine ⟨fun i => ?_, fun i => ?_, fun i => ?_⟩
  · have he := expertOf_lt hr i
    have h : ∀ a, (cc0_transform_1 k0_off1_inb numel1_S1x1 pf i a + 1) * S1x1024x1536.size a ≤ S64x1024x1536.size a := by
      rw [ix_1]
      intro a
      match a with
      | ⟨0, _⟩ => exact (show (expertOf (F := F) (pf 1) (i 0).val + 1) * 1 ≤ 64 by omega)
      | ⟨1, _⟩ => exact (show (0 + 1) * 1024 ≤ 1024 by omega)
      | ⟨2, _⟩ => exact (show (0 + 1) * 1536 ≤ 1536 by omega)
    refine ⟨h, .inr (.inr ⟨(show 2 ≤ 3 by omega), rfl, ?_, rfl⟩)⟩
    show cc0_transform_1 k0_off1_inb numel1_S1x1 pf i 1 * 1024 = 0
    rw [ix_1]; rfl
  · have he := expertOf_lt hr i
    refine ⟨?_, .inl rfl⟩
    rw [ix_2]
    intro a
    match a with
    | ⟨0, _⟩ => exact (show (expertOf (F := F) (pf 1) (i 0).val + 1) * 1 ≤ 64 by omega)
    | ⟨1, _⟩ => exact (show (0 + 1) * 16 ≤ 16 by omega)
    | ⟨2, _⟩ => exact (show (0 + 1) * 1536 ≤ 1536 by omega)
  · have h1 := hr.pos
    have h2 := hr.le
    have h : ∀ a, (cc0_transform_3 inb_S8x256_S1x1_1_0 numel1_S1x1 pf i a + 1) * S256x768.size a ≤ S49152x768.size a := by
      rw [ix_3 hr]
      intro a
      match a with
      | ⟨0, _⟩ => exact (show (min (i 0).val (n - 1) + 1) * 256 ≤ 49152 by omega)
      | ⟨1, _⟩ => exact (show (0 + 1) * 768 ≤ 768 by omega)
    refine ⟨h, .inr (.inl <| .inr ⟨(show 2 ≤ 2 from le_rfl), rfl, .inl ⟨?_, (show (2:ℕ) ∣ 256 by decide)⟩⟩)⟩
    show (2:ℕ) ∣ cc0_transform_3 inb_S8x256_S1x1_1_0 numel1_S1x1 pf i 0 * 256
    omega

end Cert.KernelIdeal.Hand

end
-- ==== Proof.Frame.lean ====
module

public import proofs.«01_k».proof.Proof.Body
public import proofs.«01_k».proof.Proof.Pre
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Ring
public import Idealize.ShloMosaic.Lib.Affine
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (n : ℕ)
variable (m : (ℓ : Loc nD τ sig) → Buf (Elt F) ℓ) (ρ : Dev nD → PrngReg)

/-- The pipeline at the tables `a`, and as the one pipeline of @main. -/
abbrev cfgA : Pipeline.Cfg sig Λ₀ := cfg0 (F := F) a
abbrev pcs : Fin 1 → Pipeline.Cfg sig Λ₀ := Pipeline.pin (pcfgs (F := F)) fun _ => a

/-- The two tables. -/
abbrev lstA : S49152.Idx → Elt F .i32 := a.1 0
abbrev metaA : S8x256.Idx → Elt F .i32 := a.1 1

/-- Each window's current buffer at point `t`. -/
abbrev ms0 (t : Fin (cfgA a).N) : Memref sig .tc .vmem S32768x128 .i32 := spec0_0.stage ((cfgA a).slots t (0 : Fin 4))
abbrev ms1 (t : Fin (cfgA a).N) : Memref sig .tc .vmem S1x1024x1536 .i8 := spec0_1.stage ((cfgA a).slots t (1 : Fin 4))
abbrev ms2 (t : Fin (cfgA a).N) : Memref sig .tc .vmem S1x16x1536 .f32 := spec0_2.stage ((cfgA a).slots t (2 : Fin 4))
abbrev ms3 (t : Fin (cfgA a).N) : Memref sig .tc .vmem S256x768 .bf16 := spec0_3.stage ((cfgA a).slots t (3 : Fin 4))
abbrev hs3 (t : Fin (cfgA a).N) : (ms3 a t).IsWhole := hstage0_3 (((cfgA a).slots t (3 : Fin 4)).cast nbuf0_3)

theorem coord_val (t : Fin (cfgA a).N) : (((cfgA a).grid.coords t) 0).val = t.val := by
  have hN : t.val < 192 := lt_of_lt_of_eq t.isLt N_0
  rw [Pipeline.Grid.coords_val (G := (cfgA a).grid) t 0 (S := 1) (B := 192) (show grid0.stride 0 = 1 by decide) rfl]
  omega

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) ((s₀ m ρ).mem (((cfgA a).win w).arr.view.loc (c : Thread nD τ)))

/-- The packed rows. -/
abbrev tab (c : Dev nD) : S32768x128.Idx → Elt F .i32 := m ((c : Thread nD τ).loc main_arg2)

/-- The first window is the whole array. -/
theorem iblk_0 (c : Dev nD) (t : Fin (cfgA a).N) : iblk a m ρ c (0 : Fin 4) t = tab m c := by
  funext x
  show m ((c : Thread nD τ).loc main_arg2) _ = m ((c : Thread nD τ).loc main_arg2) x
  congr 1
  funext k
  refine Fin.ext ?_
  match k with
  | ⟨0, _⟩ => exact ((cfgA a).win (0 : Fin 4)).rect_emb_val_of_index_zero t 0 rfl x
  | ⟨1, _⟩ => exact ((cfgA a).win (0 : Fin 4)).rect_emb_val_of_index_zero t 1 rfl x

/-- The tile whose rows point `t` works on or, past the last tile, whose result stays in the buffer. -/
def tl (t : ℕ) : ℕ := min t (n - 1)

theorem tl_lt (t : Fin (cfgA a).N) : tl n t.val < (cfgA a).N := lt_of_le_of_lt (Nat.min_le_left _ _) t.isLt

/-- What a tile's point stores: the products of the tile's rows with its expert's blocks. -/
def res (c : Dev nD) (t : Fin (cfgA a).N) : S256x768.Idx → Elt F .bf16 :=
  aof (xb (gat (lstA a) (tab m c) t.val)) (iblk a m ρ c (1 : Fin 4) t) (iblk a m ρ c (2 : Fin 4) t)

/-- What the output's buffer holds after point `t`. -/
def after3 (c : Dev nD) (t : Fin (cfgA a).N) : S256x768.Idx → Elt F .bf16 := res a m ρ c ⟨tl n t.val, tl_lt a n t⟩

/-- The gathered rows of a tile, whatever lies between the slices. -/
def Good (c : Dev nD) (tile : ℕ) (G : S2056x128.Idx → Elt F .i32) : Prop := ∀ x, (x 0).val % 257 < 256 → G x = gat (lstA a) (tab m c) tile x

/-- The invariant before point `t`: the gathered rows of the point's tile, from the second point on; the bf16 rows at any
    contents; the body's halves of the tables. -/
def Phi (c : Dev nD) (t : Fin ((cfgA a).N + 1)) : sProp 𝕄 :=
  iprop((∃ G, ⌜1 ≤ t.val → Good a m c (tl n t.val) G⌝ ∗ owns (c : Thread nD τ) (Memref.whole cc0_scratch0) fullShare G)
    ∗ (∃ X, owns (c : Thread nD τ) (Memref.whole cc0_scratch1) fullShare X)
    ∗ owns (c : Thread nD τ) (Memref.whole main_arg0) fullShare.right (lstA a)
    ∗ owns (c : Thread nD τ) (Memref.whole main_arg1) fullShare.right (metaA a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => after3 a n m ρ c t
  Φ t := Phi a n m c t
  q _ := fullShare
  owed _ := 0

theorem after_0 (c : Dev nD) (t : Fin (cfgA a).N) : (dats a n m ρ 0 c).after (0 : Fin 4) t = iblk a m ρ c (0 : Fin 4) t := rfl
theorem after_1 (c : Dev nD) (t : Fin (cfgA a).N) : (dats a n m ρ 0 c).after (1 : Fin 4) t = iblk a m ρ c (1 : Fin 4) t := rfl
theorem after_2 (c : Dev nD) (t : Fin (cfgA a).N) : (dats a n m ρ 0 c).after (2 : Fin 4) t = iblk a m ρ c (2 : Fin 4) t := rfl
theorem after_3 (c : Dev nD) (t : Fin (cfgA a).N) : (dats a n m ρ 0 c).after (3 : Fin 4) t = after3 a n m ρ c t := rfl

theorem before_0 (c : Dev nD) (t : Fin (cfgA a).N) (d) : (dats a n m ρ 0 c).before (0 : Fin 4) t d = iblk a m ρ c (0 : Fin 4) t :=
  ((dats a n m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a n m ρ 0 c).before (1 : Fin 4) t d = iblk a m ρ c (1 : Fin 4) t :=
  ((dats a n m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a n m ρ 0 c).before (2 : Fin 4) t d = iblk a m ρ c (2 : Fin 4) t :=
  ((dats a n m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The output window's schedule -/

variable {n}
variable (hr : Routed (F := F) (lstA a) (metaA a) n)

include hr in
theorem idle_3 (t : Fin (cfgA a).N) : (cfgA a).idle (3 : Fin 4) ((cfgA a).grid.coords t) = !decide (t.val < n) := by
  have hw : Pipeline.Prefetch.Contents.atD a.1 1 ![1, 0] = BitVec.ofNat 32 n := by
    rw [← hr.word]
    unfold Pipeline.Prefetch.Contents.atD
    refine (dif_pos (show ∀ k : Fin 2, (![1, 0] : Fin 2 → ℕ) k + 1 ≤ S8x256.size k by decide)).trans ?_
    show metaA a _ = metaA a _
    congr 1
    funext k
    match k with
    | ⟨0, _⟩ => rfl
    | ⟨1, _⟩ => rfl
  show (!(k0_cond2 ((cfgA a).grid.coords t) (Pipeline.Prefetch.Contents.atD a.1 1 ![1, 0]) == 1#1)) = _
  rw [hw]
  have h := cond2_iff ((cfgA a).grid.coords t) n hr.le
  rw [coord_val] at h
  congr 1
  exact Bool.eq_iff_iff.mpr ((beq_iff_eq.trans h).trans decide_eq_true_iff.symm)

include hr in
theorem index_3 (t : Fin (cfgA a).N) : ((cfgA a).win (3 : Fin 4)).index t = ![tl n t.val, 0] := by
  refine (ix_3 (pf := a.1) hr ((cfgA a).grid.coords t)).trans ?_
  rw [coord_val]; rfl

include hr in
theorem flush_3 (t : Fin (cfgA a).N) : ((cfgA a).win (3 : Fin 4)).flush t = decide (t.val + 1 < n ∨ t.val + 1 = 192) := by
  have hN : (cfgA a).N = 192 := N_0
  have h1 := hr.pos
  have h2 := hr.le
  have ht : t.val < 192 := lt_of_lt_of_eq t.isLt hN
  have hmv : (∃ h : t.val + 1 < (cfgA a).grid.N, ((cfgA a).win (3 : Fin 4)).index ⟨t.val + 1, h⟩ ≠ ((cfgA a).win (3 : Fin 4)).index t) ↔ t.val + 1 < n := by
    constructor
    · rintro ⟨h, hne⟩
      by_contra hc
      refine hne ?_
      rw [index_3 a hr, index_3 a hr]
      have : tl n (t.val + 1) = tl n t.val := by unfold tl; omega
      show ![tl n (t.val + 1), 0] = _
      rw [this]
    · intro h
      refine ⟨show t.val + 1 < (cfgA a).N by omega, fun he => ?_⟩
      rw [index_3 a hr, index_3 a hr] at he
      have := congrFun he 0
      have : tl n (t.val + 1) = tl n t.val := this
      unfold tl at this
      omega
  unfold Window.flush
  rw [show ((cfgA a).win (3 : Fin 4)).isOut = true from rfl, Bool.true_and]
  refine Bool.eq_iff_iff.mpr ?_
  rw [Bool.or_eq_true, decide_eq_true_iff, decide_eq_true_iff, decide_eq_true_iff, hmv]
  have e : (t.val + 1 = (cfgA a).grid.N) ↔ t.val + 1 = 192 := ⟨fun h => h.trans hN, fun h => h.trans hN.symm⟩
  rw [e]
  exact or_comm

include hr in
theorem fresh_3 (k : ℕ) (hk : k ≤ (cfgA a).N) : (cfgA a).fresh (3 : Fin 4) k = decide (k < n ∨ k = 192) := by
  have h1 := hr.pos
  have h2 := hr.le
  refine Pipeline.Cfg.fresh_tab (cfgA a) (3 : Fin 4) (fun k => decide (k < n ∨ k = 192)) (decide_eq_true (by omega)) (fun t => ?_) k hk
  rw [flush_3 a hr, idle_3 a hr]
  have ht : t.val < 192 := lt_of_lt_of_eq t.isLt N_0
  refine Bool.eq_iff_iff.mpr ?_
  simp only [Bool.or_eq_true, Bool.and_eq_true, Bool.not_eq_true', decide_eq_true_eq, decide_eq_false_iff_not]
  omega

include hr in
theorem carry_3 (c : Dev nD) (t : Fin (cfgA a).N) (ht : ¬ t.val < n) : after3 a n m ρ c t = after3 a n m ρ c ⟨t.val - 1, by omega⟩ := by
  have h1 := hr.pos
  have e : tl n t.val = tl n (t.val - 1) := by unfold tl; omega
  exact congrArg (res a m ρ c) (Fin.ext e)

include hr in
/-- Past the last tile the buffer holds what the last tile's point left. -/
theorem before_3 (c : Dev nD) (t : Fin (cfgA a).N) (ht : ¬ t.val < n) (d) : (dats a n m ρ 0 c).before (3 : Fin 4) t d = after3 a n m ρ c t := by
  have hN : t.val < 192 := lt_of_lt_of_eq t.isLt N_0
  rw [(dats a n m ρ 0 c).before_out_traj (3 : Fin 4) rfl (fun _ _ => rfl) (fun t _ hi _ => by
    rw [idle_3 a hr, Bool.not_eq_true', decide_eq_false_iff_not] at hi
    exact carry_3 a m ρ hr c t hi) t.val t rfl d, fresh_3 a hr t.val (Nat.le_of_lt t.isLt)]
  rw [if_neg (by rw [decide_eq_true_iff]; omega)]
  exact (carry_3 a m ρ hr c t ht).symm

/-! ## The body obligation -/

abbrev bodyAt (t : Fin (cfgA a).N) : Prog (TpuEff nD τ sig (Elt F) Λ₀ .tc) PUnit :=
  cc0_gate_up ((cfgA a).grid.coords t) (Memref.whole main_arg0) (Memref.isWhole_whole _) (Memref.whole main_arg1) (Memref.isWhole_whole _) (ms0 a t) (hstage0_0 (((cfgA a).slots t (0 : Fin 4)).cast nbuf0_0)) (ms1 a t) (hstage0_1 (((cfgA a).slots t (1 : Fin 4)).cast nbuf0_1)) (ms2 a t) (hstage0_2 (((cfgA a).slots t (2 : Fin 4)).cast nbuf0_2)) (ms3 a t) (hs3 a t) (Memref.whole cc0_scratch0) (Memref.isWhole_whole _) (Memref.whole cc0_scratch1) (Memref.isWhole_whole _)

include hr in
set_option maxHeartbeats 1000000 in
theorem sound_body (c : Dev nD) (t : Fin (cfgA a).N) :
    iprop((dats a n m ρ 0 c).Φ t.castSucc ∗ (dats a n m ρ 0 c).owesAt () t.castSucc
        ∗ (∃ d, owns (c : Thread nD τ) (ms0 a t) fullShare ((dats a n m ρ 0 c).before (0 : Fin 4) t d))
        ∗ (∃ d, owns (c : Thread nD τ) (ms1 a t) fullShare ((dats a n m ρ 0 c).before (1 : Fin 4) t d))
        ∗ (∃ d, owns (c : Thread nD τ) (ms2 a t) fullShare ((dats a n m ρ 0 c).before (2 : Fin 4) t d))
        ∗ (∃ d, owns (c : Thread nD τ) (ms3 a t) fullShare ((dats a n m ρ 0 c).before (3 : Fin 4) t d)))
      ⊢ wp frame (wpE (defs₀ (F := F)) Variants.none c none) Set.univ (bodyAt a t) fun _ =>
          iprop((dats a n m ρ 0 c).Φ t.succ ∗ (dats a n m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a n m ρ 0 c).before w t d))
                  | true => owns (c : Thread nD τ) (((cfgA a).win w).stage ((cfgA a).slots t w)) fullShare ((dats a n m ρ 0 c).after w t)
                | false => owns (c : Thread nD τ) (((cfgA a).win w).stage ((cfgA a).slots t w)) fullShare ((dats a n m ρ 0 c).after w t)) := by
  have h1 := hr.pos
  have h2 := hr.le
  have hN : t.val < 192 := lt_of_lt_of_eq t.isLt N_0
  have hcv := coord_val a t
  rw [bigSep_W0, idle_3 a hr, flush_3 a hr]
  rewrite [show (dats a n m ρ 0 c).Φ t.succ = Phi a n m c t.succ from rfl, show (dats a n m ρ 0 c).Φ t.castSucc = Phi a n m c t.castSucc from rfl,
    show (dats a n m ρ 0 c).owesAt () t.succ = (dats a n m ρ 0 c).owesAt () t.castSucc from rfl]
  unfold Phi bodyAt
  rw [body_eq]
  simp only [before_0, before_1, before_2, after_0, after_1, after_2, after_3, Fin.val_castSucc, Fin.val_succ]
  iintro ⟨⟨⟨%G, %hG, H7⟩, ⟨%X, H8⟩, HL, HM⟩, Ho, ⟨%d0, H0⟩, ⟨%d1, H1⟩, ⟨%d2, H2⟩, ⟨%d3, H3⟩⟩
  by_cases ht : t.val < n
  · rw [decide_eq_true ht, Bool.not_true]
    iapply (wp_body_live c ((cfgA a).grid.coords t) (Memref.whole main_arg0) (Memref.whole main_arg1) (ms0 a t) (ms1 a t) (ms2 a t) (ms3 a t) (hs3 a t) (Memref.whole cc0_scratch0) (Memref.whole cc0_scratch1) (Memref.isWhole_whole _)
      fullShare.right fullShare.right (lstA a) (metaA a) (iblk a m ρ c (0 : Fin 4) t) (iblk a m ρ c (1 : Fin 4) t) (iblk a m ρ c (2 : Fin 4) t) _ G X n hr.word h1 h2 hr.token (by rw [hcv]; exact ht))
    isplitl [HL]; · iexact HL
    isplitl [HM]; · iexact HM
    isplitl [H0]; · iexact H0
    isplitl [H1]; · iexact H1
    isplitl [H2]; · iexact H2
    isplitl [H3]; · iexact H3
    isplitl [H7]; · iexact H7
    isplitl [H8]; · iexact H8
    iintro ⟨HL, HM, H0, H1, H2, H3, H7, H8⟩
    have hgn : xb (gnow ((cfgA a).grid.coords t) (lstA a) (iblk a m ρ c (0 : Fin 4) t) G) = xb (gat (lstA a) (tab m c) (tl n t.val)) := by
      have etl : tl n t.val = t.val := by unfold tl; omega
      refine xb_congr _ _ fun x hx => ?_
      unfold gnow
      rw [hcv]
      split
      · next h0 =>
        rw [iblk_0, etl, h0]
        unfold mix
        rw [if_pos ⟨Nat.zero_le _, by omega⟩]
      · next h0 => exact hG (by omega) x hx
    have e3 : after3 a n m ρ c t = aof (xb (gnow ((cfgA a).grid.coords t) (lstA a) (iblk a m ρ c (0 : Fin 4) t) G)) (iblk a m ρ c (1 : Fin 4) t) (iblk a m ρ c (2 : Fin 4) t) := by
      have etl : (⟨tl n t.val, tl_lt a n t⟩ : Fin (cfgA a).N) = t := Fin.ext (by show tl n t.val = t.val; unfold tl; omega)
      have e : tl n t.val = t.val := congrArg Fin.val etl
      rw [hgn, e]
      exact congrArg (res a m ρ c) etl
    rw [e3]
    isplitl [H7 H8 HL HM]
    · isplitl [H7]
      · iexists _
        isplitr; swap
        · iexact H7
        · ipureintro
          intro _ x hx
          rw [hcv, iblk_0]
          unfold mix
          rw [if_pos ⟨Nat.zero_le _, by omega⟩]
          rfl
      isplitl [H8]; · iexists _; iexact H8
      isplitl [HL]; · iexact HL
      iexact HM
    isplitl [Ho]; · iexact Ho
    isplitl [H0]; · iexact H0
    isplitl [H1]; · iexact H1
    isplitl [H2]; · iexact H2
    iexact H3
  · rw [decide_eq_false ht, Bool.not_false]
    iapply (wp_body_idle c ((cfgA a).grid.coords t) (Memref.whole main_arg0) (Memref.whole main_arg1) (ms0 a t) (ms1 a t) (ms2 a t) (ms3 a t) (hs3 a t) (Memref.whole cc0_scratch0) (Memref.whole cc0_scratch1) (Memref.isWhole_whole _)
      fullShare.right (metaA a) n hr.word h1 h2 (by rw [hcv]; exact ht))
    isplitl [HM]; · iexact HM
    iintro HM
    have e : tl n (t.val + 1) = tl n t.val := by unfold tl; omega
    isplitl [H7 H8 HL HM]
    · isplitl [H7]
      · iexists G
        isplitr; swap
        · iexact H7
        · ipureintro
          intro _
          rw [e]
          exact hG (by omega)
      isplitl [H8]; · iexists X; iexact H8
      isplitl [HL]; · iexact HL
      iexact HM
    isplitl [Ho]; · iexact Ho
    isplitl [H0]; · iexact H0
    isplitl [H1]; · iexact H1
    isplitl [H2]; · iexact H2
    cases decide (t.val + 1 < n ∨ t.val + 1 = 192)
    · iexists d3; iexact H3
    · rw [before_3 a m ρ hr c t ht]
      iexact H3

include hr in
/-- The library's body obligation, at every point. -/
theorem body_obligation (c : Dev nD) : BodyObligation (dats a n m ρ 0 c) (defs₀ (F := F)) Variants.none () Set.univ := fun t => by
  rw [bigSep_W0]
  exact sound_body a m ρ hr c t

/-! ## The launch -/

/-- The proof's resource algebra. -/
abbrev EP : Emb (UR sig nD τ) 𝕄 := emb₁

/-- The launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a n m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) a.1 ∗ Pipeline.scopedRest spec0 c) ⊢ (dats a n m ρ 0 c).Φ 0 := by
  rw [prefHeld_eq, scopedRest0_eq, show (dats a n m ρ 0 c).Φ 0 = Phi a n m c 0 from rfl]
  unfold Phi
  simp only [owns_whole]
  iintro ⟨-, ⟨HL, HM⟩, ⟨%f, H7⟩, ⟨%g, H8⟩⟩
  isplitl [H7]
  · iexists f
    isplitr; swap
    · iexact H7
    · ipureintro
      intro h
      exact absurd h (by show ¬ 1 ≤ 0; omega)
  isplitl [H8]; · iexists g; iexact H8
  isplitl [HL]; · iexact HL
  iexact HM

/-- at the last point it gives the scratch buffers back, the tables let go. -/
theorem phiN_exit (c : Dev nD) : (dats a n m ρ 0 c).Φ (Fin.last (cfgA a).N) ⊢ iprop(BI.emp ∗ Pipeline.scopedRest spec0 c) := by
  rw [scopedRest0_eq, show (dats a n m ρ 0 c).Φ (Fin.last (cfgA a).N) = Phi a n m c (Fin.last _) from rfl]
  unfold Phi
  simp only [owns_whole]
  iintro ⟨⟨%f, -, H7⟩, ⟨%g, H8⟩, -, -⟩
  isplitr; · iempintro
  isplitl [H7]; · iexists f; iexact H7
  iexists g; iexact H8

/-- Every array at what the pipeline computes, every table at what it ran at. -/
def QC : PUnit × MemSt nD τ sig (Elt F) → Prop := fun r =>
  ∀ c : Dev nD, (∀ w : Fin (cfgA a).W, r.2.mem (((cfgA a).win w).arr.view.loc (c : Thread nD τ)) = (dats a n m ρ 0 c).arrAt w (cfgA a).N)
    ∧ ∀ j, r.2.mem ((c : Thread nD τ).loc (pre0.ref j)) = a.1 j

variable (hp : ∀ (c : Dev nD) (j : Fin 2), m ((c : Thread nD τ).loc (pre0.ref j)) = a.1 j)

include hr hp in
set_option backward.isDefEq.respectTransparency.types false in
set_option maxHeartbeats 4000000 in
/-- From any memory with zero counters whose tables are `a`: every weakly fair execution of @main on the TensorCores
    terminates, and every final state has each array at the computed contents and every semaphore counter at zero. -/
theorem run_main_quiescent : θ_run (defs (F := F)) (onTc (τ := τ) (main (F := F))) (s₀ m ρ) (fun r => QC a (n := n) m ρ r ∧ r.2.sem = fun _ => 0) :=
  Pipeline.θ_run_region_noSem_pf_quiescent pcfgs (fun _ => a) (dats a n m ρ) () ((launch0 (F := F)).cellOf_inj fun _ => a) (0 : Fin 1)
    (launch0 (F := F)).win.to₀ (launch0 (F := F)).pre EP defs₀ Variants.none m ρ main
    (hbody := fun c => (body_obligation a m ρ hr c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a n m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hr hp in
/-- The arguments end unchanged, the output's array at what the pipeline computes, and every counter at zero. -/
theorem run_main : θ_run (defs (F := F)) (onTc (τ := τ) (main (F := F))) ⟨m, fun _ => 0, ρ⟩ (fun r => (∀ c : Dev nD,
      r.2.mem ((c.tc : Thread nD τ).loc main_v0) = (dats a n m ρ 0 c).arrAt (3 : Fin 4) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (3 : Fin 4), ((h.1 c).2 0).trans (hp c 0).symm, ((h.1 c).2 1).trans (hp c 1).symm,
    ((h.1 c).1 (0 : Fin 4)).trans ((dats a n m ρ 0 c).arrAt_in (0 : Fin 4) rfl _), ((h.1 c).1 (1 : Fin 4)).trans ((dats a n m ρ 0 c).arrAt_in (1 : Fin 4) rfl _),
    ((h.1 c).1 (2 : Fin 4)).trans ((dats a n m ρ 0 c).arrAt_in (2 : Fin 4) rfl _)⟩, h.2⟩) (run_main_quiescent a m ρ hr hp)

end Cert.KernelIdeal.Hand

namespace Cert.Proof

open Cert.KernelIdeal Cert.KernelIdeal.Gen Cert.KernelIdeal.Hand
open Idealize.ShloMosaic Idealize.ShloMosaic.TcCoe Idealize.SL Idealize.SL.Sem

variable {F : FTy → Type} [FloatOps F]

/-- The tables a launch memory holds. -/
def tables (m : (ℓ : Loc nD τ sig) → Buf (Elt F) ℓ) : pre0.Contents (Elt F) := fun j => m ((((0 : Dev nD)) : Thread nD τ).loc (pre0.ref j))

theorem routed_of_pre (m : (ℓ : Loc nD τ sig) → Buf (Elt F) ℓ) (h : PreAt F m) : ∃ n, Routed (F := F) (tables m 0) (tables m 1) n :=
  routed_of _ _ _ _ _ (h 0).1 (h 0).2.1 (h 0).2.2

theorem tables_eq (m : (ℓ : Loc nD τ sig) → Buf (Elt F) ℓ) (c : Dev nD) (j : Fin 2) : m ((c : Thread nD τ).loc (pre0.ref j)) = tables m j := by
  obtain rfl : c = 0 := Subsingleton.elim _ _
  rfl

theorem quiescent_at : quiescentAt F := fun m g h => by
  obtain ⟨n, hr⟩ := routed_of_pre m h
  exact (θ_run defs _ _).mono (fun _ h => ⟨fun c => (h.1 c).2, h.2⟩) (run_main ⟨tables m, ok_of hr⟩ m g hr (tables_eq m))

end Cert.Proof

end
-- ==== Proof.Out.lean ====
/-
  What the kernel's result array holds in the rows of the tiles in use.
-/
module

public import proofs.«01_k».proof.Proof.Frame

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem
open Idealize.ShloMosaic.Pipeline (Dat Cfg Window)

variable {F : FTy → Type} [FloatOps F]
variable (a : (pcfg0 (F := F)).Adm) {n : ℕ}
variable (m : (ℓ : Loc nD τ sig) → Buf (Elt F) ℓ) (ρ : Dev nD → PrngReg)

/-- Row `p` of the result: row `p % 256` of its tile's block. -/
def outAt (c : Dev nD) : S49152x768.Idx → Elt F .bf16 := fun i =>
  res a m ρ c ⟨(i 0).val / 256, by have h : (i 0).val < 49152 := (i 0).isLt; rw [show (cfgA a).N = 192 from N_0]; omega⟩
    (ix2 (n0 := 256) (n1 := 768) ⟨(i 0).val % 256, Nat.mod_lt _ (by decide)⟩ ⟨(i 1).val, (i 1).isLt⟩)

variable (hr : Routed (F := F) (lstA a) (metaA a) n)

/-- Where an element of the output's block at point `t` lies in the array. -/
theorem emb_3 (t : Fin (cfgA a).N) (y : S256x768.Idx) :
    ((((cfgA a).win (3 : Fin 4)).rect t).emb y (0 : Fin 2)).val = (((cfgA a).win (3 : Fin 4)).index t (0 : Fin 2)) * 256 + (y 0).val
      ∧ ((((cfgA a).win (3 : Fin 4)).rect t).emb y (1 : Fin 2)).val = (((cfgA a).win (3 : Fin 4)).index t (1 : Fin 2)) * 768 + (y 1).val :=
  ⟨((cfgA a).win (3 : Fin 4)).rect_emb_val t y (0 : Fin 2), ((cfgA a).win (3 : Fin 4)).rect_emb_val t y (1 : Fin 2)⟩

include hr in
/-- In the rows of the tiles in use the result array holds the tiles' blocks. -/
theorem arrAt_out (c : Dev nD) (i : S49152x768.Idx) (hi : (i 0).val < n * 256) :
    (dats a n m ρ 0 c).arrAt (3 : Fin 4) (cfgA a).N i = outAt a m ρ c i := by
  have h1 := hr.pos
  have h2 := hr.le
  have hN : (cfgA a).N = 192 := N_0
  have hi0 : (i 0).val < 49152 := (i 0).isLt
  have hi1 : (i 1).val < 768 := (i 1).isLt
  obtain ⟨q, hq, hfl, htl⟩ : ∃ q, q < 192 ∧ (q + 1 < n ∨ q + 1 = 192) ∧ tl n q = (i 0).val / 256 := by
    unfold tl
    by_cases h : (i 0).val / 256 + 1 < n
    · exact ⟨(i 0).val / 256, by omega, .inl h, by omega⟩
    · exact ⟨191, by omega, .inr rfl, by omega⟩
  have ht : q < (cfgA a).N := lt_of_lt_of_eq hq hN.symm
  have hx : ∀ (t : Fin (cfgA a).N), ((cfgA a).win (3 : Fin 4)).index t (0 : Fin 2) = tl n t.val ∧ ((cfgA a).win (3 : Fin 4)).index t (1 : Fin 2) = 0 := fun t => by
    rw [index_3 a hr]; exact ⟨rfl, rfl⟩
  refine (dats a n m ρ 0 c).arrAt_forall_of_flushed (3 : Fin 4) (fun i v => v = outAt a m ρ c i) (fun t _ y => ?_) (cfgA a).N ⟨q, ht⟩ i ht ?_ ?_
  · show after3 a n m ρ c t y = outAt a m ρ c ((((cfgA a).win (3 : Fin 4)).rect t).emb y)
    obtain ⟨e0, e1⟩ := emb_3 a t y
    rw [(hx t).1] at e0
    rw [(hx t).2] at e1
    have hy0 : (y 0).val < 256 := (y 0).isLt
    unfold after3 outAt
    congr 1
    · refine Fin.ext ?_
      show tl n t.val = ((((cfgA a).win (3 : Fin 4)).rect t).emb y (0 : Fin 2)).val / 256
      omega
    · funext d
      refine Fin.ext ?_
      match d with
      | ⟨0, _⟩ =>
        show (y 0).val = ((((cfgA a).win (3 : Fin 4)).rect t).emb y (0 : Fin 2)).val % 256
        omega
      | ⟨1, _⟩ =>
        show (y 1).val = ((((cfgA a).win (3 : Fin 4)).rect t).emb y (1 : Fin 2)).val
        omega
  · rw [flush_3 a hr]
    refine decide_eq_true ?_
    exact hfl
  · obtain ⟨e0, e1⟩ := emb_3 a ⟨q, ht⟩ (ix2 (n0 := 256) (n1 := 768) ⟨(i 0).val % 256, Nat.mod_lt _ (by decide)⟩ ⟨(i 1).val, hi1⟩)
    rw [(hx _).1] at e0
    rw [(hx _).2] at e1
    replace e0 := e0.trans (show tl n q * 256 + (i 0).val % 256 = (i 0).val by omega)
    replace e1 := e1.trans (show 0 * 768 + (i 1).val = (i 1).val by omega)
    have e : (((cfgA a).win (3 : Fin 4)).rect ⟨q, ht⟩).emb (ix2 (n0 := 256) (n1 := 768) ⟨(i 0).val % 256, Nat.mod_lt _ (by decide)⟩ ⟨(i 1).val, hi1⟩) = i := by
      funext d
      match d with
      | ⟨0, _⟩ => exact Fin.ext e0
      | ⟨1, _⟩ => exact Fin.ext e1
    exact e ▸ (((cfgA a).win (3 : Fin 4)).blk ⟨q, ht⟩).view.emb_mem_set _

/-- A block of weights is its expert's. -/
theorem iblk_1_apply (c : Dev nD) (t : Fin (cfgA a).N) (y : S1x1024x1536.Idx) (he : expertOf (F := F) (metaA a) t.val < 64) :
    iblk a m ρ c (1 : Fin 4) t y = m ((c : Thread nD τ).loc main_arg3) (ix3 (n0 := 64) (n1 := 1024) (n2 := 1536) ⟨expertOf (F := F) (metaA a) t.val, he⟩ ⟨(y 1).val, (y 1).isLt⟩ ⟨(y 2).val, (y 2).isLt⟩) := by
  have hx : ((cfgA a).win (1 : Fin 4)).index t = ![expertOf (F := F) (metaA a) t.val, 0, 0] :=
    (ix_1 (F := F) a.1 ((cfgA a).grid.coords t)).trans (by rw [coord_val])
  show m ((c : Thread nD τ).loc main_arg3) _ = m ((c : Thread nD τ).loc main_arg3) _
  congr 1
  funext k
  refine Fin.ext ?_
  match k with
  | ⟨0, _⟩ =>
    refine (((cfgA a).win (1 : Fin 4)).rect_emb_val t y 0).trans ?_
    rw [hx]
    have h0 : (y 0).val < 1 := (y 0).isLt
    show expertOf (F := F) (metaA a) t.val * 1 + (y 0).val = expertOf (F := F) (metaA a) t.val
    omega
  | ⟨1, _⟩ => exact ((cfgA a).win (1 : Fin 4)).rect_emb_val_of_index_zero t 1 (by rw [hx]; rfl) y
  | ⟨2, _⟩ => exact ((cfgA a).win (1 : Fin 4)).rect_emb_val_of_index_zero t 2 (by rw [hx]; rfl) y

/-- A block of scales is its expert's. -/
theorem iblk_2_apply (c : Dev nD) (t : Fin (cfgA a).N) (y : S1x16x1536.Idx) (he : expertOf (F := F) (metaA a) t.val < 64) :
    iblk a m ρ c (2 : Fin 4) t y = m ((c : Thread nD τ).loc main_arg4) (ix3 (n0 := 64) (n1 := 16) (n2 := 1536) ⟨expertOf (F := F) (metaA a) t.val, he⟩ ⟨(y 1).val, (y 1).isLt⟩ ⟨(y 2).val, (y 2).isLt⟩) := by
  have hx : ((cfgA a).win (2 : Fin 4)).index t = ![expertOf (F := F) (metaA a) t.val, 0, 0] :=
    (ix_2 (F := F) a.1 ((cfgA a).grid.coords t)).trans (by rw [coord_val])
  show m ((c : Thread nD τ).loc main_arg4) _ = m ((c : Thread nD τ).loc main_arg4) _
  congr 1
  funext k
  refine Fin.ext ?_
  match k with
  | ⟨0, _⟩ =>
    refine (((cfgA a).win (2 : Fin 4)).rect_emb_val t y 0).trans ?_
    rw [hx]
    have h0 : (y 0).val < 1 := (y 0).isLt
    show expertOf (F := F) (metaA a) t.val * 1 + (y 0).val = expertOf (F := F) (metaA a) t.val
    omega
  | ⟨1, _⟩ => exact ((cfgA a).win (2 : Fin 4)).rect_emb_val_of_index_zero t 1 (by rw [hx]; rfl) y
  | ⟨2, _⟩ => exact ((cfgA a).win (2 : Fin 4)).rect_emb_val_of_index_zero t 2 (by rw [hx]; rfl) y

end Cert.KernelIdeal.Hand

end
-- ==== Proof.Spec.lean ====
/-
  The expert layer's first half on the extended reals, by row and column: what both programs are shown to compute.
-/
module

public import proofs.«01_k».proof.Proof.Frame
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- The signed 4-bit number in a byte's low half (`p = 0`) or high half. -/
def code (b : BitVec 8) (p : ℕ) : BitVec 32 :=
  if p = 0 then (b.setWidth 32 <<< 28).sshiftRight 28 else (b.setWidth 32 <<< 24).sshiftRight 28

/-- Feature `k` of token `tok`: the low half of a word for the first 1024 features, the high half for the others. -/
def feat (T : S32768x128.Idx → BitVec 32) (tok k : ℕ) : EReal :=
  if k < 1024 then Ideal.ofBits .f32 (rdT (F := Ideal) T (tok * 8 + k / 128) k <<< 16)
  else Ideal.ofBits .f32 (rdT (F := Ideal) T (tok * 8 + (k - 1024) / 128) k &&& 4294901760#32)

/-- A weight: its code times its group's scale. -/
def wgt (b : BitVec 8) (k : ℕ) (s : EReal) : EReal := FloatOps.sitofp (F := Ideal) .bf16 (code b (k % 2)) * s

/-- The product of a token's row with a column of an expert's weights. -/
def dotp (T : S32768x128.Idx → BitVec 32) (W : S64x1024x1536.Idx → BitVec 8) (S : S64x16x1536.Idx → EReal) (tok : ℕ) (e : Fin 64) (c : Fin 1536) : EReal :=
  ∑ k : Fin 2048, feat T tok k.val * wgt (W (ix3 e ⟨k.val / 2, by omega⟩ c)) k.val (S (ix3 e ⟨k.val / 128, by omega⟩ c))

/-- The gated activation of two numbers. -/
def act (g u : EReal) : EReal := g * Ideal.logistic g * u

theorem deq_apply (w : Vec Ideal S1x1024x256 .i8) (s : Vec Ideal S1x16x256 .f32) (k : Fin 2048) (c : Fin 256) :
    deq (F := Ideal) w s (ix2 k c) = wgt (w (ix3 0 ⟨k.val / 2, by omega⟩ c)) k.val (s (ix3 0 ⟨k.val / 128, by omega⟩ c)) := by
  unfold deq wgt code
  pointwise
  by_cases h : k.val % 2 = 0
  · rw [dif_pos (by omega), if_pos h]; rfl
  · rw [dif_neg (by omega), if_neg h]; rfl

theorem prod_apply (X : Vec Ideal S256x2048 .bf16) (w : Vec Ideal S1x1024x256 .i8) (s : Vec Ideal S1x16x256 .f32) (r c : Fin 256) :
    prod (F := Ideal) X w s (ix2 r c)
      = ∑ k : Fin 2048, X (ix2 r k) * wgt (w (ix3 0 ⟨k.val / 2, by omega⟩ c)) k.val (s (ix3 0 ⟨k.val / 128, by omega⟩ c)) := by
  simp only [← deq_apply]
  unfold prod
  generalize deq w s = D
  pointwise

theorem gate_apply (g u : FVec Ideal S256x256 .f32) (i : S256x256.Idx) : gate (F := Ideal) g u i = act (g i) (u i) := by
  unfold gate act
  pointwise

/-- A token's number of eight-word groups, as both programs bound it. -/
def tokOf (v : BitVec 32) : ℕ := min (v.toNat / 8) 4095

theorem rdT_mod (T : S32768x128.Idx → BitVec 32) (a b : ℕ) : rdT (F := Ideal) T a (b % 128) = rdT (F := Ideal) T a b := by
  unfold rdT
  simp only [Nat.mod_mod]

/-- The rows a tile's product takes, from the packed words. -/
theorem xb_gat (L : S49152.Idx → BitVec 32) (T : S32768x128.Idx → BitVec 32) (t : ℕ) (r : Fin 256) (k : Fin 2048)
    (hv : (rdL (F := Ideal) L (t * 256 + r.val)).toNat < 2 ^ 31) :
    xb (F := Ideal) (gat (F := Ideal) L T t) (ix2 r k) = feat T (tokOf (rdL (F := Ideal) L (t * 256 + r.val))) k.val := by
  have key : ∀ j, j < 8 → ∀ l : Fin 128, slc (F := Ideal) (gat (F := Ideal) L T t) j (ix2 r l)
      = rdT (F := Ideal) T (tokOf (rdL (F := Ideal) L (t * 256 + r.val)) * 8 + j) l.val := by
    intro j hj l
    have hr := r.isLt
    have hl := l.isLt
    unfold slc gat
    show rdT (F := Ideal) T (k0_off2 (rdL (F := Ideal) L (t * 256 + (257 * j + r.val) % 2056 % 257)) 0 + (257 * j + r.val) % 2056 / 257) (l.val % 128) = _
    have e1 : (257 * j + r.val) % 2056 % 257 = r.val := by omega
    have e2 : (257 * j + r.val) % 2056 / 257 = j := by omega
    have e3 : l.val % 128 = l.val := by omega
    rw [e1, e2, e3, off2_zero _ hv]
    rfl
  have hk := k.isLt
  unfold xb feat
  show (if k.val < 1024 then _ else _) = _
  by_cases h : k.val < 1024
  · rw [if_pos h, if_pos h]
    unfold lowHalf
    pointwise
    rw [key _ (by omega)]
    show Ideal.ofBits .f32 (IntOp.shli .vector (rdT (F := Ideal) T _ (k.val % 128)) 16#32) = _
    rw [rdT_mod]
    rfl
  · rw [if_neg h, if_neg h]
    unfold highHalf
    pointwise
    rw [key _ (by omega)]
    show Ideal.ofBits .f32 (IntOp.andi (rdT (F := Ideal) T _ (k.val % 128)) 4294901760#32) = _
    rw [rdT_mod]
    rfl

end Cert.KernelIdeal.Hand
-- ==== Proof.Value.lean ====
/-
  The kernel's result on the extended reals, by row and column.
-/
module

public import proofs.«01_k».proof.Proof.Out
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

variable (a : (pcfg0 (F := Ideal)).Adm)
variable (m : (ℓ : Loc nD τ sig) → Buf (Elt Ideal) ℓ) (ρ : Dev nD → PrngReg)

/-- The weights' product with a row of a tile is the token's with its expert's column. -/
theorem prod_eq (c : Dev nD) (t : Fin (cfgA a).N) (e : Fin 64) (he : expertOf (F := Ideal) (metaA a) t.val = e.val) (r : Fin 256) (j : Fin 1536) (o : ℕ) (l : Fin 256) (hj : o + l.val = j.val)
    (hv : (rdL (F := Ideal) (lstA a) (t.val * 256 + r.val)).toNat < 2 ^ 31) :
    prod (F := Ideal) (xb (F := Ideal) (gat (F := Ideal) (lstA a) (tab m c) t.val)) (wsl (F := Ideal) (iblk a m ρ c (1 : Fin 4) t) o) (ssl (F := Ideal) (iblk a m ρ c (2 : Fin 4) t) o) (ix2 r l)
      = dotp (tab m c) (m ((c : Thread nD τ).loc main_arg3)) (m ((c : Thread nD τ).loc main_arg4)) (tokOf (rdL (F := Ideal) (lstA a) (t.val * 256 + r.val))) e j := by
  have hlt : expertOf (F := Ideal) (metaA a) t.val < 64 := he ▸ e.isLt
  have hj2 := j.isLt
  rw [prod_apply]
  unfold dotp
  refine Finset.sum_congr rfl fun k _ => ?_
  have hk := k.isLt
  rw [xb_gat _ _ _ _ _ hv]
  unfold wsl ssl
  rw [iblk_1_apply a m ρ c t _ hlt, iblk_2_apply a m ρ c t _ hlt]
  refine congrArg (feat _ _ _ * ·) (congrArg₂ (fun b s => wgt b k.val s) ?_ ?_)
  · refine congrArg (m ((c : Thread nD τ).loc main_arg3)) (funext fun d => Fin.ext ?_)
    match d with
    | ⟨0, _⟩ => exact he
    | ⟨1, _⟩ => rfl
    | ⟨2, _⟩ => show (o + l.val) % 1536 = j.val; omega
  · refine congrArg (m ((c : Thread nD τ).loc main_arg4)) (funext fun d => Fin.ext ?_)
    match d with
    | ⟨0, _⟩ => exact he
    | ⟨1, _⟩ => rfl
    | ⟨2, _⟩ => show (o + l.val) % 1536 = j.val; omega

theorem outAt_eq (c : Dev nD) (p : Fin 49152) (j : Fin 768) (e : Fin 64) (he : expertOf (F := Ideal) (metaA a) (p.val / 256) = e.val)
    (hv : (rdL (F := Ideal) (lstA a) p.val).toNat < 2 ^ 31) :
    outAt a m ρ c (ix2 p j)
      = act (dotp (tab m c) (m ((c : Thread nD τ).loc main_arg3)) (m ((c : Thread nD τ).loc main_arg4)) (tokOf (rdL (F := Ideal) (lstA a) p.val)) e ⟨j.val, by omega⟩)
          (dotp (tab m c) (m ((c : Thread nD τ).loc main_arg3)) (m ((c : Thread nD τ).loc main_arg4)) (tokOf (rdL (F := Ideal) (lstA a) p.val)) e ⟨768 + j.val, by omega⟩) := by
  have hp := p.isLt
  have hj := j.isLt
  have hpp : p.val / 256 * 256 + p.val % 256 = p.val := by omega
  unfold outAt res aof
  refine (gate_apply _ _ _).trans (congrArg₂ act ?_ ?_)
  · refine (prod_eq a m ρ c ⟨p.val / 256, _⟩ e he ⟨p.val % 256, _⟩ ⟨j.val, by omega⟩ (256 * (j.val / 256)) ⟨j.val % 256, Nat.mod_lt _ (by decide)⟩ (by show _ + j.val % 256 = j.val; omega) (by show (rdL (F := Ideal) (lstA a) (p.val / 256 * 256 + p.val % 256)).toNat < _; rw [hpp]; exact hv)).trans ?_
    show dotp _ _ _ (tokOf (rdL (F := Ideal) (lstA a) (p.val / 256 * 256 + p.val % 256))) _ _ = _
    rw [hpp]
  · refine (prod_eq a m ρ c ⟨p.val / 256, _⟩ e he ⟨p.val % 256, _⟩ ⟨768 + j.val, by omega⟩ (768 + 256 * (j.val / 256)) ⟨j.val % 256, Nat.mod_lt _ (by decide)⟩ (by show _ + j.val % 256 = 768 + j.val; omega) (by show (rdL (F := Ideal) (lstA a) (p.val / 256 * 256 + p.val % 256)).toNat < _; rw [hpp]; exact hv)).trans ?_
    show dotp _ _ _ (tokOf (rdL (F := Ideal) (lstA a) (p.val / 256 * 256 + p.val % 256))) _ _ = _
    rw [hpp]

end Cert.KernelIdeal.Hand
-- ==== Proof.RefGather.lean ====
/-
  The reference's two gathers, read at an index.
-/
module

public import proofs.«01_k».proof.Proof.Gen.ReferenceIdeal.Read
public import Idealize.ShloMosaic.Lib.Pointwise
public import Idealize.ShloMosaic.Lib.WordArith

@[expose] public section

set_option maxRecDepth 16384

noncomputable section

namespace Cert.ReferenceIdeal.Hand

open Cert.ReferenceIdeal Cert.ReferenceIdeal.Gen
open Idealize.ShloMosaic

variable {α : Type}

theorem start_of {s si t : Shape} (d : GatherDims s si t) (y : t.Idx) (idx : IVec si 32) (a : Fin s.rank) (ha : a ∈ d.startIndexMap) (z : si.Idx)
    (hz : d.siIdx y ⟨d.startIndexMap.idxOf a, List.idxOf_lt_length_iff.2 ha⟩ = z) (b : ℕ) (hb : idx z = BitVec.ofNat 32 b) (h31 : b < 2 ^ 31) (hle : b ≤ s.size a - d.sliceSizes a) :
    d.start y idx a = b := by
  unfold GatherDims.start
  rw [dif_pos ha, hz, hb, WordArith.toInt_ofNat_small _ h31]
  simp only [Int.toNat_natCast]
  exact min_eq_left hle

/-- A row of the token array. -/
theorem gather_rows (x : S4096x2048.Idx → α) (idx : IVec S49152x1 32) (p : Fin 49152) (k : Fin 2048) (b : Fin 4096) (hb : idx (ix2 p 0) = BitVec.ofNat 32 b.val) :
    Host.gather gather_S4096x2048_S49152x1_S49152x2048_1_0_n_n_0_1_12048 x idx (ix2 p k) = x (ix2 b k) := by
  have hbl := b.isLt
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, h⟩ =>
    rw [start_of _ _ idx ⟨0, h⟩ (List.mem_singleton.mpr rfl) (ix2 p 0) ?_ b.val hb (by omega) (by show b.val ≤ 4096 - 1; omega)]
    · rfl
    · funext c; refine Fin.ext ?_
      match c with
      | ⟨0, _⟩ => rfl
      | ⟨1, _⟩ => rfl
  | ⟨1, _⟩ => exact Nat.zero_add _

/-- An expert's weights. -/
theorem gather_experts (x : S64x2048x1536.Idx → α) (idx : IVec S192x1 32) (t : Fin 192) (k : Fin 2048) (c : Fin 1536) (e : Fin 64) (he : idx (ix2 t 0) = BitVec.ofNat 32 e.val) :
    Host.gather gather_S64x2048x1536_S192x1_S192x2048x1536_12_0_n_n_0_1_120481536 x idx (ix3 t k c) = x (ix3 e k c) := by
  have hel := e.isLt
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, h⟩ =>
    rw [start_of _ _ idx ⟨0, h⟩ (List.mem_singleton.mpr rfl) (ix2 t 0) ?_ e.val he (by omega) (by show e.val ≤ 64 - 1; omega)]
    · rfl
    · funext b; refine Fin.ext ?_
      match b with
      | ⟨0, _⟩ => rfl
      | ⟨1, _⟩ => rfl
  | ⟨1, _⟩ => exact Nat.zero_add _
  | ⟨2, _⟩ => exact Nat.zero_add _

end Cert.ReferenceIdeal.Hand
-- ==== Proof.RefValue.lean ====
/-
  The reference's result on the extended reals, by row and column.
-/
module

public import proofs.«01_k».proof.Proof.RefGather
public import proofs.«01_k».proof.Proof.Spec

@[expose] public section

set_option maxRecDepth 16384

noncomputable section

namespace Cert.ReferenceIdeal.Hand

open Cert.ReferenceIdeal Cert.ReferenceIdeal.Gen Cert.ReferenceIdeal.Read
open Cert.KernelIdeal.Hand (rdL rdT rdT_mod code feat wgt dotp act tokOf)
open Idealize.ShloMosaic

/-- The low four bits as a signed number. -/
theorem code_lo (b : BitVec 8) : Scalar.select (IntOp.cmpi .sge (IntOp.andi (b.setWidth 32) 15#32) 8#32) (IntOp.subi (IntOp.andi (b.setWidth 32) 15#32) 16#32) (IntOp.andi (b.setWidth 32) 15#32)
    = code b 0 := by
  have h : ∀ n : Fin 256, Scalar.select (IntOp.cmpi .sge (IntOp.andi ((BitVec.ofFin (w := 8) n).setWidth 32) 15#32) 8#32) (IntOp.subi (IntOp.andi ((BitVec.ofFin (w := 8) n).setWidth 32) 15#32) 16#32) (IntOp.andi ((BitVec.ofFin (w := 8) n).setWidth 32) 15#32)
    = code (BitVec.ofFin (w := 8) n) 0 := by decide +kernel
  exact h b.toFin

/-- The high four bits as a signed number. -/
theorem code_hi (b : BitVec 8) : Scalar.select (IntOp.cmpi .sge (IntOp.shrsi .host (b.setWidth 32) 4#32) 8#32) (IntOp.subi (IntOp.shrsi .host (b.setWidth 32) 4#32) 16#32) (IntOp.shrsi .host (b.setWidth 32) 4#32)
    = code b 1 := by
  have h : ∀ n : Fin 256, Scalar.select (IntOp.cmpi .sge (IntOp.shrsi .host ((BitVec.ofFin (w := 8) n).setWidth 32) 4#32) 8#32) (IntOp.subi (IntOp.shrsi .host ((BitVec.ofFin (w := 8) n).setWidth 32) 4#32) 16#32) (IntOp.shrsi .host ((BitVec.ofFin (w := 8) n).setWidth 32) 4#32)
    = code (BitVec.ofFin (w := 8) n) 1 := by decide +kernel
  exact h b.toFin

/-- A word that is not negative is not wrapped. -/
theorem no_wrap (x y : BitVec 32) (h : x.toNat < 2 ^ 31) : Scalar.select (IntOp.cmpi .slt x 0#32) y x = x := by
  have e : IntOp.cmpi .slt x 0#32 = 0#1 := by
    show BitVec.ofBool (x.slt 0#32) = 0#1
    rw [BitVec.slt_eq_decide, BitVec.toInt_eq_toNat_of_lt (by omega), decide_eq_false (by simp)]
    rfl
  rw [e]
  rfl

/-- The unpacked features. -/
theorem v8_eq (x2 : S32768x128.Idx → BitVec 32) (b : Fin 4096) (k : Fin 2048) : val_main_v8 (F := Ideal) x2 (ix2 b k) = feat x2 b.val k.val := by
  unfold val_main_v8 val_main_v7 val_main_v6 val_main_v5 val_main_v4 val_main_c_0 val_main_v3 val_main_v2 val_main_v1 val_main_c val_main_v0 feat rdT
  pointwise
  have hb := b.isLt
  have hk := k.isLt
  by_cases h : k.val < 1024
  · rw [dif_pos h, if_pos h]
    have e : (b.val * 8 + k.val / 128) % 32768 = b.val * 8 + k.val / 128 := by omega
    simp only [e]
    rfl
  · rw [dif_neg h, if_neg h]
    have e : (b.val * 8 + (k.val - 1024) / 128) % 32768 = b.val * 8 + (k.val - 1024) / 128 := by omega
    have e' : (k.val - 1024) % 128 = k.val % 128 := by omega
    simp only [e, e']
    rfl

/-- The weights. -/
theorem v45_eq (x3 : S64x1024x1536.Idx → BitVec 8) (x4 : S64x16x1536.Idx → EReal) (e : Fin 64) (k : Fin 2048) (c : Fin 1536) :
    val_main_v45 (F := Ideal) x3 x4 (ix3 e k c) = wgt (x3 (ix3 e ⟨k.val / 2, by omega⟩ c)) k.val (x4 (ix3 e ⟨k.val / 128, by omega⟩ c)) := by
  have h35 : ∀ i, val_main_v35 (F := Ideal) x3 i = code (x3 i) 1 := fun i => code_hi (x3 i)
  have h30 : ∀ i, val_main_v30 (F := Ideal) x3 i = code (x3 i) 0 := fun i => code_lo (x3 i)
  unfold val_main_v45 val_main_v44 val_main_v43 val_main_v42 val_main_v41 val_main_v40 val_main_v39 val_main_v38 val_main_v37 val_main_v36
  pointwise
  simp only [h35, h30]
  have hk : k.val / 128 * 64 + k.val % 128 / 2 = k.val / 2 := by omega
  simp only [hk]
  unfold wgt
  refine congrArg (fun z => FloatOps.sitofp (F := Ideal) .bf16 z * _) ?_
  by_cases h : k.val % 2 = 0
  · rw [dif_pos (by omega), h]
  · rw [dif_neg (by omega), show k.val % 2 = 1 by omega]

/-- The token a row names, where its word is not negative. -/
theorem v17_eq (x0 : S49152.Idx → BitVec 32) (p : S49152.Idx) (hv : (x0 p).toNat < 2 ^ 31) : val_main_v17 (F := Ideal) x0 p = BitVec.ofNat 32 (tokOf (x0 p)) := by
  have hs : (IntOp.shrsi .host (x0 p) 3#32).toNat = (x0 p).toNat / 8 := by
    have hm : (x0 p).msb = false := by
      rw [BitVec.msb_eq_false_iff_two_mul_lt]; omega
    unfold IntOp.shrsi
    rw [if_pos (by decide), BitVec.sshiftRight_eq', BitVec.sshiftRight_eq_of_msb_false hm, BitVec.toNat_ushiftRight, Nat.shiftRight_eq_div_pow]
    rfl
  have hmin : (IntOp.minsi (IntOp.shrsi .host (x0 p) 3#32) 4095#32).toNat = tokOf (x0 p) :=
    (WordArith.toNat_minsi_of_lt _ _ (by rw [hs]; omega) (by decide)).trans (by rw [hs]; rfl)
  show Scalar.select (IntOp.cmpi .slt (IntOp.minsi (IntOp.shrsi .host (x0 p) 3#32) 4095#32) 0#32) (IntOp.addi (IntOp.minsi (IntOp.shrsi .host (x0 p) 3#32) 4095#32) 4096#32) (IntOp.minsi (IntOp.shrsi .host (x0 p) 3#32) 4095#32) = _
  rw [no_wrap _ _ (by rw [hmin]; unfold tokOf; omega), ← hmin, BitVec.ofNat_toNat, BitVec.setWidth_eq]

/-- A row of the gathered features. -/
theorem v20_eq (x0 : S49152.Idx → BitVec 32) (x2 : S32768x128.Idx → BitVec 32) (t : Fin 192) (r : Fin 256) (k : Fin 2048) (p : Fin 49152) (hp : t.val * 256 + r.val = p.val) (hv : (x0 (ix1 p)).toNat < 2 ^ 31) :
    val_main_v20 (F := Ideal) x0 x2 (ix3 t r k) = feat x2 (tokOf (x0 (ix1 p))) k.val := by
  have hlt : tokOf (x0 (ix1 p)) < 4096 := by unfold tokOf; omega
  have e : val_main_v20 (F := Ideal) x0 x2 (ix3 t r k) = val_main_v19 (F := Ideal) x0 x2 (ix2 p k) := by
    unfold val_main_v20
    generalize val_main_v19 (F := Ideal) x0 x2 = y
    pointwise
    simp only [hp]
  rw [e, ← v8_eq x2 ⟨_, hlt⟩ k]
  unfold val_main_v19
  refine gather_rows _ _ p k ⟨_, hlt⟩ ?_
  rw [← v17_eq x0 (ix1 p) hv]
  unfold val_main_v18
  generalize val_main_v17 (F := Ideal) x0 = y
  pointwise

/-- A tile's weights are its expert's. -/
theorem v54_eq (x1 : S8x256.Idx → BitVec 32) (x3 : S64x1024x1536.Idx → BitVec 8) (x4 : S64x16x1536.Idx → EReal) (t : Fin 192) (k : Fin 2048) (c : Fin 1536) (e : Fin 64) (he : (x1 (ix2 0 ⟨t.val, by omega⟩)).toNat = e.val) :
    val_main_v54 (F := Ideal) x1 x3 x4 (ix3 t k c) = wgt (x3 (ix3 e ⟨k.val / 2, by omega⟩ c)) k.val (x4 (ix3 e ⟨k.val / 128, by omega⟩ c)) := by
  have hel := e.isLt
  rw [← v45_eq x3 x4 e k c]
  unfold val_main_v54
  refine gather_experts _ _ t k c e ?_
  have e47 : val_main_v47 (F := Ideal) x1 (ix1 t) = x1 (ix2 0 ⟨t.val, by omega⟩) := by
    unfold val_main_v47 val_main_v46
    pointwise
  have e53 : val_main_v53 (F := Ideal) x1 (ix2 t 0) = val_main_v52 (F := Ideal) x1 (ix1 t) := by
    unfold val_main_v53
    generalize val_main_v52 (F := Ideal) x1 = y
    pointwise
  rw [e53]
  show Scalar.select (IntOp.cmpi .slt (val_main_v47 (F := Ideal) x1 (ix1 t)) 0#32) (IntOp.addi (val_main_v47 (F := Ideal) x1 (ix1 t)) 64#32) (val_main_v47 (F := Ideal) x1 (ix1 t)) = _
  rw [e47, no_wrap _ _ (by rw [he]; omega), ← he, BitVec.ofNat_toNat, BitVec.setWidth_eq]

/-- The products. -/
theorem v55_eq (x0 : S49152.Idx → BitVec 32) (x1 : S8x256.Idx → BitVec 32) (x2 : S32768x128.Idx → BitVec 32) (x3 : S64x1024x1536.Idx → BitVec 8) (x4 : S64x16x1536.Idx → EReal)
    (t : Fin 192) (r : Fin 256) (c : Fin 1536) (p : Fin 49152) (hp : t.val * 256 + r.val = p.val) (hv : (x0 (ix1 p)).toNat < 2 ^ 31) (e : Fin 64) (he : (x1 (ix2 0 ⟨t.val, by omega⟩)).toNat = e.val) :
    val_main_v55 (F := Ideal) x0 x1 x2 x3 x4 (ix3 t r c) = dotp x2 x3 x4 (tokOf (x0 (ix1 p))) e c := by
  rw [val_main_v55_apply]
  refine Finset.sum_congr rfl fun k _ => ?_
  rw [show lidx_main_v55 (ix3 t r c) k = ix3 t r k from eq_ix3 _, show ridx_main_v55 (ix3 t r c) k = ix3 t k c from eq_ix3 _,
    v20_eq x0 x2 t r k p hp hv, v54_eq x1 x3 x4 t k c e he]

/-- The reference's result. -/
theorem v61_eq (x0 : S49152.Idx → BitVec 32) (x1 : S8x256.Idx → BitVec 32) (x2 : S32768x128.Idx → BitVec 32) (x3 : S64x1024x1536.Idx → BitVec 8) (x4 : S64x16x1536.Idx → EReal)
    (p : Fin 49152) (j : Fin 768) (hv : (x0 (ix1 p)).toNat < 2 ^ 31) (e : Fin 64) (he : (x1 (ix2 0 ⟨p.val / 256, by omega⟩)).toNat = e.val) :
    val_main_v61 (F := Ideal) x0 x1 x2 x3 x4 (ix2 p j)
      = act (dotp x2 x3 x4 (tokOf (x0 (ix1 p))) e ⟨j.val, by omega⟩) (dotp x2 x3 x4 (tokOf (x0 (ix1 p))) e ⟨768 + j.val, by omega⟩) := by
  have hp : p.val / 256 * 256 + p.val % 256 = p.val := by omega
  rw [← v55_eq x0 x1 x2 x3 x4 ⟨p.val / 256, by omega⟩ ⟨p.val % 256, by omega⟩ ⟨j.val, by omega⟩ p hp hv e he,
    ← v55_eq x0 x1 x2 x3 x4 ⟨p.val / 256, by omega⟩ ⟨p.val % 256, by omega⟩ ⟨768 + j.val, by omega⟩ p hp hv e he]
  unfold val_main_v61 val_main_v60 val_main_v59 val_main_v58 val_main_v57 val_main_call2_v5 val_main_call2_v4 val_main_call2_cst_0 val_main_call2_v3 val_main_call2_v2 val_main_call2_cst val_main_call2_v1 val_main_call2_v0 val_main_v56 act Ideal.logistic
  generalize val_main_v55 (F := Ideal) x0 x1 x2 x3 x4 = y
  pointwise

end Cert.ReferenceIdeal.Hand
-- ==== Proof.Algebraic.lean ====
/-
  On the extended reals the kernel and the reference leave the same result in the rows of the tiles in use.
-/
module

public import proofs.«01_k».proof.Defs
public import proofs.«01_k».proof.Proof.Value
public import proofs.«01_k».proof.Proof.RefValue
public import proofs.«01_k».proof.Proof.Gen.Pre_routed
public import proofs.«01_k».proof.Proof.Gen.On_rows_in_use

@[expose] public section

set_option maxRecDepth 16384

noncomputable section

namespace Cert.Proof

open Cert.KernelIdeal Cert.KernelIdeal.Gen Cert.KernelIdeal.Hand
open Idealize.ShloMosaic Idealize.ShloMosaic.TcCoe Idealize.SL Idealize.SL.Sem

/-- The rows the claim speaks of are those of the tiles in use. -/
theorem row_in_use (L : S49152.Idx → BitVec 32) (M : S8x256.Idx → BitVec 32) (T : S32768x128.Idx → BitVec 32) (W : S64x1024x1536.Idx → BitVec 8) (S : S64x16x1536.Idx → EReal)
    (n : ℕ) (hr : Routed (F := Ideal) L M n) (i : S49152x768.Idx) (h : Cert.On_rows_in_use.fn (F := Ideal) L M T W S i = 1#1) : (i 0).val < n * 256 := by
  have h1 := hr.pos
  have h2 := hr.le
  have hi : (i 0).val < 49152 := (i 0).isLt
  have e0 : ∀ x : Cert.On_rows_in_use.S_.Idx, shapeCast Cert.On_rows_in_use.S_ (extractStridedSlice Cert.On_rows_in_use.S1x1 ![1, 0] M Cert.On_rows_in_use.Gen.slices_S8x256_S1x1_1_0) Cert.On_rows_in_use.Gen.shapeCasts_S1x1_S_ x
      = M (ix2 (n0 := 8) (n1 := 256) 1 0) := fun x => by
    unfold shapeCast extractStridedSlice
    congr 1
    funext a
    match a with
    | ⟨0, _⟩ => exact Fin.ext (by simp [ix2]; first | rfl | omega)
    | ⟨1, _⟩ => exact Fin.ext (by simp [ix2]; first | rfl | omega)
  change IntOp.cmpi .slt (BitVec.ofNat 32 (i 0).val) (IntOp.muli (shapeCast _ _ _ _) 256#32) = 1#1 at h
  rw [e0, hr.word, slt_one] at h
  have hm : (IntOp.muli (BitVec.ofNat 32 n) 256#32).toNat = n * 256 := by
    simp only [IntOp.muli, BitVec.toNat_mul, BitVec.toNat_ofNat]; omega
  have hm' := BitVec.toInt_eq_toNat_cond (IntOp.muli (BitVec.ofNat 32 n) 256#32)
  have hq := BitVec.toInt_eq_toNat_cond (BitVec.ofNat 32 (i 0).val)
  rw [BitVec.toNat_ofNat] at hq
  rw [hm] at hm'
  split at hm' <;> split at hq <;> omega

/-- The two results agree at such a row. -/
theorem results_agree (m : (ℓ : Loc nD τ sig) → Buf (Elt Ideal) ℓ) (ρ : Dev nD → PrngReg) (n : ℕ) (hr : Routed (F := Ideal) (tables m 0) (tables m 1) n) (c : Dev nD) (i : S49152x768.Idx) (hi : (i 0).val < n * 256) :
    outAt ⟨tables m, ok_of hr⟩ m ρ c i
      = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i := by
  have h2 := hr.le
  obtain ⟨p, j, rfl⟩ : ∃ (p : Fin 49152) (j : Fin 768), i = ix2 p j := ⟨i 0, i 1, eq_ix2 i⟩
  have hp : p.val < n * 256 := hi
  have hpl := p.isLt
  have hL : m ((c : Thread nD τ).loc main_arg0) = tables m 0 := tables_eq m c 0
  have hM : m ((c : Thread nD τ).loc main_arg1) = tables m 1 := tables_eq m c 1
  have he := hr.expert (p.val / 256) (by omega)
  have hrd : rdL (F := Ideal) (tables m 0) p.val = (tables m 0 : S49152.Idx → BitVec 32) (ix1 p) := by
    unfold rdL
    refine congrArg (tables m 0 : S49152.Idx → BitVec 32) (congrArg ix1 (Fin.ext ?_))
    show p.val % 49152 = p.val
    omega
  have hv := hr.token p.val hp
  rw [outAt_eq ⟨tables m, ok_of hr⟩ m ρ c p j ⟨_, he⟩ ?_ hv]
  · rw [hL, hM]
    refine Eq.trans ?_ (Cert.ReferenceIdeal.Hand.v61_eq (tables m 0) (tables m 1) _ _ _ p j (by rw [← hrd]; exact hv) ⟨_, he⟩ rfl).symm
    show act (dotp _ _ _ (tokOf (rdL (F := Ideal) (tables m 0) p.val)) _ _) (dotp _ _ _ (tokOf (rdL (F := Ideal) (tables m 0) p.val)) _ _) = _
    rw [hrd]
  · show expertOf (F := Ideal) (tables m 1) (p.val / 256) = _
    unfold expertOf
    refine congrArg (fun z => BitVec.toNat ((tables m 1 : S8x256.Idx → BitVec 32) (ix2 0 z))) (Fin.ext ?_)
    show p.val / 256 % 256 = p.val / 256
    omega

theorem algebraic : Cert.algebraic_KernelIdeal_ReferenceIdeal_on_rows_in_use := by
  intro m ρ m' ρ' hpre hagree
  obtain ⟨n, hr⟩ := routed_of_pre m hpre
  refine ⟨fun c => outAt ⟨tables m, ok_of hr⟩ m ρ c, ?_, ?_⟩
  · refine (θ_run defs _ _).mono (fun r h c => ⟨fun i hi => ?_, (h.1 c).2⟩) (run_main ⟨tables m, ok_of hr⟩ m ρ hr (tables_eq m))
    rw [(h.1 c).1]
    exact arrAt_out ⟨tables m, ok_of hr⟩ m ρ hr c i (row_in_use _ _ _ _ _ n (by
      have e0 := tables_eq m c 0
      have e1 := tables_eq m c 1
      exact e0 ▸ e1 ▸ hr) i hi)
  · refine (θ_run Cert.ReferenceIdeal.defs _ _).mono (fun r h c => ⟨fun i hi => ?_, (h c).2⟩) (Cert.ReferenceIdeal.Value.run (F := Ideal) m' ρ')
    obtain ⟨a0, a1, a2, a3, a4⟩ := hagree c
    rw [(h c).1, Cert.ReferenceIdeal.Read.val_main_v61_eq, a0, a1, a2, a3, a4]
    exact (results_agree m ρ n hr c i (row_in_use _ _ _ _ _ n (by
      have e0 := tables_eq m c 0
      have e1 := tables_eq m c 1
      exact e0 ▸ e1 ▸ hr) i hi)).symm

end Cert.Proof

end
-- ==== Proof.lean ====
/-
  The claims, assembled from the modules under proof/Proof/.
-/
module

public import proofs.«01_k».proof.Proof.Ref
public import proofs.«01_k».proof.Proof.Frame
public import proofs.«01_k».proof.Proof.Algebraic
public import proofs.«01_k».proof.Proof.Gen.Pre_routed
public import proofs.«01_k».proof.Proof.Gen.On_rows_in_use
public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_routed.Gen.facts, Cert.On_rows_in_use.Gen.facts,
    quiescent_bits ▸ quiescent_at, quiescent_ideal ▸ quiescent_at, quiescent_reference, fun m ρ _ => quiescent_reference m ρ trivial, trivial, algebraic⟩

end Cert.Proof

end
